-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x12288 : Shape := ⟨3, ![3, 1, 12288]⟩
abbrev S3x1x12x128 : Shape := ⟨4, ![3, 1, 12, 128]⟩
abbrev S3x12x16384x128 : Shape := ⟨4, ![3, 12, 16384, 128]⟩
abbrev S3x12x128x16384 : Shape := ⟨4, ![3, 12, 128, 16384]⟩
abbrev S3x12x128 : Shape := ⟨3, ![3, 12, 128]⟩
abbrev S3 : Shape := ⟨1, ![3]⟩
abbrev S36x8x128 : Shape := ⟨3, ![36, 8, 128]⟩
abbrev S36x1x128 : Shape := ⟨3, ![36, 1, 128]⟩
abbrev S288x128 : Shape := ⟨2, ![288, 128]⟩
abbrev S12x2048x128 : Shape := ⟨3, ![12, 2048, 128]⟩
abbrev S12x128x2048 : Shape := ⟨3, ![12, 128, 2048]⟩
abbrev S2x8x16x1024 : Shape := ⟨4, ![2, 8, 16, 1024]⟩
abbrev S2x16x128 : Shape := ⟨3, ![2, 16, 128]⟩
abbrev S128x8 : Shape := ⟨2, ![128, 8]⟩
abbrev S16x128 : Shape := ⟨2, ![16, 128]⟩
abbrev S2x16x256 : Shape := ⟨3, ![2, 16, 256]⟩
abbrev S12 : Shape := ⟨1, ![12]⟩
abbrev S1 : Shape := ⟨1, ![1]⟩
abbrev S2048x128 : Shape := ⟨2, ![2048, 128]⟩
abbrev S1x2048x128 : Shape := ⟨3, ![1, 2048, 128]⟩
abbrev S_ : Shape := ⟨0, ![]⟩
abbrev S128x2048 : Shape := ⟨2, ![128, 2048]⟩
abbrev S1x128x2048 : Shape := ⟨3, ![1, 128, 2048]⟩
abbrev S16x1024 : Shape := ⟨2, ![16, 1024]⟩
abbrev S1x8x128 : Shape := ⟨3, ![1, 8, 128]⟩
abbrev S8x128 : Shape := ⟨2, ![8, 128]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩
abbrev S1x16x128 : Shape := ⟨3, ![1, 16, 128]⟩
abbrev S16 : Shape := ⟨1, ![16]⟩
abbrev S16x1 : Shape := ⟨2, ![16, 1]⟩
abbrev S8x256 : Shape := ⟨2, ![8, 256]⟩
abbrev S16x256 : Shape := ⟨2, ![16, 256]⟩
abbrev S1x16x256 : Shape := ⟨3, ![1, 16, 256]⟩
abbrev S1x1024x128 : Shape := ⟨3, ![1, 1024, 128]⟩
abbrev S1024x128 : Shape := ⟨2, ![1024, 128]⟩
abbrev S1024x256 : Shape := ⟨2, ![1024, 256]⟩
abbrev S1x1x16x1024 : Shape := ⟨4, ![1, 1, 16, 1024]⟩
abbrev S8x1024 : Shape := ⟨2, ![8, 1024]⟩
abbrev S8x2048 : Shape := ⟨2, ![8, 2048]⟩

abbrev nBuf : Space → Nat
  | .hbm => 16
  | .vmem => 14
  | .smem => 1
  | _ => 0

abbrev bufTy : (tb : Table) → Fin (tcTables nBuf tb) → BufTy
  | .hbm, ⟨0, _⟩ => ⟨S3x1x12288, .bf16⟩
  | .hbm, ⟨1, _⟩ => ⟨S3x1x12x128, .bf16⟩
  | .hbm, ⟨2, _⟩ => ⟨S3x1x12x128, .bf16⟩
  | .hbm, ⟨3, _⟩ => ⟨S3x12x16384x128, .bf16⟩
  | .hbm, ⟨4, _⟩ => ⟨S3x12x128x16384, .fp8e4m3⟩
  | .hbm, ⟨5, _⟩ => ⟨S3x12x128, .f32⟩
  | .hbm, ⟨6, _⟩ => ⟨S3, .i32⟩
  | .hbm, ⟨7, _⟩ => ⟨S36x8x128, .bf16⟩
  | .hbm, ⟨8, _⟩ => ⟨S36x8x128, .f32⟩
  | .hbm, ⟨9, _⟩ => ⟨S36x1x128, .bf16⟩
  | .hbm, ⟨10, _⟩ => ⟨S36x1x128, .f32⟩
  | .hbm, ⟨11, _⟩ => ⟨S36x1x128, .bf16⟩
  | .hbm, ⟨12, _⟩ => ⟨S36x1x128, .f32⟩
  | .hbm, ⟨13, _⟩ => ⟨S36x1x128, .f32⟩
  | .hbm, ⟨14, _⟩ => ⟨S288x128, .bf16⟩
  | .hbm, ⟨15, _⟩ => ⟨S288x128, .f32⟩
  | .local _ .vmem, ⟨0, _⟩ => ⟨S36x8x128, .f32⟩
  | .local _ .vmem, ⟨1, _⟩ => ⟨S36x1x128, .f32⟩
  | .local _ .vmem, ⟨2, _⟩ => ⟨S36x1x128, .f32⟩
  | .local _ .vmem, ⟨3, _⟩ => ⟨S36x1x128, .f32⟩
  | .local _ .vmem, ⟨4, _⟩ => ⟨S288x128, .bf16⟩
  | .local _ .vmem, ⟨5, _⟩ => ⟨S288x128, .f32⟩
  | .local _ .vmem, ⟨6, _⟩ => ⟨S12x2048x128, .bf16⟩
  | .local _ .vmem, ⟨7, _⟩ => ⟨S12x128x2048, .fp8e4m3⟩
  | .local _ .vmem, ⟨8, _⟩ => ⟨S2x8x16x1024, .f32⟩
  | .local _ .vmem, ⟨9, _⟩ => ⟨S2x16x128, .f32⟩
  | .local _ .vmem, ⟨10, _⟩ => ⟨S128x8, .f32⟩
  | .local _ .vmem, ⟨11, _⟩ => ⟨S16x128, .f32⟩
  | .local _ .vmem, ⟨12, _⟩ => ⟨S2x16x256, .bf16⟩
  | .local _ .vmem, ⟨13, _⟩ => ⟨S288x128, .f32⟩
  | .local _ .smem, ⟨0, _⟩ => ⟨S3, .i32⟩
  | _, _ => ⟨S3x1x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c12_i32 : BitVec 32 := 12#32
  let v0 : BitVec 32 := Scalar.addi c0_i32_1 c12_i32
  let c1_i32 : BitVec 32 := 1#32
  ⟨c0_i32_1, v0, c1_i32⟩
def k0_off1 (arg20 : BitVec 32) : Fin 1 → Nat :=
  let c0_i32_34 : BitVec 32 := 0#32
  let v55 : BitVec 1 := Scalar.cmpi .sgt arg20 c0_i32_34
  let v56 : BitVec 32 := Scalar.extui v55
  let c0_i32_35 : BitVec 32 := 0#32
  let v57 : BitVec 1 := Scalar.cmpi .slt arg20 c0_i32_35
  let v58 : BitVec 32 := Scalar.extui v57
  let v59 : BitVec 32 := Scalar.subi v56 v58
  let c12_i32_33 : BitVec 32 := 12#32
  let c0_i32_36 : BitVec 32 := 0#32
  let v60 : BitVec 1 := Scalar.cmpi .sgt c12_i32_33 c0_i32_36
  let v61 : BitVec 32 := Scalar.extui v60
  let c0_i32_37 : BitVec 32 := 0#32
  let v62 : BitVec 1 := Scalar.cmpi .slt c12_i32_33 c0_i32_37
  let v63 : BitVec 32 := Scalar.extui v62
  let v64 : BitVec 32 := Scalar.subi v61 v63
  let v65 : BitVec 1 := Scalar.cmpi .ne v59 v64
  let v66 : BitVec 32 := Scalar.remsi arg20 c12_i32_33
  let c0_i32_38 : BitVec 32 := 0#32
  let v67 : BitVec 1 := Scalar.cmpi .ne v66 c0_i32_38
  let v68 : BitVec 1 := Scalar.andi v65 v67
  let v54 : BitVec 32 := Scalar.divsi arg20 c12_i32_33
  let c1_i32_39 : BitVec 32 := 1#32
  let v69 : BitVec 32 := Scalar.subi v54 c1_i32_39
  let v70 : BitVec 32 := Scalar.select v68 v69 v54
  let v71 : Index := Scalar.indexCast v70
  ![v71.toNat]
def k0_cond1 (arg20 : BitVec 32) : BitVec 1 :=
  let c36_i32 : BitVec 32 := 36#32
  let v17 : BitVec 1 := Scalar.cmpi .slt arg20 c36_i32
  let v18 : BitVec 32 := Scalar.extui v17
  let c0_i32_18 : BitVec 32 := 0#32
  let v19 : BitVec 1 := Scalar.cmpi .ne v18 c0_i32_18
  v19

def k0_mult1 (arg21 : BitVec 32) (v72 : BitVec 32) : BitVec 32 :=
  let c2048_i32_52 : BitVec 32 := 2048#32
  let c128_i32_51 : BitVec 32 := 128#32
  let c16384_i32_40 : BitVec 32 := 16384#32
  let v73 : BitVec 32 := Scalar.minsi v72 c16384_i32_40
  let c2048_i32_41 : BitVec 32 := 2048#32
  let v74 : BitVec 32 := Scalar.muli arg21 c2048_i32_41
  let v75 : BitVec 32 := Scalar.subi v73 v74
  let c128_i32 : BitVec 32 := 128#32
  let v76 : BitVec 32 := Scalar.addi v75 c128_i32
  let c1_i32_42 : BitVec 32 := 1#32
  let v77 : BitVec 32 := Scalar.subi v76 c1_i32_42
  let c0_i32_44 : BitVec 32 := 0#32
  let v79 : BitVec 1 := Scalar.cmpi .sgt v77 c0_i32_44
  let v80 : BitVec 32 := Scalar.extui v79
  let c0_i32_45 : BitVec 32 := 0#32
  let v81 : BitVec 1 := Scalar.cmpi .slt v77 c0_i32_45
  let v82 : BitVec 32 := Scalar.extui v81
  let v83 : BitVec 32 := Scalar.subi v80 v82
  let c128_i32_43 : BitVec 32 := 128#32
  let c0_i32_46 : BitVec 32 := 0#32
  let v84 : BitVec 1 := Scalar.cmpi .sgt c128_i32_43 c0_i32_46
  let v85 : BitVec 32 := Scalar.extui v84
  let c0_i32_47 : BitVec 32 := 0#32
  let v86 : BitVec 1 := Scalar.cmpi .slt c128_i32_43 c0_i32_47
  let v87 : BitVec 32 := Scalar.extui v86
  let v88 : BitVec 32 := Scalar.subi v85 v87
  let v89 : BitVec 1 := Scalar.cmpi .ne v83 v88
  let v90 : BitVec 32 := Scalar.remsi v77 c128_i32_43
  let c0_i32_48 : BitVec 32 := 0#32
  let v91 : BitVec 1 := Scalar.cmpi .ne v90 c0_i32_48
  let v92 : BitVec 1 := Scalar.andi v89 v91
  let v78 : BitVec 32 := Scalar.divsi v77 c128_i32_43
  let c1_i32_49 : BitVec 32 := 1#32
  let v93 : BitVec 32 := Scalar.subi v78 c1_i32_49
  let v94 : BitVec 32 := Scalar.select v92 v93 v78
  let c128_i32_50 : BitVec 32 := 128#32
  let v95 : BitVec 32 := Scalar.muli v94 c128_i32_50
  let v96 : BitVec 32 := Scalar.maxsi c128_i32_51 v95
  let v97 : BitVec 32 := Scalar.minsi c2048_i32_52 v96
  v97

def k0_chk2 (arg20 : BitVec 32) (arg21 : BitVec 32) (v72 : BitVec 32) : Prop :=
  (∀ (k0_h1 : k0_cond1 arg20 = 1#1), 128 ∣ (k0_mult1 arg21 v72).toNat)
theorem k0_mult1_dvd : ∀ (arg20 : BitVec 32) (arg21 : BitVec 32) (v72 : BitVec 32) (k0_hw2 : k0_chk2 arg20 arg21 v72), ∀ (k0_h1 : k0_cond1 arg20 = 1#1), 128 ∣ (k0_mult1 arg21 v72).toNat := fun arg20 arg21 v72 k0_hw2 k0_h1 => k0_hw2 k0_h1

def k0_off2 (k0_t1 : Fin k0_t1_loop.trips) : Fin 3 → Nat :=
  let c0_i32_1 : BitVec 32 := 0#32
  let c1_i32 : BitVec 32 := 1#32
  let arg19 : BitVec 32 := Scf.iv c0_i32_1 c1_i32 k0_t1
  let v183 : Index := Scalar.indexCast arg19
  let c0_93 : Index := 0#32
  let c0_94 : Index := 0#32
  ![v183.toNat, 0, 0]
def k0_off3 (arg20 : BitVec 32) : Fin 1 → Nat :=
  let c0_i32_56 : BitVec 32 := 0#32
  let v103 : BitVec 1 := Scalar.cmpi .sgt arg20 c0_i32_56
  let v104 : BitVec 32 := Scalar.extui v103
  let c0_i32_57 : BitVec 32 := 0#32
  let v105 : BitVec 1 := Scalar.cmpi .slt arg20 c0_i32_57
  let v106 : BitVec 32 := Scalar.extui v105
  let v107 : BitVec 32 := Scalar.subi v104 v106
  let c12_i32_55 : BitVec 32 := 12#32
  let c0_i32_58 : BitVec 32 := 0#32
  let v108 : BitVec 1 := Scalar.cmpi .sgt c12_i32_55 c0_i32_58
  let v109 : BitVec 32 := Scalar.extui v108
  let c0_i32_59 : BitVec 32 := 0#32
  let v110 : BitVec 1 := Scalar.cmpi .slt c12_i32_55 c0_i32_59
  let v111 : BitVec 32 := Scalar.extui v110
  let v112 : BitVec 32 := Scalar.subi v109 v111
  let v113 : BitVec 1 := Scalar.cmpi .ne v107 v112
  let v114 : BitVec 32 := Scalar.remsi arg20 c12_i32_55
  let c0_i32_60 : BitVec 32 := 0#32
  let v115 : BitVec 1 := Scalar.cmpi .ne v114 c0_i32_60
  let v116 : BitVec 1 := Scalar.andi v113 v115
  let v102 : BitVec 32 := Scalar.divsi arg20 c12_i32_55
  let c1_i32_61 : BitVec 32 := 1#32
  let v117 : BitVec 32 := Scalar.subi v102 c1_i32_61
  let v118 : BitVec 32 := Scalar.select v116 v117 v102
  let v119 : Index := Scalar.indexCast v118
  ![v119.toNat]
def k0_mult2 (arg21 : BitVec 32) (v120 : BitVec 32) : BitVec 32 :=
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  v145

def k0_mult3 (arg21 : BitVec 32) : BitVec 32 :=
  let c2048_i32_89 : BitVec 32 := 2048#32
  let v174 : BitVec 32 := Scalar.muli arg21 c2048_i32_89
  v174

def k0_chk4 (arg20 : BitVec 32) (arg21 : BitVec 32) : Prop :=
  (∀ (k0_h1 : k0_cond1 arg20 = 1#1), 2048 ∣ (k0_mult3 arg21).toNat)
theorem k0_mult3_dvd : ∀ (arg20 : BitVec 32) (arg21 : BitVec 32) (k0_hw4 : k0_chk4 arg20 arg21), ∀ (k0_h1 : k0_cond1 arg20 = 1#1), 2048 ∣ (k0_mult3 arg21).toNat := fun arg20 arg21 k0_hw4 k0_h1 => k0_hw4 k0_h1

def k0_off4 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  ![arg19.toNat]
def k0_off5 (k0_t1 : Fin k0_t1_loop.trips) (arg21 : BitVec 32) (v120 : BitVec 32) : (Fin 3 → Nat) × (Fin 3 → Nat) :=
  let c0_i32_1 : BitVec 32 := 0#32
  let c1_i32 : BitVec 32 := 1#32
  let arg19 : BitVec 32 := Scf.iv c0_i32_1 c1_i32 k0_t1
  let c0_i32_90 : BitVec 32 := 0#32
  let c0_i32_91 : BitVec 32 := 0#32
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ⟨![arg19.toNat, 0, 0], ![1, v146.toNat, 128]⟩
def k0_sz1 (arg21 : BitVec 32) (v120 : BitVec 32) : Fin 2 → Nat :=
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ![v146.toNat, 128]
def k0_off6 (arg20 : BitVec 32) (arg21 : BitVec 32) (v120 : BitVec 32) : (Fin 4 → Nat) × (Fin 4 → Nat) :=
  let c0_i32_77 : BitVec 32 := 0#32
  let v148 : BitVec 1 := Scalar.cmpi .sgt arg20 c0_i32_77
  let v149 : BitVec 32 := Scalar.extui v148
  let c0_i32_78 : BitVec 32 := 0#32
  let v150 : BitVec 1 := Scalar.cmpi .slt arg20 c0_i32_78
  let v151 : BitVec 32 := Scalar.extui v150
  let v152 : BitVec 32 := Scalar.subi v149 v151
  let c12_i32_76 : BitVec 32 := 12#32
  let c0_i32_79 : BitVec 32 := 0#32
  let v153 : BitVec 1 := Scalar.cmpi .sgt c12_i32_76 c0_i32_79
  let v154 : BitVec 32 := Scalar.extui v153
  let c0_i32_80 : BitVec 32 := 0#32
  let v155 : BitVec 1 := Scalar.cmpi .slt c12_i32_76 c0_i32_80
  let v156 : BitVec 32 := Scalar.extui v155
  let v157 : BitVec 32 := Scalar.subi v154 v156
  let v158 : BitVec 1 := Scalar.cmpi .ne v152 v157
  let v159 : BitVec 32 := Scalar.remsi arg20 c12_i32_76
  let c0_i32_81 : BitVec 32 := 0#32
  let v160 : BitVec 1 := Scalar.cmpi .ne v159 c0_i32_81
  let v161 : BitVec 1 := Scalar.andi v158 v160
  let v147 : BitVec 32 := Scalar.divsi arg20 c12_i32_76
  let c1_i32_82 : BitVec 32 := 1#32
  let v162 : BitVec 32 := Scalar.subi v147 c1_i32_82
  let v163 : BitVec 32 := Scalar.select v161 v162 v147
  let c12_i32_83 : BitVec 32 := 12#32
  let c0_i32_84 : BitVec 32 := 0#32
  let v164 : BitVec 1 := Scalar.cmpi .eq c12_i32_83 c0_i32_84
  let c1_i32_85 : BitVec 32 := 1#32
  let v165 : BitVec 32 := Scalar.select v164 c1_i32_85 c12_i32_83
  let v166 : BitVec 32 := Scalar.remsi arg20 v165
  let c0_i32_87 : BitVec 32 := 0#32
  let v168 : BitVec 1 := Scalar.cmpi .slt v166 c0_i32_87
  let c0_i32_88 : BitVec 32 := 0#32
  let v169 : BitVec 1 := Scalar.cmpi .slt v165 c0_i32_88
  let v170 : BitVec 1 := Scalar.xori v168 v169
  let c0_i32_86 : BitVec 32 := 0#32
  let v167 : BitVec 1 := Scalar.cmpi .ne v166 c0_i32_86
  let v171 : BitVec 1 := Scalar.andi v170 v167
  let v172 : BitVec 32 := Scalar.addi v166 v165
  let v173 : BitVec 32 := Scalar.select v171 v172 v166
  let c2048_i32_89 : BitVec 32 := 2048#32
  let v174 : BitVec 32 := Scalar.muli arg21 c2048_i32_89
  let v175 : BitVec 32 := v174
  let c0_i32_92 : BitVec 32 := 0#32
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ⟨![v163.toNat, v173.toNat, v175.toNat, 0], ![1, 1, v146.toNat, 128]⟩
def k0_sz2 (arg21 : BitVec 32) (v120 : BitVec 32) : Fin 2 → Nat :=
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ![v146.toNat, 128]

def k0_chk3 (k0_t1 : Fin k0_t1_loop.trips) (arg20 : BitVec 32) (arg21 : BitVec 32) (v120 : BitVec 32) : Prop :=
  (∀ (k0_h1 : k0_cond1 arg20 = 1#1), 128 ∣ (k0_mult2 arg21 v120).toNat) ∧
  (∀ (k0_h1 : k0_cond1 arg20 = 1#1), ∀ a, (k0_off5 k0_t1 arg21 v120).2 a = 0 ∨ (k0_off5 k0_t1 arg21 v120).1 a + (k0_off5 k0_t1 arg21 v120).2 a ≤ S12x2048x128.size a) ∧
  (∀ (k0_h1 : k0_cond1 arg20 = 1#1), (⟨3, (k0_off5 k0_t1 arg21 v120).2⟩ : Shape).Squeezes ⟨2, k0_sz1 arg21 v120⟩) ∧
  (∀ (k0_h1 : k0_cond1 arg20 = 1#1), ∀ a, (k0_off6 arg20 arg21 v120).2 a = 0 ∨ (k0_off6 arg20 arg21 v120).1 a + (k0_off6 arg20 arg21 v120).2 a ≤ S3x12x16384x128.size a) ∧
  (∀ (k0_h1 : k0_cond1 arg20 = 1#1), (⟨4, (k0_off6 arg20 arg21 v120).2⟩ : Shape).Squeezes ⟨2, k0_sz2 arg21 v120⟩) ∧
  (∀ (k0_h1 : k0_cond1 arg20 = 1#1), ∀ (hinb : ∀ a, (k0_off6 arg20 arg21 v120).2 a = 0 ∨ (k0_off6 arg20 arg21 v120).1 a + (k0_off6 arg20 arg21 v120).2 a ≤ S3x12x16384x128.size a), (Rect.unitDyn (s := S3x12x16384x128) (k0_off6 arg20 arg21 v120).1 (k0_off6 arg20 arg21 v120).2 hinb).WholeWords (EltTy.packing .bf16)) ∧
  (∀ (k0_h1 : k0_cond1 arg20 = 1#1), ∀ (hinb : ∀ a, (k0_off5 k0_t1 arg21 v120).2 a = 0 ∨ (k0_off5 k0_t1 arg21 v120).1 a + (k0_off5 k0_t1 arg21 v120).2 a ≤ S12x2048x128.size a), (Rect.unitDyn (s := S12x2048x128) (k0_off5 k0_t1 arg21 v120).1 (k0_off5 k0_t1 arg21 v120).2 hinb).WholeWords (EltTy.packing .bf16))
theorem k0_mult2_dvd : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), 128 ∣ (k0_mult2 arg21 v120).toNat := fun k0_t1 arg20 arg21 v120 k0_hw3 k0_h1 => k0_hw3.1 k0_h1
theorem k0_off5_inb : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), ∀ a, (k0_off5 k0_t1 arg21 v120).2 a = 0 ∨ (k0_off5 k0_t1 arg21 v120).1 a + (k0_off5 k0_t1 arg21 v120).2 a ≤ S12x2048x128.size a := fun k0_t1 arg20 arg21 v120 k0_hw3 k0_h1 => k0_hw3.2.1 k0_h1
theorem k0_sz1_squeezes : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), (⟨3, (k0_off5 k0_t1 arg21 v120).2⟩ : Shape).Squeezes ⟨2, k0_sz1 arg21 v120⟩ := fun k0_t1 arg20 arg21 v120 k0_hw3 k0_h1 => k0_hw3.2.2.1 k0_h1
theorem k0_off6_inb : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), ∀ a, (k0_off6 arg20 arg21 v120).2 a = 0 ∨ (k0_off6 arg20 arg21 v120).1 a + (k0_off6 arg20 arg21 v120).2 a ≤ S3x12x16384x128.size a := fun k0_t1 arg20 arg21 v120 k0_hw3 k0_h1 => k0_hw3.2.2.2.1 k0_h1
theorem k0_sz2_squeezes : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), (⟨4, (k0_off6 arg20 arg21 v120).2⟩ : Shape).Squeezes ⟨2, k0_sz2 arg21 v120⟩ := fun k0_t1 arg20 arg21 v120 k0_hw3 k0_h1 => k0_hw3.2.2.2.2.1 k0_h1
theorem k0_off6_wordsbf16 : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), (Rect.unitDyn (s := S3x12x16384x128) (k0_off6 arg20 arg21 v120).1 (k0_off6 arg20 arg21 v120).2 (k0_off6_inb k0_t1 arg20 arg21 v120 k0_hw3 k0_h1)).WholeWords (EltTy.packing .bf16) := fun k0_t1 arg20 arg21 v120 k0_hw3 k0_h1 => k0_hw3.2.2.2.2.2.1 k0_h1 (k0_off6_inb k0_t1 arg20 arg21 v120 k0_hw3 k0_h1)
theorem k0_off5_wordsbf16 : ∀ (k0_t1 : Fin k0_t1_loop.trips) (arg20 : BitVec 32) (arg21 : BitVec 32) (v120 : BitVec 32) (k0_hw3 : k0_chk3 k0_t1 arg20 arg21 v120), ∀ (k0_h1 : k0_cond1 arg20 = 1#1), (Rect.unitDyn (s := S12x2048x128) (k0_off5 k0_t1 arg21 v120).1 (k0_off5 k0_t1 arg21 v120).2 (k0_off5_inb k0_t1 arg20 arg21 v120 k0_hw3 k0_h1)).WholeWords (EltTy.packing .bf16) := fun k0_t1 arg20 arg21 v120 k0_hw3 k0_h1 => k0_hw3.2.2.2.2.2.2 k0_h1 (k0_off5_inb k0_t1 arg20 arg21 v120 k0_hw3 k0_h1)

def k0_off7 (arg20 : BitVec 32) : Fin 1 → Nat :=
  let c35_i32 : BitVec 32 := 35#32
  let v20 : BitVec 32 := Scalar.minsi arg20 c35_i32
  let c0_i32_21 : BitVec 32 := 0#32
  let v23 : BitVec 1 := Scalar.cmpi .sgt v20 c0_i32_21
  let v24 : BitVec 32 := Scalar.extui v23
  let c0_i32_22 : BitVec 32 := 0#32
  let v25 : BitVec 1 := Scalar.cmpi .slt v20 c0_i32_22
  let v26 : BitVec 32 := Scalar.extui v25
  let v27 : BitVec 32 := Scalar.subi v24 v26
  let c12_i32_20 : BitVec 32 := 12#32
  let c0_i32_23 : BitVec 32 := 0#32
  let v28 : BitVec 1 := Scalar.cmpi .sgt c12_i32_20 c0_i32_23
  let v29 : BitVec 32 := Scalar.extui v28
  let c0_i32_24 : BitVec 32 := 0#32
  let v30 : BitVec 1 := Scalar.cmpi .slt c12_i32_20 c0_i32_24
  let v31 : BitVec 32 := Scalar.extui v30
  let v32 : BitVec 32 := Scalar.subi v29 v31
  let v33 : BitVec 1 := Scalar.cmpi .ne v27 v32
  let v34 : BitVec 32 := Scalar.remsi v20 c12_i32_20
  let c0_i32_25 : BitVec 32 := 0#32
  let v35 : BitVec 1 := Scalar.cmpi .ne v34 c0_i32_25
  let v36 : BitVec 1 := Scalar.andi v33 v35
  let v22 : BitVec 32 := Scalar.divsi v20 c12_i32_20
  let c1_i32_26 : BitVec 32 := 1#32
  let v37 : BitVec 32 := Scalar.subi v22 c1_i32_26
  let v38 : BitVec 32 := Scalar.select v36 v37 v22
  let v39 : Index := Scalar.indexCast v38
  ![v39.toNat]

def k0_chk1 (arg20 : BitVec 32) : Prop :=
  (∀ (k0_h1 : k0_cond1 arg20 = 1#1), ∀ a, (k0_off1 arg20) a + S1.size a ≤ S3.size a) ∧
  (∀ (k0_h1 : k0_cond1 arg20 = 1#1), ∀ a, (k0_off3 arg20) a + S1.size a ≤ S3.size a) ∧
  (∀ a, (k0_off7 arg20) a + S1.size a ≤ S3.size a)
theorem k0_off1_inb : ∀ (arg20 : BitVec 32) (k0_hw1 : k0_chk1 arg20), ∀ (k0_h1 : k0_cond1 arg20 = 1#1), ∀ a, (k0_off1 arg20) a + S1.size a ≤ S3.size a := fun arg20 k0_hw1 k0_h1 => k0_hw1.1 k0_h1
theorem k0_off3_inb : ∀ (arg20 : BitVec 32) (k0_hw1 : k0_chk1 arg20), ∀ (k0_h1 : k0_cond1 arg20 = 1#1), ∀ a, (k0_off3 arg20) a + S1.size a ≤ S3.size a := fun arg20 k0_hw1 k0_h1 => k0_hw1.2.1 k0_h1
theorem k0_off7_inb : ∀ (arg20 : BitVec 32) (k0_hw1 : k0_chk1 arg20), ∀ a, (k0_off7 arg20) a + S1.size a ≤ S3.size a := fun arg20 k0_hw1 => k0_hw1.2.2

@[reducible] def k0_t2_loop : Scf.Loop 32 :=
  let c0_i32_5 : BitVec 32 := 0#32
  let c12_i32_6 : BitVec 32 := 12#32
  let v2 : BitVec 32 := Scalar.addi c0_i32_5 c12_i32_6
  let c1_i32_7 : BitVec 32 := 1#32
  ⟨c0_i32_5, v2, c1_i32_7⟩
def k0_off8 (arg20 : BitVec 32) : Fin 1 → Nat :=
  let c0_i32_34 : BitVec 32 := 0#32
  let v55 : BitVec 1 := Scalar.cmpi .sgt arg20 c0_i32_34
  let v56 : BitVec 32 := Scalar.extui v55
  let c0_i32_35 : BitVec 32 := 0#32
  let v57 : BitVec 1 := Scalar.cmpi .slt arg20 c0_i32_35
  let v58 : BitVec 32 := Scalar.extui v57
  let v59 : BitVec 32 := Scalar.subi v56 v58
  let c12_i32_33 : BitVec 32 := 12#32
  let c0_i32_36 : BitVec 32 := 0#32
  let v60 : BitVec 1 := Scalar.cmpi .sgt c12_i32_33 c0_i32_36
  let v61 : BitVec 32 := Scalar.extui v60
  let c0_i32_37 : BitVec 32 := 0#32
  let v62 : BitVec 1 := Scalar.cmpi .slt c12_i32_33 c0_i32_37
  let v63 : BitVec 32 := Scalar.extui v62
  let v64 : BitVec 32 := Scalar.subi v61 v63
  let v65 : BitVec 1 := Scalar.cmpi .ne v59 v64
  let v66 : BitVec 32 := Scalar.remsi arg20 c12_i32_33
  let c0_i32_38 : BitVec 32 := 0#32
  let v67 : BitVec 1 := Scalar.cmpi .ne v66 c0_i32_38
  let v68 : BitVec 1 := Scalar.andi v65 v67
  let v54 : BitVec 32 := Scalar.divsi arg20 c12_i32_33
  let c1_i32_39 : BitVec 32 := 1#32
  let v69 : BitVec 32 := Scalar.subi v54 c1_i32_39
  let v70 : BitVec 32 := Scalar.select v68 v69 v54
  let v71 : Index := Scalar.indexCast v70
  ![v71.toNat]
def k0_cond3 (arg20 : BitVec 32) : BitVec 1 :=
  let c36_i32 : BitVec 32 := 36#32
  let v17 : BitVec 1 := Scalar.cmpi .slt arg20 c36_i32
  let v18 : BitVec 32 := Scalar.extui v17
  let c0_i32_18 : BitVec 32 := 0#32
  let v19 : BitVec 1 := Scalar.cmpi .ne v18 c0_i32_18
  v19

def k0_mult4 (arg21 : BitVec 32) (v72 : BitVec 32) : BitVec 32 :=
  let c2048_i32_52 : BitVec 32 := 2048#32
  let c128_i32_51 : BitVec 32 := 128#32
  let c16384_i32_40 : BitVec 32 := 16384#32
  let v73 : BitVec 32 := Scalar.minsi v72 c16384_i32_40
  let c2048_i32_41 : BitVec 32 := 2048#32
  let v74 : BitVec 32 := Scalar.muli arg21 c2048_i32_41
  let v75 : BitVec 32 := Scalar.subi v73 v74
  let c128_i32 : BitVec 32 := 128#32
  let v76 : BitVec 32 := Scalar.addi v75 c128_i32
  let c1_i32_42 : BitVec 32 := 1#32
  let v77 : BitVec 32 := Scalar.subi v76 c1_i32_42
  let c0_i32_44 : BitVec 32 := 0#32
  let v79 : BitVec 1 := Scalar.cmpi .sgt v77 c0_i32_44
  let v80 : BitVec 32 := Scalar.extui v79
  let c0_i32_45 : BitVec 32 := 0#32
  let v81 : BitVec 1 := Scalar.cmpi .slt v77 c0_i32_45
  let v82 : BitVec 32 := Scalar.extui v81
  let v83 : BitVec 32 := Scalar.subi v80 v82
  let c128_i32_43 : BitVec 32 := 128#32
  let c0_i32_46 : BitVec 32 := 0#32
  let v84 : BitVec 1 := Scalar.cmpi .sgt c128_i32_43 c0_i32_46
  let v85 : BitVec 32 := Scalar.extui v84
  let c0_i32_47 : BitVec 32 := 0#32
  let v86 : BitVec 1 := Scalar.cmpi .slt c128_i32_43 c0_i32_47
  let v87 : BitVec 32 := Scalar.extui v86
  let v88 : BitVec 32 := Scalar.subi v85 v87
  let v89 : BitVec 1 := Scalar.cmpi .ne v83 v88
  let v90 : BitVec 32 := Scalar.remsi v77 c128_i32_43
  let c0_i32_48 : BitVec 32 := 0#32
  let v91 : BitVec 1 := Scalar.cmpi .ne v90 c0_i32_48
  let v92 : BitVec 1 := Scalar.andi v89 v91
  let v78 : BitVec 32 := Scalar.divsi v77 c128_i32_43
  let c1_i32_49 : BitVec 32 := 1#32
  let v93 : BitVec 32 := Scalar.subi v78 c1_i32_49
  let v94 : BitVec 32 := Scalar.select v92 v93 v78
  let c128_i32_50 : BitVec 32 := 128#32
  let v95 : BitVec 32 := Scalar.muli v94 c128_i32_50
  let v96 : BitVec 32 := Scalar.maxsi c128_i32_51 v95
  let v97 : BitVec 32 := Scalar.minsi c2048_i32_52 v96
  v97

def k0_chk6 (arg20 : BitVec 32) (arg21 : BitVec 32) (v72 : BitVec 32) : Prop :=
  (∀ (k0_h3 : k0_cond3 arg20 = 1#1), 128 ∣ (k0_mult4 arg21 v72).toNat)
theorem k0_mult4_dvd : ∀ (arg20 : BitVec 32) (arg21 : BitVec 32) (v72 : BitVec 32) (k0_hw6 : k0_chk6 arg20 arg21 v72), ∀ (k0_h3 : k0_cond3 arg20 = 1#1), 128 ∣ (k0_mult4 arg21 v72).toNat := fun arg20 arg21 v72 k0_hw6 k0_h3 => k0_hw6 k0_h3

def k0_off9 (k0_t2 : Fin k0_t2_loop.trips) : Fin 3 → Nat :=
  let c0_i32_5 : BitVec 32 := 0#32
  let c1_i32_7 : BitVec 32 := 1#32
  let arg19 : BitVec 32 := Scf.iv c0_i32_5 c1_i32_7 k0_t2
  let v183 : Index := Scalar.indexCast arg19
  let c0_93 : Index := 0#32
  let c0_94 : Index := 0#32
  ![v183.toNat, 0, 0]
def k0_off10 (arg20 : BitVec 32) : Fin 1 → Nat :=
  let c0_i32_56 : BitVec 32 := 0#32
  let v103 : BitVec 1 := Scalar.cmpi .sgt arg20 c0_i32_56
  let v104 : BitVec 32 := Scalar.extui v103
  let c0_i32_57 : BitVec 32 := 0#32
  let v105 : BitVec 1 := Scalar.cmpi .slt arg20 c0_i32_57
  let v106 : BitVec 32 := Scalar.extui v105
  let v107 : BitVec 32 := Scalar.subi v104 v106
  let c12_i32_55 : BitVec 32 := 12#32
  let c0_i32_58 : BitVec 32 := 0#32
  let v108 : BitVec 1 := Scalar.cmpi .sgt c12_i32_55 c0_i32_58
  let v109 : BitVec 32 := Scalar.extui v108
  let c0_i32_59 : BitVec 32 := 0#32
  let v110 : BitVec 1 := Scalar.cmpi .slt c12_i32_55 c0_i32_59
  let v111 : BitVec 32 := Scalar.extui v110
  let v112 : BitVec 32 := Scalar.subi v109 v111
  let v113 : BitVec 1 := Scalar.cmpi .ne v107 v112
  let v114 : BitVec 32 := Scalar.remsi arg20 c12_i32_55
  let c0_i32_60 : BitVec 32 := 0#32
  let v115 : BitVec 1 := Scalar.cmpi .ne v114 c0_i32_60
  let v116 : BitVec 1 := Scalar.andi v113 v115
  let v102 : BitVec 32 := Scalar.divsi arg20 c12_i32_55
  let c1_i32_61 : BitVec 32 := 1#32
  let v117 : BitVec 32 := Scalar.subi v102 c1_i32_61
  let v118 : BitVec 32 := Scalar.select v116 v117 v102
  let v119 : Index := Scalar.indexCast v118
  ![v119.toNat]
def k0_mult5 (arg21 : BitVec 32) (v120 : BitVec 32) : BitVec 32 :=
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  v145

def k0_mult6 (arg21 : BitVec 32) : BitVec 32 :=
  let c2048_i32_89 : BitVec 32 := 2048#32
  let v174 : BitVec 32 := Scalar.muli arg21 c2048_i32_89
  v174

def k0_chk8 (arg20 : BitVec 32) (arg21 : BitVec 32) : Prop :=
  (∀ (k0_h3 : k0_cond3 arg20 = 1#1), 2048 ∣ (k0_mult6 arg21).toNat)
theorem k0_mult6_dvd : ∀ (arg20 : BitVec 32) (arg21 : BitVec 32) (k0_hw8 : k0_chk8 arg20 arg21), ∀ (k0_h3 : k0_cond3 arg20 = 1#1), 2048 ∣ (k0_mult6 arg21).toNat := fun arg20 arg21 k0_hw8 k0_h3 => k0_hw8 k0_h3

def k0_off11 (k0_t2 : Fin k0_t2_loop.trips) : Fin 1 → Nat :=
  let c0_i32_5 : BitVec 32 := 0#32
  let c1_i32_7 : BitVec 32 := 1#32
  let arg19 : BitVec 32 := Scf.iv c0_i32_5 c1_i32_7 k0_t2
  ![arg19.toNat]
def k0_off12 (k0_t2 : Fin k0_t2_loop.trips) (arg21 : BitVec 32) (v120 : BitVec 32) : (Fin 3 → Nat) × (Fin 3 → Nat) :=
  let c0_i32_5 : BitVec 32 := 0#32
  let c1_i32_7 : BitVec 32 := 1#32
  let arg19 : BitVec 32 := Scf.iv c0_i32_5 c1_i32_7 k0_t2
  let c0_i32_90 : BitVec 32 := 0#32
  let c0_i32_91 : BitVec 32 := 0#32
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ⟨![arg19.toNat, 0, 0], ![1, 128, v146.toNat]⟩
def k0_sz3 (arg21 : BitVec 32) (v120 : BitVec 32) : Fin 2 → Nat :=
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ![128, v146.toNat]
def k0_off13 (arg20 : BitVec 32) (arg21 : BitVec 32) (v120 : BitVec 32) : (Fin 4 → Nat) × (Fin 4 → Nat) :=
  let c0_i32_77 : BitVec 32 := 0#32
  let v148 : BitVec 1 := Scalar.cmpi .sgt arg20 c0_i32_77
  let v149 : BitVec 32 := Scalar.extui v148
  let c0_i32_78 : BitVec 32 := 0#32
  let v150 : BitVec 1 := Scalar.cmpi .slt arg20 c0_i32_78
  let v151 : BitVec 32 := Scalar.extui v150
  let v152 : BitVec 32 := Scalar.subi v149 v151
  let c12_i32_76 : BitVec 32 := 12#32
  let c0_i32_79 : BitVec 32 := 0#32
  let v153 : BitVec 1 := Scalar.cmpi .sgt c12_i32_76 c0_i32_79
  let v154 : BitVec 32 := Scalar.extui v153
  let c0_i32_80 : BitVec 32 := 0#32
  let v155 : BitVec 1 := Scalar.cmpi .slt c12_i32_76 c0_i32_80
  let v156 : BitVec 32 := Scalar.extui v155
  let v157 : BitVec 32 := Scalar.subi v154 v156
  let v158 : BitVec 1 := Scalar.cmpi .ne v152 v157
  let v159 : BitVec 32 := Scalar.remsi arg20 c12_i32_76
  let c0_i32_81 : BitVec 32 := 0#32
  let v160 : BitVec 1 := Scalar.cmpi .ne v159 c0_i32_81
  let v161 : BitVec 1 := Scalar.andi v158 v160
  let v147 : BitVec 32 := Scalar.divsi arg20 c12_i32_76
  let c1_i32_82 : BitVec 32 := 1#32
  let v162 : BitVec 32 := Scalar.subi v147 c1_i32_82
  let v163 : BitVec 32 := Scalar.select v161 v162 v147
  let c12_i32_83 : BitVec 32 := 12#32
  let c0_i32_84 : BitVec 32 := 0#32
  let v164 : BitVec 1 := Scalar.cmpi .eq c12_i32_83 c0_i32_84
  let c1_i32_85 : BitVec 32 := 1#32
  let v165 : BitVec 32 := Scalar.select v164 c1_i32_85 c12_i32_83
  let v166 : BitVec 32 := Scalar.remsi arg20 v165
  let c0_i32_87 : BitVec 32 := 0#32
  let v168 : BitVec 1 := Scalar.cmpi .slt v166 c0_i32_87
  let c0_i32_88 : BitVec 32 := 0#32
  let v169 : BitVec 1 := Scalar.cmpi .slt v165 c0_i32_88
  let v170 : BitVec 1 := Scalar.xori v168 v169
  let c0_i32_86 : BitVec 32 := 0#32
  let v167 : BitVec 1 := Scalar.cmpi .ne v166 c0_i32_86
  let v171 : BitVec 1 := Scalar.andi v170 v167
  let v172 : BitVec 32 := Scalar.addi v166 v165
  let v173 : BitVec 32 := Scalar.select v171 v172 v166
  let c0_i32_92 : BitVec 32 := 0#32
  let c2048_i32_89 : BitVec 32 := 2048#32
  let v174 : BitVec 32 := Scalar.muli arg21 c2048_i32_89
  let v175 : BitVec 32 := v174
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ⟨![v163.toNat, v173.toNat, 0, v175.toNat], ![1, 1, 128, v146.toNat]⟩
def k0_sz4 (arg21 : BitVec 32) (v120 : BitVec 32) : Fin 2 → Nat :=
  let c2048_i32_75 : BitVec 32 := 2048#32
  let c128_i32_74 : BitVec 32 := 128#32
  let c16384_i32_62 : BitVec 32 := 16384#32
  let v121 : BitVec 32 := Scalar.minsi v120 c16384_i32_62
  let c2048_i32_63 : BitVec 32 := 2048#32
  let v122 : BitVec 32 := Scalar.muli arg21 c2048_i32_63
  let v123 : BitVec 32 := Scalar.subi v121 v122
  let c128_i32_64 : BitVec 32 := 128#32
  let v124 : BitVec 32 := Scalar.addi v123 c128_i32_64
  let c1_i32_65 : BitVec 32 := 1#32
  let v125 : BitVec 32 := Scalar.subi v124 c1_i32_65
  let c0_i32_67 : BitVec 32 := 0#32
  let v127 : BitVec 1 := Scalar.cmpi .sgt v125 c0_i32_67
  let v128 : BitVec 32 := Scalar.extui v127
  let c0_i32_68 : BitVec 32 := 0#32
  let v129 : BitVec 1 := Scalar.cmpi .slt v125 c0_i32_68
  let v130 : BitVec 32 := Scalar.extui v129
  let v131 : BitVec 32 := Scalar.subi v128 v130
  let c128_i32_66 : BitVec 32 := 128#32
  let c0_i32_69 : BitVec 32 := 0#32
  let v132 : BitVec 1 := Scalar.cmpi .sgt c128_i32_66 c0_i32_69
  let v133 : BitVec 32 := Scalar.extui v132
  let c0_i32_70 : BitVec 32 := 0#32
  let v134 : BitVec 1 := Scalar.cmpi .slt c128_i32_66 c0_i32_70
  let v135 : BitVec 32 := Scalar.extui v134
  let v136 : BitVec 32 := Scalar.subi v133 v135
  let v137 : BitVec 1 := Scalar.cmpi .ne v131 v136
  let v138 : BitVec 32 := Scalar.remsi v125 c128_i32_66
  let c0_i32_71 : BitVec 32 := 0#32
  let v139 : BitVec 1 := Scalar.cmpi .ne v138 c0_i32_71
  let v140 : BitVec 1 := Scalar.andi v137 v139
  let v126 : BitVec 32 := Scalar.divsi v125 c128_i32_66
  let c1_i32_72 : BitVec 32 := 1#32
  let v141 : BitVec 32 := Scalar.subi v126 c1_i32_72
  let v142 : BitVec 32 := Scalar.select v140 v141 v126
  let c128_i32_73 : BitVec 32 := 128#32
  let v143 : BitVec 32 := Scalar.muli v142 c128_i32_73
  let v144 : BitVec 32 := Scalar.maxsi c128_i32_74 v143
  let v145 : BitVec 32 := Scalar.minsi c2048_i32_75 v144
  let v146 : BitVec 32 := v145
  ![128, v146.toNat]

def k0_chk7 (k0_t2 : Fin k0_t2_loop.trips) (arg20 : BitVec 32) (arg21 : BitVec 32) (v120 : BitVec 32) : Prop :=
  (∀ (k0_h3 : k0_cond3 arg20 = 1#1), 128 ∣ (k0_mult5 arg21 v120).toNat) ∧
  (∀ (k0_h3 : k0_cond3 arg20 = 1#1), ∀ a, (k0_off12 k0_t2 arg21 v120).2 a = 0 ∨ (k0_off12 k0_t2 arg21 v120).1 a + (k0_off12 k0_t2 arg21 v120).2 a ≤ S12x128x2048.size a) ∧
  (∀ (k0_h3 : k0_cond3 arg20 = 1#1), (⟨3, (k0_off12 k0_t2 arg21 v120).2⟩ : Shape).Squeezes ⟨2, k0_sz3 arg21 v120⟩) ∧
  (∀ (k0_h3 : k0_cond3 arg20 = 1#1), ∀ a, (k0_off13 arg20 arg21 v120).2 a = 0 ∨ (k0_off13 arg20 arg21 v120).1 a + (k0_off13 arg20 arg21 v120).2 a ≤ S3x12x128x16384.size a) ∧
  (∀ (k0_h3 : k0_cond3 arg20 = 1#1), (⟨4, (k0_off13 arg20 arg21 v120).2⟩ : Shape).Squeezes ⟨2, k0_sz4 arg21 v120⟩) ∧
  (∀ (k0_h3 : k0_cond3 arg20 = 1#1), ∀ (hinb : ∀ a, (k0_off13 arg20 arg21 v120).2 a = 0 ∨ (k0_off13 arg20 arg21 v120).1 a + (k0_off13 arg20 arg21 v120).2 a ≤ S3x12x128x16384.size a), (Rect.unitDyn (s := S3x12x128x16384) (k0_off13 arg20 arg21 v120).1 (k0_off13 arg20 arg21 v120).2 hinb).WholeWords (EltTy.packing .fp8e4m3)) ∧
  (∀ (k0_h3 : k0_cond3 arg20 = 1#1), ∀ (hinb : ∀ a, (k0_off12 k0_t2 arg21 v120).2 a = 0 ∨ (k0_off12 k0_t2 arg21 v120).1 a + (k0_off12 k0_t2 arg21 v120).2 a ≤ S12x128x2048.size a), (Rect.unitDyn (s := S12x128x2048) (k0_off12 k0_t2 arg21 v120).1 (k0_off12 k0_t2 arg21 v120).2 hinb).WholeWords (EltTy.packing .fp8e4m3))
theorem k0_mult5_dvd : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), 128 ∣ (k0_mult5 arg21 v120).toNat := fun k0_t2 arg20 arg21 v120 k0_hw7 k0_h3 => k0_hw7.1 k0_h3
theorem k0_off12_inb : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), ∀ a, (k0_off12 k0_t2 arg21 v120).2 a = 0 ∨ (k0_off12 k0_t2 arg21 v120).1 a + (k0_off12 k0_t2 arg21 v120).2 a ≤ S12x128x2048.size a := fun k0_t2 arg20 arg21 v120 k0_hw7 k0_h3 => k0_hw7.2.1 k0_h3
theorem k0_sz3_squeezes : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), (⟨3, (k0_off12 k0_t2 arg21 v120).2⟩ : Shape).Squeezes ⟨2, k0_sz3 arg21 v120⟩ := fun k0_t2 arg20 arg21 v120 k0_hw7 k0_h3 => k0_hw7.2.2.1 k0_h3
theorem k0_off13_inb : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), ∀ a, (k0_off13 arg20 arg21 v120).2 a = 0 ∨ (k0_off13 arg20 arg21 v120).1 a + (k0_off13 arg20 arg21 v120).2 a ≤ S3x12x128x16384.size a := fun k0_t2 arg20 arg21 v120 k0_hw7 k0_h3 => k0_hw7.2.2.2.1 k0_h3
theorem k0_sz4_squeezes : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), (⟨4, (k0_off13 arg20 arg21 v120).2⟩ : Shape).Squeezes ⟨2, k0_sz4 arg21 v120⟩ := fun k0_t2 arg20 arg21 v120 k0_hw7 k0_h3 => k0_hw7.2.2.2.2.1 k0_h3
theorem k0_off13_wordsfp8e4m3 : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), (Rect.unitDyn (s := S3x12x128x16384) (k0_off13 arg20 arg21 v120).1 (k0_off13 arg20 arg21 v120).2 (k0_off13_inb k0_t2 arg20 arg21 v120 k0_hw7 k0_h3)).WholeWords (EltTy.packing .fp8e4m3) := fun k0_t2 arg20 arg21 v120 k0_hw7 k0_h3 => k0_hw7.2.2.2.2.2.1 k0_h3 (k0_off13_inb k0_t2 arg20 arg21 v120 k0_hw7 k0_h3)
theorem k0_off12_wordsfp8e4m3 : ∀ (k0_t2 : Fin k0_t2_loop.trips) (arg20 : BitVec 32) (arg21 : BitVec 32) (v120 : BitVec 32) (k0_hw7 : k0_chk7 k0_t2 arg20 arg21 v120), ∀ (k0_h3 : k0_cond3 arg20 = 1#1), (Rect.unitDyn (s := S12x128x2048) (k0_off12 k0_t2 arg21 v120).1 (k0_off12 k0_t2 arg21 v120).2 (k0_off12_inb k0_t2 arg20 arg21 v120 k0_hw7 k0_h3)).WholeWords (EltTy.packing .fp8e4m3) := fun k0_t2 arg20 arg21 v120 k0_hw7 k0_h3 => k0_hw7.2.2.2.2.2.2 k0_h3 (k0_off12_inb k0_t2 arg20 arg21 v120 k0_hw7 k0_h3)

def k0_off14 (arg20 : BitVec 32) : Fin 1 → Nat :=
  let c35_i32 : BitVec 32 := 35#32
  let v20 : BitVec 32 := Scalar.minsi arg20 c35_i32
  let c0_i32_21 : BitVec 32 := 0#32
  let v23 : BitVec 1 := Scalar.cmpi .sgt v20 c0_i32_21
  let v24 : BitVec 32 := Scalar.extui v23
  let c0_i32_22 : BitVec 32 := 0#32
  let v25 : BitVec 1 := Scalar.cmpi .slt v20 c0_i32_22
  let v26 : BitVec 32 := Scalar.extui v25
  let v27 : BitVec 32 := Scalar.subi v24 v26
  let c12_i32_20 : BitVec 32 := 12#32
  let c0_i32_23 : BitVec 32 := 0#32
  let v28 : BitVec 1 := Scalar.cmpi .sgt c12_i32_20 c0_i32_23
  let v29 : BitVec 32 := Scalar.extui v28
  let c0_i32_24 : BitVec 32 := 0#32
  let v30 : BitVec 1 := Scalar.cmpi .slt c12_i32_20 c0_i32_24
  let v31 : BitVec 32 := Scalar.extui v30
  let v32 : BitVec 32 := Scalar.subi v29 v31
  let v33 : BitVec 1 := Scalar.cmpi .ne v27 v32
  let v34 : BitVec 32 := Scalar.remsi v20 c12_i32_20
  let c0_i32_25 : BitVec 32 := 0#32
  let v35 : BitVec 1 := Scalar.cmpi .ne v34 c0_i32_25
  let v36 : BitVec 1 := Scalar.andi v33 v35
  let v22 : BitVec 32 := Scalar.divsi v20 c12_i32_20
  let c1_i32_26 : BitVec 32 := 1#32
  let v37 : BitVec 32 := Scalar.subi v22 c1_i32_26
  let v38 : BitVec 32 := Scalar.select v36 v37 v22
  let v39 : Index := Scalar.indexCast v38
  ![v39.toNat]

def k0_chk5 (arg20 : BitVec 32) : Prop :=
  (∀ (k0_h3 : k0_cond3 arg20 = 1#1), ∀ a, (k0_off8 arg20) a + S1.size a ≤ S3.size a) ∧
  (∀ (k0_h3 : k0_cond3 arg20 = 1#1), ∀ a, (k0_off10 arg20) a + S1.size a ≤ S3.size a) ∧
  (∀ a, (k0_off14 arg20) a + S1.size a ≤ S3.size a)
theorem k0_off8_inb : ∀ (arg20 : BitVec 32) (k0_hw5 : k0_chk5 arg20), ∀ (k0_h3 : k0_cond3 arg20 = 1#1), ∀ a, (k0_off8 arg20) a + S1.size a ≤ S3.size a := fun arg20 k0_hw5 k0_h3 => k0_hw5.1 k0_h3
theorem k0_off10_inb : ∀ (arg20 : BitVec 32) (k0_hw5 : k0_chk5 arg20), ∀ (k0_h3 : k0_cond3 arg20 = 1#1), ∀ a, (k0_off10 arg20) a + S1.size a ≤ S3.size a := fun arg20 k0_hw5 k0_h3 => k0_hw5.2.1 k0_h3
theorem k0_off14_inb : ∀ (arg20 : BitVec 32) (k0_hw5 : k0_chk5 arg20), ∀ a, (k0_off14 arg20) a + S1.size a ≤ S3.size a := fun arg20 k0_hw5 => k0_hw5.2.2

@[reducible] def k0_t3_loop : Scf.Loop 32 :=
  let c0_i32_12 : BitVec 32 := 0#32
  let c37_i32 : BitVec 32 := 37#32
  let v12 : BitVec 32 := Scalar.addi c0_i32_12 c37_i32
  let c1_i32_13 : BitVec 32 := 1#32
  ⟨c0_i32_12, v12, c1_i32_13⟩
def k0_off15 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_21 : BitVec 32 := 0#32
  let v22 : BitVec 1 := Scalar.cmpi .sgt v17 c0_i32_21
  let v23 : BitVec 32 := Scalar.extui v22
  let c0_i32_22 : BitVec 32 := 0#32
  let v24 : BitVec 1 := Scalar.cmpi .slt v17 c0_i32_22
  let v25 : BitVec 32 := Scalar.extui v24
  let v26 : BitVec 32 := Scalar.subi v23 v25
  let c12_i32_20 : BitVec 32 := 12#32
  let c0_i32_23 : BitVec 32 := 0#32
  let v27 : BitVec 1 := Scalar.cmpi .sgt c12_i32_20 c0_i32_23
  let v28 : BitVec 32 := Scalar.extui v27
  let c0_i32_24 : BitVec 32 := 0#32
  let v29 : BitVec 1 := Scalar.cmpi .slt c12_i32_20 c0_i32_24
  let v30 : BitVec 32 := Scalar.extui v29
  let v31 : BitVec 32 := Scalar.subi v28 v30
  let v32 : BitVec 1 := Scalar.cmpi .ne v26 v31
  let v33 : BitVec 32 := Scalar.remsi v17 c12_i32_20
  let c0_i32_25 : BitVec 32 := 0#32
  let v34 : BitVec 1 := Scalar.cmpi .ne v33 c0_i32_25
  let v35 : BitVec 1 := Scalar.andi v32 v34
  let v21 : BitVec 32 := Scalar.divsi v17 c12_i32_20
  let c1_i32_26 : BitVec 32 := 1#32
  let v36 : BitVec 32 := Scalar.subi v21 c1_i32_26
  let v37 : BitVec 32 := Scalar.select v35 v36 v21
  let v38 : Index := Scalar.indexCast v37
  ![v38.toNat]
def k0_off16 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_31 : BitVec 32 := 0#32
  let v47 : BitVec 1 := Scalar.cmpi .sgt v19 c0_i32_31
  let v48 : BitVec 32 := Scalar.extui v47
  let c0_i32_32 : BitVec 32 := 0#32
  let v49 : BitVec 1 := Scalar.cmpi .slt v19 c0_i32_32
  let v50 : BitVec 32 := Scalar.extui v49
  let v51 : BitVec 32 := Scalar.subi v48 v50
  let c12_i32_30 : BitVec 32 := 12#32
  let c0_i32_33 : BitVec 32 := 0#32
  let v52 : BitVec 1 := Scalar.cmpi .sgt c12_i32_30 c0_i32_33
  let v53 : BitVec 32 := Scalar.extui v52
  let c0_i32_34 : BitVec 32 := 0#32
  let v54 : BitVec 1 := Scalar.cmpi .slt c12_i32_30 c0_i32_34
  let v55 : BitVec 32 := Scalar.extui v54
  let v56 : BitVec 32 := Scalar.subi v53 v55
  let v57 : BitVec 1 := Scalar.cmpi .ne v51 v56
  let v58 : BitVec 32 := Scalar.remsi v19 c12_i32_30
  let c0_i32_35 : BitVec 32 := 0#32
  let v59 : BitVec 1 := Scalar.cmpi .ne v58 c0_i32_35
  let v60 : BitVec 1 := Scalar.andi v57 v59
  let v46 : BitVec 32 := Scalar.divsi v19 c12_i32_30
  let c1_i32_36 : BitVec 32 := 1#32
  let v61 : BitVec 32 := Scalar.subi v46 c1_i32_36
  let v62 : BitVec 32 := Scalar.select v60 v61 v46
  let v63 : Index := Scalar.indexCast v62
  ![v63.toNat]
def k0_off17 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let v71 : Index := Scalar.indexCast v19
  let c0_42 : Index := 0#32
  let c0_43 : Index := 0#32
  ![v71.toNat, 0, 0]
def k0_off18 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let v74 : Index := Scalar.indexCast v19
  let c0_44 : Index := 0#32
  let c0_45 : Index := 0#32
  ![v74.toNat, 0, 0]
def k0_off19 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c2_i32 : BitVec 32 := 2#32
  let v70 : BitVec 32 := Scalar.remsi v19 c2_i32
  let v83 : Index := Scalar.indexCast v70
  let c0_47 : Index := 0#32
  let c0_48 : Index := 0#32
  ![v83.toNat, 0, 0]
def k0_cond5 (k0_t3 : Fin k0_t3_loop.trips) : BitVec 1 :=
  let c0_i32_12 : BitVec 32 := 0#32
  let c1_i32_13 : BitVec 32 := 1#32
  let arg19 : BitVec 32 := Scf.iv c0_i32_12 c1_i32_13 k0_t3
  let c36_i32_50 : BitVec 32 := 36#32
  let v93 : BitVec 1 := Scalar.cmpi .slt arg19 c36_i32_50
  let v94 : BitVec 32 := Scalar.extui v93
  let c0_i32_51 : BitVec 32 := 0#32
  let v95 : BitVec 1 := Scalar.cmpi .ne v94 c0_i32_51
  v95

def k0_off20 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let v130 : Index := Scalar.indexCast v17
  let c0_71 : Index := 0#32
  let c0_72 : Index := 0#32
  ![v130.toNat, 0, 0]
def k0_off21 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_70 : BitVec 32 := 2#32
  let v129 : BitVec 32 := Scalar.remsi v17 c2_i32_70
  let v138 : Index := Scalar.indexCast v129
  let c0_74 : Index := 0#32
  let c0_75 : Index := 0#32
  ![v138.toNat, 0, 0]
def k0_off22 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_70 : BitVec 32 := 2#32
  let v129 : BitVec 32 := Scalar.remsi v17 c2_i32_70
  let v143 : Index := Scalar.indexCast v129
  let c0_77 : Index := 0#32
  let c0_78 : Index := 0#32
  ![v143.toNat, 0, 0]
@[reducible] def k0_t4_loop (k0_t3 : Fin k0_t3_loop.trips) (v39 : BitVec 32) (v64 : BitVec 32) : Scf.Loop 32 :=
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_60 : BitVec 32 := 1#32
  ⟨c0_i32_58, v109, c1_i32_60⟩

def k0_off23 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_71 : BitVec 32 := 0#32
  let v130 : BitVec 1 := Scalar.cmpi .sgt v17 c0_i32_71
  let v131 : BitVec 32 := Scalar.extui v130
  let c0_i32_72 : BitVec 32 := 0#32
  let v132 : BitVec 1 := Scalar.cmpi .slt v17 c0_i32_72
  let v133 : BitVec 32 := Scalar.extui v132
  let v134 : BitVec 32 := Scalar.subi v131 v133
  let c12_i32_70 : BitVec 32 := 12#32
  let c0_i32_73 : BitVec 32 := 0#32
  let v135 : BitVec 1 := Scalar.cmpi .sgt c12_i32_70 c0_i32_73
  let v136 : BitVec 32 := Scalar.extui v135
  let c0_i32_74 : BitVec 32 := 0#32
  let v137 : BitVec 1 := Scalar.cmpi .slt c12_i32_70 c0_i32_74
  let v138 : BitVec 32 := Scalar.extui v137
  let v139 : BitVec 32 := Scalar.subi v136 v138
  let v140 : BitVec 1 := Scalar.cmpi .ne v134 v139
  let v141 : BitVec 32 := Scalar.remsi v17 c12_i32_70
  let c0_i32_75 : BitVec 32 := 0#32
  let v142 : BitVec 1 := Scalar.cmpi .ne v141 c0_i32_75
  let v143 : BitVec 1 := Scalar.andi v140 v142
  let v129 : BitVec 32 := Scalar.divsi v17 c12_i32_70
  let c1_i32_76 : BitVec 32 := 1#32
  let v144 : BitVec 32 := Scalar.subi v129 c1_i32_76
  let v145 : BitVec 32 := Scalar.select v143 v144 v129
  let v146 : Index := Scalar.indexCast v145
  ![v146.toNat]
def k0_mult7 (k0_t3 : Fin k0_t3_loop.trips) (v39 : BitVec 32) (v64 : BitVec 32) (k0_t4 : Fin (k0_t4_loop k0_t3 v39 v64).trips) (v147 : BitVec 32) : BitVec 32 :=
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c1_i32_60 : BitVec 32 := 1#32
  let arg26 : BitVec 32 := Scf.iv c0_i32_58 c1_i32_60 k0_t4
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  v172

def k0_mult8 (k0_t3 : Fin k0_t3_loop.trips) (v39 : BitVec 32) (v64 : BitVec 32) (k0_t4 : Fin (k0_t4_loop k0_t3 v39 v64).trips) : BitVec 32 :=
  let c0_i32_58 : BitVec 32 := 0#32
  let c1_i32_60 : BitVec 32 := 1#32
  let arg26 : BitVec 32 := Scf.iv c0_i32_58 c1_i32_60 k0_t4
  let c2048_i32_103 : BitVec 32 := 2048#32
  let v201 : BitVec 32 := Scalar.muli arg26 c2048_i32_103
  v201
def k0_off24 (arg27 : BitVec 32) : Fin 1 → Nat :=
  ![arg27.toNat]

def k0_off25 (k0_t3 : Fin k0_t3_loop.trips) (v39 : BitVec 32) (v64 : BitVec 32) (k0_t4 : Fin (k0_t4_loop k0_t3 v39 v64).trips) (arg27 : BitVec 32) (v147 : BitVec 32) : (Fin 3 → Nat) × (Fin 3 → Nat) :=
  let c0_i32_104 : BitVec 32 := 0#32
  let c0_i32_105 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c1_i32_60 : BitVec 32 := 1#32
  let arg26 : BitVec 32 := Scf.iv c0_i32_58 c1_i32_60 k0_t4
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![arg27.toNat, 0, 0], ![1, v173.toNat, 128]⟩

def k0_sz5 (k0_t3 : Fin k0_t3_loop.trips) (v39 : BitVec 32) (v64 : BitVec 32) (k0_t4 : Fin (k0_t4_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c1_i32_60 : BitVec 32 := 1#32
  let arg26 : BitVec 32 := Scf.iv c0_i32_58 c1_i32_60 k0_t4
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]
def k0_off26 (k0_t3 : Fin k0_t3_loop.trips) (v39 : BitVec 32) (v64 : BitVec 32) (k0_t4 : Fin (k0_t4_loop k0_t3 v39 v64).trips) (v147 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_91 : BitVec 32 := 0#32
  let v175 : BitVec 1 := Scalar.cmpi .sgt v17 c0_i32_91
  let v176 : BitVec 32 := Scalar.extui v175
  let c0_i32_92 : BitVec 32 := 0#32
  let v177 : BitVec 1 := Scalar.cmpi .slt v17 c0_i32_92
  let v178 : BitVec 32 := Scalar.extui v177
  let v179 : BitVec 32 := Scalar.subi v176 v178
  let c12_i32_90 : BitVec 32 := 12#32
  let c0_i32_93 : BitVec 32 := 0#32
  let v180 : BitVec 1 := Scalar.cmpi .sgt c12_i32_90 c0_i32_93
  let v181 : BitVec 32 := Scalar.extui v180
  let c0_i32_94 : BitVec 32 := 0#32
  let v182 : BitVec 1 := Scalar.cmpi .slt c12_i32_90 c0_i32_94
  let v183 : BitVec 32 := Scalar.extui v182
  let v184 : BitVec 32 := Scalar.subi v181 v183
  let v185 : BitVec 1 := Scalar.cmpi .ne v179 v184
  let v186 : BitVec 32 := Scalar.remsi v17 c12_i32_90
  let c0_i32_95 : BitVec 32 := 0#32
  let v187 : BitVec 1 := Scalar.cmpi .ne v186 c0_i32_95
  let v188 : BitVec 1 := Scalar.andi v185 v187
  let v174 : BitVec 32 := Scalar.divsi v17 c12_i32_90
  let c1_i32_96 : BitVec 32 := 1#32
  let v189 : BitVec 32 := Scalar.subi v174 c1_i32_96
  let v190 : BitVec 32 := Scalar.select v188 v189 v174
  let c12_i32_97 : BitVec 32 := 12#32
  let c0_i32_98 : BitVec 32 := 0#32
  let v191 : BitVec 1 := Scalar.cmpi .eq c12_i32_97 c0_i32_98
  let c1_i32_99 : BitVec 32 := 1#32
  let v192 : BitVec 32 := Scalar.select v191 c1_i32_99 c12_i32_97
  let v193 : BitVec 32 := Scalar.remsi v17 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c0_i32_58 : BitVec 32 := 0#32
  let c1_i32_60 : BitVec 32 := 1#32
  let arg26 : BitVec 32 := Scf.iv c0_i32_58 c1_i32_60 k0_t4
  let c2048_i32_103 : BitVec 32 := 2048#32
  let v201 : BitVec 32 := Scalar.muli arg26 c2048_i32_103
  let v202 : BitVec 32 := v201
  let c0_i32_106 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![v190.toNat, v200.toNat, v202.toNat, 0], ![1, 1, v173.toNat, 128]⟩

def k0_sz6 (k0_t3 : Fin k0_t3_loop.trips) (v39 : BitVec 32) (v64 : BitVec 32) (k0_t4 : Fin (k0_t4_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c1_i32_60 : BitVec 32 := 1#32
  let arg26 : BitVec 32 := Scf.iv c0_i32_58 c1_i32_60 k0_t4
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]

def k0_chk10 (k0_t3 : Fin k0_t3_loop.trips) (v39 : BitVec 32) (v64 : BitVec 32) (k0_t4 : Fin (k0_t4_loop k0_t3 v39 v64).trips) (arg27 : BitVec 32) (v147 : BitVec 32) : Prop :=
  (128 ∣ (k0_mult7 k0_t3 v39 v64 k0_t4 v147).toNat) ∧
  ((⟨3, (k0_off25 k0_t3 v39 v64 k0_t4 arg27 v147).2⟩ : Shape).Squeezes ⟨2, k0_sz5 k0_t3 v39 v64 k0_t4 v147⟩) ∧
  ((⟨4, (k0_off26 k0_t3 v39 v64 k0_t4 v147).2⟩ : Shape).Squeezes ⟨2, k0_sz6 k0_t3 v39 v64 k0_t4 v147⟩)
theorem k0_mult7_dvd : ∀ (k0_t3 : Fin k0_t3_loop.trips) (v39 : BitVec 32) (v64 : BitVec 32) (k0_t4 : Fin (k0_t4_loop k0_t3 v39 v64).trips) (arg27 : BitVec 32) (v147 : BitVec 32) (k0_hw10 : k0_chk10 k0_t3 v39 v64 k0_t4 arg27 v147), 128 ∣ (k0_mult7 k0_t3 v39 v64 k0_t4 v147).toNat := fun k0_t3 v39 v64 k0_t4 arg27 v147 k0_hw10 => k0_hw10.1
theorem k0_sz5_squeezes : ∀ (k0_t3 : Fin k0_t3_loop.trips) (v39 : BitVec 32) (v64 : BitVec 32) (k0_t4 : Fin (k0_t4_loop k0_t3 v39 v64).trips) (arg27 : BitVec 32) (v147 : BitVec 32) (k0_hw10 : k0_chk10 k0_t3 v39 v64 k0_t4 arg27 v147), (⟨3, (k0_off25 k0_t3 v39 v64 k0_t4 arg27 v147).2⟩ : Shape).Squeezes ⟨2, k0_sz5 k0_t3 v39 v64 k0_t4 v147⟩ := fun k0_t3 v39 v64 k0_t4 arg27 v147 k0_hw10 => k0_hw10.2.1
theorem k0_sz6_squeezes : ∀ (k0_t3 : Fin k0_t3_loop.trips) (v39 : BitVec 32) (v64 : BitVec 32) (k0_t4 : Fin (k0_t4_loop k0_t3 v39 v64).trips) (arg27 : BitVec 32) (v147 : BitVec 32) (k0_hw10 : k0_chk10 k0_t3 v39 v64 k0_t4 arg27 v147), (⟨4, (k0_off26 k0_t3 v39 v64 k0_t4 v147).2⟩ : Shape).Squeezes ⟨2, k0_sz6 k0_t3 v39 v64 k0_t4 v147⟩ := fun k0_t3 v39 v64 k0_t4 arg27 v147 k0_hw10 => k0_hw10.2.2

def k0_off27 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_108 : BitVec 32 := 0#32
  let v210 : BitVec 1 := Scalar.cmpi .sgt v19 c0_i32_108
  let v211 : BitVec 32 := Scalar.extui v210
  let c0_i32_109 : BitVec 32 := 0#32
  let v212 : BitVec 1 := Scalar.cmpi .slt v19 c0_i32_109
  let v213 : BitVec 32 := Scalar.extui v212
  let v214 : BitVec 32 := Scalar.subi v211 v213
  let c12_i32_107 : BitVec 32 := 12#32
  let c0_i32_110 : BitVec 32 := 0#32
  let v215 : BitVec 1 := Scalar.cmpi .sgt c12_i32_107 c0_i32_110
  let v216 : BitVec 32 := Scalar.extui v215
  let c0_i32_111 : BitVec 32 := 0#32
  let v217 : BitVec 1 := Scalar.cmpi .slt c12_i32_107 c0_i32_111
  let v218 : BitVec 32 := Scalar.extui v217
  let v219 : BitVec 32 := Scalar.subi v216 v218
  let v220 : BitVec 1 := Scalar.cmpi .ne v214 v219
  let v221 : BitVec 32 := Scalar.remsi v19 c12_i32_107
  let c0_i32_112 : BitVec 32 := 0#32
  let v222 : BitVec 1 := Scalar.cmpi .ne v221 c0_i32_112
  let v223 : BitVec 1 := Scalar.andi v220 v222
  let v209 : BitVec 32 := Scalar.divsi v19 c12_i32_107
  let c1_i32_113 : BitVec 32 := 1#32
  let v224 : BitVec 32 := Scalar.subi v209 c1_i32_113
  let v225 : BitVec 32 := Scalar.select v223 v224 v209
  let v226 : Index := Scalar.indexCast v225
  ![v226.toNat]
def k0_mult9 (k0_t3 : Fin k0_t3_loop.trips) (v39 : BitVec 32) (v64 : BitVec 32) (k0_t4 : Fin (k0_t4_loop k0_t3 v39 v64).trips) (v227 : BitVec 32) : BitVec 32 :=
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c1_i32_60 : BitVec 32 := 1#32
  let arg26 : BitVec 32 := Scf.iv c0_i32_58 c1_i32_60 k0_t4
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  v252

def k0_mult10 (k0_t3 : Fin k0_t3_loop.trips) (v39 : BitVec 32) (v64 : BitVec 32) (k0_t4 : Fin (k0_t4_loop k0_t3 v39 v64).trips) : BitVec 32 :=
  let c0_i32_58 : BitVec 32 := 0#32
  let c1_i32_60 : BitVec 32 := 1#32
  let arg26 : BitVec 32 := Scf.iv c0_i32_58 c1_i32_60 k0_t4
  let c2048_i32_141 : BitVec 32 := 2048#32
  let v281 : BitVec 32 := Scalar.muli arg26 c2048_i32_141
  v281
def k0_off28 (arg28 : BitVec 32) : Fin 1 → Nat :=
  ![arg28.toNat]

def k0_off29 (k0_t3 : Fin k0_t3_loop.trips) (v39 : BitVec 32) (v64 : BitVec 32) (k0_t4 : Fin (k0_t4_loop k0_t3 v39 v64).trips) (arg28 : BitVec 32) (v227 : BitVec 32) : (Fin 3 → Nat) × (Fin 3 → Nat) :=
  let c0_i32_142 : BitVec 32 := 0#32
  let c0_i32_143 : BitVec 32 := 0#32
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c1_i32_60 : BitVec 32 := 1#32
  let arg26 : BitVec 32 := Scf.iv c0_i32_58 c1_i32_60 k0_t4
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ⟨![arg28.toNat, 0, 0], ![1, 128, v253.toNat]⟩

def k0_sz7 (k0_t3 : Fin k0_t3_loop.trips) (v39 : BitVec 32) (v64 : BitVec 32) (k0_t4 : Fin (k0_t4_loop k0_t3 v39 v64).trips) (v227 : BitVec 32) : Fin 2 → Nat :=
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c1_i32_60 : BitVec 32 := 1#32
  let arg26 : BitVec 32 := Scf.iv c0_i32_58 c1_i32_60 k0_t4
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ![128, v253.toNat]
def k0_off30 (k0_t3 : Fin k0_t3_loop.trips) (v39 : BitVec 32) (v64 : BitVec 32) (k0_t4 : Fin (k0_t4_loop k0_t3 v39 v64).trips) (v227 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_129 : BitVec 32 := 0#32
  let v255 : BitVec 1 := Scalar.cmpi .sgt v19 c0_i32_129
  let v256 : BitVec 32 := Scalar.extui v255
  let c0_i32_130 : BitVec 32 := 0#32
  let v257 : BitVec 1 := Scalar.cmpi .slt v19 c0_i32_130
  let v258 : BitVec 32 := Scalar.extui v257
  let v259 : BitVec 32 := Scalar.subi v256 v258
  let c12_i32_128 : BitVec 32 := 12#32
  let c0_i32_131 : BitVec 32 := 0#32
  let v260 : BitVec 1 := Scalar.cmpi .sgt c12_i32_128 c0_i32_131
  let v261 : BitVec 32 := Scalar.extui v260
  let c0_i32_132 : BitVec 32 := 0#32
  let v262 : BitVec 1 := Scalar.cmpi .slt c12_i32_128 c0_i32_132
  let v263 : BitVec 32 := Scalar.extui v262
  let v264 : BitVec 32 := Scalar.subi v261 v263
  let v265 : BitVec 1 := Scalar.cmpi .ne v259 v264
  let v266 : BitVec 32 := Scalar.remsi v19 c12_i32_128
  let c0_i32_133 : BitVec 32 := 0#32
  let v267 : BitVec 1 := Scalar.cmpi .ne v266 c0_i32_133
  let v268 : BitVec 1 := Scalar.andi v265 v267
  let v254 : BitVec 32 := Scalar.divsi v19 c12_i32_128
  let c1_i32_134 : BitVec 32 := 1#32
  let v269 : BitVec 32 := Scalar.subi v254 c1_i32_134
  let v270 : BitVec 32 := Scalar.select v268 v269 v254
  let c12_i32_135 : BitVec 32 := 12#32
  let c0_i32_136 : BitVec 32 := 0#32
  let v271 : BitVec 1 := Scalar.cmpi .eq c12_i32_135 c0_i32_136
  let c1_i32_137 : BitVec 32 := 1#32
  let v272 : BitVec 32 := Scalar.select v271 c1_i32_137 c12_i32_135
  let v273 : BitVec 32 := Scalar.remsi v19 v272
  let c0_i32_139 : BitVec 32 := 0#32
  let v275 : BitVec 1 := Scalar.cmpi .slt v273 c0_i32_139
  let c0_i32_140 : BitVec 32 := 0#32
  let v276 : BitVec 1 := Scalar.cmpi .slt v272 c0_i32_140
  let v277 : BitVec 1 := Scalar.xori v275 v276
  let c0_i32_138 : BitVec 32 := 0#32
  let v274 : BitVec 1 := Scalar.cmpi .ne v273 c0_i32_138
  let v278 : BitVec 1 := Scalar.andi v277 v274
  let v279 : BitVec 32 := Scalar.addi v273 v272
  let v280 : BitVec 32 := Scalar.select v278 v279 v273
  let c0_i32_144 : BitVec 32 := 0#32
  let c0_i32_58 : BitVec 32 := 0#32
  let c1_i32_60 : BitVec 32 := 1#32
  let arg26 : BitVec 32 := Scf.iv c0_i32_58 c1_i32_60 k0_t4
  let c2048_i32_141 : BitVec 32 := 2048#32
  let v281 : BitVec 32 := Scalar.muli arg26 c2048_i32_141
  let v282 : BitVec 32 := v281
  let c2048_i32_127 : BitVec 32 := 2048#32
  let c128_i32_126 : BitVec 32 := 128#32
  let c16384_i32_114 : BitVec 32 := 16384#32
  let v228 : BitVec 32 := Scalar.minsi v227 c16384_i32_114
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ⟨![v270.toNat, v280.toNat, 0, v282.toNat], ![1, 1, 128, v253.toNat]⟩

def k0_sz8 (k0_t3 : Fin k0_t3_loop.trips) (v39 : BitVec 32) (v64 : BitVec 32) (k0_t4 : Fin (k0_t4_loop k0_t3 v39 v64).trips) (v227 : BitVec 32) : Fin 2 → Nat :=
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c1_i32_60 : BitVec 32 := 1#32
  let arg26 : BitVec 32 := Scf.iv c0_i32_58 c1_i32_60 k0_t4
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ![128, v253.toNat]

def k0_chk12 (k0_t3 : Fin k0_t3_loop.trips) (v39 : BitVec 32) (v64 : BitVec 32) (k0_t4 : Fin (k0_t4_loop k0_t3 v39 v64).trips) (arg28 : BitVec 32) (v227 : BitVec 32) : Prop :=
  (128 ∣ (k0_mult9 k0_t3 v39 v64 k0_t4 v227).toNat) ∧
  ((⟨3, (k0_off29 k0_t3 v39 v64 k0_t4 arg28 v227).2⟩ : Shape).Squeezes ⟨2, k0_sz7 k0_t3 v39 v64 k0_t4 v227⟩) ∧
  ((⟨4, (k0_off30 k0_t3 v39 v64 k0_t4 v227).2⟩ : Shape).Squeezes ⟨2, k0_sz8 k0_t3 v39 v64 k0_t4 v227⟩)
theorem k0_mult9_dvd : ∀ (k0_t3 : Fin k0_t3_loop.trips) (v39 : BitVec 32) (v64 : BitVec 32) (k0_t4 : Fin (k0_t4_loop k0_t3 v39 v64).trips) (arg28 : BitVec 32) (v227 : BitVec 32) (k0_hw12 : k0_chk12 k0_t3 v39 v64 k0_t4 arg28 v227), 128 ∣ (k0_mult9 k0_t3 v39 v64 k0_t4 v227).toNat := fun k0_t3 v39 v64 k0_t4 arg28 v227 k0_hw12 => k0_hw12.1
theorem k0_sz7_squeezes : ∀ (k0_t3 : Fin k0_t3_loop.trips) (v39 : BitVec 32) (v64 : BitVec 32) (k0_t4 : Fin (k0_t4_loop k0_t3 v39 v64).trips) (arg28 : BitVec 32) (v227 : BitVec 32) (k0_hw12 : k0_chk12 k0_t3 v39 v64 k0_t4 arg28 v227), (⟨3, (k0_off29 k0_t3 v39 v64 k0_t4 arg28 v227).2⟩ : Shape).Squeezes ⟨2, k0_sz7 k0_t3 v39 v64 k0_t4 v227⟩ := fun k0_t3 v39 v64 k0_t4 arg28 v227 k0_hw12 => k0_hw12.2.1
theorem k0_sz8_squeezes : ∀ (k0_t3 : Fin k0_t3_loop.trips) (v39 : BitVec 32) (v64 : BitVec 32) (k0_t4 : Fin (k0_t4_loop k0_t3 v39 v64).trips) (arg28 : BitVec 32) (v227 : BitVec 32) (k0_hw12 : k0_chk12 k0_t3 v39 v64 k0_t4 arg28 v227), (⟨4, (k0_off30 k0_t3 v39 v64 k0_t4 v227).2⟩ : Shape).Squeezes ⟨2, k0_sz8 k0_t3 v39 v64 k0_t4 v227⟩ := fun k0_t3 v39 v64 k0_t4 arg28 v227 k0_hw12 => k0_hw12.2.2

def k0_off31 (arg27 : BitVec 32) : Fin 3 → Nat :=
  let v290 : Index := Scalar.indexCast arg27
  let c0_146 : Index := 0#32
  let c0_147 : Index := 0#32
  ![v290.toNat, 0, 0]
def k0_off32 (arg27 : BitVec 32) : Fin 3 → Nat :=
  let v293 : Index := Scalar.indexCast arg27
  let c1024 : Index := 1024#32
  let c0_148 : Index := 0#32
  ![v293.toNat, 1024, 0]

def k0_chk11 (arg27 : BitVec 32) : Prop :=
  (∀ a, (k0_off24 arg27) a + S1.size a ≤ S12.size a) ∧
  (∀ a, (k0_off31 arg27) a + S1x1024x128.size a ≤ S12x2048x128.size a) ∧
  (∀ a, (k0_off32 arg27) a + S1x1024x128.size a ≤ S12x2048x128.size a)
theorem k0_off24_inb : ∀ (arg27 : BitVec 32) (k0_hw11 : k0_chk11 arg27), ∀ a, (k0_off24 arg27) a + S1.size a ≤ S12.size a := fun arg27 k0_hw11 => k0_hw11.1
theorem k0_off31_inb : ∀ (arg27 : BitVec 32) (k0_hw11 : k0_chk11 arg27), ∀ a, (k0_off31 arg27) a + S1x1024x128.size a ≤ S12x2048x128.size a := fun arg27 k0_hw11 => k0_hw11.2.1
theorem k0_off32_inb : ∀ (arg27 : BitVec 32) (k0_hw11 : k0_chk11 arg27), ∀ a, (k0_off32 arg27) a + S1x1024x128.size a ≤ S12x2048x128.size a := fun arg27 k0_hw11 => k0_hw11.2.2

def k0_off33 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_145 : BitVec 32 := 2#32
  let v289 : BitVec 32 := Scalar.remsi v17 c2_i32_145
  let v297 : Index := Scalar.indexCast v289
  let c0_149 : Index := 0#32
  let c0_150 : Index := 0#32
  ![v297.toNat, 0, 0]
def k0_off34 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_154 : BitVec 32 := 0#32
  let v304 : BitVec 1 := Scalar.cmpi .sgt v17 c0_i32_154
  let v305 : BitVec 32 := Scalar.extui v304
  let c0_i32_155 : BitVec 32 := 0#32
  let v306 : BitVec 1 := Scalar.cmpi .slt v17 c0_i32_155
  let v307 : BitVec 32 := Scalar.extui v306
  let v308 : BitVec 32 := Scalar.subi v305 v307
  let c12_i32_153 : BitVec 32 := 12#32
  let c0_i32_156 : BitVec 32 := 0#32
  let v309 : BitVec 1 := Scalar.cmpi .sgt c12_i32_153 c0_i32_156
  let v310 : BitVec 32 := Scalar.extui v309
  let c0_i32_157 : BitVec 32 := 0#32
  let v311 : BitVec 1 := Scalar.cmpi .slt c12_i32_153 c0_i32_157
  let v312 : BitVec 32 := Scalar.extui v311
  let v313 : BitVec 32 := Scalar.subi v310 v312
  let v314 : BitVec 1 := Scalar.cmpi .ne v308 v313
  let v315 : BitVec 32 := Scalar.remsi v17 c12_i32_153
  let c0_i32_158 : BitVec 32 := 0#32
  let v316 : BitVec 1 := Scalar.cmpi .ne v315 c0_i32_158
  let v317 : BitVec 1 := Scalar.andi v314 v316
  let v303 : BitVec 32 := Scalar.divsi v17 c12_i32_153
  let c1_i32_159 : BitVec 32 := 1#32
  let v318 : BitVec 32 := Scalar.subi v303 c1_i32_159
  let v319 : BitVec 32 := Scalar.select v317 v318 v303
  let v320 : Index := Scalar.indexCast v319
  ![v320.toNat]
def k0_off35 (k0_t3 : Fin k0_t3_loop.trips) (v39 : BitVec 32) (v64 : BitVec 32) (k0_t4 : Fin (k0_t4_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_145 : BitVec 32 := 2#32
  let v289 : BitVec 32 := Scalar.remsi v17 c2_i32_145
  let v329 : Index := Scalar.indexCast v289
  let c0_i32_58 : BitVec 32 := 0#32
  let c1_i32_60 : BitVec 32 := 1#32
  let arg26 : BitVec 32 := Scf.iv c0_i32_58 c1_i32_60 k0_t4
  let v330 : Index := Scalar.indexCast arg26
  let c0_163 : Index := 0#32
  let c0_164 : Index := 0#32
  ![v329.toNat, v330.toNat, 0, 0]
def k0_off36 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_145 : BitVec 32 := 2#32
  let v289 : BitVec 32 := Scalar.remsi v17 c2_i32_145
  let v349 : Index := Scalar.indexCast v289
  let c0_165 : Index := 0#32
  let c0_166 : Index := 0#32
  ![v349.toNat, 0, 0]
def k0_off37 (k0_t3 : Fin k0_t3_loop.trips) (v39 : BitVec 32) (v64 : BitVec 32) (k0_t4 : Fin (k0_t4_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c2_i32_169 : BitVec 32 := 2#32
  let v357 : BitVec 32 := Scalar.remsi v19 c2_i32_169
  let v358 : Index := Scalar.indexCast v357
  let c0_i32_58 : BitVec 32 := 0#32
  let c1_i32_60 : BitVec 32 := 1#32
  let arg26 : BitVec 32 := Scf.iv c0_i32_58 c1_i32_60 k0_t4
  let v359 : Index := Scalar.indexCast arg26
  let c0_170 : Index := 0#32
  let c0_171 : Index := 0#32
  ![v358.toNat, v359.toNat, 0, 0]
def k0_off38 (arg28 : BitVec 32) : Fin 3 → Nat :=
  let v394 : Index := Scalar.indexCast arg28
  let c0_180 : Index := 0#32
  let c0_181 : Index := 0#32
  ![v394.toNat, 0, 0]

def k0_chk13 (arg28 : BitVec 32) : Prop :=
  (∀ a, (k0_off28 arg28) a + S1.size a ≤ S12.size a) ∧
  (∀ a, (k0_off38 arg28) a + S1x128x2048.size a ≤ S12x128x2048.size a)
theorem k0_off28_inb : ∀ (arg28 : BitVec 32) (k0_hw13 : k0_chk13 arg28), ∀ a, (k0_off28 arg28) a + S1.size a ≤ S12.size a := fun arg28 k0_hw13 => k0_hw13.1
theorem k0_off38_inb : ∀ (arg28 : BitVec 32) (k0_hw13 : k0_chk13 arg28), ∀ a, (k0_off38 arg28) a + S1x128x2048.size a ≤ S12x128x2048.size a := fun arg28 k0_hw13 => k0_hw13.2

def k0_off39 (arg29 : BitVec 32) : Fin 1 → Nat :=
  let c0_i32_234 : BitVec 32 := 0#32
  let v485 : BitVec 1 := Scalar.cmpi .sgt arg29 c0_i32_234
  let v486 : BitVec 32 := Scalar.extui v485
  let c0_i32_235 : BitVec 32 := 0#32
  let v487 : BitVec 1 := Scalar.cmpi .slt arg29 c0_i32_235
  let v488 : BitVec 32 := Scalar.extui v487
  let v489 : BitVec 32 := Scalar.subi v486 v488
  let c12_i32_233 : BitVec 32 := 12#32
  let c0_i32_236 : BitVec 32 := 0#32
  let v490 : BitVec 1 := Scalar.cmpi .sgt c12_i32_233 c0_i32_236
  let v491 : BitVec 32 := Scalar.extui v490
  let c0_i32_237 : BitVec 32 := 0#32
  let v492 : BitVec 1 := Scalar.cmpi .slt c12_i32_233 c0_i32_237
  let v493 : BitVec 32 := Scalar.extui v492
  let v494 : BitVec 32 := Scalar.subi v491 v493
  let v495 : BitVec 1 := Scalar.cmpi .ne v489 v494
  let v496 : BitVec 32 := Scalar.remsi arg29 c12_i32_233
  let c0_i32_238 : BitVec 32 := 0#32
  let v497 : BitVec 1 := Scalar.cmpi .ne v496 c0_i32_238
  let v498 : BitVec 1 := Scalar.andi v495 v497
  let v484 : BitVec 32 := Scalar.divsi arg29 c12_i32_233
  let c1_i32_239 : BitVec 32 := 1#32
  let v499 : BitVec 32 := Scalar.subi v484 c1_i32_239
  let v500 : BitVec 32 := Scalar.select v498 v499 v484
  let v501 : Index := Scalar.indexCast v500
  ![v501.toNat]
def k0_cond6 (arg29 : BitVec 32) : BitVec 1 :=
  let c36_i32_185 : BitVec 32 := 36#32
  let v402 : BitVec 1 := Scalar.cmpi .slt arg29 c36_i32_185
  let v403 : BitVec 32 := Scalar.extui v402
  let c0_i32_186 : BitVec 32 := 0#32
  let v404 : BitVec 1 := Scalar.cmpi .ne v403 c0_i32_186
  v404

def k0_mult11 (arg30 : BitVec 32) (v502 : BitVec 32) : BitVec 32 :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  v527

def k0_mult12 (arg30 : BitVec 32) : BitVec 32 :=
  let c2048_i32_267 : BitVec 32 := 2048#32
  let v556 : BitVec 32 := Scalar.muli arg30 c2048_i32_267
  v556

def k0_chk16 (arg29 : BitVec 32) (arg30 : BitVec 32) : Prop :=
  (∀ (k0_h6 : k0_cond6 arg29 = 1#1), 2048 ∣ (k0_mult12 arg30).toNat)
theorem k0_mult12_dvd : ∀ (arg29 : BitVec 32) (arg30 : BitVec 32) (k0_hw16 : k0_chk16 arg29 arg30), ∀ (k0_h6 : k0_cond6 arg29 = 1#1), 2048 ∣ (k0_mult12 arg30).toNat := fun arg29 arg30 k0_hw16 k0_h6 => k0_hw16 k0_h6

def k0_off40 (arg27 : BitVec 32) : Fin 1 → Nat :=
  ![arg27.toNat]
def k0_off41 (arg27 : BitVec 32) (arg30 : BitVec 32) (v502 : BitVec 32) : (Fin 3 → Nat) × (Fin 3 → Nat) :=
  let c0_i32_268 : BitVec 32 := 0#32
  let c0_i32_269 : BitVec 32 := 0#32
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![arg27.toNat, 0, 0], ![1, v528.toNat, 128]⟩
def k0_sz9 (arg30 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![v528.toNat, 128]
def k0_off42 (arg29 : BitVec 32) (arg30 : BitVec 32) (v502 : BitVec 32) : (Fin 4 → Nat) × (Fin 4 → Nat) :=
  let c0_i32_255 : BitVec 32 := 0#32
  let v530 : BitVec 1 := Scalar.cmpi .sgt arg29 c0_i32_255
  let v531 : BitVec 32 := Scalar.extui v530
  let c0_i32_256 : BitVec 32 := 0#32
  let v532 : BitVec 1 := Scalar.cmpi .slt arg29 c0_i32_256
  let v533 : BitVec 32 := Scalar.extui v532
  let v534 : BitVec 32 := Scalar.subi v531 v533
  let c12_i32_254 : BitVec 32 := 12#32
  let c0_i32_257 : BitVec 32 := 0#32
  let v535 : BitVec 1 := Scalar.cmpi .sgt c12_i32_254 c0_i32_257
  let v536 : BitVec 32 := Scalar.extui v535
  let c0_i32_258 : BitVec 32 := 0#32
  let v537 : BitVec 1 := Scalar.cmpi .slt c12_i32_254 c0_i32_258
  let v538 : BitVec 32 := Scalar.extui v537
  let v539 : BitVec 32 := Scalar.subi v536 v538
  let v540 : BitVec 1 := Scalar.cmpi .ne v534 v539
  let v541 : BitVec 32 := Scalar.remsi arg29 c12_i32_254
  let c0_i32_259 : BitVec 32 := 0#32
  let v542 : BitVec 1 := Scalar.cmpi .ne v541 c0_i32_259
  let v543 : BitVec 1 := Scalar.andi v540 v542
  let v529 : BitVec 32 := Scalar.divsi arg29 c12_i32_254
  let c1_i32_260 : BitVec 32 := 1#32
  let v544 : BitVec 32 := Scalar.subi v529 c1_i32_260
  let v545 : BitVec 32 := Scalar.select v543 v544 v529
  let c12_i32_261 : BitVec 32 := 12#32
  let c0_i32_262 : BitVec 32 := 0#32
  let v546 : BitVec 1 := Scalar.cmpi .eq c12_i32_261 c0_i32_262
  let c1_i32_263 : BitVec 32 := 1#32
  let v547 : BitVec 32 := Scalar.select v546 c1_i32_263 c12_i32_261
  let v548 : BitVec 32 := Scalar.remsi arg29 v547
  let c0_i32_265 : BitVec 32 := 0#32
  let v550 : BitVec 1 := Scalar.cmpi .slt v548 c0_i32_265
  let c0_i32_266 : BitVec 32 := 0#32
  let v551 : BitVec 1 := Scalar.cmpi .slt v547 c0_i32_266
  let v552 : BitVec 1 := Scalar.xori v550 v551
  let c0_i32_264 : BitVec 32 := 0#32
  let v549 : BitVec 1 := Scalar.cmpi .ne v548 c0_i32_264
  let v553 : BitVec 1 := Scalar.andi v552 v549
  let v554 : BitVec 32 := Scalar.addi v548 v547
  let v555 : BitVec 32 := Scalar.select v553 v554 v548
  let c2048_i32_267 : BitVec 32 := 2048#32
  let v556 : BitVec 32 := Scalar.muli arg30 c2048_i32_267
  let v557 : BitVec 32 := v556
  let c0_i32_270 : BitVec 32 := 0#32
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![v545.toNat, v555.toNat, v557.toNat, 0], ![1, 1, v528.toNat, 128]⟩
def k0_sz10 (arg30 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![v528.toNat, 128]

def k0_chk15 (arg27 : BitVec 32) (arg29 : BitVec 32) (arg30 : BitVec 32) (v502 : BitVec 32) : Prop :=
  (∀ (k0_h6 : k0_cond6 arg29 = 1#1), 128 ∣ (k0_mult11 arg30 v502).toNat) ∧
  (∀ (k0_h6 : k0_cond6 arg29 = 1#1), ∀ a, (k0_off41 arg27 arg30 v502).2 a = 0 ∨ (k0_off41 arg27 arg30 v502).1 a + (k0_off41 arg27 arg30 v502).2 a ≤ S12x2048x128.size a) ∧
  (∀ (k0_h6 : k0_cond6 arg29 = 1#1), (⟨3, (k0_off41 arg27 arg30 v502).2⟩ : Shape).Squeezes ⟨2, k0_sz9 arg30 v502⟩) ∧
  (∀ (k0_h6 : k0_cond6 arg29 = 1#1), ∀ a, (k0_off42 arg29 arg30 v502).2 a = 0 ∨ (k0_off42 arg29 arg30 v502).1 a + (k0_off42 arg29 arg30 v502).2 a ≤ S3x12x16384x128.size a) ∧
  (∀ (k0_h6 : k0_cond6 arg29 = 1#1), (⟨4, (k0_off42 arg29 arg30 v502).2⟩ : Shape).Squeezes ⟨2, k0_sz10 arg30 v502⟩) ∧
  (∀ (k0_h6 : k0_cond6 arg29 = 1#1), ∀ (hinb : ∀ a, (k0_off42 arg29 arg30 v502).2 a = 0 ∨ (k0_off42 arg29 arg30 v502).1 a + (k0_off42 arg29 arg30 v502).2 a ≤ S3x12x16384x128.size a), (Rect.unitDyn (s := S3x12x16384x128) (k0_off42 arg29 arg30 v502).1 (k0_off42 arg29 arg30 v502).2 hinb).WholeWords (EltTy.packing .bf16)) ∧
  (∀ (k0_h6 : k0_cond6 arg29 = 1#1), ∀ (hinb : ∀ a, (k0_off41 arg27 arg30 v502).2 a = 0 ∨ (k0_off41 arg27 arg30 v502).1 a + (k0_off41 arg27 arg30 v502).2 a ≤ S12x2048x128.size a), (Rect.unitDyn (s := S12x2048x128) (k0_off41 arg27 arg30 v502).1 (k0_off41 arg27 arg30 v502).2 hinb).WholeWords (EltTy.packing .bf16))
theorem k0_mult11_dvd : ∀ (arg27 : BitVec 32) (arg29 : BitVec 32) (arg30 : BitVec 32) (v502 : BitVec 32) (k0_hw15 : k0_chk15 arg27 arg29 arg30 v502), ∀ (k0_h6 : k0_cond6 arg29 = 1#1), 128 ∣ (k0_mult11 arg30 v502).toNat := fun arg27 arg29 arg30 v502 k0_hw15 k0_h6 => k0_hw15.1 k0_h6
theorem k0_off41_inb : ∀ (arg27 : BitVec 32) (arg29 : BitVec 32) (arg30 : BitVec 32) (v502 : BitVec 32) (k0_hw15 : k0_chk15 arg27 arg29 arg30 v502), ∀ (k0_h6 : k0_cond6 arg29 = 1#1), ∀ a, (k0_off41 arg27 arg30 v502).2 a = 0 ∨ (k0_off41 arg27 arg30 v502).1 a + (k0_off41 arg27 arg30 v502).2 a ≤ S12x2048x128.size a := fun arg27 arg29 arg30 v502 k0_hw15 k0_h6 => k0_hw15.2.1 k0_h6
theorem k0_sz9_squeezes : ∀ (arg27 : BitVec 32) (arg29 : BitVec 32) (arg30 : BitVec 32) (v502 : BitVec 32) (k0_hw15 : k0_chk15 arg27 arg29 arg30 v502), ∀ (k0_h6 : k0_cond6 arg29 = 1#1), (⟨3, (k0_off41 arg27 arg30 v502).2⟩ : Shape).Squeezes ⟨2, k0_sz9 arg30 v502⟩ := fun arg27 arg29 arg30 v502 k0_hw15 k0_h6 => k0_hw15.2.2.1 k0_h6
theorem k0_off42_inb : ∀ (arg27 : BitVec 32) (arg29 : BitVec 32) (arg30 : BitVec 32) (v502 : BitVec 32) (k0_hw15 : k0_chk15 arg27 arg29 arg30 v502), ∀ (k0_h6 : k0_cond6 arg29 = 1#1), ∀ a, (k0_off42 arg29 arg30 v502).2 a = 0 ∨ (k0_off42 arg29 arg30 v502).1 a + (k0_off42 arg29 arg30 v502).2 a ≤ S3x12x16384x128.size a := fun arg27 arg29 arg30 v502 k0_hw15 k0_h6 => k0_hw15.2.2.2.1 k0_h6
theorem k0_sz10_squeezes : ∀ (arg27 : BitVec 32) (arg29 : BitVec 32) (arg30 : BitVec 32) (v502 : BitVec 32) (k0_hw15 : k0_chk15 arg27 arg29 arg30 v502), ∀ (k0_h6 : k0_cond6 arg29 = 1#1), (⟨4, (k0_off42 arg29 arg30 v502).2⟩ : Shape).Squeezes ⟨2, k0_sz10 arg30 v502⟩ := fun arg27 arg29 arg30 v502 k0_hw15 k0_h6 => k0_hw15.2.2.2.2.1 k0_h6
theorem k0_off42_wordsbf16 : ∀ (arg27 : BitVec 32) (arg29 : BitVec 32) (arg30 : BitVec 32) (v502 : BitVec 32) (k0_hw15 : k0_chk15 arg27 arg29 arg30 v502), ∀ (k0_h6 : k0_cond6 arg29 = 1#1), (Rect.unitDyn (s := S3x12x16384x128) (k0_off42 arg29 arg30 v502).1 (k0_off42 arg29 arg30 v502).2 (k0_off42_inb arg27 arg29 arg30 v502 k0_hw15 k0_h6)).WholeWords (EltTy.packing .bf16) := fun arg27 arg29 arg30 v502 k0_hw15 k0_h6 => k0_hw15.2.2.2.2.2.1 k0_h6 (k0_off42_inb arg27 arg29 arg30 v502 k0_hw15 k0_h6)
theorem k0_off41_wordsbf16 : ∀ (arg27 : BitVec 32) (arg29 : BitVec 32) (arg30 : BitVec 32) (v502 : BitVec 32) (k0_hw15 : k0_chk15 arg27 arg29 arg30 v502), ∀ (k0_h6 : k0_cond6 arg29 = 1#1), (Rect.unitDyn (s := S12x2048x128) (k0_off41 arg27 arg30 v502).1 (k0_off41 arg27 arg30 v502).2 (k0_off41_inb arg27 arg29 arg30 v502 k0_hw15 k0_h6)).WholeWords (EltTy.packing .bf16) := fun arg27 arg29 arg30 v502 k0_hw15 k0_h6 => k0_hw15.2.2.2.2.2.2 k0_h6 (k0_off41_inb arg27 arg29 arg30 v502 k0_hw15 k0_h6)

def k0_off43 (arg29 : BitVec 32) : Fin 1 → Nat :=
  let c35_i32_187 : BitVec 32 := 35#32
  let v405 : BitVec 32 := Scalar.minsi arg29 c35_i32_187
  let c0_i32_190 : BitVec 32 := 0#32
  let v408 : BitVec 1 := Scalar.cmpi .sgt v405 c0_i32_190
  let v409 : BitVec 32 := Scalar.extui v408
  let c0_i32_191 : BitVec 32 := 0#32
  let v410 : BitVec 1 := Scalar.cmpi .slt v405 c0_i32_191
  let v411 : BitVec 32 := Scalar.extui v410
  let v412 : BitVec 32 := Scalar.subi v409 v411
  let c12_i32_189 : BitVec 32 := 12#32
  let c0_i32_192 : BitVec 32 := 0#32
  let v413 : BitVec 1 := Scalar.cmpi .sgt c12_i32_189 c0_i32_192
  let v414 : BitVec 32 := Scalar.extui v413
  let c0_i32_193 : BitVec 32 := 0#32
  let v415 : BitVec 1 := Scalar.cmpi .slt c12_i32_189 c0_i32_193
  let v416 : BitVec 32 := Scalar.extui v415
  let v417 : BitVec 32 := Scalar.subi v414 v416
  let v418 : BitVec 1 := Scalar.cmpi .ne v412 v417
  let v419 : BitVec 32 := Scalar.remsi v405 c12_i32_189
  let c0_i32_194 : BitVec 32 := 0#32
  let v420 : BitVec 1 := Scalar.cmpi .ne v419 c0_i32_194
  let v421 : BitVec 1 := Scalar.andi v418 v420
  let v407 : BitVec 32 := Scalar.divsi v405 c12_i32_189
  let c1_i32_195 : BitVec 32 := 1#32
  let v422 : BitVec 32 := Scalar.subi v407 c1_i32_195
  let v423 : BitVec 32 := Scalar.select v421 v422 v407
  let v424 : Index := Scalar.indexCast v423
  ![v424.toNat]

def k0_chk14 (arg27 : BitVec 32) (arg29 : BitVec 32) : Prop :=
  (∀ (k0_h6 : k0_cond6 arg29 = 1#1), ∀ a, (k0_off39 arg29) a + S1.size a ≤ S3.size a) ∧
  (∀ (k0_h6 : k0_cond6 arg29 = 1#1), ∀ a, (k0_off40 arg27) a + S1.size a ≤ S12.size a) ∧
  (∀ a, (k0_off43 arg29) a + S1.size a ≤ S3.size a)
theorem k0_off39_inb : ∀ (arg27 : BitVec 32) (arg29 : BitVec 32) (k0_hw14 : k0_chk14 arg27 arg29), ∀ (k0_h6 : k0_cond6 arg29 = 1#1), ∀ a, (k0_off39 arg29) a + S1.size a ≤ S3.size a := fun arg27 arg29 k0_hw14 k0_h6 => k0_hw14.1 k0_h6
theorem k0_off40_inb : ∀ (arg27 : BitVec 32) (arg29 : BitVec 32) (k0_hw14 : k0_chk14 arg27 arg29), ∀ (k0_h6 : k0_cond6 arg29 = 1#1), ∀ a, (k0_off40 arg27) a + S1.size a ≤ S12.size a := fun arg27 arg29 k0_hw14 k0_h6 => k0_hw14.2.1 k0_h6
theorem k0_off43_inb : ∀ (arg27 : BitVec 32) (arg29 : BitVec 32) (k0_hw14 : k0_chk14 arg27 arg29), ∀ a, (k0_off43 arg29) a + S1.size a ≤ S3.size a := fun arg27 arg29 k0_hw14 => k0_hw14.2.2

def k0_off44 (arg31 : BitVec 32) : Fin 1 → Nat :=
  let c0_i32_234 : BitVec 32 := 0#32
  let v485 : BitVec 1 := Scalar.cmpi .sgt arg31 c0_i32_234
  let v486 : BitVec 32 := Scalar.extui v485
  let c0_i32_235 : BitVec 32 := 0#32
  let v487 : BitVec 1 := Scalar.cmpi .slt arg31 c0_i32_235
  let v488 : BitVec 32 := Scalar.extui v487
  let v489 : BitVec 32 := Scalar.subi v486 v488
  let c12_i32_233 : BitVec 32 := 12#32
  let c0_i32_236 : BitVec 32 := 0#32
  let v490 : BitVec 1 := Scalar.cmpi .sgt c12_i32_233 c0_i32_236
  let v491 : BitVec 32 := Scalar.extui v490
  let c0_i32_237 : BitVec 32 := 0#32
  let v492 : BitVec 1 := Scalar.cmpi .slt c12_i32_233 c0_i32_237
  let v493 : BitVec 32 := Scalar.extui v492
  let v494 : BitVec 32 := Scalar.subi v491 v493
  let v495 : BitVec 1 := Scalar.cmpi .ne v489 v494
  let v496 : BitVec 32 := Scalar.remsi arg31 c12_i32_233
  let c0_i32_238 : BitVec 32 := 0#32
  let v497 : BitVec 1 := Scalar.cmpi .ne v496 c0_i32_238
  let v498 : BitVec 1 := Scalar.andi v495 v497
  let v484 : BitVec 32 := Scalar.divsi arg31 c12_i32_233
  let c1_i32_239 : BitVec 32 := 1#32
  let v499 : BitVec 32 := Scalar.subi v484 c1_i32_239
  let v500 : BitVec 32 := Scalar.select v498 v499 v484
  let v501 : Index := Scalar.indexCast v500
  ![v501.toNat]
def k0_cond7 (arg31 : BitVec 32) : BitVec 1 :=
  let c36_i32_205 : BitVec 32 := 36#32
  let v439 : BitVec 1 := Scalar.cmpi .slt arg31 c36_i32_205
  let v440 : BitVec 32 := Scalar.extui v439
  let c0_i32_206 : BitVec 32 := 0#32
  let v441 : BitVec 1 := Scalar.cmpi .ne v440 c0_i32_206
  v441

def k0_mult13 (arg32 : BitVec 32) (v502 : BitVec 32) : BitVec 32 :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  v527

def k0_mult14 (arg32 : BitVec 32) : BitVec 32 :=
  let c2048_i32_267 : BitVec 32 := 2048#32
  let v556 : BitVec 32 := Scalar.muli arg32 c2048_i32_267
  v556

def k0_chk19 (arg31 : BitVec 32) (arg32 : BitVec 32) : Prop :=
  (∀ (k0_h7 : k0_cond7 arg31 = 1#1), 2048 ∣ (k0_mult14 arg32).toNat)
theorem k0_mult14_dvd : ∀ (arg31 : BitVec 32) (arg32 : BitVec 32) (k0_hw19 : k0_chk19 arg31 arg32), ∀ (k0_h7 : k0_cond7 arg31 = 1#1), 2048 ∣ (k0_mult14 arg32).toNat := fun arg31 arg32 k0_hw19 k0_h7 => k0_hw19 k0_h7

def k0_off45 (arg28 : BitVec 32) : Fin 1 → Nat :=
  ![arg28.toNat]
def k0_off46 (arg28 : BitVec 32) (arg32 : BitVec 32) (v502 : BitVec 32) : (Fin 3 → Nat) × (Fin 3 → Nat) :=
  let c0_i32_268 : BitVec 32 := 0#32
  let c0_i32_269 : BitVec 32 := 0#32
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![arg28.toNat, 0, 0], ![1, 128, v528.toNat]⟩
def k0_sz11 (arg32 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![128, v528.toNat]
def k0_off47 (arg31 : BitVec 32) (arg32 : BitVec 32) (v502 : BitVec 32) : (Fin 4 → Nat) × (Fin 4 → Nat) :=
  let c0_i32_255 : BitVec 32 := 0#32
  let v530 : BitVec 1 := Scalar.cmpi .sgt arg31 c0_i32_255
  let v531 : BitVec 32 := Scalar.extui v530
  let c0_i32_256 : BitVec 32 := 0#32
  let v532 : BitVec 1 := Scalar.cmpi .slt arg31 c0_i32_256
  let v533 : BitVec 32 := Scalar.extui v532
  let v534 : BitVec 32 := Scalar.subi v531 v533
  let c12_i32_254 : BitVec 32 := 12#32
  let c0_i32_257 : BitVec 32 := 0#32
  let v535 : BitVec 1 := Scalar.cmpi .sgt c12_i32_254 c0_i32_257
  let v536 : BitVec 32 := Scalar.extui v535
  let c0_i32_258 : BitVec 32 := 0#32
  let v537 : BitVec 1 := Scalar.cmpi .slt c12_i32_254 c0_i32_258
  let v538 : BitVec 32 := Scalar.extui v537
  let v539 : BitVec 32 := Scalar.subi v536 v538
  let v540 : BitVec 1 := Scalar.cmpi .ne v534 v539
  let v541 : BitVec 32 := Scalar.remsi arg31 c12_i32_254
  let c0_i32_259 : BitVec 32 := 0#32
  let v542 : BitVec 1 := Scalar.cmpi .ne v541 c0_i32_259
  let v543 : BitVec 1 := Scalar.andi v540 v542
  let v529 : BitVec 32 := Scalar.divsi arg31 c12_i32_254
  let c1_i32_260 : BitVec 32 := 1#32
  let v544 : BitVec 32 := Scalar.subi v529 c1_i32_260
  let v545 : BitVec 32 := Scalar.select v543 v544 v529
  let c12_i32_261 : BitVec 32 := 12#32
  let c0_i32_262 : BitVec 32 := 0#32
  let v546 : BitVec 1 := Scalar.cmpi .eq c12_i32_261 c0_i32_262
  let c1_i32_263 : BitVec 32 := 1#32
  let v547 : BitVec 32 := Scalar.select v546 c1_i32_263 c12_i32_261
  let v548 : BitVec 32 := Scalar.remsi arg31 v547
  let c0_i32_265 : BitVec 32 := 0#32
  let v550 : BitVec 1 := Scalar.cmpi .slt v548 c0_i32_265
  let c0_i32_266 : BitVec 32 := 0#32
  let v551 : BitVec 1 := Scalar.cmpi .slt v547 c0_i32_266
  let v552 : BitVec 1 := Scalar.xori v550 v551
  let c0_i32_264 : BitVec 32 := 0#32
  let v549 : BitVec 1 := Scalar.cmpi .ne v548 c0_i32_264
  let v553 : BitVec 1 := Scalar.andi v552 v549
  let v554 : BitVec 32 := Scalar.addi v548 v547
  let v555 : BitVec 32 := Scalar.select v553 v554 v548
  let c0_i32_270 : BitVec 32 := 0#32
  let c2048_i32_267 : BitVec 32 := 2048#32
  let v556 : BitVec 32 := Scalar.muli arg32 c2048_i32_267
  let v557 : BitVec 32 := v556
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![v545.toNat, v555.toNat, 0, v557.toNat], ![1, 1, 128, v528.toNat]⟩
def k0_sz12 (arg32 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![128, v528.toNat]

def k0_chk18 (arg28 : BitVec 32) (arg31 : BitVec 32) (arg32 : BitVec 32) (v502 : BitVec 32) : Prop :=
  (∀ (k0_h7 : k0_cond7 arg31 = 1#1), 128 ∣ (k0_mult13 arg32 v502).toNat) ∧
  (∀ (k0_h7 : k0_cond7 arg31 = 1#1), ∀ a, (k0_off46 arg28 arg32 v502).2 a = 0 ∨ (k0_off46 arg28 arg32 v502).1 a + (k0_off46 arg28 arg32 v502).2 a ≤ S12x128x2048.size a) ∧
  (∀ (k0_h7 : k0_cond7 arg31 = 1#1), (⟨3, (k0_off46 arg28 arg32 v502).2⟩ : Shape).Squeezes ⟨2, k0_sz11 arg32 v502⟩) ∧
  (∀ (k0_h7 : k0_cond7 arg31 = 1#1), ∀ a, (k0_off47 arg31 arg32 v502).2 a = 0 ∨ (k0_off47 arg31 arg32 v502).1 a + (k0_off47 arg31 arg32 v502).2 a ≤ S3x12x128x16384.size a) ∧
  (∀ (k0_h7 : k0_cond7 arg31 = 1#1), (⟨4, (k0_off47 arg31 arg32 v502).2⟩ : Shape).Squeezes ⟨2, k0_sz12 arg32 v502⟩) ∧
  (∀ (k0_h7 : k0_cond7 arg31 = 1#1), ∀ (hinb : ∀ a, (k0_off47 arg31 arg32 v502).2 a = 0 ∨ (k0_off47 arg31 arg32 v502).1 a + (k0_off47 arg31 arg32 v502).2 a ≤ S3x12x128x16384.size a), (Rect.unitDyn (s := S3x12x128x16384) (k0_off47 arg31 arg32 v502).1 (k0_off47 arg31 arg32 v502).2 hinb).WholeWords (EltTy.packing .fp8e4m3)) ∧
  (∀ (k0_h7 : k0_cond7 arg31 = 1#1), ∀ (hinb : ∀ a, (k0_off46 arg28 arg32 v502).2 a = 0 ∨ (k0_off46 arg28 arg32 v502).1 a + (k0_off46 arg28 arg32 v502).2 a ≤ S12x128x2048.size a), (Rect.unitDyn (s := S12x128x2048) (k0_off46 arg28 arg32 v502).1 (k0_off46 arg28 arg32 v502).2 hinb).WholeWords (EltTy.packing .fp8e4m3))
theorem k0_mult13_dvd : ∀ (arg28 : BitVec 32) (arg31 : BitVec 32) (arg32 : BitVec 32) (v502 : BitVec 32) (k0_hw18 : k0_chk18 arg28 arg31 arg32 v502), ∀ (k0_h7 : k0_cond7 arg31 = 1#1), 128 ∣ (k0_mult13 arg32 v502).toNat := fun arg28 arg31 arg32 v502 k0_hw18 k0_h7 => k0_hw18.1 k0_h7
theorem k0_off46_inb : ∀ (arg28 : BitVec 32) (arg31 : BitVec 32) (arg32 : BitVec 32) (v502 : BitVec 32) (k0_hw18 : k0_chk18 arg28 arg31 arg32 v502), ∀ (k0_h7 : k0_cond7 arg31 = 1#1), ∀ a, (k0_off46 arg28 arg32 v502).2 a = 0 ∨ (k0_off46 arg28 arg32 v502).1 a + (k0_off46 arg28 arg32 v502).2 a ≤ S12x128x2048.size a := fun arg28 arg31 arg32 v502 k0_hw18 k0_h7 => k0_hw18.2.1 k0_h7
theorem k0_sz11_squeezes : ∀ (arg28 : BitVec 32) (arg31 : BitVec 32) (arg32 : BitVec 32) (v502 : BitVec 32) (k0_hw18 : k0_chk18 arg28 arg31 arg32 v502), ∀ (k0_h7 : k0_cond7 arg31 = 1#1), (⟨3, (k0_off46 arg28 arg32 v502).2⟩ : Shape).Squeezes ⟨2, k0_sz11 arg32 v502⟩ := fun arg28 arg31 arg32 v502 k0_hw18 k0_h7 => k0_hw18.2.2.1 k0_h7
theorem k0_off47_inb : ∀ (arg28 : BitVec 32) (arg31 : BitVec 32) (arg32 : BitVec 32) (v502 : BitVec 32) (k0_hw18 : k0_chk18 arg28 arg31 arg32 v502), ∀ (k0_h7 : k0_cond7 arg31 = 1#1), ∀ a, (k0_off47 arg31 arg32 v502).2 a = 0 ∨ (k0_off47 arg31 arg32 v502).1 a + (k0_off47 arg31 arg32 v502).2 a ≤ S3x12x128x16384.size a := fun arg28 arg31 arg32 v502 k0_hw18 k0_h7 => k0_hw18.2.2.2.1 k0_h7
theorem k0_sz12_squeezes : ∀ (arg28 : BitVec 32) (arg31 : BitVec 32) (arg32 : BitVec 32) (v502 : BitVec 32) (k0_hw18 : k0_chk18 arg28 arg31 arg32 v502), ∀ (k0_h7 : k0_cond7 arg31 = 1#1), (⟨4, (k0_off47 arg31 arg32 v502).2⟩ : Shape).Squeezes ⟨2, k0_sz12 arg32 v502⟩ := fun arg28 arg31 arg32 v502 k0_hw18 k0_h7 => k0_hw18.2.2.2.2.1 k0_h7
theorem k0_off47_wordsfp8e4m3 : ∀ (arg28 : BitVec 32) (arg31 : BitVec 32) (arg32 : BitVec 32) (v502 : BitVec 32) (k0_hw18 : k0_chk18 arg28 arg31 arg32 v502), ∀ (k0_h7 : k0_cond7 arg31 = 1#1), (Rect.unitDyn (s := S3x12x128x16384) (k0_off47 arg31 arg32 v502).1 (k0_off47 arg31 arg32 v502).2 (k0_off47_inb arg28 arg31 arg32 v502 k0_hw18 k0_h7)).WholeWords (EltTy.packing .fp8e4m3) := fun arg28 arg31 arg32 v502 k0_hw18 k0_h7 => k0_hw18.2.2.2.2.2.1 k0_h7 (k0_off47_inb arg28 arg31 arg32 v502 k0_hw18 k0_h7)
theorem k0_off46_wordsfp8e4m3 : ∀ (arg28 : BitVec 32) (arg31 : BitVec 32) (arg32 : BitVec 32) (v502 : BitVec 32) (k0_hw18 : k0_chk18 arg28 arg31 arg32 v502), ∀ (k0_h7 : k0_cond7 arg31 = 1#1), (Rect.unitDyn (s := S12x128x2048) (k0_off46 arg28 arg32 v502).1 (k0_off46 arg28 arg32 v502).2 (k0_off46_inb arg28 arg31 arg32 v502 k0_hw18 k0_h7)).WholeWords (EltTy.packing .fp8e4m3) := fun arg28 arg31 arg32 v502 k0_hw18 k0_h7 => k0_hw18.2.2.2.2.2.2 k0_h7 (k0_off46_inb arg28 arg31 arg32 v502 k0_hw18 k0_h7)

def k0_off48 (arg31 : BitVec 32) : Fin 1 → Nat :=
  let c35_i32_207 : BitVec 32 := 35#32
  let v442 : BitVec 32 := Scalar.minsi arg31 c35_i32_207
  let c0_i32_210 : BitVec 32 := 0#32
  let v445 : BitVec 1 := Scalar.cmpi .sgt v442 c0_i32_210
  let v446 : BitVec 32 := Scalar.extui v445
  let c0_i32_211 : BitVec 32 := 0#32
  let v447 : BitVec 1 := Scalar.cmpi .slt v442 c0_i32_211
  let v448 : BitVec 32 := Scalar.extui v447
  let v449 : BitVec 32 := Scalar.subi v446 v448
  let c12_i32_209 : BitVec 32 := 12#32
  let c0_i32_212 : BitVec 32 := 0#32
  let v450 : BitVec 1 := Scalar.cmpi .sgt c12_i32_209 c0_i32_212
  let v451 : BitVec 32 := Scalar.extui v450
  let c0_i32_213 : BitVec 32 := 0#32
  let v452 : BitVec 1 := Scalar.cmpi .slt c12_i32_209 c0_i32_213
  let v453 : BitVec 32 := Scalar.extui v452
  let v454 : BitVec 32 := Scalar.subi v451 v453
  let v455 : BitVec 1 := Scalar.cmpi .ne v449 v454
  let v456 : BitVec 32 := Scalar.remsi v442 c12_i32_209
  let c0_i32_214 : BitVec 32 := 0#32
  let v457 : BitVec 1 := Scalar.cmpi .ne v456 c0_i32_214
  let v458 : BitVec 1 := Scalar.andi v455 v457
  let v444 : BitVec 32 := Scalar.divsi v442 c12_i32_209
  let c1_i32_215 : BitVec 32 := 1#32
  let v459 : BitVec 32 := Scalar.subi v444 c1_i32_215
  let v460 : BitVec 32 := Scalar.select v458 v459 v444
  let v461 : Index := Scalar.indexCast v460
  ![v461.toNat]

def k0_chk17 (arg28 : BitVec 32) (arg31 : BitVec 32) : Prop :=
  (∀ (k0_h7 : k0_cond7 arg31 = 1#1), ∀ a, (k0_off44 arg31) a + S1.size a ≤ S3.size a) ∧
  (∀ (k0_h7 : k0_cond7 arg31 = 1#1), ∀ a, (k0_off45 arg28) a + S1.size a ≤ S12.size a) ∧
  (∀ a, (k0_off48 arg31) a + S1.size a ≤ S3.size a)
theorem k0_off44_inb : ∀ (arg28 : BitVec 32) (arg31 : BitVec 32) (k0_hw17 : k0_chk17 arg28 arg31), ∀ (k0_h7 : k0_cond7 arg31 = 1#1), ∀ a, (k0_off44 arg31) a + S1.size a ≤ S3.size a := fun arg28 arg31 k0_hw17 k0_h7 => k0_hw17.1 k0_h7
theorem k0_off45_inb : ∀ (arg28 : BitVec 32) (arg31 : BitVec 32) (k0_hw17 : k0_chk17 arg28 arg31), ∀ (k0_h7 : k0_cond7 arg31 = 1#1), ∀ a, (k0_off45 arg28) a + S1.size a ≤ S12.size a := fun arg28 arg31 k0_hw17 k0_h7 => k0_hw17.2.1 k0_h7
theorem k0_off48_inb : ∀ (arg28 : BitVec 32) (arg31 : BitVec 32) (k0_hw17 : k0_chk17 arg28 arg31), ∀ a, (k0_off48 arg31) a + S1.size a ≤ S3.size a := fun arg28 arg31 k0_hw17 => k0_hw17.2.2

@[reducible] def k0_t5_loop (k0_t3 : Fin k0_t3_loop.trips) (v39 : BitVec 32) (v64 : BitVec 32) : Scf.Loop 32 :=
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let v106 : BitVec 32 := Scalar.addi c0_i32_58 v105
  let c1_i32_61 : BitVec 32 := 1#32
  ⟨v109, v106, c1_i32_61⟩
def k0_off49 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_71 : BitVec 32 := 0#32
  let v130 : BitVec 1 := Scalar.cmpi .sgt v17 c0_i32_71
  let v131 : BitVec 32 := Scalar.extui v130
  let c0_i32_72 : BitVec 32 := 0#32
  let v132 : BitVec 1 := Scalar.cmpi .slt v17 c0_i32_72
  let v133 : BitVec 32 := Scalar.extui v132
  let v134 : BitVec 32 := Scalar.subi v131 v133
  let c12_i32_70 : BitVec 32 := 12#32
  let c0_i32_73 : BitVec 32 := 0#32
  let v135 : BitVec 1 := Scalar.cmpi .sgt c12_i32_70 c0_i32_73
  let v136 : BitVec 32 := Scalar.extui v135
  let c0_i32_74 : BitVec 32 := 0#32
  let v137 : BitVec 1 := Scalar.cmpi .slt c12_i32_70 c0_i32_74
  let v138 : BitVec 32 := Scalar.extui v137
  let v139 : BitVec 32 := Scalar.subi v136 v138
  let v140 : BitVec 1 := Scalar.cmpi .ne v134 v139
  let v141 : BitVec 32 := Scalar.remsi v17 c12_i32_70
  let c0_i32_75 : BitVec 32 := 0#32
  let v142 : BitVec 1 := Scalar.cmpi .ne v141 c0_i32_75
  let v143 : BitVec 1 := Scalar.andi v140 v142
  let v129 : BitVec 32 := Scalar.divsi v17 c12_i32_70
  let c1_i32_76 : BitVec 32 := 1#32
  let v144 : BitVec 32 := Scalar.subi v129 c1_i32_76
  let v145 : BitVec 32 := Scalar.select v143 v144 v129
  let v146 : Index := Scalar.indexCast v145
  ![v146.toNat]
def k0_mult15 (k0_t3 : Fin k0_t3_loop.trips) (v39 : BitVec 32) (v64 : BitVec 32) (k0_t5 : Fin (k0_t5_loop k0_t3 v39 v64).trips) (v147 : BitVec 32) : BitVec 32 :=
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  v172

def k0_mult16 (k0_t3 : Fin k0_t3_loop.trips) (v39 : BitVec 32) (v64 : BitVec 32) (k0_t5 : Fin (k0_t5_loop k0_t3 v39 v64).trips) : BitVec 32 :=
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_103 : BitVec 32 := 2048#32
  let v201 : BitVec 32 := Scalar.muli arg26 c2048_i32_103
  v201
def k0_off50 (arg27 : BitVec 32) : Fin 1 → Nat :=
  ![arg27.toNat]

def k0_off51 (k0_t3 : Fin k0_t3_loop.trips) (v39 : BitVec 32) (v64 : BitVec 32) (k0_t5 : Fin (k0_t5_loop k0_t3 v39 v64).trips) (arg27 : BitVec 32) (v147 : BitVec 32) : (Fin 3 → Nat) × (Fin 3 → Nat) :=
  let c0_i32_104 : BitVec 32 := 0#32
  let c0_i32_105 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![arg27.toNat, 0, 0], ![1, v173.toNat, 128]⟩

def k0_sz13 (k0_t3 : Fin k0_t3_loop.trips) (v39 : BitVec 32) (v64 : BitVec 32) (k0_t5 : Fin (k0_t5_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]
def k0_off52 (k0_t3 : Fin k0_t3_loop.trips) (v39 : BitVec 32) (v64 : BitVec 32) (k0_t5 : Fin (k0_t5_loop k0_t3 v39 v64).trips) (v147 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_91 : BitVec 32 := 0#32
  let v175 : BitVec 1 := Scalar.cmpi .sgt v17 c0_i32_91
  let v176 : BitVec 32 := Scalar.extui v175
  let c0_i32_92 : BitVec 32 := 0#32
  let v177 : BitVec 1 := Scalar.cmpi .slt v17 c0_i32_92
  let v178 : BitVec 32 := Scalar.extui v177
  let v179 : BitVec 32 := Scalar.subi v176 v178
  let c12_i32_90 : BitVec 32 := 12#32
  let c0_i32_93 : BitVec 32 := 0#32
  let v180 : BitVec 1 := Scalar.cmpi .sgt c12_i32_90 c0_i32_93
  let v181 : BitVec 32 := Scalar.extui v180
  let c0_i32_94 : BitVec 32 := 0#32
  let v182 : BitVec 1 := Scalar.cmpi .slt c12_i32_90 c0_i32_94
  let v183 : BitVec 32 := Scalar.extui v182
  let v184 : BitVec 32 := Scalar.subi v181 v183
  let v185 : BitVec 1 := Scalar.cmpi .ne v179 v184
  let v186 : BitVec 32 := Scalar.remsi v17 c12_i32_90
  let c0_i32_95 : BitVec 32 := 0#32
  let v187 : BitVec 1 := Scalar.cmpi .ne v186 c0_i32_95
  let v188 : BitVec 1 := Scalar.andi v185 v187
  let v174 : BitVec 32 := Scalar.divsi v17 c12_i32_90
  let c1_i32_96 : BitVec 32 := 1#32
  let v189 : BitVec 32 := Scalar.subi v174 c1_i32_96
  let v190 : BitVec 32 := Scalar.select v188 v189 v174
  let c12_i32_97 : BitVec 32 := 12#32
  let c0_i32_98 : BitVec 32 := 0#32
  let v191 : BitVec 1 := Scalar.cmpi .eq c12_i32_97 c0_i32_98
  let c1_i32_99 : BitVec 32 := 1#32
  let v192 : BitVec 32 := Scalar.select v191 c1_i32_99 c12_i32_97
  let v193 : BitVec 32 := Scalar.remsi v17 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c0_i32_58 : BitVec 32 := 0#32
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_103 : BitVec 32 := 2048#32
  let v201 : BitVec 32 := Scalar.muli arg26 c2048_i32_103
  let v202 : BitVec 32 := v201
  let c0_i32_106 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![v190.toNat, v200.toNat, v202.toNat, 0], ![1, 1, v173.toNat, 128]⟩

def k0_sz14 (k0_t3 : Fin k0_t3_loop.trips) (v39 : BitVec 32) (v64 : BitVec 32) (k0_t5 : Fin (k0_t5_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]

def k0_chk20 (k0_t3 : Fin k0_t3_loop.trips) (v39 : BitVec 32) (v64 : BitVec 32) (k0_t5 : Fin (k0_t5_loop k0_t3 v39 v64).trips) (arg27 : BitVec 32) (v147 : BitVec 32) : Prop :=
  (128 ∣ (k0_mult15 k0_t3 v39 v64 k0_t5 v147).toNat) ∧
  ((⟨3, (k0_off51 k0_t3 v39 v64 k0_t5 arg27 v147).2⟩ : Shape).Squeezes ⟨2, k0_sz13 k0_t3 v39 v64 k0_t5 v147⟩) ∧
  ((⟨4, (k0_off52 k0_t3 v39 v64 k0_t5 v147).2⟩ : Shape).Squeezes ⟨2, k0_sz14 k0_t3 v39 v64 k0_t5 v147⟩)
theorem k0_mult15_dvd : ∀ (k0_t3 : Fin k0_t3_loop.trips) (v39 : BitVec 32) (v64 : BitVec 32) (k0_t5 : Fin (k0_t5_loop k0_t3 v39 v64).trips) (arg27 : BitVec 32) (v147 : BitVec 32) (k0_hw20 : k0_chk20 k0_t3 v39 v64 k0_t5 arg27 v147), 128 ∣ (k0_mult15 k0_t3 v39 v64 k0_t5 v147).toNat := fun k0_t3 v39 v64 k0_t5 arg27 v147 k0_hw20 => k0_hw20.1
theorem k0_sz13_squeezes : ∀ (k0_t3 : Fin k0_t3_loop.trips) (v39 : BitVec 32) (v64 : BitVec 32) (k0_t5 : Fin (k0_t5_loop k0_t3 v39 v64).trips) (arg27 : BitVec 32) (v147 : BitVec 32) (k0_hw20 : k0_chk20 k0_t3 v39 v64 k0_t5 arg27 v147), (⟨3, (k0_off51 k0_t3 v39 v64 k0_t5 arg27 v147).2⟩ : Shape).Squeezes ⟨2, k0_sz13 k0_t3 v39 v64 k0_t5 v147⟩ := fun k0_t3 v39 v64 k0_t5 arg27 v147 k0_hw20 => k0_hw20.2.1
theorem k0_sz14_squeezes : ∀ (k0_t3 : Fin k0_t3_loop.trips) (v39 : BitVec 32) (v64 : BitVec 32) (k0_t5 : Fin (k0_t5_loop k0_t3 v39 v64).trips) (arg27 : BitVec 32) (v147 : BitVec 32) (k0_hw20 : k0_chk20 k0_t3 v39 v64 k0_t5 arg27 v147), (⟨4, (k0_off52 k0_t3 v39 v64 k0_t5 v147).2⟩ : Shape).Squeezes ⟨2, k0_sz14 k0_t3 v39 v64 k0_t5 v147⟩ := fun k0_t3 v39 v64 k0_t5 arg27 v147 k0_hw20 => k0_hw20.2.2

def k0_off53 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_108 : BitVec 32 := 0#32
  let v210 : BitVec 1 := Scalar.cmpi .sgt v19 c0_i32_108
  let v211 : BitVec 32 := Scalar.extui v210
  let c0_i32_109 : BitVec 32 := 0#32
  let v212 : BitVec 1 := Scalar.cmpi .slt v19 c0_i32_109
  let v213 : BitVec 32 := Scalar.extui v212
  let v214 : BitVec 32 := Scalar.subi v211 v213
  let c12_i32_107 : BitVec 32 := 12#32
  let c0_i32_110 : BitVec 32 := 0#32
  let v215 : BitVec 1 := Scalar.cmpi .sgt c12_i32_107 c0_i32_110
  let v216 : BitVec 32 := Scalar.extui v215
  let c0_i32_111 : BitVec 32 := 0#32
  let v217 : BitVec 1 := Scalar.cmpi .slt c12_i32_107 c0_i32_111
  let v218 : BitVec 32 := Scalar.extui v217
  let v219 : BitVec 32 := Scalar.subi v216 v218
  let v220 : BitVec 1 := Scalar.cmpi .ne v214 v219
  let v221 : BitVec 32 := Scalar.remsi v19 c12_i32_107
  let c0_i32_112 : BitVec 32 := 0#32
  let v222 : BitVec 1 := Scalar.cmpi .ne v221 c0_i32_112
  let v223 : BitVec 1 := Scalar.andi v220 v222
  let v209 : BitVec 32 := Scalar.divsi v19 c12_i32_107
  let c1_i32_113 : BitVec 32 := 1#32
  let v224 : BitVec 32 := Scalar.subi v209 c1_i32_113
  let v225 : BitVec 32 := Scalar.select v223 v224 v209
  let v226 : Index := Scalar.indexCast v225
  ![v226.toNat]
def k0_mult17 (k0_t3 : Fin k0_t3_loop.trips) (v39 : BitVec 32) (v64 : BitVec 32) (k0_t5 : Fin (k0_t5_loop k0_t3 v39 v64).trips) (v227 : BitVec 32) : BitVec 32 :=
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  v252

def k0_mult18 (k0_t3 : Fin k0_t3_loop.trips) (v39 : BitVec 32) (v64 : BitVec 32) (k0_t5 : Fin (k0_t5_loop k0_t3 v39 v64).trips) : BitVec 32 :=
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_141 : BitVec 32 := 2048#32
  let v281 : BitVec 32 := Scalar.muli arg26 c2048_i32_141
  v281
def k0_off54 (arg28 : BitVec 32) : Fin 1 → Nat :=
  ![arg28.toNat]

def k0_off55 (k0_t3 : Fin k0_t3_loop.trips) (v39 : BitVec 32) (v64 : BitVec 32) (k0_t5 : Fin (k0_t5_loop k0_t3 v39 v64).trips) (arg28 : BitVec 32) (v227 : BitVec 32) : (Fin 3 → Nat) × (Fin 3 → Nat) :=
  let c0_i32_142 : BitVec 32 := 0#32
  let c0_i32_143 : BitVec 32 := 0#32
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ⟨![arg28.toNat, 0, 0], ![1, 128, v253.toNat]⟩

def k0_sz15 (k0_t3 : Fin k0_t3_loop.trips) (v39 : BitVec 32) (v64 : BitVec 32) (k0_t5 : Fin (k0_t5_loop k0_t3 v39 v64).trips) (v227 : BitVec 32) : Fin 2 → Nat :=
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ![128, v253.toNat]
def k0_off56 (k0_t3 : Fin k0_t3_loop.trips) (v39 : BitVec 32) (v64 : BitVec 32) (k0_t5 : Fin (k0_t5_loop k0_t3 v39 v64).trips) (v227 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_129 : BitVec 32 := 0#32
  let v255 : BitVec 1 := Scalar.cmpi .sgt v19 c0_i32_129
  let v256 : BitVec 32 := Scalar.extui v255
  let c0_i32_130 : BitVec 32 := 0#32
  let v257 : BitVec 1 := Scalar.cmpi .slt v19 c0_i32_130
  let v258 : BitVec 32 := Scalar.extui v257
  let v259 : BitVec 32 := Scalar.subi v256 v258
  let c12_i32_128 : BitVec 32 := 12#32
  let c0_i32_131 : BitVec 32 := 0#32
  let v260 : BitVec 1 := Scalar.cmpi .sgt c12_i32_128 c0_i32_131
  let v261 : BitVec 32 := Scalar.extui v260
  let c0_i32_132 : BitVec 32 := 0#32
  let v262 : BitVec 1 := Scalar.cmpi .slt c12_i32_128 c0_i32_132
  let v263 : BitVec 32 := Scalar.extui v262
  let v264 : BitVec 32 := Scalar.subi v261 v263
  let v265 : BitVec 1 := Scalar.cmpi .ne v259 v264
  let v266 : BitVec 32 := Scalar.remsi v19 c12_i32_128
  let c0_i32_133 : BitVec 32 := 0#32
  let v267 : BitVec 1 := Scalar.cmpi .ne v266 c0_i32_133
  let v268 : BitVec 1 := Scalar.andi v265 v267
  let v254 : BitVec 32 := Scalar.divsi v19 c12_i32_128
  let c1_i32_134 : BitVec 32 := 1#32
  let v269 : BitVec 32 := Scalar.subi v254 c1_i32_134
  let v270 : BitVec 32 := Scalar.select v268 v269 v254
  let c12_i32_135 : BitVec 32 := 12#32
  let c0_i32_136 : BitVec 32 := 0#32
  let v271 : BitVec 1 := Scalar.cmpi .eq c12_i32_135 c0_i32_136
  let c1_i32_137 : BitVec 32 := 1#32
  let v272 : BitVec 32 := Scalar.select v271 c1_i32_137 c12_i32_135
  let v273 : BitVec 32 := Scalar.remsi v19 v272
  let c0_i32_139 : BitVec 32 := 0#32
  let v275 : BitVec 1 := Scalar.cmpi .slt v273 c0_i32_139
  let c0_i32_140 : BitVec 32 := 0#32
  let v276 : BitVec 1 := Scalar.cmpi .slt v272 c0_i32_140
  let v277 : BitVec 1 := Scalar.xori v275 v276
  let c0_i32_138 : BitVec 32 := 0#32
  let v274 : BitVec 1 := Scalar.cmpi .ne v273 c0_i32_138
  let v278 : BitVec 1 := Scalar.andi v277 v274
  let v279 : BitVec 32 := Scalar.addi v273 v272
  let v280 : BitVec 32 := Scalar.select v278 v279 v273
  let c0_i32_144 : BitVec 32 := 0#32
  let c0_i32_58 : BitVec 32 := 0#32
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_141 : BitVec 32 := 2048#32
  let v281 : BitVec 32 := Scalar.muli arg26 c2048_i32_141
  let v282 : BitVec 32 := v281
  let c2048_i32_127 : BitVec 32 := 2048#32
  let c128_i32_126 : BitVec 32 := 128#32
  let c16384_i32_114 : BitVec 32 := 16384#32
  let v228 : BitVec 32 := Scalar.minsi v227 c16384_i32_114
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ⟨![v270.toNat, v280.toNat, 0, v282.toNat], ![1, 1, 128, v253.toNat]⟩

def k0_sz16 (k0_t3 : Fin k0_t3_loop.trips) (v39 : BitVec 32) (v64 : BitVec 32) (k0_t5 : Fin (k0_t5_loop k0_t3 v39 v64).trips) (v227 : BitVec 32) : Fin 2 → Nat :=
  let c2048_i32_127 : BitVec 32 := 2048#32
  let c128_i32_126 : BitVec 32 := 128#32
  let c16384_i32_114 : BitVec 32 := 16384#32
  let v228 : BitVec 32 := Scalar.minsi v227 c16384_i32_114
  let c0_i32_58 : BitVec 32 := 0#32
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let c2048_i32_115 : BitVec 32 := 2048#32
  let v229 : BitVec 32 := Scalar.muli arg26 c2048_i32_115
  let v230 : BitVec 32 := Scalar.subi v228 v229
  let c128_i32_116 : BitVec 32 := 128#32
  let v231 : BitVec 32 := Scalar.addi v230 c128_i32_116
  let c1_i32_117 : BitVec 32 := 1#32
  let v232 : BitVec 32 := Scalar.subi v231 c1_i32_117
  let c0_i32_119 : BitVec 32 := 0#32
  let v234 : BitVec 1 := Scalar.cmpi .sgt v232 c0_i32_119
  let v235 : BitVec 32 := Scalar.extui v234
  let c0_i32_120 : BitVec 32 := 0#32
  let v236 : BitVec 1 := Scalar.cmpi .slt v232 c0_i32_120
  let v237 : BitVec 32 := Scalar.extui v236
  let v238 : BitVec 32 := Scalar.subi v235 v237
  let c128_i32_118 : BitVec 32 := 128#32
  let c0_i32_121 : BitVec 32 := 0#32
  let v239 : BitVec 1 := Scalar.cmpi .sgt c128_i32_118 c0_i32_121
  let v240 : BitVec 32 := Scalar.extui v239
  let c0_i32_122 : BitVec 32 := 0#32
  let v241 : BitVec 1 := Scalar.cmpi .slt c128_i32_118 c0_i32_122
  let v242 : BitVec 32 := Scalar.extui v241
  let v243 : BitVec 32 := Scalar.subi v240 v242
  let v244 : BitVec 1 := Scalar.cmpi .ne v238 v243
  let v245 : BitVec 32 := Scalar.remsi v232 c128_i32_118
  let c0_i32_123 : BitVec 32 := 0#32
  let v246 : BitVec 1 := Scalar.cmpi .ne v245 c0_i32_123
  let v247 : BitVec 1 := Scalar.andi v244 v246
  let v233 : BitVec 32 := Scalar.divsi v232 c128_i32_118
  let c1_i32_124 : BitVec 32 := 1#32
  let v248 : BitVec 32 := Scalar.subi v233 c1_i32_124
  let v249 : BitVec 32 := Scalar.select v247 v248 v233
  let c128_i32_125 : BitVec 32 := 128#32
  let v250 : BitVec 32 := Scalar.muli v249 c128_i32_125
  let v251 : BitVec 32 := Scalar.maxsi c128_i32_126 v250
  let v252 : BitVec 32 := Scalar.minsi c2048_i32_127 v251
  let v253 : BitVec 32 := v252
  ![128, v253.toNat]

def k0_chk22 (k0_t3 : Fin k0_t3_loop.trips) (v39 : BitVec 32) (v64 : BitVec 32) (k0_t5 : Fin (k0_t5_loop k0_t3 v39 v64).trips) (arg28 : BitVec 32) (v227 : BitVec 32) : Prop :=
  (128 ∣ (k0_mult17 k0_t3 v39 v64 k0_t5 v227).toNat) ∧
  ((⟨3, (k0_off55 k0_t3 v39 v64 k0_t5 arg28 v227).2⟩ : Shape).Squeezes ⟨2, k0_sz15 k0_t3 v39 v64 k0_t5 v227⟩) ∧
  ((⟨4, (k0_off56 k0_t3 v39 v64 k0_t5 v227).2⟩ : Shape).Squeezes ⟨2, k0_sz16 k0_t3 v39 v64 k0_t5 v227⟩)
theorem k0_mult17_dvd : ∀ (k0_t3 : Fin k0_t3_loop.trips) (v39 : BitVec 32) (v64 : BitVec 32) (k0_t5 : Fin (k0_t5_loop k0_t3 v39 v64).trips) (arg28 : BitVec 32) (v227 : BitVec 32) (k0_hw22 : k0_chk22 k0_t3 v39 v64 k0_t5 arg28 v227), 128 ∣ (k0_mult17 k0_t3 v39 v64 k0_t5 v227).toNat := fun k0_t3 v39 v64 k0_t5 arg28 v227 k0_hw22 => k0_hw22.1
theorem k0_sz15_squeezes : ∀ (k0_t3 : Fin k0_t3_loop.trips) (v39 : BitVec 32) (v64 : BitVec 32) (k0_t5 : Fin (k0_t5_loop k0_t3 v39 v64).trips) (arg28 : BitVec 32) (v227 : BitVec 32) (k0_hw22 : k0_chk22 k0_t3 v39 v64 k0_t5 arg28 v227), (⟨3, (k0_off55 k0_t3 v39 v64 k0_t5 arg28 v227).2⟩ : Shape).Squeezes ⟨2, k0_sz15 k0_t3 v39 v64 k0_t5 v227⟩ := fun k0_t3 v39 v64 k0_t5 arg28 v227 k0_hw22 => k0_hw22.2.1
theorem k0_sz16_squeezes : ∀ (k0_t3 : Fin k0_t3_loop.trips) (v39 : BitVec 32) (v64 : BitVec 32) (k0_t5 : Fin (k0_t5_loop k0_t3 v39 v64).trips) (arg28 : BitVec 32) (v227 : BitVec 32) (k0_hw22 : k0_chk22 k0_t3 v39 v64 k0_t5 arg28 v227), (⟨4, (k0_off56 k0_t3 v39 v64 k0_t5 v227).2⟩ : Shape).Squeezes ⟨2, k0_sz16 k0_t3 v39 v64 k0_t5 v227⟩ := fun k0_t3 v39 v64 k0_t5 arg28 v227 k0_hw22 => k0_hw22.2.2

def k0_off57 (arg27 : BitVec 32) : Fin 3 → Nat :=
  let v290 : Index := Scalar.indexCast arg27
  let c0_146 : Index := 0#32
  let c0_147 : Index := 0#32
  ![v290.toNat, 0, 0]
def k0_off58 (arg27 : BitVec 32) : Fin 3 → Nat :=
  let v293 : Index := Scalar.indexCast arg27
  let c1024 : Index := 1024#32
  let c0_148 : Index := 0#32
  ![v293.toNat, 1024, 0]

def k0_chk21 (arg27 : BitVec 32) : Prop :=
  (∀ a, (k0_off50 arg27) a + S1.size a ≤ S12.size a) ∧
  (∀ a, (k0_off57 arg27) a + S1x1024x128.size a ≤ S12x2048x128.size a) ∧
  (∀ a, (k0_off58 arg27) a + S1x1024x128.size a ≤ S12x2048x128.size a)
theorem k0_off50_inb : ∀ (arg27 : BitVec 32) (k0_hw21 : k0_chk21 arg27), ∀ a, (k0_off50 arg27) a + S1.size a ≤ S12.size a := fun arg27 k0_hw21 => k0_hw21.1
theorem k0_off57_inb : ∀ (arg27 : BitVec 32) (k0_hw21 : k0_chk21 arg27), ∀ a, (k0_off57 arg27) a + S1x1024x128.size a ≤ S12x2048x128.size a := fun arg27 k0_hw21 => k0_hw21.2.1
theorem k0_off58_inb : ∀ (arg27 : BitVec 32) (k0_hw21 : k0_chk21 arg27), ∀ a, (k0_off58 arg27) a + S1x1024x128.size a ≤ S12x2048x128.size a := fun arg27 k0_hw21 => k0_hw21.2.2

def k0_off59 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_145 : BitVec 32 := 2#32
  let v289 : BitVec 32 := Scalar.remsi v17 c2_i32_145
  let v297 : Index := Scalar.indexCast v289
  let c0_149 : Index := 0#32
  let c0_150 : Index := 0#32
  ![v297.toNat, 0, 0]
def k0_off60 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_154 : BitVec 32 := 0#32
  let v304 : BitVec 1 := Scalar.cmpi .sgt v17 c0_i32_154
  let v305 : BitVec 32 := Scalar.extui v304
  let c0_i32_155 : BitVec 32 := 0#32
  let v306 : BitVec 1 := Scalar.cmpi .slt v17 c0_i32_155
  let v307 : BitVec 32 := Scalar.extui v306
  let v308 : BitVec 32 := Scalar.subi v305 v307
  let c12_i32_153 : BitVec 32 := 12#32
  let c0_i32_156 : BitVec 32 := 0#32
  let v309 : BitVec 1 := Scalar.cmpi .sgt c12_i32_153 c0_i32_156
  let v310 : BitVec 32 := Scalar.extui v309
  let c0_i32_157 : BitVec 32 := 0#32
  let v311 : BitVec 1 := Scalar.cmpi .slt c12_i32_153 c0_i32_157
  let v312 : BitVec 32 := Scalar.extui v311
  let v313 : BitVec 32 := Scalar.subi v310 v312
  let v314 : BitVec 1 := Scalar.cmpi .ne v308 v313
  let v315 : BitVec 32 := Scalar.remsi v17 c12_i32_153
  let c0_i32_158 : BitVec 32 := 0#32
  let v316 : BitVec 1 := Scalar.cmpi .ne v315 c0_i32_158
  let v317 : BitVec 1 := Scalar.andi v314 v316
  let v303 : BitVec 32 := Scalar.divsi v17 c12_i32_153
  let c1_i32_159 : BitVec 32 := 1#32
  let v318 : BitVec 32 := Scalar.subi v303 c1_i32_159
  let v319 : BitVec 32 := Scalar.select v317 v318 v303
  let v320 : Index := Scalar.indexCast v319
  ![v320.toNat]
def k0_off61 (k0_t3 : Fin k0_t3_loop.trips) (v39 : BitVec 32) (v64 : BitVec 32) (k0_t5 : Fin (k0_t5_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_145 : BitVec 32 := 2#32
  let v289 : BitVec 32 := Scalar.remsi v17 c2_i32_145
  let v329 : Index := Scalar.indexCast v289
  let c0_i32_58 : BitVec 32 := 0#32
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let v330 : Index := Scalar.indexCast arg26
  let c0_163 : Index := 0#32
  let c0_164 : Index := 0#32
  ![v329.toNat, v330.toNat, 0, 0]
def k0_off62 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_145 : BitVec 32 := 2#32
  let v289 : BitVec 32 := Scalar.remsi v17 c2_i32_145
  let v349 : Index := Scalar.indexCast v289
  let c0_165 : Index := 0#32
  let c0_166 : Index := 0#32
  ![v349.toNat, 0, 0]
def k0_off63 (k0_t3 : Fin k0_t3_loop.trips) (v39 : BitVec 32) (v64 : BitVec 32) (k0_t5 : Fin (k0_t5_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c2_i32_169 : BitVec 32 := 2#32
  let v357 : BitVec 32 := Scalar.remsi v19 c2_i32_169
  let v358 : Index := Scalar.indexCast v357
  let c0_i32_58 : BitVec 32 := 0#32
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v105 : BitVec 32 := Scalar.subi v104 c0_i32_58
  let c1_i32_59 : BitVec 32 := 1#32
  let v107 : BitVec 32 := Scalar.divsi v105 c1_i32_59
  let v108 : BitVec 32 := Scalar.muli v107 c1_i32_59
  let v109 : BitVec 32 := Scalar.addi c0_i32_58 v108
  let c1_i32_61 : BitVec 32 := 1#32
  let arg26 : BitVec 32 := Scf.iv v109 c1_i32_61 k0_t5
  let v359 : Index := Scalar.indexCast arg26
  let c0_170 : Index := 0#32
  let c0_171 : Index := 0#32
  ![v358.toNat, v359.toNat, 0, 0]
def k0_off64 (arg28 : BitVec 32) : Fin 3 → Nat :=
  let v394 : Index := Scalar.indexCast arg28
  let c0_180 : Index := 0#32
  let c0_181 : Index := 0#32
  ![v394.toNat, 0, 0]

def k0_chk23 (arg28 : BitVec 32) : Prop :=
  (∀ a, (k0_off54 arg28) a + S1.size a ≤ S12.size a) ∧
  (∀ a, (k0_off64 arg28) a + S1x128x2048.size a ≤ S12x128x2048.size a)
theorem k0_off54_inb : ∀ (arg28 : BitVec 32) (k0_hw23 : k0_chk23 arg28), ∀ a, (k0_off54 arg28) a + S1.size a ≤ S12.size a := fun arg28 k0_hw23 => k0_hw23.1
theorem k0_off64_inb : ∀ (arg28 : BitVec 32) (k0_hw23 : k0_chk23 arg28), ∀ a, (k0_off64 arg28) a + S1x128x2048.size a ≤ S12x128x2048.size a := fun arg28 k0_hw23 => k0_hw23.2

def k0_off65 (arg29 : BitVec 32) : Fin 1 → Nat :=
  let c0_i32_234 : BitVec 32 := 0#32
  let v485 : BitVec 1 := Scalar.cmpi .sgt arg29 c0_i32_234
  let v486 : BitVec 32 := Scalar.extui v485
  let c0_i32_235 : BitVec 32 := 0#32
  let v487 : BitVec 1 := Scalar.cmpi .slt arg29 c0_i32_235
  let v488 : BitVec 32 := Scalar.extui v487
  let v489 : BitVec 32 := Scalar.subi v486 v488
  let c12_i32_233 : BitVec 32 := 12#32
  let c0_i32_236 : BitVec 32 := 0#32
  let v490 : BitVec 1 := Scalar.cmpi .sgt c12_i32_233 c0_i32_236
  let v491 : BitVec 32 := Scalar.extui v490
  let c0_i32_237 : BitVec 32 := 0#32
  let v492 : BitVec 1 := Scalar.cmpi .slt c12_i32_233 c0_i32_237
  let v493 : BitVec 32 := Scalar.extui v492
  let v494 : BitVec 32 := Scalar.subi v491 v493
  let v495 : BitVec 1 := Scalar.cmpi .ne v489 v494
  let v496 : BitVec 32 := Scalar.remsi arg29 c12_i32_233
  let c0_i32_238 : BitVec 32 := 0#32
  let v497 : BitVec 1 := Scalar.cmpi .ne v496 c0_i32_238
  let v498 : BitVec 1 := Scalar.andi v495 v497
  let v484 : BitVec 32 := Scalar.divsi arg29 c12_i32_233
  let c1_i32_239 : BitVec 32 := 1#32
  let v499 : BitVec 32 := Scalar.subi v484 c1_i32_239
  let v500 : BitVec 32 := Scalar.select v498 v499 v484
  let v501 : Index := Scalar.indexCast v500
  ![v501.toNat]
def k0_cond8 (arg29 : BitVec 32) : BitVec 1 :=
  let c36_i32_185 : BitVec 32 := 36#32
  let v402 : BitVec 1 := Scalar.cmpi .slt arg29 c36_i32_185
  let v403 : BitVec 32 := Scalar.extui v402
  let c0_i32_186 : BitVec 32 := 0#32
  let v404 : BitVec 1 := Scalar.cmpi .ne v403 c0_i32_186
  v404

def k0_mult19 (arg30 : BitVec 32) (v502 : BitVec 32) : BitVec 32 :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  v527

def k0_mult20 (arg30 : BitVec 32) : BitVec 32 :=
  let c2048_i32_267 : BitVec 32 := 2048#32
  let v556 : BitVec 32 := Scalar.muli arg30 c2048_i32_267
  v556

def k0_chk26 (arg29 : BitVec 32) (arg30 : BitVec 32) : Prop :=
  (∀ (k0_h8 : k0_cond8 arg29 = 1#1), 2048 ∣ (k0_mult20 arg30).toNat)
theorem k0_mult20_dvd : ∀ (arg29 : BitVec 32) (arg30 : BitVec 32) (k0_hw26 : k0_chk26 arg29 arg30), ∀ (k0_h8 : k0_cond8 arg29 = 1#1), 2048 ∣ (k0_mult20 arg30).toNat := fun arg29 arg30 k0_hw26 k0_h8 => k0_hw26 k0_h8

def k0_off66 (arg27 : BitVec 32) : Fin 1 → Nat :=
  ![arg27.toNat]
def k0_off67 (arg27 : BitVec 32) (arg30 : BitVec 32) (v502 : BitVec 32) : (Fin 3 → Nat) × (Fin 3 → Nat) :=
  let c0_i32_268 : BitVec 32 := 0#32
  let c0_i32_269 : BitVec 32 := 0#32
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![arg27.toNat, 0, 0], ![1, v528.toNat, 128]⟩
def k0_sz17 (arg30 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![v528.toNat, 128]
def k0_off68 (arg29 : BitVec 32) (arg30 : BitVec 32) (v502 : BitVec 32) : (Fin 4 → Nat) × (Fin 4 → Nat) :=
  let c0_i32_255 : BitVec 32 := 0#32
  let v530 : BitVec 1 := Scalar.cmpi .sgt arg29 c0_i32_255
  let v531 : BitVec 32 := Scalar.extui v530
  let c0_i32_256 : BitVec 32 := 0#32
  let v532 : BitVec 1 := Scalar.cmpi .slt arg29 c0_i32_256
  let v533 : BitVec 32 := Scalar.extui v532
  let v534 : BitVec 32 := Scalar.subi v531 v533
  let c12_i32_254 : BitVec 32 := 12#32
  let c0_i32_257 : BitVec 32 := 0#32
  let v535 : BitVec 1 := Scalar.cmpi .sgt c12_i32_254 c0_i32_257
  let v536 : BitVec 32 := Scalar.extui v535
  let c0_i32_258 : BitVec 32 := 0#32
  let v537 : BitVec 1 := Scalar.cmpi .slt c12_i32_254 c0_i32_258
  let v538 : BitVec 32 := Scalar.extui v537
  let v539 : BitVec 32 := Scalar.subi v536 v538
  let v540 : BitVec 1 := Scalar.cmpi .ne v534 v539
  let v541 : BitVec 32 := Scalar.remsi arg29 c12_i32_254
  let c0_i32_259 : BitVec 32 := 0#32
  let v542 : BitVec 1 := Scalar.cmpi .ne v541 c0_i32_259
  let v543 : BitVec 1 := Scalar.andi v540 v542
  let v529 : BitVec 32 := Scalar.divsi arg29 c12_i32_254
  let c1_i32_260 : BitVec 32 := 1#32
  let v544 : BitVec 32 := Scalar.subi v529 c1_i32_260
  let v545 : BitVec 32 := Scalar.select v543 v544 v529
  let c12_i32_261 : BitVec 32 := 12#32
  let c0_i32_262 : BitVec 32 := 0#32
  let v546 : BitVec 1 := Scalar.cmpi .eq c12_i32_261 c0_i32_262
  let c1_i32_263 : BitVec 32 := 1#32
  let v547 : BitVec 32 := Scalar.select v546 c1_i32_263 c12_i32_261
  let v548 : BitVec 32 := Scalar.remsi arg29 v547
  let c0_i32_265 : BitVec 32 := 0#32
  let v550 : BitVec 1 := Scalar.cmpi .slt v548 c0_i32_265
  let c0_i32_266 : BitVec 32 := 0#32
  let v551 : BitVec 1 := Scalar.cmpi .slt v547 c0_i32_266
  let v552 : BitVec 1 := Scalar.xori v550 v551
  let c0_i32_264 : BitVec 32 := 0#32
  let v549 : BitVec 1 := Scalar.cmpi .ne v548 c0_i32_264
  let v553 : BitVec 1 := Scalar.andi v552 v549
  let v554 : BitVec 32 := Scalar.addi v548 v547
  let v555 : BitVec 32 := Scalar.select v553 v554 v548
  let c2048_i32_267 : BitVec 32 := 2048#32
  let v556 : BitVec 32 := Scalar.muli arg30 c2048_i32_267
  let v557 : BitVec 32 := v556
  let c0_i32_270 : BitVec 32 := 0#32
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![v545.toNat, v555.toNat, v557.toNat, 0], ![1, 1, v528.toNat, 128]⟩
def k0_sz18 (arg30 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg30 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![v528.toNat, 128]

def k0_chk25 (arg27 : BitVec 32) (arg29 : BitVec 32) (arg30 : BitVec 32) (v502 : BitVec 32) : Prop :=
  (∀ (k0_h8 : k0_cond8 arg29 = 1#1), 128 ∣ (k0_mult19 arg30 v502).toNat) ∧
  (∀ (k0_h8 : k0_cond8 arg29 = 1#1), ∀ a, (k0_off67 arg27 arg30 v502).2 a = 0 ∨ (k0_off67 arg27 arg30 v502).1 a + (k0_off67 arg27 arg30 v502).2 a ≤ S12x2048x128.size a) ∧
  (∀ (k0_h8 : k0_cond8 arg29 = 1#1), (⟨3, (k0_off67 arg27 arg30 v502).2⟩ : Shape).Squeezes ⟨2, k0_sz17 arg30 v502⟩) ∧
  (∀ (k0_h8 : k0_cond8 arg29 = 1#1), ∀ a, (k0_off68 arg29 arg30 v502).2 a = 0 ∨ (k0_off68 arg29 arg30 v502).1 a + (k0_off68 arg29 arg30 v502).2 a ≤ S3x12x16384x128.size a) ∧
  (∀ (k0_h8 : k0_cond8 arg29 = 1#1), (⟨4, (k0_off68 arg29 arg30 v502).2⟩ : Shape).Squeezes ⟨2, k0_sz18 arg30 v502⟩) ∧
  (∀ (k0_h8 : k0_cond8 arg29 = 1#1), ∀ (hinb : ∀ a, (k0_off68 arg29 arg30 v502).2 a = 0 ∨ (k0_off68 arg29 arg30 v502).1 a + (k0_off68 arg29 arg30 v502).2 a ≤ S3x12x16384x128.size a), (Rect.unitDyn (s := S3x12x16384x128) (k0_off68 arg29 arg30 v502).1 (k0_off68 arg29 arg30 v502).2 hinb).WholeWords (EltTy.packing .bf16)) ∧
  (∀ (k0_h8 : k0_cond8 arg29 = 1#1), ∀ (hinb : ∀ a, (k0_off67 arg27 arg30 v502).2 a = 0 ∨ (k0_off67 arg27 arg30 v502).1 a + (k0_off67 arg27 arg30 v502).2 a ≤ S12x2048x128.size a), (Rect.unitDyn (s := S12x2048x128) (k0_off67 arg27 arg30 v502).1 (k0_off67 arg27 arg30 v502).2 hinb).WholeWords (EltTy.packing .bf16))
theorem k0_mult19_dvd : ∀ (arg27 : BitVec 32) (arg29 : BitVec 32) (arg30 : BitVec 32) (v502 : BitVec 32) (k0_hw25 : k0_chk25 arg27 arg29 arg30 v502), ∀ (k0_h8 : k0_cond8 arg29 = 1#1), 128 ∣ (k0_mult19 arg30 v502).toNat := fun arg27 arg29 arg30 v502 k0_hw25 k0_h8 => k0_hw25.1 k0_h8
theorem k0_off67_inb : ∀ (arg27 : BitVec 32) (arg29 : BitVec 32) (arg30 : BitVec 32) (v502 : BitVec 32) (k0_hw25 : k0_chk25 arg27 arg29 arg30 v502), ∀ (k0_h8 : k0_cond8 arg29 = 1#1), ∀ a, (k0_off67 arg27 arg30 v502).2 a = 0 ∨ (k0_off67 arg27 arg30 v502).1 a + (k0_off67 arg27 arg30 v502).2 a ≤ S12x2048x128.size a := fun arg27 arg29 arg30 v502 k0_hw25 k0_h8 => k0_hw25.2.1 k0_h8
theorem k0_sz17_squeezes : ∀ (arg27 : BitVec 32) (arg29 : BitVec 32) (arg30 : BitVec 32) (v502 : BitVec 32) (k0_hw25 : k0_chk25 arg27 arg29 arg30 v502), ∀ (k0_h8 : k0_cond8 arg29 = 1#1), (⟨3, (k0_off67 arg27 arg30 v502).2⟩ : Shape).Squeezes ⟨2, k0_sz17 arg30 v502⟩ := fun arg27 arg29 arg30 v502 k0_hw25 k0_h8 => k0_hw25.2.2.1 k0_h8
theorem k0_off68_inb : ∀ (arg27 : BitVec 32) (arg29 : BitVec 32) (arg30 : BitVec 32) (v502 : BitVec 32) (k0_hw25 : k0_chk25 arg27 arg29 arg30 v502), ∀ (k0_h8 : k0_cond8 arg29 = 1#1), ∀ a, (k0_off68 arg29 arg30 v502).2 a = 0 ∨ (k0_off68 arg29 arg30 v502).1 a + (k0_off68 arg29 arg30 v502).2 a ≤ S3x12x16384x128.size a := fun arg27 arg29 arg30 v502 k0_hw25 k0_h8 => k0_hw25.2.2.2.1 k0_h8
theorem k0_sz18_squeezes : ∀ (arg27 : BitVec 32) (arg29 : BitVec 32) (arg30 : BitVec 32) (v502 : BitVec 32) (k0_hw25 : k0_chk25 arg27 arg29 arg30 v502), ∀ (k0_h8 : k0_cond8 arg29 = 1#1), (⟨4, (k0_off68 arg29 arg30 v502).2⟩ : Shape).Squeezes ⟨2, k0_sz18 arg30 v502⟩ := fun arg27 arg29 arg30 v502 k0_hw25 k0_h8 => k0_hw25.2.2.2.2.1 k0_h8
theorem k0_off68_wordsbf16 : ∀ (arg27 : BitVec 32) (arg29 : BitVec 32) (arg30 : BitVec 32) (v502 : BitVec 32) (k0_hw25 : k0_chk25 arg27 arg29 arg30 v502), ∀ (k0_h8 : k0_cond8 arg29 = 1#1), (Rect.unitDyn (s := S3x12x16384x128) (k0_off68 arg29 arg30 v502).1 (k0_off68 arg29 arg30 v502).2 (k0_off68_inb arg27 arg29 arg30 v502 k0_hw25 k0_h8)).WholeWords (EltTy.packing .bf16) := fun arg27 arg29 arg30 v502 k0_hw25 k0_h8 => k0_hw25.2.2.2.2.2.1 k0_h8 (k0_off68_inb arg27 arg29 arg30 v502 k0_hw25 k0_h8)
theorem k0_off67_wordsbf16 : ∀ (arg27 : BitVec 32) (arg29 : BitVec 32) (arg30 : BitVec 32) (v502 : BitVec 32) (k0_hw25 : k0_chk25 arg27 arg29 arg30 v502), ∀ (k0_h8 : k0_cond8 arg29 = 1#1), (Rect.unitDyn (s := S12x2048x128) (k0_off67 arg27 arg30 v502).1 (k0_off67 arg27 arg30 v502).2 (k0_off67_inb arg27 arg29 arg30 v502 k0_hw25 k0_h8)).WholeWords (EltTy.packing .bf16) := fun arg27 arg29 arg30 v502 k0_hw25 k0_h8 => k0_hw25.2.2.2.2.2.2 k0_h8 (k0_off67_inb arg27 arg29 arg30 v502 k0_hw25 k0_h8)

def k0_off69 (arg29 : BitVec 32) : Fin 1 → Nat :=
  let c35_i32_187 : BitVec 32 := 35#32
  let v405 : BitVec 32 := Scalar.minsi arg29 c35_i32_187
  let c0_i32_190 : BitVec 32 := 0#32
  let v408 : BitVec 1 := Scalar.cmpi .sgt v405 c0_i32_190
  let v409 : BitVec 32 := Scalar.extui v408
  let c0_i32_191 : BitVec 32 := 0#32
  let v410 : BitVec 1 := Scalar.cmpi .slt v405 c0_i32_191
  let v411 : BitVec 32 := Scalar.extui v410
  let v412 : BitVec 32 := Scalar.subi v409 v411
  let c12_i32_189 : BitVec 32 := 12#32
  let c0_i32_192 : BitVec 32 := 0#32
  let v413 : BitVec 1 := Scalar.cmpi .sgt c12_i32_189 c0_i32_192
  let v414 : BitVec 32 := Scalar.extui v413
  let c0_i32_193 : BitVec 32 := 0#32
  let v415 : BitVec 1 := Scalar.cmpi .slt c12_i32_189 c0_i32_193
  let v416 : BitVec 32 := Scalar.extui v415
  let v417 : BitVec 32 := Scalar.subi v414 v416
  let v418 : BitVec 1 := Scalar.cmpi .ne v412 v417
  let v419 : BitVec 32 := Scalar.remsi v405 c12_i32_189
  let c0_i32_194 : BitVec 32 := 0#32
  let v420 : BitVec 1 := Scalar.cmpi .ne v419 c0_i32_194
  let v421 : BitVec 1 := Scalar.andi v418 v420
  let v407 : BitVec 32 := Scalar.divsi v405 c12_i32_189
  let c1_i32_195 : BitVec 32 := 1#32
  let v422 : BitVec 32 := Scalar.subi v407 c1_i32_195
  let v423 : BitVec 32 := Scalar.select v421 v422 v407
  let v424 : Index := Scalar.indexCast v423
  ![v424.toNat]

def k0_chk24 (arg27 : BitVec 32) (arg29 : BitVec 32) : Prop :=
  (∀ (k0_h8 : k0_cond8 arg29 = 1#1), ∀ a, (k0_off65 arg29) a + S1.size a ≤ S3.size a) ∧
  (∀ (k0_h8 : k0_cond8 arg29 = 1#1), ∀ a, (k0_off66 arg27) a + S1.size a ≤ S12.size a) ∧
  (∀ a, (k0_off69 arg29) a + S1.size a ≤ S3.size a)
theorem k0_off65_inb : ∀ (arg27 : BitVec 32) (arg29 : BitVec 32) (k0_hw24 : k0_chk24 arg27 arg29), ∀ (k0_h8 : k0_cond8 arg29 = 1#1), ∀ a, (k0_off65 arg29) a + S1.size a ≤ S3.size a := fun arg27 arg29 k0_hw24 k0_h8 => k0_hw24.1 k0_h8
theorem k0_off66_inb : ∀ (arg27 : BitVec 32) (arg29 : BitVec 32) (k0_hw24 : k0_chk24 arg27 arg29), ∀ (k0_h8 : k0_cond8 arg29 = 1#1), ∀ a, (k0_off66 arg27) a + S1.size a ≤ S12.size a := fun arg27 arg29 k0_hw24 k0_h8 => k0_hw24.2.1 k0_h8
theorem k0_off69_inb : ∀ (arg27 : BitVec 32) (arg29 : BitVec 32) (k0_hw24 : k0_chk24 arg27 arg29), ∀ a, (k0_off69 arg29) a + S1.size a ≤ S3.size a := fun arg27 arg29 k0_hw24 => k0_hw24.2.2

def k0_off70 (arg31 : BitVec 32) : Fin 1 → Nat :=
  let c0_i32_234 : BitVec 32 := 0#32
  let v485 : BitVec 1 := Scalar.cmpi .sgt arg31 c0_i32_234
  let v486 : BitVec 32 := Scalar.extui v485
  let c0_i32_235 : BitVec 32 := 0#32
  let v487 : BitVec 1 := Scalar.cmpi .slt arg31 c0_i32_235
  let v488 : BitVec 32 := Scalar.extui v487
  let v489 : BitVec 32 := Scalar.subi v486 v488
  let c12_i32_233 : BitVec 32 := 12#32
  let c0_i32_236 : BitVec 32 := 0#32
  let v490 : BitVec 1 := Scalar.cmpi .sgt c12_i32_233 c0_i32_236
  let v491 : BitVec 32 := Scalar.extui v490
  let c0_i32_237 : BitVec 32 := 0#32
  let v492 : BitVec 1 := Scalar.cmpi .slt c12_i32_233 c0_i32_237
  let v493 : BitVec 32 := Scalar.extui v492
  let v494 : BitVec 32 := Scalar.subi v491 v493
  let v495 : BitVec 1 := Scalar.cmpi .ne v489 v494
  let v496 : BitVec 32 := Scalar.remsi arg31 c12_i32_233
  let c0_i32_238 : BitVec 32 := 0#32
  let v497 : BitVec 1 := Scalar.cmpi .ne v496 c0_i32_238
  let v498 : BitVec 1 := Scalar.andi v495 v497
  let v484 : BitVec 32 := Scalar.divsi arg31 c12_i32_233
  let c1_i32_239 : BitVec 32 := 1#32
  let v499 : BitVec 32 := Scalar.subi v484 c1_i32_239
  let v500 : BitVec 32 := Scalar.select v498 v499 v484
  let v501 : Index := Scalar.indexCast v500
  ![v501.toNat]
def k0_cond9 (arg31 : BitVec 32) : BitVec 1 :=
  let c36_i32_205 : BitVec 32 := 36#32
  let v439 : BitVec 1 := Scalar.cmpi .slt arg31 c36_i32_205
  let v440 : BitVec 32 := Scalar.extui v439
  let c0_i32_206 : BitVec 32 := 0#32
  let v441 : BitVec 1 := Scalar.cmpi .ne v440 c0_i32_206
  v441

def k0_mult21 (arg32 : BitVec 32) (v502 : BitVec 32) : BitVec 32 :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  v527

def k0_mult22 (arg32 : BitVec 32) : BitVec 32 :=
  let c2048_i32_267 : BitVec 32 := 2048#32
  let v556 : BitVec 32 := Scalar.muli arg32 c2048_i32_267
  v556

def k0_chk29 (arg31 : BitVec 32) (arg32 : BitVec 32) : Prop :=
  (∀ (k0_h9 : k0_cond9 arg31 = 1#1), 2048 ∣ (k0_mult22 arg32).toNat)
theorem k0_mult22_dvd : ∀ (arg31 : BitVec 32) (arg32 : BitVec 32) (k0_hw29 : k0_chk29 arg31 arg32), ∀ (k0_h9 : k0_cond9 arg31 = 1#1), 2048 ∣ (k0_mult22 arg32).toNat := fun arg31 arg32 k0_hw29 k0_h9 => k0_hw29 k0_h9

def k0_off71 (arg28 : BitVec 32) : Fin 1 → Nat :=
  ![arg28.toNat]
def k0_off72 (arg28 : BitVec 32) (arg32 : BitVec 32) (v502 : BitVec 32) : (Fin 3 → Nat) × (Fin 3 → Nat) :=
  let c0_i32_268 : BitVec 32 := 0#32
  let c0_i32_269 : BitVec 32 := 0#32
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![arg28.toNat, 0, 0], ![1, 128, v528.toNat]⟩
def k0_sz19 (arg32 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![128, v528.toNat]
def k0_off73 (arg31 : BitVec 32) (arg32 : BitVec 32) (v502 : BitVec 32) : (Fin 4 → Nat) × (Fin 4 → Nat) :=
  let c0_i32_255 : BitVec 32 := 0#32
  let v530 : BitVec 1 := Scalar.cmpi .sgt arg31 c0_i32_255
  let v531 : BitVec 32 := Scalar.extui v530
  let c0_i32_256 : BitVec 32 := 0#32
  let v532 : BitVec 1 := Scalar.cmpi .slt arg31 c0_i32_256
  let v533 : BitVec 32 := Scalar.extui v532
  let v534 : BitVec 32 := Scalar.subi v531 v533
  let c12_i32_254 : BitVec 32 := 12#32
  let c0_i32_257 : BitVec 32 := 0#32
  let v535 : BitVec 1 := Scalar.cmpi .sgt c12_i32_254 c0_i32_257
  let v536 : BitVec 32 := Scalar.extui v535
  let c0_i32_258 : BitVec 32 := 0#32
  let v537 : BitVec 1 := Scalar.cmpi .slt c12_i32_254 c0_i32_258
  let v538 : BitVec 32 := Scalar.extui v537
  let v539 : BitVec 32 := Scalar.subi v536 v538
  let v540 : BitVec 1 := Scalar.cmpi .ne v534 v539
  let v541 : BitVec 32 := Scalar.remsi arg31 c12_i32_254
  let c0_i32_259 : BitVec 32 := 0#32
  let v542 : BitVec 1 := Scalar.cmpi .ne v541 c0_i32_259
  let v543 : BitVec 1 := Scalar.andi v540 v542
  let v529 : BitVec 32 := Scalar.divsi arg31 c12_i32_254
  let c1_i32_260 : BitVec 32 := 1#32
  let v544 : BitVec 32 := Scalar.subi v529 c1_i32_260
  let v545 : BitVec 32 := Scalar.select v543 v544 v529
  let c12_i32_261 : BitVec 32 := 12#32
  let c0_i32_262 : BitVec 32 := 0#32
  let v546 : BitVec 1 := Scalar.cmpi .eq c12_i32_261 c0_i32_262
  let c1_i32_263 : BitVec 32 := 1#32
  let v547 : BitVec 32 := Scalar.select v546 c1_i32_263 c12_i32_261
  let v548 : BitVec 32 := Scalar.remsi arg31 v547
  let c0_i32_265 : BitVec 32 := 0#32
  let v550 : BitVec 1 := Scalar.cmpi .slt v548 c0_i32_265
  let c0_i32_266 : BitVec 32 := 0#32
  let v551 : BitVec 1 := Scalar.cmpi .slt v547 c0_i32_266
  let v552 : BitVec 1 := Scalar.xori v550 v551
  let c0_i32_264 : BitVec 32 := 0#32
  let v549 : BitVec 1 := Scalar.cmpi .ne v548 c0_i32_264
  let v553 : BitVec 1 := Scalar.andi v552 v549
  let v554 : BitVec 32 := Scalar.addi v548 v547
  let v555 : BitVec 32 := Scalar.select v553 v554 v548
  let c0_i32_270 : BitVec 32 := 0#32
  let c2048_i32_267 : BitVec 32 := 2048#32
  let v556 : BitVec 32 := Scalar.muli arg32 c2048_i32_267
  let v557 : BitVec 32 := v556
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ⟨![v545.toNat, v555.toNat, 0, v557.toNat], ![1, 1, 128, v528.toNat]⟩
def k0_sz20 (arg32 : BitVec 32) (v502 : BitVec 32) : Fin 2 → Nat :=
  let c2048_i32_253 : BitVec 32 := 2048#32
  let c128_i32_252 : BitVec 32 := 128#32
  let c16384_i32_240 : BitVec 32 := 16384#32
  let v503 : BitVec 32 := Scalar.minsi v502 c16384_i32_240
  let c2048_i32_241 : BitVec 32 := 2048#32
  let v504 : BitVec 32 := Scalar.muli arg32 c2048_i32_241
  let v505 : BitVec 32 := Scalar.subi v503 v504
  let c128_i32_242 : BitVec 32 := 128#32
  let v506 : BitVec 32 := Scalar.addi v505 c128_i32_242
  let c1_i32_243 : BitVec 32 := 1#32
  let v507 : BitVec 32 := Scalar.subi v506 c1_i32_243
  let c0_i32_245 : BitVec 32 := 0#32
  let v509 : BitVec 1 := Scalar.cmpi .sgt v507 c0_i32_245
  let v510 : BitVec 32 := Scalar.extui v509
  let c0_i32_246 : BitVec 32 := 0#32
  let v511 : BitVec 1 := Scalar.cmpi .slt v507 c0_i32_246
  let v512 : BitVec 32 := Scalar.extui v511
  let v513 : BitVec 32 := Scalar.subi v510 v512
  let c128_i32_244 : BitVec 32 := 128#32
  let c0_i32_247 : BitVec 32 := 0#32
  let v514 : BitVec 1 := Scalar.cmpi .sgt c128_i32_244 c0_i32_247
  let v515 : BitVec 32 := Scalar.extui v514
  let c0_i32_248 : BitVec 32 := 0#32
  let v516 : BitVec 1 := Scalar.cmpi .slt c128_i32_244 c0_i32_248
  let v517 : BitVec 32 := Scalar.extui v516
  let v518 : BitVec 32 := Scalar.subi v515 v517
  let v519 : BitVec 1 := Scalar.cmpi .ne v513 v518
  let v520 : BitVec 32 := Scalar.remsi v507 c128_i32_244
  let c0_i32_249 : BitVec 32 := 0#32
  let v521 : BitVec 1 := Scalar.cmpi .ne v520 c0_i32_249
  let v522 : BitVec 1 := Scalar.andi v519 v521
  let v508 : BitVec 32 := Scalar.divsi v507 c128_i32_244
  let c1_i32_250 : BitVec 32 := 1#32
  let v523 : BitVec 32 := Scalar.subi v508 c1_i32_250
  let v524 : BitVec 32 := Scalar.select v522 v523 v508
  let c128_i32_251 : BitVec 32 := 128#32
  let v525 : BitVec 32 := Scalar.muli v524 c128_i32_251
  let v526 : BitVec 32 := Scalar.maxsi c128_i32_252 v525
  let v527 : BitVec 32 := Scalar.minsi c2048_i32_253 v526
  let v528 : BitVec 32 := v527
  ![128, v528.toNat]

def k0_chk28 (arg28 : BitVec 32) (arg31 : BitVec 32) (arg32 : BitVec 32) (v502 : BitVec 32) : Prop :=
  (∀ (k0_h9 : k0_cond9 arg31 = 1#1), 128 ∣ (k0_mult21 arg32 v502).toNat) ∧
  (∀ (k0_h9 : k0_cond9 arg31 = 1#1), ∀ a, (k0_off72 arg28 arg32 v502).2 a = 0 ∨ (k0_off72 arg28 arg32 v502).1 a + (k0_off72 arg28 arg32 v502).2 a ≤ S12x128x2048.size a) ∧
  (∀ (k0_h9 : k0_cond9 arg31 = 1#1), (⟨3, (k0_off72 arg28 arg32 v502).2⟩ : Shape).Squeezes ⟨2, k0_sz19 arg32 v502⟩) ∧
  (∀ (k0_h9 : k0_cond9 arg31 = 1#1), ∀ a, (k0_off73 arg31 arg32 v502).2 a = 0 ∨ (k0_off73 arg31 arg32 v502).1 a + (k0_off73 arg31 arg32 v502).2 a ≤ S3x12x128x16384.size a) ∧
  (∀ (k0_h9 : k0_cond9 arg31 = 1#1), (⟨4, (k0_off73 arg31 arg32 v502).2⟩ : Shape).Squeezes ⟨2, k0_sz20 arg32 v502⟩) ∧
  (∀ (k0_h9 : k0_cond9 arg31 = 1#1), ∀ (hinb : ∀ a, (k0_off73 arg31 arg32 v502).2 a = 0 ∨ (k0_off73 arg31 arg32 v502).1 a + (k0_off73 arg31 arg32 v502).2 a ≤ S3x12x128x16384.size a), (Rect.unitDyn (s := S3x12x128x16384) (k0_off73 arg31 arg32 v502).1 (k0_off73 arg31 arg32 v502).2 hinb).WholeWords (EltTy.packing .fp8e4m3)) ∧
  (∀ (k0_h9 : k0_cond9 arg31 = 1#1), ∀ (hinb : ∀ a, (k0_off72 arg28 arg32 v502).2 a = 0 ∨ (k0_off72 arg28 arg32 v502).1 a + (k0_off72 arg28 arg32 v502).2 a ≤ S12x128x2048.size a), (Rect.unitDyn (s := S12x128x2048) (k0_off72 arg28 arg32 v502).1 (k0_off72 arg28 arg32 v502).2 hinb).WholeWords (EltTy.packing .fp8e4m3))
theorem k0_mult21_dvd : ∀ (arg28 : BitVec 32) (arg31 : BitVec 32) (arg32 : BitVec 32) (v502 : BitVec 32) (k0_hw28 : k0_chk28 arg28 arg31 arg32 v502), ∀ (k0_h9 : k0_cond9 arg31 = 1#1), 128 ∣ (k0_mult21 arg32 v502).toNat := fun arg28 arg31 arg32 v502 k0_hw28 k0_h9 => k0_hw28.1 k0_h9
theorem k0_off72_inb : ∀ (arg28 : BitVec 32) (arg31 : BitVec 32) (arg32 : BitVec 32) (v502 : BitVec 32) (k0_hw28 : k0_chk28 arg28 arg31 arg32 v502), ∀ (k0_h9 : k0_cond9 arg31 = 1#1), ∀ a, (k0_off72 arg28 arg32 v502).2 a = 0 ∨ (k0_off72 arg28 arg32 v502).1 a + (k0_off72 arg28 arg32 v502).2 a ≤ S12x128x2048.size a := fun arg28 arg31 arg32 v502 k0_hw28 k0_h9 => k0_hw28.2.1 k0_h9
theorem k0_sz19_squeezes : ∀ (arg28 : BitVec 32) (arg31 : BitVec 32) (arg32 : BitVec 32) (v502 : BitVec 32) (k0_hw28 : k0_chk28 arg28 arg31 arg32 v502), ∀ (k0_h9 : k0_cond9 arg31 = 1#1), (⟨3, (k0_off72 arg28 arg32 v502).2⟩ : Shape).Squeezes ⟨2, k0_sz19 arg32 v502⟩ := fun arg28 arg31 arg32 v502 k0_hw28 k0_h9 => k0_hw28.2.2.1 k0_h9
theorem k0_off73_inb : ∀ (arg28 : BitVec 32) (arg31 : BitVec 32) (arg32 : BitVec 32) (v502 : BitVec 32) (k0_hw28 : k0_chk28 arg28 arg31 arg32 v502), ∀ (k0_h9 : k0_cond9 arg31 = 1#1), ∀ a, (k0_off73 arg31 arg32 v502).2 a = 0 ∨ (k0_off73 arg31 arg32 v502).1 a + (k0_off73 arg31 arg32 v502).2 a ≤ S3x12x128x16384.size a := fun arg28 arg31 arg32 v502 k0_hw28 k0_h9 => k0_hw28.2.2.2.1 k0_h9
theorem k0_sz20_squeezes : ∀ (arg28 : BitVec 32) (arg31 : BitVec 32) (arg32 : BitVec 32) (v502 : BitVec 32) (k0_hw28 : k0_chk28 arg28 arg31 arg32 v502), ∀ (k0_h9 : k0_cond9 arg31 = 1#1), (⟨4, (k0_off73 arg31 arg32 v502).2⟩ : Shape).Squeezes ⟨2, k0_sz20 arg32 v502⟩ := fun arg28 arg31 arg32 v502 k0_hw28 k0_h9 => k0_hw28.2.2.2.2.1 k0_h9
theorem k0_off73_wordsfp8e4m3 : ∀ (arg28 : BitVec 32) (arg31 : BitVec 32) (arg32 : BitVec 32) (v502 : BitVec 32) (k0_hw28 : k0_chk28 arg28 arg31 arg32 v502), ∀ (k0_h9 : k0_cond9 arg31 = 1#1), (Rect.unitDyn (s := S3x12x128x16384) (k0_off73 arg31 arg32 v502).1 (k0_off73 arg31 arg32 v502).2 (k0_off73_inb arg28 arg31 arg32 v502 k0_hw28 k0_h9)).WholeWords (EltTy.packing .fp8e4m3) := fun arg28 arg31 arg32 v502 k0_hw28 k0_h9 => k0_hw28.2.2.2.2.2.1 k0_h9 (k0_off73_inb arg28 arg31 arg32 v502 k0_hw28 k0_h9)
theorem k0_off72_wordsfp8e4m3 : ∀ (arg28 : BitVec 32) (arg31 : BitVec 32) (arg32 : BitVec 32) (v502 : BitVec 32) (k0_hw28 : k0_chk28 arg28 arg31 arg32 v502), ∀ (k0_h9 : k0_cond9 arg31 = 1#1), (Rect.unitDyn (s := S12x128x2048) (k0_off72 arg28 arg32 v502).1 (k0_off72 arg28 arg32 v502).2 (k0_off72_inb arg28 arg31 arg32 v502 k0_hw28 k0_h9)).WholeWords (EltTy.packing .fp8e4m3) := fun arg28 arg31 arg32 v502 k0_hw28 k0_h9 => k0_hw28.2.2.2.2.2.2 k0_h9 (k0_off72_inb arg28 arg31 arg32 v502 k0_hw28 k0_h9)

def k0_off74 (arg31 : BitVec 32) : Fin 1 → Nat :=
  let c35_i32_207 : BitVec 32 := 35#32
  let v442 : BitVec 32 := Scalar.minsi arg31 c35_i32_207
  let c0_i32_210 : BitVec 32 := 0#32
  let v445 : BitVec 1 := Scalar.cmpi .sgt v442 c0_i32_210
  let v446 : BitVec 32 := Scalar.extui v445
  let c0_i32_211 : BitVec 32 := 0#32
  let v447 : BitVec 1 := Scalar.cmpi .slt v442 c0_i32_211
  let v448 : BitVec 32 := Scalar.extui v447
  let v449 : BitVec 32 := Scalar.subi v446 v448
  let c12_i32_209 : BitVec 32 := 12#32
  let c0_i32_212 : BitVec 32 := 0#32
  let v450 : BitVec 1 := Scalar.cmpi .sgt c12_i32_209 c0_i32_212
  let v451 : BitVec 32 := Scalar.extui v450
  let c0_i32_213 : BitVec 32 := 0#32
  let v452 : BitVec 1 := Scalar.cmpi .slt c12_i32_209 c0_i32_213
  let v453 : BitVec 32 := Scalar.extui v452
  let v454 : BitVec 32 := Scalar.subi v451 v453
  let v455 : BitVec 1 := Scalar.cmpi .ne v449 v454
  let v456 : BitVec 32 := Scalar.remsi v442 c12_i32_209
  let c0_i32_214 : BitVec 32 := 0#32
  let v457 : BitVec 1 := Scalar.cmpi .ne v456 c0_i32_214
  let v458 : BitVec 1 := Scalar.andi v455 v457
  let v444 : BitVec 32 := Scalar.divsi v442 c12_i32_209
  let c1_i32_215 : BitVec 32 := 1#32
  let v459 : BitVec 32 := Scalar.subi v444 c1_i32_215
  let v460 : BitVec 32 := Scalar.select v458 v459 v444
  let v461 : Index := Scalar.indexCast v460
  ![v461.toNat]

def k0_chk27 (arg28 : BitVec 32) (arg31 : BitVec 32) : Prop :=
  (∀ (k0_h9 : k0_cond9 arg31 = 1#1), ∀ a, (k0_off70 arg31) a + S1.size a ≤ S3.size a) ∧
  (∀ (k0_h9 : k0_cond9 arg31 = 1#1), ∀ a, (k0_off71 arg28) a + S1.size a ≤ S12.size a) ∧
  (∀ a, (k0_off74 arg31) a + S1.size a ≤ S3.size a)
theorem k0_off70_inb : ∀ (arg28 : BitVec 32) (arg31 : BitVec 32) (k0_hw27 : k0_chk27 arg28 arg31), ∀ (k0_h9 : k0_cond9 arg31 = 1#1), ∀ a, (k0_off70 arg31) a + S1.size a ≤ S3.size a := fun arg28 arg31 k0_hw27 k0_h9 => k0_hw27.1 k0_h9
theorem k0_off71_inb : ∀ (arg28 : BitVec 32) (arg31 : BitVec 32) (k0_hw27 : k0_chk27 arg28 arg31), ∀ (k0_h9 : k0_cond9 arg31 = 1#1), ∀ a, (k0_off71 arg28) a + S1.size a ≤ S12.size a := fun arg28 arg31 k0_hw27 k0_h9 => k0_hw27.2.1 k0_h9
theorem k0_off74_inb : ∀ (arg28 : BitVec 32) (arg31 : BitVec 32) (k0_hw27 : k0_chk27 arg28 arg31), ∀ a, (k0_off74 arg31) a + S1.size a ≤ S3.size a := fun arg28 arg31 k0_hw27 => k0_hw27.2.2

@[reducible] def k0_t6_loop (k0_t3 : Fin k0_t3_loop.trips) (v39 : BitVec 32) (v64 : BitVec 32) : Scf.Loop 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_63 : BitVec 32 := 1#32
  ⟨v104, v116, c1_i32_63⟩
def k0_off75 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_71 : BitVec 32 := 0#32
  let v130 : BitVec 1 := Scalar.cmpi .sgt v17 c0_i32_71
  let v131 : BitVec 32 := Scalar.extui v130
  let c0_i32_72 : BitVec 32 := 0#32
  let v132 : BitVec 1 := Scalar.cmpi .slt v17 c0_i32_72
  let v133 : BitVec 32 := Scalar.extui v132
  let v134 : BitVec 32 := Scalar.subi v131 v133
  let c12_i32_70 : BitVec 32 := 12#32
  let c0_i32_73 : BitVec 32 := 0#32
  let v135 : BitVec 1 := Scalar.cmpi .sgt c12_i32_70 c0_i32_73
  let v136 : BitVec 32 := Scalar.extui v135
  let c0_i32_74 : BitVec 32 := 0#32
  let v137 : BitVec 1 := Scalar.cmpi .slt c12_i32_70 c0_i32_74
  let v138 : BitVec 32 := Scalar.extui v137
  let v139 : BitVec 32 := Scalar.subi v136 v138
  let v140 : BitVec 1 := Scalar.cmpi .ne v134 v139
  let v141 : BitVec 32 := Scalar.remsi v17 c12_i32_70
  let c0_i32_75 : BitVec 32 := 0#32
  let v142 : BitVec 1 := Scalar.cmpi .ne v141 c0_i32_75
  let v143 : BitVec 1 := Scalar.andi v140 v142
  let v129 : BitVec 32 := Scalar.divsi v17 c12_i32_70
  let c1_i32_76 : BitVec 32 := 1#32
  let v144 : BitVec 32 := Scalar.subi v129 c1_i32_76
  let v145 : BitVec 32 := Scalar.select v143 v144 v129
  let v146 : Index := Scalar.indexCast v145
  ![v146.toNat]
def k0_mult23 (k0_t3 : Fin k0_t3_loop.trips) (v39 : BitVec 32) (v64 : BitVec 32) (k0_t6 : Fin (k0_t6_loop k0_t3 v39 v64).trips) (v147 : BitVec 32) : BitVec 32 :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  v172

def k0_mult24 (k0_t3 : Fin k0_t3_loop.trips) (v39 : BitVec 32) (v64 : BitVec 32) (k0_t6 : Fin (k0_t6_loop k0_t3 v39 v64).trips) : BitVec 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let c2048_i32_103 : BitVec 32 := 2048#32
  let v201 : BitVec 32 := Scalar.muli arg26 c2048_i32_103
  v201
def k0_off76 (arg27 : BitVec 32) : Fin 1 → Nat :=
  ![arg27.toNat]

def k0_off77 (k0_t3 : Fin k0_t3_loop.trips) (v39 : BitVec 32) (v64 : BitVec 32) (k0_t6 : Fin (k0_t6_loop k0_t3 v39 v64).trips) (arg27 : BitVec 32) (v147 : BitVec 32) : (Fin 3 → Nat) × (Fin 3 → Nat) :=
  let c0_i32_104 : BitVec 32 := 0#32
  let c0_i32_105 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![arg27.toNat, 0, 0], ![1, v173.toNat, 128]⟩

def k0_sz21 (k0_t3 : Fin k0_t3_loop.trips) (v39 : BitVec 32) (v64 : BitVec 32) (k0_t6 : Fin (k0_t6_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]
def k0_off78 (k0_t3 : Fin k0_t3_loop.trips) (v39 : BitVec 32) (v64 : BitVec 32) (k0_t6 : Fin (k0_t6_loop k0_t3 v39 v64).trips) (v147 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_91 : BitVec 32 := 0#32
  let v175 : BitVec 1 := Scalar.cmpi .sgt v17 c0_i32_91
  let v176 : BitVec 32 := Scalar.extui v175
  let c0_i32_92 : BitVec 32 := 0#32
  let v177 : BitVec 1 := Scalar.cmpi .slt v17 c0_i32_92
  let v178 : BitVec 32 := Scalar.extui v177
  let v179 : BitVec 32 := Scalar.subi v176 v178
  let c12_i32_90 : BitVec 32 := 12#32
  let c0_i32_93 : BitVec 32 := 0#32
  let v180 : BitVec 1 := Scalar.cmpi .sgt c12_i32_90 c0_i32_93
  let v181 : BitVec 32 := Scalar.extui v180
  let c0_i32_94 : BitVec 32 := 0#32
  let v182 : BitVec 1 := Scalar.cmpi .slt c12_i32_90 c0_i32_94
  let v183 : BitVec 32 := Scalar.extui v182
  let v184 : BitVec 32 := Scalar.subi v181 v183
  let v185 : BitVec 1 := Scalar.cmpi .ne v179 v184
  let v186 : BitVec 32 := Scalar.remsi v17 c12_i32_90
  let c0_i32_95 : BitVec 32 := 0#32
  let v187 : BitVec 1 := Scalar.cmpi .ne v186 c0_i32_95
  let v188 : BitVec 1 := Scalar.andi v185 v187
  let v174 : BitVec 32 := Scalar.divsi v17 c12_i32_90
  let c1_i32_96 : BitVec 32 := 1#32
  let v189 : BitVec 32 := Scalar.subi v174 c1_i32_96
  let v190 : BitVec 32 := Scalar.select v188 v189 v174
  let c12_i32_97 : BitVec 32 := 12#32
  let c0_i32_98 : BitVec 32 := 0#32
  let v191 : BitVec 1 := Scalar.cmpi .eq c12_i32_97 c0_i32_98
  let c1_i32_99 : BitVec 32 := 1#32
  let v192 : BitVec 32 := Scalar.select v191 c1_i32_99 c12_i32_97
  let v193 : BitVec 32 := Scalar.remsi v17 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let c2048_i32_103 : BitVec 32 := 2048#32
  let v201 : BitVec 32 := Scalar.muli arg26 c2048_i32_103
  let v202 : BitVec 32 := v201
  let c0_i32_106 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![v190.toNat, v200.toNat, v202.toNat, 0], ![1, 1, v173.toNat, 128]⟩

def k0_sz22 (k0_t3 : Fin k0_t3_loop.trips) (v39 : BitVec 32) (v64 : BitVec 32) (k0_t6 : Fin (k0_t6_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]

def k0_chk30 (k0_t3 : Fin k0_t3_loop.trips) (v39 : BitVec 32) (v64 : BitVec 32) (k0_t6 : Fin (k0_t6_loop k0_t3 v39 v64).trips) (arg27 : BitVec 32) (v147 : BitVec 32) : Prop :=
  (128 ∣ (k0_mult23 k0_t3 v39 v64 k0_t6 v147).toNat) ∧
  ((⟨3, (k0_off77 k0_t3 v39 v64 k0_t6 arg27 v147).2⟩ : Shape).Squeezes ⟨2, k0_sz21 k0_t3 v39 v64 k0_t6 v147⟩) ∧
  ((⟨4, (k0_off78 k0_t3 v39 v64 k0_t6 v147).2⟩ : Shape).Squeezes ⟨2, k0_sz22 k0_t3 v39 v64 k0_t6 v147⟩)
theorem k0_mult23_dvd : ∀ (k0_t3 : Fin k0_t3_loop.trips) (v39 : BitVec 32) (v64 : BitVec 32) (k0_t6 : Fin (k0_t6_loop k0_t3 v39 v64).trips) (arg27 : BitVec 32) (v147 : BitVec 32) (k0_hw30 : k0_chk30 k0_t3 v39 v64 k0_t6 arg27 v147), 128 ∣ (k0_mult23 k0_t3 v39 v64 k0_t6 v147).toNat := fun k0_t3 v39 v64 k0_t6 arg27 v147 k0_hw30 => k0_hw30.1
theorem k0_sz21_squeezes : ∀ (k0_t3 : Fin k0_t3_loop.trips) (v39 : BitVec 32) (v64 : BitVec 32) (k0_t6 : Fin (k0_t6_loop k0_t3 v39 v64).trips) (arg27 : BitVec 32) (v147 : BitVec 32) (k0_hw30 : k0_chk30 k0_t3 v39 v64 k0_t6 arg27 v147), (⟨3, (k0_off77 k0_t3 v39 v64 k0_t6 arg27 v147).2⟩ : Shape).Squeezes ⟨2, k0_sz21 k0_t3 v39 v64 k0_t6 v147⟩ := fun k0_t3 v39 v64 k0_t6 arg27 v147 k0_hw30 => k0_hw30.2.1
theorem k0_sz22_squeezes : ∀ (k0_t3 : Fin k0_t3_loop.trips) (v39 : BitVec 32) (v64 : BitVec 32) (k0_t6 : Fin (k0_t6_loop k0_t3 v39 v64).trips) (arg27 : BitVec 32) (v147 : BitVec 32) (k0_hw30 : k0_chk30 k0_t3 v39 v64 k0_t6 arg27 v147), (⟨4, (k0_off78 k0_t3 v39 v64 k0_t6 v147).2⟩ : Shape).Squeezes ⟨2, k0_sz22 k0_t3 v39 v64 k0_t6 v147⟩ := fun k0_t3 v39 v64 k0_t6 arg27 v147 k0_hw30 => k0_hw30.2.2

def k0_off79 (arg27 : BitVec 32) : Fin 3 → Nat :=
  let v210 : Index := Scalar.indexCast arg27
  let c0_108 : Index := 0#32
  let c0_109 : Index := 0#32
  ![v210.toNat, 0, 0]
def k0_off80 (arg27 : BitVec 32) : Fin 3 → Nat :=
  let v213 : Index := Scalar.indexCast arg27
  let c1024 : Index := 1024#32
  let c0_110 : Index := 0#32
  ![v213.toNat, 1024, 0]

def k0_chk31 (arg27 : BitVec 32) : Prop :=
  (∀ a, (k0_off76 arg27) a + S1.size a ≤ S12.size a) ∧
  (∀ a, (k0_off79 arg27) a + S1x1024x128.size a ≤ S12x2048x128.size a) ∧
  (∀ a, (k0_off80 arg27) a + S1x1024x128.size a ≤ S12x2048x128.size a)
theorem k0_off76_inb : ∀ (arg27 : BitVec 32) (k0_hw31 : k0_chk31 arg27), ∀ a, (k0_off76 arg27) a + S1.size a ≤ S12.size a := fun arg27 k0_hw31 => k0_hw31.1
theorem k0_off79_inb : ∀ (arg27 : BitVec 32) (k0_hw31 : k0_chk31 arg27), ∀ a, (k0_off79 arg27) a + S1x1024x128.size a ≤ S12x2048x128.size a := fun arg27 k0_hw31 => k0_hw31.2.1
theorem k0_off80_inb : ∀ (arg27 : BitVec 32) (k0_hw31 : k0_chk31 arg27), ∀ a, (k0_off80 arg27) a + S1x1024x128.size a ≤ S12x2048x128.size a := fun arg27 k0_hw31 => k0_hw31.2.2

def k0_off81 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_107 : BitVec 32 := 2#32
  let v209 : BitVec 32 := Scalar.remsi v17 c2_i32_107
  let v217 : Index := Scalar.indexCast v209
  let c0_111 : Index := 0#32
  let c0_112 : Index := 0#32
  ![v217.toNat, 0, 0]
def k0_off82 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_116 : BitVec 32 := 0#32
  let v224 : BitVec 1 := Scalar.cmpi .sgt v17 c0_i32_116
  let v225 : BitVec 32 := Scalar.extui v224
  let c0_i32_117 : BitVec 32 := 0#32
  let v226 : BitVec 1 := Scalar.cmpi .slt v17 c0_i32_117
  let v227 : BitVec 32 := Scalar.extui v226
  let v228 : BitVec 32 := Scalar.subi v225 v227
  let c12_i32_115 : BitVec 32 := 12#32
  let c0_i32_118 : BitVec 32 := 0#32
  let v229 : BitVec 1 := Scalar.cmpi .sgt c12_i32_115 c0_i32_118
  let v230 : BitVec 32 := Scalar.extui v229
  let c0_i32_119 : BitVec 32 := 0#32
  let v231 : BitVec 1 := Scalar.cmpi .slt c12_i32_115 c0_i32_119
  let v232 : BitVec 32 := Scalar.extui v231
  let v233 : BitVec 32 := Scalar.subi v230 v232
  let v234 : BitVec 1 := Scalar.cmpi .ne v228 v233
  let v235 : BitVec 32 := Scalar.remsi v17 c12_i32_115
  let c0_i32_120 : BitVec 32 := 0#32
  let v236 : BitVec 1 := Scalar.cmpi .ne v235 c0_i32_120
  let v237 : BitVec 1 := Scalar.andi v234 v236
  let v223 : BitVec 32 := Scalar.divsi v17 c12_i32_115
  let c1_i32_121 : BitVec 32 := 1#32
  let v238 : BitVec 32 := Scalar.subi v223 c1_i32_121
  let v239 : BitVec 32 := Scalar.select v237 v238 v223
  let v240 : Index := Scalar.indexCast v239
  ![v240.toNat]
def k0_off83 (k0_t3 : Fin k0_t3_loop.trips) (v39 : BitVec 32) (v64 : BitVec 32) (k0_t6 : Fin (k0_t6_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_107 : BitVec 32 := 2#32
  let v209 : BitVec 32 := Scalar.remsi v17 c2_i32_107
  let v249 : Index := Scalar.indexCast v209
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_63 : BitVec 32 := 1#32
  let arg26 : BitVec 32 := Scf.iv v104 c1_i32_63 k0_t6
  let v250 : Index := Scalar.indexCast arg26
  let c0_125 : Index := 0#32
  let c0_126 : Index := 0#32
  ![v249.toNat, v250.toNat, 0, 0]
def k0_off84 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_107 : BitVec 32 := 2#32
  let v209 : BitVec 32 := Scalar.remsi v17 c2_i32_107
  let v269 : Index := Scalar.indexCast v209
  let c0_127 : Index := 0#32
  let c0_128 : Index := 0#32
  ![v269.toNat, 0, 0]
def k0_off85 (arg28 : BitVec 32) : Fin 1 → Nat :=
  let c0_i32_156 : BitVec 32 := 0#32
  let v319 : BitVec 1 := Scalar.cmpi .sgt arg28 c0_i32_156
  let v320 : BitVec 32 := Scalar.extui v319
  let c0_i32_157 : BitVec 32 := 0#32
  let v321 : BitVec 1 := Scalar.cmpi .slt arg28 c0_i32_157
  let v322 : BitVec 32 := Scalar.extui v321
  let v323 : BitVec 32 := Scalar.subi v320 v322
  let c12_i32_155 : BitVec 32 := 12#32
  let c0_i32_158 : BitVec 32 := 0#32
  let v324 : BitVec 1 := Scalar.cmpi .sgt c12_i32_155 c0_i32_158
  let v325 : BitVec 32 := Scalar.extui v324
  let c0_i32_159 : BitVec 32 := 0#32
  let v326 : BitVec 1 := Scalar.cmpi .slt c12_i32_155 c0_i32_159
  let v327 : BitVec 32 := Scalar.extui v326
  let v328 : BitVec 32 := Scalar.subi v325 v327
  let v329 : BitVec 1 := Scalar.cmpi .ne v323 v328
  let v330 : BitVec 32 := Scalar.remsi arg28 c12_i32_155
  let c0_i32_160 : BitVec 32 := 0#32
  let v331 : BitVec 1 := Scalar.cmpi .ne v330 c0_i32_160
  let v332 : BitVec 1 := Scalar.andi v329 v331
  let v318 : BitVec 32 := Scalar.divsi arg28 c12_i32_155
  let c1_i32_161 : BitVec 32 := 1#32
  let v333 : BitVec 32 := Scalar.subi v318 c1_i32_161
  let v334 : BitVec 32 := Scalar.select v332 v333 v318
  let v335 : Index := Scalar.indexCast v334
  ![v335.toNat]
def k0_cond10 (arg28 : BitVec 32) : BitVec 1 :=
  let c36_i32_131 : BitVec 32 := 36#32
  let v277 : BitVec 1 := Scalar.cmpi .slt arg28 c36_i32_131
  let v278 : BitVec 32 := Scalar.extui v277
  let c0_i32_132 : BitVec 32 := 0#32
  let v279 : BitVec 1 := Scalar.cmpi .ne v278 c0_i32_132
  v279

def k0_mult25 (arg29 : BitVec 32) (v336 : BitVec 32) : BitVec 32 :=
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  v361

def k0_mult26 (arg29 : BitVec 32) : BitVec 32 :=
  let c2048_i32_189 : BitVec 32 := 2048#32
  let v390 : BitVec 32 := Scalar.muli arg29 c2048_i32_189
  v390

def k0_chk34 (arg28 : BitVec 32) (arg29 : BitVec 32) : Prop :=
  (∀ (k0_h10 : k0_cond10 arg28 = 1#1), 2048 ∣ (k0_mult26 arg29).toNat)
theorem k0_mult26_dvd : ∀ (arg28 : BitVec 32) (arg29 : BitVec 32) (k0_hw34 : k0_chk34 arg28 arg29), ∀ (k0_h10 : k0_cond10 arg28 = 1#1), 2048 ∣ (k0_mult26 arg29).toNat := fun arg28 arg29 k0_hw34 k0_h10 => k0_hw34 k0_h10

def k0_off86 (arg27 : BitVec 32) : Fin 1 → Nat :=
  ![arg27.toNat]
def k0_off87 (arg27 : BitVec 32) (arg29 : BitVec 32) (v336 : BitVec 32) : (Fin 3 → Nat) × (Fin 3 → Nat) :=
  let c0_i32_190 : BitVec 32 := 0#32
  let c0_i32_191 : BitVec 32 := 0#32
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ⟨![arg27.toNat, 0, 0], ![1, v362.toNat, 128]⟩
def k0_sz23 (arg29 : BitVec 32) (v336 : BitVec 32) : Fin 2 → Nat :=
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ![v362.toNat, 128]
def k0_off88 (arg28 : BitVec 32) (arg29 : BitVec 32) (v336 : BitVec 32) : (Fin 4 → Nat) × (Fin 4 → Nat) :=
  let c0_i32_177 : BitVec 32 := 0#32
  let v364 : BitVec 1 := Scalar.cmpi .sgt arg28 c0_i32_177
  let v365 : BitVec 32 := Scalar.extui v364
  let c0_i32_178 : BitVec 32 := 0#32
  let v366 : BitVec 1 := Scalar.cmpi .slt arg28 c0_i32_178
  let v367 : BitVec 32 := Scalar.extui v366
  let v368 : BitVec 32 := Scalar.subi v365 v367
  let c12_i32_176 : BitVec 32 := 12#32
  let c0_i32_179 : BitVec 32 := 0#32
  let v369 : BitVec 1 := Scalar.cmpi .sgt c12_i32_176 c0_i32_179
  let v370 : BitVec 32 := Scalar.extui v369
  let c0_i32_180 : BitVec 32 := 0#32
  let v371 : BitVec 1 := Scalar.cmpi .slt c12_i32_176 c0_i32_180
  let v372 : BitVec 32 := Scalar.extui v371
  let v373 : BitVec 32 := Scalar.subi v370 v372
  let v374 : BitVec 1 := Scalar.cmpi .ne v368 v373
  let v375 : BitVec 32 := Scalar.remsi arg28 c12_i32_176
  let c0_i32_181 : BitVec 32 := 0#32
  let v376 : BitVec 1 := Scalar.cmpi .ne v375 c0_i32_181
  let v377 : BitVec 1 := Scalar.andi v374 v376
  let v363 : BitVec 32 := Scalar.divsi arg28 c12_i32_176
  let c1_i32_182 : BitVec 32 := 1#32
  let v378 : BitVec 32 := Scalar.subi v363 c1_i32_182
  let v379 : BitVec 32 := Scalar.select v377 v378 v363
  let c12_i32_183 : BitVec 32 := 12#32
  let c0_i32_184 : BitVec 32 := 0#32
  let v380 : BitVec 1 := Scalar.cmpi .eq c12_i32_183 c0_i32_184
  let c1_i32_185 : BitVec 32 := 1#32
  let v381 : BitVec 32 := Scalar.select v380 c1_i32_185 c12_i32_183
  let v382 : BitVec 32 := Scalar.remsi arg28 v381
  let c0_i32_187 : BitVec 32 := 0#32
  let v384 : BitVec 1 := Scalar.cmpi .slt v382 c0_i32_187
  let c0_i32_188 : BitVec 32 := 0#32
  let v385 : BitVec 1 := Scalar.cmpi .slt v381 c0_i32_188
  let v386 : BitVec 1 := Scalar.xori v384 v385
  let c0_i32_186 : BitVec 32 := 0#32
  let v383 : BitVec 1 := Scalar.cmpi .ne v382 c0_i32_186
  let v387 : BitVec 1 := Scalar.andi v386 v383
  let v388 : BitVec 32 := Scalar.addi v382 v381
  let v389 : BitVec 32 := Scalar.select v387 v388 v382
  let c2048_i32_189 : BitVec 32 := 2048#32
  let v390 : BitVec 32 := Scalar.muli arg29 c2048_i32_189
  let v391 : BitVec 32 := v390
  let c0_i32_192 : BitVec 32 := 0#32
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ⟨![v379.toNat, v389.toNat, v391.toNat, 0], ![1, 1, v362.toNat, 128]⟩
def k0_sz24 (arg29 : BitVec 32) (v336 : BitVec 32) : Fin 2 → Nat :=
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ![v362.toNat, 128]

def k0_chk33 (arg27 : BitVec 32) (arg28 : BitVec 32) (arg29 : BitVec 32) (v336 : BitVec 32) : Prop :=
  (∀ (k0_h10 : k0_cond10 arg28 = 1#1), 128 ∣ (k0_mult25 arg29 v336).toNat) ∧
  (∀ (k0_h10 : k0_cond10 arg28 = 1#1), ∀ a, (k0_off87 arg27 arg29 v336).2 a = 0 ∨ (k0_off87 arg27 arg29 v336).1 a + (k0_off87 arg27 arg29 v336).2 a ≤ S12x2048x128.size a) ∧
  (∀ (k0_h10 : k0_cond10 arg28 = 1#1), (⟨3, (k0_off87 arg27 arg29 v336).2⟩ : Shape).Squeezes ⟨2, k0_sz23 arg29 v336⟩) ∧
  (∀ (k0_h10 : k0_cond10 arg28 = 1#1), ∀ a, (k0_off88 arg28 arg29 v336).2 a = 0 ∨ (k0_off88 arg28 arg29 v336).1 a + (k0_off88 arg28 arg29 v336).2 a ≤ S3x12x16384x128.size a) ∧
  (∀ (k0_h10 : k0_cond10 arg28 = 1#1), (⟨4, (k0_off88 arg28 arg29 v336).2⟩ : Shape).Squeezes ⟨2, k0_sz24 arg29 v336⟩) ∧
  (∀ (k0_h10 : k0_cond10 arg28 = 1#1), ∀ (hinb : ∀ a, (k0_off88 arg28 arg29 v336).2 a = 0 ∨ (k0_off88 arg28 arg29 v336).1 a + (k0_off88 arg28 arg29 v336).2 a ≤ S3x12x16384x128.size a), (Rect.unitDyn (s := S3x12x16384x128) (k0_off88 arg28 arg29 v336).1 (k0_off88 arg28 arg29 v336).2 hinb).WholeWords (EltTy.packing .bf16)) ∧
  (∀ (k0_h10 : k0_cond10 arg28 = 1#1), ∀ (hinb : ∀ a, (k0_off87 arg27 arg29 v336).2 a = 0 ∨ (k0_off87 arg27 arg29 v336).1 a + (k0_off87 arg27 arg29 v336).2 a ≤ S12x2048x128.size a), (Rect.unitDyn (s := S12x2048x128) (k0_off87 arg27 arg29 v336).1 (k0_off87 arg27 arg29 v336).2 hinb).WholeWords (EltTy.packing .bf16))
theorem k0_mult25_dvd : ∀ (arg27 : BitVec 32) (arg28 : BitVec 32) (arg29 : BitVec 32) (v336 : BitVec 32) (k0_hw33 : k0_chk33 arg27 arg28 arg29 v336), ∀ (k0_h10 : k0_cond10 arg28 = 1#1), 128 ∣ (k0_mult25 arg29 v336).toNat := fun arg27 arg28 arg29 v336 k0_hw33 k0_h10 => k0_hw33.1 k0_h10
theorem k0_off87_inb : ∀ (arg27 : BitVec 32) (arg28 : BitVec 32) (arg29 : BitVec 32) (v336 : BitVec 32) (k0_hw33 : k0_chk33 arg27 arg28 arg29 v336), ∀ (k0_h10 : k0_cond10 arg28 = 1#1), ∀ a, (k0_off87 arg27 arg29 v336).2 a = 0 ∨ (k0_off87 arg27 arg29 v336).1 a + (k0_off87 arg27 arg29 v336).2 a ≤ S12x2048x128.size a := fun arg27 arg28 arg29 v336 k0_hw33 k0_h10 => k0_hw33.2.1 k0_h10
theorem k0_sz23_squeezes : ∀ (arg27 : BitVec 32) (arg28 : BitVec 32) (arg29 : BitVec 32) (v336 : BitVec 32) (k0_hw33 : k0_chk33 arg27 arg28 arg29 v336), ∀ (k0_h10 : k0_cond10 arg28 = 1#1), (⟨3, (k0_off87 arg27 arg29 v336).2⟩ : Shape).Squeezes ⟨2, k0_sz23 arg29 v336⟩ := fun arg27 arg28 arg29 v336 k0_hw33 k0_h10 => k0_hw33.2.2.1 k0_h10
theorem k0_off88_inb : ∀ (arg27 : BitVec 32) (arg28 : BitVec 32) (arg29 : BitVec 32) (v336 : BitVec 32) (k0_hw33 : k0_chk33 arg27 arg28 arg29 v336), ∀ (k0_h10 : k0_cond10 arg28 = 1#1), ∀ a, (k0_off88 arg28 arg29 v336).2 a = 0 ∨ (k0_off88 arg28 arg29 v336).1 a + (k0_off88 arg28 arg29 v336).2 a ≤ S3x12x16384x128.size a := fun arg27 arg28 arg29 v336 k0_hw33 k0_h10 => k0_hw33.2.2.2.1 k0_h10
theorem k0_sz24_squeezes : ∀ (arg27 : BitVec 32) (arg28 : BitVec 32) (arg29 : BitVec 32) (v336 : BitVec 32) (k0_hw33 : k0_chk33 arg27 arg28 arg29 v336), ∀ (k0_h10 : k0_cond10 arg28 = 1#1), (⟨4, (k0_off88 arg28 arg29 v336).2⟩ : Shape).Squeezes ⟨2, k0_sz24 arg29 v336⟩ := fun arg27 arg28 arg29 v336 k0_hw33 k0_h10 => k0_hw33.2.2.2.2.1 k0_h10
theorem k0_off88_wordsbf16 : ∀ (arg27 : BitVec 32) (arg28 : BitVec 32) (arg29 : BitVec 32) (v336 : BitVec 32) (k0_hw33 : k0_chk33 arg27 arg28 arg29 v336), ∀ (k0_h10 : k0_cond10 arg28 = 1#1), (Rect.unitDyn (s := S3x12x16384x128) (k0_off88 arg28 arg29 v336).1 (k0_off88 arg28 arg29 v336).2 (k0_off88_inb arg27 arg28 arg29 v336 k0_hw33 k0_h10)).WholeWords (EltTy.packing .bf16) := fun arg27 arg28 arg29 v336 k0_hw33 k0_h10 => k0_hw33.2.2.2.2.2.1 k0_h10 (k0_off88_inb arg27 arg28 arg29 v336 k0_hw33 k0_h10)
theorem k0_off87_wordsbf16 : ∀ (arg27 : BitVec 32) (arg28 : BitVec 32) (arg29 : BitVec 32) (v336 : BitVec 32) (k0_hw33 : k0_chk33 arg27 arg28 arg29 v336), ∀ (k0_h10 : k0_cond10 arg28 = 1#1), (Rect.unitDyn (s := S12x2048x128) (k0_off87 arg27 arg29 v336).1 (k0_off87 arg27 arg29 v336).2 (k0_off87_inb arg27 arg28 arg29 v336 k0_hw33 k0_h10)).WholeWords (EltTy.packing .bf16) := fun arg27 arg28 arg29 v336 k0_hw33 k0_h10 => k0_hw33.2.2.2.2.2.2 k0_h10 (k0_off87_inb arg27 arg28 arg29 v336 k0_hw33 k0_h10)

def k0_off89 (arg28 : BitVec 32) : Fin 1 → Nat :=
  let c35_i32_133 : BitVec 32 := 35#32
  let v280 : BitVec 32 := Scalar.minsi arg28 c35_i32_133
  let c0_i32_136 : BitVec 32 := 0#32
  let v283 : BitVec 1 := Scalar.cmpi .sgt v280 c0_i32_136
  let v284 : BitVec 32 := Scalar.extui v283
  let c0_i32_137 : BitVec 32 := 0#32
  let v285 : BitVec 1 := Scalar.cmpi .slt v280 c0_i32_137
  let v286 : BitVec 32 := Scalar.extui v285
  let v287 : BitVec 32 := Scalar.subi v284 v286
  let c12_i32_135 : BitVec 32 := 12#32
  let c0_i32_138 : BitVec 32 := 0#32
  let v288 : BitVec 1 := Scalar.cmpi .sgt c12_i32_135 c0_i32_138
  let v289 : BitVec 32 := Scalar.extui v288
  let c0_i32_139 : BitVec 32 := 0#32
  let v290 : BitVec 1 := Scalar.cmpi .slt c12_i32_135 c0_i32_139
  let v291 : BitVec 32 := Scalar.extui v290
  let v292 : BitVec 32 := Scalar.subi v289 v291
  let v293 : BitVec 1 := Scalar.cmpi .ne v287 v292
  let v294 : BitVec 32 := Scalar.remsi v280 c12_i32_135
  let c0_i32_140 : BitVec 32 := 0#32
  let v295 : BitVec 1 := Scalar.cmpi .ne v294 c0_i32_140
  let v296 : BitVec 1 := Scalar.andi v293 v295
  let v282 : BitVec 32 := Scalar.divsi v280 c12_i32_135
  let c1_i32_141 : BitVec 32 := 1#32
  let v297 : BitVec 32 := Scalar.subi v282 c1_i32_141
  let v298 : BitVec 32 := Scalar.select v296 v297 v282
  let v299 : Index := Scalar.indexCast v298
  ![v299.toNat]

def k0_chk32 (arg27 : BitVec 32) (arg28 : BitVec 32) : Prop :=
  (∀ (k0_h10 : k0_cond10 arg28 = 1#1), ∀ a, (k0_off85 arg28) a + S1.size a ≤ S3.size a) ∧
  (∀ (k0_h10 : k0_cond10 arg28 = 1#1), ∀ a, (k0_off86 arg27) a + S1.size a ≤ S12.size a) ∧
  (∀ a, (k0_off89 arg28) a + S1.size a ≤ S3.size a)
theorem k0_off85_inb : ∀ (arg27 : BitVec 32) (arg28 : BitVec 32) (k0_hw32 : k0_chk32 arg27 arg28), ∀ (k0_h10 : k0_cond10 arg28 = 1#1), ∀ a, (k0_off85 arg28) a + S1.size a ≤ S3.size a := fun arg27 arg28 k0_hw32 k0_h10 => k0_hw32.1 k0_h10
theorem k0_off86_inb : ∀ (arg27 : BitVec 32) (arg28 : BitVec 32) (k0_hw32 : k0_chk32 arg27 arg28), ∀ (k0_h10 : k0_cond10 arg28 = 1#1), ∀ a, (k0_off86 arg27) a + S1.size a ≤ S12.size a := fun arg27 arg28 k0_hw32 k0_h10 => k0_hw32.2.1 k0_h10
theorem k0_off89_inb : ∀ (arg27 : BitVec 32) (arg28 : BitVec 32) (k0_hw32 : k0_chk32 arg27 arg28), ∀ a, (k0_off89 arg28) a + S1.size a ≤ S3.size a := fun arg27 arg28 k0_hw32 => k0_hw32.2.2

@[reducible] def k0_t7_loop (k0_t3 : Fin k0_t3_loop.trips) (v39 : BitVec 32) (v64 : BitVec 32) : Scf.Loop 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let v113 : BitVec 32 := Scalar.addi v104 v112
  let c1_i32_64 : BitVec 32 := 1#32
  ⟨v116, v113, c1_i32_64⟩
def k0_off90 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_71 : BitVec 32 := 0#32
  let v130 : BitVec 1 := Scalar.cmpi .sgt v17 c0_i32_71
  let v131 : BitVec 32 := Scalar.extui v130
  let c0_i32_72 : BitVec 32 := 0#32
  let v132 : BitVec 1 := Scalar.cmpi .slt v17 c0_i32_72
  let v133 : BitVec 32 := Scalar.extui v132
  let v134 : BitVec 32 := Scalar.subi v131 v133
  let c12_i32_70 : BitVec 32 := 12#32
  let c0_i32_73 : BitVec 32 := 0#32
  let v135 : BitVec 1 := Scalar.cmpi .sgt c12_i32_70 c0_i32_73
  let v136 : BitVec 32 := Scalar.extui v135
  let c0_i32_74 : BitVec 32 := 0#32
  let v137 : BitVec 1 := Scalar.cmpi .slt c12_i32_70 c0_i32_74
  let v138 : BitVec 32 := Scalar.extui v137
  let v139 : BitVec 32 := Scalar.subi v136 v138
  let v140 : BitVec 1 := Scalar.cmpi .ne v134 v139
  let v141 : BitVec 32 := Scalar.remsi v17 c12_i32_70
  let c0_i32_75 : BitVec 32 := 0#32
  let v142 : BitVec 1 := Scalar.cmpi .ne v141 c0_i32_75
  let v143 : BitVec 1 := Scalar.andi v140 v142
  let v129 : BitVec 32 := Scalar.divsi v17 c12_i32_70
  let c1_i32_76 : BitVec 32 := 1#32
  let v144 : BitVec 32 := Scalar.subi v129 c1_i32_76
  let v145 : BitVec 32 := Scalar.select v143 v144 v129
  let v146 : Index := Scalar.indexCast v145
  ![v146.toNat]
def k0_mult27 (k0_t3 : Fin k0_t3_loop.trips) (v39 : BitVec 32) (v64 : BitVec 32) (k0_t7 : Fin (k0_t7_loop k0_t3 v39 v64).trips) (v147 : BitVec 32) : BitVec 32 :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  v172

def k0_mult28 (k0_t3 : Fin k0_t3_loop.trips) (v39 : BitVec 32) (v64 : BitVec 32) (k0_t7 : Fin (k0_t7_loop k0_t3 v39 v64).trips) : BitVec 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let c2048_i32_103 : BitVec 32 := 2048#32
  let v201 : BitVec 32 := Scalar.muli arg26 c2048_i32_103
  v201
def k0_off91 (arg27 : BitVec 32) : Fin 1 → Nat :=
  ![arg27.toNat]

def k0_off92 (k0_t3 : Fin k0_t3_loop.trips) (v39 : BitVec 32) (v64 : BitVec 32) (k0_t7 : Fin (k0_t7_loop k0_t3 v39 v64).trips) (arg27 : BitVec 32) (v147 : BitVec 32) : (Fin 3 → Nat) × (Fin 3 → Nat) :=
  let c0_i32_104 : BitVec 32 := 0#32
  let c0_i32_105 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![arg27.toNat, 0, 0], ![1, v173.toNat, 128]⟩

def k0_sz25 (k0_t3 : Fin k0_t3_loop.trips) (v39 : BitVec 32) (v64 : BitVec 32) (k0_t7 : Fin (k0_t7_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]
def k0_off93 (k0_t3 : Fin k0_t3_loop.trips) (v39 : BitVec 32) (v64 : BitVec 32) (k0_t7 : Fin (k0_t7_loop k0_t3 v39 v64).trips) (v147 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_91 : BitVec 32 := 0#32
  let v175 : BitVec 1 := Scalar.cmpi .sgt v17 c0_i32_91
  let v176 : BitVec 32 := Scalar.extui v175
  let c0_i32_92 : BitVec 32 := 0#32
  let v177 : BitVec 1 := Scalar.cmpi .slt v17 c0_i32_92
  let v178 : BitVec 32 := Scalar.extui v177
  let v179 : BitVec 32 := Scalar.subi v176 v178
  let c12_i32_90 : BitVec 32 := 12#32
  let c0_i32_93 : BitVec 32 := 0#32
  let v180 : BitVec 1 := Scalar.cmpi .sgt c12_i32_90 c0_i32_93
  let v181 : BitVec 32 := Scalar.extui v180
  let c0_i32_94 : BitVec 32 := 0#32
  let v182 : BitVec 1 := Scalar.cmpi .slt c12_i32_90 c0_i32_94
  let v183 : BitVec 32 := Scalar.extui v182
  let v184 : BitVec 32 := Scalar.subi v181 v183
  let v185 : BitVec 1 := Scalar.cmpi .ne v179 v184
  let v186 : BitVec 32 := Scalar.remsi v17 c12_i32_90
  let c0_i32_95 : BitVec 32 := 0#32
  let v187 : BitVec 1 := Scalar.cmpi .ne v186 c0_i32_95
  let v188 : BitVec 1 := Scalar.andi v185 v187
  let v174 : BitVec 32 := Scalar.divsi v17 c12_i32_90
  let c1_i32_96 : BitVec 32 := 1#32
  let v189 : BitVec 32 := Scalar.subi v174 c1_i32_96
  let v190 : BitVec 32 := Scalar.select v188 v189 v174
  let c12_i32_97 : BitVec 32 := 12#32
  let c0_i32_98 : BitVec 32 := 0#32
  let v191 : BitVec 1 := Scalar.cmpi .eq c12_i32_97 c0_i32_98
  let c1_i32_99 : BitVec 32 := 1#32
  let v192 : BitVec 32 := Scalar.select v191 c1_i32_99 c12_i32_97
  let v193 : BitVec 32 := Scalar.remsi v17 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let c2048_i32_103 : BitVec 32 := 2048#32
  let v201 : BitVec 32 := Scalar.muli arg26 c2048_i32_103
  let v202 : BitVec 32 := v201
  let c0_i32_106 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![v190.toNat, v200.toNat, v202.toNat, 0], ![1, 1, v173.toNat, 128]⟩

def k0_sz26 (k0_t3 : Fin k0_t3_loop.trips) (v39 : BitVec 32) (v64 : BitVec 32) (k0_t7 : Fin (k0_t7_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![v173.toNat, 128]

def k0_chk35 (k0_t3 : Fin k0_t3_loop.trips) (v39 : BitVec 32) (v64 : BitVec 32) (k0_t7 : Fin (k0_t7_loop k0_t3 v39 v64).trips) (arg27 : BitVec 32) (v147 : BitVec 32) : Prop :=
  (128 ∣ (k0_mult27 k0_t3 v39 v64 k0_t7 v147).toNat) ∧
  ((⟨3, (k0_off92 k0_t3 v39 v64 k0_t7 arg27 v147).2⟩ : Shape).Squeezes ⟨2, k0_sz25 k0_t3 v39 v64 k0_t7 v147⟩) ∧
  ((⟨4, (k0_off93 k0_t3 v39 v64 k0_t7 v147).2⟩ : Shape).Squeezes ⟨2, k0_sz26 k0_t3 v39 v64 k0_t7 v147⟩)
theorem k0_mult27_dvd : ∀ (k0_t3 : Fin k0_t3_loop.trips) (v39 : BitVec 32) (v64 : BitVec 32) (k0_t7 : Fin (k0_t7_loop k0_t3 v39 v64).trips) (arg27 : BitVec 32) (v147 : BitVec 32) (k0_hw35 : k0_chk35 k0_t3 v39 v64 k0_t7 arg27 v147), 128 ∣ (k0_mult27 k0_t3 v39 v64 k0_t7 v147).toNat := fun k0_t3 v39 v64 k0_t7 arg27 v147 k0_hw35 => k0_hw35.1
theorem k0_sz25_squeezes : ∀ (k0_t3 : Fin k0_t3_loop.trips) (v39 : BitVec 32) (v64 : BitVec 32) (k0_t7 : Fin (k0_t7_loop k0_t3 v39 v64).trips) (arg27 : BitVec 32) (v147 : BitVec 32) (k0_hw35 : k0_chk35 k0_t3 v39 v64 k0_t7 arg27 v147), (⟨3, (k0_off92 k0_t3 v39 v64 k0_t7 arg27 v147).2⟩ : Shape).Squeezes ⟨2, k0_sz25 k0_t3 v39 v64 k0_t7 v147⟩ := fun k0_t3 v39 v64 k0_t7 arg27 v147 k0_hw35 => k0_hw35.2.1
theorem k0_sz26_squeezes : ∀ (k0_t3 : Fin k0_t3_loop.trips) (v39 : BitVec 32) (v64 : BitVec 32) (k0_t7 : Fin (k0_t7_loop k0_t3 v39 v64).trips) (arg27 : BitVec 32) (v147 : BitVec 32) (k0_hw35 : k0_chk35 k0_t3 v39 v64 k0_t7 arg27 v147), (⟨4, (k0_off93 k0_t3 v39 v64 k0_t7 v147).2⟩ : Shape).Squeezes ⟨2, k0_sz26 k0_t3 v39 v64 k0_t7 v147⟩ := fun k0_t3 v39 v64 k0_t7 arg27 v147 k0_hw35 => k0_hw35.2.2

def k0_off94 (arg27 : BitVec 32) : Fin 3 → Nat :=
  let v210 : Index := Scalar.indexCast arg27
  let c0_108 : Index := 0#32
  let c0_109 : Index := 0#32
  ![v210.toNat, 0, 0]
def k0_off95 (arg27 : BitVec 32) : Fin 3 → Nat :=
  let v213 : Index := Scalar.indexCast arg27
  let c1024 : Index := 1024#32
  let c0_110 : Index := 0#32
  ![v213.toNat, 1024, 0]

def k0_chk36 (arg27 : BitVec 32) : Prop :=
  (∀ a, (k0_off91 arg27) a + S1.size a ≤ S12.size a) ∧
  (∀ a, (k0_off94 arg27) a + S1x1024x128.size a ≤ S12x2048x128.size a) ∧
  (∀ a, (k0_off95 arg27) a + S1x1024x128.size a ≤ S12x2048x128.size a)
theorem k0_off91_inb : ∀ (arg27 : BitVec 32) (k0_hw36 : k0_chk36 arg27), ∀ a, (k0_off91 arg27) a + S1.size a ≤ S12.size a := fun arg27 k0_hw36 => k0_hw36.1
theorem k0_off94_inb : ∀ (arg27 : BitVec 32) (k0_hw36 : k0_chk36 arg27), ∀ a, (k0_off94 arg27) a + S1x1024x128.size a ≤ S12x2048x128.size a := fun arg27 k0_hw36 => k0_hw36.2.1
theorem k0_off95_inb : ∀ (arg27 : BitVec 32) (k0_hw36 : k0_chk36 arg27), ∀ a, (k0_off95 arg27) a + S1x1024x128.size a ≤ S12x2048x128.size a := fun arg27 k0_hw36 => k0_hw36.2.2

def k0_off96 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_107 : BitVec 32 := 2#32
  let v209 : BitVec 32 := Scalar.remsi v17 c2_i32_107
  let v217 : Index := Scalar.indexCast v209
  let c0_111 : Index := 0#32
  let c0_112 : Index := 0#32
  ![v217.toNat, 0, 0]
def k0_off97 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c0_i32_116 : BitVec 32 := 0#32
  let v224 : BitVec 1 := Scalar.cmpi .sgt v17 c0_i32_116
  let v225 : BitVec 32 := Scalar.extui v224
  let c0_i32_117 : BitVec 32 := 0#32
  let v226 : BitVec 1 := Scalar.cmpi .slt v17 c0_i32_117
  let v227 : BitVec 32 := Scalar.extui v226
  let v228 : BitVec 32 := Scalar.subi v225 v227
  let c12_i32_115 : BitVec 32 := 12#32
  let c0_i32_118 : BitVec 32 := 0#32
  let v229 : BitVec 1 := Scalar.cmpi .sgt c12_i32_115 c0_i32_118
  let v230 : BitVec 32 := Scalar.extui v229
  let c0_i32_119 : BitVec 32 := 0#32
  let v231 : BitVec 1 := Scalar.cmpi .slt c12_i32_115 c0_i32_119
  let v232 : BitVec 32 := Scalar.extui v231
  let v233 : BitVec 32 := Scalar.subi v230 v232
  let v234 : BitVec 1 := Scalar.cmpi .ne v228 v233
  let v235 : BitVec 32 := Scalar.remsi v17 c12_i32_115
  let c0_i32_120 : BitVec 32 := 0#32
  let v236 : BitVec 1 := Scalar.cmpi .ne v235 c0_i32_120
  let v237 : BitVec 1 := Scalar.andi v234 v236
  let v223 : BitVec 32 := Scalar.divsi v17 c12_i32_115
  let c1_i32_121 : BitVec 32 := 1#32
  let v238 : BitVec 32 := Scalar.subi v223 c1_i32_121
  let v239 : BitVec 32 := Scalar.select v237 v238 v223
  let v240 : Index := Scalar.indexCast v239
  ![v240.toNat]
def k0_off98 (k0_t3 : Fin k0_t3_loop.trips) (v39 : BitVec 32) (v64 : BitVec 32) (k0_t7 : Fin (k0_t7_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_107 : BitVec 32 := 2#32
  let v209 : BitVec 32 := Scalar.remsi v17 c2_i32_107
  let v249 : Index := Scalar.indexCast v209
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v112 : BitVec 32 := Scalar.subi v44 v104
  let c1_i32_62 : BitVec 32 := 1#32
  let v114 : BitVec 32 := Scalar.divsi v112 c1_i32_62
  let v115 : BitVec 32 := Scalar.muli v114 c1_i32_62
  let v116 : BitVec 32 := Scalar.addi v104 v115
  let c1_i32_64 : BitVec 32 := 1#32
  let arg26 : BitVec 32 := Scf.iv v116 c1_i32_64 k0_t7
  let v250 : Index := Scalar.indexCast arg26
  let c0_125 : Index := 0#32
  let c0_126 : Index := 0#32
  ![v249.toNat, v250.toNat, 0, 0]
def k0_off99 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c35_i32 : BitVec 32 := 35#32
  let v17 : BitVec 32 := Scalar.minsi arg19 c35_i32
  let c2_i32_107 : BitVec 32 := 2#32
  let v209 : BitVec 32 := Scalar.remsi v17 c2_i32_107
  let v269 : Index := Scalar.indexCast v209
  let c0_127 : Index := 0#32
  let c0_128 : Index := 0#32
  ![v269.toNat, 0, 0]
def k0_off100 (arg28 : BitVec 32) : Fin 1 → Nat :=
  let c0_i32_156 : BitVec 32 := 0#32
  let v319 : BitVec 1 := Scalar.cmpi .sgt arg28 c0_i32_156
  let v320 : BitVec 32 := Scalar.extui v319
  let c0_i32_157 : BitVec 32 := 0#32
  let v321 : BitVec 1 := Scalar.cmpi .slt arg28 c0_i32_157
  let v322 : BitVec 32 := Scalar.extui v321
  let v323 : BitVec 32 := Scalar.subi v320 v322
  let c12_i32_155 : BitVec 32 := 12#32
  let c0_i32_158 : BitVec 32 := 0#32
  let v324 : BitVec 1 := Scalar.cmpi .sgt c12_i32_155 c0_i32_158
  let v325 : BitVec 32 := Scalar.extui v324
  let c0_i32_159 : BitVec 32 := 0#32
  let v326 : BitVec 1 := Scalar.cmpi .slt c12_i32_155 c0_i32_159
  let v327 : BitVec 32 := Scalar.extui v326
  let v328 : BitVec 32 := Scalar.subi v325 v327
  let v329 : BitVec 1 := Scalar.cmpi .ne v323 v328
  let v330 : BitVec 32 := Scalar.remsi arg28 c12_i32_155
  let c0_i32_160 : BitVec 32 := 0#32
  let v331 : BitVec 1 := Scalar.cmpi .ne v330 c0_i32_160
  let v332 : BitVec 1 := Scalar.andi v329 v331
  let v318 : BitVec 32 := Scalar.divsi arg28 c12_i32_155
  let c1_i32_161 : BitVec 32 := 1#32
  let v333 : BitVec 32 := Scalar.subi v318 c1_i32_161
  let v334 : BitVec 32 := Scalar.select v332 v333 v318
  let v335 : Index := Scalar.indexCast v334
  ![v335.toNat]
def k0_cond11 (arg28 : BitVec 32) : BitVec 1 :=
  let c36_i32_131 : BitVec 32 := 36#32
  let v277 : BitVec 1 := Scalar.cmpi .slt arg28 c36_i32_131
  let v278 : BitVec 32 := Scalar.extui v277
  let c0_i32_132 : BitVec 32 := 0#32
  let v279 : BitVec 1 := Scalar.cmpi .ne v278 c0_i32_132
  v279

def k0_mult29 (arg29 : BitVec 32) (v336 : BitVec 32) : BitVec 32 :=
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  v361

def k0_mult30 (arg29 : BitVec 32) : BitVec 32 :=
  let c2048_i32_189 : BitVec 32 := 2048#32
  let v390 : BitVec 32 := Scalar.muli arg29 c2048_i32_189
  v390

def k0_chk39 (arg28 : BitVec 32) (arg29 : BitVec 32) : Prop :=
  (∀ (k0_h11 : k0_cond11 arg28 = 1#1), 2048 ∣ (k0_mult30 arg29).toNat)
theorem k0_mult30_dvd : ∀ (arg28 : BitVec 32) (arg29 : BitVec 32) (k0_hw39 : k0_chk39 arg28 arg29), ∀ (k0_h11 : k0_cond11 arg28 = 1#1), 2048 ∣ (k0_mult30 arg29).toNat := fun arg28 arg29 k0_hw39 k0_h11 => k0_hw39 k0_h11

def k0_off101 (arg27 : BitVec 32) : Fin 1 → Nat :=
  ![arg27.toNat]
def k0_off102 (arg27 : BitVec 32) (arg29 : BitVec 32) (v336 : BitVec 32) : (Fin 3 → Nat) × (Fin 3 → Nat) :=
  let c0_i32_190 : BitVec 32 := 0#32
  let c0_i32_191 : BitVec 32 := 0#32
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ⟨![arg27.toNat, 0, 0], ![1, v362.toNat, 128]⟩
def k0_sz27 (arg29 : BitVec 32) (v336 : BitVec 32) : Fin 2 → Nat :=
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ![v362.toNat, 128]
def k0_off103 (arg28 : BitVec 32) (arg29 : BitVec 32) (v336 : BitVec 32) : (Fin 4 → Nat) × (Fin 4 → Nat) :=
  let c0_i32_177 : BitVec 32 := 0#32
  let v364 : BitVec 1 := Scalar.cmpi .sgt arg28 c0_i32_177
  let v365 : BitVec 32 := Scalar.extui v364
  let c0_i32_178 : BitVec 32 := 0#32
  let v366 : BitVec 1 := Scalar.cmpi .slt arg28 c0_i32_178
  let v367 : BitVec 32 := Scalar.extui v366
  let v368 : BitVec 32 := Scalar.subi v365 v367
  let c12_i32_176 : BitVec 32 := 12#32
  let c0_i32_179 : BitVec 32 := 0#32
  let v369 : BitVec 1 := Scalar.cmpi .sgt c12_i32_176 c0_i32_179
  let v370 : BitVec 32 := Scalar.extui v369
  let c0_i32_180 : BitVec 32 := 0#32
  let v371 : BitVec 1 := Scalar.cmpi .slt c12_i32_176 c0_i32_180
  let v372 : BitVec 32 := Scalar.extui v371
  let v373 : BitVec 32 := Scalar.subi v370 v372
  let v374 : BitVec 1 := Scalar.cmpi .ne v368 v373
  let v375 : BitVec 32 := Scalar.remsi arg28 c12_i32_176
  let c0_i32_181 : BitVec 32 := 0#32
  let v376 : BitVec 1 := Scalar.cmpi .ne v375 c0_i32_181
  let v377 : BitVec 1 := Scalar.andi v374 v376
  let v363 : BitVec 32 := Scalar.divsi arg28 c12_i32_176
  let c1_i32_182 : BitVec 32 := 1#32
  let v378 : BitVec 32 := Scalar.subi v363 c1_i32_182
  let v379 : BitVec 32 := Scalar.select v377 v378 v363
  let c12_i32_183 : BitVec 32 := 12#32
  let c0_i32_184 : BitVec 32 := 0#32
  let v380 : BitVec 1 := Scalar.cmpi .eq c12_i32_183 c0_i32_184
  let c1_i32_185 : BitVec 32 := 1#32
  let v381 : BitVec 32 := Scalar.select v380 c1_i32_185 c12_i32_183
  let v382 : BitVec 32 := Scalar.remsi arg28 v381
  let c0_i32_187 : BitVec 32 := 0#32
  let v384 : BitVec 1 := Scalar.cmpi .slt v382 c0_i32_187
  let c0_i32_188 : BitVec 32 := 0#32
  let v385 : BitVec 1 := Scalar.cmpi .slt v381 c0_i32_188
  let v386 : BitVec 1 := Scalar.xori v384 v385
  let c0_i32_186 : BitVec 32 := 0#32
  let v383 : BitVec 1 := Scalar.cmpi .ne v382 c0_i32_186
  let v387 : BitVec 1 := Scalar.andi v386 v383
  let v388 : BitVec 32 := Scalar.addi v382 v381
  let v389 : BitVec 32 := Scalar.select v387 v388 v382
  let c2048_i32_189 : BitVec 32 := 2048#32
  let v390 : BitVec 32 := Scalar.muli arg29 c2048_i32_189
  let v391 : BitVec 32 := v390
  let c0_i32_192 : BitVec 32 := 0#32
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ⟨![v379.toNat, v389.toNat, v391.toNat, 0], ![1, 1, v362.toNat, 128]⟩
def k0_sz28 (arg29 : BitVec 32) (v336 : BitVec 32) : Fin 2 → Nat :=
  let c2048_i32_175 : BitVec 32 := 2048#32
  let c128_i32_174 : BitVec 32 := 128#32
  let c16384_i32_162 : BitVec 32 := 16384#32
  let v337 : BitVec 32 := Scalar.minsi v336 c16384_i32_162
  let c2048_i32_163 : BitVec 32 := 2048#32
  let v338 : BitVec 32 := Scalar.muli arg29 c2048_i32_163
  let v339 : BitVec 32 := Scalar.subi v337 v338
  let c128_i32_164 : BitVec 32 := 128#32
  let v340 : BitVec 32 := Scalar.addi v339 c128_i32_164
  let c1_i32_165 : BitVec 32 := 1#32
  let v341 : BitVec 32 := Scalar.subi v340 c1_i32_165
  let c0_i32_167 : BitVec 32 := 0#32
  let v343 : BitVec 1 := Scalar.cmpi .sgt v341 c0_i32_167
  let v344 : BitVec 32 := Scalar.extui v343
  let c0_i32_168 : BitVec 32 := 0#32
  let v345 : BitVec 1 := Scalar.cmpi .slt v341 c0_i32_168
  let v346 : BitVec 32 := Scalar.extui v345
  let v347 : BitVec 32 := Scalar.subi v344 v346
  let c128_i32_166 : BitVec 32 := 128#32
  let c0_i32_169 : BitVec 32 := 0#32
  let v348 : BitVec 1 := Scalar.cmpi .sgt c128_i32_166 c0_i32_169
  let v349 : BitVec 32 := Scalar.extui v348
  let c0_i32_170 : BitVec 32 := 0#32
  let v350 : BitVec 1 := Scalar.cmpi .slt c128_i32_166 c0_i32_170
  let v351 : BitVec 32 := Scalar.extui v350
  let v352 : BitVec 32 := Scalar.subi v349 v351
  let v353 : BitVec 1 := Scalar.cmpi .ne v347 v352
  let v354 : BitVec 32 := Scalar.remsi v341 c128_i32_166
  let c0_i32_171 : BitVec 32 := 0#32
  let v355 : BitVec 1 := Scalar.cmpi .ne v354 c0_i32_171
  let v356 : BitVec 1 := Scalar.andi v353 v355
  let v342 : BitVec 32 := Scalar.divsi v341 c128_i32_166
  let c1_i32_172 : BitVec 32 := 1#32
  let v357 : BitVec 32 := Scalar.subi v342 c1_i32_172
  let v358 : BitVec 32 := Scalar.select v356 v357 v342
  let c128_i32_173 : BitVec 32 := 128#32
  let v359 : BitVec 32 := Scalar.muli v358 c128_i32_173
  let v360 : BitVec 32 := Scalar.maxsi c128_i32_174 v359
  let v361 : BitVec 32 := Scalar.minsi c2048_i32_175 v360
  let v362 : BitVec 32 := v361
  ![v362.toNat, 128]

def k0_chk38 (arg27 : BitVec 32) (arg28 : BitVec 32) (arg29 : BitVec 32) (v336 : BitVec 32) : Prop :=
  (∀ (k0_h11 : k0_cond11 arg28 = 1#1), 128 ∣ (k0_mult29 arg29 v336).toNat) ∧
  (∀ (k0_h11 : k0_cond11 arg28 = 1#1), ∀ a, (k0_off102 arg27 arg29 v336).2 a = 0 ∨ (k0_off102 arg27 arg29 v336).1 a + (k0_off102 arg27 arg29 v336).2 a ≤ S12x2048x128.size a) ∧
  (∀ (k0_h11 : k0_cond11 arg28 = 1#1), (⟨3, (k0_off102 arg27 arg29 v336).2⟩ : Shape).Squeezes ⟨2, k0_sz27 arg29 v336⟩) ∧
  (∀ (k0_h11 : k0_cond11 arg28 = 1#1), ∀ a, (k0_off103 arg28 arg29 v336).2 a = 0 ∨ (k0_off103 arg28 arg29 v336).1 a + (k0_off103 arg28 arg29 v336).2 a ≤ S3x12x16384x128.size a) ∧
  (∀ (k0_h11 : k0_cond11 arg28 = 1#1), (⟨4, (k0_off103 arg28 arg29 v336).2⟩ : Shape).Squeezes ⟨2, k0_sz28 arg29 v336⟩) ∧
  (∀ (k0_h11 : k0_cond11 arg28 = 1#1), ∀ (hinb : ∀ a, (k0_off103 arg28 arg29 v336).2 a = 0 ∨ (k0_off103 arg28 arg29 v336).1 a + (k0_off103 arg28 arg29 v336).2 a ≤ S3x12x16384x128.size a), (Rect.unitDyn (s := S3x12x16384x128) (k0_off103 arg28 arg29 v336).1 (k0_off103 arg28 arg29 v336).2 hinb).WholeWords (EltTy.packing .bf16)) ∧
  (∀ (k0_h11 : k0_cond11 arg28 = 1#1), ∀ (hinb : ∀ a, (k0_off102 arg27 arg29 v336).2 a = 0 ∨ (k0_off102 arg27 arg29 v336).1 a + (k0_off102 arg27 arg29 v336).2 a ≤ S12x2048x128.size a), (Rect.unitDyn (s := S12x2048x128) (k0_off102 arg27 arg29 v336).1 (k0_off102 arg27 arg29 v336).2 hinb).WholeWords (EltTy.packing .bf16))
theorem k0_mult29_dvd : ∀ (arg27 : BitVec 32) (arg28 : BitVec 32) (arg29 : BitVec 32) (v336 : BitVec 32) (k0_hw38 : k0_chk38 arg27 arg28 arg29 v336), ∀ (k0_h11 : k0_cond11 arg28 = 1#1), 128 ∣ (k0_mult29 arg29 v336).toNat := fun arg27 arg28 arg29 v336 k0_hw38 k0_h11 => k0_hw38.1 k0_h11
theorem k0_off102_inb : ∀ (arg27 : BitVec 32) (arg28 : BitVec 32) (arg29 : BitVec 32) (v336 : BitVec 32) (k0_hw38 : k0_chk38 arg27 arg28 arg29 v336), ∀ (k0_h11 : k0_cond11 arg28 = 1#1), ∀ a, (k0_off102 arg27 arg29 v336).2 a = 0 ∨ (k0_off102 arg27 arg29 v336).1 a + (k0_off102 arg27 arg29 v336).2 a ≤ S12x2048x128.size a := fun arg27 arg28 arg29 v336 k0_hw38 k0_h11 => k0_hw38.2.1 k0_h11
theorem k0_sz27_squeezes : ∀ (arg27 : BitVec 32) (arg28 : BitVec 32) (arg29 : BitVec 32) (v336 : BitVec 32) (k0_hw38 : k0_chk38 arg27 arg28 arg29 v336), ∀ (k0_h11 : k0_cond11 arg28 = 1#1), (⟨3, (k0_off102 arg27 arg29 v336).2⟩ : Shape).Squeezes ⟨2, k0_sz27 arg29 v336⟩ := fun arg27 arg28 arg29 v336 k0_hw38 k0_h11 => k0_hw38.2.2.1 k0_h11
theorem k0_off103_inb : ∀ (arg27 : BitVec 32) (arg28 : BitVec 32) (arg29 : BitVec 32) (v336 : BitVec 32) (k0_hw38 : k0_chk38 arg27 arg28 arg29 v336), ∀ (k0_h11 : k0_cond11 arg28 = 1#1), ∀ a, (k0_off103 arg28 arg29 v336).2 a = 0 ∨ (k0_off103 arg28 arg29 v336).1 a + (k0_off103 arg28 arg29 v336).2 a ≤ S3x12x16384x128.size a := fun arg27 arg28 arg29 v336 k0_hw38 k0_h11 => k0_hw38.2.2.2.1 k0_h11
theorem k0_sz28_squeezes : ∀ (arg27 : BitVec 32) (arg28 : BitVec 32) (arg29 : BitVec 32) (v336 : BitVec 32) (k0_hw38 : k0_chk38 arg27 arg28 arg29 v336), ∀ (k0_h11 : k0_cond11 arg28 = 1#1), (⟨4, (k0_off103 arg28 arg29 v336).2⟩ : Shape).Squeezes ⟨2, k0_sz28 arg29 v336⟩ := fun arg27 arg28 arg29 v336 k0_hw38 k0_h11 => k0_hw38.2.2.2.2.1 k0_h11
theorem k0_off103_wordsbf16 : ∀ (arg27 : BitVec 32) (arg28 : BitVec 32) (arg29 : BitVec 32) (v336 : BitVec 32) (k0_hw38 : k0_chk38 arg27 arg28 arg29 v336), ∀ (k0_h11 : k0_cond11 arg28 = 1#1), (Rect.unitDyn (s := S3x12x16384x128) (k0_off103 arg28 arg29 v336).1 (k0_off103 arg28 arg29 v336).2 (k0_off103_inb arg27 arg28 arg29 v336 k0_hw38 k0_h11)).WholeWords (EltTy.packing .bf16) := fun arg27 arg28 arg29 v336 k0_hw38 k0_h11 => k0_hw38.2.2.2.2.2.1 k0_h11 (k0_off103_inb arg27 arg28 arg29 v336 k0_hw38 k0_h11)
theorem k0_off102_wordsbf16 : ∀ (arg27 : BitVec 32) (arg28 : BitVec 32) (arg29 : BitVec 32) (v336 : BitVec 32) (k0_hw38 : k0_chk38 arg27 arg28 arg29 v336), ∀ (k0_h11 : k0_cond11 arg28 = 1#1), (Rect.unitDyn (s := S12x2048x128) (k0_off102 arg27 arg29 v336).1 (k0_off102 arg27 arg29 v336).2 (k0_off102_inb arg27 arg28 arg29 v336 k0_hw38 k0_h11)).WholeWords (EltTy.packing .bf16) := fun arg27 arg28 arg29 v336 k0_hw38 k0_h11 => k0_hw38.2.2.2.2.2.2 k0_h11 (k0_off102_inb arg27 arg28 arg29 v336 k0_hw38 k0_h11)

def k0_off104 (arg28 : BitVec 32) : Fin 1 → Nat :=
  let c35_i32_133 : BitVec 32 := 35#32
  let v280 : BitVec 32 := Scalar.minsi arg28 c35_i32_133
  let c0_i32_136 : BitVec 32 := 0#32
  let v283 : BitVec 1 := Scalar.cmpi .sgt v280 c0_i32_136
  let v284 : BitVec 32 := Scalar.extui v283
  let c0_i32_137 : BitVec 32 := 0#32
  let v285 : BitVec 1 := Scalar.cmpi .slt v280 c0_i32_137
  let v286 : BitVec 32 := Scalar.extui v285
  let v287 : BitVec 32 := Scalar.subi v284 v286
  let c12_i32_135 : BitVec 32 := 12#32
  let c0_i32_138 : BitVec 32 := 0#32
  let v288 : BitVec 1 := Scalar.cmpi .sgt c12_i32_135 c0_i32_138
  let v289 : BitVec 32 := Scalar.extui v288
  let c0_i32_139 : BitVec 32 := 0#32
  let v290 : BitVec 1 := Scalar.cmpi .slt c12_i32_135 c0_i32_139
  let v291 : BitVec 32 := Scalar.extui v290
  let v292 : BitVec 32 := Scalar.subi v289 v291
  let v293 : BitVec 1 := Scalar.cmpi .ne v287 v292
  let v294 : BitVec 32 := Scalar.remsi v280 c12_i32_135
  let c0_i32_140 : BitVec 32 := 0#32
  let v295 : BitVec 1 := Scalar.cmpi .ne v294 c0_i32_140
  let v296 : BitVec 1 := Scalar.andi v293 v295
  let v282 : BitVec 32 := Scalar.divsi v280 c12_i32_135
  let c1_i32_141 : BitVec 32 := 1#32
  let v297 : BitVec 32 := Scalar.subi v282 c1_i32_141
  let v298 : BitVec 32 := Scalar.select v296 v297 v282
  let v299 : Index := Scalar.indexCast v298
  ![v299.toNat]

def k0_chk37 (arg27 : BitVec 32) (arg28 : BitVec 32) : Prop :=
  (∀ (k0_h11 : k0_cond11 arg28 = 1#1), ∀ a, (k0_off100 arg28) a + S1.size a ≤ S3.size a) ∧
  (∀ (k0_h11 : k0_cond11 arg28 = 1#1), ∀ a, (k0_off101 arg27) a + S1.size a ≤ S12.size a) ∧
  (∀ a, (k0_off104 arg28) a + S1.size a ≤ S3.size a)
theorem k0_off100_inb : ∀ (arg27 : BitVec 32) (arg28 : BitVec 32) (k0_hw37 : k0_chk37 arg27 arg28), ∀ (k0_h11 : k0_cond11 arg28 = 1#1), ∀ a, (k0_off100 arg28) a + S1.size a ≤ S3.size a := fun arg27 arg28 k0_hw37 k0_h11 => k0_hw37.1 k0_h11
theorem k0_off101_inb : ∀ (arg27 : BitVec 32) (arg28 : BitVec 32) (k0_hw37 : k0_chk37 arg27 arg28), ∀ (k0_h11 : k0_cond11 arg28 = 1#1), ∀ a, (k0_off101 arg27) a + S1.size a ≤ S12.size a := fun arg27 arg28 k0_hw37 k0_h11 => k0_hw37.2.1 k0_h11
theorem k0_off104_inb : ∀ (arg27 : BitVec 32) (arg28 : BitVec 32) (k0_hw37 : k0_chk37 arg27 arg28), ∀ a, (k0_off104 arg28) a + S1.size a ≤ S3.size a := fun arg27 arg28 k0_hw37 => k0_hw37.2.2

@[reducible] def k0_t8_loop (k0_t3 : Fin k0_t3_loop.trips) (v39 : BitVec 32) (v64 : BitVec 32) : Scf.Loop 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_66 : BitVec 32 := 1#32
  ⟨v104, v123, c1_i32_66⟩
def k0_off105 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_71 : BitVec 32 := 0#32
  let v130 : BitVec 1 := Scalar.cmpi .sgt v19 c0_i32_71
  let v131 : BitVec 32 := Scalar.extui v130
  let c0_i32_72 : BitVec 32 := 0#32
  let v132 : BitVec 1 := Scalar.cmpi .slt v19 c0_i32_72
  let v133 : BitVec 32 := Scalar.extui v132
  let v134 : BitVec 32 := Scalar.subi v131 v133
  let c12_i32_70 : BitVec 32 := 12#32
  let c0_i32_73 : BitVec 32 := 0#32
  let v135 : BitVec 1 := Scalar.cmpi .sgt c12_i32_70 c0_i32_73
  let v136 : BitVec 32 := Scalar.extui v135
  let c0_i32_74 : BitVec 32 := 0#32
  let v137 : BitVec 1 := Scalar.cmpi .slt c12_i32_70 c0_i32_74
  let v138 : BitVec 32 := Scalar.extui v137
  let v139 : BitVec 32 := Scalar.subi v136 v138
  let v140 : BitVec 1 := Scalar.cmpi .ne v134 v139
  let v141 : BitVec 32 := Scalar.remsi v19 c12_i32_70
  let c0_i32_75 : BitVec 32 := 0#32
  let v142 : BitVec 1 := Scalar.cmpi .ne v141 c0_i32_75
  let v143 : BitVec 1 := Scalar.andi v140 v142
  let v129 : BitVec 32 := Scalar.divsi v19 c12_i32_70
  let c1_i32_76 : BitVec 32 := 1#32
  let v144 : BitVec 32 := Scalar.subi v129 c1_i32_76
  let v145 : BitVec 32 := Scalar.select v143 v144 v129
  let v146 : Index := Scalar.indexCast v145
  ![v146.toNat]
def k0_mult31 (k0_t3 : Fin k0_t3_loop.trips) (v39 : BitVec 32) (v64 : BitVec 32) (k0_t8 : Fin (k0_t8_loop k0_t3 v39 v64).trips) (v147 : BitVec 32) : BitVec 32 :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  v172

def k0_mult32 (k0_t3 : Fin k0_t3_loop.trips) (v39 : BitVec 32) (v64 : BitVec 32) (k0_t8 : Fin (k0_t8_loop k0_t3 v39 v64).trips) : BitVec 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let c2048_i32_103 : BitVec 32 := 2048#32
  let v201 : BitVec 32 := Scalar.muli arg26 c2048_i32_103
  v201
def k0_off106 (arg27 : BitVec 32) : Fin 1 → Nat :=
  ![arg27.toNat]

def k0_off107 (k0_t3 : Fin k0_t3_loop.trips) (v39 : BitVec 32) (v64 : BitVec 32) (k0_t8 : Fin (k0_t8_loop k0_t3 v39 v64).trips) (arg27 : BitVec 32) (v147 : BitVec 32) : (Fin 3 → Nat) × (Fin 3 → Nat) :=
  let c0_i32_104 : BitVec 32 := 0#32
  let c0_i32_105 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![arg27.toNat, 0, 0], ![1, 128, v173.toNat]⟩

def k0_sz29 (k0_t3 : Fin k0_t3_loop.trips) (v39 : BitVec 32) (v64 : BitVec 32) (k0_t8 : Fin (k0_t8_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![128, v173.toNat]
def k0_off108 (k0_t3 : Fin k0_t3_loop.trips) (v39 : BitVec 32) (v64 : BitVec 32) (k0_t8 : Fin (k0_t8_loop k0_t3 v39 v64).trips) (v147 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_91 : BitVec 32 := 0#32
  let v175 : BitVec 1 := Scalar.cmpi .sgt v19 c0_i32_91
  let v176 : BitVec 32 := Scalar.extui v175
  let c0_i32_92 : BitVec 32 := 0#32
  let v177 : BitVec 1 := Scalar.cmpi .slt v19 c0_i32_92
  let v178 : BitVec 32 := Scalar.extui v177
  let v179 : BitVec 32 := Scalar.subi v176 v178
  let c12_i32_90 : BitVec 32 := 12#32
  let c0_i32_93 : BitVec 32 := 0#32
  let v180 : BitVec 1 := Scalar.cmpi .sgt c12_i32_90 c0_i32_93
  let v181 : BitVec 32 := Scalar.extui v180
  let c0_i32_94 : BitVec 32 := 0#32
  let v182 : BitVec 1 := Scalar.cmpi .slt c12_i32_90 c0_i32_94
  let v183 : BitVec 32 := Scalar.extui v182
  let v184 : BitVec 32 := Scalar.subi v181 v183
  let v185 : BitVec 1 := Scalar.cmpi .ne v179 v184
  let v186 : BitVec 32 := Scalar.remsi v19 c12_i32_90
  let c0_i32_95 : BitVec 32 := 0#32
  let v187 : BitVec 1 := Scalar.cmpi .ne v186 c0_i32_95
  let v188 : BitVec 1 := Scalar.andi v185 v187
  let v174 : BitVec 32 := Scalar.divsi v19 c12_i32_90
  let c1_i32_96 : BitVec 32 := 1#32
  let v189 : BitVec 32 := Scalar.subi v174 c1_i32_96
  let v190 : BitVec 32 := Scalar.select v188 v189 v174
  let c12_i32_97 : BitVec 32 := 12#32
  let c0_i32_98 : BitVec 32 := 0#32
  let v191 : BitVec 1 := Scalar.cmpi .eq c12_i32_97 c0_i32_98
  let c1_i32_99 : BitVec 32 := 1#32
  let v192 : BitVec 32 := Scalar.select v191 c1_i32_99 c12_i32_97
  let v193 : BitVec 32 := Scalar.remsi v19 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c0_i32_106 : BitVec 32 := 0#32
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let c2048_i32_103 : BitVec 32 := 2048#32
  let v201 : BitVec 32 := Scalar.muli arg26 c2048_i32_103
  let v202 : BitVec 32 := v201
  let c2048_i32_89 : BitVec 32 := 2048#32
  let c128_i32_88 : BitVec 32 := 128#32
  let c16384_i32_77 : BitVec 32 := 16384#32
  let v148 : BitVec 32 := Scalar.minsi v147 c16384_i32_77
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![v190.toNat, v200.toNat, 0, v202.toNat], ![1, 1, 128, v173.toNat]⟩

def k0_sz30 (k0_t3 : Fin k0_t3_loop.trips) (v39 : BitVec 32) (v64 : BitVec 32) (k0_t8 : Fin (k0_t8_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![128, v173.toNat]

def k0_chk40 (k0_t3 : Fin k0_t3_loop.trips) (v39 : BitVec 32) (v64 : BitVec 32) (k0_t8 : Fin (k0_t8_loop k0_t3 v39 v64).trips) (arg27 : BitVec 32) (v147 : BitVec 32) : Prop :=
  (128 ∣ (k0_mult31 k0_t3 v39 v64 k0_t8 v147).toNat) ∧
  ((⟨3, (k0_off107 k0_t3 v39 v64 k0_t8 arg27 v147).2⟩ : Shape).Squeezes ⟨2, k0_sz29 k0_t3 v39 v64 k0_t8 v147⟩) ∧
  ((⟨4, (k0_off108 k0_t3 v39 v64 k0_t8 v147).2⟩ : Shape).Squeezes ⟨2, k0_sz30 k0_t3 v39 v64 k0_t8 v147⟩)
theorem k0_mult31_dvd : ∀ (k0_t3 : Fin k0_t3_loop.trips) (v39 : BitVec 32) (v64 : BitVec 32) (k0_t8 : Fin (k0_t8_loop k0_t3 v39 v64).trips) (arg27 : BitVec 32) (v147 : BitVec 32) (k0_hw40 : k0_chk40 k0_t3 v39 v64 k0_t8 arg27 v147), 128 ∣ (k0_mult31 k0_t3 v39 v64 k0_t8 v147).toNat := fun k0_t3 v39 v64 k0_t8 arg27 v147 k0_hw40 => k0_hw40.1
theorem k0_sz29_squeezes : ∀ (k0_t3 : Fin k0_t3_loop.trips) (v39 : BitVec 32) (v64 : BitVec 32) (k0_t8 : Fin (k0_t8_loop k0_t3 v39 v64).trips) (arg27 : BitVec 32) (v147 : BitVec 32) (k0_hw40 : k0_chk40 k0_t3 v39 v64 k0_t8 arg27 v147), (⟨3, (k0_off107 k0_t3 v39 v64 k0_t8 arg27 v147).2⟩ : Shape).Squeezes ⟨2, k0_sz29 k0_t3 v39 v64 k0_t8 v147⟩ := fun k0_t3 v39 v64 k0_t8 arg27 v147 k0_hw40 => k0_hw40.2.1
theorem k0_sz30_squeezes : ∀ (k0_t3 : Fin k0_t3_loop.trips) (v39 : BitVec 32) (v64 : BitVec 32) (k0_t8 : Fin (k0_t8_loop k0_t3 v39 v64).trips) (arg27 : BitVec 32) (v147 : BitVec 32) (k0_hw40 : k0_chk40 k0_t3 v39 v64 k0_t8 arg27 v147), (⟨4, (k0_off108 k0_t3 v39 v64 k0_t8 v147).2⟩ : Shape).Squeezes ⟨2, k0_sz30 k0_t3 v39 v64 k0_t8 v147⟩ := fun k0_t3 v39 v64 k0_t8 arg27 v147 k0_hw40 => k0_hw40.2.2

def k0_off109 (k0_t3 : Fin k0_t3_loop.trips) (v39 : BitVec 32) (v64 : BitVec 32) (k0_t8 : Fin (k0_t8_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c2_i32_107 : BitVec 32 := 2#32
  let v209 : BitVec 32 := Scalar.remsi v19 c2_i32_107
  let v210 : Index := Scalar.indexCast v209
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let c1_i32_66 : BitVec 32 := 1#32
  let arg26 : BitVec 32 := Scf.iv v104 c1_i32_66 k0_t8
  let v211 : Index := Scalar.indexCast arg26
  let c0_108 : Index := 0#32
  let c0_109 : Index := 0#32
  ![v210.toNat, v211.toNat, 0, 0]
def k0_off110 (arg27 : BitVec 32) : Fin 3 → Nat :=
  let v246 : Index := Scalar.indexCast arg27
  let c0_118 : Index := 0#32
  let c0_119 : Index := 0#32
  ![v246.toNat, 0, 0]

def k0_chk41 (arg27 : BitVec 32) : Prop :=
  (∀ a, (k0_off106 arg27) a + S1.size a ≤ S12.size a) ∧
  (∀ a, (k0_off110 arg27) a + S1x128x2048.size a ≤ S12x128x2048.size a)
theorem k0_off106_inb : ∀ (arg27 : BitVec 32) (k0_hw41 : k0_chk41 arg27), ∀ a, (k0_off106 arg27) a + S1.size a ≤ S12.size a := fun arg27 k0_hw41 => k0_hw41.1
theorem k0_off110_inb : ∀ (arg27 : BitVec 32) (k0_hw41 : k0_chk41 arg27), ∀ a, (k0_off110 arg27) a + S1x128x2048.size a ≤ S12x128x2048.size a := fun arg27 k0_hw41 => k0_hw41.2

def k0_off111 (arg28 : BitVec 32) : Fin 1 → Nat :=
  let c0_i32_148 : BitVec 32 := 0#32
  let v296 : BitVec 1 := Scalar.cmpi .sgt arg28 c0_i32_148
  let v297 : BitVec 32 := Scalar.extui v296
  let c0_i32_149 : BitVec 32 := 0#32
  let v298 : BitVec 1 := Scalar.cmpi .slt arg28 c0_i32_149
  let v299 : BitVec 32 := Scalar.extui v298
  let v300 : BitVec 32 := Scalar.subi v297 v299
  let c12_i32_147 : BitVec 32 := 12#32
  let c0_i32_150 : BitVec 32 := 0#32
  let v301 : BitVec 1 := Scalar.cmpi .sgt c12_i32_147 c0_i32_150
  let v302 : BitVec 32 := Scalar.extui v301
  let c0_i32_151 : BitVec 32 := 0#32
  let v303 : BitVec 1 := Scalar.cmpi .slt c12_i32_147 c0_i32_151
  let v304 : BitVec 32 := Scalar.extui v303
  let v305 : BitVec 32 := Scalar.subi v302 v304
  let v306 : BitVec 1 := Scalar.cmpi .ne v300 v305
  let v307 : BitVec 32 := Scalar.remsi arg28 c12_i32_147
  let c0_i32_152 : BitVec 32 := 0#32
  let v308 : BitVec 1 := Scalar.cmpi .ne v307 c0_i32_152
  let v309 : BitVec 1 := Scalar.andi v306 v308
  let v295 : BitVec 32 := Scalar.divsi arg28 c12_i32_147
  let c1_i32_153 : BitVec 32 := 1#32
  let v310 : BitVec 32 := Scalar.subi v295 c1_i32_153
  let v311 : BitVec 32 := Scalar.select v309 v310 v295
  let v312 : Index := Scalar.indexCast v311
  ![v312.toNat]
def k0_cond12 (arg28 : BitVec 32) : BitVec 1 :=
  let c36_i32_123 : BitVec 32 := 36#32
  let v254 : BitVec 1 := Scalar.cmpi .slt arg28 c36_i32_123
  let v255 : BitVec 32 := Scalar.extui v254
  let c0_i32_124 : BitVec 32 := 0#32
  let v256 : BitVec 1 := Scalar.cmpi .ne v255 c0_i32_124
  v256

def k0_mult33 (arg29 : BitVec 32) (v313 : BitVec 32) : BitVec 32 :=
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  v338

def k0_mult34 (arg29 : BitVec 32) : BitVec 32 :=
  let c2048_i32_181 : BitVec 32 := 2048#32
  let v367 : BitVec 32 := Scalar.muli arg29 c2048_i32_181
  v367

def k0_chk44 (arg28 : BitVec 32) (arg29 : BitVec 32) : Prop :=
  (∀ (k0_h12 : k0_cond12 arg28 = 1#1), 2048 ∣ (k0_mult34 arg29).toNat)
theorem k0_mult34_dvd : ∀ (arg28 : BitVec 32) (arg29 : BitVec 32) (k0_hw44 : k0_chk44 arg28 arg29), ∀ (k0_h12 : k0_cond12 arg28 = 1#1), 2048 ∣ (k0_mult34 arg29).toNat := fun arg28 arg29 k0_hw44 k0_h12 => k0_hw44 k0_h12

def k0_off112 (arg27 : BitVec 32) : Fin 1 → Nat :=
  ![arg27.toNat]
def k0_off113 (arg27 : BitVec 32) (arg29 : BitVec 32) (v313 : BitVec 32) : (Fin 3 → Nat) × (Fin 3 → Nat) :=
  let c0_i32_182 : BitVec 32 := 0#32
  let c0_i32_183 : BitVec 32 := 0#32
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ⟨![arg27.toNat, 0, 0], ![1, 128, v339.toNat]⟩
def k0_sz31 (arg29 : BitVec 32) (v313 : BitVec 32) : Fin 2 → Nat :=
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ![128, v339.toNat]
def k0_off114 (arg28 : BitVec 32) (arg29 : BitVec 32) (v313 : BitVec 32) : (Fin 4 → Nat) × (Fin 4 → Nat) :=
  let c0_i32_169 : BitVec 32 := 0#32
  let v341 : BitVec 1 := Scalar.cmpi .sgt arg28 c0_i32_169
  let v342 : BitVec 32 := Scalar.extui v341
  let c0_i32_170 : BitVec 32 := 0#32
  let v343 : BitVec 1 := Scalar.cmpi .slt arg28 c0_i32_170
  let v344 : BitVec 32 := Scalar.extui v343
  let v345 : BitVec 32 := Scalar.subi v342 v344
  let c12_i32_168 : BitVec 32 := 12#32
  let c0_i32_171 : BitVec 32 := 0#32
  let v346 : BitVec 1 := Scalar.cmpi .sgt c12_i32_168 c0_i32_171
  let v347 : BitVec 32 := Scalar.extui v346
  let c0_i32_172 : BitVec 32 := 0#32
  let v348 : BitVec 1 := Scalar.cmpi .slt c12_i32_168 c0_i32_172
  let v349 : BitVec 32 := Scalar.extui v348
  let v350 : BitVec 32 := Scalar.subi v347 v349
  let v351 : BitVec 1 := Scalar.cmpi .ne v345 v350
  let v352 : BitVec 32 := Scalar.remsi arg28 c12_i32_168
  let c0_i32_173 : BitVec 32 := 0#32
  let v353 : BitVec 1 := Scalar.cmpi .ne v352 c0_i32_173
  let v354 : BitVec 1 := Scalar.andi v351 v353
  let v340 : BitVec 32 := Scalar.divsi arg28 c12_i32_168
  let c1_i32_174 : BitVec 32 := 1#32
  let v355 : BitVec 32 := Scalar.subi v340 c1_i32_174
  let v356 : BitVec 32 := Scalar.select v354 v355 v340
  let c12_i32_175 : BitVec 32 := 12#32
  let c0_i32_176 : BitVec 32 := 0#32
  let v357 : BitVec 1 := Scalar.cmpi .eq c12_i32_175 c0_i32_176
  let c1_i32_177 : BitVec 32 := 1#32
  let v358 : BitVec 32 := Scalar.select v357 c1_i32_177 c12_i32_175
  let v359 : BitVec 32 := Scalar.remsi arg28 v358
  let c0_i32_179 : BitVec 32 := 0#32
  let v361 : BitVec 1 := Scalar.cmpi .slt v359 c0_i32_179
  let c0_i32_180 : BitVec 32 := 0#32
  let v362 : BitVec 1 := Scalar.cmpi .slt v358 c0_i32_180
  let v363 : BitVec 1 := Scalar.xori v361 v362
  let c0_i32_178 : BitVec 32 := 0#32
  let v360 : BitVec 1 := Scalar.cmpi .ne v359 c0_i32_178
  let v364 : BitVec 1 := Scalar.andi v363 v360
  let v365 : BitVec 32 := Scalar.addi v359 v358
  let v366 : BitVec 32 := Scalar.select v364 v365 v359
  let c0_i32_184 : BitVec 32 := 0#32
  let c2048_i32_181 : BitVec 32 := 2048#32
  let v367 : BitVec 32 := Scalar.muli arg29 c2048_i32_181
  let v368 : BitVec 32 := v367
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ⟨![v356.toNat, v366.toNat, 0, v368.toNat], ![1, 1, 128, v339.toNat]⟩
def k0_sz32 (arg29 : BitVec 32) (v313 : BitVec 32) : Fin 2 → Nat :=
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ![128, v339.toNat]

def k0_chk43 (arg27 : BitVec 32) (arg28 : BitVec 32) (arg29 : BitVec 32) (v313 : BitVec 32) : Prop :=
  (∀ (k0_h12 : k0_cond12 arg28 = 1#1), 128 ∣ (k0_mult33 arg29 v313).toNat) ∧
  (∀ (k0_h12 : k0_cond12 arg28 = 1#1), ∀ a, (k0_off113 arg27 arg29 v313).2 a = 0 ∨ (k0_off113 arg27 arg29 v313).1 a + (k0_off113 arg27 arg29 v313).2 a ≤ S12x128x2048.size a) ∧
  (∀ (k0_h12 : k0_cond12 arg28 = 1#1), (⟨3, (k0_off113 arg27 arg29 v313).2⟩ : Shape).Squeezes ⟨2, k0_sz31 arg29 v313⟩) ∧
  (∀ (k0_h12 : k0_cond12 arg28 = 1#1), ∀ a, (k0_off114 arg28 arg29 v313).2 a = 0 ∨ (k0_off114 arg28 arg29 v313).1 a + (k0_off114 arg28 arg29 v313).2 a ≤ S3x12x128x16384.size a) ∧
  (∀ (k0_h12 : k0_cond12 arg28 = 1#1), (⟨4, (k0_off114 arg28 arg29 v313).2⟩ : Shape).Squeezes ⟨2, k0_sz32 arg29 v313⟩) ∧
  (∀ (k0_h12 : k0_cond12 arg28 = 1#1), ∀ (hinb : ∀ a, (k0_off114 arg28 arg29 v313).2 a = 0 ∨ (k0_off114 arg28 arg29 v313).1 a + (k0_off114 arg28 arg29 v313).2 a ≤ S3x12x128x16384.size a), (Rect.unitDyn (s := S3x12x128x16384) (k0_off114 arg28 arg29 v313).1 (k0_off114 arg28 arg29 v313).2 hinb).WholeWords (EltTy.packing .fp8e4m3)) ∧
  (∀ (k0_h12 : k0_cond12 arg28 = 1#1), ∀ (hinb : ∀ a, (k0_off113 arg27 arg29 v313).2 a = 0 ∨ (k0_off113 arg27 arg29 v313).1 a + (k0_off113 arg27 arg29 v313).2 a ≤ S12x128x2048.size a), (Rect.unitDyn (s := S12x128x2048) (k0_off113 arg27 arg29 v313).1 (k0_off113 arg27 arg29 v313).2 hinb).WholeWords (EltTy.packing .fp8e4m3))
theorem k0_mult33_dvd : ∀ (arg27 : BitVec 32) (arg28 : BitVec 32) (arg29 : BitVec 32) (v313 : BitVec 32) (k0_hw43 : k0_chk43 arg27 arg28 arg29 v313), ∀ (k0_h12 : k0_cond12 arg28 = 1#1), 128 ∣ (k0_mult33 arg29 v313).toNat := fun arg27 arg28 arg29 v313 k0_hw43 k0_h12 => k0_hw43.1 k0_h12
theorem k0_off113_inb : ∀ (arg27 : BitVec 32) (arg28 : BitVec 32) (arg29 : BitVec 32) (v313 : BitVec 32) (k0_hw43 : k0_chk43 arg27 arg28 arg29 v313), ∀ (k0_h12 : k0_cond12 arg28 = 1#1), ∀ a, (k0_off113 arg27 arg29 v313).2 a = 0 ∨ (k0_off113 arg27 arg29 v313).1 a + (k0_off113 arg27 arg29 v313).2 a ≤ S12x128x2048.size a := fun arg27 arg28 arg29 v313 k0_hw43 k0_h12 => k0_hw43.2.1 k0_h12
theorem k0_sz31_squeezes : ∀ (arg27 : BitVec 32) (arg28 : BitVec 32) (arg29 : BitVec 32) (v313 : BitVec 32) (k0_hw43 : k0_chk43 arg27 arg28 arg29 v313), ∀ (k0_h12 : k0_cond12 arg28 = 1#1), (⟨3, (k0_off113 arg27 arg29 v313).2⟩ : Shape).Squeezes ⟨2, k0_sz31 arg29 v313⟩ := fun arg27 arg28 arg29 v313 k0_hw43 k0_h12 => k0_hw43.2.2.1 k0_h12
theorem k0_off114_inb : ∀ (arg27 : BitVec 32) (arg28 : BitVec 32) (arg29 : BitVec 32) (v313 : BitVec 32) (k0_hw43 : k0_chk43 arg27 arg28 arg29 v313), ∀ (k0_h12 : k0_cond12 arg28 = 1#1), ∀ a, (k0_off114 arg28 arg29 v313).2 a = 0 ∨ (k0_off114 arg28 arg29 v313).1 a + (k0_off114 arg28 arg29 v313).2 a ≤ S3x12x128x16384.size a := fun arg27 arg28 arg29 v313 k0_hw43 k0_h12 => k0_hw43.2.2.2.1 k0_h12
theorem k0_sz32_squeezes : ∀ (arg27 : BitVec 32) (arg28 : BitVec 32) (arg29 : BitVec 32) (v313 : BitVec 32) (k0_hw43 : k0_chk43 arg27 arg28 arg29 v313), ∀ (k0_h12 : k0_cond12 arg28 = 1#1), (⟨4, (k0_off114 arg28 arg29 v313).2⟩ : Shape).Squeezes ⟨2, k0_sz32 arg29 v313⟩ := fun arg27 arg28 arg29 v313 k0_hw43 k0_h12 => k0_hw43.2.2.2.2.1 k0_h12
theorem k0_off114_wordsfp8e4m3 : ∀ (arg27 : BitVec 32) (arg28 : BitVec 32) (arg29 : BitVec 32) (v313 : BitVec 32) (k0_hw43 : k0_chk43 arg27 arg28 arg29 v313), ∀ (k0_h12 : k0_cond12 arg28 = 1#1), (Rect.unitDyn (s := S3x12x128x16384) (k0_off114 arg28 arg29 v313).1 (k0_off114 arg28 arg29 v313).2 (k0_off114_inb arg27 arg28 arg29 v313 k0_hw43 k0_h12)).WholeWords (EltTy.packing .fp8e4m3) := fun arg27 arg28 arg29 v313 k0_hw43 k0_h12 => k0_hw43.2.2.2.2.2.1 k0_h12 (k0_off114_inb arg27 arg28 arg29 v313 k0_hw43 k0_h12)
theorem k0_off113_wordsfp8e4m3 : ∀ (arg27 : BitVec 32) (arg28 : BitVec 32) (arg29 : BitVec 32) (v313 : BitVec 32) (k0_hw43 : k0_chk43 arg27 arg28 arg29 v313), ∀ (k0_h12 : k0_cond12 arg28 = 1#1), (Rect.unitDyn (s := S12x128x2048) (k0_off113 arg27 arg29 v313).1 (k0_off113 arg27 arg29 v313).2 (k0_off113_inb arg27 arg28 arg29 v313 k0_hw43 k0_h12)).WholeWords (EltTy.packing .fp8e4m3) := fun arg27 arg28 arg29 v313 k0_hw43 k0_h12 => k0_hw43.2.2.2.2.2.2 k0_h12 (k0_off113_inb arg27 arg28 arg29 v313 k0_hw43 k0_h12)

def k0_off115 (arg28 : BitVec 32) : Fin 1 → Nat :=
  let c35_i32_125 : BitVec 32 := 35#32
  let v257 : BitVec 32 := Scalar.minsi arg28 c35_i32_125
  let c0_i32_128 : BitVec 32 := 0#32
  let v260 : BitVec 1 := Scalar.cmpi .sgt v257 c0_i32_128
  let v261 : BitVec 32 := Scalar.extui v260
  let c0_i32_129 : BitVec 32 := 0#32
  let v262 : BitVec 1 := Scalar.cmpi .slt v257 c0_i32_129
  let v263 : BitVec 32 := Scalar.extui v262
  let v264 : BitVec 32 := Scalar.subi v261 v263
  let c12_i32_127 : BitVec 32 := 12#32
  let c0_i32_130 : BitVec 32 := 0#32
  let v265 : BitVec 1 := Scalar.cmpi .sgt c12_i32_127 c0_i32_130
  let v266 : BitVec 32 := Scalar.extui v265
  let c0_i32_131 : BitVec 32 := 0#32
  let v267 : BitVec 1 := Scalar.cmpi .slt c12_i32_127 c0_i32_131
  let v268 : BitVec 32 := Scalar.extui v267
  let v269 : BitVec 32 := Scalar.subi v266 v268
  let v270 : BitVec 1 := Scalar.cmpi .ne v264 v269
  let v271 : BitVec 32 := Scalar.remsi v257 c12_i32_127
  let c0_i32_132 : BitVec 32 := 0#32
  let v272 : BitVec 1 := Scalar.cmpi .ne v271 c0_i32_132
  let v273 : BitVec 1 := Scalar.andi v270 v272
  let v259 : BitVec 32 := Scalar.divsi v257 c12_i32_127
  let c1_i32_133 : BitVec 32 := 1#32
  let v274 : BitVec 32 := Scalar.subi v259 c1_i32_133
  let v275 : BitVec 32 := Scalar.select v273 v274 v259
  let v276 : Index := Scalar.indexCast v275
  ![v276.toNat]

def k0_chk42 (arg27 : BitVec 32) (arg28 : BitVec 32) : Prop :=
  (∀ (k0_h12 : k0_cond12 arg28 = 1#1), ∀ a, (k0_off111 arg28) a + S1.size a ≤ S3.size a) ∧
  (∀ (k0_h12 : k0_cond12 arg28 = 1#1), ∀ a, (k0_off112 arg27) a + S1.size a ≤ S12.size a) ∧
  (∀ a, (k0_off115 arg28) a + S1.size a ≤ S3.size a)
theorem k0_off111_inb : ∀ (arg27 : BitVec 32) (arg28 : BitVec 32) (k0_hw42 : k0_chk42 arg27 arg28), ∀ (k0_h12 : k0_cond12 arg28 = 1#1), ∀ a, (k0_off111 arg28) a + S1.size a ≤ S3.size a := fun arg27 arg28 k0_hw42 k0_h12 => k0_hw42.1 k0_h12
theorem k0_off112_inb : ∀ (arg27 : BitVec 32) (arg28 : BitVec 32) (k0_hw42 : k0_chk42 arg27 arg28), ∀ (k0_h12 : k0_cond12 arg28 = 1#1), ∀ a, (k0_off112 arg27) a + S1.size a ≤ S12.size a := fun arg27 arg28 k0_hw42 k0_h12 => k0_hw42.2.1 k0_h12
theorem k0_off115_inb : ∀ (arg27 : BitVec 32) (arg28 : BitVec 32) (k0_hw42 : k0_chk42 arg27 arg28), ∀ a, (k0_off115 arg28) a + S1.size a ≤ S3.size a := fun arg27 arg28 k0_hw42 => k0_hw42.2.2

@[reducible] def k0_t9_loop (k0_t3 : Fin k0_t3_loop.trips) (v39 : BitVec 32) (v64 : BitVec 32) : Scf.Loop 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let v120 : BitVec 32 := Scalar.addi v104 v119
  let c1_i32_67 : BitVec 32 := 1#32
  ⟨v123, v120, c1_i32_67⟩
def k0_off116 (k0_t3 : Fin k0_t3_loop.trips) : Fin 1 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_71 : BitVec 32 := 0#32
  let v130 : BitVec 1 := Scalar.cmpi .sgt v19 c0_i32_71
  let v131 : BitVec 32 := Scalar.extui v130
  let c0_i32_72 : BitVec 32 := 0#32
  let v132 : BitVec 1 := Scalar.cmpi .slt v19 c0_i32_72
  let v133 : BitVec 32 := Scalar.extui v132
  let v134 : BitVec 32 := Scalar.subi v131 v133
  let c12_i32_70 : BitVec 32 := 12#32
  let c0_i32_73 : BitVec 32 := 0#32
  let v135 : BitVec 1 := Scalar.cmpi .sgt c12_i32_70 c0_i32_73
  let v136 : BitVec 32 := Scalar.extui v135
  let c0_i32_74 : BitVec 32 := 0#32
  let v137 : BitVec 1 := Scalar.cmpi .slt c12_i32_70 c0_i32_74
  let v138 : BitVec 32 := Scalar.extui v137
  let v139 : BitVec 32 := Scalar.subi v136 v138
  let v140 : BitVec 1 := Scalar.cmpi .ne v134 v139
  let v141 : BitVec 32 := Scalar.remsi v19 c12_i32_70
  let c0_i32_75 : BitVec 32 := 0#32
  let v142 : BitVec 1 := Scalar.cmpi .ne v141 c0_i32_75
  let v143 : BitVec 1 := Scalar.andi v140 v142
  let v129 : BitVec 32 := Scalar.divsi v19 c12_i32_70
  let c1_i32_76 : BitVec 32 := 1#32
  let v144 : BitVec 32 := Scalar.subi v129 c1_i32_76
  let v145 : BitVec 32 := Scalar.select v143 v144 v129
  let v146 : Index := Scalar.indexCast v145
  ![v146.toNat]
def k0_mult35 (k0_t3 : Fin k0_t3_loop.trips) (v39 : BitVec 32) (v64 : BitVec 32) (k0_t9 : Fin (k0_t9_loop k0_t3 v39 v64).trips) (v147 : BitVec 32) : BitVec 32 :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  v172

def k0_mult36 (k0_t3 : Fin k0_t3_loop.trips) (v39 : BitVec 32) (v64 : BitVec 32) (k0_t9 : Fin (k0_t9_loop k0_t3 v39 v64).trips) : BitVec 32 :=
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let c2048_i32_103 : BitVec 32 := 2048#32
  let v201 : BitVec 32 := Scalar.muli arg26 c2048_i32_103
  v201
def k0_off117 (arg27 : BitVec 32) : Fin 1 → Nat :=
  ![arg27.toNat]

def k0_off118 (k0_t3 : Fin k0_t3_loop.trips) (v39 : BitVec 32) (v64 : BitVec 32) (k0_t9 : Fin (k0_t9_loop k0_t3 v39 v64).trips) (arg27 : BitVec 32) (v147 : BitVec 32) : (Fin 3 → Nat) × (Fin 3 → Nat) :=
  let c0_i32_104 : BitVec 32 := 0#32
  let c0_i32_105 : BitVec 32 := 0#32
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![arg27.toNat, 0, 0], ![1, 128, v173.toNat]⟩

def k0_sz33 (k0_t3 : Fin k0_t3_loop.trips) (v39 : BitVec 32) (v64 : BitVec 32) (k0_t9 : Fin (k0_t9_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![128, v173.toNat]
def k0_off119 (k0_t3 : Fin k0_t3_loop.trips) (v39 : BitVec 32) (v64 : BitVec 32) (k0_t9 : Fin (k0_t9_loop k0_t3 v39 v64).trips) (v147 : BitVec 32) : (Fin 4 → Nat) × (Fin 4 → Nat) :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c0_i32_91 : BitVec 32 := 0#32
  let v175 : BitVec 1 := Scalar.cmpi .sgt v19 c0_i32_91
  let v176 : BitVec 32 := Scalar.extui v175
  let c0_i32_92 : BitVec 32 := 0#32
  let v177 : BitVec 1 := Scalar.cmpi .slt v19 c0_i32_92
  let v178 : BitVec 32 := Scalar.extui v177
  let v179 : BitVec 32 := Scalar.subi v176 v178
  let c12_i32_90 : BitVec 32 := 12#32
  let c0_i32_93 : BitVec 32 := 0#32
  let v180 : BitVec 1 := Scalar.cmpi .sgt c12_i32_90 c0_i32_93
  let v181 : BitVec 32 := Scalar.extui v180
  let c0_i32_94 : BitVec 32 := 0#32
  let v182 : BitVec 1 := Scalar.cmpi .slt c12_i32_90 c0_i32_94
  let v183 : BitVec 32 := Scalar.extui v182
  let v184 : BitVec 32 := Scalar.subi v181 v183
  let v185 : BitVec 1 := Scalar.cmpi .ne v179 v184
  let v186 : BitVec 32 := Scalar.remsi v19 c12_i32_90
  let c0_i32_95 : BitVec 32 := 0#32
  let v187 : BitVec 1 := Scalar.cmpi .ne v186 c0_i32_95
  let v188 : BitVec 1 := Scalar.andi v185 v187
  let v174 : BitVec 32 := Scalar.divsi v19 c12_i32_90
  let c1_i32_96 : BitVec 32 := 1#32
  let v189 : BitVec 32 := Scalar.subi v174 c1_i32_96
  let v190 : BitVec 32 := Scalar.select v188 v189 v174
  let c12_i32_97 : BitVec 32 := 12#32
  let c0_i32_98 : BitVec 32 := 0#32
  let v191 : BitVec 1 := Scalar.cmpi .eq c12_i32_97 c0_i32_98
  let c1_i32_99 : BitVec 32 := 1#32
  let v192 : BitVec 32 := Scalar.select v191 c1_i32_99 c12_i32_97
  let v193 : BitVec 32 := Scalar.remsi v19 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let c0_i32_106 : BitVec 32 := 0#32
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let c2048_i32_103 : BitVec 32 := 2048#32
  let v201 : BitVec 32 := Scalar.muli arg26 c2048_i32_103
  let v202 : BitVec 32 := v201
  let c2048_i32_89 : BitVec 32 := 2048#32
  let c128_i32_88 : BitVec 32 := 128#32
  let c16384_i32_77 : BitVec 32 := 16384#32
  let v148 : BitVec 32 := Scalar.minsi v147 c16384_i32_77
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ⟨![v190.toNat, v200.toNat, 0, v202.toNat], ![1, 1, 128, v173.toNat]⟩

def k0_sz34 (k0_t3 : Fin k0_t3_loop.trips) (v39 : BitVec 32) (v64 : BitVec 32) (k0_t9 : Fin (k0_t9_loop k0_t3 v39 v64).trips) (v147 : BitVec 32) : Fin 2 → Nat :=
  let c2048_i32_89 : BitVec 32 := 2048#32
  let c128_i32_88 : BitVec 32 := 128#32
  let c16384_i32_77 : BitVec 32 := 16384#32
  let v148 : BitVec 32 := Scalar.minsi v147 c16384_i32_77
  let c0_i32_12 : BitVec 32 := 0#32
  let c1_i32_13 : BitVec 32 := 1#32
  let arg19 : BitVec 32 := Scf.iv c0_i32_12 c1_i32_13 k0_t3
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let c2048_i32_78 : BitVec 32 := 2048#32
  let v149 : BitVec 32 := Scalar.muli arg26 c2048_i32_78
  let v150 : BitVec 32 := Scalar.subi v148 v149
  let c128_i32 : BitVec 32 := 128#32
  let v151 : BitVec 32 := Scalar.addi v150 c128_i32
  let c1_i32_79 : BitVec 32 := 1#32
  let v152 : BitVec 32 := Scalar.subi v151 c1_i32_79
  let c0_i32_81 : BitVec 32 := 0#32
  let v154 : BitVec 1 := Scalar.cmpi .sgt v152 c0_i32_81
  let v155 : BitVec 32 := Scalar.extui v154
  let c0_i32_82 : BitVec 32 := 0#32
  let v156 : BitVec 1 := Scalar.cmpi .slt v152 c0_i32_82
  let v157 : BitVec 32 := Scalar.extui v156
  let v158 : BitVec 32 := Scalar.subi v155 v157
  let c128_i32_80 : BitVec 32 := 128#32
  let c0_i32_83 : BitVec 32 := 0#32
  let v159 : BitVec 1 := Scalar.cmpi .sgt c128_i32_80 c0_i32_83
  let v160 : BitVec 32 := Scalar.extui v159
  let c0_i32_84 : BitVec 32 := 0#32
  let v161 : BitVec 1 := Scalar.cmpi .slt c128_i32_80 c0_i32_84
  let v162 : BitVec 32 := Scalar.extui v161
  let v163 : BitVec 32 := Scalar.subi v160 v162
  let v164 : BitVec 1 := Scalar.cmpi .ne v158 v163
  let v165 : BitVec 32 := Scalar.remsi v152 c128_i32_80
  let c0_i32_85 : BitVec 32 := 0#32
  let v166 : BitVec 1 := Scalar.cmpi .ne v165 c0_i32_85
  let v167 : BitVec 1 := Scalar.andi v164 v166
  let v153 : BitVec 32 := Scalar.divsi v152 c128_i32_80
  let c1_i32_86 : BitVec 32 := 1#32
  let v168 : BitVec 32 := Scalar.subi v153 c1_i32_86
  let v169 : BitVec 32 := Scalar.select v167 v168 v153
  let c128_i32_87 : BitVec 32 := 128#32
  let v170 : BitVec 32 := Scalar.muli v169 c128_i32_87
  let v171 : BitVec 32 := Scalar.maxsi c128_i32_88 v170
  let v172 : BitVec 32 := Scalar.minsi c2048_i32_89 v171
  let v173 : BitVec 32 := v172
  ![128, v173.toNat]

def k0_chk45 (k0_t3 : Fin k0_t3_loop.trips) (v39 : BitVec 32) (v64 : BitVec 32) (k0_t9 : Fin (k0_t9_loop k0_t3 v39 v64).trips) (arg27 : BitVec 32) (v147 : BitVec 32) : Prop :=
  (128 ∣ (k0_mult35 k0_t3 v39 v64 k0_t9 v147).toNat) ∧
  ((⟨3, (k0_off118 k0_t3 v39 v64 k0_t9 arg27 v147).2⟩ : Shape).Squeezes ⟨2, k0_sz33 k0_t3 v39 v64 k0_t9 v147⟩) ∧
  ((⟨4, (k0_off119 k0_t3 v39 v64 k0_t9 v147).2⟩ : Shape).Squeezes ⟨2, k0_sz34 k0_t3 v39 v64 k0_t9 v147⟩)
theorem k0_mult35_dvd : ∀ (k0_t3 : Fin k0_t3_loop.trips) (v39 : BitVec 32) (v64 : BitVec 32) (k0_t9 : Fin (k0_t9_loop k0_t3 v39 v64).trips) (arg27 : BitVec 32) (v147 : BitVec 32) (k0_hw45 : k0_chk45 k0_t3 v39 v64 k0_t9 arg27 v147), 128 ∣ (k0_mult35 k0_t3 v39 v64 k0_t9 v147).toNat := fun k0_t3 v39 v64 k0_t9 arg27 v147 k0_hw45 => k0_hw45.1
theorem k0_sz33_squeezes : ∀ (k0_t3 : Fin k0_t3_loop.trips) (v39 : BitVec 32) (v64 : BitVec 32) (k0_t9 : Fin (k0_t9_loop k0_t3 v39 v64).trips) (arg27 : BitVec 32) (v147 : BitVec 32) (k0_hw45 : k0_chk45 k0_t3 v39 v64 k0_t9 arg27 v147), (⟨3, (k0_off118 k0_t3 v39 v64 k0_t9 arg27 v147).2⟩ : Shape).Squeezes ⟨2, k0_sz33 k0_t3 v39 v64 k0_t9 v147⟩ := fun k0_t3 v39 v64 k0_t9 arg27 v147 k0_hw45 => k0_hw45.2.1
theorem k0_sz34_squeezes : ∀ (k0_t3 : Fin k0_t3_loop.trips) (v39 : BitVec 32) (v64 : BitVec 32) (k0_t9 : Fin (k0_t9_loop k0_t3 v39 v64).trips) (arg27 : BitVec 32) (v147 : BitVec 32) (k0_hw45 : k0_chk45 k0_t3 v39 v64 k0_t9 arg27 v147), (⟨4, (k0_off119 k0_t3 v39 v64 k0_t9 v147).2⟩ : Shape).Squeezes ⟨2, k0_sz34 k0_t3 v39 v64 k0_t9 v147⟩ := fun k0_t3 v39 v64 k0_t9 arg27 v147 k0_hw45 => k0_hw45.2.2

def k0_off120 (k0_t3 : Fin k0_t3_loop.trips) (v39 : BitVec 32) (v64 : BitVec 32) (k0_t9 : Fin (k0_t9_loop k0_t3 v39 v64).trips) : Fin 4 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c2_i32_107 : BitVec 32 := 2#32
  let v209 : BitVec 32 := Scalar.remsi v19 c2_i32_107
  let v210 : Index := Scalar.indexCast v209
  let c36_i32 : BitVec 32 := 36#32
  let v20 : BitVec 1 := Scalar.cmpi .slt arg19 c36_i32
  let c16384_i32 : BitVec 32 := 16384#32
  let v40 : BitVec 32 := Scalar.minsi v39 c16384_i32
  let c2047_i32 : BitVec 32 := 2047#32
  let v41 : BitVec 32 := Scalar.addi v40 c2047_i32
  let c2048_i32 : BitVec 32 := 2048#32
  let v42 : BitVec 32 := Scalar.divsi v41 c2048_i32
  let c1_i32_27 : BitVec 32 := 1#32
  let v43 : BitVec 32 := Scalar.maxsi v42 c1_i32_27
  let c0_i32_28 : BitVec 32 := 0#32
  let v44 : BitVec 32 := Scalar.select v20 v43 c0_i32_28
  let c0_i32_29 : BitVec 32 := 0#32
  let v45 : BitVec 1 := Scalar.cmpi .sgt arg19 c0_i32_29
  let c16384_i32_37 : BitVec 32 := 16384#32
  let v65 : BitVec 32 := Scalar.minsi v64 c16384_i32_37
  let c2047_i32_38 : BitVec 32 := 2047#32
  let v66 : BitVec 32 := Scalar.addi v65 c2047_i32_38
  let c2048_i32_39 : BitVec 32 := 2048#32
  let v67 : BitVec 32 := Scalar.divsi v66 c2048_i32_39
  let c1_i32_40 : BitVec 32 := 1#32
  let v68 : BitVec 32 := Scalar.maxsi v67 c1_i32_40
  let c0_i32_41 : BitVec 32 := 0#32
  let v69 : BitVec 32 := Scalar.select v45 v68 c0_i32_41
  let v104 : BitVec 32 := Scalar.minsi v44 v69
  let v119 : BitVec 32 := Scalar.subi v69 v104
  let c1_i32_65 : BitVec 32 := 1#32
  let v121 : BitVec 32 := Scalar.divsi v119 c1_i32_65
  let v122 : BitVec 32 := Scalar.muli v121 c1_i32_65
  let v123 : BitVec 32 := Scalar.addi v104 v122
  let c1_i32_67 : BitVec 32 := 1#32
  let arg26 : BitVec 32 := Scf.iv v123 c1_i32_67 k0_t9
  let v211 : Index := Scalar.indexCast arg26
  let c0_108 : Index := 0#32
  let c0_109 : Index := 0#32
  ![v210.toNat, v211.toNat, 0, 0]

def k0_chk9 (k0_t3 : Fin k0_t3_loop.trips) (v39 : BitVec 32) (v64 : BitVec 32) : Prop :=
  ((k0_t4_loop k0_t3 v39 v64).OK) ∧
  (∀ k0_t4 : Fin (k0_t4_loop k0_t3 v39 v64).trips, 2048 ∣ (k0_mult8 k0_t3 v39 v64 k0_t4).toNat) ∧
  (∀ k0_t4 : Fin (k0_t4_loop k0_t3 v39 v64).trips, 2048 ∣ (k0_mult10 k0_t3 v39 v64 k0_t4).toNat) ∧
  (∀ k0_t4 : Fin (k0_t4_loop k0_t3 v39 v64).trips, ∀ a, (k0_off35 k0_t3 v39 v64 k0_t4) a + S1x1x16x1024.size a ≤ S2x8x16x1024.size a) ∧
  (∀ k0_t4 : Fin (k0_t4_loop k0_t3 v39 v64).trips, ∀ a, (k0_off37 k0_t3 v39 v64 k0_t4) a + S1x1x16x1024.size a ≤ S2x8x16x1024.size a) ∧
  ((k0_t5_loop k0_t3 v39 v64).OK) ∧
  (∀ k0_t5 : Fin (k0_t5_loop k0_t3 v39 v64).trips, 2048 ∣ (k0_mult16 k0_t3 v39 v64 k0_t5).toNat) ∧
  (∀ k0_t5 : Fin (k0_t5_loop k0_t3 v39 v64).trips, 2048 ∣ (k0_mult18 k0_t3 v39 v64 k0_t5).toNat) ∧
  (∀ k0_t5 : Fin (k0_t5_loop k0_t3 v39 v64).trips, ∀ a, (k0_off61 k0_t3 v39 v64 k0_t5) a + S1x1x16x1024.size a ≤ S2x8x16x1024.size a) ∧
  (∀ k0_t5 : Fin (k0_t5_loop k0_t3 v39 v64).trips, ∀ a, (k0_off63 k0_t3 v39 v64 k0_t5) a + S1x1x16x1024.size a ≤ S2x8x16x1024.size a) ∧
  ((k0_t6_loop k0_t3 v39 v64).OK) ∧
  (∀ k0_t6 : Fin (k0_t6_loop k0_t3 v39 v64).trips, 2048 ∣ (k0_mult24 k0_t3 v39 v64 k0_t6).toNat) ∧
  (∀ k0_t6 : Fin (k0_t6_loop k0_t3 v39 v64).trips, ∀ a, (k0_off83 k0_t3 v39 v64 k0_t6) a + S1x1x16x1024.size a ≤ S2x8x16x1024.size a) ∧
  ((k0_t7_loop k0_t3 v39 v64).OK) ∧
  (∀ k0_t7 : Fin (k0_t7_loop k0_t3 v39 v64).trips, 2048 ∣ (k0_mult28 k0_t3 v39 v64 k0_t7).toNat) ∧
  (∀ k0_t7 : Fin (k0_t7_loop k0_t3 v39 v64).trips, ∀ a, (k0_off98 k0_t3 v39 v64 k0_t7) a + S1x1x16x1024.size a ≤ S2x8x16x1024.size a) ∧
  ((k0_t8_loop k0_t3 v39 v64).OK) ∧
  (∀ k0_t8 : Fin (k0_t8_loop k0_t3 v39 v64).trips, 2048 ∣ (k0_mult32 k0_t3 v39 v64 k0_t8).toNat) ∧
  (∀ k0_t8 : Fin (k0_t8_loop k0_t3 v39 v64).trips, ∀ a, (k0_off109 k0_t3 v39 v64 k0_t8) a + S1x1x16x1024.size a ≤ S2x8x16x1024.size a) ∧
  ((k0_t9_loop k0_t3 v39 v64).OK) ∧
  (∀ k0_t9 : Fin (k0_t9_loop k0_t3 v39 v64).trips, 2048 ∣ (k0_mult36 k0_t3 v39 v64 k0_t9).toNat) ∧
  (∀ k0_t9 : Fin (k0_t9_loop k0_t3 v39 v64).trips, ∀ a, (k0_off120 k0_t3 v39 v64 k0_t9) a + S1x1x16x1024.size a ≤ S2x8x16x1024.size a)
theorem k0_t4_ok : ∀ (k0_t3 : Fin k0_t3_loop.trips) (v39 : BitVec 32) (v64 : BitVec 32) (k0_hw9 : k0_chk9 k0_t3 v39 v64), (k0_t4_loop k0_t3 v39 v64).OK := fun k0_t3 v39 v64 k0_hw9 => k0_hw9.1
theorem k0_mult8_dvd : ∀ (k0_t3 : Fin k0_t3_loop.trips) (v39 : BitVec 32) (v64 : BitVec 32) (k0_hw9 : k0_chk9 k0_t3 v39 v64) (k0_t4 : Fin (k0_t4_loop k0_t3 v39 v64).trips), 2048 ∣ (k0_mult8 k0_t3 v39 v64 k0_t4).toNat := fun k0_t3 v39 v64 k0_hw9 k0_t4 => k0_hw9.2.1 k0_t4
theorem k0_mult10_dvd : ∀ (k0_t3 : Fin k0_t3_loop.trips) (v39 : BitVec 32) (v64 : BitVec 32) (k0_hw9 : k0_chk9 k0_t3 v39 v64) (k0_t4 : Fin (k0_t4_loop k0_t3 v39 v64).trips), 2048 ∣ (k0_mult10 k0_t3 v39 v64 k0_t4).toNat := fun k0_t3 v39 v64 k0_hw9 k0_t4 => k0_hw9.2.2.1 k0_t4
theorem k0_off35_inb : ∀ (k0_t3 : Fin k0_t3_loop.trips) (v39 : BitVec 32) (v64 : BitVec 32) (k0_hw9 : k0_chk9 k0_t3 v39 v64) (k0_t4 : Fin (k0_t4_loop k0_t3 v39 v64).trips), ∀ a, (k0_off35 k0_t3 v39 v64 k0_t4) a + S1x1x16x1024.size a ≤ S2x8x16x1024.size a := fun k0_t3 v39 v64 k0_hw9 k0_t4 => k0_hw9.2.2.2.1 k0_t4
theorem k0_off37_inb : ∀ (k0_t3 : Fin k0_t3_loop.trips) (v39 : BitVec 32) (v64 : BitVec 32) (k0_hw9 : k0_chk9 k0_t3 v39 v64) (k0_t4 : Fin (k0_t4_loop k0_t3 v39 v64).trips), ∀ a, (k0_off37 k0_t3 v39 v64 k0_t4) a + S1x1x16x1024.size a ≤ S2x8x16x1024.size a := fun k0_t3 v39 v64 k0_hw9 k0_t4 => k0_hw9.2.2.2.2.1 k0_t4
theorem k0_t5_ok : ∀ (k0_t3 : Fin k0_t3_loop.trips) (v39 : BitVec 32) (v64 : BitVec 32) (k0_hw9 : k0_chk9 k0_t3 v39 v64), (k0_t5_loop k0_t3 v39 v64).OK := fun k0_t3 v39 v64 k0_hw9 => k0_hw9.2.2.2.2.2.1
theorem k0_mult16_dvd : ∀ (k0_t3 : Fin k0_t3_loop.trips) (v39 : BitVec 32) (v64 : BitVec 32) (k0_hw9 : k0_chk9 k0_t3 v39 v64) (k0_t5 : Fin (k0_t5_loop k0_t3 v39 v64).trips), 2048 ∣ (k0_mult16 k0_t3 v39 v64 k0_t5).toNat := fun k0_t3 v39 v64 k0_hw9 k0_t5 => k0_hw9.2.2.2.2.2.2.1 k0_t5
theorem k0_mult18_dvd : ∀ (k0_t3 : Fin k0_t3_loop.trips) (v39 : BitVec 32) (v64 : BitVec 32) (k0_hw9 : k0_chk9 k0_t3 v39 v64) (k0_t5 : Fin (k0_t5_loop k0_t3 v39 v64).trips), 2048 ∣ (k0_mult18 k0_t3 v39 v64 k0_t5).toNat := fun k0_t3 v39 v64 k0_hw9 k0_t5 => k0_hw9.2.2.2.2.2.2.2.1 k0_t5
theorem k0_off61_inb : ∀ (k0_t3 : Fin k0_t3_loop.trips) (v39 : BitVec 32) (v64 : BitVec 32) (k0_hw9 : k0_chk9 k0_t3 v39 v64) (k0_t5 : Fin (k0_t5_loop k0_t3 v39 v64).trips), ∀ a, (k0_off61 k0_t3 v39 v64 k0_t5) a + S1x1x16x1024.size a ≤ S2x8x16x1024.size a := fun k0_t3 v39 v64 k0_hw9 k0_t5 => k0_hw9.2.2.2.2.2.2.2.2.1 k0_t5
theorem k0_off63_inb : ∀ (k0_t3 : Fin k0_t3_loop.trips) (v39 : BitVec 32) (v64 : BitVec 32) (k0_hw9 : k0_chk9 k0_t3 v39 v64) (k0_t5 : Fin (k0_t5_loop k0_t3 v39 v64).trips), ∀ a, (k0_off63 k0_t3 v39 v64 k0_t5) a + S1x1x16x1024.size a ≤ S2x8x16x1024.size a := fun k0_t3 v39 v64 k0_hw9 k0_t5 => k0_hw9.2.2.2.2.2.2.2.2.2.1 k0_t5
theorem k0_t6_ok : ∀ (k0_t3 : Fin k0_t3_loop.trips) (v39 : BitVec 32) (v64 : BitVec 32) (k0_hw9 : k0_chk9 k0_t3 v39 v64), (k0_t6_loop k0_t3 v39 v64).OK := fun k0_t3 v39 v64 k0_hw9 => k0_hw9.2.2.2.2.2.2.2.2.2.2.1
theorem k0_mult24_dvd : ∀ (k0_t3 : Fin k0_t3_loop.trips) (v39 : BitVec 32) (v64 : BitVec 32) (k0_hw9 : k0_chk9 k0_t3 v39 v64) (k0_t6 : Fin (k0_t6_loop k0_t3 v39 v64).trips), 2048 ∣ (k0_mult24 k0_t3 v39 v64 k0_t6).toNat := fun k0_t3 v39 v64 k0_hw9 k0_t6 => k0_hw9.2.2.2.2.2.2.2.2.2.2.2.1 k0_t6
theorem k0_off83_inb : ∀ (k0_t3 : Fin k0_t3_loop.trips) (v39 : BitVec 32) (v64 : BitVec 32) (k0_hw9 : k0_chk9 k0_t3 v39 v64) (k0_t6 : Fin (k0_t6_loop k0_t3 v39 v64).trips), ∀ a, (k0_off83 k0_t3 v39 v64 k0_t6) a + S1x1x16x1024.size a ≤ S2x8x16x1024.size a := fun k0_t3 v39 v64 k0_hw9 k0_t6 => k0_hw9.2.2.2.2.2.2.2.2.2.2.2.2.1 k0_t6
theorem k0_t7_ok : ∀ (k0_t3 : Fin k0_t3_loop.trips) (v39 : BitVec 32) (v64 : BitVec 32) (k0_hw9 : k0_chk9 k0_t3 v39 v64), (k0_t7_loop k0_t3 v39 v64).OK := fun k0_t3 v39 v64 k0_hw9 => k0_hw9.2.2.2.2.2.2.2.2.2.2.2.2.2.1
theorem k0_mult28_dvd : ∀ (k0_t3 : Fin k0_t3_loop.trips) (v39 : BitVec 32) (v64 : BitVec 32) (k0_hw9 : k0_chk9 k0_t3 v39 v64) (k0_t7 : Fin (k0_t7_loop k0_t3 v39 v64).trips), 2048 ∣ (k0_mult28 k0_t3 v39 v64 k0_t7).toNat := fun k0_t3 v39 v64 k0_hw9 k0_t7 => k0_hw9.2.2.2.2.2.2.2.2.2.2.2.2.2.2.1 k0_t7
theorem k0_off98_inb : ∀ (k0_t3 : Fin k0_t3_loop.trips) (v39 : BitVec 32) (v64 : BitVec 32) (k0_hw9 : k0_chk9 k0_t3 v39 v64) (k0_t7 : Fin (k0_t7_loop k0_t3 v39 v64).trips), ∀ a, (k0_off98 k0_t3 v39 v64 k0_t7) a + S1x1x16x1024.size a ≤ S2x8x16x1024.size a := fun k0_t3 v39 v64 k0_hw9 k0_t7 => k0_hw9.2.2.2.2.2.2.2.2.2.2.2.2.2.2.2.1 k0_t7
theorem k0_t8_ok : ∀ (k0_t3 : Fin k0_t3_loop.trips) (v39 : BitVec 32) (v64 : BitVec 32) (k0_hw9 : k0_chk9 k0_t3 v39 v64), (k0_t8_loop k0_t3 v39 v64).OK := fun k0_t3 v39 v64 k0_hw9 => k0_hw9.2.2.2.2.2.2.2.2.2.2.2.2.2.2.2.2.1
theorem k0_mult32_dvd : ∀ (k0_t3 : Fin k0_t3_loop.trips) (v39 : BitVec 32) (v64 : BitVec 32) (k0_hw9 : k0_chk9 k0_t3 v39 v64) (k0_t8 : Fin (k0_t8_loop k0_t3 v39 v64).trips), 2048 ∣ (k0_mult32 k0_t3 v39 v64 k0_t8).toNat := fun k0_t3 v39 v64 k0_hw9 k0_t8 => k0_hw9.2.2.2.2.2.2.2.2.2.2.2.2.2.2.2.2.2.1 k0_t8
theorem k0_off109_inb : ∀ (k0_t3 : Fin k0_t3_loop.trips) (v39 : BitVec 32) (v64 : BitVec 32) (k0_hw9 : k0_chk9 k0_t3 v39 v64) (k0_t8 : Fin (k0_t8_loop k0_t3 v39 v64).trips), ∀ a, (k0_off109 k0_t3 v39 v64 k0_t8) a + S1x1x16x1024.size a ≤ S2x8x16x1024.size a := fun k0_t3 v39 v64 k0_hw9 k0_t8 => k0_hw9.2.2.2.2.2.2.2.2.2.2.2.2.2.2.2.2.2.2.1 k0_t8
theorem k0_t9_ok : ∀ (k0_t3 : Fin k0_t3_loop.trips) (v39 : BitVec 32) (v64 : BitVec 32) (k0_hw9 : k0_chk9 k0_t3 v39 v64), (k0_t9_loop k0_t3 v39 v64).OK := fun k0_t3 v39 v64 k0_hw9 => k0_hw9.2.2.2.2.2.2.2.2.2.2.2.2.2.2.2.2.2.2.2.1
theorem k0_mult36_dvd : ∀ (k0_t3 : Fin k0_t3_loop.trips) (v39 : BitVec 32) (v64 : BitVec 32) (k0_hw9 : k0_chk9 k0_t3 v39 v64) (k0_t9 : Fin (k0_t9_loop k0_t3 v39 v64).trips), 2048 ∣ (k0_mult36 k0_t3 v39 v64 k0_t9).toNat := fun k0_t3 v39 v64 k0_hw9 k0_t9 => k0_hw9.2.2.2.2.2.2.2.2.2.2.2.2.2.2.2.2.2.2.2.2.1 k0_t9
theorem k0_off120_inb : ∀ (k0_t3 : Fin k0_t3_loop.trips) (v39 : BitVec 32) (v64 : BitVec 32) (k0_hw9 : k0_chk9 k0_t3 v39 v64) (k0_t9 : Fin (k0_t9_loop k0_t3 v39 v64).trips), ∀ a, (k0_off120 k0_t3 v39 v64 k0_t9) a + S1x1x16x1024.size a ≤ S2x8x16x1024.size a := fun k0_t3 v39 v64 k0_hw9 k0_t9 => k0_hw9.2.2.2.2.2.2.2.2.2.2.2.2.2.2.2.2.2.2.2.2.2 k0_t9

def k0_off121 (arg27 : BitVec 32) : Fin 3 → Nat :=
  let v246 : Index := Scalar.indexCast arg27
  let c0_118 : Index := 0#32
  let c0_119 : Index := 0#32
  ![v246.toNat, 0, 0]

def k0_chk46 (arg27 : BitVec 32) : Prop :=
  (∀ a, (k0_off117 arg27) a + S1.size a ≤ S12.size a) ∧
  (∀ a, (k0_off121 arg27) a + S1x128x2048.size a ≤ S12x128x2048.size a)
theorem k0_off117_inb : ∀ (arg27 : BitVec 32) (k0_hw46 : k0_chk46 arg27), ∀ a, (k0_off117 arg27) a + S1.size a ≤ S12.size a := fun arg27 k0_hw46 => k0_hw46.1
theorem k0_off121_inb : ∀ (arg27 : BitVec 32) (k0_hw46 : k0_chk46 arg27), ∀ a, (k0_off121 arg27) a + S1x128x2048.size a ≤ S12x128x2048.size a := fun arg27 k0_hw46 => k0_hw46.2

def k0_off122 (arg28 : BitVec 32) : Fin 1 → Nat :=
  let c0_i32_148 : BitVec 32 := 0#32
  let v296 : BitVec 1 := Scalar.cmpi .sgt arg28 c0_i32_148
  let v297 : BitVec 32 := Scalar.extui v296
  let c0_i32_149 : BitVec 32 := 0#32
  let v298 : BitVec 1 := Scalar.cmpi .slt arg28 c0_i32_149
  let v299 : BitVec 32 := Scalar.extui v298
  let v300 : BitVec 32 := Scalar.subi v297 v299
  let c12_i32_147 : BitVec 32 := 12#32
  let c0_i32_150 : BitVec 32 := 0#32
  let v301 : BitVec 1 := Scalar.cmpi .sgt c12_i32_147 c0_i32_150
  let v302 : BitVec 32 := Scalar.extui v301
  let c0_i32_151 : BitVec 32 := 0#32
  let v303 : BitVec 1 := Scalar.cmpi .slt c12_i32_147 c0_i32_151
  let v304 : BitVec 32 := Scalar.extui v303
  let v305 : BitVec 32 := Scalar.subi v302 v304
  let v306 : BitVec 1 := Scalar.cmpi .ne v300 v305
  let v307 : BitVec 32 := Scalar.remsi arg28 c12_i32_147
  let c0_i32_152 : BitVec 32 := 0#32
  let v308 : BitVec 1 := Scalar.cmpi .ne v307 c0_i32_152
  let v309 : BitVec 1 := Scalar.andi v306 v308
  let v295 : BitVec 32 := Scalar.divsi arg28 c12_i32_147
  let c1_i32_153 : BitVec 32 := 1#32
  let v310 : BitVec 32 := Scalar.subi v295 c1_i32_153
  let v311 : BitVec 32 := Scalar.select v309 v310 v295
  let v312 : Index := Scalar.indexCast v311
  ![v312.toNat]
def k0_cond13 (arg28 : BitVec 32) : BitVec 1 :=
  let c36_i32_123 : BitVec 32 := 36#32
  let v254 : BitVec 1 := Scalar.cmpi .slt arg28 c36_i32_123
  let v255 : BitVec 32 := Scalar.extui v254
  let c0_i32_124 : BitVec 32 := 0#32
  let v256 : BitVec 1 := Scalar.cmpi .ne v255 c0_i32_124
  v256

def k0_mult37 (arg29 : BitVec 32) (v313 : BitVec 32) : BitVec 32 :=
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  v338

def k0_mult38 (arg29 : BitVec 32) : BitVec 32 :=
  let c2048_i32_181 : BitVec 32 := 2048#32
  let v367 : BitVec 32 := Scalar.muli arg29 c2048_i32_181
  v367

def k0_chk49 (arg28 : BitVec 32) (arg29 : BitVec 32) : Prop :=
  (∀ (k0_h13 : k0_cond13 arg28 = 1#1), 2048 ∣ (k0_mult38 arg29).toNat)
theorem k0_mult38_dvd : ∀ (arg28 : BitVec 32) (arg29 : BitVec 32) (k0_hw49 : k0_chk49 arg28 arg29), ∀ (k0_h13 : k0_cond13 arg28 = 1#1), 2048 ∣ (k0_mult38 arg29).toNat := fun arg28 arg29 k0_hw49 k0_h13 => k0_hw49 k0_h13

def k0_off123 (arg27 : BitVec 32) : Fin 1 → Nat :=
  ![arg27.toNat]
def k0_off124 (arg27 : BitVec 32) (arg29 : BitVec 32) (v313 : BitVec 32) : (Fin 3 → Nat) × (Fin 3 → Nat) :=
  let c0_i32_182 : BitVec 32 := 0#32
  let c0_i32_183 : BitVec 32 := 0#32
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ⟨![arg27.toNat, 0, 0], ![1, 128, v339.toNat]⟩
def k0_sz35 (arg29 : BitVec 32) (v313 : BitVec 32) : Fin 2 → Nat :=
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ![128, v339.toNat]
def k0_off125 (arg28 : BitVec 32) (arg29 : BitVec 32) (v313 : BitVec 32) : (Fin 4 → Nat) × (Fin 4 → Nat) :=
  let c0_i32_169 : BitVec 32 := 0#32
  let v341 : BitVec 1 := Scalar.cmpi .sgt arg28 c0_i32_169
  let v342 : BitVec 32 := Scalar.extui v341
  let c0_i32_170 : BitVec 32 := 0#32
  let v343 : BitVec 1 := Scalar.cmpi .slt arg28 c0_i32_170
  let v344 : BitVec 32 := Scalar.extui v343
  let v345 : BitVec 32 := Scalar.subi v342 v344
  let c12_i32_168 : BitVec 32 := 12#32
  let c0_i32_171 : BitVec 32 := 0#32
  let v346 : BitVec 1 := Scalar.cmpi .sgt c12_i32_168 c0_i32_171
  let v347 : BitVec 32 := Scalar.extui v346
  let c0_i32_172 : BitVec 32 := 0#32
  let v348 : BitVec 1 := Scalar.cmpi .slt c12_i32_168 c0_i32_172
  let v349 : BitVec 32 := Scalar.extui v348
  let v350 : BitVec 32 := Scalar.subi v347 v349
  let v351 : BitVec 1 := Scalar.cmpi .ne v345 v350
  let v352 : BitVec 32 := Scalar.remsi arg28 c12_i32_168
  let c0_i32_173 : BitVec 32 := 0#32
  let v353 : BitVec 1 := Scalar.cmpi .ne v352 c0_i32_173
  let v354 : BitVec 1 := Scalar.andi v351 v353
  let v340 : BitVec 32 := Scalar.divsi arg28 c12_i32_168
  let c1_i32_174 : BitVec 32 := 1#32
  let v355 : BitVec 32 := Scalar.subi v340 c1_i32_174
  let v356 : BitVec 32 := Scalar.select v354 v355 v340
  let c12_i32_175 : BitVec 32 := 12#32
  let c0_i32_176 : BitVec 32 := 0#32
  let v357 : BitVec 1 := Scalar.cmpi .eq c12_i32_175 c0_i32_176
  let c1_i32_177 : BitVec 32 := 1#32
  let v358 : BitVec 32 := Scalar.select v357 c1_i32_177 c12_i32_175
  let v359 : BitVec 32 := Scalar.remsi arg28 v358
  let c0_i32_179 : BitVec 32 := 0#32
  let v361 : BitVec 1 := Scalar.cmpi .slt v359 c0_i32_179
  let c0_i32_180 : BitVec 32 := 0#32
  let v362 : BitVec 1 := Scalar.cmpi .slt v358 c0_i32_180
  let v363 : BitVec 1 := Scalar.xori v361 v362
  let c0_i32_178 : BitVec 32 := 0#32
  let v360 : BitVec 1 := Scalar.cmpi .ne v359 c0_i32_178
  let v364 : BitVec 1 := Scalar.andi v363 v360
  let v365 : BitVec 32 := Scalar.addi v359 v358
  let v366 : BitVec 32 := Scalar.select v364 v365 v359
  let c0_i32_184 : BitVec 32 := 0#32
  let c2048_i32_181 : BitVec 32 := 2048#32
  let v367 : BitVec 32 := Scalar.muli arg29 c2048_i32_181
  let v368 : BitVec 32 := v367
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ⟨![v356.toNat, v366.toNat, 0, v368.toNat], ![1, 1, 128, v339.toNat]⟩
def k0_sz36 (arg29 : BitVec 32) (v313 : BitVec 32) : Fin 2 → Nat :=
  let c2048_i32_167 : BitVec 32 := 2048#32
  let c128_i32_166 : BitVec 32 := 128#32
  let c16384_i32_154 : BitVec 32 := 16384#32
  let v314 : BitVec 32 := Scalar.minsi v313 c16384_i32_154
  let c2048_i32_155 : BitVec 32 := 2048#32
  let v315 : BitVec 32 := Scalar.muli arg29 c2048_i32_155
  let v316 : BitVec 32 := Scalar.subi v314 v315
  let c128_i32_156 : BitVec 32 := 128#32
  let v317 : BitVec 32 := Scalar.addi v316 c128_i32_156
  let c1_i32_157 : BitVec 32 := 1#32
  let v318 : BitVec 32 := Scalar.subi v317 c1_i32_157
  let c0_i32_159 : BitVec 32 := 0#32
  let v320 : BitVec 1 := Scalar.cmpi .sgt v318 c0_i32_159
  let v321 : BitVec 32 := Scalar.extui v320
  let c0_i32_160 : BitVec 32 := 0#32
  let v322 : BitVec 1 := Scalar.cmpi .slt v318 c0_i32_160
  let v323 : BitVec 32 := Scalar.extui v322
  let v324 : BitVec 32 := Scalar.subi v321 v323
  let c128_i32_158 : BitVec 32 := 128#32
  let c0_i32_161 : BitVec 32 := 0#32
  let v325 : BitVec 1 := Scalar.cmpi .sgt c128_i32_158 c0_i32_161
  let v326 : BitVec 32 := Scalar.extui v325
  let c0_i32_162 : BitVec 32 := 0#32
  let v327 : BitVec 1 := Scalar.cmpi .slt c128_i32_158 c0_i32_162
  let v328 : BitVec 32 := Scalar.extui v327
  let v329 : BitVec 32 := Scalar.subi v326 v328
  let v330 : BitVec 1 := Scalar.cmpi .ne v324 v329
  let v331 : BitVec 32 := Scalar.remsi v318 c128_i32_158
  let c0_i32_163 : BitVec 32 := 0#32
  let v332 : BitVec 1 := Scalar.cmpi .ne v331 c0_i32_163
  let v333 : BitVec 1 := Scalar.andi v330 v332
  let v319 : BitVec 32 := Scalar.divsi v318 c128_i32_158
  let c1_i32_164 : BitVec 32 := 1#32
  let v334 : BitVec 32 := Scalar.subi v319 c1_i32_164
  let v335 : BitVec 32 := Scalar.select v333 v334 v319
  let c128_i32_165 : BitVec 32 := 128#32
  let v336 : BitVec 32 := Scalar.muli v335 c128_i32_165
  let v337 : BitVec 32 := Scalar.maxsi c128_i32_166 v336
  let v338 : BitVec 32 := Scalar.minsi c2048_i32_167 v337
  let v339 : BitVec 32 := v338
  ![128, v339.toNat]

def k0_chk48 (arg27 : BitVec 32) (arg28 : BitVec 32) (arg29 : BitVec 32) (v313 : BitVec 32) : Prop :=
  (∀ (k0_h13 : k0_cond13 arg28 = 1#1), 128 ∣ (k0_mult37 arg29 v313).toNat) ∧
  (∀ (k0_h13 : k0_cond13 arg28 = 1#1), ∀ a, (k0_off124 arg27 arg29 v313).2 a = 0 ∨ (k0_off124 arg27 arg29 v313).1 a + (k0_off124 arg27 arg29 v313).2 a ≤ S12x128x2048.size a) ∧
  (∀ (k0_h13 : k0_cond13 arg28 = 1#1), (⟨3, (k0_off124 arg27 arg29 v313).2⟩ : Shape).Squeezes ⟨2, k0_sz35 arg29 v313⟩) ∧
  (∀ (k0_h13 : k0_cond13 arg28 = 1#1), ∀ a, (k0_off125 arg28 arg29 v313).2 a = 0 ∨ (k0_off125 arg28 arg29 v313).1 a + (k0_off125 arg28 arg29 v313).2 a ≤ S3x12x128x16384.size a) ∧
  (∀ (k0_h13 : k0_cond13 arg28 = 1#1), (⟨4, (k0_off125 arg28 arg29 v313).2⟩ : Shape).Squeezes ⟨2, k0_sz36 arg29 v313⟩) ∧
  (∀ (k0_h13 : k0_cond13 arg28 = 1#1), ∀ (hinb : ∀ a, (k0_off125 arg28 arg29 v313).2 a = 0 ∨ (k0_off125 arg28 arg29 v313).1 a + (k0_off125 arg28 arg29 v313).2 a ≤ S3x12x128x16384.size a), (Rect.unitDyn (s := S3x12x128x16384) (k0_off125 arg28 arg29 v313).1 (k0_off125 arg28 arg29 v313).2 hinb).WholeWords (EltTy.packing .fp8e4m3)) ∧
  (∀ (k0_h13 : k0_cond13 arg28 = 1#1), ∀ (hinb : ∀ a, (k0_off124 arg27 arg29 v313).2 a = 0 ∨ (k0_off124 arg27 arg29 v313).1 a + (k0_off124 arg27 arg29 v313).2 a ≤ S12x128x2048.size a), (Rect.unitDyn (s := S12x128x2048) (k0_off124 arg27 arg29 v313).1 (k0_off124 arg27 arg29 v313).2 hinb).WholeWords (EltTy.packing .fp8e4m3))
theorem k0_mult37_dvd : ∀ (arg27 : BitVec 32) (arg28 : BitVec 32) (arg29 : BitVec 32) (v313 : BitVec 32) (k0_hw48 : k0_chk48 arg27 arg28 arg29 v313), ∀ (k0_h13 : k0_cond13 arg28 = 1#1), 128 ∣ (k0_mult37 arg29 v313).toNat := fun arg27 arg28 arg29 v313 k0_hw48 k0_h13 => k0_hw48.1 k0_h13
theorem k0_off124_inb : ∀ (arg27 : BitVec 32) (arg28 : BitVec 32) (arg29 : BitVec 32) (v313 : BitVec 32) (k0_hw48 : k0_chk48 arg27 arg28 arg29 v313), ∀ (k0_h13 : k0_cond13 arg28 = 1#1), ∀ a, (k0_off124 arg27 arg29 v313).2 a = 0 ∨ (k0_off124 arg27 arg29 v313).1 a + (k0_off124 arg27 arg29 v313).2 a ≤ S12x128x2048.size a := fun arg27 arg28 arg29 v313 k0_hw48 k0_h13 => k0_hw48.2.1 k0_h13
theorem k0_sz35_squeezes : ∀ (arg27 : BitVec 32) (arg28 : BitVec 32) (arg29 : BitVec 32) (v313 : BitVec 32) (k0_hw48 : k0_chk48 arg27 arg28 arg29 v313), ∀ (k0_h13 : k0_cond13 arg28 = 1#1), (⟨3, (k0_off124 arg27 arg29 v313).2⟩ : Shape).Squeezes ⟨2, k0_sz35 arg29 v313⟩ := fun arg27 arg28 arg29 v313 k0_hw48 k0_h13 => k0_hw48.2.2.1 k0_h13
theorem k0_off125_inb : ∀ (arg27 : BitVec 32) (arg28 : BitVec 32) (arg29 : BitVec 32) (v313 : BitVec 32) (k0_hw48 : k0_chk48 arg27 arg28 arg29 v313), ∀ (k0_h13 : k0_cond13 arg28 = 1#1), ∀ a, (k0_off125 arg28 arg29 v313).2 a = 0 ∨ (k0_off125 arg28 arg29 v313).1 a + (k0_off125 arg28 arg29 v313).2 a ≤ S3x12x128x16384.size a := fun arg27 arg28 arg29 v313 k0_hw48 k0_h13 => k0_hw48.2.2.2.1 k0_h13
theorem k0_sz36_squeezes : ∀ (arg27 : BitVec 32) (arg28 : BitVec 32) (arg29 : BitVec 32) (v313 : BitVec 32) (k0_hw48 : k0_chk48 arg27 arg28 arg29 v313), ∀ (k0_h13 : k0_cond13 arg28 = 1#1), (⟨4, (k0_off125 arg28 arg29 v313).2⟩ : Shape).Squeezes ⟨2, k0_sz36 arg29 v313⟩ := fun arg27 arg28 arg29 v313 k0_hw48 k0_h13 => k0_hw48.2.2.2.2.1 k0_h13
theorem k0_off125_wordsfp8e4m3 : ∀ (arg27 : BitVec 32) (arg28 : BitVec 32) (arg29 : BitVec 32) (v313 : BitVec 32) (k0_hw48 : k0_chk48 arg27 arg28 arg29 v313), ∀ (k0_h13 : k0_cond13 arg28 = 1#1), (Rect.unitDyn (s := S3x12x128x16384) (k0_off125 arg28 arg29 v313).1 (k0_off125 arg28 arg29 v313).2 (k0_off125_inb arg27 arg28 arg29 v313 k0_hw48 k0_h13)).WholeWords (EltTy.packing .fp8e4m3) := fun arg27 arg28 arg29 v313 k0_hw48 k0_h13 => k0_hw48.2.2.2.2.2.1 k0_h13 (k0_off125_inb arg27 arg28 arg29 v313 k0_hw48 k0_h13)
theorem k0_off124_wordsfp8e4m3 : ∀ (arg27 : BitVec 32) (arg28 : BitVec 32) (arg29 : BitVec 32) (v313 : BitVec 32) (k0_hw48 : k0_chk48 arg27 arg28 arg29 v313), ∀ (k0_h13 : k0_cond13 arg28 = 1#1), (Rect.unitDyn (s := S12x128x2048) (k0_off124 arg27 arg29 v313).1 (k0_off124 arg27 arg29 v313).2 (k0_off124_inb arg27 arg28 arg29 v313 k0_hw48 k0_h13)).WholeWords (EltTy.packing .fp8e4m3) := fun arg27 arg28 arg29 v313 k0_hw48 k0_h13 => k0_hw48.2.2.2.2.2.2 k0_h13 (k0_off124_inb arg27 arg28 arg29 v313 k0_hw48 k0_h13)

def k0_off126 (arg28 : BitVec 32) : Fin 1 → Nat :=
  let c35_i32_125 : BitVec 32 := 35#32
  let v257 : BitVec 32 := Scalar.minsi arg28 c35_i32_125
  let c0_i32_128 : BitVec 32 := 0#32
  let v260 : BitVec 1 := Scalar.cmpi .sgt v257 c0_i32_128
  let v261 : BitVec 32 := Scalar.extui v260
  let c0_i32_129 : BitVec 32 := 0#32
  let v262 : BitVec 1 := Scalar.cmpi .slt v257 c0_i32_129
  let v263 : BitVec 32 := Scalar.extui v262
  let v264 : BitVec 32 := Scalar.subi v261 v263
  let c12_i32_127 : BitVec 32 := 12#32
  let c0_i32_130 : BitVec 32 := 0#32
  let v265 : BitVec 1 := Scalar.cmpi .sgt c12_i32_127 c0_i32_130
  let v266 : BitVec 32 := Scalar.extui v265
  let c0_i32_131 : BitVec 32 := 0#32
  let v267 : BitVec 1 := Scalar.cmpi .slt c12_i32_127 c0_i32_131
  let v268 : BitVec 32 := Scalar.extui v267
  let v269 : BitVec 32 := Scalar.subi v266 v268
  let v270 : BitVec 1 := Scalar.cmpi .ne v264 v269
  let v271 : BitVec 32 := Scalar.remsi v257 c12_i32_127
  let c0_i32_132 : BitVec 32 := 0#32
  let v272 : BitVec 1 := Scalar.cmpi .ne v271 c0_i32_132
  let v273 : BitVec 1 := Scalar.andi v270 v272
  let v259 : BitVec 32 := Scalar.divsi v257 c12_i32_127
  let c1_i32_133 : BitVec 32 := 1#32
  let v274 : BitVec 32 := Scalar.subi v259 c1_i32_133
  let v275 : BitVec 32 := Scalar.select v273 v274 v259
  let v276 : Index := Scalar.indexCast v275
  ![v276.toNat]

def k0_chk47 (arg27 : BitVec 32) (arg28 : BitVec 32) : Prop :=
  (∀ (k0_h13 : k0_cond13 arg28 = 1#1), ∀ a, (k0_off122 arg28) a + S1.size a ≤ S3.size a) ∧
  (∀ (k0_h13 : k0_cond13 arg28 = 1#1), ∀ a, (k0_off123 arg27) a + S1.size a ≤ S12.size a) ∧
  (∀ a, (k0_off126 arg28) a + S1.size a ≤ S3.size a)
theorem k0_off122_inb : ∀ (arg27 : BitVec 32) (arg28 : BitVec 32) (k0_hw47 : k0_chk47 arg27 arg28), ∀ (k0_h13 : k0_cond13 arg28 = 1#1), ∀ a, (k0_off122 arg28) a + S1.size a ≤ S3.size a := fun arg27 arg28 k0_hw47 k0_h13 => k0_hw47.1 k0_h13
theorem k0_off123_inb : ∀ (arg27 : BitVec 32) (arg28 : BitVec 32) (k0_hw47 : k0_chk47 arg27 arg28), ∀ (k0_h13 : k0_cond13 arg28 = 1#1), ∀ a, (k0_off123 arg27) a + S1.size a ≤ S12.size a := fun arg27 arg28 k0_hw47 k0_h13 => k0_hw47.2.1 k0_h13
theorem k0_off126_inb : ∀ (arg27 : BitVec 32) (arg28 : BitVec 32) (k0_hw47 : k0_chk47 arg27 arg28), ∀ a, (k0_off126 arg28) a + S1.size a ≤ S3.size a := fun arg27 arg28 k0_hw47 => k0_hw47.2.2

def k0_cond14 (k0_t3 : Fin k0_t3_loop.trips) : BitVec 1 :=
  let c0_i32_12 : BitVec 32 := 0#32
  let c1_i32_13 : BitVec 32 := 1#32
  let arg19 : BitVec 32 := Scf.iv c0_i32_12 c1_i32_13 k0_t3
  let c0_i32_68 : BitVec 32 := 0#32
  let v126 : BitVec 1 := Scalar.cmpi .sgt arg19 c0_i32_68
  let v127 : BitVec 32 := Scalar.extui v126
  let c0_i32_69 : BitVec 32 := 0#32
  let v128 : BitVec 1 := Scalar.cmpi .ne v127 c0_i32_69
  v128

def k0_off127 (k0_t3 : Fin k0_t3_loop.trips) : Fin 3 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let v142 : Index := Scalar.indexCast v19
  let c0_76 : Index := 0#32
  let c0_77 : Index := 0#32
  ![v142.toNat, 0, 0]
def k0_mult39 (k0_t3 : Fin k0_t3_loop.trips) : BitVec 32 :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c8_i32_78 : BitVec 32 := 8#32
  let v149 : BitVec 32 := Scalar.muli v19 c8_i32_78
  v149
def k0_off128 (k0_t3 : Fin k0_t3_loop.trips) : Fin 2 → Nat :=
  let c0_i32_12 : BitVec 32 := 0#32
  let c1_i32_13 : BitVec 32 := 1#32
  let arg19 : BitVec 32 := Scf.iv c0_i32_12 c1_i32_13 k0_t3
  let c1_i32_18 : BitVec 32 := 1#32
  let v18 : BitVec 32 := Scalar.subi arg19 c1_i32_18
  let c0_i32_19 : BitVec 32 := 0#32
  let v19 : BitVec 32 := Scalar.maxsi v18 c0_i32_19
  let c8_i32_78 : BitVec 32 := 8#32
  let v149 : BitVec 32 := Scalar.muli v19 c8_i32_78
  let v150 : BitVec 32 := v149
  let v151 : Index := Scalar.indexCast v150
  let c0_79 : Index := 0#32
  ![v151.toNat, 0]
abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S36x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S36x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S36x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S288x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S3x1x12288 : Shape := ⟨3, ![3, 1, 12288]⟩
abbrev S3x1x12x128 : Shape := ⟨4, ![3, 1, 12, 128]⟩
abbrev S3x12x16384x128 : Shape := ⟨4, ![3, 12, 16384, 128]⟩
abbrev S3x12x128x16384 : Shape := ⟨4, ![3, 12, 128, 16384]⟩
abbrev S3x12x128 : Shape := ⟨3, ![3, 12, 128]⟩
abbrev S3 : Shape := ⟨1, ![3]⟩
abbrev S3x1x12x8x128 : Shape := ⟨5, ![3, 1, 12, 8, 128]⟩
abbrev S3x12x8x128 : Shape := ⟨4, ![3, 12, 8, 128]⟩
abbrev S3x12x8x16384 : Shape := ⟨4, ![3, 12, 8, 16384]⟩
abbrev S_ : Shape := ⟨0, ![]⟩
abbrev S16384 : Shape := ⟨1, ![16384]⟩
abbrev S1x16384 : Shape := ⟨2, ![1, 16384]⟩
abbrev S3x1 : Shape := ⟨2, ![3, 1]⟩
abbrev S3x16384 : Shape := ⟨2, ![3, 16384]⟩
abbrev S3x1x1x16384 : Shape := ⟨4, ![3, 1, 1, 16384]⟩
abbrev S3x12x8 : Shape := ⟨3, ![3, 12, 8]⟩
abbrev S3x12x8x1 : Shape := ⟨4, ![3, 12, 8, 1]⟩
abbrev S3x12x1x128 : Shape := ⟨4, ![3, 12, 1, 128]⟩
abbrev S288x128 : Shape := ⟨2, ![288, 128]⟩

abbrev nBuf : Space → Nat
  | .hbm => 68
  | .vmem => 4
  | .smem => 0
  | _ => 0

abbrev bufTy : (tb : Table) → Fin (tcTables nBuf tb) → BufTy
  | .hbm, ⟨0, _⟩ => ⟨S3x1x12288, .bf16⟩
  | .hbm, ⟨1, _⟩ => ⟨S3x1x12x128, .bf16⟩
  | .hbm, ⟨2, _⟩ => ⟨S3x1x12x128, .bf16⟩
  | .hbm, ⟨3, _⟩ => ⟨S3x12x16384x128, .bf16⟩
  | .hbm, ⟨4, _⟩ => ⟨S3x12x128x16384, .fp8e4m3⟩
  | .hbm, ⟨5, _⟩ => ⟨S3x12x128, .f32⟩
  | .hbm, ⟨6, _⟩ => ⟨S3, .i32⟩
  | .hbm, ⟨7, _⟩ => ⟨S3x1x12x8x128, .bf16⟩
  | .hbm, ⟨8, _⟩ => ⟨S3x12x8x128, .bf16⟩
  | .hbm, ⟨9, _⟩ => ⟨S3x12x8x16384, .f32⟩
  | .hbm, ⟨10, _⟩ => ⟨S_, .f32⟩
  | .hbm, ⟨11, _⟩ => ⟨S3x12x8x16384, .f32⟩
  | .hbm, ⟨12, _⟩ => ⟨S3x12x8x16384, .f32⟩
  | .hbm, ⟨13, _⟩ => ⟨S16384, .i32⟩
  | .hbm, ⟨14, _⟩ => ⟨S1x16384, .i32⟩
  | .hbm, ⟨15, _⟩ => ⟨S3x1, .i32⟩
  | .hbm, ⟨16, _⟩ => ⟨S3x16384, .i32⟩
  | .hbm, ⟨17, _⟩ => ⟨S3x16384, .i32⟩
  | .hbm, ⟨18, _⟩ => ⟨S3x16384, .i1⟩
  | .hbm, ⟨19, _⟩ => ⟨S3x1x1x16384, .i1⟩
  | .hbm, ⟨20, _⟩ => ⟨S_, .f32⟩
  | .hbm, ⟨21, _⟩ => ⟨S_, .f32⟩
  | .hbm, ⟨22, _⟩ => ⟨S3x12x8x16384, .i1⟩
  | .hbm, ⟨23, _⟩ => ⟨S3x12x8x16384, .f32⟩
  | .hbm, ⟨24, _⟩ => ⟨S3x12x8x16384, .f32⟩
  | .hbm, ⟨25, _⟩ => ⟨S3x12x128, .bf16⟩
  | .hbm, ⟨26, _⟩ => ⟨S3x12x8, .f32⟩
  | .hbm, ⟨27, _⟩ => ⟨S_, .f32⟩
  | .hbm, ⟨28, _⟩ => ⟨S3x12x8, .f32⟩
  | .hbm, ⟨29, _⟩ => ⟨S3x12x8, .f32⟩
  | .hbm, ⟨30, _⟩ => ⟨S_, .f32⟩
  | .hbm, ⟨31, _⟩ => ⟨S3x12x8, .f32⟩
  | .hbm, ⟨32, _⟩ => ⟨S3x12x8, .f32⟩
  | .hbm, ⟨33, _⟩ => ⟨S3x12x8x1, .f32⟩
  | .hbm, ⟨34, _⟩ => ⟨S3x12x8x16384, .f32⟩
  | .hbm, ⟨35, _⟩ => ⟨S3x12x8x16384, .f32⟩
  | .hbm, ⟨36, _⟩ => ⟨S3x12x8x16384, .f32⟩
  | .hbm, ⟨37, _⟩ => ⟨S3x12x8, .f32⟩
  | .hbm, ⟨38, _⟩ => ⟨S3x12x8, .f32⟩
  | .hbm, ⟨39, _⟩ => ⟨S_, .f32⟩
  | .hbm, ⟨40, _⟩ => ⟨S3x12x8, .f32⟩
  | .hbm, ⟨41, _⟩ => ⟨S3x12x8, .f32⟩
  | .hbm, ⟨42, _⟩ => ⟨S3x12x8x16384, .f32⟩
  | .hbm, ⟨43, _⟩ => ⟨S3x12x128x16384, .f32⟩
  | .hbm, ⟨44, _⟩ => ⟨S3x12x8x128, .f32⟩
  | .hbm, ⟨45, _⟩ => ⟨S_, .f32⟩
  | .hbm, ⟨46, _⟩ => ⟨S3x12x8x128, .f32⟩
  | .hbm, ⟨47, _⟩ => ⟨S3x12x8x128, .f32⟩
  | .hbm, ⟨48, _⟩ => ⟨S3x12x1x128, .f32⟩
  | .hbm, ⟨49, _⟩ => ⟨S3x12x8x128, .f32⟩
  | .hbm, ⟨50, _⟩ => ⟨S3x12x8x128, .f32⟩
  | .hbm, ⟨51, _⟩ => ⟨S3x12x8x1, .f32⟩
  | .hbm, ⟨52, _⟩ => ⟨S3x12x8x128, .f32⟩
  | .hbm, ⟨53, _⟩ => ⟨S3x12x8x128, .f32⟩
  | .hbm, ⟨54, _⟩ => ⟨S3x12x8x1, .f32⟩
  | .hbm, ⟨55, _⟩ => ⟨S3x12x128, .bf16⟩
  | .hbm, ⟨56, _⟩ => ⟨S3x12x128, .f32⟩
  | .hbm, ⟨57, _⟩ => ⟨S3x12x1x128, .f32⟩
  | .hbm, ⟨58, _⟩ => ⟨S3x12x8x128, .f32⟩
  | .hbm, ⟨59, _⟩ => ⟨S3x12x8x128, .f32⟩
  | .hbm, ⟨60, _⟩ => ⟨S3x12x8x128, .f32⟩
  | .hbm, ⟨61, _⟩ => ⟨S3x12x8x1, .f32⟩
  | .hbm, ⟨62, _⟩ => ⟨S3x12x8x128, .f32⟩
  | .hbm, ⟨63, _⟩ => ⟨S3x12x8x128, .f32⟩
  | .hbm, ⟨64, _⟩ => ⟨S3x12x8x128, .f32⟩
  | .hbm, ⟨65, _⟩ => ⟨S288x128, .f32⟩
  | .hbm, ⟨66, _⟩ => ⟨S288x128, .bf16⟩
  | .hbm, ⟨67, _⟩ => ⟨S288x128, .f32⟩
  | .local _ .vmem, ⟨0, _⟩ => ⟨S3x12x8x16384, .f32⟩
  | .local _ .vmem, ⟨1, _⟩ => ⟨S3x12x128x16384, .fp8e4m3⟩
  | .local _ .vmem, ⟨2, _⟩ => ⟨S3x12x8x16384, .f32⟩
  | .local _ .vmem, ⟨3, _⟩ => ⟨S3x12x128x16384, .f32⟩
  | _, _ => ⟨S3x1x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x12x8x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x12x128x16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x12x8x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x12x128x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/- The 32-bit index arithmetic of the decode kernel, away from any program: how many chunks a batch row's
   context has, how many tokens a chunk reads, and where in the cache a unit's chunk lies. -/
module

public import Idealize.ShloMosaic.PureOps
public import Idealize.ShloMosaic.Lib.WordCmp
public import Mathlib.Tactic.Ring
public import Mathlib.Tactic.NormNum

@[expose] public section

set_option maxRecDepth 16384

namespace Cert.Proof.Words

open Idealize.ShloMosaic Idealize.ShloMosaic.WordCmp

/-- Floor division of words by a positive constant as the program spells it. -/
def fdiv (x d : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
      (Scalar.cmpi .ne (Scalar.remsi x d) 0#32)) (Scalar.subi (Scalar.divsi x d) 1#32) (Scalar.divsi x d)

/-- Remainder of words by a positive constant as the program spells it. -/
def fmod (x d0 : BitVec 32) : BitVec 32 :=
  let d := Scalar.select (Scalar.cmpi .eq d0 0#32) 1#32 d0
  let r := Scalar.remsi x d
  Scalar.select (Scalar.andi (Scalar.xori (Scalar.cmpi .slt r 0#32) (Scalar.cmpi .slt d 0#32)) (Scalar.cmpi .ne r 0#32)) (Scalar.addi r d) r

/-- The tokens chunk `c` of a context of length `len` reads. -/
def tok (c len : BitVec 32) : BitVec 32 :=
  Scalar.minsi 2048#32 (Scalar.maxsi 128#32 (Scalar.muli (fdiv (Scalar.subi (Scalar.addi (Scalar.subi (Scalar.minsi len 16384#32) (Scalar.muli c 2048#32)) 128#32) 1#32) 128#32) 128#32))

/-- The number of chunks of a context of length `len`. -/
def nch (len : BitVec 32) : BitVec 32 :=
  Scalar.maxsi (Scalar.divsi (Scalar.addi (Scalar.minsi len 16384#32) 2047#32) 2048#32) 1#32

theorem toInt_minsi (a b : BitVec 32) : (Scalar.minsi a b).toInt = min a.toInt b.toInt := by
  unfold Scalar.minsi IntOp.minsi
  rw [BitVec.slt_eq_decide]
  by_cases h : a.toInt < b.toInt
  · simp [h]; omega
  · simp [h]; omega

theorem toInt_maxsi (a b : BitVec 32) : (Scalar.maxsi a b).toInt = max a.toInt b.toInt := by
  unfold Scalar.maxsi IntOp.maxsi
  rw [BitVec.slt_eq_decide]
  by_cases h : b.toInt < a.toInt
  · simp [h]; omega
  · simp [h]; omega

theorem toInt_addi (a b : BitVec 32) (h : -2147483648 ≤ a.toInt + b.toInt) (h' : a.toInt + b.toInt < 2147483648) :
    (Scalar.addi a b).toInt = a.toInt + b.toInt := by
  unfold Scalar.addi IntOp.addi
  rw [BitVec.toInt_add]
  exact Int.bmod_eq_of_le (by simp only [Nat.reducePow]; omega) (by simp only [Nat.reducePow]; omega)

theorem toInt_subi (a b : BitVec 32) (h : -2147483648 ≤ a.toInt - b.toInt) (h' : a.toInt - b.toInt < 2147483648) :
    (Scalar.subi a b).toInt = a.toInt - b.toInt := by
  unfold Scalar.subi IntOp.subi
  rw [BitVec.toInt_sub]
  exact Int.bmod_eq_of_le (by simp only [Nat.reducePow]; omega) (by simp only [Nat.reducePow]; omega)

theorem toInt_muli (a b : BitVec 32) (h : -2147483648 ≤ a.toInt * b.toInt) (h' : a.toInt * b.toInt < 2147483648) :
    (Scalar.muli a b).toInt = a.toInt * b.toInt := by
  unfold Scalar.muli IntOp.muli
  rw [BitVec.toInt_mul]
  exact Int.bmod_eq_of_le (by simp only [Nat.reducePow]; omega) (by simp only [Nat.reducePow]; omega)

theorem toInt_divsi (a : BitVec 32) (d : BitVec 32) (hd : 0 < d.toInt) :
    (Scalar.divsi a d).toInt = a.toInt.tdiv d.toInt := by
  have h0 : ¬ IntOp.SDivCorner a d := by
    rintro (h | ⟨_, h⟩)
    · subst h; exact absurd hd (by decide)
    · subst h; exact absurd hd (by decide)
  unfold Scalar.divsi IntOp.divsi
  rw [if_neg h0, BitVec.toInt_sdiv_of_ne_or_ne]
  right
  rintro rfl; exact absurd hd (by decide)

/-- Floor division by a positive word of a nonnegative word. -/
theorem toInt_fdiv_nonneg (a d : BitVec 32) (hd : 0 < d.toInt) (ha : 0 < a.toInt) :
    (fdiv a d).toInt = a.toInt / d.toInt := by
  have h1 : fdiv a d = Scalar.divsi a d := by
    unfold fdiv
    have e1 : Scalar.cmpi .sgt a 0#32 = 1#1 := by
      unfold Scalar.cmpi; rw [cmpi_sgt_eq]; simp [ha]
    have e2 : Scalar.cmpi .slt a 0#32 = 0#1 := by
      unfold Scalar.cmpi; rw [cmpi_slt_eq, decide_eq_false (by rw [show (0#32 : BitVec 32).toInt = 0 from by decide]; omega)]; rfl
    have e3 : Scalar.cmpi .sgt d 0#32 = 1#1 := by
      unfold Scalar.cmpi; rw [cmpi_sgt_eq]; simp [hd]
    have e4 : Scalar.cmpi .slt d 0#32 = 0#1 := by
      unfold Scalar.cmpi; rw [cmpi_slt_eq, decide_eq_false (by rw [show (0#32 : BitVec 32).toInt = 0 from by decide]; omega)]; rfl
    rw [e1, e2, e3, e4]
    have e5 : Scalar.cmpi .ne (Scalar.subi (Scalar.extui 1#1) (Scalar.extui 0#1)) (Scalar.subi (Scalar.extui 1#1) (Scalar.extui 0#1)) = 0#1 := by decide
    rw [e5]
    generalize Scalar.cmpi .ne (Scalar.remsi a d) 0#32 = z
    have e6 : Scalar.andi 0#1 z = 0#1 := by revert z; decide
    rw [e6]; rfl
  rw [h1, toInt_divsi a d hd, Int.tdiv_eq_ediv_of_nonneg (by omega)]

/-- Floor division by 128 of a nonpositive word is nonpositive, and not below the least quotient. -/
theorem toInt_fdiv_nonpos (a : BitVec 32) (ha : a.toInt ≤ 0) (ha' : -2147483521 ≤ a.toInt) :
    (fdiv a 128#32).toInt ≤ 0 ∧ -16777216 ≤ (fdiv a 128#32).toInt := by
  have hd : (128#32 : BitVec 32).toInt = 128 := by decide
  have hq := toInt_divsi a 128#32 (by decide)
  rw [hd] at hq
  have hq2 : (Scalar.divsi a 128#32).toInt ≤ 0 ∧ -16777215 ≤ (Scalar.divsi a 128#32).toInt := by
    have e : a.toInt.tdiv 128 = -((-a.toInt) / 128) := by
      rw [← Int.tdiv_eq_ediv_of_nonneg (by omega), Int.neg_tdiv, neg_neg]
    rw [hq, e]; omega
  unfold fdiv Scalar.select
  split
  · rw [toInt_subi _ _ (by rw [show (1#32 : BitVec 32).toInt = 1 from by decide]; omega) (by rw [show (1#32 : BitVec 32).toInt = 1 from by decide]; omega)]
    rw [show (1#32 : BitVec 32).toInt = 1 from by decide]; omega
  · omega

/-- The context length a batch row really has: between 0 and 16384. -/
def lenN (len : BitVec 32) : Nat := (min len.toInt 16384).toNat

theorem lenN_le (len : BitVec 32) : lenN len ≤ 16384 := by unfold lenN; omega

/-- The chunks of a context of `L` tokens. -/
def chunksN (L : Nat) : Nat := max 1 ((L + 2047) / 2048)

/-- The tokens chunk `c` of a context of `L` tokens reads. -/
def tokN (c L : Nat) : Nat := min 2048 (max 128 ((L + 127 - 2048 * c) / 128 * 128))

theorem chunksN_pos (L : Nat) : 0 < chunksN L := by unfold chunksN; omega
theorem chunksN_le (len : BitVec 32) : chunksN (lenN len) ≤ 8 := by have := lenN_le len; unfold chunksN; omega
theorem tokN_dvd (c L : Nat) : 128 ∣ tokN c L := by unfold tokN; omega
theorem tokN_pos (c L : Nat) : 128 ≤ tokN c L := by unfold tokN; omega
theorem tokN_le (c L : Nat) : tokN c L ≤ 2048 := by unfold tokN; omega
theorem tokN_fits (c : Nat) (len : BitVec 32) (h : c < chunksN (lenN len)) : 2048 * c + tokN c (lenN len) ≤ 16384 := by
  have := lenN_le len; unfold chunksN at h; unfold tokN; omega
theorem tokN_covers (c L t : Nat) (ht : t < 2048) (h : 2048 * c + t < L) : t < tokN c L := by
  unfold tokN; omega

theorem toInt_nch (len : BitVec 32) : (nch len).toInt = chunksN (lenN len) := by
  have hm := toInt_minsi len 16384#32
  rw [show (16384#32 : BitVec 32).toInt = 16384 from by decide] at hm
  have hlo := BitVec.le_toInt len
  simp only [Nat.add_one_sub_one, Nat.reduceSub, Int.reducePow, Int.reduceNeg] at hlo
  have h2047 : (2047#32 : BitVec 32).toInt = 2047 := by decide
  have ha := toInt_addi (Scalar.minsi len 16384#32) 2047#32 (by rw [h2047]; omega) (by rw [h2047]; omega)
  have hd := toInt_divsi (Scalar.addi (Scalar.minsi len 16384#32) 2047#32) 2048#32 (by decide)
  rw [show (2048#32 : BitVec 32).toInt = 2048 from by decide] at hd
  unfold nch
  rw [toInt_maxsi, hd, ha, hm, h2047, show (1#32 : BitVec 32).toInt = 1 from by decide]
  unfold chunksN lenN
  by_cases hx : 0 ≤ min len.toInt 16384 + 2047
  · rw [Int.tdiv_eq_ediv_of_nonneg hx]; omega
  · have e : (min len.toInt 16384 + 2047).tdiv 2048 = -((-(min len.toInt 16384 + 2047)) / 2048) := by
      rw [← Int.tdiv_eq_ediv_of_nonneg (by omega), Int.neg_tdiv, neg_neg]
    rw [e]; omega

theorem toNat_of_toInt {w : BitVec 32} {n : Nat} (h : w.toInt = n) : w.toNat = n := by
  have := BitVec.toInt_eq_toNat_cond w
  have := w.isLt
  split at * <;> omega

theorem nch_eq (len : BitVec 32) : nch len = BitVec.ofNat 32 (chunksN (lenN len)) := by
  have h := toNat_of_toInt (toInt_nch len)
  have h8 := chunksN_le len
  apply BitVec.eq_of_toNat_eq
  rw [h, BitVec.toNat_ofNat]; omega

theorem toInt_ofNat32 (c : Nat) (h : c < 2147483648) : (BitVec.ofNat 32 c).toInt = c := toInt_ofNat_of_lt (by omega)

theorem toNat_tok (c : Nat) (len : BitVec 32) (h : c < chunksN (lenN len)) : (tok (BitVec.ofNat 32 c) len).toNat = tokN c (lenN len) := by
  apply toNat_of_toInt
  have hc8 : c < 8 := lt_of_lt_of_le h (chunksN_le len)
  have hm := toInt_minsi len 16384#32
  rw [show (16384#32 : BitVec 32).toInt = 16384 from by decide] at hm
  have hlo := BitVec.le_toInt len
  simp only [Nat.add_one_sub_one, Nat.reduceSub, Int.reducePow, Int.reduceNeg] at hlo
  have hc := toInt_ofNat32 c (by omega)
  have h2048 : (2048#32 : BitVec 32).toInt = 2048 := by decide
  have h128 : (128#32 : BitVec 32).toInt = 128 := by decide
  have h1 : (1#32 : BitVec 32).toInt = 1 := by decide
  have hmul := toInt_muli (BitVec.ofNat 32 c) 2048#32 (by rw [hc, h2048]; omega) (by rw [hc, h2048]; omega)
  rw [hc, h2048] at hmul
  have hcl : c = 0 ∨ 2048 * (c : Int) < min len.toInt 16384 := by
    unfold chunksN lenN at h; omega
  have hsub := toInt_subi (Scalar.minsi len 16384#32) (Scalar.muli (BitVec.ofNat 32 c) 2048#32) (by omega) (by omega)
  have hadd := toInt_addi (Scalar.subi (Scalar.minsi len 16384#32) (Scalar.muli (BitVec.ofNat 32 c) 2048#32)) 128#32 (by omega) (by omega)
  have hx := toInt_subi (Scalar.addi (Scalar.subi (Scalar.minsi len 16384#32) (Scalar.muli (BitVec.ofNat 32 c) 2048#32)) 128#32) 1#32 (by omega) (by omega)
  unfold tok
  generalize hxd : Scalar.subi (Scalar.addi (Scalar.subi (Scalar.minsi len 16384#32) (Scalar.muli (BitVec.ofNat 32 c) 2048#32)) 128#32) 1#32 = x at hx ⊢
  rw [toInt_minsi, toInt_maxsi, h2048, h128]
  have hX : x.toInt = min len.toInt 16384 - 2048 * c + 127 := by omega
  by_cases hp : 0 < x.toInt
  · have hf := toInt_fdiv_nonneg x 128#32 (by decide) hp
    rw [h128] at hf
    rw [toInt_muli _ _ (by rw [hf, h128]; omega) (by rw [hf, h128]; omega), hf, h128]
    unfold tokN lenN
    omega
  · have hf := toInt_fdiv_nonpos x (by omega) (by omega)
    rw [toInt_muli _ _ (by rw [h128]; omega) (by rw [h128]; omega), h128]
    unfold tokN lenN
    omega

/-- The batch row, the head and the sequence offset of a unit and chunk, as words. -/
theorem fdiv12 : ∀ u : Fin 37, fdiv (BitVec.ofNat 32 u.val) 12#32 = BitVec.ofNat 32 (u.val / 12) := by decide
theorem fmod12 : ∀ u : Fin 37, fmod (BitVec.ofNat 32 u.val) 12#32 = BitVec.ofNat 32 (u.val % 12) := by decide
theorem min35 : ∀ u : Fin 37, Scalar.minsi (BitVec.ofNat 32 u.val) 35#32 = BitVec.ofNat 32 (min u.val 35) := by decide
theorem mul2048 : ∀ c : Fin 8, Scalar.muli (BitVec.ofNat 32 c.val) 2048#32 = BitVec.ofNat 32 (2048 * c.val) := by decide

end Cert.Proof.Words
-- ==== Proof.Seq.lean ====
/- The order in which the decode kernel reads its cache: unit by unit, chunk by chunk, and the pointer words
   by which the program walks that order. -/
module

public import proofs.«01_k».proof.Proof.Words
public import Idealize.ShloMosaic.Lib.Ring

@[expose] public section

set_option maxRecDepth 16384

namespace Cert.Proof.Seq

open Idealize.ShloMosaic Idealize.ShloMosaic.WordCmp Cert.Proof.Words

section
variable (nc : Nat → Nat)

/-- The chunk after a chunk: the unit's next one, or the next unit's first; past unit 35 it stays. -/
def nxt (p : Nat × Nat) : Nat × Nat :=
  if 36 ≤ p.1 then p else if nc p.1 ≤ p.2 + 1 then (p.1 + 1, 0) else (p.1, p.2 + 1)

/-- The `k`-th chunk in the order of reading: its unit and its number in the unit. -/
def ch : Nat → Nat × Nat
  | 0 => (0, 0)
  | k + 1 => nxt nc (ch k)

/-- How many chunks the units before `u` have. -/
def before : Nat → Nat
  | 0 => 0
  | u + 1 => before u + nc u

theorem ch_le (k : Nat) : (ch nc k).1 ≤ k := by
  induction k with
  | zero => simp [ch]
  | succ k ih => simp only [ch, nxt]; split_ifs <;> omega

theorem ch_le36 (k : Nat) : (ch nc k).1 ≤ 36 := by
  induction k with
  | zero => simp [ch]
  | succ k ih => simp only [ch, nxt]; split_ifs <;> (try dsimp only) <;> omega

variable (hp : ∀ u, 0 < nc u)
include hp

theorem ch_lt (k : Nat) : ((ch nc k).1 < 36 → (ch nc k).2 < nc (ch nc k).1) ∧ ((ch nc k).1 = 36 → (ch nc k).2 = 0) := by
  induction k with
  | zero => simp [ch, hp]
  | succ k ih =>
    have h36 := ch_le36 nc k
    simp only [ch, nxt]
    split_ifs with h1 h2
    · have : (ch nc k).1 = 36 := by omega
      exact ⟨fun h => by omega, fun _ => ih.2 this⟩
    · exact ⟨fun _ => hp _, fun _ => rfl⟩
    · exact ⟨fun _ => by simp; omega, fun h => by simp at h; omega⟩

theorem ch_unit (u : Nat) (hu : u ≤ 36) : ch nc (before nc u) = (u, 0) ∧ (u < 36 → ∀ t, t < nc u → ch nc (before nc u + t) = (u, t)) := by
  have key : ∀ u, u < 36 → ch nc (before nc u) = (u, 0) → ∀ t, t < nc u → ch nc (before nc u + t) = (u, t) := by
    intro u hu h0 t
    induction t with
    | zero => intro _; exact h0
    | succ t ih =>
      intro ht
      rw [← Nat.add_assoc]
      simp only [ch, ih (by omega), nxt]
      rw [if_neg (by omega), if_neg (by omega)]
  induction u with
  | zero => exact ⟨rfl, fun h => key 0 h rfl⟩
  | succ u ih =>
    have h1 := (ih (by omega))
    have h2 := h1.2 (by omega) (nc u - 1) (by have := hp u; omega)
    have h3 : ch nc (before nc (u + 1)) = (u + 1, 0) := by
      have e : before nc (u + 1) = (before nc u + (nc u - 1)) + 1 := by have := hp u; simp only [before]; omega
      rw [e]; simp only [ch, h2, nxt]
      rw [if_neg (by omega), if_pos (by omega)]
    exact ⟨h3, fun h => key (u + 1) h h3⟩

theorem ch_dead (k : Nat) (hk : before nc 36 ≤ k) : ch nc k = (36, 0) := by
  obtain ⟨d, rfl⟩ := Nat.exists_eq_add_of_le hk
  induction d with
  | zero => exact (ch_unit nc hp 36 (by omega)).1
  | succ d ih => rw [← Nat.add_assoc]; simp only [ch]; rw [ih (by omega)]; rfl

end

/-! ### The rings' slots -/

/-- What the slots hold while the first `t` are filled. -/
def pre (t : Nat) (s : Fin 12) : Option Nat := if s.val < t then some s.val else none

/-- What the slots hold after `i` chunks were read: the next twelve. -/
def cons (i : Nat) (s : Fin 12) : Option Nat := some (i + (s.val + 12 - i % 12) % 12)

theorem pre_update (t : Fin 12) : Function.update (pre t.val) t (some t.val) = pre (t.val + 1) := by
  funext s
  by_cases h : s = t
  · subst h; simp [pre]
  · rw [Function.update_of_ne h]
    have : s.val ≠ t.val := fun e => h (Fin.ext e)
    unfold pre
    by_cases h2 : s.val < t.val
    · rw [if_pos h2, if_pos (by omega)]
    · rw [if_neg h2, if_neg (by omega)]

theorem pre_all : pre 12 = cons 0 := by
  funext s; have := s.isLt; simp only [pre, cons]; rw [if_pos this]; congr 1; omega

theorem cons_at (i : Nat) (s : Fin 12) (h : s.val = i % 12) : cons i s = some i := by
  have := s.isLt; simp only [cons]; congr 1; omega

theorem cons_update (i : Nat) (s : Fin 12) (h : s.val = i % 12) : Function.update (cons i) s (some (i + 12)) = cons (i + 1) := by
  funext r
  by_cases hr : r = s
  · subst hr; rw [Function.update_self]; have := r.isLt; simp only [cons]; congr 1; omega
  · rw [Function.update_of_ne hr]
    have : r.val ≠ s.val := fun e => hr (Fin.ext e)
    have := r.isLt
    simp only [cons]; congr 1; omega

/-! ### The pointer words -/

/-- The word of a number. -/
abbrev wd (n : Nat) : BitVec 32 := BitVec.ofNat 32 n

theorem wd_slt36 : ∀ u : Fin 37, Scalar.cmpi .slt (wd u.val) 36#32 = if u.val < 36 then 1#1 else 0#1 := by decide
theorem wd_add1 : ∀ u : Fin 37, Scalar.addi (wd u.val) 1#32 = wd (u.val + 1) := by decide
theorem wd_sge : ∀ c : Fin 10, ∀ n : Fin 10, Scalar.cmpi .sge (wd c.val) (wd n.val) = if n.val ≤ c.val then 1#1 else 0#1 := by decide
theorem wd_slot : ∀ s : Fin 12, Scalar.select (Scalar.cmpi .eq (Scalar.addi (wd s.val) 1#32) 12#32) 0#32 (Scalar.addi (wd s.val) 1#32) = wd ((s.val + 1) % 12) := by decide

theorem select_one {α : Type} (a b : α) : Scalar.select 1#1 a b = a := rfl
theorem select_zero {α : Type} (a b : α) : Scalar.select 0#1 a b = b := rfl

/-- The pointer's words after the pointer at unit `u`, chunk `c`. -/
theorem nxt_words (nc : Nat → Nat) (u c : Nat) (hu : u ≤ 36) (hc : u < 36 → c < nc u) (hc0 : u = 36 → c = 0) (len : BitVec 32)
    (hlen : u < 36 → chunksN (lenN len) = nc u) :
    Scalar.select (Scalar.cmpi .slt (wd u) 36#32) (Scalar.select (Scalar.cmpi .sge (Scalar.addi (wd c) 1#32) (nch len))
        (Scalar.addi (Scalar.minsi (wd u) 35#32) 1#32) (Scalar.minsi (wd u) 35#32)) (wd u) = wd (nxt nc (u, c)).1
    ∧ Scalar.select (Scalar.cmpi .slt (wd u) 36#32) (Scalar.select (Scalar.cmpi .sge (Scalar.addi (wd c) 1#32) (nch len))
        0#32 (Scalar.addi (wd c) 1#32)) (wd c) = wd (nxt nc (u, c)).2 := by
  rw [wd_slt36 ⟨u, by omega⟩]
  by_cases h : u < 36
  · have hn := hlen h
    have h8 := chunksN_le len
    have hcu := hc h
    simp only [if_pos h, select_one]
    rw [nch_eq, hn, wd_add1 ⟨c, by omega⟩, wd_sge ⟨c + 1, by omega⟩ ⟨nc u, by omega⟩, min35 ⟨u, by omega⟩]
    simp only [nxt, if_neg (show ¬ 36 ≤ u by omega), show min u 35 = u by omega]
    by_cases h2 : nc u ≤ c + 1
    · simp only [if_pos h2, select_one]; exact ⟨wd_add1 ⟨u, by omega⟩, trivial⟩
    · simp only [if_neg h2, select_zero]; simp
  · have : u = 36 := by omega
    subst this
    rw [hc0 rfl]
    simp only [if_neg h, select_zero]
    exact ⟨rfl, rfl⟩

end Cert.Proof.Seq
-- ==== Proof.Xfer.lean ====
module

public import Idealize.ShloMosaic.Lib.Ring
public import Idealize.ShloMosaic.Lib.Transfers

/-! One transfer of a ring: started from a slot that is free, waited for while it is in flight.
    Both are stated of any two memrefs, so that the two rings of the kernel share them. -/

@[expose] public section

noncomputable section

namespace Cert.Proof

open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Val : EltTy → Type}
variable {U : Type} [URA U] [CountersIn U]

local notation "𝕄" => MT nD τ sig Unit Val ℕ U ℕ

/-- The counters the transfers draw their tokens from. -/
abbrev EC : UEmb Counters 𝕄 := countersEmb

/-- A flight carries a resource that only its waiter will use. -/
theorem Flight_frame {c : Thread nD τ} {sm : SemLoc sig} {N : ℕ} {D P : sProp 𝕄} :
    iprop(P ∗ Flight (Ix := Unit) (EC (U := U)) c sm () N D) ⊢ Flight (Ix := Unit) (EC (U := U)) c sm () N iprop(D ∗ P) := by
  unfold Flight
  iintro ⟨HP, ⟨%R, HR, %hcap, %hpeek⟩, Hcred⟩
  isplitl [HR HP]
  · iexists iprop(R ∗ P)
    isplitl [HR HP]; · isplitl [HR] <;> iassumption
    isplit
    · ipureintro
      intro K
      iintro ⟨⟨HR, HP⟩, HK⟩
      iapply (hcap K)
      isplitl [HR]; · iexact HR
      iintro ⟨Hv, HD⟩
      iapply HK
      isplitl [Hv]; · iexact Hv
      isplitl [HD] <;> iassumption
    · ipureintro
      intro K
      iintro ⟨⟨HR, HP⟩, HK⟩
      iapply (hpeek K)
      isplitl [HR]; · iexact HR
      iintro HR
      iapply HK
      isplitl [HR] <;> iassumption
  · iexact Hcred

variable {Λ : Labels} {defs : Defs nD τ sig Val Λ} (c : Dev nD)
variable {α : Type} {sp sp' : Space} {s : Shape} {e : EltTy}

/-- Start a transfer into a slot that is held, from an array of which a share is held: the flight
    will hand back the slot, written, and the share. -/
theorem issue {src : Memref sig .tc sp s e} {dst : Memref sig .tc sp' s e} {sm : DmaSem sig}
    {hsrc : src.view.WordExact} {hdst : dst.view.WordExact}
    {hsem : DmaTarget.Typed (nD := nD) (τ := τ) (p := .tc) sp (.dma sm) (.here dst)}
    {k : PUnit → Prog (TpuEff nD τ sig Val Λ .tc) α} {Q : α → sProp 𝕄} {q : PosShare TreeShare}
    {fs : Buf Val (src.view.loc (c : Thread nD τ))}
    {Sd : Finset (Idx (dst.view.loc (c : Thread nD τ)))} {fd : Buf Val (dst.view.loc (c : Thread nD τ))}
    {N : ℕ} {D : sProp 𝕄} (hN : dst.view.dmaCredit = N) (hN0 : 0 < N) (hSd : dst.view.set ⊆ Sd)
    (hD : iprop((dst.view.loc (c : Thread nD τ) ↦[Sd]{fullShare} (dst.view.write Val fd (src.view.read Val fs) Finset.univ))
        ∗ (src.view.loc (c : Thread nD τ) ↦{q} fs)) ⊢ D) :
    iprop((src.view.loc (c : Thread nD τ) ↦{q} fs) ∗ (dst.view.loc (c : Thread nD τ) ↦[Sd]{fullShare} fd)
        ∗ semVal ((c : Thread nD τ), SemLoc.dma sm) 0)
      ⊢ iprop((Flight (Ix := Unit) (EC (U := U)) (c : Thread nD τ) (.dma sm) () N D
          -∗ wp frame (wpE defs Variants.none c none) Set.univ (k ⟨⟩) Q)
        -∗ wp frame (wpE defs Variants.none c none) Set.univ
            (.op (.enqueueDma src (.here dst) (.dma sm) hsrc hdst hsem) k) Q) := by
  iintro ⟨Hs, Hd, Hv⟩ Hk
  icases ((pointsTo_split_subset (Finset.subset_univ src.view.set)).1) $$ Hs with ⟨Hs, Hr⟩
  iapply (wp_dmaLocal (EC (U := U)) Variants.none (c : Thread nD τ) none (dst := dst) (sm := .dma sm) () N hN hN0 hSd) $$ [Hs Hd Hv]
  · isplitl [Hs]; · iexact Hs
    isplitl [Hd] <;> iassumption
  iintro Hf
  iapply Hk
  iapply (Flight_mono (EC (U := U)) (h := ?_))
  rotate_left
  · iapply Flight_frame
    isplitl [Hr]; · iexact Hr
    iexact Hf
  · refine BIBase.Entails.trans ?_ hD
    iintro ⟨⟨Hd, Hs⟩, Hr⟩
    isplitl [Hd]; · iexact Hd
    iapply ((pointsTo_split_subset (Finset.subset_univ src.view.set)).2)
    isplitl [Hs] <;> iassumption

/-- Start a transfer into a held part of a buffer. -/
theorem issueG {sp5 : Space} {sh5 : Shape} (m9 : Memref sig .tc sp s e) (m5 : Memref sig .tc sp5 sh5 e)
    (R9 : Rect s) (hR9 : ∀ a, R9.stride a = 1) (R5 : Rect sh5) (hR5 : ∀ a, R5.stride a = 1) (s' : Shape)
    (hq9 : R9.shape.Squeezes s') (hq5 : R5.shape.Squeezes s') (Sd : Finset (Idx (m9.view.loc (c : Thread nD τ)))) (q : PosShare TreeShare)
    (f5 : Buf Val (m5.view.loc (c : Thread nD τ))) (sm : DmaSem sig) (P : Buf Val (m9.view.loc (c : Thread nD τ)) → Prop) {N : ℕ}
    (hN : ((m9.slice R9 hR9).squeeze s' hq9).view.dmaCredit = N) (hN0 : 0 < N) (hSd : ((m9.slice R9 hR9).squeeze s' hq9).view.set ⊆ Sd)
    (hP : ∀ fd, P (((m9.slice R9 hR9).squeeze s' hq9).view.write Val fd (((m5.slice R5 hR5).squeeze s' hq5).view.read Val f5) Finset.univ))
    {Q : α → sProp 𝕄} {kk : PUnit → Prog (TpuEff nD τ sig Val Λ .tc) α} {hsrc hdst hsem} :
    iprop(semVal ((c : Thread nD τ), SemLoc.dma sm) 0 ∗ (∃ f, m9.view.loc (c : Thread nD τ) ↦[Sd]{fullShare} f) ∗ (m5.view.loc (c : Thread nD τ) ↦{q} f5)) ⊢
      iprop((Flight (Ix := Unit) (EC (U := U)) (c : Thread nD τ) (.dma sm) () N
          iprop((∃ f, ⌜P f⌝ ∗ (m9.view.loc (c : Thread nD τ) ↦[Sd]{fullShare} f)) ∗ (m5.view.loc (c : Thread nD τ) ↦{q} f5)) -∗
        wp frame (wpE defs Variants.none c none) Set.univ (kk ⟨⟩) Q)
      -∗ wp frame (wpE defs Variants.none c none) Set.univ
        (.op (.enqueueDma ((m5.slice R5 hR5).squeeze s' hq5) (.here ((m9.slice R9 hR9).squeeze s' hq9)) (.dma sm) hsrc hdst hsem) kk) Q) := by
  have h := fun fd => issue (U := U) (defs := defs) c (src := (m5.slice R5 hR5).squeeze s' hq5) (dst := (m9.slice R9 hR9).squeeze s' hq9) (sm := sm) (N := N) (Sd := Sd) (fs := f5) (q := q) (k := kk) (Q := Q) (hsrc := hsrc) (hdst := hdst) (hsem := hsem) (fd := fd) (D := iprop((∃ f, ⌜P f⌝ ∗ (m9.view.loc (c : Thread nD τ) ↦[Sd]{fullShare} f)) ∗ (m5.view.loc (c : Thread nD τ) ↦{q} f5))) hN hN0 hSd
    (by
      iintro ⟨Hd, Hs⟩
      isplitl [Hd]
      · iexists _
        isplitr [Hd]
        · ipureintro
          exact hP fd
        · iexact Hd
      · iexact Hs)
  iintro ⟨Hv, ⟨%fd, Hd⟩, Hs⟩
  iapply (h fd)
  isplitl [Hs]; · iexact Hs
  isplitl [Hd]; · iexact Hd
  iexact Hv

/-- Wait for the transfer in flight on a semaphore. -/
theorem await {sm : DmaSem sig} {b : Ref sig .tc} {hk : (c : Thread nD τ).2 = .tc ∨ b.HasMemref s e}
    {k : PUnit → Prog (TpuEff nD τ sig Val Λ .tc) α} {Q : α → sProp 𝕄} {N : ℕ} {D : sProp 𝕄} (hN : b.dmaCredit s e = N) :
    iprop(Flight (Ix := Unit) (EC (U := U)) (c : Thread nD τ) (.dma sm) () N D ∗ ∃ W, owes (c : Thread nD τ) 0 W)
      ⊢ iprop((iprop(D ∗ semVal ((c : Thread nD τ), SemLoc.dma sm) 0 ∗ ∃ W, owes (c : Thread nD τ) 0 W)
          -∗ wp frame (wpE defs Variants.none c none) Set.univ (k ⟨⟩) Q)
        -∗ wp frame (wpE defs Variants.none c none) Set.univ (.op (.waitDma sm b s e hk) k) Q) := by
  iintro ⟨Hf, ⟨%W, Ho⟩⟩ Hk
  iapply (wp_waitLocalSized (EC (U := U)) Variants.none (c : Thread nD τ) none () hN) $$ [Hf Ho]
  · isplitl [Hf] <;> iassumption
  iintro ⟨HD, Hv, Ho⟩
  iapply Hk
  isplitl [HD]; · iexact HD
  isplitl [Hv]; · iexact Hv
  iexists _; iexact Ho

end

end Cert.Proof
-- ==== Proof.Facts.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! The places the kernel computes for its transfers, in closed form, and the side conditions on them. -/

theorem tok_dvd (c v : BitVec 32) : 128 ∣ (tok c v).toNat ∧ 128 ≤ (tok c v).toNat ∧ (tok c v).toNat ≤ 2048 := by
  unfold tok
  generalize fdiv (Scalar.subi (Scalar.addi (Scalar.subi (Scalar.minsi v 16384#32) (Scalar.muli c 2048#32)) 128#32) 1#32) 128#32 = x
  have e : (Scalar.minsi 2048#32 (Scalar.maxsi 128#32 (Scalar.muli x 128#32))).toInt
      = min 2048 (max 128 (Scalar.muli x 128#32).toInt) := by
    rw [toInt_minsi, toInt_maxsi]; rfl
  have d : (128 : Int) ∣ (Scalar.muli x 128#32).toInt := by
    unfold Scalar.muli IntOp.muli
    rw [BitVec.toInt_mul, show (128#32 : BitVec 32).toInt = 128 from rfl]
    generalize x.toInt = y
    have := Int.bmod_def (y * 128) (2 ^ 32)
    rw [this]; simp only [Nat.reducePow]; split <;> omega
  generalize (Scalar.muli x 128#32).toInt = m at e d
  generalize Scalar.minsi 2048#32 (Scalar.maxsi 128#32 (Scalar.muli x 128#32)) = w at e
  have e2 : w.toNat = (min 2048 (max 128 m)).toNat := toNat_of_toInt (by rw [e]; omega)
  rw [e2]; omega

section
variable (n s b g c : Nat)

theorem inbK9 (hs : s < 12) (hn : n ≤ 2048) : ∀ a, (![1, n, 128] : Fin 3 → Nat) a = 0 ∨ (![s, 0, 0] : Fin 3 → Nat) a + (![1, n, 128] : Fin 3 → Nat) a ≤ S12x2048x128.size a := by
  intro a; right; fin_cases a <;> simp [S12x2048x128] <;> omega
theorem inbV10 (hs : s < 12) (hn : n ≤ 2048) : ∀ a, (![1, 128, n] : Fin 3 → Nat) a = 0 ∨ (![s, 0, 0] : Fin 3 → Nat) a + (![1, 128, n] : Fin 3 → Nat) a ≤ S12x128x2048.size a := by
  intro a; right; fin_cases a <;> simp [S12x128x2048] <;> omega
theorem inbK5 (hb : b < 3) (hg : g < 12) (hc : c < 8) (hn : n ≤ 2048) : ∀ a, (![1, 1, n, 128] : Fin 4 → Nat) a = 0 ∨ (![b, g, 2048 * c, 0] : Fin 4 → Nat) a + (![1, 1, n, 128] : Fin 4 → Nat) a ≤ S3x12x16384x128.size a := by
  intro a; right; fin_cases a <;> simp [S3x12x16384x128] <;> omega
theorem inbV6 (hb : b < 3) (hg : g < 12) (hc : c < 8) (hn : n ≤ 2048) : ∀ a, (![1, 1, 128, n] : Fin 4 → Nat) a = 0 ∨ (![b, g, 0, 2048 * c] : Fin 4 → Nat) a + (![1, 1, 128, n] : Fin 4 → Nat) a ≤ S3x12x128x16384.size a := by
  intro a; right; fin_cases a <;> simp [S3x12x128x16384] <;> omega

theorem sqK9 : (⟨3, ![1, n, 128]⟩ : Shape).Squeezes ⟨2, ![n, 128]⟩ := by
  simp [Shape.Squeezes, Shape.dropsOnes, List.ofFn_succ]
theorem sqV10 : (⟨3, ![1, 128, n]⟩ : Shape).Squeezes ⟨2, ![128, n]⟩ := by
  simp [Shape.Squeezes, Shape.dropsOnes, List.ofFn_succ]
theorem sqK5 : (⟨4, ![1, 1, n, 128]⟩ : Shape).Squeezes ⟨2, ![n, 128]⟩ := by
  simp [Shape.Squeezes, Shape.dropsOnes, List.ofFn_succ]
theorem sqV6 : (⟨4, ![1, 1, 128, n]⟩ : Shape).Squeezes ⟨2, ![128, n]⟩ := by
  simp [Shape.Squeezes, Shape.dropsOnes, List.ofFn_succ]

theorem wwK9 (hn : 128 ∣ n) (h) : (Rect.unitDyn (s := S12x2048x128) ![s, 0, 0] ![1, n, 128] h).WholeWords (EltTy.packing .bf16) := by
  left; right
  have e : (2 : Nat) ∣ n := (by decide : (2 : Nat) ∣ 128).trans hn
  have h2 : 2 ≤ S12x2048x128.rank := by decide
  exact ⟨h2, rfl, Or.inl ⟨(Dvd.intro 0 rfl : (2 : Nat) ∣ 0), e⟩⟩
theorem wwV10 (h) : (Rect.unitDyn (s := S12x128x2048) ![s, 0, 0] ![1, 128, n] h).WholeWords (EltTy.packing .fp8e4m3) := by
  left; right
  exact ⟨by decide, rfl, Or.inl ⟨Dvd.intro 0 rfl, Dvd.intro 32 rfl⟩⟩
theorem wwK5 (hn : 128 ∣ n) (h) : (Rect.unitDyn (s := S3x12x16384x128) ![b, g, 2048 * c, 0] ![1, 1, n, 128] h).WholeWords (EltTy.packing .bf16) := by
  left; right
  have e : (2 : Nat) ∣ n := (by decide : (2 : Nat) ∣ 128).trans hn
  have e' : (2 : Nat) ∣ 2048 * c := by omega
  have h2 : 2 ≤ S3x12x16384x128.rank := by decide
  exact ⟨h2, rfl, Or.inl ⟨e', e⟩⟩
theorem wwV6 (h) : (Rect.unitDyn (s := S3x12x128x16384) ![b, g, 0, 2048 * c] ![1, 1, 128, n] h).WholeWords (EltTy.packing .fp8e4m3) := by
  left; right
  exact ⟨by decide, rfl, Or.inl ⟨Dvd.intro 0 rfl, Dvd.intro 32 rfl⟩⟩
end

/-! ### The places, over the words of a unit, a chunk and a slot -/

theorem fdiv12' (u : Nat) (hu : u ≤ 36) : (fdiv (wd u) 12#32).toNat = u / 12 := by
  rw [fdiv12 ⟨u, by omega⟩, BitVec.toNat_ofNat]; simp only [Nat.reducePow]; omega
theorem fmod12' (u : Nat) (hu : u ≤ 36) : (fmod (wd u) 12#32).toNat = u % 12 := by
  rw [fmod12 ⟨u, by omega⟩, BitVec.toNat_ofNat]; simp only [Nat.reducePow]; omega
theorem mul2048' (c : Nat) (hc : c < 8) : (Scalar.muli (wd c) 2048#32).toNat = 2048 * c := by
  rw [mul2048 ⟨c, by omega⟩, BitVec.toNat_ofNat]; simp only [Nat.reducePow]; omega
theorem wd_toNat (n : Nat) (hn : n < 4294967296) : (wd n).toNat = n := by
  rw [BitVec.toNat_ofNat]; simp only [Nat.reducePow]; omega
theorem iv_wd (t : Nat) : Scf.iv (0#32) (1#32) t = wd t := by
  simp [Scf.iv]

theorem cond1_iff : ∀ u : Fin 37, k0_cond1 (wd u.val) = if u.val < 36 then 1#1 else 0#1 := by decide

theorem off1_eq (u : Nat) (hu : u ≤ 36) : k0_off1 (wd u) = ![u / 12] := by
  rw [← fdiv12' u hu]; rfl
theorem off3_eq (u : Nat) (hu : u ≤ 36) : k0_off3 (wd u) = ![u / 12] := by
  rw [← fdiv12' u hu]; rfl
theorem off7_eq (u : Nat) (hu : u ≤ 36) : k0_off7 (wd u) = ![min u 35 / 12] := by
  rw [← fdiv12' (min u 35) (by omega), show wd (min u 35) = _ from (min35 ⟨u, by omega⟩).symm]; rfl
theorem off2_eq (t : Fin k0_t1_loop.trips) : k0_off2 t = ![t.val, 0, 0] := by revert t; decide
theorem off4_eq (t : Fin k0_t1_loop.trips) : k0_off4 t = ![t.val] := by revert t; decide
theorem off5_eq (t : Fin k0_t1_loop.trips) (c v : BitVec 32) : k0_off5 t c v = (![t.val, 0, 0], ![1, (tok c v).toNat, 128]) := by
  have e : k0_off5 t c v = (![k0_off4 t 0, 0, 0], ![1, (tok c v).toNat, 128]) := rfl
  rw [e, off4_eq]; rfl
theorem sz1_eq (c v : BitVec 32) : k0_sz1 c v = ![(tok c v).toNat, 128] := rfl
theorem sz2_eq (c v : BitVec 32) : k0_sz2 c v = ![(tok c v).toNat, 128] := rfl
theorem off6_eq (u c : Nat) (hu : u ≤ 36) (hc : c < 8) (v : BitVec 32) :
    k0_off6 (wd u) (wd c) v = (![u / 12, u % 12, 2048 * c, 0], ![1, 1, (tok (wd c) v).toNat, 128]) := by
  rw [← fdiv12' u hu, ← fmod12' u hu, ← mul2048' c hc]; rfl

theorem chk1_of (u : Nat) (hu : u ≤ 36) : k0_chk1 (wd u) := by
  unfold k0_chk1
  rw [cond1_iff ⟨u, by omega⟩, off1_eq u hu, off3_eq u hu, off7_eq u hu]
  refine ⟨fun h a => ?_, fun h a => ?_, fun a => ?_⟩ <;> fin_cases a <;> simp [S1, S3] <;> (try simp at h) <;> omega

theorem chk2_of (a c v : BitVec 32) : k0_chk2 a c v := fun _ => (tok_dvd c v).1
theorem chk4_of (a : BitVec 32) (c : Nat) (hc : c < 8) : k0_chk4 a (wd c) := fun _ => by
  rw [show k0_mult3 (wd c) = Scalar.muli (wd c) 2048#32 from rfl, mul2048' c hc]; exact Dvd.intro _ rfl
theorem chk3_of (t : Fin k0_t1_loop.trips) (u c : Nat) (hu : u ≤ 36) (hc : c < 8) (v : BitVec 32) : k0_chk3 t (wd u) (wd c) v := by
  obtain ⟨h1, h2, h3⟩ := tok_dvd (wd c) v
  have ht : t.val < 12 := t.isLt
  unfold k0_chk3
  rw [off5_eq, off6_eq u c hu hc, sz1_eq, sz2_eq, cond1_iff ⟨u, by omega⟩]
  dsimp only
  refine ⟨fun _ => h1, fun _ => inbK9 _ _ ht h3, fun _ => sqK9 _, fun h => ?_, fun _ => sqK5 _, fun _ => wwK5 _ _ _ _ h1, fun _ => wwK9 _ _ h1⟩
  simp at h
  exact inbK5 _ _ _ _ (by omega) (by omega) hc h3

/-! The same of the second stream. -/

theorem cond3_iff : ∀ u : Fin 37, k0_cond3 (wd u.val) = if u.val < 36 then 1#1 else 0#1 := by decide

theorem off8_eq (u : Nat) (hu : u ≤ 36) : k0_off8 (wd u) = ![u / 12] := by
  rw [← fdiv12' u hu]; rfl
theorem off10_eq (u : Nat) (hu : u ≤ 36) : k0_off10 (wd u) = ![u / 12] := by
  rw [← fdiv12' u hu]; rfl
theorem off14_eq (u : Nat) (hu : u ≤ 36) : k0_off14 (wd u) = ![min u 35 / 12] := by
  rw [← fdiv12' (min u 35) (by omega), show wd (min u 35) = _ from (min35 ⟨u, by omega⟩).symm]; rfl
theorem off9_eq (t : Fin k0_t2_loop.trips) : k0_off9 t = ![t.val, 0, 0] := by revert t; decide
theorem off11_eq (t : Fin k0_t2_loop.trips) : k0_off11 t = ![t.val] := by revert t; decide
theorem off12_eq (t : Fin k0_t2_loop.trips) (c v : BitVec 32) : k0_off12 t c v = (![t.val, 0, 0], ![1, 128, (tok c v).toNat]) := by
  have e : k0_off12 t c v = (![k0_off11 t 0, 0, 0], ![1, 128, (tok c v).toNat]) := rfl
  rw [e, off11_eq]; rfl
theorem sz3_eq (c v : BitVec 32) : k0_sz3 c v = ![128, (tok c v).toNat] := rfl
theorem sz4_eq (c v : BitVec 32) : k0_sz4 c v = ![128, (tok c v).toNat] := rfl
theorem off13_eq (u c : Nat) (hu : u ≤ 36) (hc : c < 8) (v : BitVec 32) :
    k0_off13 (wd u) (wd c) v = (![u / 12, u % 12, 0, 2048 * c], ![1, 1, 128, (tok (wd c) v).toNat]) := by
  rw [← fdiv12' u hu, ← fmod12' u hu, ← mul2048' c hc]; rfl

theorem chk5_of (u : Nat) (hu : u ≤ 36) : k0_chk5 (wd u) := by
  unfold k0_chk5
  rw [cond3_iff ⟨u, by omega⟩, off8_eq u hu, off10_eq u hu, off14_eq u hu]
  refine ⟨fun h a => ?_, fun h a => ?_, fun a => ?_⟩ <;> fin_cases a <;> simp [S1, S3] <;> (try simp at h) <;> omega

theorem chk6_of (a c v : BitVec 32) : k0_chk6 a c v := fun _ => (tok_dvd c v).1
theorem chk8_of (a : BitVec 32) (c : Nat) (hc : c < 8) : k0_chk8 a (wd c) := fun _ => by
  rw [show k0_mult6 (wd c) = Scalar.muli (wd c) 2048#32 from rfl, mul2048' c hc]; exact Dvd.intro _ rfl
theorem chk7_of (t : Fin k0_t2_loop.trips) (u c : Nat) (hu : u ≤ 36) (hc : c < 8) (v : BitVec 32) : k0_chk7 t (wd u) (wd c) v := by
  obtain ⟨h1, h2, h3⟩ := tok_dvd (wd c) v
  have ht : t.val < 12 := t.isLt
  unfold k0_chk7
  rw [off12_eq, off13_eq u c hu hc, sz3_eq, sz4_eq, cond3_iff ⟨u, by omega⟩]
  dsimp only
  refine ⟨fun _ => h1, fun _ => inbV10 _ _ ht h3, fun _ => sqV10 _, fun h => ?_, fun _ => sqV6 _, fun _ => wwV6 _ _ _ _, fun _ => wwV10 _ _⟩
  simp at h
  exact inbV6 _ _ _ _ (by omega) (by omega) hc h3

end Cert.Proof.Kernel
-- ==== Proof.RingK.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Facts

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

/-! The two rings: each slot with its semaphore is free, or a chunk is on its way into it. -/

/-- The context's lengths as the kernel reads them. -/
def lw (f0 : Buf (Elt F) (arg0.view.loc (c : Thread nD τ))) (b : ℕ) : BitVec 32 :=
  if h : b < 3 then arg0.view.read (Elt F) f0 (fun a => ⟨b, by rw [show a = 0 from Subsingleton.elim _ _]; exact h⟩) else 0#32

/-- The chunks of a unit. -/
def nc (f0 : Buf (Elt F) (arg0.view.loc (c : Thread nD τ))) (u : ℕ) : ℕ := chunksN (lenN (lw c arg0 f0 (u / 12)))

theorem nc_pos (f0 : Buf (Elt F) (arg0.view.loc (c : Thread nD τ))) (u : ℕ) : 0 < nc c arg0 f0 u := chunksN_pos _
theorem nc_le (f0 : Buf (Elt F) (arg0.view.loc (c : Thread nD τ))) (u : ℕ) : nc c arg0 f0 u ≤ 8 := chunksN_le _

theorem lw_eq (f0 : Buf (Elt F) (arg0.view.loc (c : Thread nD τ))) (off : Fin 1 → ℕ) (inb : ∀ a, off a + S1.size a ≤ S3.size a)
    (x : (Rect.unit (s := S3) off S1.size inb).toLoadRect.shape.Idx) (b : ℕ) (h : off = ![b]) :
    View.readAt (Elt F) arg0.view (Rect.unit (s := S3) off S1.size inb).toLoadRect f0 x = lw c arg0 f0 b := by
  subst h
  have hb : b < 3 := by have := inb 0; simp [S1, S3] at this; omega
  rw [lw, dif_pos hb]
  refine congrArg (arg0.view.read (Elt F) f0) (funext fun a => Fin.ext ?_)
  obtain rfl : a = 0 := Subsingleton.elim _ _
  have hx : (x 0).val < 1 := (x 0).isLt
  show b + 1 * (x 0).val = b
  omega

/-- The tokens the `k`-th chunk reads. -/
def tk (f0 : Buf (Elt F) (arg0.view.loc (c : Thread nD τ))) (k : ℕ) : ℕ :=
  (tok (wd (ch (nc c arg0 f0) k).2) (lw c arg0 f0 ((ch (nc c arg0 f0) k).1 / 12))).toNat

theorem inbSlotK (s : Fin 12) : ∀ a, (![s.val, 0, 0] : Fin 3 → ℕ) a + S1x2048x128.size a ≤ S12x2048x128.size a := by
  intro a; have := s.isLt; fin_cases a <;> simp [S1x2048x128, S12x2048x128]; omega
theorem inbSem (s : Fin 12) : ∀ a, (![s.val] : Fin 1 → ℕ) a + S1.size a ≤ S12.size a := by
  intro a; have := s.isLt; fin_cases a; simp [S1, S12]; omega

/-- The elements of a slot. -/
def slotK (s : Fin 12) : Finset (Idx (arg9.view.loc (c : Thread nD τ))) :=
  arg9.view.setOn (Rect.unit (s := S12x2048x128) ![s.val, 0, 0] S1x2048x128.size (inbSlotK s)).set

/-- A slot's semaphore. -/
def semS (a : DmaSems sig S12) (s : Fin 12) : DmaSem sig :=
  ((a.slice (Rect.unit (s := S12) ![s.val] S1.size (inbSem s))).squeeze S_ squeezes_S1_S_).sem

theorem semS_eq (a : DmaSems sig S12) (s : Fin 12) (off : Fin 1 → ℕ) (inb) (h : off = ![s.val]) :
    ((a.slice (Rect.unit (s := S12) off S1.size inb)).squeeze S_ squeezes_S1_S_).sem = semS a s := by subst h; rfl

theorem squeeze_slice_sub {sp : Space} {sh : Shape} {e : EltTy} (m : Memref sig .tc sp sh e) (R : Rect sh) (hR : ∀ a, R.stride a = 1)
    (s' : Shape) (hq : R.shape.Squeezes s') (R' : Rect sh) (h : R.set ⊆ R'.set) :
    ((m.slice R hR).squeeze s' hq).view.set ⊆ m.view.setOn R'.set := by
  rw [Memref.set_view_squeeze]
  show (m.view.slice R).set ⊆ _
  rw [View.set_slice]
  exact Finset.map_subset_map.mpr h

theorem setOn_congr {sp : Space} {sh : Shape} {e : EltTy} (m : Memref sig .tc sp sh e) {off off' : Fin sh.rank → ℕ} (size : Fin sh.rank → ℕ) (inb inb')
    (h : off = off') : m.view.setOn (Rect.unit (s := sh) off size inb).set = m.view.setOn (Rect.unit (s := sh) off' size inb').set := by subst h; rfl

theorem slotK_of (s : Fin 12) (off : Fin 3 → ℕ) (inb) (h : off = ![s.val, 0, 0]) :
    arg9.view.setOn (Rect.unit (s := S12x2048x128) off S1x2048x128.size inb).set = slotK c arg9 s :=
  setOn_congr arg9 _ _ _ h

section K
variable (f0 : Buf (Elt F) (arg0.view.loc (c : Thread nD τ))) (f5 : Buf (Elt F) (arg5.view.loc (c : Thread nD τ)))
variable (q5 : Fin 12 → PosShare TreeShare)
variable (KP : ℕ → Buf (Elt F) (arg9.view.loc (c : Thread nD τ)) → Prop)

/-- What a transfer of `n` tokens credits. -/
def crK (n : ℕ) : ℕ := arg9.view.ref.dmaCredit ⟨2, ![n, 128]⟩ .bf16

/-- A free slot. -/
def idleK (s : Fin 12) : sProp 𝕄 :=
  iprop(semVal ((c : Thread nD τ), SemLoc.dma (semS arg17 s)) 0 ∗ (∃ f, arg9.view.loc (c : Thread nD τ) ↦[slotK c arg9 s]{fullShare} f)
    ∗ (arg5.view.loc (c : Thread nD τ) ↦{q5 s} f5))

/-- A slot into which chunk `k` is on its way. -/
def flyK (s : Fin 12) (k : ℕ) : sProp 𝕄 :=
  Transfers.Flight (Ix := Unit) (EC (U := UD sig nD τ)) (c : Thread nD τ) (.dma (semS arg17 s)) () (crK arg9 (tk c arg0 f0 k))
    iprop((∃ f, ⌜KP k f⌝ ∗ (arg9.view.loc (c : Thread nD τ) ↦[slotK c arg9 s]{fullShare} f)) ∗ (arg5.view.loc (c : Thread nD τ) ↦{q5 s} f5))

/-- A slot that a chunk of no unit would take stays free. -/
def stSome (s : Fin 12) (k : ℕ) : sProp 𝕄 :=
  if (ch (nc c arg0 f0) k).1 < 36 then flyK c arg0 arg5 arg9 arg17 f0 f5 q5 KP s k else idleK c arg5 arg9 arg17 f5 q5 s

/-- A slot. -/
def stK (s : Fin 12) : Option ℕ → sProp 𝕄
  | none => idleK c arg5 arg9 arg17 f5 q5 s
  | some k => stSome c arg0 arg5 arg9 arg17 f0 f5 q5 KP s k

/-- What a landed chunk is known to be. -/
def LandsK : Prop := ∀ (k : ℕ) (s : Fin 12) (fd : Buf (Elt F) (arg9.view.loc (c : Thread nD τ))) (n b g r : ℕ)
  (h9 : ∀ a, (![1, n, 128] : Fin 3 → ℕ) a = 0 ∨ (![s.val, 0, 0] : Fin 3 → ℕ) a + (![1, n, 128] : Fin 3 → ℕ) a ≤ S12x2048x128.size a)
  (hq9 : (⟨3, ![1, n, 128]⟩ : Shape).Squeezes ⟨2, ![n, 128]⟩)
  (h5 : ∀ a, (![1, 1, n, 128] : Fin 4 → ℕ) a = 0 ∨ (![b, g, r, 0] : Fin 4 → ℕ) a + (![1, 1, n, 128] : Fin 4 → ℕ) a ≤ S3x12x16384x128.size a)
  (hq5 : (⟨4, ![1, 1, n, 128]⟩ : Shape).Squeezes ⟨2, ![n, 128]⟩),
  s.val = k % 12 → (ch (nc c arg0 f0) k).1 < 36 → n = tk c arg0 f0 k → b = (ch (nc c arg0 f0) k).1 / 12 → g = (ch (nc c arg0 f0) k).1 % 12 →
  r = 2048 * (ch (nc c arg0 f0) k).2 →
  KP k (((arg9.slice (Rect.unitDyn (s := S12x2048x128) ![s.val, 0, 0] ![1, n, 128] h9) (fun _ => rfl)).squeeze ⟨2, ![n, 128]⟩ hq9).view.write (Elt F) fd
    (((arg5.slice (Rect.unitDyn (s := S3x12x16384x128) ![b, g, r, 0] ![1, 1, n, 128] h5) (fun _ => rfl)).squeeze ⟨2, ![n, 128]⟩ hq5).view.read (Elt F) f5) Finset.univ)

theorem dst_set (s : Fin 12) (n : ℕ) (hn : n ≤ 2048) (h9 : ∀ a, (![1, n, 128] : Fin 3 → ℕ) a = 0 ∨ (![s.val, 0, 0] : Fin 3 → ℕ) a + (![1, n, 128] : Fin 3 → ℕ) a ≤ S12x2048x128.size a)
    (hq9 : (⟨3, ![1, n, 128]⟩ : Shape).Squeezes ⟨2, ![n, 128]⟩) :
    ((arg9.slice (Rect.unitDyn (s := S12x2048x128) ![s.val, 0, 0] ![1, n, 128] h9) (fun _ => rfl)).squeeze ⟨2, ![n, 128]⟩ hq9).view.set ⊆ slotK c arg9 s := by
  refine squeeze_slice_sub arg9 _ _ _ _ _ ?_
  intro i hi
  rw [Rect.mem_set_unitDyn] at hi
  rw [Rect.mem_set_unit]
  intro a
  have := hi a
  fin_cases a
  · simpa [S1x2048x128] using this
  · simp [S1x2048x128] at this ⊢; omega
  · simpa [S1x2048x128] using this

theorem crK_eq (off : Fin 3 → ℕ) (size : Fin 3 → ℕ) (n : ℕ) (h9) (hq9 : (⟨3, size⟩ : Shape).Squeezes ⟨2, ![n, 128]⟩) :
    ((arg9.slice (Rect.unitDyn (s := S12x2048x128) off size h9) (fun _ => rfl)).squeeze ⟨2, ![n, 128]⟩ hq9).view.dmaCredit = crK arg9 n := rfl

theorem crK_pos (n : ℕ) (hn : 0 < n) : 0 < crK arg9 n :=
  sig.dmaCredit_pos _ _ arg9.view.buf ⟨2, ![n, 128]⟩ .bf16 (Shape.numel_pos fun a => by fin_cases a <;> simp; omega)

/-- Start chunk `k`'s transfer into slot `s`. -/
theorem issueK (hKP : LandsK c arg0 arg5 arg9 f0 f5 KP) (s : Fin 12) (k : ℕ) (hs : s.val = k % 12) (hk : (ch (nc c arg0 f0) k).1 < 36)
    {off9 size9 : Fin 3 → ℕ} {off5 size5 : Fin 4 → ℕ} {sz : Fin 2 → ℕ} {h9 h5} {hq9 : (⟨3, size9⟩ : Shape).Squeezes ⟨2, sz⟩}
    {hq5 : (⟨4, size5⟩ : Shape).Squeezes ⟨2, sz⟩} {sm : DmaSem sig}
    (e1 : off9 = ![s.val, 0, 0]) (e2 : size9 = ![1, tk c arg0 f0 k, 128]) (e3 : sz = ![tk c arg0 f0 k, 128])
    (e4 : off5 = ![(ch (nc c arg0 f0) k).1 / 12, (ch (nc c arg0 f0) k).1 % 12, 2048 * (ch (nc c arg0 f0) k).2, 0])
    (e5 : size5 = ![1, 1, tk c arg0 f0 k, 128]) (e6 : sm = semS arg17 s)
    {α : Type} {Q : α → sProp 𝕄} {kk : PUnit → Prog (TpuEff nD τ sig (Elt F) Λ₀ .tc) α} {hsrc hdst hsem} :
    idleK c arg5 arg9 arg17 f5 q5 s ⊢ iprop((flyK c arg0 arg5 arg9 arg17 f0 f5 q5 KP s k -∗
        wp frame (wpE (defs₀ (F := F)) Variants.none c none) Set.univ (kk ⟨⟩) Q)
      -∗ wp frame (wpE (defs₀ (F := F)) Variants.none c none) Set.univ
        (.op (.enqueueDma ((arg5.slice (Rect.unitDyn (s := S3x12x16384x128) off5 size5 h5) (fun _ => rfl)).squeeze ⟨2, sz⟩ hq5)
          (.here ((arg9.slice (Rect.unitDyn (s := S12x2048x128) off9 size9 h9) (fun _ => rfl)).squeeze ⟨2, sz⟩ hq9)) (.dma sm) hsrc hdst hsem) kk) Q) := by
  subst e1 e2 e3 e4 e5 e6
  have ht : 128 ≤ tk c arg0 f0 k ∧ tk c arg0 f0 k ≤ 2048 :=
    (tok_dvd (wd (ch (nc c arg0 f0) k).2) (lw c arg0 f0 ((ch (nc c arg0 f0) k).1 / 12))).2
  exact issueG c arg9 arg5 _ _ _ _ _ _ _ _ _ f5 (semS arg17 s) (KP k) (crK_eq arg9 _ _ _ _ _) (crK_pos arg9 _ (by omega)) (dst_set c arg9 s _ ht.2 h9 hq9)
    (fun fd => hKP k s fd _ _ _ _ h9 hq9 h5 hq5 hs hk rfl rfl rfl rfl)

theorem fly_stK (s : Fin 12) (k : ℕ) (hk : (ch (nc c arg0 f0) k).1 < 36) :
    flyK c arg0 arg5 arg9 arg17 f0 f5 q5 KP s k ⊢ stK c arg0 arg5 arg9 arg17 f0 f5 q5 KP s (some k) := by
  show _ ⊢ stSome c arg0 arg5 arg9 arg17 f0 f5 q5 KP s k
  unfold stSome; rw [if_pos hk]
theorem stK_fly (s : Fin 12) (k : ℕ) (hk : (ch (nc c arg0 f0) k).1 < 36) :
    stK c arg0 arg5 arg9 arg17 f0 f5 q5 KP s (some k) ⊢ flyK c arg0 arg5 arg9 arg17 f0 f5 q5 KP s k := by
  show stSome c arg0 arg5 arg9 arg17 f0 f5 q5 KP s k ⊢ _
  unfold stSome; rw [if_pos hk]
theorem idle_stK (s : Fin 12) (k : ℕ) (hk : ¬ (ch (nc c arg0 f0) k).1 < 36) :
    idleK c arg5 arg9 arg17 f5 q5 s ⊢ stK c arg0 arg5 arg9 arg17 f0 f5 q5 KP s (some k) := by
  show _ ⊢ stSome c arg0 arg5 arg9 arg17 f0 f5 q5 KP s k
  unfold stSome; rw [if_neg hk]
theorem stK_idle (s : Fin 12) (k : ℕ) (hk : ¬ (ch (nc c arg0 f0) k).1 < 36) :
    stK c arg0 arg5 arg9 arg17 f0 f5 q5 KP s (some k) ⊢ idleK c arg5 arg9 arg17 f5 q5 s := by
  show stSome c arg0 arg5 arg9 arg17 f0 f5 q5 KP s k ⊢ _
  unfold stSome; rw [if_neg hk]

/-- Wait for chunk `k` in slot `s`. -/
theorem awaitK (s : Fin 12) (k : ℕ) {sz : Fin 2 → ℕ} {sm : DmaSem sig} (e1 : sz = ![tk c arg0 f0 k, 128]) (e2 : sm = semS arg17 s)
    {α : Type} {Q : α → sProp 𝕄} {kk : PUnit → Prog (TpuEff nD τ sig (Elt F) Λ₀ .tc) α} {hh} :
    iprop(flyK c arg0 arg5 arg9 arg17 f0 f5 q5 KP s k ∗ ∃ W, owes (c : Thread nD τ) 0 W) ⊢
      iprop((iprop(semVal ((c : Thread nD τ), SemLoc.dma (semS arg17 s)) 0 ∗ (∃ f, ⌜KP k f⌝ ∗ (arg9.view.loc (c : Thread nD τ) ↦[slotK c arg9 s]{fullShare} f))
          ∗ (arg5.view.loc (c : Thread nD τ) ↦{q5 s} f5) ∗ ∃ W, owes (c : Thread nD τ) 0 W) -∗
        wp frame (wpE (defs₀ (F := F)) Variants.none c none) Set.univ (kk ⟨⟩) Q)
      -∗ wp frame (wpE (defs₀ (F := F)) Variants.none c none) Set.univ
        (.op (.waitDma sm arg9.view.ref (⟨2, sz⟩ : Shape) .bf16 hh) kk) Q) := by
  subst e1 e2
  have h := await (U := UD sig nD τ) (defs := defs₀ (F := F)) c (sm := semS arg17 s) (b := arg9.view.ref) (s := (⟨2, ![tk c arg0 f0 k, 128]⟩ : Shape)) (e := .bf16) (hk := hh) (k := kk) (Q := Q)
    (N := crK arg9 (tk c arg0 f0 k)) (D := iprop((∃ f, ⌜KP k f⌝ ∗ (arg9.view.loc (c : Thread nD τ) ↦[slotK c arg9 s]{fullShare} f)) ∗ (arg5.view.loc (c : Thread nD τ) ↦{q5 s} f5))) rfl
  unfold flyK
  iintro H Hk
  iapply h $$ H
  iintro ⟨⟨Hf, Hs⟩, Hv, Ho⟩
  iapply Hk
  isplitl [Hv]; · iexact Hv
  isplitl [Hf]; · iexact Hf
  isplitl [Hs]; · iexact Hs
  iexact Ho

/-- The slot of the prefetch's trip `t` set apart. -/
theorem preK_focus (t : Fin 12) : Ring.AtW (stK c arg0 arg5 arg9 arg17 f0 f5 q5 KP) (pre t.val) ⊢
    iprop(idleK c arg5 arg9 arg17 f5 q5 t ∗ Ring.restW (stK c arg0 arg5 arg9 arg17 f0 f5 q5 KP) (pre t.val) t) := by
  rw [Ring.AtW_focus (stK c arg0 arg5 arg9 arg17 f0 f5 q5 KP) (pre t.val) t]
  have e : pre t.val t = none := by simp [pre]
  rw [e]
  exact BIBase.Entails.rfl
/-- … and put back with its chunk on its way. -/
theorem preK_put (t : Fin 12) : iprop(stK c arg0 arg5 arg9 arg17 f0 f5 q5 KP t (some t.val) ∗ Ring.restW (stK c arg0 arg5 arg9 arg17 f0 f5 q5 KP) (pre t.val) t) ⊢
    Ring.AtW (stK c arg0 arg5 arg9 arg17 f0 f5 q5 KP) (pre (t.val + 1)) := by
  rw [← pre_update t]
  exact Ring.AtW_update (stK c arg0 arg5 arg9 arg17 f0 f5 q5 KP) (pre t.val) t (some t.val)
/-- The slot of chunk `i` set apart. -/
theorem consK_focus (i : ℕ) (s : Fin 12) (h : s.val = i % 12) : Ring.AtW (stK c arg0 arg5 arg9 arg17 f0 f5 q5 KP) (cons i) ⊢
    iprop(stK c arg0 arg5 arg9 arg17 f0 f5 q5 KP s (some i) ∗ Ring.restW (stK c arg0 arg5 arg9 arg17 f0 f5 q5 KP) (cons i) s) := by
  rw [Ring.AtW_focus (stK c arg0 arg5 arg9 arg17 f0 f5 q5 KP) (cons i) s, cons_at i s h]
/-- … and put back with the chunk twelve further on its way. -/
theorem consK_put (i : ℕ) (s : Fin 12) (h : s.val = i % 12) : iprop(stK c arg0 arg5 arg9 arg17 f0 f5 q5 KP s (some (i + 12)) ∗ Ring.restW (stK c arg0 arg5 arg9 arg17 f0 f5 q5 KP) (cons i) s) ⊢
    Ring.AtW (stK c arg0 arg5 arg9 arg17 f0 f5 q5 KP) (cons (i + 1)) := by
  rw [← cons_update i s h]
  exact Ring.AtW_update (stK c arg0 arg5 arg9 arg17 f0 f5 q5 KP) (cons i) s (some (i + 12))

end K

end Cert.Proof.Kernel
-- ==== Proof.RingV.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingK

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

theorem inbSlotV (s : Fin 12) : ∀ a, (![s.val, 0, 0] : Fin 3 → ℕ) a + S1x128x2048.size a ≤ S12x128x2048.size a := by
  intro a; have := s.isLt; fin_cases a <;> simp [S1x128x2048, S12x128x2048]; omega

/-- The elements of a slot. -/
def slotV (s : Fin 12) : Finset (Idx (arg10.view.loc (c : Thread nD τ))) :=
  arg10.view.setOn (Rect.unit (s := S12x128x2048) ![s.val, 0, 0] S1x128x2048.size (inbSlotV s)).set

theorem slotV_of (s : Fin 12) (off : Fin 3 → ℕ) (inb) (h : off = ![s.val, 0, 0]) :
    arg10.view.setOn (Rect.unit (s := S12x128x2048) off S1x128x2048.size inb).set = slotV c arg10 s :=
  setOn_congr arg10 _ _ _ h

section V
variable (f0 : Buf (Elt F) (arg0.view.loc (c : Thread nD τ))) (f6 : Buf (Elt F) (arg6.view.loc (c : Thread nD τ)))
variable (q6 : Fin 12 → PosShare TreeShare)
variable (VP : ℕ → Buf (Elt F) (arg10.view.loc (c : Thread nD τ)) → Prop)

/-- What a transfer of `n` tokens credits. -/
def crV (n : ℕ) : ℕ := arg10.view.ref.dmaCredit ⟨2, ![128, n]⟩ .fp8e4m3

/-- A free slot. -/
def idleV (s : Fin 12) : sProp 𝕄 :=
  iprop(semVal ((c : Thread nD τ), SemLoc.dma (semS arg18 s)) 0 ∗ (∃ f, arg10.view.loc (c : Thread nD τ) ↦[slotV c arg10 s]{fullShare} f)
    ∗ (arg6.view.loc (c : Thread nD τ) ↦{q6 s} f6))

/-- A slot into which chunk `k` is on its way. -/
def flyV (s : Fin 12) (k : ℕ) : sProp 𝕄 :=
  Transfers.Flight (Ix := Unit) (EC (U := UD sig nD τ)) (c : Thread nD τ) (.dma (semS arg18 s)) () (crV arg10 (tk c arg0 f0 k))
    iprop((∃ f, ⌜VP k f⌝ ∗ (arg10.view.loc (c : Thread nD τ) ↦[slotV c arg10 s]{fullShare} f)) ∗ (arg6.view.loc (c : Thread nD τ) ↦{q6 s} f6))

/-- A slot that a chunk of no unit would take stays free. -/
def stSomeV (s : Fin 12) (k : ℕ) : sProp 𝕄 :=
  if (ch (nc c arg0 f0) k).1 < 36 then flyV c arg0 arg6 arg10 arg18 f0 f6 q6 VP s k else idleV c arg6 arg10 arg18 f6 q6 s

/-- A slot. -/
def stV (s : Fin 12) : Option ℕ → sProp 𝕄
  | none => idleV c arg6 arg10 arg18 f6 q6 s
  | some k => stSomeV c arg0 arg6 arg10 arg18 f0 f6 q6 VP s k

/-- What a landed chunk is known to be. -/
def LandsV : Prop := ∀ (k : ℕ) (s : Fin 12) (fd : Buf (Elt F) (arg10.view.loc (c : Thread nD τ))) (n b g r : ℕ)
  (h9 : ∀ a, (![1, 128, n] : Fin 3 → ℕ) a = 0 ∨ (![s.val, 0, 0] : Fin 3 → ℕ) a + (![1, 128, n] : Fin 3 → ℕ) a ≤ S12x128x2048.size a)
  (hq9 : (⟨3, ![1, 128, n]⟩ : Shape).Squeezes ⟨2, ![128, n]⟩)
  (h5 : ∀ a, (![1, 1, 128, n] : Fin 4 → ℕ) a = 0 ∨ (![b, g, 0, r] : Fin 4 → ℕ) a + (![1, 1, 128, n] : Fin 4 → ℕ) a ≤ S3x12x128x16384.size a)
  (hq5 : (⟨4, ![1, 1, 128, n]⟩ : Shape).Squeezes ⟨2, ![128, n]⟩),
  s.val = k % 12 → (ch (nc c arg0 f0) k).1 < 36 → n = tk c arg0 f0 k → b = (ch (nc c arg0 f0) k).1 / 12 → g = (ch (nc c arg0 f0) k).1 % 12 →
  r = 2048 * (ch (nc c arg0 f0) k).2 →
  VP k (((arg10.slice (Rect.unitDyn (s := S12x128x2048) ![s.val, 0, 0] ![1, 128, n] h9) (fun _ => rfl)).squeeze ⟨2, ![128, n]⟩ hq9).view.write (Elt F) fd
    (((arg6.slice (Rect.unitDyn (s := S3x12x128x16384) ![b, g, 0, r] ![1, 1, 128, n] h5) (fun _ => rfl)).squeeze ⟨2, ![128, n]⟩ hq5).view.read (Elt F) f6) Finset.univ)

theorem dst_setV (s : Fin 12) (n : ℕ) (hn : n ≤ 2048) (h9 : ∀ a, (![1, 128, n] : Fin 3 → ℕ) a = 0 ∨ (![s.val, 0, 0] : Fin 3 → ℕ) a + (![1, 128, n] : Fin 3 → ℕ) a ≤ S12x128x2048.size a)
    (hq9 : (⟨3, ![1, 128, n]⟩ : Shape).Squeezes ⟨2, ![128, n]⟩) :
    ((arg10.slice (Rect.unitDyn (s := S12x128x2048) ![s.val, 0, 0] ![1, 128, n] h9) (fun _ => rfl)).squeeze ⟨2, ![128, n]⟩ hq9).view.set ⊆ slotV c arg10 s := by
  refine squeeze_slice_sub arg10 _ _ _ _ _ ?_
  intro i hi
  rw [Rect.mem_set_unitDyn] at hi
  rw [Rect.mem_set_unit]
  intro a
  have := hi a
  fin_cases a
  · simpa [S1x128x2048] using this
  · simpa [S1x128x2048] using this
  · simp [S1x128x2048] at this ⊢; omega

theorem crV_eq (off : Fin 3 → ℕ) (size : Fin 3 → ℕ) (n : ℕ) (h9) (hq9 : (⟨3, size⟩ : Shape).Squeezes ⟨2, ![128, n]⟩) :
    ((arg10.slice (Rect.unitDyn (s := S12x128x2048) off size h9) (fun _ => rfl)).squeeze ⟨2, ![128, n]⟩ hq9).view.dmaCredit = crV arg10 n := rfl

theorem crV_pos (n : ℕ) (hn : 0 < n) : 0 < crV arg10 n :=
  sig.dmaCredit_pos _ _ arg10.view.buf ⟨2, ![128, n]⟩ .fp8e4m3 (Shape.numel_pos fun a => by fin_cases a <;> simp; omega)

/-- Start chunk `k`'s transfer into slot `s`. -/
theorem issueV (hVP : LandsV c arg0 arg6 arg10 f0 f6 VP) (s : Fin 12) (k : ℕ) (hs : s.val = k % 12) (hk : (ch (nc c arg0 f0) k).1 < 36)
    {off9 size10 : Fin 3 → ℕ} {off5 size5 : Fin 4 → ℕ} {sz : Fin 2 → ℕ} {h9 h5} {hq9 : (⟨3, size10⟩ : Shape).Squeezes ⟨2, sz⟩}
    {hq5 : (⟨4, size5⟩ : Shape).Squeezes ⟨2, sz⟩} {sm : DmaSem sig}
    (e1 : off9 = ![s.val, 0, 0]) (e2 : size10 = ![1, 128, tk c arg0 f0 k]) (e3 : sz = ![128, tk c arg0 f0 k])
    (e4 : off5 = ![(ch (nc c arg0 f0) k).1 / 12, (ch (nc c arg0 f0) k).1 % 12, 0, 2048 * (ch (nc c arg0 f0) k).2])
    (e5 : size5 = ![1, 1, 128, tk c arg0 f0 k]) (e6 : sm = semS arg18 s)
    {α : Type} {Q : α → sProp 𝕄} {kk : PUnit → Prog (TpuEff nD τ sig (Elt F) Λ₀ .tc) α} {hsrc hdst hsem} :
    idleV c arg6 arg10 arg18 f6 q6 s ⊢ iprop((flyV c arg0 arg6 arg10 arg18 f0 f6 q6 VP s k -∗
        wp frame (wpE (defs₀ (F := F)) Variants.none c none) Set.univ (kk ⟨⟩) Q)
      -∗ wp frame (wpE (defs₀ (F := F)) Variants.none c none) Set.univ
        (.op (.enqueueDma ((arg6.slice (Rect.unitDyn (s := S3x12x128x16384) off5 size5 h5) (fun _ => rfl)).squeeze ⟨2, sz⟩ hq5)
          (.here ((arg10.slice (Rect.unitDyn (s := S12x128x2048) off9 size10 h9) (fun _ => rfl)).squeeze ⟨2, sz⟩ hq9)) (.dma sm) hsrc hdst hsem) kk) Q) := by
  subst e1 e2 e3 e4 e5 e6
  have ht : 128 ≤ tk c arg0 f0 k ∧ tk c arg0 f0 k ≤ 2048 :=
    (tok_dvd (wd (ch (nc c arg0 f0) k).2) (lw c arg0 f0 ((ch (nc c arg0 f0) k).1 / 12))).2
  exact issueG c arg10 arg6 _ _ _ _ _ _ _ _ _ f6 (semS arg18 s) (VP k) (crV_eq arg10 _ _ _ _ _) (crV_pos arg10 _ (by omega)) (dst_setV c arg10 s _ ht.2 h9 hq9)
    (fun fd => hVP k s fd _ _ _ _ h9 hq9 h5 hq5 hs hk rfl rfl rfl rfl)

theorem fly_stV (s : Fin 12) (k : ℕ) (hk : (ch (nc c arg0 f0) k).1 < 36) :
    flyV c arg0 arg6 arg10 arg18 f0 f6 q6 VP s k ⊢ stV c arg0 arg6 arg10 arg18 f0 f6 q6 VP s (some k) := by
  show _ ⊢ stSomeV c arg0 arg6 arg10 arg18 f0 f6 q6 VP s k
  unfold stSomeV; rw [if_pos hk]
theorem stV_fly (s : Fin 12) (k : ℕ) (hk : (ch (nc c arg0 f0) k).1 < 36) :
    stV c arg0 arg6 arg10 arg18 f0 f6 q6 VP s (some k) ⊢ flyV c arg0 arg6 arg10 arg18 f0 f6 q6 VP s k := by
  show stSomeV c arg0 arg6 arg10 arg18 f0 f6 q6 VP s k ⊢ _
  unfold stSomeV; rw [if_pos hk]
theorem idle_stV (s : Fin 12) (k : ℕ) (hk : ¬ (ch (nc c arg0 f0) k).1 < 36) :
    idleV c arg6 arg10 arg18 f6 q6 s ⊢ stV c arg0 arg6 arg10 arg18 f0 f6 q6 VP s (some k) := by
  show _ ⊢ stSomeV c arg0 arg6 arg10 arg18 f0 f6 q6 VP s k
  unfold stSomeV; rw [if_neg hk]
theorem stV_idle (s : Fin 12) (k : ℕ) (hk : ¬ (ch (nc c arg0 f0) k).1 < 36) :
    stV c arg0 arg6 arg10 arg18 f0 f6 q6 VP s (some k) ⊢ idleV c arg6 arg10 arg18 f6 q6 s := by
  show stSomeV c arg0 arg6 arg10 arg18 f0 f6 q6 VP s k ⊢ _
  unfold stSomeV; rw [if_neg hk]

/-- Wait for chunk `k` in slot `s`. -/
theorem awaitV (s : Fin 12) (k : ℕ) {sz : Fin 2 → ℕ} {sm : DmaSem sig} (e1 : sz = ![128, tk c arg0 f0 k]) (e2 : sm = semS arg18 s)
    {α : Type} {Q : α → sProp 𝕄} {kk : PUnit → Prog (TpuEff nD τ sig (Elt F) Λ₀ .tc) α} {hh} :
    iprop(flyV c arg0 arg6 arg10 arg18 f0 f6 q6 VP s k ∗ ∃ W, owes (c : Thread nD τ) 0 W) ⊢
      iprop((iprop(semVal ((c : Thread nD τ), SemLoc.dma (semS arg18 s)) 0 ∗ (∃ f, ⌜VP k f⌝ ∗ (arg10.view.loc (c : Thread nD τ) ↦[slotV c arg10 s]{fullShare} f))
          ∗ (arg6.view.loc (c : Thread nD τ) ↦{q6 s} f6) ∗ ∃ W, owes (c : Thread nD τ) 0 W) -∗
        wp frame (wpE (defs₀ (F := F)) Variants.none c none) Set.univ (kk ⟨⟩) Q)
      -∗ wp frame (wpE (defs₀ (F := F)) Variants.none c none) Set.univ
        (.op (.waitDma sm arg10.view.ref (⟨2, sz⟩ : Shape) .fp8e4m3 hh) kk) Q) := by
  subst e1 e2
  have h := await (U := UD sig nD τ) (defs := defs₀ (F := F)) c (sm := semS arg18 s) (b := arg10.view.ref) (s := (⟨2, ![128, tk c arg0 f0 k]⟩ : Shape)) (e := .fp8e4m3) (hk := hh) (k := kk) (Q := Q)
    (N := crV arg10 (tk c arg0 f0 k)) (D := iprop((∃ f, ⌜VP k f⌝ ∗ (arg10.view.loc (c : Thread nD τ) ↦[slotV c arg10 s]{fullShare} f)) ∗ (arg6.view.loc (c : Thread nD τ) ↦{q6 s} f6))) rfl
  unfold flyV
  iintro H Hk
  iapply h $$ H
  iintro ⟨⟨Hf, Hs⟩, Hv, Ho⟩
  iapply Hk
  isplitl [Hv]; · iexact Hv
  isplitl [Hf]; · iexact Hf
  isplitl [Hs]; · iexact Hs
  iexact Ho

/-- The slot of the prefetch's trip `t` set apart. -/
theorem preV_focus (t : Fin 12) : Ring.AtW (stV c arg0 arg6 arg10 arg18 f0 f6 q6 VP) (pre t.val) ⊢
    iprop(idleV c arg6 arg10 arg18 f6 q6 t ∗ Ring.restW (stV c arg0 arg6 arg10 arg18 f0 f6 q6 VP) (pre t.val) t) := by
  rw [Ring.AtW_focus (stV c arg0 arg6 arg10 arg18 f0 f6 q6 VP) (pre t.val) t]
  have e : pre t.val t = none := by simp [pre]
  rw [e]
  exact BIBase.Entails.rfl
/-- … and put back with its chunk on its way. -/
theorem preV_put (t : Fin 12) : iprop(stV c arg0 arg6 arg10 arg18 f0 f6 q6 VP t (some t.val) ∗ Ring.restW (stV c arg0 arg6 arg10 arg18 f0 f6 q6 VP) (pre t.val) t) ⊢
    Ring.AtW (stV c arg0 arg6 arg10 arg18 f0 f6 q6 VP) (pre (t.val + 1)) := by
  rw [← pre_update t]
  exact Ring.AtW_update (stV c arg0 arg6 arg10 arg18 f0 f6 q6 VP) (pre t.val) t (some t.val)
/-- The slot of chunk `i` set apart. -/
theorem consV_focus (i : ℕ) (s : Fin 12) (h : s.val = i % 12) : Ring.AtW (stV c arg0 arg6 arg10 arg18 f0 f6 q6 VP) (cons i) ⊢
    iprop(stV c arg0 arg6 arg10 arg18 f0 f6 q6 VP s (some i) ∗ Ring.restW (stV c arg0 arg6 arg10 arg18 f0 f6 q6 VP) (cons i) s) := by
  rw [Ring.AtW_focus (stV c arg0 arg6 arg10 arg18 f0 f6 q6 VP) (cons i) s, cons_at i s h]
/-- … and put back with the chunk twelve further on its way. -/
theorem consV_put (i : ℕ) (s : Fin 12) (h : s.val = i % 12) : iprop(stV c arg0 arg6 arg10 arg18 f0 f6 q6 VP s (some (i + 12)) ∗ Ring.restW (stV c arg0 arg6 arg10 arg18 f0 f6 q6 VP) (cons i) s) ⊢
    Ring.AtW (stV c arg0 arg6 arg10 arg18 f0 f6 q6 VP) (cons (i + 1)) := by
  rw [← cons_update i s h]
  exact Ring.AtW_update (stV c arg0 arg6 arg10 arg18 f0 f6 q6 VP) (cons i) s (some (i + 12))

end V

end Cert.Proof.Kernel
-- ==== Proof.PreK.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingV

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section T1
variable (f0 : Buf (Elt F) (arg0.view.loc (c : Thread nD τ))) (f5 : Buf (Elt F) (arg5.view.loc (c : Thread nD τ)))
variable (q5 : Fin 12 → PosShare TreeShare) (q0 : PosShare TreeShare)
variable (KP : ℕ → Buf (Elt F) (arg9.view.loc (c : Thread nD τ)) → Prop)

set_option maxHeartbeats 4000000 in
theorem t1_run (hKP : LandsK c arg0 arg5 arg9 f0 f5 KP) (t : Fin k0_t1_loop.trips) (u cc : ℕ) (hu : u < 36) (hcc : cc < 8) (h : ch (nc c arg0 f0) t = (u, cc)) :
    iprop((arg0.view.loc (c : Thread nD τ) ↦{q0} f0) ∗ idleK c arg5 arg9 arg17 f5 q5 t)
    ⊢ wp frame (wpE (defs₀ (F := F)) Variants.none c none) Set.univ
      (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t (wd u, wd cc))
      (fun r => iprop((arg0.view.loc (c : Thread nD τ) ↦{q0} f0) ∗ stK c arg0 arg5 arg9 arg17 f0 f5 q5 KP t (some t.val)
        ∗ ⌜r = (wd (ch (nc c arg0 f0) (t + 1)).1, wd (ch (nc c arg0 f0) (t + 1)).2)⌝)) := by
  have hc1 : k0_cond1 (wd u) = 1#1 := by rw [cond1_iff ⟨u, by omega⟩]; simp [hu]
  unfold idleK
  rw [← slotK_of c arg9 t (k0_off2 t) (k0_off2_inb t) (off2_eq t)]
  iintro ⟨H0, Hv, ⟨%f9, H9⟩, H5⟩
  sl_unfold [k0_t1_body]
  sl_exec (disch := first | sl_exact hc1 | sl_exact (chk4_of _ cc hcc) | sl_exact (chk1_of u (by omega)) | sl_exact (chk2_of _ _ _) | sl_exact (chk3_of t u cc (by omega) hcc _))
  have hr : t1_run.sl.r_1 c arg0 f0 u cc hu hc1 = lw c arg0 f0 (u / 12) := lw_eq c arg0 f0 _ _ _ _ (off3_eq u (by omega))
  have htk : (tok (wd cc) (t1_run.sl.r_1 c arg0 f0 u cc hu hc1)).toNat = tk c arg0 f0 t := by rw [hr, tk, h]
  iapply (issueK c arg0 arg5 arg9 arg17 f0 f5 q5 KP hKP t t.val (Nat.mod_eq_of_lt t.isLt).symm (by rw [h]; exact hu)
    (by rw [off5_eq]) (by rw [off5_eq, htk]) (by rw [sz2_eq, htk]) (by rw [off6_eq u cc (by omega) hcc, h]) (by rw [off6_eq u cc (by omega) hcc, htk])
    (semS_eq arg17 t _ _ (off4_eq t))) $$ [Hv H9 H5]
  · unfold idleK
    isplitl [Hv]; · iexact Hv
    isplitr [H5]
    · iexists _
      rw [← slotK_of c arg9 t (k0_off2 t) (k0_off2_inb t) (off2_eq t)]
      iexact H9
    · iexact H5
  iintro Hst
  sl_exec
  sl_step
  have hlt := ch_lt (nc c arg0 f0) (nc_pos c arg0 f0) t
  rw [h] at hlt
  have hw := nxt_words (nc c arg0 f0) u cc (by omega) hlt.1 hlt.2 _ (fun _ => congrArg (fun x => chunksN (lenN x))
    (lw_eq c arg0 f0 (k0_off7 (wd u)) (k0_off7_inb (wd u) (chk1_of u (by omega))) (Shape.Idx.first (by show 0 < S1.numel; decide)) (u / 12) (by rw [off7_eq u (by omega), Nat.min_eq_left (by omega)])))
  rw [← h] at hw
  isplitl [H0]; · iexact H0
  isplitl [Hst]
  · iapply (fly_stK c arg0 arg5 arg9 arg17 f0 f5 q5 KP t t.val (by rw [h]; exact hu)) $$ Hst
  · ipureintro
    exact Prod.ext hw.1 hw.2
theorem t1_loop (hKP : LandsK c arg0 arg5 arg9 f0 f5 KP) {α : Type} {Q : α → sProp 𝕄}
    {kk : BitVec 32 × BitVec 32 → Prog (TpuEff nD τ sig (Elt F) Λ₀ .tc) α} :
    iprop((arg0.view.loc (c : Thread nD τ) ↦{q0} f0) ∗ Ring.AtW (stK c arg0 arg5 arg9 arg17 f0 f5 q5 KP) (pre 0)) ⊢
      iprop((iprop((arg0.view.loc (c : Thread nD τ) ↦{q0} f0) ∗ Ring.AtW (stK c arg0 arg5 arg9 arg17 f0 f5 q5 KP) (cons 0)) -∗
        wp frame (wpE (defs₀ (F := F)) Variants.none c none) Set.univ (kk (wd (ch (nc c arg0 f0) 12).1, wd (ch (nc c arg0 f0) 12).2)) Q)
      -∗ wp frame (wpE (defs₀ (F := F)) Variants.none c none) Set.univ
        (Scf.Loop.for k0_t1_loop k0_t1_ok (0#32, 0#32) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= kk) Q) := by
  iintro ⟨H0, HR⟩ Hk
  sl_for (fun (k : ℕ) (a : BitVec 32 × BitVec 32) => iprop((arg0.view.loc (c : Thread nD τ) ↦{q0} f0) ∗ Ring.AtW (stK c arg0 arg5 arg9 arg17 f0 f5 q5 KP) (pre k) ∗
    ⌜a = (wd (ch (nc c arg0 f0) k).1, wd (ch (nc c arg0 f0) k).2)⌝)) $$ [H0 HR]
  case region =>
    intro k a
    iintro ⟨H0, HR, %ha⟩
    subst ha
    icases (preK_focus c arg0 arg5 arg9 arg17 f0 f5 q5 KP k) $$ HR with ⟨Hi, Hr⟩
    have hk : k.val < 12 := k.isLt
    have h36 : (ch (nc c arg0 f0) k).1 < 36 := by have := ch_le (nc c arg0 f0) k.val; omega
    have h8 : (ch (nc c arg0 f0) k).2 < 8 :=
      Nat.lt_of_lt_of_le ((ch_lt (nc c arg0 f0) (nc_pos c arg0 f0) k).1 h36) (nc_le c arg0 f0 _)
    have h := t1_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 q5 q0 KP hKP k _ _ h36 h8 rfl
    iapply wp_wand $$ [H0 Hi]
    · iapply h
      isplitl [H0]; · iexact H0
      iexact Hi
    iintro %r ⟨H0, Hs, %hr⟩
    isplitl [H0]; · iexact H0
    isplitl [Hs Hr]
    · iapply (preK_put c arg0 arg5 arg9 arg17 f0 f5 q5 KP k)
      isplitl [Hs]; · iexact Hs
      iexact Hr
    · ipureintro; exact hr
  · isplitl [H0]; · iexact H0
    isplitl [HR]; · iexact HR
    ipureintro; rfl
  iintro %a ⟨H0, HR, %ha⟩
  have ht : Scf.trips k0_t1_loop.lb k0_t1_loop.ub k0_t1_loop.st = 12 := by decide
  rw [ht] at ha
  subst ha
  iapply Hk
  isplitl [H0]; · iexact H0
  rw [← pre_all]
  iexact HR
end T1

end Cert.Proof.Kernel
-- ==== Proof.PreV.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingV

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section T2
variable (f0 : Buf (Elt F) (arg0.view.loc (c : Thread nD τ))) (f6 : Buf (Elt F) (arg6.view.loc (c : Thread nD τ)))
variable (q6 : Fin 12 → PosShare TreeShare) (q0 : PosShare TreeShare)
variable (VP : ℕ → Buf (Elt F) (arg10.view.loc (c : Thread nD τ)) → Prop)

set_option maxHeartbeats 4000000 in
theorem t2_run (hVP : LandsV c arg0 arg6 arg10 f0 f6 VP) (t : Fin k0_t2_loop.trips) (u cc : ℕ) (hu : u < 36) (hcc : cc < 8) (h : ch (nc c arg0 f0) t = (u, cc)) :
    iprop((arg0.view.loc (c : Thread nD τ) ↦{q0} f0) ∗ idleV c arg6 arg10 arg18 f6 q6 t)
    ⊢ wp frame (wpE (defs₀ (F := F)) Variants.none c none) Set.univ
      (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t (wd u, wd cc))
      (fun r => iprop((arg0.view.loc (c : Thread nD τ) ↦{q0} f0) ∗ stV c arg0 arg6 arg10 arg18 f0 f6 q6 VP t (some t.val)
        ∗ ⌜r = (wd (ch (nc c arg0 f0) (t + 1)).1, wd (ch (nc c arg0 f0) (t + 1)).2)⌝)) := by
  have hc1 : k0_cond3 (wd u) = 1#1 := by rw [cond3_iff ⟨u, by omega⟩]; simp [hu]
  unfold idleV
  rw [← slotV_of c arg10 t (k0_off9 t) (k0_off9_inb t) (off9_eq t)]
  iintro ⟨H0, Hv, ⟨%f10, H9⟩, H5⟩
  sl_unfold [k0_t2_body]
  sl_exec (disch := first | sl_exact hc1 | sl_exact (chk8_of _ cc hcc) | sl_exact (chk5_of u (by omega)) | sl_exact (chk6_of _ _ _) | sl_exact (chk7_of t u cc (by omega) hcc _))
  have hr : t2_run.sl.r_1 c arg0 f0 u cc hu hc1 = lw c arg0 f0 (u / 12) := lw_eq c arg0 f0 _ _ _ _ (off10_eq u (by omega))
  have htk : (tok (wd cc) (t2_run.sl.r_1 c arg0 f0 u cc hu hc1)).toNat = tk c arg0 f0 t := by rw [hr, tk, h]
  iapply (issueV c arg0 arg6 arg10 arg18 f0 f6 q6 VP hVP t t.val (Nat.mod_eq_of_lt t.isLt).symm (by rw [h]; exact hu)
    (by rw [off12_eq]) (by rw [off12_eq, htk]) (by rw [sz4_eq, htk]) (by rw [off13_eq u cc (by omega) hcc, h]) (by rw [off13_eq u cc (by omega) hcc, htk])
    (semS_eq arg18 t _ _ (off11_eq t))) $$ [Hv H9 H5]
  · unfold idleV
    isplitl [Hv]; · iexact Hv
    isplitr [H5]
    · iexists _
      rw [← slotV_of c arg10 t (k0_off9 t) (k0_off9_inb t) (off9_eq t)]
      iexact H9
    · iexact H5
  iintro Hst
  sl_exec
  sl_step
  have hlt := ch_lt (nc c arg0 f0) (nc_pos c arg0 f0) t
  rw [h] at hlt
  have hw := nxt_words (nc c arg0 f0) u cc (by omega) hlt.1 hlt.2 _ (fun _ => congrArg (fun x => chunksN (lenN x))
    (lw_eq c arg0 f0 (k0_off14 (wd u)) (k0_off14_inb (wd u) (chk5_of u (by omega))) (Shape.Idx.first (by show 0 < S1.numel; decide)) (u / 12) (by rw [off14_eq u (by omega), Nat.min_eq_left (by omega)])))
  rw [← h] at hw
  isplitl [H0]; · iexact H0
  isplitl [Hst]
  · iapply (fly_stV c arg0 arg6 arg10 arg18 f0 f6 q6 VP t t.val (by rw [h]; exact hu)) $$ Hst
  · ipureintro
    exact Prod.ext hw.1 hw.2
theorem t2_loop (hVP : LandsV c arg0 arg6 arg10 f0 f6 VP) {α : Type} {Q : α → sProp 𝕄}
    {kk : BitVec 32 × BitVec 32 → Prog (TpuEff nD τ sig (Elt F) Λ₀ .tc) α} :
    iprop((arg0.view.loc (c : Thread nD τ) ↦{q0} f0) ∗ Ring.AtW (stV c arg0 arg6 arg10 arg18 f0 f6 q6 VP) (pre 0)) ⊢
      iprop((iprop((arg0.view.loc (c : Thread nD τ) ↦{q0} f0) ∗ Ring.AtW (stV c arg0 arg6 arg10 arg18 f0 f6 q6 VP) (cons 0)) -∗
        wp frame (wpE (defs₀ (F := F)) Variants.none c none) Set.univ (kk (wd (ch (nc c arg0 f0) 12).1, wd (ch (nc c arg0 f0) 12).2)) Q)
      -∗ wp frame (wpE (defs₀ (F := F)) Variants.none c none) Set.univ
        (Scf.Loop.for k0_t2_loop k0_t2_ok (0#32, 0#32) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= kk) Q) := by
  iintro ⟨H0, HR⟩ Hk
  sl_for (fun (k : ℕ) (a : BitVec 32 × BitVec 32) => iprop((arg0.view.loc (c : Thread nD τ) ↦{q0} f0) ∗ Ring.AtW (stV c arg0 arg6 arg10 arg18 f0 f6 q6 VP) (pre k) ∗
    ⌜a = (wd (ch (nc c arg0 f0) k).1, wd (ch (nc c arg0 f0) k).2)⌝)) $$ [H0 HR]
  case region =>
    intro k a
    iintro ⟨H0, HR, %ha⟩
    subst ha
    icases (preV_focus c arg0 arg6 arg10 arg18 f0 f6 q6 VP k) $$ HR with ⟨Hi, Hr⟩
    have hk : k.val < 12 := k.isLt
    have h36 : (ch (nc c arg0 f0) k).1 < 36 := by have := ch_le (nc c arg0 f0) k.val; omega
    have h8 : (ch (nc c arg0 f0) k).2 < 8 :=
      Nat.lt_of_lt_of_le ((ch_lt (nc c arg0 f0) (nc_pos c arg0 f0) k).1 h36) (nc_le c arg0 f0 _)
    have h := t2_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f6 q6 q0 VP hVP k _ _ h36 h8 rfl
    iapply wp_wand $$ [H0 Hi]
    · iapply h
      isplitl [H0]; · iexact H0
      iexact Hi
    iintro %r ⟨H0, Hs, %hr⟩
    isplitl [H0]; · iexact H0
    isplitl [Hs Hr]
    · iapply (preV_put c arg0 arg6 arg10 arg18 f0 f6 q6 VP k)
      isplitl [Hs]; · iexact Hs
      iexact Hr
    · ipureintro; exact hr
  · isplitl [H0]; · iexact H0
    isplitl [HR]; · iexact HR
    ipureintro; rfl
  iintro %a ⟨H0, HR, %ha⟩
  have ht : Scf.trips k0_t2_loop.lb k0_t2_loop.ub k0_t2_loop.st = 12 := by decide
  rw [ht] at ha
  subst ha
  iapply Hk
  isplitl [H0]; · iexact H0
  rw [← pre_all]
  iexact HR
end T2

end Cert.Proof.Kernel
-- ==== Proof.Facts2.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Facts

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! ### The first ring's chunk of a trip of loop t4 -/

theorem cond6_iff : ∀ u : Fin 37, k0_cond6 (wd u.val) = if u.val < 36 then 1#1 else 0#1 := by decide
theorem off24_eq : ∀ s : Fin 12, k0_off24 (wd s.val) = ![s.val] := by decide
theorem off40_eq : ∀ s : Fin 12, k0_off40 (wd s.val) = ![s.val] := by decide
theorem off31_eq : ∀ s : Fin 12, k0_off31 (wd s.val) = ![s.val, 0, 0] := by decide
theorem off32_eq : ∀ s : Fin 12, k0_off32 (wd s.val) = ![s.val, 1024, 0] := by decide
theorem off39_eq (u : Nat) (hu : u ≤ 36) : k0_off39 (wd u) = ![u / 12] := by
  rw [← fdiv12' u hu]; rfl
theorem off43_eq (u : Nat) (hu : u ≤ 36) : k0_off43 (wd u) = ![min u 35 / 12] := by
  rw [← fdiv12' (min u 35) (by omega), show wd (min u 35) = _ from (min35 ⟨u, by omega⟩).symm]; rfl
theorem off41_eq (s : Fin 12) (c v : BitVec 32) : k0_off41 (wd s.val) c v = (![s.val, 0, 0], ![1, (tok c v).toNat, 128]) := by
  have e : k0_off41 (wd s.val) c v = (![k0_off40 (wd s.val) 0, 0, 0], ![1, (tok c v).toNat, 128]) := rfl
  rw [e, off40_eq]; rfl
theorem off42_eq (u c : Nat) (hu : u ≤ 36) (hc : c < 8) (v : BitVec 32) :
    k0_off42 (wd u) (wd c) v = (![u / 12, u % 12, 2048 * c, 0], ![1, 1, (tok (wd c) v).toNat, 128]) := by
  rw [← fdiv12' u hu, ← fmod12' u hu, ← mul2048' c hc]; rfl
theorem sz9_eq (c v : BitVec 32) : k0_sz9 c v = ![(tok c v).toNat, 128] := rfl
theorem sz10_eq (c v : BitVec 32) : k0_sz10 c v = ![(tok c v).toNat, 128] := rfl
theorem sz5_eq (t3 : Fin k0_t3_loop.trips) (v39 v64 : BitVec 32) (t : Fin (k0_t4_loop t3 v39 v64).trips) (v : BitVec 32) (c : BitVec 32)
    (h : Scf.iv (k0_t4_loop t3 v39 v64).lb 1#32 t = c) : k0_sz5 t3 v39 v64 t v = ![(tok c v).toNat, 128] := by subst h; rfl
theorem chk10_of (t3 : Fin k0_t3_loop.trips) (v39 v64 : BitVec 32) (t : Fin (k0_t4_loop t3 v39 v64).trips) (a v : BitVec 32) :
    k0_chk10 t3 v39 v64 t a v :=
  ⟨(tok_dvd (Scf.iv (k0_t4_loop t3 v39 v64).lb 1#32 t) v).1, sqK9 _, sqK5 _⟩
theorem chk11_of : ∀ s : Fin 12, k0_chk11 (wd s.val) := by unfold k0_chk11; decide
theorem chk14_of (s : Fin 12) (u : Nat) (hu : u ≤ 36) : k0_chk14 (wd s.val) (wd u) := by
  have hs := s.isLt
  unfold k0_chk14
  rw [cond6_iff ⟨u, by omega⟩, off39_eq u hu, off40_eq s, off43_eq u hu]
  refine ⟨fun h a => ?_, fun h a => ?_, fun a => ?_⟩ <;> fin_cases a <;> simp [S1, S3, S12] <;> (try simp at h) <;> omega
theorem chk16_of (a : BitVec 32) (c : Nat) (hc : c < 8) : k0_chk16 a (wd c) := fun _ => by
  rw [show k0_mult12 (wd c) = Scalar.muli (wd c) 2048#32 from rfl, mul2048' c hc]; exact Dvd.intro _ rfl
theorem chk15_of (s : Fin 12) (u c : Nat) (hu : u ≤ 36) (hc : c < 8) (v : BitVec 32) : k0_chk15 (wd s.val) (wd u) (wd c) v := by
  obtain ⟨h1, h2, h3⟩ := tok_dvd (wd c) v
  have hs := s.isLt
  unfold k0_chk15
  rw [off41_eq, off42_eq u c hu hc, sz9_eq, sz10_eq, cond6_iff ⟨u, by omega⟩]
  dsimp only
  refine ⟨fun _ => h1, fun _ => inbK9 _ _ hs h3, fun _ => sqK9 _, fun h => ?_, fun _ => sqK5 _, fun _ => wwK5 _ _ _ _ h1, fun _ => wwK9 _ _ h1⟩
  simp at h
  exact inbK5 _ _ _ _ (by omega) (by omega) hc h3

/-! ### The first ring's chunk of a trip of loop t6 -/

theorem cond10_iff : ∀ u : Fin 37, k0_cond10 (wd u.val) = if u.val < 36 then 1#1 else 0#1 := by decide
theorem off76_eq : ∀ s : Fin 12, k0_off76 (wd s.val) = ![s.val] := by decide
theorem off86_eq : ∀ s : Fin 12, k0_off86 (wd s.val) = ![s.val] := by decide
theorem off79_eq : ∀ s : Fin 12, k0_off79 (wd s.val) = ![s.val, 0, 0] := by decide
theorem off80_eq : ∀ s : Fin 12, k0_off80 (wd s.val) = ![s.val, 1024, 0] := by decide
theorem off85_eq (u : Nat) (hu : u ≤ 36) : k0_off85 (wd u) = ![u / 12] := by
  rw [← fdiv12' u hu]; rfl
theorem off89_eq (u : Nat) (hu : u ≤ 36) : k0_off89 (wd u) = ![min u 35 / 12] := by
  rw [← fdiv12' (min u 35) (by omega), show wd (min u 35) = _ from (min35 ⟨u, by omega⟩).symm]; rfl
theorem off87_eq (s : Fin 12) (c v : BitVec 32) : k0_off87 (wd s.val) c v = (![s.val, 0, 0], ![1, (tok c v).toNat, 128]) := by
  have e : k0_off87 (wd s.val) c v = (![k0_off86 (wd s.val) 0, 0, 0], ![1, (tok c v).toNat, 128]) := rfl
  rw [e, off86_eq]; rfl
theorem off88_eq (u c : Nat) (hu : u ≤ 36) (hc : c < 8) (v : BitVec 32) :
    k0_off88 (wd u) (wd c) v = (![u / 12, u % 12, 2048 * c, 0], ![1, 1, (tok (wd c) v).toNat, 128]) := by
  rw [← fdiv12' u hu, ← fmod12' u hu, ← mul2048' c hc]; rfl
theorem sz23_eq (c v : BitVec 32) : k0_sz23 c v = ![(tok c v).toNat, 128] := rfl
theorem sz24_eq (c v : BitVec 32) : k0_sz24 c v = ![(tok c v).toNat, 128] := rfl
theorem sz21_eq (t3 : Fin k0_t3_loop.trips) (v39 v64 : BitVec 32) (t : Fin (k0_t6_loop t3 v39 v64).trips) (v : BitVec 32) (c : BitVec 32)
    (h : Scf.iv (k0_t6_loop t3 v39 v64).lb 1#32 t = c) : k0_sz21 t3 v39 v64 t v = ![(tok c v).toNat, 128] := by subst h; rfl
theorem chk30_of (t3 : Fin k0_t3_loop.trips) (v39 v64 : BitVec 32) (t : Fin (k0_t6_loop t3 v39 v64).trips) (a v : BitVec 32) :
    k0_chk30 t3 v39 v64 t a v :=
  ⟨(tok_dvd (Scf.iv (k0_t6_loop t3 v39 v64).lb 1#32 t) v).1, sqK9 _, sqK5 _⟩
theorem chk31_of : ∀ s : Fin 12, k0_chk31 (wd s.val) := by unfold k0_chk31; decide
theorem chk32_of (s : Fin 12) (u : Nat) (hu : u ≤ 36) : k0_chk32 (wd s.val) (wd u) := by
  have hs := s.isLt
  unfold k0_chk32
  rw [cond10_iff ⟨u, by omega⟩, off85_eq u hu, off86_eq s, off89_eq u hu]
  refine ⟨fun h a => ?_, fun h a => ?_, fun a => ?_⟩ <;> fin_cases a <;> simp [S1, S3, S12] <;> (try simp at h) <;> omega
theorem chk34_of (a : BitVec 32) (c : Nat) (hc : c < 8) : k0_chk34 a (wd c) := fun _ => by
  rw [show k0_mult26 (wd c) = Scalar.muli (wd c) 2048#32 from rfl, mul2048' c hc]; exact Dvd.intro _ rfl
theorem chk33_of (s : Fin 12) (u c : Nat) (hu : u ≤ 36) (hc : c < 8) (v : BitVec 32) : k0_chk33 (wd s.val) (wd u) (wd c) v := by
  obtain ⟨h1, h2, h3⟩ := tok_dvd (wd c) v
  have hs := s.isLt
  unfold k0_chk33
  rw [off87_eq, off88_eq u c hu hc, sz23_eq, sz24_eq, cond10_iff ⟨u, by omega⟩]
  dsimp only
  refine ⟨fun _ => h1, fun _ => inbK9 _ _ hs h3, fun _ => sqK9 _, fun h => ?_, fun _ => sqK5 _, fun _ => wwK5 _ _ _ _ h1, fun _ => wwK9 _ _ h1⟩
  simp at h
  exact inbK5 _ _ _ _ (by omega) (by omega) hc h3

/-! ### The second ring's chunk of a trip of loop t4 -/

theorem cond7_iff : ∀ u : Fin 37, k0_cond7 (wd u.val) = if u.val < 36 then 1#1 else 0#1 := by decide
theorem off28_eq : ∀ s : Fin 12, k0_off28 (wd s.val) = ![s.val] := by decide
theorem off45_eq : ∀ s : Fin 12, k0_off45 (wd s.val) = ![s.val] := by decide
theorem off38_eq : ∀ s : Fin 12, k0_off38 (wd s.val) = ![s.val, 0, 0] := by decide
theorem off44_eq (u : Nat) (hu : u ≤ 36) : k0_off44 (wd u) = ![u / 12] := by
  rw [← fdiv12' u hu]; rfl
theorem off48_eq (u : Nat) (hu : u ≤ 36) : k0_off48 (wd u) = ![min u 35 / 12] := by
  rw [← fdiv12' (min u 35) (by omega), show wd (min u 35) = _ from (min35 ⟨u, by omega⟩).symm]; rfl
theorem off46_eq (s : Fin 12) (c v : BitVec 32) : k0_off46 (wd s.val) c v = (![s.val, 0, 0], ![1, 128, (tok c v).toNat]) := by
  have e : k0_off46 (wd s.val) c v = (![k0_off45 (wd s.val) 0, 0, 0], ![1, 128, (tok c v).toNat]) := rfl
  rw [e, off45_eq]; rfl
theorem off47_eq (u c : Nat) (hu : u ≤ 36) (hc : c < 8) (v : BitVec 32) :
    k0_off47 (wd u) (wd c) v = (![u / 12, u % 12, 0, 2048 * c], ![1, 1, 128, (tok (wd c) v).toNat]) := by
  rw [← fdiv12' u hu, ← fmod12' u hu, ← mul2048' c hc]; rfl
theorem sz11_eq (c v : BitVec 32) : k0_sz11 c v = ![128, (tok c v).toNat] := rfl
theorem sz12_eq (c v : BitVec 32) : k0_sz12 c v = ![128, (tok c v).toNat] := rfl
theorem sz7_eq (t3 : Fin k0_t3_loop.trips) (v39 v64 : BitVec 32) (t : Fin (k0_t4_loop t3 v39 v64).trips) (v : BitVec 32) (c : BitVec 32)
    (h : Scf.iv (k0_t4_loop t3 v39 v64).lb 1#32 t = c) : k0_sz7 t3 v39 v64 t v = ![128, (tok c v).toNat] := by subst h; rfl
theorem chk12_of (t3 : Fin k0_t3_loop.trips) (v39 v64 : BitVec 32) (t : Fin (k0_t4_loop t3 v39 v64).trips) (a v : BitVec 32) :
    k0_chk12 t3 v39 v64 t a v :=
  ⟨(tok_dvd (Scf.iv (k0_t4_loop t3 v39 v64).lb 1#32 t) v).1, sqV10 _, sqV6 _⟩
theorem chk13_of : ∀ s : Fin 12, k0_chk13 (wd s.val) := by unfold k0_chk13; decide
theorem chk17_of (s : Fin 12) (u : Nat) (hu : u ≤ 36) : k0_chk17 (wd s.val) (wd u) := by
  have hs := s.isLt
  unfold k0_chk17
  rw [cond7_iff ⟨u, by omega⟩, off44_eq u hu, off45_eq s, off48_eq u hu]
  refine ⟨fun h a => ?_, fun h a => ?_, fun a => ?_⟩ <;> fin_cases a <;> simp [S1, S3, S12] <;> (try simp at h) <;> omega
theorem chk19_of (a : BitVec 32) (c : Nat) (hc : c < 8) : k0_chk19 a (wd c) := fun _ => by
  rw [show k0_mult14 (wd c) = Scalar.muli (wd c) 2048#32 from rfl, mul2048' c hc]; exact Dvd.intro _ rfl
theorem chk18_of (s : Fin 12) (u c : Nat) (hu : u ≤ 36) (hc : c < 8) (v : BitVec 32) : k0_chk18 (wd s.val) (wd u) (wd c) v := by
  obtain ⟨h1, h2, h3⟩ := tok_dvd (wd c) v
  have hs := s.isLt
  unfold k0_chk18
  rw [off46_eq, off47_eq u c hu hc, sz11_eq, sz12_eq, cond7_iff ⟨u, by omega⟩]
  dsimp only
  refine ⟨fun _ => h1, fun _ => inbV10 _ _ hs h3, fun _ => sqV10 _, fun h => ?_, fun _ => sqV6 _, fun _ => wwV6 _ _ _ _, fun _ => wwV10 _ _⟩
  simp at h
  exact inbV6 _ _ _ _ (by omega) (by omega) hc h3

/-! ### The second ring's chunk of a trip of loop t8 -/

theorem cond12_iff : ∀ u : Fin 37, k0_cond12 (wd u.val) = if u.val < 36 then 1#1 else 0#1 := by decide
theorem off106_eq : ∀ s : Fin 12, k0_off106 (wd s.val) = ![s.val] := by decide
theorem off112_eq : ∀ s : Fin 12, k0_off112 (wd s.val) = ![s.val] := by decide
theorem off110_eq : ∀ s : Fin 12, k0_off110 (wd s.val) = ![s.val, 0, 0] := by decide
theorem off111_eq (u : Nat) (hu : u ≤ 36) : k0_off111 (wd u) = ![u / 12] := by
  rw [← fdiv12' u hu]; rfl
theorem off115_eq (u : Nat) (hu : u ≤ 36) : k0_off115 (wd u) = ![min u 35 / 12] := by
  rw [← fdiv12' (min u 35) (by omega), show wd (min u 35) = _ from (min35 ⟨u, by omega⟩).symm]; rfl
theorem off113_eq (s : Fin 12) (c v : BitVec 32) : k0_off113 (wd s.val) c v = (![s.val, 0, 0], ![1, 128, (tok c v).toNat]) := by
  have e : k0_off113 (wd s.val) c v = (![k0_off112 (wd s.val) 0, 0, 0], ![1, 128, (tok c v).toNat]) := rfl
  rw [e, off112_eq]; rfl
theorem off114_eq (u c : Nat) (hu : u ≤ 36) (hc : c < 8) (v : BitVec 32) :
    k0_off114 (wd u) (wd c) v = (![u / 12, u % 12, 0, 2048 * c], ![1, 1, 128, (tok (wd c) v).toNat]) := by
  rw [← fdiv12' u hu, ← fmod12' u hu, ← mul2048' c hc]; rfl
theorem sz31_eq (c v : BitVec 32) : k0_sz31 c v = ![128, (tok c v).toNat] := rfl
theorem sz32_eq (c v : BitVec 32) : k0_sz32 c v = ![128, (tok c v).toNat] := rfl
theorem sz29_eq (t3 : Fin k0_t3_loop.trips) (v39 v64 : BitVec 32) (t : Fin (k0_t8_loop t3 v39 v64).trips) (v : BitVec 32) (c : BitVec 32)
    (h : Scf.iv (k0_t8_loop t3 v39 v64).lb 1#32 t = c) : k0_sz29 t3 v39 v64 t v = ![128, (tok c v).toNat] := by subst h; rfl
theorem chk40_of (t3 : Fin k0_t3_loop.trips) (v39 v64 : BitVec 32) (t : Fin (k0_t8_loop t3 v39 v64).trips) (a v : BitVec 32) :
    k0_chk40 t3 v39 v64 t a v :=
  ⟨(tok_dvd (Scf.iv (k0_t8_loop t3 v39 v64).lb 1#32 t) v).1, sqV10 _, sqV6 _⟩
theorem chk41_of : ∀ s : Fin 12, k0_chk41 (wd s.val) := by unfold k0_chk41; decide
theorem chk42_of (s : Fin 12) (u : Nat) (hu : u ≤ 36) : k0_chk42 (wd s.val) (wd u) := by
  have hs := s.isLt
  unfold k0_chk42
  rw [cond12_iff ⟨u, by omega⟩, off111_eq u hu, off112_eq s, off115_eq u hu]
  refine ⟨fun h a => ?_, fun h a => ?_, fun a => ?_⟩ <;> fin_cases a <;> simp [S1, S3, S12] <;> (try simp at h) <;> omega
theorem chk44_of (a : BitVec 32) (c : Nat) (hc : c < 8) : k0_chk44 a (wd c) := fun _ => by
  rw [show k0_mult34 (wd c) = Scalar.muli (wd c) 2048#32 from rfl, mul2048' c hc]; exact Dvd.intro _ rfl
theorem chk43_of (s : Fin 12) (u c : Nat) (hu : u ≤ 36) (hc : c < 8) (v : BitVec 32) : k0_chk43 (wd s.val) (wd u) (wd c) v := by
  obtain ⟨h1, h2, h3⟩ := tok_dvd (wd c) v
  have hs := s.isLt
  unfold k0_chk43
  rw [off113_eq, off114_eq u c hu hc, sz31_eq, sz32_eq, cond12_iff ⟨u, by omega⟩]
  dsimp only
  refine ⟨fun _ => h1, fun _ => inbV10 _ _ hs h3, fun _ => sqV10 _, fun h => ?_, fun _ => sqV6 _, fun _ => wwV6 _ _ _ _, fun _ => wwV10 _ _⟩
  simp at h
  exact inbV6 _ _ _ _ (by omega) (by omega) hc h3

end Cert.Proof.Kernel
-- ==== Proof.Facts3.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Facts2

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! ### The trips of a step: how many chunks its loops read -/

/-- The chunks step `s` scores (none in the last step), -/
def nK (s : ℕ) (v39 : BitVec 32) : ℕ := if s < 36 then chunksN (lenN v39) else 0
/-- and those it weighs (none in the first). -/
def nV (s : ℕ) (v64 : BitVec 32) : ℕ := if 0 < s then chunksN (lenN v64) else 0

theorem nK_le (s : ℕ) (v : BitVec 32) : nK s v ≤ 8 := by unfold nK; have := chunksN_le v; split_ifs <;> omega
theorem nV_le (s : ℕ) (v : BitVec 32) : nV s v ≤ 8 := by unfold nV; have := chunksN_le v; split_ifs <;> omega

/-- The first count as the kernel computes it, -/
def wK (s : Fin k0_t3_loop.trips) (v39 : BitVec 32) : BitVec 32 := Scalar.select (Scalar.cmpi .slt (Scf.iv 0#32 1#32 s) 36#32) (nch v39) 0#32
/-- and the second. -/
def wV (s : Fin k0_t3_loop.trips) (v64 : BitVec 32) : BitVec 32 := Scalar.select (Scalar.cmpi .sgt (Scf.iv 0#32 1#32 s) 0#32) (nch v64) 0#32

theorem iv_lt : ∀ s : Fin 37, Scalar.cmpi .slt (Scf.iv 0#32 1#32 s) 36#32 = if s.val < 36 then 1#1 else 0#1 := by decide
theorem iv_gt : ∀ s : Fin 37, Scalar.cmpi .sgt (Scf.iv 0#32 1#32 s) 0#32 = if 0 < s.val then 1#1 else 0#1 := by decide

theorem wK_eq (s : Fin k0_t3_loop.trips) (v39 : BitVec 32) : wK s v39 = wd (nK s v39) := by
  unfold wK nK
  rw [iv_lt s, nch_eq]
  split_ifs <;> rfl
theorem wV_eq (s : Fin k0_t3_loop.trips) (v64 : BitVec 32) : wV s v64 = wd (nV s v64) := by
  unfold wV nV
  rw [iv_gt s, nch_eq]
  split_ifs <;> rfl

theorem min_words : ∀ a b : Fin 9, Scalar.minsi (wd a.val) (wd b.val) = wd (min a.val b.val) := by decide
theorem add_words : ∀ a b : Fin 9, Scalar.addi (wd (min a.val b.val)) (Scalar.muli (Scalar.divsi (Scalar.subi (wd a.val) (wd (min a.val b.val))) 1#32) 1#32) = wd a.val := by decide
theorem add_words' : ∀ a b : Fin 9, Scalar.addi (wd (min a.val b.val)) (Scalar.muli (Scalar.divsi (Scalar.subi (wd b.val) (wd (min a.val b.val))) 1#32) 1#32) = wd b.val := by decide
theorem add_words0 : ∀ a b : Fin 9, Scalar.addi 0#32 (Scalar.muli (Scalar.divsi (Scalar.subi (wd (min a.val b.val)) 0#32) 1#32) 1#32) = wd (min a.val b.val) := by decide
theorem add_wordsK : ∀ a b : Fin 9, Scalar.addi (wd (min a.val b.val)) (Scalar.subi (wd a.val) (wd (min a.val b.val))) = wd a.val := by decide
theorem add_wordsV : ∀ a b : Fin 9, Scalar.addi (wd (min a.val b.val)) (Scalar.subi (wd b.val) (wd (min a.val b.val))) = wd b.val := by decide
theorem add_wordsB : ∀ a b : Fin 9, Scalar.addi 0#32 (Scalar.subi (wd (min a.val b.val)) 0#32) = wd (min a.val b.val) := by decide

theorem ok_words : ∀ a b : Fin 9, Scf.OK (wd a.val) (wd b.val) 1#32 := by decide
theorem trips_words : ∀ a b : Fin 9, Scf.trips (wd a.val) (wd b.val) 1#32 = b.val - a.val := by decide
theorem iv_words : ∀ a b : Fin 9, Scf.iv (wd a.val) 1#32 b.val = wd (a.val + b.val) := by decide
theorem dvd_words : ∀ c : Fin 17, 2048 ∣ (Scalar.muli (wd c.val) 2048#32).toNat := by decide
theorem toNat_words : ∀ c : Fin 17, (wd c.val).toNat = c.val := by decide

theorem par35 : ∀ s : Fin 37, (Scalar.indexCast (Scalar.remsi (Scalar.minsi (Scf.iv 0#32 1#32 s) 35#32) 2#32) : Index).toNat = min s.val 35 % 2 := by decide
theorem par1 : ∀ s : Fin 37, (Scalar.indexCast (Scalar.remsi (Scalar.maxsi (Scalar.subi (Scf.iv 0#32 1#32 s) 1#32) 0#32) 2#32) : Index).toNat = (s.val - 1) % 2 := by decide

variable (s : Fin k0_t3_loop.trips) (v39 v64 : BitVec 32)

theorem wm_eq : Scalar.minsi (wK s v39) (wV s v64) = wd (min (nK s v39) (nV s v64)) := by
  rw [wK_eq, wV_eq]
  exact min_words ⟨nK s v39, by have := nK_le s v39; omega⟩ ⟨nV s v64, by have := nV_le s v64; omega⟩

theorem loop4 : k0_t4_loop s v39 v64 = ⟨wd 0, wd (min (nK s v39) (nV s v64)), 1#32⟩ := by
  have h : k0_t4_loop s v39 v64 = ⟨0#32, Scalar.addi 0#32 (Scalar.muli (Scalar.divsi (Scalar.subi (Scalar.minsi (wK s v39) (wV s v64)) 0#32) 1#32) 1#32), 1#32⟩ := rfl
  rw [h, wm_eq, add_words0 ⟨nK s v39, by have := nK_le s v39; omega⟩ ⟨nV s v64, by have := nV_le s v64; omega⟩]
theorem loop5 : k0_t5_loop s v39 v64 = ⟨wd (min (nK s v39) (nV s v64)), wd (min (nK s v39) (nV s v64)), 1#32⟩ := by
  have h : k0_t5_loop s v39 v64 = ⟨Scalar.addi 0#32 (Scalar.muli (Scalar.divsi (Scalar.subi (Scalar.minsi (wK s v39) (wV s v64)) 0#32) 1#32) 1#32), Scalar.addi 0#32 (Scalar.subi (Scalar.minsi (wK s v39) (wV s v64)) 0#32), 1#32⟩ := rfl
  rw [h, wm_eq, add_words0 ⟨nK s v39, by have := nK_le s v39; omega⟩ ⟨nV s v64, by have := nV_le s v64; omega⟩, add_wordsB ⟨nK s v39, by have := nK_le s v39; omega⟩ ⟨nV s v64, by have := nV_le s v64; omega⟩]
theorem loop6 : k0_t6_loop s v39 v64 = ⟨wd (min (nK s v39) (nV s v64)), wd (nK s v39), 1#32⟩ := by
  have h : k0_t6_loop s v39 v64 = ⟨Scalar.minsi (wK s v39) (wV s v64), Scalar.addi (Scalar.minsi (wK s v39) (wV s v64)) (Scalar.muli (Scalar.divsi (Scalar.subi (wK s v39) (Scalar.minsi (wK s v39) (wV s v64))) 1#32) 1#32), 1#32⟩ := rfl
  rw [h, wm_eq, wK_eq, add_words ⟨nK s v39, by have := nK_le s v39; omega⟩ ⟨nV s v64, by have := nV_le s v64; omega⟩]
theorem loop7 : k0_t7_loop s v39 v64 = ⟨wd (nK s v39), wd (nK s v39), 1#32⟩ := by
  have h : k0_t7_loop s v39 v64 = ⟨Scalar.addi (Scalar.minsi (wK s v39) (wV s v64)) (Scalar.muli (Scalar.divsi (Scalar.subi (wK s v39) (Scalar.minsi (wK s v39) (wV s v64))) 1#32) 1#32), Scalar.addi (Scalar.minsi (wK s v39) (wV s v64)) (Scalar.subi (wK s v39) (Scalar.minsi (wK s v39) (wV s v64))), 1#32⟩ := rfl
  rw [h, wm_eq, wK_eq, add_words ⟨nK s v39, by have := nK_le s v39; omega⟩ ⟨nV s v64, by have := nV_le s v64; omega⟩, add_wordsK ⟨nK s v39, by have := nK_le s v39; omega⟩ ⟨nV s v64, by have := nV_le s v64; omega⟩]
theorem loop8 : k0_t8_loop s v39 v64 = ⟨wd (min (nK s v39) (nV s v64)), wd (nV s v64), 1#32⟩ := by
  have h : k0_t8_loop s v39 v64 = ⟨Scalar.minsi (wK s v39) (wV s v64), Scalar.addi (Scalar.minsi (wK s v39) (wV s v64)) (Scalar.muli (Scalar.divsi (Scalar.subi (wV s v64) (Scalar.minsi (wK s v39) (wV s v64))) 1#32) 1#32), 1#32⟩ := rfl
  rw [h, wm_eq, wV_eq, add_words' ⟨nK s v39, by have := nK_le s v39; omega⟩ ⟨nV s v64, by have := nV_le s v64; omega⟩]
theorem loop9 : k0_t9_loop s v39 v64 = ⟨wd (nV s v64), wd (nV s v64), 1#32⟩ := by
  have h : k0_t9_loop s v39 v64 = ⟨Scalar.addi (Scalar.minsi (wK s v39) (wV s v64)) (Scalar.muli (Scalar.divsi (Scalar.subi (wV s v64) (Scalar.minsi (wK s v39) (wV s v64))) 1#32) 1#32), Scalar.addi (Scalar.minsi (wK s v39) (wV s v64)) (Scalar.subi (wV s v64) (Scalar.minsi (wK s v39) (wV s v64))), 1#32⟩ := rfl
  rw [h, wm_eq, wV_eq, add_words' ⟨nK s v39, by have := nK_le s v39; omega⟩ ⟨nV s v64, by have := nV_le s v64; omega⟩, add_wordsV ⟨nK s v39, by have := nK_le s v39; omega⟩ ⟨nV s v64, by have := nV_le s v64; omega⟩]

/-- The bounds of a loop, from its operands. -/
theorem loop_facts {l : Scf.Loop 32} {a b : ℕ} (ha : a ≤ 8) (hb : b ≤ 8) (h : l = ⟨wd a, wd b, 1#32⟩) :
    l.OK ∧ l.trips = b - a ∧ ∀ k : Fin l.trips, Scf.iv l.lb 1#32 k = wd (a + k.val) ∧ a + k.val < b := by
  subst h
  have ht : Scf.trips (wd a) (wd b) 1#32 = b - a := trips_words ⟨a, by omega⟩ ⟨b, by omega⟩
  refine ⟨ok_words ⟨a, by omega⟩ ⟨b, by omega⟩, ht, fun k => ?_⟩
  have hk : k.val < b - a := ht ▸ k.isLt
  exact ⟨iv_words ⟨a, by omega⟩ ⟨k.val, by omega⟩, by omega⟩

theorem mk_le : min (nK s v39) (nV s v64) ≤ 8 := by have := nK_le s v39; omega

theorem facts4 : (k0_t4_loop s v39 v64).OK ∧ (k0_t4_loop s v39 v64).trips = min (nK s v39) (nV s v64) - (0) ∧ ∀ k : Fin (k0_t4_loop s v39 v64).trips, Scf.iv (k0_t4_loop s v39 v64).lb 1#32 k = wd (0 + k.val) ∧ 0 + k.val < min (nK s v39) (nV s v64) := loop_facts (Nat.zero_le 8) (mk_le s v39 v64) (loop4 s v39 v64)
theorem facts5 : (k0_t5_loop s v39 v64).OK ∧ (k0_t5_loop s v39 v64).trips = min (nK s v39) (nV s v64) - (min (nK s v39) (nV s v64)) ∧ ∀ k : Fin (k0_t5_loop s v39 v64).trips, Scf.iv (k0_t5_loop s v39 v64).lb 1#32 k = wd (min (nK s v39) (nV s v64) + k.val) ∧ min (nK s v39) (nV s v64) + k.val < min (nK s v39) (nV s v64) := loop_facts (mk_le s v39 v64) (mk_le s v39 v64) (loop5 s v39 v64)
theorem facts6 : (k0_t6_loop s v39 v64).OK ∧ (k0_t6_loop s v39 v64).trips = nK s v39 - (min (nK s v39) (nV s v64)) ∧ ∀ k : Fin (k0_t6_loop s v39 v64).trips, Scf.iv (k0_t6_loop s v39 v64).lb 1#32 k = wd (min (nK s v39) (nV s v64) + k.val) ∧ min (nK s v39) (nV s v64) + k.val < nK s v39 := loop_facts (mk_le s v39 v64) (nK_le s v39) (loop6 s v39 v64)
theorem facts7 : (k0_t7_loop s v39 v64).OK ∧ (k0_t7_loop s v39 v64).trips = nK s v39 - (nK s v39) ∧ ∀ k : Fin (k0_t7_loop s v39 v64).trips, Scf.iv (k0_t7_loop s v39 v64).lb 1#32 k = wd (nK s v39 + k.val) ∧ nK s v39 + k.val < nK s v39 := loop_facts (nK_le s v39) (nK_le s v39) (loop7 s v39 v64)
theorem facts8 : (k0_t8_loop s v39 v64).OK ∧ (k0_t8_loop s v39 v64).trips = nV s v64 - (min (nK s v39) (nV s v64)) ∧ ∀ k : Fin (k0_t8_loop s v39 v64).trips, Scf.iv (k0_t8_loop s v39 v64).lb 1#32 k = wd (min (nK s v39) (nV s v64) + k.val) ∧ min (nK s v39) (nV s v64) + k.val < nV s v64 := loop_facts (mk_le s v39 v64) (nV_le s v64) (loop8 s v39 v64)
theorem facts9 : (k0_t9_loop s v39 v64).OK ∧ (k0_t9_loop s v39 v64).trips = nV s v64 - (nV s v64) ∧ ∀ k : Fin (k0_t9_loop s v39 v64).trips, Scf.iv (k0_t9_loop s v39 v64).lb 1#32 k = wd (nV s v64 + k.val) ∧ nV s v64 + k.val < nV s v64 := loop_facts (nV_le s v64) (nV_le s v64) (loop9 s v39 v64)

theorem dvd_of {x : BitVec 32} {n : ℕ} (hn : n < 8) (h : x = wd n) : 2048 ∣ (Scalar.muli x 2048#32).toNat := by
  subst h; exact dvd_words ⟨n, by omega⟩
theorem inb11 (p n : ℕ) (hp : p < 2) (hn : n < 8) : ∀ a, (![p, n, 0, 0] : Fin 4 → ℕ) a + S1x1x16x1024.size a ≤ S2x8x16x1024.size a := by
  intro a; fin_cases a <;> simp [S1x1x16x1024, S2x8x16x1024] <;> omega

/-- The row of scores the chunk goes to, -/
theorem offA_eq {x : BitVec 32} {n : ℕ} (hn : n < 8) (h : x = wd n) :
    (![(Scalar.indexCast (Scalar.remsi (Scalar.minsi (Scf.iv 0#32 1#32 s) 35#32) 2#32) : Index).toNat, (Scalar.indexCast x : Index).toNat, 0, 0] : Fin 4 → ℕ) = ![min s.val 35 % 2, n, 0, 0] := by
  subst h
  rw [par35 s, show (Scalar.indexCast (wd n) : Index).toNat = n from toNat_words ⟨n, by omega⟩]
/-- and the one it is read from. -/
theorem offB_eq {x : BitVec 32} {n : ℕ} (hn : n < 8) (h : x = wd n) :
    (![(Scalar.indexCast (Scalar.remsi (Scalar.maxsi (Scalar.subi (Scf.iv 0#32 1#32 s) 1#32) 0#32) 2#32) : Index).toNat, (Scalar.indexCast x : Index).toNat, 0, 0] : Fin 4 → ℕ) = ![(s.val - 1) % 2, n, 0, 0] := by
  subst h
  rw [par1 s, show (Scalar.indexCast (wd n) : Index).toNat = n from toNat_words ⟨n, by omega⟩]

theorem off35_eq (k : Fin (k0_t4_loop s v39 v64).trips) : k0_off35 s v39 v64 k = ![min s.val 35 % 2, 0 + k.val, 0, 0] := by
  have h := (facts4 s v39 v64).2.2 k
  have := mk_le s v39 v64
  exact offA_eq s (by omega) h.1
theorem inb35 (k : Fin (k0_t4_loop s v39 v64).trips) : ∀ a, k0_off35 s v39 v64 k a + S1x1x16x1024.size a ≤ S2x8x16x1024.size a := by
  have h := (facts4 s v39 v64).2.2 k
  have := mk_le s v39 v64
  rw [off35_eq]; exact inb11 _ _ (by omega) (by omega)

theorem off37_eq (k : Fin (k0_t4_loop s v39 v64).trips) : k0_off37 s v39 v64 k = ![(s.val - 1) % 2, 0 + k.val, 0, 0] := by
  have h := (facts4 s v39 v64).2.2 k
  have := mk_le s v39 v64
  exact offB_eq s (by omega) h.1
theorem inb37 (k : Fin (k0_t4_loop s v39 v64).trips) : ∀ a, k0_off37 s v39 v64 k a + S1x1x16x1024.size a ≤ S2x8x16x1024.size a := by
  have h := (facts4 s v39 v64).2.2 k
  have := mk_le s v39 v64
  rw [off37_eq]; exact inb11 _ _ (by omega) (by omega)

theorem off61_eq (k : Fin (k0_t5_loop s v39 v64).trips) : k0_off61 s v39 v64 k = ![min s.val 35 % 2, min (nK s v39) (nV s v64) + k.val, 0, 0] := by
  have h := (facts5 s v39 v64).2.2 k
  have := mk_le s v39 v64
  exact offA_eq s (by omega) h.1
theorem inb61 (k : Fin (k0_t5_loop s v39 v64).trips) : ∀ a, k0_off61 s v39 v64 k a + S1x1x16x1024.size a ≤ S2x8x16x1024.size a := by
  have h := (facts5 s v39 v64).2.2 k
  have := mk_le s v39 v64
  rw [off61_eq]; exact inb11 _ _ (by omega) (by omega)

theorem off63_eq (k : Fin (k0_t5_loop s v39 v64).trips) : k0_off63 s v39 v64 k = ![(s.val - 1) % 2, min (nK s v39) (nV s v64) + k.val, 0, 0] := by
  have h := (facts5 s v39 v64).2.2 k
  have := mk_le s v39 v64
  exact offB_eq s (by omega) h.1
theorem inb63 (k : Fin (k0_t5_loop s v39 v64).trips) : ∀ a, k0_off63 s v39 v64 k a + S1x1x16x1024.size a ≤ S2x8x16x1024.size a := by
  have h := (facts5 s v39 v64).2.2 k
  have := mk_le s v39 v64
  rw [off63_eq]; exact inb11 _ _ (by omega) (by omega)

theorem off83_eq (k : Fin (k0_t6_loop s v39 v64).trips) : k0_off83 s v39 v64 k = ![min s.val 35 % 2, min (nK s v39) (nV s v64) + k.val, 0, 0] := by
  have h := (facts6 s v39 v64).2.2 k
  have := nK_le s v39
  exact offA_eq s (by omega) h.1
theorem inb83 (k : Fin (k0_t6_loop s v39 v64).trips) : ∀ a, k0_off83 s v39 v64 k a + S1x1x16x1024.size a ≤ S2x8x16x1024.size a := by
  have h := (facts6 s v39 v64).2.2 k
  have := nK_le s v39
  rw [off83_eq]; exact inb11 _ _ (by omega) (by omega)

theorem off98_eq (k : Fin (k0_t7_loop s v39 v64).trips) : k0_off98 s v39 v64 k = ![min s.val 35 % 2, nK s v39 + k.val, 0, 0] := by
  have h := (facts7 s v39 v64).2.2 k
  have := nK_le s v39
  exact offA_eq s (by omega) h.1
theorem inb98 (k : Fin (k0_t7_loop s v39 v64).trips) : ∀ a, k0_off98 s v39 v64 k a + S1x1x16x1024.size a ≤ S2x8x16x1024.size a := by
  have h := (facts7 s v39 v64).2.2 k
  have := nK_le s v39
  rw [off98_eq]; exact inb11 _ _ (by omega) (by omega)

theorem off109_eq (k : Fin (k0_t8_loop s v39 v64).trips) : k0_off109 s v39 v64 k = ![(s.val - 1) % 2, min (nK s v39) (nV s v64) + k.val, 0, 0] := by
  have h := (facts8 s v39 v64).2.2 k
  have := nV_le s v64
  exact offB_eq s (by omega) h.1
theorem inb109 (k : Fin (k0_t8_loop s v39 v64).trips) : ∀ a, k0_off109 s v39 v64 k a + S1x1x16x1024.size a ≤ S2x8x16x1024.size a := by
  have h := (facts8 s v39 v64).2.2 k
  have := nV_le s v64
  rw [off109_eq]; exact inb11 _ _ (by omega) (by omega)

theorem off120_eq (k : Fin (k0_t9_loop s v39 v64).trips) : k0_off120 s v39 v64 k = ![(s.val - 1) % 2, nV s v64 + k.val, 0, 0] := by
  have h := (facts9 s v39 v64).2.2 k
  have := nV_le s v64
  exact offB_eq s (by omega) h.1
theorem inb120 (k : Fin (k0_t9_loop s v39 v64).trips) : ∀ a, k0_off120 s v39 v64 k a + S1x1x16x1024.size a ≤ S2x8x16x1024.size a := by
  have h := (facts9 s v39 v64).2.2 k
  have := nV_le s v64
  rw [off120_eq]; exact inb11 _ _ (by omega) (by omega)

theorem mult8_dvd' (k : Fin (k0_t4_loop s v39 v64).trips) : 2048 ∣ (k0_mult8 s v39 v64 k).toNat := by
  have h := (facts4 s v39 v64).2.2 k
  have := mk_le s v39 v64
  exact dvd_of (by omega) h.1

theorem mult10_dvd' (k : Fin (k0_t4_loop s v39 v64).trips) : 2048 ∣ (k0_mult10 s v39 v64 k).toNat := by
  have h := (facts4 s v39 v64).2.2 k
  have := mk_le s v39 v64
  exact dvd_of (by omega) h.1

theorem mult16_dvd' (k : Fin (k0_t5_loop s v39 v64).trips) : 2048 ∣ (k0_mult16 s v39 v64 k).toNat := by
  have h := (facts5 s v39 v64).2.2 k
  have := mk_le s v39 v64
  exact dvd_of (by omega) h.1

theorem mult18_dvd' (k : Fin (k0_t5_loop s v39 v64).trips) : 2048 ∣ (k0_mult18 s v39 v64 k).toNat := by
  have h := (facts5 s v39 v64).2.2 k
  have := mk_le s v39 v64
  exact dvd_of (by omega) h.1

theorem mult24_dvd' (k : Fin (k0_t6_loop s v39 v64).trips) : 2048 ∣ (k0_mult24 s v39 v64 k).toNat := by
  have h := (facts6 s v39 v64).2.2 k
  have := nK_le s v39
  exact dvd_of (by omega) h.1

theorem mult28_dvd' (k : Fin (k0_t7_loop s v39 v64).trips) : 2048 ∣ (k0_mult28 s v39 v64 k).toNat := by
  have h := (facts7 s v39 v64).2.2 k
  have := nK_le s v39
  exact dvd_of (by omega) h.1

theorem mult32_dvd' (k : Fin (k0_t8_loop s v39 v64).trips) : 2048 ∣ (k0_mult32 s v39 v64 k).toNat := by
  have h := (facts8 s v39 v64).2.2 k
  have := nV_le s v64
  exact dvd_of (by omega) h.1

theorem mult36_dvd' (k : Fin (k0_t9_loop s v39 v64).trips) : 2048 ∣ (k0_mult36 s v39 v64 k).toNat := by
  have h := (facts9 s v39 v64).2.2 k
  have := nV_le s v64
  exact dvd_of (by omega) h.1

theorem chk9_of : k0_chk9 s v39 v64 :=
  ⟨(facts4 s v39 v64).1, mult8_dvd' s v39 v64, mult10_dvd' s v39 v64, inb35 s v39 v64, inb37 s v39 v64,
   (facts5 s v39 v64).1, mult16_dvd' s v39 v64, mult18_dvd' s v39 v64, inb61 s v39 v64, inb63 s v39 v64,
   (facts6 s v39 v64).1, mult24_dvd' s v39 v64, inb83 s v39 v64,
   (facts7 s v39 v64).1, mult28_dvd' s v39 v64, inb98 s v39 v64,
   (facts8 s v39 v64).1, mult32_dvd' s v39 v64, inb109 s v39 v64,
   (facts9 s v39 v64).1, mult36_dvd' s v39 v64, inb120 s v39 v64⟩

end Cert.Proof.Kernel
-- ==== Proof.LoadKV.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.PreK
public import proofs.«01_k».proof.Proof.PreV
public import proofs.«01_k».proof.Proof.Facts3

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
theorem ret_bind {E : Type → Type} {α β : Type} (a : α) (k : α → Prog E β) : (Prog.ret a).bind k = k a := rfl

theorem setOn_unit_sub {sp : Space} {sh : Shape} {e : EltTy} (m : Memref sig .tc sp sh e) {off size off' size' : Fin sh.rank → ℕ} {inb inb'}
    (h : ∀ a, off' a ≤ off a ∧ off a + size a ≤ off' a + size' a) :
    m.view.setOn (Rect.unit (s := sh) off size inb).toLoadRect.set ⊆ m.view.setOn (Rect.unit (s := sh) off' size' inb').set :=
  Finset.map_subset_map.mpr fun i hi => Rect.mem_set_unit.mpr fun a => by
    have h1 := Rect.mem_set_unit.mp hi a
    have h2 := h a
    omega

/-- A load of a block of a slot. -/
theorem loadK (s : Fin 12) (f : Buf (Elt F) (arg9.view.loc (c : Thread nD τ))) (q : PosShare TreeShare) {off : Fin 3 → ℕ} {inb} {hl} (x : ℕ) (hx : x + 1024 ≤ 2048) (h : off = ![s.val, x, 0])
    {α : Type} {Q : α → sProp 𝕄} {kk : _ → Prog (TpuEff nD τ sig (Elt F) Λ₀ .tc) α} :
    (arg9.view.loc (c : Thread nD τ) ↦[slotK c arg9 s]{q} f) ⊢
      iprop(((arg9.view.loc (c : Thread nD τ) ↦[slotK c arg9 s]{q} f) -∗
        wp frame (wpE (defs₀ (F := F)) Variants.none c none) Set.univ (kk (arg9.view.readAt (Elt F) (Rect.unit (s := S12x2048x128) off S1x1024x128.size inb).toLoadRect f)) Q)
      -∗ wp frame (wpE (defs₀ (F := F)) Variants.none c none) Set.univ
        (.op (.load arg9 (Rect.unit (s := S12x2048x128) off S1x1024x128.size inb).toLoadRect hl) kk) Q) :=
  wp_load Variants.none (c : Thread nD τ) none Set.univ (setOn_unit_sub arg9 (by subst h; intro a; fin_cases a <;> simp [S1x1024x128, S1x2048x128] <;> omega))

/-- A load of a whole slot of the second ring. -/
theorem loadV (s : Fin 12) (f : Buf (Elt F) (arg10.view.loc (c : Thread nD τ))) (q : PosShare TreeShare) {off : Fin 3 → ℕ} {inb} {hl} (h : off = ![s.val, 0, 0])
    {α : Type} {Q : α → sProp 𝕄} {kk : _ → Prog (TpuEff nD τ sig (Elt F) Λ₀ .tc) α} :
    (arg10.view.loc (c : Thread nD τ) ↦[slotV c arg10 s]{q} f) ⊢
      iprop(((arg10.view.loc (c : Thread nD τ) ↦[slotV c arg10 s]{q} f) -∗
        wp frame (wpE (defs₀ (F := F)) Variants.none c none) Set.univ (kk (arg10.view.readAt (Elt F) (Rect.unit (s := S12x128x2048) off S1x128x2048.size inb).toLoadRect f)) Q)
      -∗ wp frame (wpE (defs₀ (F := F)) Variants.none c none) Set.univ
        (.op (.load arg10 (Rect.unit (s := S12x128x2048) off S1x128x2048.size inb).toLoadRect hl) kk) Q) :=
  wp_load Variants.none (c : Thread nD τ) none Set.univ (setOn_unit_sub arg10 (by subst h; intro a; exact ⟨Nat.le_refl _, Nat.le_refl _⟩))

/-! The offsets that depend on the step alone. -/

theorem off75_eq : ∀ s : Fin k0_t3_loop.trips, k0_off75 s = ![min s.val 35 / 12] := by decide
theorem off82_eq : ∀ s : Fin k0_t3_loop.trips, k0_off82 s = ![min s.val 35 / 12] := by decide
theorem off81_eq : ∀ s : Fin k0_t3_loop.trips, k0_off81 s = ![min s.val 35 % 2, 0, 0] := by decide
theorem off84_eq : ∀ s : Fin k0_t3_loop.trips, k0_off84 s = ![min s.val 35 % 2, 0, 0] := by decide
theorem off105_eq : ∀ s : Fin k0_t3_loop.trips, k0_off105 s = ![(s.val - 1) / 12] := by decide

end Cert.Proof.Kernel
-- ==== Proof.Step.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.LoadKV

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
/-! ### The blocks the trips read and write, and what a trip makes of them -/

/-- The half of a double buffer a unit uses, -/
def par (u : ℕ) : Fin 2 := ⟨u % 2, Nat.mod_lt _ (by decide)⟩
/-- and a chunk's number as an index. -/
def n8 (n : ℕ) : Fin 8 := ⟨n % 8, Nat.mod_lt _ (by decide)⟩
/-- The slot of the `i`-th chunk. -/
def n12 (i : ℕ) : Fin 12 := ⟨i % 12, Nat.mod_lt _ (by decide)⟩

theorem ib9 (r : Fin 12) (x : Fin 2) : ∀ a, (![r.val, 1024 * x.val, 0] : Fin 3 → ℕ) a + S1x1024x128.size a ≤ S12x2048x128.size a := by
  intro a; fin_cases a <;> simp [S1x1024x128, S12x2048x128] <;> omega
theorem ib10 (r : Fin 12) : ∀ a, (![r.val, 0, 0] : Fin 3 → ℕ) a + S1x128x2048.size a ≤ S12x128x2048.size a := by
  intro a; fin_cases a <;> simp [S1x128x2048, S12x128x2048] <;> omega
theorem ib11 (p : Fin 2) (n : Fin 8) : ∀ a, (![p.val, n.val, 0, 0] : Fin 4 → ℕ) a + S1x1x16x1024.size a ≤ S2x8x16x1024.size a := inb11 _ _ p.isLt n.isLt
theorem ib12 (p : Fin 2) : ∀ a, (![p.val, 0, 0] : Fin 3 → ℕ) a + S1x16x128.size a ≤ S2x16x128.size a := by
  intro a; fin_cases a <;> simp [S1x16x128, S2x16x128] <;> omega
theorem ib15 (p : Fin 2) : ∀ a, (![p.val, 0, 0] : Fin 3 → ℕ) a + S1x16x256.size a ≤ S2x16x256.size a := by
  intro a; fin_cases a <;> simp [S1x16x256, S2x16x256] <;> omega

def get9 (f : Buf (Elt F) (arg9.view.loc (c : Thread nD τ))) (r : Fin 12) (x : Fin 2) : Vec F S1x1024x128 .bf16 :=
  arg9.view.readAt (Elt F) (Rect.unit (s := S12x2048x128) ![r.val, 1024 * x.val, 0] S1x1024x128.size (ib9 r x)).toLoadRect f
def get10 (f : Buf (Elt F) (arg10.view.loc (c : Thread nD τ))) (r : Fin 12) : Vec F S1x128x2048 .fp8e4m3 :=
  arg10.view.readAt (Elt F) (Rect.unit (s := S12x128x2048) ![r.val, 0, 0] S1x128x2048.size (ib10 r)).toLoadRect f
def get11 (f : Buf (Elt F) (arg11.view.loc (c : Thread nD τ))) (p : Fin 2) (n : Fin 8) : Vec F S1x1x16x1024 .f32 :=
  arg11.view.readAt (Elt F) (Rect.unit (s := S2x8x16x1024) ![p.val, n.val, 0, 0] S1x1x16x1024.size (ib11 p n)).toLoadRect f
def get12 (f : Buf (Elt F) (arg12.view.loc (c : Thread nD τ))) (p : Fin 2) : Vec F S1x16x128 .f32 :=
  arg12.view.readAt (Elt F) (Rect.unit (s := S2x16x128) ![p.val, 0, 0] S1x16x128.size (ib12 p)).toLoadRect f
def get13 (f : Buf (Elt F) (arg13.view.loc (c : Thread nD τ))) : Vec F S128x8 .f32 :=
  arg13.view.readAt (Elt F) (Rect.unit (s := S128x8) ![0, 0] S128x8.size inb_S128x8_S128x8_0_0).toLoadRect f
def get14 (f : Buf (Elt F) (arg14.view.loc (c : Thread nD τ))) : Vec F S16x128 .f32 :=
  arg14.view.readAt (Elt F) (Rect.unit (s := S16x128) ![0, 0] S16x128.size inb_S16x128_S16x128_0_0).toLoadRect f
def get15 (f : Buf (Elt F) (arg15.view.loc (c : Thread nD τ))) (p : Fin 2) : Vec F S1x16x256 .bf16 :=
  arg15.view.readAt (Elt F) (Rect.unit (s := S2x16x256) ![p.val, 0, 0] S1x16x256.size (ib15 p)).toLoadRect f
def put11 (f : Buf (Elt F) (arg11.view.loc (c : Thread nD τ))) (p : Fin 2) (n : Fin 8) (w : FVec F S1x1x16x1024 .f32) : Buf (Elt F) (arg11.view.loc (c : Thread nD τ)) :=
  arg11.view.writes (Elt F) f [⟨Rect.unit (s := S2x8x16x1024) ![p.val, n.val, 0, 0] S1x1x16x1024.size (ib11 p n), w⟩]
def put12 (f : Buf (Elt F) (arg12.view.loc (c : Thread nD τ))) (p : Fin 2) (w : FVec F S1x16x128 .f32) : Buf (Elt F) (arg12.view.loc (c : Thread nD τ)) :=
  arg12.view.writes (Elt F) f [⟨Rect.unit (s := S2x16x128) ![p.val, 0, 0] S1x16x128.size (ib12 p), w⟩]
def put13 (f : Buf (Elt F) (arg13.view.loc (c : Thread nD τ))) (w : FVec F S128x8 .f32) : Buf (Elt F) (arg13.view.loc (c : Thread nD τ)) :=
  arg13.view.writes (Elt F) f [⟨Rect.unit (s := S128x8) ![0, 0] S128x8.size inb_S128x8_S128x8_0_0, w⟩]
def put14 (f : Buf (Elt F) (arg14.view.loc (c : Thread nD τ))) (w : FVec F S16x128 .f32) : Buf (Elt F) (arg14.view.loc (c : Thread nD τ)) :=
  arg14.view.writes (Elt F) f [⟨Rect.unit (s := S16x128) ![0, 0] S16x128.size inb_S16x128_S16x128_0_0, w⟩]
def put15 (f : Buf (Elt F) (arg15.view.loc (c : Thread nD τ))) (p : Fin 2) (w : FVec F S1x16x256 .bf16) : Buf (Elt F) (arg15.view.loc (c : Thread nD τ)) :=
  arg15.view.writes (Elt F) f [⟨Rect.unit (s := S2x16x256) ![p.val, 0, 0] S1x16x256.size (ib15 p), w⟩]

theorem get9_of (f : Buf (Elt F) (arg9.view.loc (c : Thread nD τ))) (r : Fin 12) (x : Fin 2) {off : Fin 3 → ℕ} {inb} (h : off = ![r.val, 1024 * x.val, 0]) :
    arg9.view.readAt (Elt F) (Rect.unit (s := S12x2048x128) off S1x1024x128.size inb).toLoadRect f = get9 c arg9 f r x := by subst h; rfl
theorem get10_of (f : Buf (Elt F) (arg10.view.loc (c : Thread nD τ))) (r : Fin 12) {off : Fin 3 → ℕ} {inb} (h : off = ![r.val, 0, 0]) :
    arg10.view.readAt (Elt F) (Rect.unit (s := S12x128x2048) off S1x128x2048.size inb).toLoadRect f = get10 c arg10 f r := by subst h; rfl
theorem get11_of (f : Buf (Elt F) (arg11.view.loc (c : Thread nD τ))) (p : Fin 2) (n : ℕ) (hn : n < 8) {off : Fin 4 → ℕ} {inb} (h : off = ![p.val, n, 0, 0]) :
    arg11.view.readAt (Elt F) (Rect.unit (s := S2x8x16x1024) off S1x1x16x1024.size inb).toLoadRect f = get11 c arg11 f p (n8 n) := by
  have e : n = (n8 n).val := (Nat.mod_eq_of_lt hn).symm
  rw [e] at h; subst h; rfl
theorem get12_of (f : Buf (Elt F) (arg12.view.loc (c : Thread nD τ))) (p : Fin 2) {off : Fin 3 → ℕ} {inb} (h : off = ![p.val, 0, 0]) :
    arg12.view.readAt (Elt F) (Rect.unit (s := S2x16x128) off S1x16x128.size inb).toLoadRect f = get12 c arg12 f p := by subst h; rfl
theorem get15_of (f : Buf (Elt F) (arg15.view.loc (c : Thread nD τ))) (p : Fin 2) {off : Fin 3 → ℕ} {inb} (h : off = ![p.val, 0, 0]) :
    arg15.view.readAt (Elt F) (Rect.unit (s := S2x16x256) off S1x16x256.size inb).toLoadRect f = get15 c arg15 f p := by subst h; rfl
theorem put11_of (f : Buf (Elt F) (arg11.view.loc (c : Thread nD τ))) (p : Fin 2) (n : ℕ) (hn : n < 8) (w : FVec F S1x1x16x1024 .f32) {off : Fin 4 → ℕ} {inb} (h : off = ![p.val, n, 0, 0]) :
    arg11.view.writes (Elt F) f [⟨Rect.unit (s := S2x8x16x1024) off S1x1x16x1024.size inb, w⟩] = put11 c arg11 f p (n8 n) w := by
  have e : n = (n8 n).val := (Nat.mod_eq_of_lt hn).symm
  rw [e] at h; subst h; rfl
theorem put12_of (f : Buf (Elt F) (arg12.view.loc (c : Thread nD τ))) (p : Fin 2) (w : FVec F S1x16x128 .f32) {off : Fin 3 → ℕ} {inb} (h : off = ![p.val, 0, 0]) :
    arg12.view.writes (Elt F) f [⟨Rect.unit (s := S2x16x128) off S1x16x128.size inb, w⟩] = put12 c arg12 f p w := by subst h; rfl
theorem put15_of (f : Buf (Elt F) (arg15.view.loc (c : Thread nD τ))) (p : Fin 2) (w : FVec F S1x16x256 .bf16) {off : Fin 3 → ℕ} {inb} (h : off = ![p.val, 0, 0]) :
    arg15.view.writes (Elt F) f [⟨Rect.unit (s := S2x16x256) off S1x16x256.size inb, w⟩] = put15 c arg15 f p w := by subst h; rfl

/-- The scores of a chunk, -/
def sK (f9 : Buf (Elt F) (arg9.view.loc (c : Thread nD τ))) (f15 : Buf (Elt F) (arg15.view.loc (c : Thread nD τ))) (r : Fin 12) (u : ℕ) : FVec F S16x1024 .f32 :=
  k0_pay29 (get9 c arg9 f9 r 0) (get9 c arg9 f9 r 1) (get15 c arg15 f15 (par u))
/-- which of them count, -/
def mK (n : ℕ) (len : BitVec 32) : IVec S16x1024 1 := k0_pay30 (F := F) k0_pay1 (wd n) len
/-- the scores kept with the chunk's added, -/
def kp11 (f9 : Buf (Elt F) (arg9.view.loc (c : Thread nD τ))) (f11 : Buf (Elt F) (arg11.view.loc (c : Thread nD τ))) (f15 : Buf (Elt F) (arg15.view.loc (c : Thread nD τ)))
    (r : Fin 12) (u n : ℕ) (len : BitVec 32) : Buf (Elt F) (arg11.view.loc (c : Thread nD τ)) :=
  put11 c arg11 f11 (par u) (n8 n) (k0_pay32 (sK c arg9 arg15 f9 f15 r u) (mK (F := F) n len))
/-- and the running maxima. -/
def kp12 (f9 : Buf (Elt F) (arg9.view.loc (c : Thread nD τ))) (f12 : Buf (Elt F) (arg12.view.loc (c : Thread nD τ))) (f15 : Buf (Elt F) (arg15.view.loc (c : Thread nD τ)))
    (r : Fin 12) (u n : ℕ) (len : BitVec 32) : Buf (Elt F) (arg12.view.loc (c : Thread nD τ)) :=
  put12 c arg12 f12 (par u) (k0_pay33 (sK c arg9 arg15 f9 f15 r u) (mK (F := F) n len) (get12 c arg12 f12 (par u)))
/-- The weighted sum with a chunk's part added, -/
def kp13 (f10 : Buf (Elt F) (arg10.view.loc (c : Thread nD τ))) (f11 : Buf (Elt F) (arg11.view.loc (c : Thread nD τ))) (f13 : Buf (Elt F) (arg13.view.loc (c : Thread nD τ)))
    (v92 : FVec F S16x1 .f32) (r : Fin 12) (u n : ℕ) : Buf (Elt F) (arg13.view.loc (c : Thread nD τ)) :=
  put13 c arg13 f13 (k0_pay42 (get13 c arg13 f13) (k0_pay41 v92 (get11 c arg11 f11 (par u) (n8 n)) (get10 c arg10 f10 r)))
/-- and the sum of the weights. -/
def kp14 (f11 : Buf (Elt F) (arg11.view.loc (c : Thread nD τ))) (f14 : Buf (Elt F) (arg14.view.loc (c : Thread nD τ)))
    (v92 : FVec F S16x1 .f32) (u n : ℕ) : Buf (Elt F) (arg14.view.loc (c : Thread nD τ)) :=
  put14 c arg14 f14 (k0_pay40 v92 (get11 c arg11 f11 (par u) (n8 n)) (get14 c arg14 f14))

theorem sK_of (f9 : Buf (Elt F) (arg9.view.loc (c : Thread nD τ))) (f15 : Buf (Elt F) (arg15.view.loc (c : Thread nD τ))) (r : Fin 12) (u : ℕ)
    {offa offb offc : Fin 3 → ℕ} {inba inbb inbc} (ha : offa = ![r.val, 0, 0]) (hb : offb = ![r.val, 1024, 0]) (hc : offc = ![u % 2, 0, 0]) :
    k0_pay29 (arg9.view.readAt (Elt F) (Rect.unit (s := S12x2048x128) offa S1x1024x128.size inba).toLoadRect f9)
      (arg9.view.readAt (Elt F) (Rect.unit (s := S12x2048x128) offb S1x1024x128.size inbb).toLoadRect f9)
      (arg15.view.readAt (Elt F) (Rect.unit (s := S2x16x256) offc S1x16x256.size inbc).toLoadRect f15) = sK c arg9 arg15 f9 f15 r u := by
  rw [get9_of c arg9 f9 r 0 ha, get9_of c arg9 f9 r 1 hb, get15_of c arg15 f15 (par u) hc]; rfl
theorem mK_of (f0 : Buf (Elt F) (arg0.view.loc (c : Thread nD τ))) (n b : ℕ) {w : BitVec 32} (hw : w = wd n) {off : Fin 1 → ℕ} {inb} {x : (Rect.unit (s := S3) off S1.size inb).toLoadRect.shape.Idx} (h : off = ![b]) :
    k0_pay30 (F := F) k0_pay1 w (View.readAt (Elt F) arg0.view (Rect.unit (s := S3) off S1.size inb).toLoadRect f0 x) = mK (F := F) n (lw c arg0 f0 b) := by
  rw [lw_eq c arg0 f0 off inb x b h, hw]; rfl

theorem kp11_of (f9 : Buf (Elt F) (arg9.view.loc (c : Thread nD τ))) (f11 : Buf (Elt F) (arg11.view.loc (c : Thread nD τ))) (f15 : Buf (Elt F) (arg15.view.loc (c : Thread nD τ)))
    (r : Fin 12) (u n : ℕ) (len : BitVec 32) (hn : n < 8) {off : Fin 4 → ℕ} {inb} (h : off = ![u % 2, n, 0, 0]) {x : FVec F S16x1024 .f32} {m : IVec S16x1024 1} :
    (arg11.view.loc (c : Thread nD τ) ↦{fullShare} arg11.view.writes (Elt F) f11 [⟨Rect.unit (s := S2x8x16x1024) off S1x1x16x1024.size inb, k0_pay32 x m⟩])
      ⊢@{sProp 𝕄} iprop(⌜x = sK c arg9 arg15 f9 f15 r u ∧ m = mK (F := F) n len⌝ -∗ (arg11.view.loc (c : Thread nD τ) ↦{fullShare} kp11 c arg9 arg11 arg15 f9 f11 f15 r u n len)) := by
  iintro H ⟨%hx, %hm⟩
  subst hx hm
  rw [put11_of c arg11 f11 (par u) n hn _ h]
  iexact H
theorem kp12_of (f9 : Buf (Elt F) (arg9.view.loc (c : Thread nD τ))) (f12 : Buf (Elt F) (arg12.view.loc (c : Thread nD τ))) (f15 : Buf (Elt F) (arg15.view.loc (c : Thread nD τ)))
    (r : Fin 12) (u n : ℕ) (len : BitVec 32) {off off' : Fin 3 → ℕ} {inb inb'} (h : off = ![u % 2, 0, 0]) (h' : off' = ![u % 2, 0, 0]) {x : FVec F S16x1024 .f32} {m : IVec S16x1024 1} :
    (arg12.view.loc (c : Thread nD τ) ↦{fullShare} arg12.view.writes (Elt F) f12 [⟨Rect.unit (s := S2x16x128) off S1x16x128.size inb,
        k0_pay33 x m (arg12.view.readAt (Elt F) (Rect.unit (s := S2x16x128) off' S1x16x128.size inb').toLoadRect f12)⟩])
      ⊢@{sProp 𝕄} iprop(⌜x = sK c arg9 arg15 f9 f15 r u ∧ m = mK (F := F) n len⌝ -∗ (arg12.view.loc (c : Thread nD τ) ↦{fullShare} kp12 c arg9 arg12 arg15 f9 f12 f15 r u n len)) := by
  iintro H ⟨%hx, %hm⟩
  subst hx hm
  rw [get12_of c arg12 f12 (par u) h', put12_of c arg12 f12 (par u) _ h]
  iexact H
theorem kp13_of (f10 : Buf (Elt F) (arg10.view.loc (c : Thread nD τ))) (f11 : Buf (Elt F) (arg11.view.loc (c : Thread nD τ))) (f13 : Buf (Elt F) (arg13.view.loc (c : Thread nD τ)))
    (v92 : FVec F S16x1 .f32) (r : Fin 12) (u n : ℕ) (hn : n < 8) {off : Fin 4 → ℕ} {inb} (h : off = ![u % 2, n, 0, 0]) {off' : Fin 3 → ℕ} {inb'} (h' : off' = ![r.val, 0, 0]) :
    (arg13.view.loc (c : Thread nD τ) ↦{fullShare} arg13.view.writes (Elt F) f13 [⟨Rect.unit (s := S128x8) ![0, 0] S128x8.size inb_S128x8_S128x8_0_0,
        k0_pay42 (arg13.view.readAt (Elt F) (Rect.unit (s := S128x8) ![0, 0] S128x8.size inb_S128x8_S128x8_0_0).toLoadRect f13)
          (k0_pay41 v92 (arg11.view.readAt (Elt F) (Rect.unit (s := S2x8x16x1024) off S1x1x16x1024.size inb).toLoadRect f11)
            (arg10.view.readAt (Elt F) (Rect.unit (s := S12x128x2048) off' S1x128x2048.size inb').toLoadRect f10))⟩])
      ⊢@{sProp 𝕄} (arg13.view.loc (c : Thread nD τ) ↦{fullShare} kp13 c arg10 arg11 arg13 f10 f11 f13 v92 r u n) := by
  rw [get11_of c arg11 f11 (par u) n hn h, get10_of c arg10 f10 r h']
  exact BIBase.Entails.rfl
theorem kp14_of (f11 : Buf (Elt F) (arg11.view.loc (c : Thread nD τ))) (f14 : Buf (Elt F) (arg14.view.loc (c : Thread nD τ)))
    (v92 : FVec F S16x1 .f32) (u n : ℕ) (hn : n < 8) {off : Fin 4 → ℕ} {inb} (h : off = ![u % 2, n, 0, 0]) :
    (arg14.view.loc (c : Thread nD τ) ↦{fullShare} arg14.view.writes (Elt F) f14 [⟨Rect.unit (s := S16x128) ![0, 0] S16x128.size inb_S16x128_S16x128_0_0,
        k0_pay40 v92 (arg11.view.readAt (Elt F) (Rect.unit (s := S2x8x16x1024) off S1x1x16x1024.size inb).toLoadRect f11)
          (arg14.view.readAt (Elt F) (Rect.unit (s := S16x128) ![0, 0] S16x128.size inb_S16x128_S16x128_0_0).toLoadRect f14)⟩])
      ⊢@{sProp 𝕄} (arg14.view.loc (c : Thread nD τ) ↦{fullShare} kp14 c arg11 arg14 f11 f14 v92 u n) := by
  rw [get11_of c arg11 f11 (par u) n hn h]
  exact BIBase.Entails.rfl
theorem iv_nat (a b : ℕ) (h : a + b < 8) : Scf.iv (wd a) 1#32 b = wd (a + b) := iv_words ⟨a, by omega⟩ ⟨b, by omega⟩
/-- Chunks kept for one unit leave those kept for another alone. -/
theorem get11_put11 (f : Buf (Elt F) (arg11.view.loc (c : Thread nD τ))) (p p' : Fin 2) (n n' : Fin 8) (w : FVec F S1x1x16x1024 .f32) (h : p ≠ p') :
    get11 c arg11 (put11 c arg11 f p n w) p' n' = get11 c arg11 f p' n' := by
  unfold get11 put11
  refine View.readAt_writes_of_forall_not_mem _ _ _ _ ?_
  intro x pc hp
  rw [List.mem_singleton] at hp
  subst hp
  intro hm
  have h0 := (Rect.mem_set_unit (s := S2x8x16x1024) (inb := ib11 p n)).mp hm 0
  have hx0 : (x 0).val < 1 := (x 0).isLt
  have e0 : ((Rect.unit (s := S2x8x16x1024) ![p'.val, n'.val, 0, 0] S1x1x16x1024.size (ib11 p' n')).idx x 0).val = p'.val + 1 * (x 0).val := rfl
  have e1 : (![p.val, n.val, 0, 0] : Fin 4 → ℕ) 0 = p.val := rfl
  have e2 : S1x1x16x1024.size 0 = 1 := rfl
  rw [e1] at h0
  have h1 := h0.1
  have h2 := h0.2
  have h3 : p.val ≤ p'.val + 1 * (x 0).val := h1
  have h4 : p'.val + 1 * (x 0).val < p.val + 1 := h2
  exact h (Fin.ext (by omega))
theorem kp11_of4 (f9 : Buf (Elt F) (arg9.view.loc (c : Thread nD τ))) (f11 : Buf (Elt F) (arg11.view.loc (c : Thread nD τ))) (f15 : Buf (Elt F) (arg15.view.loc (c : Thread nD τ)))
    (r : Fin 12) (u n : ℕ) (len : BitVec 32) (hn : n < 8) {off : Fin 4 → ℕ} {inb} (h : off = ![u % 2, n, 0, 0]) {x : FVec F S16x1024 .f32} {v322 v323 : BitVec 32}
    (hx : x = sK c arg9 arg15 f9 f15 r u) (h322 : v322 = Scalar.minsi len 16384#32) (h323 : v323 = Scalar.muli (wd n) 2048#32) :
    arg11.view.writes (Elt F) f11 [⟨Rect.unit (s := S2x8x16x1024) off S1x1x16x1024.size inb, k0_pay15 k0_pay1 x v322 v323⟩] = kp11 c arg9 arg11 arg15 f9 f11 f15 r u n len := by
  subst hx h322 h323
  rw [put11_of c arg11 f11 (par u) n hn _ h]
  rfl
theorem kp12_of4 (f9 : Buf (Elt F) (arg9.view.loc (c : Thread nD τ))) (f12 : Buf (Elt F) (arg12.view.loc (c : Thread nD τ))) (f15 : Buf (Elt F) (arg15.view.loc (c : Thread nD τ)))
    (r : Fin 12) (u n : ℕ) (len : BitVec 32) {off off' : Fin 3 → ℕ} {inb inb'} (h : off = ![u % 2, 0, 0]) (h' : off' = ![u % 2, 0, 0]) {x : FVec F S16x1024 .f32} {v322 v323 : BitVec 32}
    (hx : x = sK c arg9 arg15 f9 f15 r u) (h322 : v322 = Scalar.minsi len 16384#32) (h323 : v323 = Scalar.muli (wd n) 2048#32) :
    arg12.view.writes (Elt F) f12 [⟨Rect.unit (s := S2x16x128) off S1x16x128.size inb,
        k0_pay16 k0_pay1 x v322 v323 (arg12.view.readAt (Elt F) (Rect.unit (s := S2x16x128) off' S1x16x128.size inb').toLoadRect f12)⟩]
      = kp12 c arg9 arg12 arg15 f9 f12 f15 r u n len := by
  subst hx h322 h323
  rw [get12_of c arg12 f12 (par u) h', put12_of c arg12 f12 (par u) _ h]
  rfl
theorem par_ne (u : ℕ) (h : 0 < u) : par u ≠ par (u - 1) := by
  intro e; have := congrArg Fin.val e; simp [par] at this; omega
theorem e17 (f9 : Buf (Elt F) (arg9.view.loc (c : Thread nD τ))) (f11 : Buf (Elt F) (arg11.view.loc (c : Thread nD τ))) (f15 : Buf (Elt F) (arg15.view.loc (c : Thread nD τ)))
    (v92 : FVec F S16x1 .f32) (r : Fin 12) (u n : ℕ) (len : BitVec 32) (hn : n < 8) (hu : 0 < u) {off : Fin 4 → ℕ} {inb} (h : off = ![(u - 1) % 2, n, 0, 0]) :
    arg11.view.readAt (Elt F) (Rect.unit (s := S2x8x16x1024) off S1x1x16x1024.size inb).toLoadRect (kp11 c arg9 arg11 arg15 f9 f11 f15 r u n len)
      = get11 c arg11 f11 (par (u - 1)) (n8 n) := by
  rw [get11_of c arg11 _ (par (u - 1)) n hn h]
  unfold kp11
  exact get11_put11 c arg11 f11 _ _ _ _ _ (par_ne u hu)
theorem kp13_of4 (f10 : Buf (Elt F) (arg10.view.loc (c : Thread nD τ))) (f11 : Buf (Elt F) (arg11.view.loc (c : Thread nD τ))) (f13 : Buf (Elt F) (arg13.view.loc (c : Thread nD τ)))
    (v92 : FVec F S16x1 .f32) (r : Fin 12) (u n : ℕ) {off' : Fin 3 → ℕ} {inb'} (h' : off' = ![r.val, 0, 0]) :
    (arg13.view.loc (c : Thread nD τ) ↦{fullShare} arg13.view.writes (Elt F) f13 [⟨Rect.unit (s := S128x8) ![0, 0] S128x8.size inb_S128x8_S128x8_0_0,
        k0_pay20 (k0_pay17 v92 (get11 c arg11 f11 (par u) (n8 n))) (arg13.view.readAt (Elt F) (Rect.unit (s := S128x8) ![0, 0] S128x8.size inb_S128x8_S128x8_0_0).toLoadRect f13)
            (arg10.view.readAt (Elt F) (Rect.unit (s := S12x128x2048) off' S1x128x2048.size inb').toLoadRect f10)⟩])
      ⊢@{sProp 𝕄} (arg13.view.loc (c : Thread nD τ) ↦{fullShare} kp13 c arg10 arg11 arg13 f10 f11 f13 v92 r u n) := by
  rw [get10_of c arg10 f10 r h']
  exact BIBase.Entails.rfl
theorem kp14_of4 (f11 : Buf (Elt F) (arg11.view.loc (c : Thread nD τ))) (f14 : Buf (Elt F) (arg14.view.loc (c : Thread nD τ)))
    (v92 : FVec F S16x1 .f32) (u n : ℕ) {z : FVec F S16x128 .f32} (hz : z = k0_pay18 v92 (get11 c arg11 f11 (par u) (n8 n))) :
    arg14.view.writes (Elt F) f14 [⟨Rect.unit (s := S16x128) ![0, 0] S16x128.size inb_S16x128_S16x128_0_0,
        k0_pay19 (k0_pay17 v92 (get11 c arg11 f11 (par u) (n8 n))) z
          (arg14.view.readAt (Elt F) (Rect.unit (s := S16x128) ![0, 0] S16x128.size inb_S16x128_S16x128_0_0).toLoadRect f14)⟩]
      = kp14 c arg11 arg14 f11 f14 v92 u n := by
  subst hz; rfl

end Cert.Proof.Kernel
-- ==== Proof.T4.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Step

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
namespace T4
theorem ch13 (f : ℕ → ℕ) (i : ℕ) (p : ℕ × ℕ) (h : ch f (i + 12) = p) : ch f (i + 13) = nxt f p := by rw [← h]; rfl
attribute [local irreducible] ch
variable (f0 : Buf (Elt F) (arg0.view.loc (c : Thread nD τ))) (f5 : Buf (Elt F) (arg5.view.loc (c : Thread nD τ))) (f6 : Buf (Elt F) (arg6.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (f11 : Buf (Elt F) (arg11.view.loc (c : Thread nD τ))) (f12 : Buf (Elt F) (arg12.view.loc (c : Thread nD τ))) (f15 : Buf (Elt F) (arg15.view.loc (c : Thread nD τ)))
  (f13 : Buf (Elt F) (arg13.view.loc (c : Thread nD τ))) (f14 : Buf (Elt F) (arg14.view.loc (c : Thread nD τ)))

set_option maxHeartbeats 2000000 in
set_option pp.maxSteps 1200 in
theorem t4_run (hKP : LandsK c arg0 arg5 arg9 f0 f5 KP) (hVP : LandsV c arg0 arg6 arg10 f0 f6 VP) (s : Fin k0_t3_loop.trips) (v17 v19 v39 v64 : BitVec 32) (v92 : FVec F S16x1 .f32) (hw9 : k0_chk9 s v39 v64)
    (t : Fin (k0_t4_loop s v39 v64).trips) (i u cc : ℕ) (r : Fin 12) (hr : r.val = i % 12) (i' u' cc' : ℕ) (r' : Fin 12) (hr' : r'.val = i' % 12)
    (hi : ch (nc c arg0 f0) i = (s.val, t.val)) (hs : s.val < 36) (hu : u ≤ 36) (hcc : cc < 8) (h : ch (nc c arg0 f0) (i + 12) = (u, cc))
    (hi' : ch (nc c arg0 f0) i' = (s.val - 1, t.val)) (hs' : 0 < s.val) (hu' : u' ≤ 36) (hcc' : cc' < 8) (h' : ch (nc c arg0 f0) (i' + 12) = (u', cc')) :
    iprop((arg0.view.loc (c : Thread nD τ) ↦{q0} f0) ∗ stK c arg0 arg5 arg9 arg17 f0 f5 q5 KP r (some i) ∗ stV c arg0 arg6 arg10 arg18 f0 f6 q6 VP r' (some i')
      ∗ (arg11.view.loc (c : Thread nD τ) ↦{fullShare} f11) ∗ (arg12.view.loc (c : Thread nD τ) ↦{fullShare} f12) ∗ (arg15.view.loc (c : Thread nD τ) ↦{fullShare} f15)
      ∗ (arg13.view.loc (c : Thread nD τ) ↦{fullShare} f13) ∗ (arg14.view.loc (c : Thread nD τ) ↦{fullShare} f14)
      ∗ (∃ W, owes (c : Thread nD τ) 0 W))
    ⊢ wp frame (wpE (defs₀ (F := F)) Variants.none c none) Set.univ
      (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92 t (wd r.val, wd r'.val, wd u, wd cc, wd u', wd cc'))
      (fun x => iprop((arg0.view.loc (c : Thread nD τ) ↦{q0} f0) ∗ stK c arg0 arg5 arg9 arg17 f0 f5 q5 KP r (some (i + 12)) ∗ stV c arg0 arg6 arg10 arg18 f0 f6 q6 VP r' (some (i' + 12))
        ∗ (∃ f9 f10, ⌜KP i f9 ∧ VP i' f10⌝ ∗ (arg11.view.loc (c : Thread nD τ) ↦{fullShare} kp11 c arg9 arg11 arg15 f9 f11 f15 r s t.val (lw c arg0 f0 (s.val / 12)))
          ∗ (arg12.view.loc (c : Thread nD τ) ↦{fullShare} kp12 c arg9 arg12 arg15 f9 f12 f15 r s t.val (lw c arg0 f0 (s.val / 12)))
          ∗ (arg13.view.loc (c : Thread nD τ) ↦{fullShare} kp13 c arg10 arg11 arg13 f10 f11 f13 v92 r' (s.val - 1) t.val)
          ∗ (arg14.view.loc (c : Thread nD τ) ↦{fullShare} kp14 c arg11 arg14 f11 f14 v92 (s.val - 1) t.val))
        ∗ (arg15.view.loc (c : Thread nD τ) ↦{fullShare} f15) ∗ (∃ W, owes (c : Thread nD τ) 0 W)
        ∗ ⌜x = (wd ((i + 1) % 12), wd ((i' + 1) % 12), wd (ch (nc c arg0 f0) (i + 13)).1, wd (ch (nc c arg0 f0) (i + 13)).2, wd (ch (nc c arg0 f0) (i' + 13)).1, wd (ch (nc c arg0 f0) (i' + 13)).2)⌝)) := by
  iintro ⟨H0, Hst, HstV, H11, H12, H15, H13, H14, How⟩
  have hs36 : s.val - 1 < 36 := by have := s.isLt; have e : k0_t3_loop.trips = 37 := (by decide); omega
  ihave Hfl := (stK_fly c arg0 arg5 arg9 arg17 f0 f5 q5 KP r i (by have := congrArg Prod.fst hi; simp only at this; omega)) $$ Hst
  ihave HflV := (stV_fly c arg0 arg6 arg10 arg18 f0 f6 q6 VP r' i' (by have := congrArg Prod.fst hi'; simp only at this; omega)) $$ HstV
  sl_unfold [k0_t4_body]
  sl_exec (disch := first | sl_exact (chk10_of s v39 v64 t _ _) | sl_exact (chk11_of r) | sl_exact (chk14_of r u hu) | sl_exact (chk16_of _ cc hcc) | sl_exact (chk15_of r u cc hu hcc _) | sl_exact (chk12_of s v39 v64 t _ _) | sl_exact (chk13_of r') | sl_exact (chk17_of r' u' hu') | sl_exact (chk19_of _ cc' hcc') | sl_exact (chk18_of r' u' cc' hu' hcc' _))
  have f4 := (facts4 s v39 v64).2.2 t
  have hrl : t4_run.sl.r c arg0 f0 s = lw c arg0 f0 (s.val / 12) := lw_eq c arg0 f0 _ _ _ _ (by rw [show k0_off23 s = k0_off75 s from rfl, off75_eq s, Nat.min_eq_left (by omega)])
  have hiv : Scf.iv (k0_t4_loop s v39 v64).lb 1#32 t = wd (ch (nc c arg0 f0) i).2 := by rw [hi]; exact f4.1.trans (by rw [Nat.zero_add])
  iapply (awaitK c arg0 arg5 arg9 arg17 f0 f5 q5 KP r i (by rw [sz5_eq s v39 v64 t _ _ hiv, tk, hi, hrl])
    (semS_eq arg17 r _ _ (off24_eq r))) $$ [Hfl How]
  · isplitl [Hfl]; · iexact Hfl
    iexact How
  iintro ⟨Hv, ⟨%f9, %hf9, H9⟩, H5, How⟩
  sl_exec (disch := first | sl_exact (chk12_of s v39 v64 t _ _))
  have f4' := f4.2
  have hrl' : t4_run.sl.r_1 c arg0 f0 s = lw c arg0 f0 ((s.val - 1) / 12) := lw_eq c arg0 f0 _ _ _ _ (by rw [show k0_off27 s = k0_off105 s from rfl, off105_eq s])
  have hiv' : Scf.iv (k0_t4_loop s v39 v64).lb 1#32 t = wd (ch (nc c arg0 f0) i').2 := by rw [hi']; exact f4.1.trans (by rw [Nat.zero_add])
  iapply (awaitV c arg0 arg6 arg10 arg18 f0 f6 q6 VP r' i' (by rw [sz7_eq s v39 v64 t _ _ hiv', tk, hi', hrl'])
    (semS_eq arg18 r' _ _ (off28_eq r'))) $$ [HflV How]
  · isplitl [HflV]; · iexact HflV
    iexact How
  iintro ⟨HvV, ⟨%f10, %hf10, H10⟩, H6, How⟩
  sl_exec
  iapply (loadK c arg9 r f9 _ 0 (by omega) (off31_eq r)) $$ H9
  iintro H9
  iapply (loadK c arg9 r f9 _ 1024 (by omega) (off32_eq r)) $$ H9
  iintro H9
  rw [ret_bind]
  sl_exec
  have hn8 : t.val < 8 := by have := nV_le s v64; omega
  have hm35 : min s.val 35 = s.val := Nat.min_eq_left (by omega)
  have hx : t4_run.sl.r_3 c arg9 arg15 f15 s r f9 = sK c arg9 arg15 f9 f15 r s :=
    sK_of c arg9 arg15 f9 f15 r s (inba := k0_off31_inb (wd r.val) (chk11_of r)) (inbb := k0_off32_inb (wd r.val) (chk11_of r)) (inbc := k0_off33_inb s) (off31_eq r) (off32_eq r) (by rw [show k0_off33 s = k0_off81 s from rfl, off81_eq s, hm35])
  have h322 : t4_run.sl.v322 c arg0 f0 s = Scalar.minsi (lw c arg0 f0 (s.val / 12)) 16384#32 :=
    congrArg (fun z => Scalar.minsi z 16384#32) (lw_eq c arg0 f0 (k0_off34 s) (k0_off34_inb s) _ _ (by rw [show k0_off34 s = k0_off82 s from rfl, off82_eq s, hm35]))
  have h323 : t4_run.sl.v323 s v39 v64 t = Scalar.muli (wd t.val) 2048#32 :=
    congrArg (fun z => Scalar.muli z 2048#32) (f4.1.trans (by rw [Nat.zero_add]))
  have e11 : arg11.view.writes (Elt F) f11 (t4_run.sl.H11_1 c arg0 arg9 arg15 f0 f15 s v39 v64 hw9 t r f9) = kp11 c arg9 arg11 arg15 f9 f11 f15 r s t.val (lw c arg0 f0 (s.val / 12)) :=
    kp11_of4 c arg9 arg11 arg15 f9 f11 f15 r s t.val _ hn8 (off := k0_off35 s v39 v64 t) (by rw [off35_eq s v39 v64 t, hm35, Nat.zero_add]) hx h322 h323
  have e12 := kp12_of4 c arg9 arg12 arg15 f9 f12 f15 r s t.val (lw c arg0 f0 (s.val / 12)) (off := k0_off36 s) (off' := k0_off36 s) (inb := k0_off36_inb s) (inb' := k0_off36_inb s) (by rw [show k0_off36 s = k0_off84 s from rfl, off84_eq s, hm35]) (by rw [show k0_off36 s = k0_off84 s from rfl, off84_eq s, hm35]) hx h322 h323
  have e37 : arg11.view.readAt (Elt F) (Rect.unit (s := S2x8x16x1024) (k0_off37 s v39 v64 t) S1x1x16x1024.size (k0_off37_inb s v39 v64 hw9 t)).toLoadRect
      (arg11.view.writes (Elt F) f11 (t4_run.sl.H11_1 c arg0 arg9 arg15 f0 f15 s v39 v64 hw9 t r f9)) = get11 c arg11 f11 (par (s.val - 1)) (n8 t.val) := by
    rw [e11]; exact e17 c arg9 arg11 arg15 f9 f11 f15 v92 r s t.val _ hn8 hs' (by rw [off37_eq s v39 v64 t, Nat.zero_add])
  have e4 : t4_run.sl.r_4 c arg0 arg9 arg11 arg15 f0 f11 f15 s v39 v64 v92 hw9 t r f9 = k0_pay17 v92 (get11 c arg11 f11 (par (s.val - 1)) (n8 t.val)) := by unfold t4_run.sl.r_4; rw [e37]
  have e5 : t4_run.sl.r_5 c arg0 arg9 arg11 arg15 f0 f11 f15 s v39 v64 v92 hw9 t r f9 = k0_pay18 v92 (get11 c arg11 f11 (par (s.val - 1)) (n8 t.val)) := by unfold t4_run.sl.r_5; rw [e37]
  have e14 := kp14_of4 c arg11 arg14 f11 f14 v92 (s.val - 1) t.val e5
  rw [e4, e11, e12, e14]
  iapply (loadV c arg10 r' f10 _ (off38_eq r')) $$ H10
  iintro H10
  have hnx := nxt_words (nc c arg0 f0) u cc hu (fun h36 => by have := (ch_lt (nc c arg0 f0) (nc_pos c arg0 f0) (i + 12)).1; rw [h] at this; exact this h36)
    (fun h36 => by have := (ch_lt (nc c arg0 f0) (nc_pos c arg0 f0) (i + 12)).2; rw [h] at this; exact this h36) (lw c arg0 f0 (min u 35 / 12)) (fun h36 => by rw [Nat.min_eq_left (by omega)]; rfl)
  have h13 : ch (nc c arg0 f0) (i + 13) = nxt (nc c arg0 f0) (u, cc) := ch13 _ _ _ h
  rw [← h13] at hnx
  have hr1 : (r.val + 1) % 12 = (i + 1) % 12 := by rw [hr]; omega
  have hk1 : (ch (nc c arg0 f0) (i + 12)).1 = u := congrArg Prod.fst h
  have hk36 : u < 36 → (ch (nc c arg0 f0) (i + 12)).1 < 36 := fun hh => by rw [hk1]; exact hh
  have hkn36 : ¬ u < 36 → ¬ (ch (nc c arg0 f0) (i + 12)).1 < 36 := fun hh => by rw [hk1]; exact hh
  have hnx' := nxt_words (nc c arg0 f0) u' cc' hu' (fun h36 => by have := (ch_lt (nc c arg0 f0) (nc_pos c arg0 f0) (i' + 12)).1; rw [h'] at this; exact this h36)
    (fun h36 => by have := (ch_lt (nc c arg0 f0) (nc_pos c arg0 f0) (i' + 12)).2; rw [h'] at this; exact this h36) (lw c arg0 f0 (min u' 35 / 12)) (fun h36 => by rw [Nat.min_eq_left (by omega)]; rfl)
  have h13' : ch (nc c arg0 f0) (i' + 13) = nxt (nc c arg0 f0) (u', cc') := ch13 _ _ _ h'
  rw [← h13'] at hnx'
  have hr1' : (r'.val + 1) % 12 = (i' + 1) % 12 := by rw [hr']; omega
  have hk1' : (ch (nc c arg0 f0) (i' + 12)).1 = u' := congrArg Prod.fst h'
  have hk36' : u' < 36 → (ch (nc c arg0 f0) (i' + 12)).1 < 36 := fun hh => by rw [hk1']; exact hh
  have hkn36' : ¬ u' < 36 → ¬ (ch (nc c arg0 f0) (i' + 12)).1 < 36 := fun hh => by rw [hk1']; exact hh
  have hlxK := lw_eq c arg0 f0 (k0_off43 (wd u)) (k0_off43_inb (wd r.val) (wd u) (chk14_of r u hu)) (Shape.Idx.first (by show 0 < S1.numel; decide)) (min u 35 / 12) (off43_eq u hu)
  rw [← hlxK] at hnx
  have hlxV := lw_eq c arg0 f0 (k0_off48 (wd u')) (k0_off48_inb (wd r'.val) (wd u') (chk17_of r' u' hu')) (Shape.Idx.first (by show 0 < S1.numel; decide)) (min u' 35 / 12) (off48_eq u' hu')
  rw [← hlxV] at hnx'
  sl_exec
  ihave H13 := (kp13_of4 c arg10 arg11 arg13 f10 f11 f13 v92 r' (s.val - 1) t.val (off' := k0_off38 (wd r'.val)) (off38_eq r')) $$ H13
  have hcK := cond6_iff ⟨u, by omega⟩
  have hcV := cond7_iff ⟨u', by omega⟩
  by_cases hu36 : u < 36
  · have hcK1 : k0_cond6 (wd u) = 1#1 := by rw [hcK]; simp [hu36]
    by_cases hu36' : u' < 36
    · have hcV1 : k0_cond7 (wd u') = 1#1 := by rw [hcV]; simp [hu36']
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx' := lw_eq c arg0 f0 (k0_off39 (wd u)) (k0_off39_inb (wd r.val) (wd u) (chk14_of r u hu) hcK1) (Shape.Idx.first (by show 0 < S1.numel; decide)) (u / 12) (off39_eq u hu)
      have htk : (tok (wd cc) (View.readAt (Elt F) arg0.view (Rect.unit (s := S3) (k0_off39 (wd u)) S1.size (k0_off39_inb (wd r.val) (wd u) (chk14_of r u hu) hcK1)).toLoadRect f0 (Shape.Idx.first (by show 0 < S1.numel; decide)))).toNat = tk c arg0 f0 (i + 12) := by rw [hlx', tk, h]
      iapply (issueK c arg0 arg5 arg9 arg17 f0 f5 q5 KP hKP r (i + 12) (by rw [hr]; omega) (hk36 hu36)
        (by rw [off41_eq]) (by rw [off41_eq]; exact congrArg (fun n => ![1, n, 128]) htk) (by rw [sz10_eq]; exact congrArg (fun n => ![n, 128]) htk)
        (by rw [off42_eq u cc hu hcc, h]) (by rw [off42_eq u cc hu hcc]; exact congrArg (fun n => ![1, 1, n, 128]) htk)
        (semS_eq arg17 r _ _ (off40_eq r))) $$ [Hv H9 H5]
      · unfold idleK
        isplitl [Hv]; · iexact Hv
        isplitl [H9]; · iexists f9; iexact H9
        iexact H5
      iintro Hst
      ihave Hst := (fly_stK c arg0 arg5 arg9 arg17 f0 f5 q5 KP r (i + 12) (hk36 hu36)) $$ Hst
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx2 := lw_eq c arg0 f0 (k0_off44 (wd u')) (k0_off44_inb (wd r'.val) (wd u') (chk17_of r' u' hu') hcV1) (Shape.Idx.first (by show 0 < S1.numel; decide)) (u' / 12) (off44_eq u' hu')
      have htk2 : (tok (wd cc') (View.readAt (Elt F) arg0.view (Rect.unit (s := S3) (k0_off44 (wd u')) S1.size (k0_off44_inb (wd r'.val) (wd u') (chk17_of r' u' hu') hcV1)).toLoadRect f0 (Shape.Idx.first (by show 0 < S1.numel; decide)))).toNat = tk c arg0 f0 (i' + 12) := by rw [hlx2, tk, h']
      iapply (issueV c arg0 arg6 arg10 arg18 f0 f6 q6 VP hVP r' (i' + 12) (by rw [hr']; omega) (hk36' hu36')
        (by rw [off46_eq]) (by rw [off46_eq]; exact congrArg (fun n => ![1, 128, n]) htk2) (by rw [sz12_eq]; exact congrArg (fun n => ![128, n]) htk2)
        (by rw [off47_eq u' cc' hu' hcc', h']) (by rw [off47_eq u' cc' hu' hcc']; exact congrArg (fun n => ![1, 1, 128, n]) htk2)
        (semS_eq arg18 r' _ _ (off45_eq r'))) $$ [HvV H10 H6]
      · unfold idleV
        isplitl [HvV]; · iexact HvV
        isplitl [H10]; · iexists f10; iexact H10
        iexact H6
      iintro HstV
      ihave HstV := (fly_stV c arg0 arg6 arg10 arg18 f0 f6 q6 VP r' (i' + 12) (hk36' hu36')) $$ HstV
      sl_exec
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
    · have hcV1 : ¬ k0_cond7 (wd u') = 1#1 := by rw [hcV]; simp [hu36']
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx' := lw_eq c arg0 f0 (k0_off39 (wd u)) (k0_off39_inb (wd r.val) (wd u) (chk14_of r u hu) hcK1) (Shape.Idx.first (by show 0 < S1.numel; decide)) (u / 12) (off39_eq u hu)
      have htk : (tok (wd cc) (View.readAt (Elt F) arg0.view (Rect.unit (s := S3) (k0_off39 (wd u)) S1.size (k0_off39_inb (wd r.val) (wd u) (chk14_of r u hu) hcK1)).toLoadRect f0 (Shape.Idx.first (by show 0 < S1.numel; decide)))).toNat = tk c arg0 f0 (i + 12) := by rw [hlx', tk, h]
      iapply (issueK c arg0 arg5 arg9 arg17 f0 f5 q5 KP hKP r (i + 12) (by rw [hr]; omega) (hk36 hu36)
        (by rw [off41_eq]) (by rw [off41_eq]; exact congrArg (fun n => ![1, n, 128]) htk) (by rw [sz10_eq]; exact congrArg (fun n => ![n, 128]) htk)
        (by rw [off42_eq u cc hu hcc, h]) (by rw [off42_eq u cc hu hcc]; exact congrArg (fun n => ![1, 1, n, 128]) htk)
        (semS_eq arg17 r _ _ (off40_eq r))) $$ [Hv H9 H5]
      · unfold idleK
        isplitl [Hv]; · iexact Hv
        isplitl [H9]; · iexists f9; iexact H9
        iexact H5
      iintro Hst
      ihave Hst := (fly_stK c arg0 arg5 arg9 arg17 f0 f5 q5 KP r (i + 12) (hk36 hu36)) $$ Hst
      ihave HstV := (idle_stV c arg0 arg6 arg10 arg18 f0 f6 q6 VP r' (i' + 12) (hkn36' hu36')) $$ [HvV H10 H6]
      · unfold idleV
        isplitl [HvV]; · iexact HvV
        isplitl [H10]; · iexists f10; iexact H10
        iexact H6
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
  · have hcK1 : ¬ k0_cond6 (wd u) = 1#1 := by rw [hcK]; simp [hu36]
    by_cases hu36' : u' < 36
    · have hcV1 : k0_cond7 (wd u') = 1#1 := by rw [hcV]; simp [hu36']
      ihave Hst := (idle_stK c arg0 arg5 arg9 arg17 f0 f5 q5 KP r (i + 12) (hkn36 hu36)) $$ [Hv H9 H5]
      · unfold idleK
        isplitl [Hv]; · iexact Hv
        isplitl [H9]; · iexists f9; iexact H9
        iexact H5
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx2 := lw_eq c arg0 f0 (k0_off44 (wd u')) (k0_off44_inb (wd r'.val) (wd u') (chk17_of r' u' hu') hcV1) (Shape.Idx.first (by show 0 < S1.numel; decide)) (u' / 12) (off44_eq u' hu')
      have htk2 : (tok (wd cc') (View.readAt (Elt F) arg0.view (Rect.unit (s := S3) (k0_off44 (wd u')) S1.size (k0_off44_inb (wd r'.val) (wd u') (chk17_of r' u' hu') hcV1)).toLoadRect f0 (Shape.Idx.first (by show 0 < S1.numel; decide)))).toNat = tk c arg0 f0 (i' + 12) := by rw [hlx2, tk, h']
      iapply (issueV c arg0 arg6 arg10 arg18 f0 f6 q6 VP hVP r' (i' + 12) (by rw [hr']; omega) (hk36' hu36')
        (by rw [off46_eq]) (by rw [off46_eq]; exact congrArg (fun n => ![1, 128, n]) htk2) (by rw [sz12_eq]; exact congrArg (fun n => ![128, n]) htk2)
        (by rw [off47_eq u' cc' hu' hcc', h']) (by rw [off47_eq u' cc' hu' hcc']; exact congrArg (fun n => ![1, 1, 128, n]) htk2)
        (semS_eq arg18 r' _ _ (off45_eq r'))) $$ [HvV H10 H6]
      · unfold idleV
        isplitl [HvV]; · iexact HvV
        isplitl [H10]; · iexists f10; iexact H10
        iexact H6
      iintro HstV
      ihave HstV := (fly_stV c arg0 arg6 arg10 arg18 f0 f6 q6 VP r' (i' + 12) (hk36' hu36')) $$ HstV
      sl_exec
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
    · have hcV1 : ¬ k0_cond7 (wd u') = 1#1 := by rw [hcV]; simp [hu36']
      ihave Hst := (idle_stK c arg0 arg5 arg9 arg17 f0 f5 q5 KP r (i + 12) (hkn36 hu36)) $$ [Hv H9 H5]
      · unfold idleK
        isplitl [Hv]; · iexact Hv
        isplitl [H9]; · iexists f9; iexact H9
        iexact H5
      ihave HstV := (idle_stV c arg0 arg6 arg10 arg18 f0 f6 q6 VP r' (i' + 12) (hkn36' hu36')) $$ [HvV H10 H6]
      · unfold idleV
        isplitl [HvV]; · iexact HvV
        isplitl [H10]; · iexists f10; iexact H10
        iexact H6
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
end T4

end Cert.Proof.Kernel
-- ==== Proof.T6.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Step

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

namespace T6
theorem ch13 (f : ℕ → ℕ) (i : ℕ) (p : ℕ × ℕ) (h : ch f (i + 12) = p) : ch f (i + 13) = nxt f p := by rw [← h]; rfl
attribute [local irreducible] ch
variable (f0 : Buf (Elt F) (arg0.view.loc (c : Thread nD τ))) (f5 : Buf (Elt F) (arg5.view.loc (c : Thread nD τ))) (q5 : Fin 12 → PosShare TreeShare) (q0 : PosShare TreeShare)
  (KP : ℕ → Buf (Elt F) (arg9.view.loc (c : Thread nD τ)) → Prop)
  (f11 : Buf (Elt F) (arg11.view.loc (c : Thread nD τ))) (f12 : Buf (Elt F) (arg12.view.loc (c : Thread nD τ))) (f15 : Buf (Elt F) (arg15.view.loc (c : Thread nD τ)))

set_option maxHeartbeats 1000000 in
theorem t6_run (hKP : LandsK c arg0 arg5 arg9 f0 f5 KP) (s : Fin k0_t3_loop.trips) (v17 v39 v64 v104 : BitVec 32) (hw9 : k0_chk9 s v39 v64)
    (t : Fin (k0_t6_loop s v39 v64).trips) (i u cc : ℕ) (r : Fin 12) (hr : r.val = i % 12)
    (hv : v104 = wd (min (nK s v39) (nV s v64))) (hi : ch (nc c arg0 f0) i = (s.val, min (nK s v39) (nV s v64) + t.val)) (hs : s.val < 36) (hu : u ≤ 36) (hcc : cc < 8)
    (h : ch (nc c arg0 f0) (i + 12) = (u, cc)) :
    iprop((arg0.view.loc (c : Thread nD τ) ↦{q0} f0) ∗ stK c arg0 arg5 arg9 arg17 f0 f5 q5 KP r (some i)
      ∗ (arg11.view.loc (c : Thread nD τ) ↦{fullShare} f11) ∗ (arg12.view.loc (c : Thread nD τ) ↦{fullShare} f12) ∗ (arg15.view.loc (c : Thread nD τ) ↦{fullShare} f15)
      ∗ (∃ W, owes (c : Thread nD τ) 0 W))
    ⊢ wp frame (wpE (defs₀ (F := F)) Variants.none c none) Set.univ
      (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v104 t (wd r.val, wd u, wd cc))
      (fun x => iprop((arg0.view.loc (c : Thread nD τ) ↦{q0} f0) ∗ stK c arg0 arg5 arg9 arg17 f0 f5 q5 KP r (some (i + 12))
        ∗ (∃ f9, ⌜KP i f9⌝ ∗ (arg11.view.loc (c : Thread nD τ) ↦{fullShare} kp11 c arg9 arg11 arg15 f9 f11 f15 r s (min (nK s v39) (nV s v64) + t.val) (lw c arg0 f0 (s.val / 12)))
          ∗ (arg12.view.loc (c : Thread nD τ) ↦{fullShare} kp12 c arg9 arg12 arg15 f9 f12 f15 r s (min (nK s v39) (nV s v64) + t.val) (lw c arg0 f0 (s.val / 12))))
        ∗ (arg15.view.loc (c : Thread nD τ) ↦{fullShare} f15) ∗ (∃ W, owes (c : Thread nD τ) 0 W)
        ∗ ⌜x = (wd ((i + 1) % 12), wd (ch (nc c arg0 f0) (i + 13)).1, wd (ch (nc c arg0 f0) (i + 13)).2)⌝)) := by
  iintro ⟨H0, Hst, H11, H12, H15, How⟩
  ihave Hfl := (stK_fly c arg0 arg5 arg9 arg17 f0 f5 q5 KP r i (by have := congrArg Prod.fst hi; simp only at this; omega)) $$ Hst
  sl_unfold [k0_t6_body]
  sl_exec (disch := first | sl_exact (chk30_of s v39 v64 t _ _) | sl_exact (chk31_of r) | sl_exact (chk32_of r u hu) | sl_exact (chk34_of _ cc hcc) | sl_exact (chk33_of r u cc hu hcc _))

  have f6 := (facts6 s v39 v64).2.2 t
  have hrl : t6_run.sl.r c arg0 f0 s = lw c arg0 f0 (s.val / 12) := lw_eq c arg0 f0 _ _ _ _ (by rw [off75_eq s, Nat.min_eq_left (by omega)])
  have hiv : Scf.iv (k0_t6_loop s v39 v64).lb 1#32 t = wd (ch (nc c arg0 f0) i).2 := by rw [hi]; exact f6.1
  iapply (awaitK c arg0 arg5 arg9 arg17 f0 f5 q5 KP r i (by rw [sz21_eq s v39 v64 t _ _ hiv, tk, hi, hrl])
    (semS_eq arg17 r _ _ (off76_eq r))) $$ [Hfl How]
  · isplitl [Hfl]; · iexact Hfl
    iexact How
  iintro ⟨Hv, ⟨%f9, %hf9, H9⟩, H5, How⟩
  iapply (loadK c arg9 r f9 _ 0 (by omega) (off79_eq r)) $$ H9
  iintro H9
  rw [ret_bind]
  iapply (loadK c arg9 r f9 _ 1024 (by omega) (off80_eq r)) $$ H9
  iintro H9
  rw [ret_bind]
  have hn8 : min (nK s v39) (nV s v64) + t.val < 8 := by have := f6.2; have := nK_le s v39; omega
  have hnx := nxt_words (nc c arg0 f0) u cc hu (fun h36 => by have := (ch_lt (nc c arg0 f0) (nc_pos c arg0 f0) (i + 12)).1; rw [h] at this; exact this h36)
    (fun h36 => by have := (ch_lt (nc c arg0 f0) (nc_pos c arg0 f0) (i + 12)).2; rw [h] at this; exact this h36) (lw c arg0 f0 (min u 35 / 12)) (fun h36 => by rw [Nat.min_eq_left (by omega)]; rfl)
  have h13 : ch (nc c arg0 f0) (i + 13) = nxt (nc c arg0 f0) (u, cc) := ch13 _ _ _ h
  rw [← h13] at hnx
  have hm35 : min s.val 35 = s.val := Nat.min_eq_left (by omega)
  have hr1 : (r.val + 1) % 12 = (i + 1) % 12 := by rw [hr]; omega
  have hivv : Scf.iv v104 1#32 t = wd (min (nK s v39) (nV s v64) + t.val) := by subst hv; exact iv_nat _ _ (by have := f6.2; have := nK_le s v39; omega)
  have hk1 : (ch (nc c arg0 f0) (i + 12)).1 = u := congrArg Prod.fst h
  have hk36 : u < 36 → (ch (nc c arg0 f0) (i + 12)).1 < 36 := fun hh => by rw [hk1]; exact hh
  have hc := cond10_iff ⟨u, by omega⟩
  have hkn36 : ¬ u < 36 → ¬ (ch (nc c arg0 f0) (i + 12)).1 < 36 := fun hh => by rw [hk1]; exact hh
  by_cases hu36 : u < 36
  · have hc1 : k0_cond10 (wd u) = 1#1 := by rw [hc]; simp [hu36]
    sl_exec (disch := first | sl_exact hc1 | sl_exact (chk33_of r u cc hu hcc _) | sl_exact (chk34_of _ cc hcc))
    have hlx' := lw_eq c arg0 f0 (k0_off85 (wd u)) (k0_off85_inb (wd r.val) (wd u) (chk32_of r u hu) hc1) (Shape.Idx.first (by show 0 < S1.numel; decide)) (u / 12) (off85_eq u hu)
    have htk : (tok (wd cc) (View.readAt (Elt F) arg0.view (Rect.unit (s := S3) (k0_off85 (wd u)) S1.size (k0_off85_inb (wd r.val) (wd u) (chk32_of r u hu) hc1)).toLoadRect f0 (Shape.Idx.first (by show 0 < S1.numel; decide)))).toNat = tk c arg0 f0 (i + 12) := by rw [hlx', tk, h]
    iapply (issueK c arg0 arg5 arg9 arg17 f0 f5 q5 KP hKP r (i + 12) (by rw [hr]; omega) (hk36 hu36)
      (by rw [off87_eq]) (by rw [off87_eq]; exact congrArg (fun n => ![1, n, 128]) htk) (by rw [sz24_eq]; exact congrArg (fun n => ![n, 128]) htk)
      (by rw [off88_eq u cc hu hcc, h]) (by rw [off88_eq u cc hu hcc]; exact congrArg (fun n => ![1, 1, n, 128]) htk)
      (semS_eq arg17 r _ _ (off86_eq r))) $$ [Hv H9 H5]
    · unfold idleK
      isplitl [Hv]; · iexact Hv
      isplitl [H9]; · iexists f9; iexact H9
      iexact H5
    iintro Hst
    sl_exec
    have hlx := lw_eq c arg0 f0 (k0_off89 (wd u)) (k0_off89_inb (wd r.val) (wd u) (chk32_of r u hu)) (Shape.Idx.first (by show 0 < S1.numel; decide)) (min u 35 / 12) (off89_eq u hu)
    rw [← hlx] at hnx
    sl_step
    isplitl [H0]; · iexact H0
    isplitl [Hst]
    · have hfs := fly_stK c arg0 arg5 arg9 arg17 f0 f5 q5 KP r (i + 12) (hk36 hu36)
      ihave Hst := hfs $$ Hst
      iexact Hst
    isplitl [H11 H12]
    · iexists f9
      isplitr; · ipureintro; exact hf9
      have hx := sK_of c arg9 arg15 f9 f15 r s (inba := k0_off79_inb (wd r.val) (chk31_of r)) (inbb := k0_off80_inb (wd r.val) (chk31_of r)) (inbc := k0_off81_inb s) (off79_eq r) (off80_eq r) (by rw [off81_eq s, hm35])
      have hm := mK_of c arg0 f0 (min (nK s v39) (nV s v64) + t.val) (s.val / 12) hivv (inb := k0_off82_inb s) (x := Shape.Idx.first (by show 0 < S1.numel; decide)) (by rw [off82_eq s, hm35])
      isplitl [H11]
      · iapply (kp11_of c arg9 arg11 arg15 f9 f11 f15 r s _ _ hn8 (off := k0_off83 s v39 v64 t) (by rw [off83_eq s v39 v64 t, hm35]) ) $$ H11
        ipureintro; exact ⟨hx, hm⟩
      · iapply (kp12_of c arg9 arg12 arg15 f9 f12 f15 r s _ _ (off := k0_off84 s) (off' := k0_off84 s) (by rw [off84_eq s, hm35]) (by rw [off84_eq s, hm35]) ) $$ H12
        ipureintro; exact ⟨hx, hm⟩
    isplitl [H15]; · iexact H15
    isplitl [How]; · iexact How
    ipureintro
    exact Prod.ext ((wd_slot r).trans (by rw [hr1])) (Prod.ext hnx.1 hnx.2)
  · have hc1 : ¬ k0_cond10 (wd u) = 1#1 := by rw [hc]; simp [hu36]
    sl_exec (disch := first | sl_exact hc1)
    have hlx := lw_eq c arg0 f0 (k0_off89 (wd u)) (k0_off89_inb (wd r.val) (wd u) (chk32_of r u hu)) (Shape.Idx.first (by show 0 < S1.numel; decide)) (min u 35 / 12) (off89_eq u hu)
    rw [← hlx] at hnx
    sl_step
    isplitl [H0]; · iexact H0
    isplitl [Hv H9 H5]
    · iapply (idle_stK c arg0 arg5 arg9 arg17 f0 f5 q5 KP r (i + 12) (hkn36 hu36))
      unfold idleK
      isplitl [Hv]; · iexact Hv
      isplitl [H9]; · iexists f9; iexact H9
      iexact H5
    isplitl [H11 H12]
    · iexists f9
      isplitr; · ipureintro; exact hf9
      have hx := sK_of c arg9 arg15 f9 f15 r s (inba := k0_off79_inb (wd r.val) (chk31_of r)) (inbb := k0_off80_inb (wd r.val) (chk31_of r)) (inbc := k0_off81_inb s) (off79_eq r) (off80_eq r) (by rw [off81_eq s, hm35])
      have hm := mK_of c arg0 f0 (min (nK s v39) (nV s v64) + t.val) (s.val / 12) hivv (inb := k0_off82_inb s) (x := Shape.Idx.first (by show 0 < S1.numel; decide)) (by rw [off82_eq s, hm35])
      isplitl [H11]
      · iapply (kp11_of c arg9 arg11 arg15 f9 f11 f15 r s _ _ hn8 (off := k0_off83 s v39 v64 t) (by rw [off83_eq s v39 v64 t, hm35]) ) $$ H11
        ipureintro; exact ⟨hx, hm⟩
      · iapply (kp12_of c arg9 arg12 arg15 f9 f12 f15 r s _ _ (off := k0_off84 s) (off' := k0_off84 s) (by rw [off84_eq s, hm35]) (by rw [off84_eq s, hm35]) ) $$ H12
        ipureintro; exact ⟨hx, hm⟩
    isplitl [H15]; · iexact H15
    isplitl [How]; · iexact How
    ipureintro
    exact Prod.ext ((wd_slot r).trans (by rw [hr1])) (Prod.ext hnx.1 hnx.2)
end T6

end Cert.Proof.Kernel
-- ==== Proof.T8.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Step

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
namespace T8
theorem ch13 (f : ℕ → ℕ) (i : ℕ) (p : ℕ × ℕ) (h : ch f (i + 12) = p) : ch f (i + 13) = nxt f p := by rw [← h]; rfl
attribute [local irreducible] ch
variable (f0 : Buf (Elt F) (arg0.view.loc (c : Thread nD τ))) (f6 : Buf (Elt F) (arg6.view.loc (c : Thread nD τ))) (q6 : Fin 12 → PosShare TreeShare) (q0 : PosShare TreeShare)
  (VP : ℕ → Buf (Elt F) (arg10.view.loc (c : Thread nD τ)) → Prop)
  (f11 : Buf (Elt F) (arg11.view.loc (c : Thread nD τ))) (f13 : Buf (Elt F) (arg13.view.loc (c : Thread nD τ))) (f14 : Buf (Elt F) (arg14.view.loc (c : Thread nD τ)))

set_option maxHeartbeats 1000000 in
theorem t8_run (hVP : LandsV c arg0 arg6 arg10 f0 f6 VP) (s : Fin k0_t3_loop.trips) (v19 v39 v64 v104 : BitVec 32) (v92 : FVec F S16x1 .f32) (hw9 : k0_chk9 s v39 v64)
    (t : Fin (k0_t8_loop s v39 v64).trips) (i u cc : ℕ) (r : Fin 12) (hr : r.val = i % 12)
    (hi : ch (nc c arg0 f0) i = (s.val - 1, min (nK s v39) (nV s v64) + t.val)) (hs : 0 < s.val) (hu : u ≤ 36) (hcc : cc < 8)
    (h : ch (nc c arg0 f0) (i + 12) = (u, cc)) :
    iprop((arg0.view.loc (c : Thread nD τ) ↦{q0} f0) ∗ stV c arg0 arg6 arg10 arg18 f0 f6 q6 VP r (some i)
      ∗ (arg11.view.loc (c : Thread nD τ) ↦{fullShare} f11) ∗ (arg13.view.loc (c : Thread nD τ) ↦{fullShare} f13) ∗ (arg14.view.loc (c : Thread nD τ) ↦{fullShare} f14)
      ∗ (∃ W, owes (c : Thread nD τ) 0 W))
    ⊢ wp frame (wpE (defs₀ (F := F)) Variants.none c none) Set.univ
      (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v19 v39 v64 hw9 v92 v104 t (wd r.val, wd u, wd cc))
      (fun x => iprop((arg0.view.loc (c : Thread nD τ) ↦{q0} f0) ∗ stV c arg0 arg6 arg10 arg18 f0 f6 q6 VP r (some (i + 12))
        ∗ (∃ f10, ⌜VP i f10⌝ ∗ (arg13.view.loc (c : Thread nD τ) ↦{fullShare} kp13 c arg10 arg11 arg13 f10 f11 f13 v92 r (s.val - 1) (min (nK s v39) (nV s v64) + t.val))
          ∗ (arg14.view.loc (c : Thread nD τ) ↦{fullShare} kp14 c arg11 arg14 f11 f14 v92 (s.val - 1) (min (nK s v39) (nV s v64) + t.val)))
        ∗ (arg11.view.loc (c : Thread nD τ) ↦{fullShare} f11) ∗ (∃ W, owes (c : Thread nD τ) 0 W)
        ∗ ⌜x = (wd ((i + 1) % 12), wd (ch (nc c arg0 f0) (i + 13)).1, wd (ch (nc c arg0 f0) (i + 13)).2)⌝)) := by
  iintro ⟨H0, Hst, H11, H13, H14, How⟩
  have hs36 : s.val - 1 < 36 := by have := s.isLt; have e : k0_t3_loop.trips = 37 := (by decide); omega
  ihave Hfl := (stV_fly c arg0 arg6 arg10 arg18 f0 f6 q6 VP r i (by have := congrArg Prod.fst hi; simp only at this; omega)) $$ Hst
  sl_unfold [k0_t8_body]
  sl_exec (disch := first | sl_exact (chk40_of s v39 v64 t _ _) | sl_exact (chk41_of r) | sl_exact (chk42_of r u hu) | sl_exact (chk44_of _ cc hcc) | sl_exact (chk43_of r u cc hu hcc _))
  have f8 := (facts8 s v39 v64).2.2 t
  have hrl : t8_run.sl.r c arg0 f0 s = lw c arg0 f0 ((s.val - 1) / 12) := lw_eq c arg0 f0 _ _ _ _ (off105_eq s)
  have hiv : Scf.iv (k0_t8_loop s v39 v64).lb 1#32 t = wd (ch (nc c arg0 f0) i).2 := by rw [hi]; exact f8.1
  iapply (awaitV c arg0 arg6 arg10 arg18 f0 f6 q6 VP r i (by rw [sz29_eq s v39 v64 t _ _ hiv, tk, hi, hrl])
    (semS_eq arg18 r _ _ (off106_eq r))) $$ [Hfl How]
  · isplitl [Hfl]; · iexact Hfl
    iexact How
  iintro ⟨Hv, ⟨%f10, %hf10, H10⟩, H6, How⟩
  sl_exec
  iapply (loadV c arg10 r f10 _ (off110_eq r)) $$ H10
  iintro H10
  rw [wp_pure]
  imodintro
  have hn8 : min (nK s v39) (nV s v64) + t.val < 8 := by have := f8.2; have := nV_le s v64; omega
  have hnx := nxt_words (nc c arg0 f0) u cc hu (fun h36 => by have := (ch_lt (nc c arg0 f0) (nc_pos c arg0 f0) (i + 12)).1; rw [h] at this; exact this h36)
    (fun h36 => by have := (ch_lt (nc c arg0 f0) (nc_pos c arg0 f0) (i + 12)).2; rw [h] at this; exact this h36) (lw c arg0 f0 (min u 35 / 12)) (fun h36 => by rw [Nat.min_eq_left (by omega)]; rfl)
  have h13 : ch (nc c arg0 f0) (i + 13) = nxt (nc c arg0 f0) (u, cc) := ch13 _ _ _ h
  rw [← h13] at hnx
  have hr1 : (r.val + 1) % 12 = (i + 1) % 12 := by rw [hr]; omega
  have hk1 : (ch (nc c arg0 f0) (i + 12)).1 = u := congrArg Prod.fst h
  have hk36 : u < 36 → (ch (nc c arg0 f0) (i + 12)).1 < 36 := fun hh => by rw [hk1]; exact hh
  have hkn36 : ¬ u < 36 → ¬ (ch (nc c arg0 f0) (i + 12)).1 < 36 := fun hh => by rw [hk1]; exact hh
  have hlx := lw_eq c arg0 f0 (k0_off115 (wd u)) (k0_off115_inb (wd r.val) (wd u) (chk42_of r u hu)) (Shape.Idx.first (by show 0 < S1.numel; decide)) (min u 35 / 12) (off115_eq u hu)
  rw [← hlx] at hnx
  have hc := cond12_iff ⟨u, by omega⟩
  by_cases hu36 : u < 36
  · have hc1 : k0_cond12 (wd u) = 1#1 := by rw [hc]; simp [hu36]
    sl_exec (disch := first | sl_exact hc1 | sl_exact (chk43_of r u cc hu hcc _) | sl_exact (chk44_of _ cc hcc))
    have hlx' := lw_eq c arg0 f0 (k0_off111 (wd u)) (k0_off111_inb (wd r.val) (wd u) (chk42_of r u hu) hc1) (Shape.Idx.first (by show 0 < S1.numel; decide)) (u / 12) (off111_eq u hu)
    have htk : (tok (wd cc) (View.readAt (Elt F) arg0.view (Rect.unit (s := S3) (k0_off111 (wd u)) S1.size (k0_off111_inb (wd r.val) (wd u) (chk42_of r u hu) hc1)).toLoadRect f0 (Shape.Idx.first (by show 0 < S1.numel; decide)))).toNat = tk c arg0 f0 (i + 12) := by rw [hlx', tk, h]
    iapply (issueV c arg0 arg6 arg10 arg18 f0 f6 q6 VP hVP r (i + 12) (by rw [hr]; omega) (hk36 hu36)
      (by rw [off113_eq]) (by rw [off113_eq]; exact congrArg (fun n => ![1, 128, n]) htk) (by rw [sz32_eq]; exact congrArg (fun n => ![128, n]) htk)
      (by rw [off114_eq u cc hu hcc, h]) (by rw [off114_eq u cc hu hcc]; exact congrArg (fun n => ![1, 1, 128, n]) htk)
      (semS_eq arg18 r _ _ (off112_eq r))) $$ [Hv H10 H6]
    · unfold idleV
      isplitl [Hv]; · iexact Hv
      isplitl [H10]; · iexists f10; iexact H10
      iexact H6
    iintro Hst
    sl_exec
    sl_step
    isplitl [H0]; · iexact H0
    isplitl [Hst]
    · iapply (fly_stV c arg0 arg6 arg10 arg18 f0 f6 q6 VP r (i + 12) (hk36 hu36)) $$ Hst
    isplitl [H13 H14]
    · iexists f10
      isplitr; · ipureintro; exact hf10
      isplitl [H13]
      · iapply (kp13_of c arg10 arg11 arg13 f10 f11 f13 v92 r (s.val - 1) _ hn8 (off := k0_off109 s v39 v64 t) (off' := k0_off110 (wd r.val)) (off109_eq s v39 v64 t) (off110_eq r)) $$ H13
      · iapply (kp14_of c arg11 arg14 f11 f14 v92 (s.val - 1) _ hn8 (off := k0_off109 s v39 v64 t) (off109_eq s v39 v64 t)) $$ H14
    isplitl [H11]; · iexact H11
    isplitl [How]; · iexact How
    ipureintro
    exact Prod.ext ((wd_slot r).trans (by rw [hr1])) (Prod.ext hnx.1 hnx.2)
  · have hc1 : ¬ k0_cond12 (wd u) = 1#1 := by rw [hc]; simp [hu36]
    sl_exec (disch := first | sl_exact hc1)
    sl_step
    isplitl [H0]; · iexact H0
    isplitl [Hv H10 H6]
    · iapply (idle_stV c arg0 arg6 arg10 arg18 f0 f6 q6 VP r (i + 12) (hkn36 hu36))
      unfold idleV
      isplitl [Hv]; · iexact Hv
      isplitl [H10]; · iexists f10; iexact H10
      iexact H6
    isplitl [H13 H14]
    · iexists f10
      isplitr; · ipureintro; exact hf10
      isplitl [H13]
      · iapply (kp13_of c arg10 arg11 arg13 f10 f11 f13 v92 r (s.val - 1) _ hn8 (off := k0_off109 s v39 v64 t) (off' := k0_off110 (wd r.val)) (off109_eq s v39 v64 t) (off110_eq r)) $$ H13
      · iapply (kp14_of c arg11 arg14 f11 f14 v92 (s.val - 1) _ hn8 (off := k0_off109 s v39 v64 t) (off109_eq s v39 v64 t)) $$ H14
    isplitl [H11]; · iexact H11
    isplitl [How]; · iexact How
    ipureintro
    exact Prod.ext ((wd_slot r).trans (by rw [hr1])) (Prod.ext hnx.1 hnx.2)
end T8

end Cert.Proof.Kernel
-- ==== Proof.Loop.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.T4
public import proofs.«01_k».proof.Proof.T6
public import proofs.«01_k».proof.Proof.T8

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
/-! The three loops of a step over what is kept between them. -/
/-- The buffers that a step writes. -/
structure Bufs where
  b8 : Buf (Elt F) (arg8.view.loc (c : Thread nD τ))
  b11 : Buf (Elt F) (arg11.view.loc (c : Thread nD τ))
  b12 : Buf (Elt F) (arg12.view.loc (c : Thread nD τ))
  b13 : Buf (Elt F) (arg13.view.loc (c : Thread nD τ))
  b14 : Buf (Elt F) (arg14.view.loc (c : Thread nD τ))
  b15 : Buf (Elt F) (arg15.view.loc (c : Thread nD τ))
  b16 : Buf (Elt F) (arg16.view.loc (c : Thread nD τ))

/-- They are held whole. -/
def held (b : Bufs (F := F) c arg8 arg11 arg12 arg13 arg14 arg15 arg16) : sProp 𝕄 :=
  iprop((arg8.view.loc (c : Thread nD τ) ↦{fullShare} b.b8) ∗ (arg11.view.loc (c : Thread nD τ) ↦{fullShare} b.b11) ∗ (arg12.view.loc (c : Thread nD τ) ↦{fullShare} b.b12)
    ∗ (arg13.view.loc (c : Thread nD τ) ↦{fullShare} b.b13) ∗ (arg14.view.loc (c : Thread nD τ) ↦{fullShare} b.b14) ∗ (arg15.view.loc (c : Thread nD τ) ↦{fullShare} b.b15)
    ∗ (arg16.view.loc (c : Thread nD τ) ↦{fullShare} b.b16))
/-- A chunk of keys taken in, -/
def bK (f9 : Buf (Elt F) (arg9.view.loc (c : Thread nD τ))) (r : Fin 12) (u n : ℕ) (len : BitVec 32) (b : Bufs (F := F) c arg8 arg11 arg12 arg13 arg14 arg15 arg16) : Bufs (F := F) c arg8 arg11 arg12 arg13 arg14 arg15 arg16 :=
  { b with b11 := kp11 c arg9 arg11 arg15 f9 b.b11 b.b15 r u n len, b12 := kp12 c arg9 arg12 arg15 f9 b.b12 b.b15 r u n len }
/-- and a chunk of values. -/
def bV (f10 : Buf (Elt F) (arg10.view.loc (c : Thread nD τ))) (v92 : FVec F S16x1 .f32) (r : Fin 12) (u n : ℕ) (b : Bufs (F := F) c arg8 arg11 arg12 arg13 arg14 arg15 arg16) : Bufs (F := F) c arg8 arg11 arg12 arg13 arg14 arg15 arg16 :=
  { b with b13 := kp13 c arg10 arg11 arg13 f10 b.b11 b.b13 v92 r u n, b14 := kp14 c arg11 arg14 b.b11 b.b14 v92 u n }

theorem held_K (f9 : Buf (Elt F) (arg9.view.loc (c : Thread nD τ))) (r : Fin 12) (u n : ℕ) (len : BitVec 32) (b : Bufs (F := F) c arg8 arg11 arg12 arg13 arg14 arg15 arg16) :
    iprop((arg8.view.loc (c : Thread nD τ) ↦{fullShare} b.b8) ∗ (arg11.view.loc (c : Thread nD τ) ↦{fullShare} kp11 c arg9 arg11 arg15 f9 b.b11 b.b15 r u n len) ∗ (arg12.view.loc (c : Thread nD τ) ↦{fullShare} kp12 c arg9 arg12 arg15 f9 b.b12 b.b15 r u n len) ∗ (arg13.view.loc (c : Thread nD τ) ↦{fullShare} b.b13) ∗ (arg14.view.loc (c : Thread nD τ) ↦{fullShare} b.b14) ∗ (arg15.view.loc (c : Thread nD τ) ↦{fullShare} b.b15) ∗ (arg16.view.loc (c : Thread nD τ) ↦{fullShare} b.b16))
      ⊢@{sProp 𝕄} held c arg8 arg11 arg12 arg13 arg14 arg15 arg16 (bK c arg8 arg9 arg11 arg12 arg13 arg14 arg15 arg16 f9 r u n len b) := by
  dsimp only [held, bK, bV]
  exact BIBase.Entails.rfl
theorem held_V (f10 : Buf (Elt F) (arg10.view.loc (c : Thread nD τ))) (v92 : FVec F S16x1 .f32) (r' : Fin 12) (u' n' : ℕ) (b : Bufs (F := F) c arg8 arg11 arg12 arg13 arg14 arg15 arg16) :
    iprop((arg8.view.loc (c : Thread nD τ) ↦{fullShare} b.b8) ∗ (arg11.view.loc (c : Thread nD τ) ↦{fullShare} b.b11) ∗ (arg12.view.loc (c : Thread nD τ) ↦{fullShare} b.b12) ∗ (arg13.view.loc (c : Thread nD τ) ↦{fullShare} kp13 c arg10 arg11 arg13 f10 b.b11 b.b13 v92 r' u' n') ∗ (arg14.view.loc (c : Thread nD τ) ↦{fullShare} kp14 c arg11 arg14 b.b11 b.b14 v92 u' n') ∗ (arg15.view.loc (c : Thread nD τ) ↦{fullShare} b.b15) ∗ (arg16.view.loc (c : Thread nD τ) ↦{fullShare} b.b16))
      ⊢@{sProp 𝕄} held c arg8 arg11 arg12 arg13 arg14 arg15 arg16 (bV c arg8 arg10 arg11 arg12 arg13 arg14 arg15 arg16 f10 v92 r' u' n' b) := by
  dsimp only [held, bK, bV]
  exact BIBase.Entails.rfl
theorem held_KV (f9 : Buf (Elt F) (arg9.view.loc (c : Thread nD τ))) (r : Fin 12) (u n : ℕ) (len : BitVec 32) (f10 : Buf (Elt F) (arg10.view.loc (c : Thread nD τ))) (v92 : FVec F S16x1 .f32) (r' : Fin 12) (u' n' : ℕ) (b : Bufs (F := F) c arg8 arg11 arg12 arg13 arg14 arg15 arg16) :
    iprop((arg8.view.loc (c : Thread nD τ) ↦{fullShare} b.b8) ∗ (arg11.view.loc (c : Thread nD τ) ↦{fullShare} kp11 c arg9 arg11 arg15 f9 b.b11 b.b15 r u n len) ∗ (arg12.view.loc (c : Thread nD τ) ↦{fullShare} kp12 c arg9 arg12 arg15 f9 b.b12 b.b15 r u n len) ∗ (arg13.view.loc (c : Thread nD τ) ↦{fullShare} kp13 c arg10 arg11 arg13 f10 b.b11 b.b13 v92 r' u' n') ∗ (arg14.view.loc (c : Thread nD τ) ↦{fullShare} kp14 c arg11 arg14 b.b11 b.b14 v92 u' n') ∗ (arg15.view.loc (c : Thread nD τ) ↦{fullShare} b.b15) ∗ (arg16.view.loc (c : Thread nD τ) ↦{fullShare} b.b16))
      ⊢@{sProp 𝕄} held c arg8 arg11 arg12 arg13 arg14 arg15 arg16 (bK c arg8 arg9 arg11 arg12 arg13 arg14 arg15 arg16 f9 r u n len (bV c arg8 arg10 arg11 arg12 arg13 arg14 arg15 arg16 f10 v92 r' u' n' b)) := by
  dsimp only [held, bK, bV]
  exact BIBase.Entails.rfl

theorem held_out (b : Bufs (F := F) c arg8 arg11 arg12 arg13 arg14 arg15 arg16) : held c arg8 arg11 arg12 arg13 arg14 arg15 arg16 b ⊢@{sProp 𝕄}
    iprop((arg8.view.loc (c : Thread nD τ) ↦{fullShare} b.b8) ∗ (arg11.view.loc (c : Thread nD τ) ↦{fullShare} b.b11) ∗ (arg12.view.loc (c : Thread nD τ) ↦{fullShare} b.b12) ∗ (arg13.view.loc (c : Thread nD τ) ↦{fullShare} b.b13) ∗ (arg14.view.loc (c : Thread nD τ) ↦{fullShare} b.b14) ∗ (arg15.view.loc (c : Thread nD τ) ↦{fullShare} b.b15) ∗ (arg16.view.loc (c : Thread nD τ) ↦{fullShare} b.b16)) := BIBase.Entails.rfl

section Loops
variable (f0 : Buf (Elt F) (arg0.view.loc (c : Thread nD τ))) (f5 : Buf (Elt F) (arg5.view.loc (c : Thread nD τ))) (f6 : Buf (Elt F) (arg6.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (Inv : ℕ → ℕ → ℕ → FVec F S16x1 .f32 → Bufs (F := F) c arg8 arg11 arg12 arg13 arg14 arg15 arg16 → Prop)

/-- Taking in a chunk of keys keeps what is known. -/
def StepK : Prop := ∀ (s k j : ℕ) (v : FVec F S16x1 .f32) (b : Bufs (F := F) c arg8 arg11 arg12 arg13 arg14 arg15 arg16) (f9 : Buf (Elt F) (arg9.view.loc (c : Thread nD τ))), s < 36 → k < nc c arg0 f0 s →
  KP (before (nc c arg0 f0) s + k) f9 → Inv s k j v b →
  Inv s (k + 1) j v (bK c arg8 arg9 arg11 arg12 arg13 arg14 arg15 arg16 f9 (n12 (before (nc c arg0 f0) s + k)) s k (lw c arg0 f0 (s / 12)) b)
/-- Taking in a chunk of values keeps what is known. -/
def StepV : Prop := ∀ (s k j : ℕ) (v : FVec F S16x1 .f32) (b : Bufs (F := F) c arg8 arg11 arg12 arg13 arg14 arg15 arg16) (f10 : Buf (Elt F) (arg10.view.loc (c : Thread nD τ))), 0 < s → s ≤ 36 → j < nc c arg0 f0 (s - 1) →
  VP (before (nc c arg0 f0) (s - 1) + j) f10 → Inv s k j v b →
  Inv s k (j + 1) v (bV c arg8 arg10 arg11 arg12 arg13 arg14 arg15 arg16 f10 v (n12 (before (nc c arg0 f0) (s - 1) + j)) (s - 1) j b)

/-- Slot and next chunk as words. -/
def slW (i : ℕ) : BitVec 32 := wd (i % 12)
def nuW (i : ℕ) : BitVec 32 := wd (ch (nc c arg0 f0) (i + 12)).1
def ncW (i : ℕ) : BitVec 32 := wd (ch (nc c arg0 f0) (i + 12)).2

theorem ch_bd (k : ℕ) : (ch (nc c arg0 f0) k).1 ≤ 36 ∧ (ch (nc c arg0 f0) k).2 < 8 := by
  have h1 := ch_le36 (nc c arg0 f0) k
  have h2 := ch_lt (nc c arg0 f0) (nc_pos c arg0 f0) k
  refine ⟨h1, ?_⟩
  rcases Nat.lt_or_ge (ch (nc c arg0 f0) k).1 36 with h | h
  · exact Nat.lt_of_lt_of_le (h2.1 h) (nc_le c arg0 f0 _)
  · rw [h2.2 (by omega)]; omega

/-- How many chunks of keys and of values a step takes in. -/
def mK' (s : ℕ) : ℕ := if s < 36 then nc c arg0 f0 s else 0
def mV' (s : ℕ) : ℕ := if 0 < s then nc c arg0 f0 (s - 1) else 0
theorem mK'_lt {s k : ℕ} (h : k < mK' c arg0 f0 s) : s < 36 ∧ k < nc c arg0 f0 s := by unfold mK' at h; split_ifs at h <;> omega
theorem mV'_lt {s k : ℕ} (h : k < mV' c arg0 f0 s) : 0 < s ∧ k < nc c arg0 f0 (s - 1) := by unfold mV' at h; split_ifs at h <;> omega

/-- What a loop holds. -/
def LI (s : ℕ) (v : FVec F S16x1 .f32) (k j : ℕ) : sProp 𝕄 :=
  iprop((arg0.view.loc (c : Thread nD τ) ↦{q0} f0)
    ∗ Ring.AtW (stK c arg0 arg5 arg9 arg17 f0 f5 q5 KP) (cons (before (nc c arg0 f0) s + k)) ∗ Ring.AtW (stV c arg0 arg6 arg10 arg18 f0 f6 q6 VP) (cons (before (nc c arg0 f0) (s - 1) + j))
    ∗ (∃ b : Bufs (F := F) c arg8 arg11 arg12 arg13 arg14 arg15 arg16, ⌜Inv s k j v b⌝ ∗ held c arg8 arg11 arg12 arg13 arg14 arg15 arg16 b) ∗ (∃ W, owes (c : Thread nD τ) 0 W))

attribute [local irreducible] ch before

set_option maxHeartbeats 1000000 in
theorem t4_loop (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v19 v39 v64 : BitVec 32) (v92 : FVec F S16x1 .f32) (hw9 : k0_chk9 s v39 v64)
    (hnk : nK s v39 = mK' c arg0 f0 s) (hnv : nV s v64 = mV' c arg0 f0 s) {α : Type} {Q : α → sProp 𝕄}
    {kk : BitVec 32 × BitVec 32 × BitVec 32 × BitVec 32 × BitVec 32 × BitVec 32 → Prog (TpuEff nD τ sig (Elt F) Λ₀ .tc) α} {ok} :
    LI c arg0 arg5 arg6 arg8 arg9 arg10 arg11 arg12 arg13 arg14 arg15 arg16 arg17 arg18 f0 f5 f6 q5 q6 q0 KP VP Inv s v92 0 0 ⊢
      iprop((LI c arg0 arg5 arg6 arg8 arg9 arg10 arg11 arg12 arg13 arg14 arg15 arg16 arg17 arg18 f0 f5 f6 q5 q6 q0 KP VP Inv s v92 (min (mK' c arg0 f0 s) (mV' c arg0 f0 s)) (min (mK' c arg0 f0 s) (mV' c arg0 f0 s)) -∗
        wp frame (wpE (defs₀ (F := F)) Variants.none c none) Set.univ (kk
          (slW (before (nc c arg0 f0) s + min (mK' c arg0 f0 s) (mV' c arg0 f0 s)), slW (before (nc c arg0 f0) (s.val - 1) + min (mK' c arg0 f0 s) (mV' c arg0 f0 s)),
            nuW c arg0 f0 (before (nc c arg0 f0) s + min (mK' c arg0 f0 s) (mV' c arg0 f0 s)), ncW c arg0 f0 (before (nc c arg0 f0) s + min (mK' c arg0 f0 s) (mV' c arg0 f0 s)),
            nuW c arg0 f0 (before (nc c arg0 f0) (s.val - 1) + min (mK' c arg0 f0 s) (mV' c arg0 f0 s)), ncW c arg0 f0 (before (nc c arg0 f0) (s.val - 1) + min (mK' c arg0 f0 s) (mV' c arg0 f0 s)))) Q)
      -∗ wp frame (wpE (defs₀ (F := F)) Variants.none c none) Set.univ
        (Scf.Loop.for (k0_t4_loop s v39 v64) ok (slW (before (nc c arg0 f0) s), slW (before (nc c arg0 f0) (s.val - 1)), nuW c arg0 f0 (before (nc c arg0 f0) s), ncW c arg0 f0 (before (nc c arg0 f0) s),
            nuW c arg0 f0 (before (nc c arg0 f0) (s.val - 1)), ncW c arg0 f0 (before (nc c arg0 f0) (s.val - 1)))
          (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92) >>= kk) Q) := by
  iintro HI Hk
  have hs37 : s.val < 37 := by have := s.isLt; have e : k0_t3_loop.trips = 37 := (by decide); omega
  sl_for (fun (k : ℕ) (a : BitVec 32 × BitVec 32 × BitVec 32 × BitVec 32 × BitVec 32 × BitVec 32) =>
    iprop(LI c arg0 arg5 arg6 arg8 arg9 arg10 arg11 arg12 arg13 arg14 arg15 arg16 arg17 arg18 f0 f5 f6 q5 q6 q0 KP VP Inv s v92 k k ∗
      ⌜a = (slW (before (nc c arg0 f0) s + k), slW (before (nc c arg0 f0) (s.val - 1) + k), nuW c arg0 f0 (before (nc c arg0 f0) s + k), ncW c arg0 f0 (before (nc c arg0 f0) s + k),
        nuW c arg0 f0 (before (nc c arg0 f0) (s.val - 1) + k), ncW c arg0 f0 (before (nc c arg0 f0) (s.val - 1) + k))⌝)) $$ [HI]
  case region =>
    intro k a
    unfold LI
    iintro ⟨⟨H0, HK, HV, ⟨%b, %hb, Hb⟩, How⟩, %ha⟩
    subst ha
    icases (held_out c arg8 arg11 arg12 arg13 arg14 arg15 arg16 b) $$ Hb with ⟨H8, H11, H12, H13, H14, H15, H16⟩
    have hkk := ((facts4 s v39 v64).2.2 k).2
    rw [hnk, hnv] at hkk
    have hkK := mK'_lt c arg0 f0 (s := s.val) (k := k.val) (by omega)
    have hkV := mV'_lt c arg0 f0 (s := s.val) (k := k.val) (by omega)
    icases (consK_focus c arg0 arg5 arg9 arg17 f0 f5 q5 KP (before (nc c arg0 f0) s + k) (n12 (before (nc c arg0 f0) s + k)) rfl) $$ HK with ⟨HKi, HKr⟩
    icases (consV_focus c arg0 arg6 arg10 arg18 f0 f6 q6 VP (before (nc c arg0 f0) (s.val - 1) + k) (n12 (before (nc c arg0 f0) (s.val - 1) + k)) rfl) $$ HV with ⟨HVi, HVr⟩
    have h := T4.t4_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP b.b11 b.b12 b.b15 b.b13 b.b14 hKP hVP s v17 v19 v39 v64 v92 hw9 k
      (before (nc c arg0 f0) s + k) _ _ (n12 (before (nc c arg0 f0) s + k)) rfl (before (nc c arg0 f0) (s.val - 1) + k) _ _ (n12 (before (nc c arg0 f0) (s.val - 1) + k)) rfl
      ((ch_unit (nc c arg0 f0) (nc_pos c arg0 f0) s (by omega)).2 hkK.1 k hkK.2) hkK.1 (ch_bd c arg0 f0 _).1 (ch_bd c arg0 f0 _).2 rfl
      ((ch_unit (nc c arg0 f0) (nc_pos c arg0 f0) (s.val - 1) (by omega)).2 (by omega) k hkV.2) hkV.1 (ch_bd c arg0 f0 _).1 (ch_bd c arg0 f0 _).2 rfl
    iapply wp_wand $$ [H0 HKi HVi H11 H12 H15 H13 H14 How]
    · iapply h
      isplitl [H0]; · iexact H0
      isplitl [HKi]; · iexact HKi
      isplitl [HVi]; · iexact HVi
      isplitl [H11]; · iexact H11
      isplitl [H12]; · iexact H12
      isplitl [H15]; · iexact H15
      isplitl [H13]; · iexact H13
      isplitl [H14]; · iexact H14
      iexact How
    iintro %r ⟨H0, HKi, HVi, ⟨%f9, %f10, %hf, H11, H12, H13, H14⟩, H15, How, %hr⟩
    isplitl [H0 HKi HKr HVi HVr H11 H12 H13 H14 H15 How H8 H16]
    · isplitl [H0]; · iexact H0
      isplitl [HKi HKr]
      · iapply (consK_put c arg0 arg5 arg9 arg17 f0 f5 q5 KP (before (nc c arg0 f0) s + k) (n12 (before (nc c arg0 f0) s + k)) rfl)
        isplitl [HKi]; · iexact HKi
        iexact HKr
      isplitl [HVi HVr]
      · iapply (consV_put c arg0 arg6 arg10 arg18 f0 f6 q6 VP (before (nc c arg0 f0) (s.val - 1) + k) (n12 (before (nc c arg0 f0) (s.val - 1) + k)) rfl)
        isplitl [HVi]; · iexact HVi
        iexact HVr
      isplitr [How]
      · iexists (bK c arg8 arg9 arg11 arg12 arg13 arg14 arg15 arg16 f9 (n12 (before (nc c arg0 f0) s + k)) s k (lw c arg0 f0 (s.val / 12))
          (bV c arg8 arg10 arg11 arg12 arg13 arg14 arg15 arg16 f10 v92 (n12 (before (nc c arg0 f0) (s.val - 1) + k)) (s.val - 1) k b))
        isplitr
        · ipureintro
          exact hK _ _ _ _ _ _ hkK.1 hkK.2 hf.1 (hV _ _ _ _ _ _ hkV.1 (by omega) hkV.2 hf.2 hb)
        iapply (held_KV c arg8 arg9 arg10 arg11 arg12 arg13 arg14 arg15 arg16)
        isplitl [H8]; · iexact H8
        isplitl [H11]; · iexact H11
        isplitl [H12]; · iexact H12
        isplitl [H13]; · iexact H13
        isplitl [H14]; · iexact H14
        isplitl [H15]; · iexact H15
        iexact H16
      iexact How
    · ipureintro; exact hr
  · isplitl [HI]; · iexact HI
    ipureintro; rfl
  iintro %a ⟨HI, %ha⟩
  have ht : Scf.trips (k0_t4_loop s v39 v64).lb (k0_t4_loop s v39 v64).ub (k0_t4_loop s v39 v64).st = min (mK' c arg0 f0 s) (mV' c arg0 f0 s) := by
    rw [← hnk, ← hnv]; exact (facts4 s v39 v64).2.1.trans (Nat.sub_zero _)
  rw [ht] at ha ⊢
  subst ha
  iapply Hk
  iexact HI
set_option maxHeartbeats 1000000 in
theorem t6_loop (hKP : LandsK c arg0 arg5 arg9 f0 f5 KP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v39 v64 v104 : BitVec 32) (v92 : FVec F S16x1 .f32) (hw9 : k0_chk9 s v39 v64)
    (hnk : nK s v39 = mK' c arg0 f0 s) (hnv : nV s v64 = mV' c arg0 f0 s) (hv104 : v104 = wd (min (nK s v39) (nV s v64))) {α : Type} {Q : α → sProp 𝕄}
    {kk : BitVec 32 × BitVec 32 × BitVec 32 → Prog (TpuEff nD τ sig (Elt F) Λ₀ .tc) α} {ok} :
    LI c arg0 arg5 arg6 arg8 arg9 arg10 arg11 arg12 arg13 arg14 arg15 arg16 arg17 arg18 f0 f5 f6 q5 q6 q0 KP VP Inv s v92 (min (mK' c arg0 f0 s) (mV' c arg0 f0 s)) (min (mK' c arg0 f0 s) (mV' c arg0 f0 s)) ⊢
      iprop((LI c arg0 arg5 arg6 arg8 arg9 arg10 arg11 arg12 arg13 arg14 arg15 arg16 arg17 arg18 f0 f5 f6 q5 q6 q0 KP VP Inv s v92 (mK' c arg0 f0 s) (min (mK' c arg0 f0 s) (mV' c arg0 f0 s)) -∗
        wp frame (wpE (defs₀ (F := F)) Variants.none c none) Set.univ (kk (slW (before (nc c arg0 f0) s + (mK' c arg0 f0 s)), nuW c arg0 f0 (before (nc c arg0 f0) s + (mK' c arg0 f0 s)), ncW c arg0 f0 (before (nc c arg0 f0) s + (mK' c arg0 f0 s)))) Q)
      -∗ wp frame (wpE (defs₀ (F := F)) Variants.none c none) Set.univ
        (Scf.Loop.for (k0_t6_loop s v39 v64) ok (slW (before (nc c arg0 f0) s + (min (mK' c arg0 f0 s) (mV' c arg0 f0 s))), nuW c arg0 f0 (before (nc c arg0 f0) s + (min (mK' c arg0 f0 s) (mV' c arg0 f0 s))), ncW c arg0 f0 (before (nc c arg0 f0) s + (min (mK' c arg0 f0 s) (mV' c arg0 f0 s))))
          (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v104) >>= kk) Q) := by
  iintro HI Hk
  have hs37 : s.val < 37 := by have := s.isLt; have e : k0_t3_loop.trips = 37 := (by decide); omega
  sl_for (fun (k : ℕ) (a : BitVec 32 × BitVec 32 × BitVec 32) =>
    iprop(LI c arg0 arg5 arg6 arg8 arg9 arg10 arg11 arg12 arg13 arg14 arg15 arg16 arg17 arg18 f0 f5 f6 q5 q6 q0 KP VP Inv s v92 (min (mK' c arg0 f0 s) (mV' c arg0 f0 s) + k) (min (mK' c arg0 f0 s) (mV' c arg0 f0 s)) ∗ ⌜a = (slW (before (nc c arg0 f0) s + (min (mK' c arg0 f0 s) (mV' c arg0 f0 s) + k)), nuW c arg0 f0 (before (nc c arg0 f0) s + (min (mK' c arg0 f0 s) (mV' c arg0 f0 s) + k)), ncW c arg0 f0 (before (nc c arg0 f0) s + (min (mK' c arg0 f0 s) (mV' c arg0 f0 s) + k)))⌝)) $$ [HI]
  case region =>
    intro k a
    unfold LI
    iintro ⟨⟨H0, HK, HV, ⟨%b, %hb, Hb⟩, How⟩, %ha⟩
    subst ha
    icases (held_out c arg8 arg11 arg12 arg13 arg14 arg15 arg16 b) $$ Hb with ⟨H8, H11, H12, H13, H14, H15, H16⟩
    have hkk := ((facts6 s v39 v64).2.2 k).2
    rw [hnk, hnv] at hkk
    have hkX := mK'_lt c arg0 f0 hkk
    icases (consK_focus c arg0 arg5 arg9 arg17 f0 f5 q5 KP (before (nc c arg0 f0) s + (min (mK' c arg0 f0 s) (mV' c arg0 f0 s) + k.val)) (n12 (before (nc c arg0 f0) s + (min (mK' c arg0 f0 s) (mV' c arg0 f0 s) + k.val))) rfl) $$ HK with ⟨HXi, HXr⟩
    have h := T6.t6_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 q5 q0 KP b.b11 b.b12 b.b15 hKP s v17 v39 v64 v104 hw9 k
      (before (nc c arg0 f0) s + (min (mK' c arg0 f0 s) (mV' c arg0 f0 s) + k.val)) _ _ (n12 (before (nc c arg0 f0) s + (min (mK' c arg0 f0 s) (mV' c arg0 f0 s) + k.val))) rfl hv104
      (by rw [hnk, hnv]; exact (ch_unit (nc c arg0 f0) (nc_pos c arg0 f0) s (by omega)).2 hkX.1 _ hkX.2) hkX.1 (ch_bd c arg0 f0 _).1 (ch_bd c arg0 f0 _).2 rfl
    rw [hnk, hnv] at h
    iapply wp_wand $$ [H0 HXi H11 H12 H15 How]
    · iapply h
      isplitl [H0]; · iexact H0
      isplitl [HXi]; · iexact HXi
      isplitl [H11]; · iexact H11
      isplitl [H12]; · iexact H12
      isplitl [H15]; · iexact H15
      iexact How
    iintro %r ⟨H0, HXi, ⟨%f9, %hf, H11, H12⟩, H15, How, %hr⟩
    isplitl [H0 HXi HXr HV H11 H12 H13 H14 H15 How H8 H16]
    · isplitl [H0]; · iexact H0
      isplitl [HXi HXr]
      · iapply (consK_put c arg0 arg5 arg9 arg17 f0 f5 q5 KP (before (nc c arg0 f0) s + (min (mK' c arg0 f0 s) (mV' c arg0 f0 s) + k.val)) (n12 (before (nc c arg0 f0) s + (min (mK' c arg0 f0 s) (mV' c arg0 f0 s) + k.val))) rfl)
        isplitl [HXi]; · iexact HXi
        iexact HXr
      isplitl [HV]; · iexact HV
      isplitr [How]
      · iexists (bK c arg8 arg9 arg11 arg12 arg13 arg14 arg15 arg16 f9 (n12 (before (nc c arg0 f0) s + (min (mK' c arg0 f0 s) (mV' c arg0 f0 s) + k.val))) s (min (mK' c arg0 f0 s) (mV' c arg0 f0 s) + k.val) (lw c arg0 f0 (s.val / 12)) b)
        isplitr
        · ipureintro
          exact hK _ _ _ _ _ _ hkX.1 hkX.2 hf hb
        iapply (held_K c arg8 arg9 arg11 arg12 arg13 arg14 arg15 arg16)
        isplitl [H8]; · iexact H8
        isplitl [H11]; · iexact H11
        isplitl [H12]; · iexact H12
        isplitl [H13]; · iexact H13
        isplitl [H14]; · iexact H14
        isplitl [H15]; · iexact H15
        iexact H16
      iexact How
    · ipureintro; exact hr
  · isplitl [HI]; · iexact HI
    ipureintro; rfl
  iintro %a ⟨HI, %ha⟩
  have ht : min (mK' c arg0 f0 s) (mV' c arg0 f0 s) + Scf.trips (k0_t6_loop s v39 v64).lb (k0_t6_loop s v39 v64).ub (k0_t6_loop s v39 v64).st = mK' c arg0 f0 s := by
    have h := (facts6 s v39 v64).2.1
    rw [hnk, hnv] at h
    have h' : Scf.trips (k0_t6_loop s v39 v64).lb (k0_t6_loop s v39 v64).ub (k0_t6_loop s v39 v64).st = mK' c arg0 f0 s - min (mK' c arg0 f0 s) (mV' c arg0 f0 s) := h
    rw [h']; omega
  rw [ht] at ha ⊢
  subst ha
  iapply Hk
  iexact HI
set_option maxHeartbeats 1000000 in
theorem t8_loop (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v39 v64 v104 : BitVec 32) (v92 : FVec F S16x1 .f32) (hw9 : k0_chk9 s v39 v64)
    (hnk : nK s v39 = mK' c arg0 f0 s) (hnv : nV s v64 = mV' c arg0 f0 s) (hv104 : v104 = wd (min (nK s v39) (nV s v64))) {α : Type} {Q : α → sProp 𝕄}
    {kk : BitVec 32 × BitVec 32 × BitVec 32 → Prog (TpuEff nD τ sig (Elt F) Λ₀ .tc) α} {ok} :
    LI c arg0 arg5 arg6 arg8 arg9 arg10 arg11 arg12 arg13 arg14 arg15 arg16 arg17 arg18 f0 f5 f6 q5 q6 q0 KP VP Inv s v92 (mK' c arg0 f0 s) (min (mK' c arg0 f0 s) (mV' c arg0 f0 s)) ⊢
      iprop((LI c arg0 arg5 arg6 arg8 arg9 arg10 arg11 arg12 arg13 arg14 arg15 arg16 arg17 arg18 f0 f5 f6 q5 q6 q0 KP VP Inv s v92 (mK' c arg0 f0 s) (mV' c arg0 f0 s) -∗
        wp frame (wpE (defs₀ (F := F)) Variants.none c none) Set.univ (kk (slW (before (nc c arg0 f0) (s.val - 1) + (mV' c arg0 f0 s)), nuW c arg0 f0 (before (nc c arg0 f0) (s.val - 1) + (mV' c arg0 f0 s)), ncW c arg0 f0 (before (nc c arg0 f0) (s.val - 1) + (mV' c arg0 f0 s)))) Q)
      -∗ wp frame (wpE (defs₀ (F := F)) Variants.none c none) Set.univ
        (Scf.Loop.for (k0_t8_loop s v39 v64) ok (slW (before (nc c arg0 f0) (s.val - 1) + (min (mK' c arg0 f0 s) (mV' c arg0 f0 s))), nuW c arg0 f0 (before (nc c arg0 f0) (s.val - 1) + (min (mK' c arg0 f0 s) (mV' c arg0 f0 s))), ncW c arg0 f0 (before (nc c arg0 f0) (s.val - 1) + (min (mK' c arg0 f0 s) (mV' c arg0 f0 s))))
          (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v92 v104) >>= kk) Q) := by
  iintro HI Hk
  have hs37 : s.val < 37 := by have := s.isLt; have e : k0_t3_loop.trips = 37 := (by decide); omega
  sl_for (fun (k : ℕ) (a : BitVec 32 × BitVec 32 × BitVec 32) =>
    iprop(LI c arg0 arg5 arg6 arg8 arg9 arg10 arg11 arg12 arg13 arg14 arg15 arg16 arg17 arg18 f0 f5 f6 q5 q6 q0 KP VP Inv s v92 (mK' c arg0 f0 s) (min (mK' c arg0 f0 s) (mV' c arg0 f0 s) + k) ∗ ⌜a = (slW (before (nc c arg0 f0) (s.val - 1) + (min (mK' c arg0 f0 s) (mV' c arg0 f0 s) + k)), nuW c arg0 f0 (before (nc c arg0 f0) (s.val - 1) + (min (mK' c arg0 f0 s) (mV' c arg0 f0 s) + k)), ncW c arg0 f0 (before (nc c arg0 f0) (s.val - 1) + (min (mK' c arg0 f0 s) (mV' c arg0 f0 s) + k)))⌝)) $$ [HI]
  case region =>
    intro k a
    unfold LI
    iintro ⟨⟨H0, HK, HV, ⟨%b, %hb, Hb⟩, How⟩, %ha⟩
    subst ha
    icases (held_out c arg8 arg11 arg12 arg13 arg14 arg15 arg16 b) $$ Hb with ⟨H8, H11, H12, H13, H14, H15, H16⟩
    have hkk := ((facts8 s v39 v64).2.2 k).2
    rw [hnk, hnv] at hkk
    have hkX := mV'_lt c arg0 f0 hkk
    icases (consV_focus c arg0 arg6 arg10 arg18 f0 f6 q6 VP (before (nc c arg0 f0) (s.val - 1) + (min (mK' c arg0 f0 s) (mV' c arg0 f0 s) + k.val)) (n12 (before (nc c arg0 f0) (s.val - 1) + (min (mK' c arg0 f0 s) (mV' c arg0 f0 s) + k.val))) rfl) $$ HV with ⟨HXi, HXr⟩
    have h := T8.t8_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f6 q6 q0 VP b.b11 b.b13 b.b14 hVP s v17 v39 v64 v104 v92 hw9 k
      (before (nc c arg0 f0) (s.val - 1) + (min (mK' c arg0 f0 s) (mV' c arg0 f0 s) + k.val)) _ _ (n12 (before (nc c arg0 f0) (s.val - 1) + (min (mK' c arg0 f0 s) (mV' c arg0 f0 s) + k.val))) rfl
      (by rw [hnk, hnv]; exact (ch_unit (nc c arg0 f0) (nc_pos c arg0 f0) (s.val - 1) (by omega)).2 (by omega) _ hkX.2) hkX.1 (ch_bd c arg0 f0 _).1 (ch_bd c arg0 f0 _).2 rfl
    rw [hnk, hnv] at h
    iapply wp_wand $$ [H0 HXi H11 H13 H14 How]
    · iapply h
      isplitl [H0]; · iexact H0
      isplitl [HXi]; · iexact HXi
      isplitl [H11]; · iexact H11
      isplitl [H13]; · iexact H13
      isplitl [H14]; · iexact H14
      iexact How
    iintro %r ⟨H0, HXi, ⟨%f10, %hf, H13, H14⟩, H11, How, %hr⟩
    isplitl [H0 HXi HXr HK H11 H12 H13 H14 H15 How H8 H16]
    · isplitl [H0]; · iexact H0
      isplitl [HK]; · iexact HK
      isplitl [HXi HXr]
      · iapply (consV_put c arg0 arg6 arg10 arg18 f0 f6 q6 VP (before (nc c arg0 f0) (s.val - 1) + (min (mK' c arg0 f0 s) (mV' c arg0 f0 s) + k.val)) (n12 (before (nc c arg0 f0) (s.val - 1) + (min (mK' c arg0 f0 s) (mV' c arg0 f0 s) + k.val))) rfl)
        isplitl [HXi]; · iexact HXi
        iexact HXr
      isplitr [How]
      · iexists (bV c arg8 arg10 arg11 arg12 arg13 arg14 arg15 arg16 f10 v92 (n12 (before (nc c arg0 f0) (s.val - 1) + (min (mK' c arg0 f0 s) (mV' c arg0 f0 s) + k.val))) (s.val - 1) (min (mK' c arg0 f0 s) (mV' c arg0 f0 s) + k.val) b)
        isplitr
        · ipureintro
          exact hV _ _ _ _ _ _ hkX.1 (by omega) hkX.2 hf hb
        iapply (held_V c arg8 arg10 arg11 arg12 arg13 arg14 arg15 arg16)
        isplitl [H8]; · iexact H8
        isplitl [H11]; · iexact H11
        isplitl [H12]; · iexact H12
        isplitl [H13]; · iexact H13
        isplitl [H14]; · iexact H14
        isplitl [H15]; · iexact H15
        iexact H16
      iexact How
    · ipureintro; exact hr
  · isplitl [HI]; · iexact HI
    ipureintro; rfl
  iintro %a ⟨HI, %ha⟩
  have ht : min (mK' c arg0 f0 s) (mV' c arg0 f0 s) + Scf.trips (k0_t8_loop s v39 v64).lb (k0_t8_loop s v39 v64).ub (k0_t8_loop s v39 v64).st = mV' c arg0 f0 s := by
    have h := (facts8 s v39 v64).2.1
    rw [hnk, hnv] at h
    have h' : Scf.trips (k0_t8_loop s v39 v64).lb (k0_t8_loop s v39 v64).ub (k0_t8_loop s v39 v64).st = mV' c arg0 f0 s - min (mK' c arg0 f0 s) (mV' c arg0 f0 s) := h
    rw [h']; omega
  rw [ht] at ha ⊢
  subst ha
  iapply Hk
  iexact HI
end Loops

end Cert.Proof.Kernel
-- ==== Proof.T3.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Loop

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
/-- The query row, the new key's row and the maxima of the unit before step `s`, as the step reads them, -/
def rdQ (s : Fin k0_t3_loop.trips) (f1 : Buf (Elt F) (arg1.view.loc (c : Thread nD τ))) : Vec F S1x8x128 .f32 :=
  View.readAt (Elt F) arg1.view (Rect.unit (s := S36x8x128) (k0_off17 s) S1x8x128.size (k0_off17_inb s)).toLoadRect f1
def rdN (s : Fin k0_t3_loop.trips) (f2 : Buf (Elt F) (arg2.view.loc (c : Thread nD τ))) : Vec F S1x1x128 .f32 :=
  View.readAt (Elt F) arg2.view (Rect.unit (s := S36x1x128) (k0_off18 s) S1x1x128.size (k0_off18_inb s)).toLoadRect f2
def rdM (s : Fin k0_t3_loop.trips) (f12 : Buf (Elt F) (arg12.view.loc (c : Thread nD τ))) : Vec F S1x16x128 .f32 :=
  View.readAt (Elt F) arg12.view (Rect.unit (s := S2x16x128) (k0_off19 s) S1x16x128.size (k0_off19_inb s)).toLoadRect f12

/-- the buffers once step `s` has made ready for its chunks, -/
def begB (f1 : Buf (Elt F) (arg1.view.loc (c : Thread nD τ))) (s : Fin k0_t3_loop.trips) (b : Bufs (F := F) c arg8 arg11 arg12 arg13 arg14 arg15 arg16) : Bufs (F := F) c arg8 arg11 arg12 arg13 arg14 arg15 arg16 :=
  { b with
    b12 := if h : k0_cond5 s = 1#1 then arg12.view.writes (Elt F) b.b12 [⟨Rect.unit (s := S2x16x128) (k0_off22 s) S1x16x128.size (k0_off22_inb s h), k0_pay3 (F := F)⟩] else b.b12
    b13 := arg13.view.writes (Elt F) arg13.view.junk [⟨Rect.unit (s := S128x8) ![0, 0] S128x8.size inb_S128x8_S128x8_0_0, k0_pay4 (F := F)⟩]
    b14 := arg14.view.writes (Elt F) arg14.view.junk [⟨Rect.unit (s := S16x128) ![0, 0] S16x128.size inb_S16x128_S16x128_0_0, k0_pay5 (F := F)⟩]
    b15 := if h : k0_cond5 s = 1#1 then arg15.view.writes (Elt F) b.b15 [⟨Rect.unit (s := S2x16x256) (k0_off21 s) S1x16x256.size (k0_off21_inb s h),
        k0_pay2 (View.readAt (Elt F) arg1.view (Rect.unit (s := S36x8x128) (k0_off20 s) S1x8x128.size (k0_off20_inb s h)).toLoadRect f1)⟩] else b.b15 }

/-- and once it has stored the results of the unit before. -/
def endB (f3 : Buf (Elt F) (arg3.view.loc (c : Thread nD τ))) (f4 : Buf (Elt F) (arg4.view.loc (c : Thread nD τ))) (s : Fin k0_t3_loop.trips) (v82 v91 : FVec F S8x1 .f32)
    (b : Bufs (F := F) c arg8 arg11 arg12 arg13 arg14 arg15 arg16) : Bufs (F := F) c arg8 arg11 arg12 arg13 arg14 arg15 arg16 :=
  { b with
    b8 := if h : k0_cond14 s = 1#1 then arg8.view.writes (Elt F) b.b8 [⟨Rect.unit (s := S288x128) (k0_off128 s) S8x128.size (k0_off128_inb s h),
        k0_pay8 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)⟩] else b.b8
    b16 := if h : k0_cond14 s = 1#1 then arg16.view.writes (Elt F) b.b16 [⟨Rect.unit (s := S288x128) (k0_off128 s) S8x128.size (k0_off128_inb s h),
        k0_pay9 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)
          (View.readAt (Elt F) arg3.view (Rect.unit (s := S36x1x128) (k0_off127 s) S1x1x128.size (k0_off127_inb s h)).toLoadRect f3)⟩] else b.b16 }

theorem held_endB (f3 : Buf (Elt F) (arg3.view.loc (c : Thread nD τ))) (f4 : Buf (Elt F) (arg4.view.loc (c : Thread nD τ))) (s : Fin k0_t3_loop.trips) (v82 v91 : FVec F S8x1 .f32)
    (b : Bufs (F := F) c arg8 arg11 arg12 arg13 arg14 arg15 arg16) (h : k0_cond14 s = 1#1) :
    iprop((arg8.view.loc (c : Thread nD τ) ↦{fullShare} arg8.view.writes (Elt F) b.b8 [⟨Rect.unit (s := S288x128) (k0_off128 s) S8x128.size (k0_off128_inb s h),
        k0_pay8 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)⟩])
      ∗ (arg11.view.loc (c : Thread nD τ) ↦{fullShare} b.b11) ∗ (arg12.view.loc (c : Thread nD τ) ↦{fullShare} b.b12) ∗ (arg13.view.loc (c : Thread nD τ) ↦{fullShare} b.b13)
      ∗ (arg14.view.loc (c : Thread nD τ) ↦{fullShare} b.b14) ∗ (arg15.view.loc (c : Thread nD τ) ↦{fullShare} b.b15)
      ∗ (arg16.view.loc (c : Thread nD τ) ↦{fullShare} arg16.view.writes (Elt F) b.b16 [⟨Rect.unit (s := S288x128) (k0_off128 s) S8x128.size (k0_off128_inb s h),
        k0_pay9 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)
          (View.readAt (Elt F) arg3.view (Rect.unit (s := S36x1x128) (k0_off127 s) S1x1x128.size (k0_off127_inb s h)).toLoadRect f3)⟩]))
    ⊢ held c arg8 arg11 arg12 arg13 arg14 arg15 arg16 (endB c arg3 arg4 arg8 arg11 arg12 arg13 arg14 arg15 arg16 f3 f4 s v82 v91 b) := by
  simp only [held, endB, dif_pos h]
  exact BIBase.Entails.rfl

theorem held_endB' (f3 : Buf (Elt F) (arg3.view.loc (c : Thread nD τ))) (f4 : Buf (Elt F) (arg4.view.loc (c : Thread nD τ))) (s : Fin k0_t3_loop.trips) (v82 v91 : FVec F S8x1 .f32)
    (b : Bufs (F := F) c arg8 arg11 arg12 arg13 arg14 arg15 arg16) (h : ¬ k0_cond14 s = 1#1) :
    iprop((arg8.view.loc (c : Thread nD τ) ↦{fullShare} b.b8)
      ∗ (arg11.view.loc (c : Thread nD τ) ↦{fullShare} b.b11) ∗ (arg12.view.loc (c : Thread nD τ) ↦{fullShare} b.b12) ∗ (arg13.view.loc (c : Thread nD τ) ↦{fullShare} b.b13)
      ∗ (arg14.view.loc (c : Thread nD τ) ↦{fullShare} b.b14) ∗ (arg15.view.loc (c : Thread nD τ) ↦{fullShare} b.b15)
      ∗ (arg16.view.loc (c : Thread nD τ) ↦{fullShare} b.b16))
    ⊢ held c arg8 arg11 arg12 arg13 arg14 arg15 arg16 (endB c arg3 arg4 arg8 arg11 arg12 arg13 arg14 arg15 arg16 f3 f4 s v82 v91 b) := by
  simp only [held, endB, dif_neg h]
  exact BIBase.Entails.rfl

theorem held_begB (f1 : Buf (Elt F) (arg1.view.loc (c : Thread nD τ))) (s : Fin k0_t3_loop.trips) (b : Bufs (F := F) c arg8 arg11 arg12 arg13 arg14 arg15 arg16) (h : k0_cond5 s = 1#1) :
    iprop((arg8.view.loc (c : Thread nD τ) ↦{fullShare} b.b8)
      ∗ (arg11.view.loc (c : Thread nD τ) ↦{fullShare} b.b11)
      ∗ (arg12.view.loc (c : Thread nD τ) ↦{fullShare} arg12.view.writes (Elt F) b.b12 [⟨Rect.unit (s := S2x16x128) (k0_off22 s) S1x16x128.size (k0_off22_inb s h), k0_pay3 (F := F)⟩])
      ∗ (arg13.view.loc (c : Thread nD τ) ↦{fullShare} arg13.view.writes (Elt F) arg13.view.junk [⟨Rect.unit (s := S128x8) ![0, 0] S128x8.size inb_S128x8_S128x8_0_0, k0_pay4 (F := F)⟩])
      ∗ (arg14.view.loc (c : Thread nD τ) ↦{fullShare} arg14.view.writes (Elt F) arg14.view.junk [⟨Rect.unit (s := S16x128) ![0, 0] S16x128.size inb_S16x128_S16x128_0_0, k0_pay5 (F := F)⟩])
      ∗ (arg15.view.loc (c : Thread nD τ) ↦{fullShare} arg15.view.writes (Elt F) b.b15 [⟨Rect.unit (s := S2x16x256) (k0_off21 s) S1x16x256.size (k0_off21_inb s h),
        k0_pay2 (View.readAt (Elt F) arg1.view (Rect.unit (s := S36x8x128) (k0_off20 s) S1x8x128.size (k0_off20_inb s h)).toLoadRect f1)⟩])
      ∗ (arg16.view.loc (c : Thread nD τ) ↦{fullShare} b.b16))
    ⊢ held c arg8 arg11 arg12 arg13 arg14 arg15 arg16 (begB c arg1 arg8 arg11 arg12 arg13 arg14 arg15 arg16 f1 s b) := by
  simp only [held, begB, dif_pos h]
  exact BIBase.Entails.rfl

theorem held_begB' (f1 : Buf (Elt F) (arg1.view.loc (c : Thread nD τ))) (s : Fin k0_t3_loop.trips) (b : Bufs (F := F) c arg8 arg11 arg12 arg13 arg14 arg15 arg16) (h : ¬ k0_cond5 s = 1#1) :
    iprop((arg8.view.loc (c : Thread nD τ) ↦{fullShare} b.b8)
      ∗ (arg11.view.loc (c : Thread nD τ) ↦{fullShare} b.b11)
      ∗ (arg12.view.loc (c : Thread nD τ) ↦{fullShare} b.b12)
      ∗ (arg13.view.loc (c : Thread nD τ) ↦{fullShare} arg13.view.writes (Elt F) arg13.view.junk [⟨Rect.unit (s := S128x8) ![0, 0] S128x8.size inb_S128x8_S128x8_0_0, k0_pay4 (F := F)⟩])
      ∗ (arg14.view.loc (c : Thread nD τ) ↦{fullShare} arg14.view.writes (Elt F) arg14.view.junk [⟨Rect.unit (s := S16x128) ![0, 0] S16x128.size inb_S16x128_S16x128_0_0, k0_pay5 (F := F)⟩])
      ∗ (arg15.view.loc (c : Thread nD τ) ↦{fullShare} b.b15)
      ∗ (arg16.view.loc (c : Thread nD τ) ↦{fullShare} b.b16))
    ⊢ held c arg8 arg11 arg12 arg13 arg14 arg15 arg16 (begB c arg1 arg8 arg11 arg12 arg13 arg14 arg15 arg16 f1 s b) := by
  simp only [held, begB, dif_neg h]
  exact BIBase.Entails.rfl

theorem nk_eq (f0 : Buf (Elt F) (arg0.view.loc (c : Thread nD τ))) (s : Fin k0_t3_loop.trips) (v : BitVec 32) (h : v = View.readAt (Elt F) arg0.view (Rect.unit (s := S3) (k0_off15 s) S1.size (k0_off15_inb s)).toLoadRect f0 (Shape.Idx.first (by show 0 < S1.numel; decide))) :
    nK s v = mK' c arg0 f0 s := by
  have hl := lw_eq c arg0 f0 (k0_off15 s) (k0_off15_inb s) (Shape.Idx.first (by show 0 < S1.numel; decide)) (min s.val 35 / 12) (off75_eq s)
  rw [h, hl]
  unfold nK mK' nc
  split_ifs with h1
  · rw [Nat.min_eq_left (by omega)]
  · rfl

theorem nv_eq (f0 : Buf (Elt F) (arg0.view.loc (c : Thread nD τ))) (s : Fin k0_t3_loop.trips) (v : BitVec 32) (h : v = View.readAt (Elt F) arg0.view (Rect.unit (s := S3) (k0_off16 s) S1.size (k0_off16_inb s)).toLoadRect f0 (Shape.Idx.first (by show 0 < S1.numel; decide))) :
    nV s v = mV' c arg0 f0 s := by
  have hl := lw_eq c arg0 f0 (k0_off16 s) (k0_off16_inb s) (Shape.Idx.first (by show 0 < S1.numel; decide)) ((s.val - 1) / 12) (off105_eq s)
  rw [h, hl]
  unfold nV mV' nc
  rfl

section T3
variable (f0 : Buf (Elt F) (arg0.view.loc (c : Thread nD τ))) (f5 : Buf (Elt F) (arg5.view.loc (c : Thread nD τ))) (f6 : Buf (Elt F) (arg6.view.loc (c : Thread nD τ)))
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (Inv : ℕ → ℕ → ℕ → FVec F S16x1 .f32 → Bufs (F := F) c arg8 arg11 arg12 arg13 arg14 arg15 arg16 → Prop)
  (St : ℕ → Bufs (F := F) c arg8 arg11 arg12 arg13 arg14 arg15 arg16 → Prop)

theorem cond5_iff : ∀ s : Fin k0_t3_loop.trips, k0_cond5 s = if s.val < 36 then 1#1 else 0#1 := by decide
theorem cond14_iff : ∀ s : Fin k0_t3_loop.trips, k0_cond14 s = if 0 < s.val then 1#1 else 0#1 := by decide

attribute [local irreducible] ch before

set_option maxHeartbeats 2000000 in
theorem t3_tail (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v19 v39 v64 v44 v69 : BitVec 32) (v82 v91 : FVec F S8x1 .f32) (v92 : FVec F S16x1 .f32) (hw9 : k0_chk9 s v39 v64)
    (hnk : nK s v39 = mK' c arg0 f0 s) (hnv : nV s v64 = mV' c arg0 f0 s) (h44 : v44 = wK s v39) (h69 : v69 = wV s v64)
    (hEnd : ∀ b, Inv s (mK' c arg0 f0 s) (mV' c arg0 f0 s) v92 b → St (s.val + 1) (endB c arg3 arg4 arg8 arg11 arg12 arg13 arg14 arg15 arg16 f3 f4 s v82 v91 b)) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ LI c arg0 arg5 arg6 arg8 arg9 arg10 arg11 arg12 arg13 arg14 arg15 arg16 arg17 arg18 f0 f5 f6 q5 q6 q0 KP VP Inv s v92 0 0)
    ⊢ wp frame (wpE (defs₀ (F := F)) Variants.none c none) Set.univ (do
    let v104 : BitVec 32 := Scalar.minsi v44 v69
    let v105 : BitVec 32 := Scalar.subi v104 0#32
    let v107 : BitVec 32 := Scalar.divsi v105 1#32
    let v108 : BitVec 32 := Scalar.muli v107 1#32
    let v109 : BitVec 32 := Scalar.addi 0#32 v108
    let (v110_0, v110_1, v110_2, v110_3, v110_4, v110_5) ← Scf.Loop.for (k0_t4_loop s v39 v64) (k0_t4_ok s v39 v64 hw9) (slW (before (nc c arg0 f0) s), slW (before (nc c arg0 f0) (s.val - 1)), nuW c arg0 f0 (before (nc c arg0 f0) s), ncW c arg0 f0 (before (nc c arg0 f0) s), nuW c arg0 f0 (before (nc c arg0 f0) (s.val - 1)), ncW c arg0 f0 (before (nc c arg0 f0) (s.val - 1))) (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92)
    let (v111_0, v111_1, v111_2, v111_3, v111_4, v111_5) ← Scf.Loop.for (k0_t5_loop s v39 v64) (k0_t5_ok s v39 v64 hw9) (v110_0, v110_1, v110_2, v110_3, v110_4, v110_5) (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92 v109)
    let v112 : BitVec 32 := Scalar.subi v44 v104
    let v114 : BitVec 32 := Scalar.divsi v112 1#32
    let v115 : BitVec 32 := Scalar.muli v114 1#32
    let v116 : BitVec 32 := Scalar.addi v104 v115
    let (v117_0, v117_1, v117_2) ← Scf.Loop.for (k0_t6_loop s v39 v64) (k0_t6_ok s v39 v64 hw9) (v111_0, v111_2, v111_3) (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v104)
    let (v118_0, v118_1, v118_2) ← Scf.Loop.for (k0_t7_loop s v39 v64) (k0_t7_ok s v39 v64 hw9) (v117_0, v117_1, v117_2) (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v116)
    let v119 : BitVec 32 := Scalar.subi v69 v104
    let v121 : BitVec 32 := Scalar.divsi v119 1#32
    let v122 : BitVec 32 := Scalar.muli v121 1#32
    let v123 : BitVec 32 := Scalar.addi v104 v122
    let (v124_0, v124_1, v124_2) ← Scf.Loop.for (k0_t8_loop s v39 v64) (k0_t8_ok s v39 v64 hw9) (v111_1, v111_4, v111_5) (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v19 v39 v64 hw9 v92 v104)
    let (v125_0, v125_1, v125_2) ← Scf.Loop.for (k0_t9_loop s v39 v64) (k0_t9_ok s v39 v64 hw9) (v124_0, v124_1, v124_2) (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v19 v39 v64 hw9 v92 v123)
    if k0_h14 : k0_cond14 s = 1#1 then do
      let v131 : Vec F S16x128 .f32 ← Prog.lift (.load arg14 (Rect.unit (s := S16x128) ![0, 0] S16x128.size inb_S16x128_S16x128_0_0).toLoadRect (View.loadsAt_vmem h_S16x128))
      let v138 : Vec F S128x8 .f32 ← Prog.lift (.load arg13 (Rect.unit (s := S128x8) ![0, 0] S128x8.size inb_S128x8_S128x8_0_0).toLoadRect (View.loadsAt_vmem h_S128x8))
      let v143 : Vec F S1x1x128 .f32 ← Prog.lift (.load arg4 (Rect.unit (s := S36x1x128) (k0_off127 s) S1x1x128.size (k0_off127_inb s k0_h14)).toLoadRect (View.loadsAt_vmem h_S1x1x128))
      let v152 : Vec F S8x128 .f32 ← Prog.lift (.load arg8 (Rect.unit (s := S288x128) (k0_off128 s) S8x128.size (k0_off128_inb s k0_h14)).toLoadRect (View.loadsAt_vmem h_S8x128))
      Prog.lift (.store arg8 (Rect.unit (s := S288x128) (k0_off128 s) S8x128.size (k0_off128_inb s k0_h14)) (k0_pay8 v82 v91 v131 v138 v143) Finset.univ (View.stores_vmem_bits_univ h_S8x128 rfl) (.inl rfl))
      let v154 : Vec F S1x1x128 .f32 ← Prog.lift (.load arg3 (Rect.unit (s := S36x1x128) (k0_off127 s) S1x1x128.size (k0_off127_inb s k0_h14)).toLoadRect (View.loadsAt_vmem h_S1x1x128))
      let v163 : Vec F S8x128 .f32 ← Prog.lift (.load arg16 (Rect.unit (s := S288x128) (k0_off128 s) S8x128.size (k0_off128_inb s k0_h14)).toLoadRect (View.loadsAt_vmem h_S8x128))
      Prog.lift (.store arg16 (Rect.unit (s := S288x128) (k0_off128 s) S8x128.size (k0_off128_inb s k0_h14)) (k0_pay9 v82 v91 v131 v138 v143 v154) Finset.univ (View.stores_vmem_bits_univ h_S8x128 rfl) (.inl rfl))
      pure ⟨⟩
    else do
      pure ⟨⟩
    pure (v118_0, v125_0, v118_1, v118_2, v125_1, v125_2))
      (fun x => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
        ∗ Ring.AtW (stK c arg0 arg5 arg9 arg17 f0 f5 q5 KP) (cons (before (nc c arg0 f0) s + (mK' c arg0 f0 s))) ∗ Ring.AtW (stV c arg0 arg6 arg10 arg18 f0 f6 q6 VP) (cons (before (nc c arg0 f0) (s.val - 1) + (mV' c arg0 f0 s)))
        ∗ (∃ b, ⌜St (s.val + 1) b⌝ ∗ held c arg8 arg11 arg12 arg13 arg14 arg15 arg16 b) ∗ (∃ W, owes (c : Thread nD τ) 0 W) ∗ ⌜x = (slW (before (nc c arg0 f0) s + (mK' c arg0 f0 s)), slW (before (nc c arg0 f0) (s.val - 1) + (mV' c arg0 f0 s)), nuW c arg0 f0 (before (nc c arg0 f0) s + (mK' c arg0 f0 s)), ncW c arg0 f0 (before (nc c arg0 f0) s + (mK' c arg0 f0 s)), nuW c arg0 f0 (before (nc c arg0 f0) (s.val - 1) + (mV' c arg0 f0 s)), ncW c arg0 f0 (before (nc c arg0 f0) (s.val - 1) + (mV' c arg0 f0 s)))⌝)) := by
  iintro ⟨H1, H2, H3, H4, HI⟩
  have h104 : Scalar.minsi v44 v69 = wd (min (nK s v39) (nV s v64)) := by rw [h44, h69]; exact wm_eq s v39 v64
  have hc14 := cond14_iff s
  have ht5 : Scf.trips (k0_t5_loop s v39 v64).lb (k0_t5_loop s v39 v64).ub (k0_t5_loop s v39 v64).st = 0 := by have h := (facts5 s v39 v64).2.1; rw [Nat.sub_self] at h; exact h
  have ht7 : Scf.trips (k0_t7_loop s v39 v64).lb (k0_t7_loop s v39 v64).ub (k0_t7_loop s v39 v64).st = 0 := by have h := (facts7 s v39 v64).2.1; rw [Nat.sub_self] at h; exact h
  have ht9 : Scf.trips (k0_t9_loop s v39 v64).lb (k0_t9_loop s v39 v64).ub (k0_t9_loop s v39 v64).st = 0 := by have h := (facts9 s v39 v64).2.1; rw [Nat.sub_self] at h; exact h
  iapply (t4_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP Inv hKP hVP hK hV s v17 v19 v39 v64 v92 hw9 hnk hnv) $$ HI
  iintro HI
  dsimp only
  sl_for0 ht5
  iapply (t6_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP Inv hKP hK hV s v17 v39 v64 _ v92 hw9 hnk hnv h104) $$ HI
  iintro HI
  dsimp only
  sl_for0 ht7
  iapply (t8_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP Inv hVP hK hV s v17 v39 v64 _ v92 hw9 hnk hnv h104) $$ HI
  iintro HI
  dsimp only
  sl_for0 ht9
  unfold LI
  icases HI with ⟨H0, HK, HV, ⟨%b, %hb, Hb⟩, How⟩
  icases (held_out c arg8 arg11 arg12 arg13 arg14 arg15 arg16 b) $$ Hb with ⟨H8, H11, H12, H13, H14, H15, H16⟩
  by_cases h0 : 0 < s.val
  · have hc1 : k0_cond14 s = 1#1 := by rw [hc14]; simp [h0]
    sl_exec (disch := first | sl_exact hc1)
    sl_step
    isplitl [H1]; · iexact H1
    isplitl [H2]; · iexact H2
    isplitl [H3]; · iexact H3
    isplitl [H4]; · iexact H4
    isplitl [H0]; · iexact H0
    isplitl [HK]; · iexact HK
    isplitl [HV]; · iexact HV
    isplitl [H8 H11 H12 H13 H14 H15 H16]
    · iexists (endB c arg3 arg4 arg8 arg11 arg12 arg13 arg14 arg15 arg16 f3 f4 s v82 v91 b)
      isplitr; · ipureintro; exact hEnd b hb
      iapply (held_endB c arg3 arg4 arg8 arg11 arg12 arg13 arg14 arg15 arg16 f3 f4 s v82 v91 b hc1)
      isplitl [H8]; · iexact H8
      isplitl [H11]; · iexact H11
      isplitl [H12]; · iexact H12
      isplitl [H13]; · iexact H13
      isplitl [H14]; · iexact H14
      isplitl [H15]; · iexact H15
      iexact H16
    isplitl [How]; · iexact How
    ipureintro
    rfl
  · have hc1 : ¬ k0_cond14 s = 1#1 := by rw [hc14]; simp [h0]
    sl_exec (disch := first | sl_exact hc1)
    sl_step
    isplitl [H1]; · iexact H1
    isplitl [H2]; · iexact H2
    isplitl [H3]; · iexact H3
    isplitl [H4]; · iexact H4
    isplitl [H0]; · iexact H0
    isplitl [HK]; · iexact HK
    isplitl [HV]; · iexact HV
    isplitl [H8 H11 H12 H13 H14 H15 H16]
    · iexists (endB c arg3 arg4 arg8 arg11 arg12 arg13 arg14 arg15 arg16 f3 f4 s v82 v91 b)
      isplitr; · ipureintro; exact hEnd b hb
      iapply (held_endB' c arg3 arg4 arg8 arg11 arg12 arg13 arg14 arg15 arg16 f3 f4 s v82 v91 b hc1)
      isplitl [H8]; · iexact H8
      isplitl [H11]; · iexact H11
      isplitl [H12]; · iexact H12
      isplitl [H13]; · iexact H13
      isplitl [H14]; · iexact H14
      isplitl [H15]; · iexact H15
      iexact H16
    isplitl [How]; · iexact How
    ipureintro
    rfl

set_option maxHeartbeats 2000000 in
theorem t3_run (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (b : Bufs (F := F) c arg8 arg11 arg12 arg13 arg14 arg15 arg16)
    (hBeg : Inv s 0 0 (k0_pay49 (rdQ c arg1 s f1) (rdN c arg2 s f2) (rdM c arg12 s b.b12)) (begB c arg1 arg8 arg11 arg12 arg13 arg14 arg15 arg16 f1 s b))
    (hEnd : ∀ b', Inv s (mK' c arg0 f0 s) (mV' c arg0 f0 s) (k0_pay49 (rdQ c arg1 s f1) (rdN c arg2 s f2) (rdM c arg12 s b.b12)) b' → St (s.val + 1) (endB c arg3 arg4 arg8 arg11 arg12 arg13 arg14 arg15 arg16 f3 f4 s
      (k0_pay47 (rdQ c arg1 s f1) (rdN c arg2 s f2)) (k0_pay48 (rdQ c arg1 s f1) (rdN c arg2 s f2) (rdM c arg12 s b.b12)) b')) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
      ∗ Ring.AtW (stK c arg0 arg5 arg9 arg17 f0 f5 q5 KP) (cons (before (nc c arg0 f0) s)) ∗ Ring.AtW (stV c arg0 arg6 arg10 arg18 f0 f6 q6 VP) (cons (before (nc c arg0 f0) (s.val - 1)))
      ∗ held c arg8 arg11 arg12 arg13 arg14 arg15 arg16 b ∗ (∃ W, owes (c : Thread nD τ) 0 W))
    ⊢ wp frame (wpE (defs₀ (F := F)) Variants.none c none) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s (slW (before (nc c arg0 f0) s), slW (before (nc c arg0 f0) (s.val - 1)), nuW c arg0 f0 (before (nc c arg0 f0) s), ncW c arg0 f0 (before (nc c arg0 f0) s), nuW c arg0 f0 (before (nc c arg0 f0) (s.val - 1)), ncW c arg0 f0 (before (nc c arg0 f0) (s.val - 1))))
      (fun x => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
        ∗ Ring.AtW (stK c arg0 arg5 arg9 arg17 f0 f5 q5 KP) (cons (before (nc c arg0 f0) s + (mK' c arg0 f0 s))) ∗ Ring.AtW (stV c arg0 arg6 arg10 arg18 f0 f6 q6 VP) (cons (before (nc c arg0 f0) (s.val - 1) + (mV' c arg0 f0 s)))
        ∗ (∃ b, ⌜St (s.val + 1) b⌝ ∗ held c arg8 arg11 arg12 arg13 arg14 arg15 arg16 b) ∗ (∃ W, owes (c : Thread nD τ) 0 W) ∗ ⌜x = (slW (before (nc c arg0 f0) s + (mK' c arg0 f0 s)), slW (before (nc c arg0 f0) (s.val - 1) + (mV' c arg0 f0 s)), nuW c arg0 f0 (before (nc c arg0 f0) s + (mK' c arg0 f0 s)), ncW c arg0 f0 (before (nc c arg0 f0) s + (mK' c arg0 f0 s)), nuW c arg0 f0 (before (nc c arg0 f0) (s.val - 1) + (mV' c arg0 f0 s)), ncW c arg0 f0 (before (nc c arg0 f0) (s.val - 1) + (mV' c arg0 f0 s)))⌝)) := by
  iintro ⟨H1, H2, H3, H4, H0, HK, HV, Hb, How⟩
  icases (held_out c arg8 arg11 arg12 arg13 arg14 arg15 arg16 b) $$ Hb with ⟨H8, H11, H12, H13, H14, H15, H16⟩
  have hs37 : s.val < 37 := by have := s.isLt; have e : k0_t3_loop.trips = 37 := (by decide); omega
  have hc5 := cond5_iff s
  sl_unfold [k0_t3_body]
  by_cases h36 : s.val < 36
  · have hc1 : k0_cond5 s = 1#1 := by rw [hc5]; simp [h36]
    sl_exec (disch := first | sl_exact hc1 | sl_exact (chk9_of s _ _))
    iapply (t3_tail c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV s _ _ _ _ _ _
      (k0_pay47 (rdQ c arg1 s f1) (rdN c arg2 s f2)) (k0_pay48 (rdQ c arg1 s f1) (rdN c arg2 s f2) (rdM c arg12 s b.b12)) (k0_pay49 (rdQ c arg1 s f1) (rdN c arg2 s f2) (rdM c arg12 s b.b12)) _
      (nk_eq c arg0 f0 s _ rfl) (nv_eq c arg0 f0 s _ rfl) rfl rfl hEnd)
    isplitl [H1]; · iexact H1
    isplitl [H2]; · iexact H2
    isplitl [H3]; · iexact H3
    isplitl [H4]; · iexact H4
    unfold LI
    isplitl [H0]; · iexact H0
    isplitl [HK]; · iexact HK
    isplitl [HV]; · iexact HV
    isplitr [How]
    · iexists (begB c arg1 arg8 arg11 arg12 arg13 arg14 arg15 arg16 f1 s b)
      isplitr; · ipureintro; exact hBeg
      iapply (held_begB c arg1 arg8 arg11 arg12 arg13 arg14 arg15 arg16 f1 s b hc1)
      isplitl [H8]; · iexact H8
      isplitl [H11]; · iexact H11
      isplitl [H12]; · iexact H12
      isplitl [H13]; · iexact H13
      isplitl [H14]; · iexact H14
      isplitl [H15]; · iexact H15
      iexact H16
    iexact How
  · have hc1 : ¬ k0_cond5 s = 1#1 := by rw [hc5]; simp [h36]
    sl_exec (disch := first | sl_exact hc1 | sl_exact (chk9_of s _ _))
    iapply (t3_tail c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV s _ _ _ _ _ _
      (k0_pay47 (rdQ c arg1 s f1) (rdN c arg2 s f2)) (k0_pay48 (rdQ c arg1 s f1) (rdN c arg2 s f2) (rdM c arg12 s b.b12)) (k0_pay49 (rdQ c arg1 s f1) (rdN c arg2 s f2) (rdM c arg12 s b.b12)) _
      (nk_eq c arg0 f0 s _ rfl) (nv_eq c arg0 f0 s _ rfl) rfl rfl hEnd)
    isplitl [H1]; · iexact H1
    isplitl [H2]; · iexact H2
    isplitl [H3]; · iexact H3
    isplitl [H4]; · iexact H4
    unfold LI
    isplitl [H0]; · iexact H0
    isplitl [HK]; · iexact HK
    isplitl [HV]; · iexact HV
    isplitr [How]
    · iexists (begB c arg1 arg8 arg11 arg12 arg13 arg14 arg15 arg16 f1 s b)
      isplitr; · ipureintro; exact hBeg
      iapply (held_begB' c arg1 arg8 arg11 arg12 arg13 arg14 arg15 arg16 f1 s b hc1)
      isplitl [H8]; · iexact H8
      isplitl [H11]; · iexact H11
      isplitl [H12]; · iexact H12
      isplitl [H13]; · iexact H13
      isplitl [H14]; · iexact H14
      isplitl [H15]; · iexact H15
      iexact H16
    iexact How
end T3

end Cert.Proof.Kernel
-- ==== Proof.Body.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.T3
public import proofs.«01_k».proof.Proof.PreK
public import proofs.«01_k».proof.Proof.PreV

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

/-- The closures of the step invariants: making ready, -/
def StepB (f1 : Buf (Elt F) (arg1.view.loc (c : Thread nD τ))) (f2 : Buf (Elt F) (arg2.view.loc (c : Thread nD τ)))
    (Inv : ℕ → ℕ → ℕ → FVec F S16x1 .f32 → Bufs (F := F) c arg8 arg11 arg12 arg13 arg14 arg15 arg16 → Prop) (St : ℕ → Bufs (F := F) c arg8 arg11 arg12 arg13 arg14 arg15 arg16 → Prop) : Prop :=
  ∀ (s : Fin k0_t3_loop.trips) (b : Bufs (F := F) c arg8 arg11 arg12 arg13 arg14 arg15 arg16), St s b →
    Inv s 0 0 (k0_pay49 (rdQ c arg1 s f1) (rdN c arg2 s f2) (rdM c arg12 s b.b12)) (begB c arg1 arg8 arg11 arg12 arg13 arg14 arg15 arg16 f1 s b)

/-- and storing the results. -/
def StepE (f0 : Buf (Elt F) (arg0.view.loc (c : Thread nD τ))) (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (Inv : ℕ → ℕ → ℕ → FVec F S16x1 .f32 → Bufs (F := F) c arg8 arg11 arg12 arg13 arg14 arg15 arg16 → Prop) (St : ℕ → Bufs (F := F) c arg8 arg11 arg12 arg13 arg14 arg15 arg16 → Prop) : Prop :=
  ∀ (s : Fin k0_t3_loop.trips) (b b' : Bufs (F := F) c arg8 arg11 arg12 arg13 arg14 arg15 arg16), St s b →
    Inv s (mK' c arg0 f0 s) (mV' c arg0 f0 s) (k0_pay49 (rdQ c arg1 s f1) (rdN c arg2 s f2) (rdM c arg12 s b.b12)) b' → St (s.val + 1) (endB c arg3 arg4 arg8 arg11 arg12 arg13 arg14 arg15 arg16 f3 f4 s
      (k0_pay47 (rdQ c arg1 s f1) (rdN c arg2 s f2)) (k0_pay48 (rdQ c arg1 s f1) (rdN c arg2 s f2) (rdM c arg12 s b.b12)) b')

/-- The rounded results. -/
def outB (f7 : Buf (Elt F) (arg7.view.loc (c : Thread nD τ))) (f16 : Buf (Elt F) (arg16.view.loc (c : Thread nD τ))) : Buf (Elt F) (arg7.view.loc (c : Thread nD τ)) :=
  arg7.view.writes (Elt F) f7 [⟨Rect.unit (s := S288x128) ![0, 0] S288x128.size inb_S288x128_S288x128_0_0,
    k0_pay10 (View.readAt (Elt F) arg16.view (Rect.unit (s := S288x128) ![0, 0] S288x128.size inb_S288x128_S288x128_0_0).toLoadRect f16)⟩]

section Body
variable (f0 : Buf (Elt F) (arg0.view.loc (c : Thread nD τ))) (f5 : Buf (Elt F) (arg5.view.loc (c : Thread nD τ))) (f6 : Buf (Elt F) (arg6.view.loc (c : Thread nD τ)))
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (Inv : ℕ → ℕ → ℕ → FVec F S16x1 .f32 → Bufs (F := F) c arg8 arg11 arg12 arg13 arg14 arg15 arg16 → Prop)
  (St : ℕ → Bufs (F := F) c arg8 arg11 arg12 arg13 arg14 arg15 arg16 → Prop)

theorem before_zero (n : ℕ → ℕ) : before n 0 = 0 := rfl
theorem before_z1 (n : ℕ → ℕ) : before n (min 0 36) = 0 := rfl
theorem before_z2 (n : ℕ → ℕ) : before n (0 - 1) = 0 := rfl
theorem before_succ (n : ℕ → ℕ) (u : ℕ) : before n (u + 1) = before n u + n u := rfl

theorem kEnd (s : ℕ) (hs : s < 37) : before (nc c arg0 f0) (min s 36) + mK' c arg0 f0 s = before (nc c arg0 f0) (min (s + 1) 36) := by
  unfold mK'
  by_cases h : s < 36
  · rw [if_pos h, Nat.min_eq_left (by omega), Nat.min_eq_left (by omega), before_succ]
  · rw [if_neg h, Nat.min_eq_right (by omega), Nat.min_eq_right (by omega), Nat.add_zero]
theorem vEnd (s : ℕ) : before (nc c arg0 f0) (s - 1) + mV' c arg0 f0 s = before (nc c arg0 f0) (s + 1 - 1) := by
  unfold mV'
  by_cases h : 0 < s
  · obtain ⟨t, rfl⟩ : ∃ t, s = t + 1 := ⟨s - 1, by omega⟩
    rw [if_pos h]
    rfl
  · rw [if_neg h, Nat.add_zero]
    obtain rfl : s = 0 := by omega
    rfl

attribute [local irreducible] ch before

set_option maxHeartbeats 2000000 in
theorem t3_loop (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (hB : StepB c arg1 arg2 arg8 arg11 arg12 arg13 arg14 arg15 arg16 f1 f2 Inv St)
    (hE : StepE c arg0 arg1 arg2 arg3 arg4 arg8 arg11 arg12 arg13 arg14 arg15 arg16 f0 f1 f2 f3 f4 Inv St)
    {α : Type} {Q : α → sProp 𝕄} {kk : BitVec 32 × BitVec 32 × BitVec 32 × BitVec 32 × BitVec 32 × BitVec 32 → Prog (TpuEff nD τ sig (Elt F) Λ₀ .tc) α} :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0) ∗ Ring.AtW (stK c arg0 arg5 arg9 arg17 f0 f5 q5 KP) (cons 0) ∗ Ring.AtW (stV c arg0 arg6 arg10 arg18 f0 f6 q6 VP) (cons 0) ∗ (∃ b, ⌜St 0 b⌝ ∗ held c arg8 arg11 arg12 arg13 arg14 arg15 arg16 b) ∗ (∃ W, owes (c : Thread nD τ) 0 W))
    ⊢ iprop((∀ x, iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0) ∗ Ring.AtW (stK c arg0 arg5 arg9 arg17 f0 f5 q5 KP) (cons (before (nc c arg0 f0) (min 37 36))) ∗ Ring.AtW (stV c arg0 arg6 arg10 arg18 f0 f6 q6 VP) (cons (before (nc c arg0 f0) (37 - 1))) ∗ (∃ b, ⌜St 37 b⌝ ∗ held c arg8 arg11 arg12 arg13 arg14 arg15 arg16 b) ∗ (∃ W, owes (c : Thread nD τ) 0 W)) -∗ wp frame (wpE (defs₀ (F := F)) Variants.none c none) Set.univ (kk x) Q)
      -∗ wp frame (wpE (defs₀ (F := F)) Variants.none c none) Set.univ
        (Scf.Loop.for k0_t3_loop k0_t3_ok (0#32, 0#32, wd (ch (nc c arg0 f0) 12).1, wd (ch (nc c arg0 f0) 12).2, wd (ch (nc c arg0 f0) 12).1, wd (ch (nc c arg0 f0) 12).2)
          (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= kk) Q) := by
  iintro HI Hk
  have e37 : k0_t3_loop.trips = 37 := by decide
  sl_for (fun (s : ℕ) (a : BitVec 32 × BitVec 32 × BitVec 32 × BitVec 32 × BitVec 32 × BitVec 32) => iprop(iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0) ∗ Ring.AtW (stK c arg0 arg5 arg9 arg17 f0 f5 q5 KP) (cons (before (nc c arg0 f0) (min s 36))) ∗ Ring.AtW (stV c arg0 arg6 arg10 arg18 f0 f6 q6 VP) (cons (before (nc c arg0 f0) (s - 1))) ∗ (∃ b, ⌜St s b⌝ ∗ held c arg8 arg11 arg12 arg13 arg14 arg15 arg16 b) ∗ (∃ W, owes (c : Thread nD τ) 0 W)) ∗
    ⌜a = (slW (before (nc c arg0 f0) (min s 36)), slW (before (nc c arg0 f0) (s - 1)), nuW c arg0 f0 (before (nc c arg0 f0) (min s 36)), ncW c arg0 f0 (before (nc c arg0 f0) (min s 36)), nuW c arg0 f0 (before (nc c arg0 f0) (s - 1)), ncW c arg0 f0 (before (nc c arg0 f0) (s - 1)))⌝)) $$ [HI]
  case region =>
    intro s a
    iintro ⟨⟨H1, H2, H3, H4, H0, HK, HV, ⟨%b, %hb, Hb⟩, How⟩, %ha⟩
    subst ha
    have hs37 : s.val < 37 := Nat.lt_of_lt_of_eq s.isLt e37
    have hm : min s.val 36 = s.val := Nat.min_eq_left (by omega)
    have h1 := kEnd c arg0 f0 s hs37
    have h2 := vEnd c arg0 f0 s
    rw [hm] at h1
    have h := t3_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV s b (hB s b hb) (fun b' hb' => hE s b b' hb hb')
    rw [h1, h2] at h
    rw [hm]
    iapply wp_mono $$ [H0 H1 H2 H3 H4 HK HV Hb How]
    rotate_left
    · iapply h
      isplitl [H1]; · iexact H1
      isplitl [H2]; · iexact H2
      isplitl [H3]; · iexact H3
      isplitl [H4]; · iexact H4
      isplitl [H0]; · iexact H0
      isplitl [HK]; · iexact HK
      isplitl [HV]; · iexact HV
      isplitl [Hb]; · iexact Hb
      iexact How
    · intro x
      iintro ⟨H1, H2, H3, H4, H0, HK, HV, Hb, How, %hx⟩
      isplitr []
      · isplitl [H1]; · iexact H1
        isplitl [H2]; · iexact H2
        isplitl [H3]; · iexact H3
        isplitl [H4]; · iexact H4
        isplitl [H0]; · iexact H0
        isplitl [HK]; · iexact HK
        isplitl [HV]; · iexact HV
        isplitl [Hb]; · iexact Hb
        iexact How
      · ipureintro
        exact hx
  · rw [before_z1, before_z2]
    isplitl [HI]; · iexact HI
    ipureintro
    rfl
  iintro %a ⟨HI, %ha⟩
  have ht : Scf.trips k0_t3_loop.lb k0_t3_loop.ub k0_t3_loop.st = 37 := by decide
  rw [ht]
  ispecialize Hk $$ %a
  iapply Hk
  iexact HI

set_option maxHeartbeats 2000000 in
theorem body_run (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (hB : StepB c arg1 arg2 arg8 arg11 arg12 arg13 arg14 arg15 arg16 f1 f2 Inv St)
    (hE : StepE c arg0 arg1 arg2 arg3 arg4 arg8 arg11 arg12 arg13 arg14 arg15 arg16 f0 f1 f2 f3 f4 Inv St)
    (f7 : Buf (Elt F) (arg7.view.loc (c : Thread nD τ))) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
      ∗ Ring.AtW (stK c arg0 arg5 arg9 arg17 f0 f5 q5 KP) (pre 0) ∗ Ring.AtW (stV c arg0 arg6 arg10 arg18 f0 f6 q6 VP) (pre 0)
      ∗ (∃ b, ⌜St 0 b⌝ ∗ held c arg8 arg11 arg12 arg13 arg14 arg15 arg16 b) ∗ (∃ W, owes (c : Thread nD τ) 0 W) ∗ (arg7.view.loc (c : Thread nD τ) ↦{fullShare} f7))
    ⊢ wp frame (wpE (defs₀ (F := F)) Variants.none c none) Set.univ (cc0_gqa_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
      (fun _ => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
        ∗ Ring.AtW (stK c arg0 arg5 arg9 arg17 f0 f5 q5 KP) (cons (before (nc c arg0 f0) 36)) ∗ Ring.AtW (stV c arg0 arg6 arg10 arg18 f0 f6 q6 VP) (cons (before (nc c arg0 f0) 36))
        ∗ (∃ b, ⌜St 37 b⌝ ∗ held c arg8 arg11 arg12 arg13 arg14 arg15 arg16 b ∗ (∃ f7, arg7.view.loc (c : Thread nD τ) ↦{fullShare} outB c arg7 arg16 f7 b.b16)) ∗ (∃ W, owes (c : Thread nD τ) 0 W))) := by
  iintro ⟨H1, H2, H3, H4, H0, HK, HV, Hb, How, H7⟩
  sl_unfold [cc0_gqa_decode]
  iapply (t1_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 q5 q0 KP hKP) $$ [H0 HK]
  · isplitl [H0]; · iexact H0
    iexact HK
  iintro ⟨H0, HK⟩
  dsimp only
  iapply (t2_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f6 q6 q0 VP hVP) $$ [H0 HV]
  · isplitl [H0]; · iexact H0
    iexact HV
  iintro ⟨H0, HV⟩
  dsimp only
  iapply (t3_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV hB hE) $$ [H1 H2 H3 H4 H0 HK HV Hb How]
  · isplitl [H1]; · iexact H1
    isplitl [H2]; · iexact H2
    isplitl [H3]; · iexact H3
    isplitl [H4]; · iexact H4
    isplitl [H0]; · iexact H0
    isplitl [HK]; · iexact HK
    isplitl [HV]; · iexact HV
    isplitl [Hb]; · iexact Hb
    iexact How
  iintro %x HI
  icases HI with ⟨H1, H2, H3, H4, H0, HK, HV, ⟨%b, %hb, Hb⟩, How⟩
  icases (held_out c arg8 arg11 arg12 arg13 arg14 arg15 arg16 b) $$ Hb with ⟨H8, H11, H12, H13, H14, H15, H16⟩
  sl_exec
  sl_step
  isplitl [H1]; · iexact H1
  isplitl [H2]; · iexact H2
  isplitl [H3]; · iexact H3
  isplitl [H4]; · iexact H4
  isplitl [H0]; · iexact H0
  isplitl [HK]; · iexact HK
  isplitl [HV]; · iexact HV
  isplitr [How]
  · iexists b
    isplitr; · ipureintro; exact hb
    isplitr [H7]
    · unfold held
      isplitl [H8]; · iexact H8
      isplitl [H11]; · iexact H11
      isplitl [H12]; · iexact H12
      isplitl [H13]; · iexact H13
      isplitl [H14]; · iexact H14
      isplitl [H15]; · iexact H15
      iexact H16
    · unfold outB
      iexists _
      iexact H7
  iexact How
end Body

end Cert.Proof.Kernel
-- ==== Proof.Ends.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingK
public import proofs.«01_k».proof.Proof.RingV

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section K
variable (f0 : Buf (Elt F) (arg0.view.loc (c : Thread nD τ))) (f5 : Buf (Elt F) (arg5.view.loc (c : Thread nD τ)))
  (KP : ℕ → Buf (Elt F) (arg9.view.loc (c : Thread nD τ)) → Prop)

/-- Two slots share no element, -/
theorem slotK_disjoint (b b' : Fin 12) (h : b ≠ b') : Disjoint (slotK c arg9 b) (slotK c arg9 b') := by
  refine (Finset.disjoint_map _).mpr ?_
  exact Ring.lead_disjoint (s := S12x2048x128) (0 : Fin 3) 1 (fun s : Fin 12 => ![s.val, 0, 0]) S1x2048x128.size inbSlotK (fun b => (Nat.one_mul _).symm) rfl b b' h

/-- and the slots are the whole ring. -/
theorem slotK_cover (harg9 : arg9.IsWhole) : Finset.univ.biUnion (slotK c arg9) = Finset.univ := by
  have hc := Ring.lead_cover (s := S12x2048x128) (0 : Fin 3) 1 (fun s : Fin 12 => ![s.val, 0, 0]) S1x2048x128.size inbSlotK (fun b => (Nat.one_mul _).symm)
    (fun b a ha => by fin_cases a; exact absurd rfl ha; rfl; rfl) rfl (fun a ha => by fin_cases a; exact absurd rfl ha; rfl; rfl) rfl
  ext x
  simp only [Finset.mem_univ, iff_true]
  have hx : x ∈ arg9.view.set := by rw [harg9.set_eq_univ]; exact Finset.mem_univ x
  obtain ⟨y, -, rfl⟩ := Finset.mem_map.mp hx
  have hy : y ∈ Finset.univ.biUnion (fun b : Fin 12 => (Rect.unit (s := S12x2048x128) ![b.val, 0, 0] S1x2048x128.size (inbSlotK b)).set) := by
    rw [hc]; exact Finset.mem_univ y
  obtain ⟨b, hb, hyb⟩ := Finset.mem_biUnion.mp hy
  exact Finset.mem_biUnion.mpr ⟨b, hb, Finset.mem_map_of_mem _ hyb⟩

/-- Every slot free. -/
theorem idleK_all (q5 : Fin 12 → PosShare TreeShare) :
    (bigSep Finset.univ fun s => idleK c arg5 arg9 arg17 f5 q5 s)
      = iprop((bigSep Finset.univ fun s => semVal ((c : Thread nD τ), SemLoc.dma (semS arg17 s)) 0)
        ∗ (bigSep Finset.univ fun s => iprop(∃ f, arg9.view.loc (c : Thread nD τ) ↦[slotK c arg9 s]{fullShare} f))
        ∗ (bigSep Finset.univ fun s => (arg5.view.loc (c : Thread nD τ) ↦{q5 s} f5))) := by
  unfold idleK
  rw [bigSep_sep', bigSep_sep']

/-- The ring before the first chunk, from the buffers held whole. -/
theorem ringK_in (harg9 : arg9.IsWhole) (f9 : Buf (Elt F) (arg9.view.loc (c : Thread nD τ))) :
    iprop((bigSep Finset.univ fun s => semVal ((c : Thread nD τ), SemLoc.dma (semS arg17 s)) 0)
      ∗ (arg9.view.loc (c : Thread nD τ) ↦{fullShare} f9) ∗ (arg5.view.loc (c : Thread nD τ) ↦{fullShare} f5))
    ⊢ iprop(Ring.AtW (stK c arg0 arg5 arg9 arg17 f0 f5 (Transfers.shareTok fullShare 12) KP) (pre 0)
      ∗ (arg5.view.loc (c : Thread nD τ) ↦{Transfers.shareDrop fullShare 12} f5)) := by
  have e : Ring.AtW (stK c arg0 arg5 arg9 arg17 f0 f5 (Transfers.shareTok fullShare 12) KP) (pre 0)
      = bigSep Finset.univ fun s => idleK c arg5 arg9 arg17 f5 (Transfers.shareTok fullShare 12) s := by
    unfold Ring.AtW
    exact BI.bigSep_congr fun s _ => rfl
  have hm : BIBase.Entails (PROP := sProp 𝕄) (bigSep Finset.univ fun s => (arg9.view.loc (c : Thread nD τ) ↦[slotK c arg9 s]{fullShare} f9))
      (bigSep Finset.univ fun s => iprop(∃ f, arg9.view.loc (c : Thread nD τ) ↦[slotK c arg9 s]{fullShare} f)) := by
    refine BI.bigSep_mono fun s _ => ?_
    show BIBase.Entails (PROP := sProp 𝕄) _ _
    iintro H; iexists f9; iexact H
  have hm' : (arg9.view.loc (c : Thread nD τ) ↦{fullShare} f9 : sProp 𝕄) ⊢
      (bigSep Finset.univ fun s => iprop(∃ f, arg9.view.loc (c : Thread nD τ) ↦[slotK c arg9 s]{fullShare} f)) := by
    rw [Ring.pointsTo_blocks (slotK c arg9) (slotK_disjoint c arg9) (slotK_cover c arg9 harg9) f9]
    exact hm
  rw [e, idleK_all]
  iintro ⟨Hs, H9, H5⟩
  icases (Transfers.pointsTo_toks_split fullShare 12) $$ H5 with ⟨H5, Ht⟩
  isplitr [H5]
  · isplitl [Hs]; · iexact Hs
    isplitl [H9]
    · iapply hm'
      iexact H9
    iexact Ht
  iexact H5

/-- The ring after the last chunk, back to the buffers held whole. -/
theorem ringK_out (harg9 : arg9.IsWhole) (f9 : Buf (Elt F) (arg9.view.loc (c : Thread nD τ))) :
    iprop(Ring.AtW (stK c arg0 arg5 arg9 arg17 f0 f5 (Transfers.shareTok fullShare 12) KP) (cons (before (nc c arg0 f0) 36))
      ∗ (arg5.view.loc (c : Thread nD τ) ↦{Transfers.shareDrop fullShare 12} f5))
    ⊢ iprop((bigSep Finset.univ fun s => semVal ((c : Thread nD τ), SemLoc.dma (semS arg17 s)) 0)
      ∗ (∃ f, arg9.view.loc (c : Thread nD τ) ↦{fullShare} f) ∗ (arg5.view.loc (c : Thread nD τ) ↦{fullShare} f5)) := by
  have e : Ring.AtW (stK c arg0 arg5 arg9 arg17 f0 f5 (Transfers.shareTok fullShare 12) KP) (cons (before (nc c arg0 f0) 36))
      ⊢ bigSep Finset.univ fun s => idleK c arg5 arg9 arg17 f5 (Transfers.shareTok fullShare 12) s := by
    unfold Ring.AtW
    refine BI.bigSep_mono fun s _ => ?_
    refine stK_idle c arg0 arg5 arg9 arg17 f0 f5 _ KP s _ ?_
    rw [ch_dead (nc c arg0 f0) (nc_pos c arg0 f0) _ (Nat.le_add_right _ _)]
    exact Nat.lt_irrefl _
  rw [idleK_all] at e
  iintro ⟨HA, H5⟩
  icases e $$ HA with ⟨Hs, H9, Ht⟩
  isplitl [Hs]; · iexact Hs
  isplitl [H9]
  · iapply (Ring.pointsTo_blocks_join_exists (slotK c arg9) (slotK_disjoint c arg9) (slotK_cover c arg9 harg9) f9)
    iexact H9
  iapply (Transfers.pointsTo_toks_join fullShare 12)
  isplitl [H5]; · iexact H5
  iexact Ht
end K

section V
variable (f0 : Buf (Elt F) (arg0.view.loc (c : Thread nD τ))) (f6 : Buf (Elt F) (arg6.view.loc (c : Thread nD τ)))
  (VP : ℕ → Buf (Elt F) (arg10.view.loc (c : Thread nD τ)) → Prop)

/-- Two slots share no element, -/
theorem slotV_disjoint (b b' : Fin 12) (h : b ≠ b') : Disjoint (slotV c arg10 b) (slotV c arg10 b') := by
  refine (Finset.disjoint_map _).mpr ?_
  exact Ring.lead_disjoint (s := S12x128x2048) (0 : Fin 3) 1 (fun s : Fin 12 => ![s.val, 0, 0]) S1x128x2048.size inbSlotV (fun b => (Nat.one_mul _).symm) rfl b b' h

/-- and the slots are the whole ring. -/
theorem slotV_cover (harg10 : arg10.IsWhole) : Finset.univ.biUnion (slotV c arg10) = Finset.univ := by
  have hc := Ring.lead_cover (s := S12x128x2048) (0 : Fin 3) 1 (fun s : Fin 12 => ![s.val, 0, 0]) S1x128x2048.size inbSlotV (fun b => (Nat.one_mul _).symm)
    (fun b a ha => by fin_cases a; exact absurd rfl ha; rfl; rfl) rfl (fun a ha => by fin_cases a; exact absurd rfl ha; rfl; rfl) rfl
  ext x
  simp only [Finset.mem_univ, iff_true]
  have hx : x ∈ arg10.view.set := by rw [harg10.set_eq_univ]; exact Finset.mem_univ x
  obtain ⟨y, -, rfl⟩ := Finset.mem_map.mp hx
  have hy : y ∈ Finset.univ.biUnion (fun b : Fin 12 => (Rect.unit (s := S12x128x2048) ![b.val, 0, 0] S1x128x2048.size (inbSlotV b)).set) := by
    rw [hc]; exact Finset.mem_univ y
  obtain ⟨b, hb, hyb⟩ := Finset.mem_biUnion.mp hy
  exact Finset.mem_biUnion.mpr ⟨b, hb, Finset.mem_map_of_mem _ hyb⟩

/-- Every slot free. -/
theorem idleV_all (q6 : Fin 12 → PosShare TreeShare) :
    (bigSep Finset.univ fun s => idleV c arg6 arg10 arg18 f6 q6 s)
      = iprop((bigSep Finset.univ fun s => semVal ((c : Thread nD τ), SemLoc.dma (semS arg18 s)) 0)
        ∗ (bigSep Finset.univ fun s => iprop(∃ f, arg10.view.loc (c : Thread nD τ) ↦[slotV c arg10 s]{fullShare} f))
        ∗ (bigSep Finset.univ fun s => (arg6.view.loc (c : Thread nD τ) ↦{q6 s} f6))) := by
  unfold idleV
  rw [bigSep_sep', bigSep_sep']

/-- The ring before the first chunk, from the buffers held whole. -/
theorem ringV_in (harg10 : arg10.IsWhole) (f10 : Buf (Elt F) (arg10.view.loc (c : Thread nD τ))) :
    iprop((bigSep Finset.univ fun s => semVal ((c : Thread nD τ), SemLoc.dma (semS arg18 s)) 0)
      ∗ (arg10.view.loc (c : Thread nD τ) ↦{fullShare} f10) ∗ (arg6.view.loc (c : Thread nD τ) ↦{fullShare} f6))
    ⊢ iprop(Ring.AtW (stV c arg0 arg6 arg10 arg18 f0 f6 (Transfers.shareTok fullShare 12) VP) (pre 0)
      ∗ (arg6.view.loc (c : Thread nD τ) ↦{Transfers.shareDrop fullShare 12} f6)) := by
  have e : Ring.AtW (stV c arg0 arg6 arg10 arg18 f0 f6 (Transfers.shareTok fullShare 12) VP) (pre 0)
      = bigSep Finset.univ fun s => idleV c arg6 arg10 arg18 f6 (Transfers.shareTok fullShare 12) s := by
    unfold Ring.AtW
    exact BI.bigSep_congr fun s _ => rfl
  have hm : BIBase.Entails (PROP := sProp 𝕄) (bigSep Finset.univ fun s => (arg10.view.loc (c : Thread nD τ) ↦[slotV c arg10 s]{fullShare} f10))
      (bigSep Finset.univ fun s => iprop(∃ f, arg10.view.loc (c : Thread nD τ) ↦[slotV c arg10 s]{fullShare} f)) := by
    refine BI.bigSep_mono fun s _ => ?_
    show BIBase.Entails (PROP := sProp 𝕄) _ _
    iintro H; iexists f10; iexact H
  have hm' : (arg10.view.loc (c : Thread nD τ) ↦{fullShare} f10 : sProp 𝕄) ⊢
      (bigSep Finset.univ fun s => iprop(∃ f, arg10.view.loc (c : Thread nD τ) ↦[slotV c arg10 s]{fullShare} f)) := by
    rw [Ring.pointsTo_blocks (slotV c arg10) (slotV_disjoint c arg10) (slotV_cover c arg10 harg10) f10]
    exact hm
  rw [e, idleV_all]
  iintro ⟨Hs, H10, H5⟩
  icases (Transfers.pointsTo_toks_split fullShare 12) $$ H5 with ⟨H5, Ht⟩
  isplitr [H5]
  · isplitl [Hs]; · iexact Hs
    isplitl [H10]
    · iapply hm'
      iexact H10
    iexact Ht
  iexact H5

/-- The ring after the last chunk, back to the buffers held whole. -/
theorem ringV_out (harg10 : arg10.IsWhole) (f10 : Buf (Elt F) (arg10.view.loc (c : Thread nD τ))) :
    iprop(Ring.AtW (stV c arg0 arg6 arg10 arg18 f0 f6 (Transfers.shareTok fullShare 12) VP) (cons (before (nc c arg0 f0) 36))
      ∗ (arg6.view.loc (c : Thread nD τ) ↦{Transfers.shareDrop fullShare 12} f6))
    ⊢ iprop((bigSep Finset.univ fun s => semVal ((c : Thread nD τ), SemLoc.dma (semS arg18 s)) 0)
      ∗ (∃ f, arg10.view.loc (c : Thread nD τ) ↦{fullShare} f) ∗ (arg6.view.loc (c : Thread nD τ) ↦{fullShare} f6)) := by
  have e : Ring.AtW (stV c arg0 arg6 arg10 arg18 f0 f6 (Transfers.shareTok fullShare 12) VP) (cons (before (nc c arg0 f0) 36))
      ⊢ bigSep Finset.univ fun s => idleV c arg6 arg10 arg18 f6 (Transfers.shareTok fullShare 12) s := by
    unfold Ring.AtW
    refine BI.bigSep_mono fun s _ => ?_
    refine stV_idle c arg0 arg6 arg10 arg18 f0 f6 _ VP s _ ?_
    rw [ch_dead (nc c arg0 f0) (nc_pos c arg0 f0) _ (Nat.le_add_right _ _)]
    exact Nat.lt_irrefl _
  rw [idleV_all] at e
  iintro ⟨HA, H5⟩
  icases e $$ HA with ⟨Hs, H10, Ht⟩
  isplitl [Hs]; · iexact Hs
  isplitl [H10]
  · iapply (Ring.pointsTo_blocks_join_exists (slotV c arg10) (slotV_disjoint c arg10) (slotV_cover c arg10 harg10) f10)
    iexact H10
  iapply (Transfers.pointsTo_toks_join fullShare 12)
  isplitl [H5]; · iexact H5
  iexact Ht
end V

end Cert.Proof.Kernel
-- ==== Proof.Whole.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Body
public import proofs.«01_k».proof.Proof.Ends

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

/-- What a run is to be known by: an invariant of the ring slots and of the steps, closed under the run, and what it says of the results. -/
structure Invs (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (R5 : Buf (Elt F) (arg7.view.loc (c : Thread nD τ)) → Prop) (R6 : Buf (Elt F) (arg8.view.loc (c : Thread nD τ)) → Prop) where
  KP : ℕ → Buf (Elt F) (arg9.view.loc (c : Thread nD τ)) → Prop
  VP : ℕ → Buf (Elt F) (arg10.view.loc (c : Thread nD τ)) → Prop
  Inv : ℕ → ℕ → ℕ → FVec F S16x1 .f32 → Bufs (F := F) c arg8 arg11 arg12 arg13 arg14 arg15 arg16 → Prop
  St : ℕ → Bufs (F := F) c arg8 arg11 arg12 arg13 arg14 arg15 arg16 → Prop
  hKP : LandsK c arg0 arg5 arg9 f0 f5 KP
  hVP : LandsV c arg0 arg6 arg10 f0 f6 VP
  hK : StepK c arg0 arg8 arg9 arg11 arg12 arg13 arg14 arg15 arg16 f0 KP Inv
  hV : StepV c arg0 arg8 arg10 arg11 arg12 arg13 arg14 arg15 arg16 f0 VP Inv
  hB : StepB c arg1 arg2 arg8 arg11 arg12 arg13 arg14 arg15 arg16 f1 f2 Inv St
  hE : StepE c arg0 arg1 arg2 arg3 arg4 arg8 arg11 arg12 arg13 arg14 arg15 arg16 f0 f1 f2 f3 f4 Inv St
  h0 : ∀ b, St 0 b
  hend : ∀ b f7, St 37 b → R5 (outB c arg7 arg16 f7 b.b16) ∧ R6 b.b8

/-- Nothing need be known. -/
def Invs.trivial (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) : Invs c arg0 arg1 arg2 arg3 arg4 arg5 arg6 arg7 arg8 arg9 arg10 arg11 arg12 arg13 arg14 arg15 arg16 f0 f1 f2 f3 f4 f5 f6 (fun _ => True) (fun _ => True) where
  KP _ _ := True
  VP _ _ := True
  Inv _ _ _ _ _ := True
  St _ _ := True
  hKP := fun _ _ _ _ _ _ _ _ _ _ _ _ _ _ _ _ _ => True.intro
  hVP := fun _ _ _ _ _ _ _ _ _ _ _ _ _ _ _ _ _ => True.intro
  hK := fun _ _ _ _ _ _ _ _ _ _ => True.intro
  hV := fun _ _ _ _ _ _ _ _ _ _ _ => True.intro
  hB := fun _ _ _ => True.intro
  hE := fun _ _ _ _ _ => True.intro
  h0 := fun _ => True.intro
  hend := fun _ _ _ => ⟨True.intro, True.intro⟩

set_option maxHeartbeats 2000000 in
/-- The kernel over its buffers held whole. -/
theorem kern_run (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) {R5 : Buf (Elt F) (arg7.view.loc (c : Thread nD τ)) → Prop} {R6 : Buf (Elt F) (arg8.view.loc (c : Thread nD τ)) → Prop}
    (I : Invs c arg0 arg1 arg2 arg3 arg4 arg5 arg6 arg7 arg8 arg9 arg10 arg11 arg12 arg13 arg14 arg15 arg16 f0 f1 f2 f3 f4 f5 f6 R5 R6)
    (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    (iprop((arg0.view.loc (c : Thread nD τ) ↦{fullShare} f0)
      ∗ (arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (bigSep Finset.univ fun s => semVal ((c : Thread nD τ), SemLoc.dma (semS arg17 s)) 0)
      ∗ (bigSep Finset.univ fun s => semVal ((c : Thread nD τ), SemLoc.dma (semS arg18 s)) 0)
      ∗ (∃ W, owes (c : Thread nD τ) 0 W)) : sProp 𝕄)
    ⊢ wp frame (wpE (defs₀ (F := F)) Variants.none c none) Set.univ (cc0_gqa_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
      (fun _ => iprop((arg0.view.loc (c : Thread nD τ) ↦{fullShare} f0)
        ∗ (arg1.view.loc (c : Thread nD τ) ↦{fullShare} f1)
        ∗ (arg2.view.loc (c : Thread nD τ) ↦{fullShare} f2)
        ∗ (arg3.view.loc (c : Thread nD τ) ↦{fullShare} f3)
        ∗ (arg4.view.loc (c : Thread nD τ) ↦{fullShare} f4)
        ∗ (arg5.view.loc (c : Thread nD τ) ↦{fullShare} f5)
        ∗ (arg6.view.loc (c : Thread nD τ) ↦{fullShare} f6)
        ∗ (∃ f, ⌜R5 f⌝ ∗ (arg7.view.loc (c : Thread nD τ) ↦{fullShare} f))
        ∗ (∃ f, ⌜R6 f⌝ ∗ (arg8.view.loc (c : Thread nD τ) ↦{fullShare} f))
        ∗ (∃ f, (arg9.view.loc (c : Thread nD τ) ↦{fullShare} f))
        ∗ (∃ f, (arg10.view.loc (c : Thread nD τ) ↦{fullShare} f))
        ∗ (∃ f, (arg11.view.loc (c : Thread nD τ) ↦{fullShare} f))
        ∗ (∃ f, (arg12.view.loc (c : Thread nD τ) ↦{fullShare} f))
        ∗ (∃ f, (arg13.view.loc (c : Thread nD τ) ↦{fullShare} f))
        ∗ (∃ f, (arg14.view.loc (c : Thread nD τ) ↦{fullShare} f))
        ∗ (∃ f, (arg15.view.loc (c : Thread nD τ) ↦{fullShare} f))
        ∗ (∃ f, (arg16.view.loc (c : Thread nD τ) ↦{fullShare} f))
        ∗ (bigSep Finset.univ fun s => semVal ((c : Thread nD τ), SemLoc.dma (semS arg17 s)) 0)
        ∗ (bigSep Finset.univ fun s => semVal ((c : Thread nD τ), SemLoc.dma (semS arg18 s)) 0)
        ∗ (∃ W, owes (c : Thread nD τ) 0 W))) := by
  iintro ⟨H0, H1, H2, H3, H4, H5, H6, H7, H8, H9, H10, H11, H12, H13, H14, H15, H16, HsK, HsV, How⟩
  icases (ringK_in c arg0 arg5 arg9 arg17 f0 f5 I.KP harg9 f9) $$ [HsK H9 H5] with ⟨HK, H5⟩
  · isplitl [HsK]; · iexact HsK
    isplitl [H9]; · iexact H9
    iexact H5
  icases (ringV_in c arg0 arg6 arg10 arg18 f0 f6 I.VP harg10 f10) $$ [HsV H10 H6] with ⟨HV, H6⟩
  · isplitl [HsV]; · iexact HsV
    isplitl [H10]; · iexact H10
    iexact H6
  iapply wp_wand $$ [H0 H1 H2 H3 H4 H7 H8 H11 H12 H13 H14 H15 H16 HK HV How]
  · iapply (body_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 (Transfers.shareTok fullShare 12) (Transfers.shareTok fullShare 12) fullShare I.KP I.VP I.Inv I.St I.hKP I.hVP I.hK I.hV I.hB I.hE f7)
    isplitl [H1]; · iexact H1
    isplitl [H2]; · iexact H2
    isplitl [H3]; · iexact H3
    isplitl [H4]; · iexact H4
    isplitl [H0]; · iexact H0
    isplitl [HK]; · iexact HK
    isplitl [HV]; · iexact HV
    isplitl [H8 H11 H12 H13 H14 H15 H16]
    · iexists (⟨f8, f11, f12, f13, f14, f15, f16⟩ : Bufs (F := F) c arg8 arg11 arg12 arg13 arg14 arg15 arg16)
      isplitr; · ipureintro; exact I.h0 _
      unfold held
      isplitl [H8]; · iexact H8
      isplitl [H11]; · iexact H11
      isplitl [H12]; · iexact H12
      isplitl [H13]; · iexact H13
      isplitl [H14]; · iexact H14
      isplitl [H15]; · iexact H15
      iexact H16
    isplitl [How]; · iexact How
    iexact H7
  iintro %x ⟨H1, H2, H3, H4, H0, HK, HV, ⟨%b, %hb, Hb, ⟨%g7, H7⟩⟩, How⟩
  icases (held_out c arg8 arg11 arg12 arg13 arg14 arg15 arg16 b) $$ Hb with ⟨H8, H11, H12, H13, H14, H15, H16⟩
  icases (ringK_out c arg0 arg5 arg9 arg17 f0 f5 I.KP harg9 f9) $$ [HK H5] with ⟨HsK, H9, H5⟩
  · isplitl [HK]; · iexact HK
    iexact H5
  icases (ringV_out c arg0 arg6 arg10 arg18 f0 f6 I.VP harg10 f10) $$ [HV H6] with ⟨HsV, H10, H6⟩
  · isplitl [HV]; · iexact HV
    iexact H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; · ipureintro; exact (I.hend b g7 hb).1
    iexact H7
  isplitl [H8]
  · iexists _; isplitr; · ipureintro; exact (I.hend b g7 hb).2
    iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HsK]; · iexact HsK
  isplitl [HsV]; · iexact HsV
  iexact How

end Cert.Proof.Kernel
-- ==== Proof.Launch.lean ====
module

public import proofs.«01_k».proof.Proof.Gen.Kernel.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Whole
public import proofs.«01_k».proof.Proof.Gen.Kernel.Launch
public import proofs.«01_k».proof.Proof.Gen.Kernel.Frame

@[expose] public section

set_option maxRecDepth 16384

noncomputable section

namespace Cert.Proof.Kernel

open Cert.Kernel Cert.Kernel.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

open Idealize.ShloMosaic.Pipeline (RDat Dat Cfg Window)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The kernel's own semaphores: one for each slot of the two rings. -/
abbrev osem : Fin 12 ⊕ Fin 12 → SemLoc sig :=
  Sum.elim (fun s => SemLoc.dma ⟨7 + s.val, by have := s.isLt; show _ < 31; omega⟩) (fun s => SemLoc.dma ⟨19 + s.val, by have := s.isLt; show _ < 31; omega⟩)

theorem ownSemFacts : Pipeline.OwnSemFacts spec0 osem := by decide

theorem semS8 (s : Fin 12) : semS cc0_scratch8 s = ⟨7 + s.val, by have := s.isLt; show _ < 31; omega⟩ := by fin_cases s <;> rfl
theorem semS9 (s : Fin 12) : semS cc0_scratch9 s = ⟨19 + s.val, by have := s.isLt; show _ < 31; omega⟩ := by fin_cases s <;> rfl

theorem ownSems0_eq (c : Dev nD) :
    (Pipeline.ownSems0 (Ix := Unit) (Name := ℕ) (U := UD sig nD τ) (Lvl := ℕ) (Val := Elt F) (τ := τ) osem c : sProp 𝕄)
      = iprop((bigSep Finset.univ fun s => semVal ((c : Thread nD τ), SemLoc.dma (semS cc0_scratch8 s)) 0)
        ∗ (bigSep Finset.univ fun s => semVal ((c : Thread nD τ), SemLoc.dma (semS cc0_scratch9 s)) 0)) := by
  unfold Pipeline.ownSems0
  rw [BI.bigSep_univ_sum]
  simp only [semS8, semS9]
  rfl

/-- The two caches, which stay where they are. -/
def H0 : Finset (Ref sig .tc) := {main_arg3, main_arg4}
theorem H0_sub : H0 ⊆ Pipeline.restRefs sig spec0 := by decide

theorem hbm_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]; rfl

theorem PhiD_eq (c : Dev nD) :
    (Pipeline.ΦD osem spec0 H0 (V m) c : sProp 𝕄)
      = iprop(Pipeline.scopedRest (Ix := Unit) (Name := ℕ) (U := UD sig nD τ) (Lvl := ℕ) (Val := Elt F) spec0 c ∗ (∃ r, prngReg c r)
          ∗ iprop((bigSep Finset.univ fun s => semVal ((c : Thread nD τ), SemLoc.dma (semS cc0_scratch8 s)) 0)
            ∗ (bigSep Finset.univ fun s => semVal ((c : Thread nD τ), SemLoc.dma (semS cc0_scratch9 s)) 0))
          ∗ iprop((((c : Thread nD τ).loc main_arg3) ↦{fullShare} V m c main_arg3) ∗ (((c : Thread nD τ).loc main_arg4) ↦{fullShare} V m c main_arg4))) := by
  rw [Pipeline.ΦD_eq, ownSems0_eq, hbm_eq]

/-! What is known of the two results. -/
variable (R5 : (c : Dev nD) → ((cfg0.win 5).block.Idx → Elt F (cfg0.win 5).elt) → Prop) (R6 : (c : Dev nD) → ((cfg0.win 6).block.Idx → Elt F (cfg0.win 6).elt) → Prop)

/-- The pipeline's proof data: each array at its contents on entry, the results at what is known of them. -/
def rdat (c : Dev nD) : RDat τ (Elt F) Unit ℕ (UD sig nD τ) ℕ cfg0 c where
  A w := V m c (Pipeline.arrRef spec0 w)
  after w _ _ X := match w, X with
    | ⟨5, _⟩, X => R5 c X
    | ⟨6, _⟩, X => R6 c X
    | _, _ => True
  Φ _ := Pipeline.ΦD osem spec0 H0 (V m) c
  q _ := fullShare
  owed _ := 0

theorem A_eq (c : Dev nD) (w : Fin cfg0.W) : (rdat m R5 R6 c).A w = V m c (Pipeline.arrRef spec0 w) := by dsimp only [rdat]

/-- What the body needs: whatever the fetched windows hold, a run can be followed to the results. -/
def Follows (c : Dev nD) : Prop := ∀ Y : (w : Fin cfg0.W) → (cfg0.win w).block.Idx → Elt F (cfg0.win w).elt,
  (∀ w, (rdat m R5 R6 c).Finds w t0_0 (Y w)) →
  Nonempty (Invs c (Memref.whole cc0_stg0_0) (Memref.whole cc0_stg1_0) (Memref.whole cc0_stg2_0) (Memref.whole cc0_stg3_0) (Memref.whole cc0_stg4_0) (Memref.whole main_arg3) (Memref.whole main_arg4) (Memref.whole cc0_stg5_0) (Memref.whole cc0_stg6_0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Y 0) (Y 1) (Y 2) (Y 3) (Y 4) (V m c main_arg3) (V m c main_arg4) (R5 c) (R6 c))

set_option maxHeartbeats 2000000 in
theorem body_obligation (c : Dev nD) (h : Follows m R5 R6 c) : (rdat m R5 R6 c).BodyObligation (defs₀ (F := F)) Variants.none () Set.univ := fun t Y hY => by
  obtain rfl := fin_N0 t
  obtain ⟨I⟩ := h Y hY
  rw [bigSep_W0, bigSep_W0]
  simp only [owns_whole_eq]
  rw [show (rdat m R5 R6 c).Φ t0_0.castSucc = Pipeline.ΦD osem spec0 H0 (V m) c from rfl, show (rdat m R5 R6 c).Φ t0_0.succ = Pipeline.ΦD osem spec0 H0 (V m) c from rfl, PhiD_eq]
  unfold RDat.owesAt Pipeline.owesWithin; rw [scopedRest0_eq]
  rw [show (rdat m R5 R6 c).owed t0_0.castSucc = 0 from rfl, show (rdat m R5 R6 c).owed t0_0.succ = 0 from rfl]
  iintro ⟨⟨⟨⟨%g9, H9⟩, ⟨%g10, H10⟩, ⟨%g11, H11⟩, ⟨%g12, H12⟩, ⟨%g13, H13⟩, ⟨%g14, H14⟩, ⟨%g15, H15⟩, ⟨%g16, H16⟩⟩, Hp, ⟨HsK, HsV⟩, ⟨H5, H6⟩⟩, ⟨%W, %hW, HO⟩,
    ⟨%y0, %e0, H0⟩, ⟨%y1, %e1, H1⟩, ⟨%y2, %e2, H2⟩, ⟨%y3, %e3, H3⟩, ⟨%y4, %e4, H4⟩, ⟨%y7, %e7, H7⟩, ⟨%y8, %e8, H8⟩⟩
  subst e0; subst e1; subst e2; subst e3; subst e4
  iapply wp_wand $$ [H0 H1 H2 H3 H4 H5 H6 H7 H8 H9 H10 H11 H12 H13 H14 H15 H16 HsK HsV HO]
  · iapply (kern_run c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole main_arg3) (Memref.isWhole_whole _) (Memref.whole main_arg4) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 _ _ _ _ _ (V m c main_arg3) (V m c main_arg4) I y7 y8 g9 g10 g11 g12 g13 g14 g15 g16)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HsK]; · iexact HsK
    isplitl [HsV]; · iexact HsV
    iexists W; iexact HO
  iintro %x ⟨H0, H1, H2, H3, H4, H5, H6, ⟨%z7, %hz7, H7⟩, ⟨%z8, %hz8, H8⟩, H9, H10, H11, H12, H13, H14, H15, H16, HsK, HsV, ⟨%W', HO⟩⟩
  isplitl [Hp H5 H6 H9 H10 H11 H12 H13 H14 H15 H16 HsK HsV]
  · isplitl [H9 H10 H11 H12 H13 H14 H15 H16]
    · isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [Hp]; · iexact Hp
    isplitl [HsK HsV]
    · isplitl [HsK]; · iexact HsK
      iexact HsV
    isplitl [H5]; · iexact H5
    iexact H6
  isplitl [HO]
  · iexists W'; isplitr; · ipureintro; exact fun _ _ => Or.inl trivial
    iexact HO
  isplitl [H0]
  · iexists (Y 0); isplitr; · ipureintro; exact True.intro
    iexists (Y 0); isplitr; swap; · iexact H0
    ipureintro; rfl
  isplitl [H1]
  · iexists (Y 1); isplitr; · ipureintro; exact True.intro
    iexists (Y 1); isplitr; swap; · iexact H1
    ipureintro; rfl
  isplitl [H2]
  · iexists (Y 2); isplitr; · ipureintro; exact True.intro
    iexists (Y 2); isplitr; swap; · iexact H2
    ipureintro; rfl
  isplitl [H3]
  · iexists (Y 3); isplitr; · ipureintro; exact True.intro
    iexists (Y 3); isplitr; swap; · iexact H3
    ipureintro; rfl
  isplitl [H4]
  · iexists (Y 4); isplitr; · ipureintro; exact True.intro
    iexists (Y 4); isplitr; swap; · iexact H4
    ipureintro; rfl
  isplitl [H7]
  · iexists z7; isplitr; · ipureintro; exact hz7
    iexists z7; isplitr; swap; · iexact H7
    ipureintro; rfl
  iexists z8; isplitr; · ipureintro; exact hz8
  iexists z8; isplitr; swap; · iexact H8
  ipureintro; rfl

/-- The host operations before the kernel. -/
theorem hmainD (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run of the whole program. -/
theorem run_main (h : ∀ c, Follows m R5 R6 c) :
    θ_run defs (onTc (τ := τ) (main (F := F))) (s₀ m ρ)
      (fun r => Pipeline.RDat.FramePost (cfgs 0) (fun c => rdat m R5 R6 c) (V m) r ∧ r.2.sem = fun _ => 0) :=
  Pipeline.RDat.θ_run_frame_dma (Q' := _) cfgs (0 : Fin 1) launch0 osem defs₀ Variants.none (fun c => rdat m R5 R6 c) ownSemFacts H0 H0_sub m ρ main
    (hbody := fun c => body_obligation m R5 R6 c (h c)) (hshare := fun c w => by unfold RDat.share; split <;> rfl)
    (howed := fun _ _ => rfl) (V := V m) (hmain := hmainD m Variants.none) (hA := A_eq m R5 R6)
    (hin := fun _ => .rfl) (hout := fun _ => .rfl)

/-- The arguments are left as they were, and no semaphore is left raised. -/
theorem args_of {r : PUnit × MemSt nD τ sig (Elt F)} (h : Pipeline.RDat.FramePost (cfgs 0) (fun c => rdat m R5 R6 c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 0 rfl).trans ((A_eq m R5 R6 c 0).trans (V_main_arg6 m c))⟩

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_of m _ _ h.1, h.2⟩) (run_main m ρ (fun _ _ => True) (fun _ _ => True) fun c Y _ => ⟨Invs.trivial c (Memref.whole cc0_stg0_0) (Memref.whole cc0_stg1_0) (Memref.whole cc0_stg2_0) (Memref.whole cc0_stg3_0) (Memref.whole cc0_stg4_0) (Memref.whole main_arg3) (Memref.whole main_arg4) (Memref.whole cc0_stg5_0) (Memref.whole cc0_stg6_0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) _ _ _ _ _ _ _⟩)

end Cert.Proof.Kernel
-- ==== Proof.FactsI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! The places the kernel computes for its transfers, in closed form, and the side conditions on them. -/

theorem tok_dvd (c v : BitVec 32) : 128 ∣ (tok c v).toNat ∧ 128 ≤ (tok c v).toNat ∧ (tok c v).toNat ≤ 2048 := by
  unfold tok
  generalize fdiv (Scalar.subi (Scalar.addi (Scalar.subi (Scalar.minsi v 16384#32) (Scalar.muli c 2048#32)) 128#32) 1#32) 128#32 = x
  have e : (Scalar.minsi 2048#32 (Scalar.maxsi 128#32 (Scalar.muli x 128#32))).toInt
      = min 2048 (max 128 (Scalar.muli x 128#32).toInt) := by
    rw [toInt_minsi, toInt_maxsi]; rfl
  have d : (128 : Int) ∣ (Scalar.muli x 128#32).toInt := by
    unfold Scalar.muli IntOp.muli
    rw [BitVec.toInt_mul, show (128#32 : BitVec 32).toInt = 128 from rfl]
    generalize x.toInt = y
    have := Int.bmod_def (y * 128) (2 ^ 32)
    rw [this]; simp only [Nat.reducePow]; split <;> omega
  generalize (Scalar.muli x 128#32).toInt = m at e d
  generalize Scalar.minsi 2048#32 (Scalar.maxsi 128#32 (Scalar.muli x 128#32)) = w at e
  have e2 : w.toNat = (min 2048 (max 128 m)).toNat := toNat_of_toInt (by rw [e]; omega)
  rw [e2]; omega

section
variable (n s b g c : Nat)

theorem inbK9 (hs : s < 12) (hn : n ≤ 2048) : ∀ a, (![1, n, 128] : Fin 3 → Nat) a = 0 ∨ (![s, 0, 0] : Fin 3 → Nat) a + (![1, n, 128] : Fin 3 → Nat) a ≤ S12x2048x128.size a := by
  intro a; right; fin_cases a <;> simp [S12x2048x128] <;> omega
theorem inbV10 (hs : s < 12) (hn : n ≤ 2048) : ∀ a, (![1, 128, n] : Fin 3 → Nat) a = 0 ∨ (![s, 0, 0] : Fin 3 → Nat) a + (![1, 128, n] : Fin 3 → Nat) a ≤ S12x128x2048.size a := by
  intro a; right; fin_cases a <;> simp [S12x128x2048] <;> omega
theorem inbK5 (hb : b < 3) (hg : g < 12) (hc : c < 8) (hn : n ≤ 2048) : ∀ a, (![1, 1, n, 128] : Fin 4 → Nat) a = 0 ∨ (![b, g, 2048 * c, 0] : Fin 4 → Nat) a + (![1, 1, n, 128] : Fin 4 → Nat) a ≤ S3x12x16384x128.size a := by
  intro a; right; fin_cases a <;> simp [S3x12x16384x128] <;> omega
theorem inbV6 (hb : b < 3) (hg : g < 12) (hc : c < 8) (hn : n ≤ 2048) : ∀ a, (![1, 1, 128, n] : Fin 4 → Nat) a = 0 ∨ (![b, g, 0, 2048 * c] : Fin 4 → Nat) a + (![1, 1, 128, n] : Fin 4 → Nat) a ≤ S3x12x128x16384.size a := by
  intro a; right; fin_cases a <;> simp [S3x12x128x16384] <;> omega

theorem sqK9 : (⟨3, ![1, n, 128]⟩ : Shape).Squeezes ⟨2, ![n, 128]⟩ := by
  simp [Shape.Squeezes, Shape.dropsOnes, List.ofFn_succ]
theorem sqV10 : (⟨3, ![1, 128, n]⟩ : Shape).Squeezes ⟨2, ![128, n]⟩ := by
  simp [Shape.Squeezes, Shape.dropsOnes, List.ofFn_succ]
theorem sqK5 : (⟨4, ![1, 1, n, 128]⟩ : Shape).Squeezes ⟨2, ![n, 128]⟩ := by
  simp [Shape.Squeezes, Shape.dropsOnes, List.ofFn_succ]
theorem sqV6 : (⟨4, ![1, 1, 128, n]⟩ : Shape).Squeezes ⟨2, ![128, n]⟩ := by
  simp [Shape.Squeezes, Shape.dropsOnes, List.ofFn_succ]

theorem wwK9 (hn : 128 ∣ n) (h) : (Rect.unitDyn (s := S12x2048x128) ![s, 0, 0] ![1, n, 128] h).WholeWords (EltTy.packing .bf16) := by
  left; right
  have e : (2 : Nat) ∣ n := (by decide : (2 : Nat) ∣ 128).trans hn
  have h2 : 2 ≤ S12x2048x128.rank := by decide
  exact ⟨h2, rfl, Or.inl ⟨(Dvd.intro 0 rfl : (2 : Nat) ∣ 0), e⟩⟩
theorem wwV10 (h) : (Rect.unitDyn (s := S12x128x2048) ![s, 0, 0] ![1, 128, n] h).WholeWords (EltTy.packing .fp8e4m3) := by
  left; right
  exact ⟨by decide, rfl, Or.inl ⟨Dvd.intro 0 rfl, Dvd.intro 32 rfl⟩⟩
theorem wwK5 (hn : 128 ∣ n) (h) : (Rect.unitDyn (s := S3x12x16384x128) ![b, g, 2048 * c, 0] ![1, 1, n, 128] h).WholeWords (EltTy.packing .bf16) := by
  left; right
  have e : (2 : Nat) ∣ n := (by decide : (2 : Nat) ∣ 128).trans hn
  have e' : (2 : Nat) ∣ 2048 * c := by omega
  have h2 : 2 ≤ S3x12x16384x128.rank := by decide
  exact ⟨h2, rfl, Or.inl ⟨e', e⟩⟩
theorem wwV6 (h) : (Rect.unitDyn (s := S3x12x128x16384) ![b, g, 0, 2048 * c] ![1, 1, 128, n] h).WholeWords (EltTy.packing .fp8e4m3) := by
  left; right
  exact ⟨by decide, rfl, Or.inl ⟨Dvd.intro 0 rfl, Dvd.intro 32 rfl⟩⟩
end

/-! ### The places, over the words of a unit, a chunk and a slot -/

theorem fdiv12' (u : Nat) (hu : u ≤ 36) : (fdiv (wd u) 12#32).toNat = u / 12 := by
  rw [fdiv12 ⟨u, by omega⟩, BitVec.toNat_ofNat]; simp only [Nat.reducePow]; omega
theorem fmod12' (u : Nat) (hu : u ≤ 36) : (fmod (wd u) 12#32).toNat = u % 12 := by
  rw [fmod12 ⟨u, by omega⟩, BitVec.toNat_ofNat]; simp only [Nat.reducePow]; omega
theorem mul2048' (c : Nat) (hc : c < 8) : (Scalar.muli (wd c) 2048#32).toNat = 2048 * c := by
  rw [mul2048 ⟨c, by omega⟩, BitVec.toNat_ofNat]; simp only [Nat.reducePow]; omega
theorem wd_toNat (n : Nat) (hn : n < 4294967296) : (wd n).toNat = n := by
  rw [BitVec.toNat_ofNat]; simp only [Nat.reducePow]; omega
theorem iv_wd (t : Nat) : Scf.iv (0#32) (1#32) t = wd t := by
  simp [Scf.iv]

theorem cond1_iff : ∀ u : Fin 37, k0_cond1 (wd u.val) = if u.val < 36 then 1#1 else 0#1 := by decide

theorem off1_eq (u : Nat) (hu : u ≤ 36) : k0_off1 (wd u) = ![u / 12] := by
  rw [← fdiv12' u hu]; rfl
theorem off3_eq (u : Nat) (hu : u ≤ 36) : k0_off3 (wd u) = ![u / 12] := by
  rw [← fdiv12' u hu]; rfl
theorem off7_eq (u : Nat) (hu : u ≤ 36) : k0_off7 (wd u) = ![min u 35 / 12] := by
  rw [← fdiv12' (min u 35) (by omega), show wd (min u 35) = _ from (min35 ⟨u, by omega⟩).symm]; rfl
theorem off2_eq (t : Fin k0_t1_loop.trips) : k0_off2 t = ![t.val, 0, 0] := by revert t; decide
theorem off4_eq (t : Fin k0_t1_loop.trips) : k0_off4 t = ![t.val] := by revert t; decide
theorem off5_eq (t : Fin k0_t1_loop.trips) (c v : BitVec 32) : k0_off5 t c v = (![t.val, 0, 0], ![1, (tok c v).toNat, 128]) := by
  have e : k0_off5 t c v = (![k0_off4 t 0, 0, 0], ![1, (tok c v).toNat, 128]) := rfl
  rw [e, off4_eq]; rfl
theorem sz1_eq (c v : BitVec 32) : k0_sz1 c v = ![(tok c v).toNat, 128] := rfl
theorem sz2_eq (c v : BitVec 32) : k0_sz2 c v = ![(tok c v).toNat, 128] := rfl
theorem off6_eq (u c : Nat) (hu : u ≤ 36) (hc : c < 8) (v : BitVec 32) :
    k0_off6 (wd u) (wd c) v = (![u / 12, u % 12, 2048 * c, 0], ![1, 1, (tok (wd c) v).toNat, 128]) := by
  rw [← fdiv12' u hu, ← fmod12' u hu, ← mul2048' c hc]; rfl

theorem chk1_of (u : Nat) (hu : u ≤ 36) : k0_chk1 (wd u) := by
  unfold k0_chk1
  rw [cond1_iff ⟨u, by omega⟩, off1_eq u hu, off3_eq u hu, off7_eq u hu]
  refine ⟨fun h a => ?_, fun h a => ?_, fun a => ?_⟩ <;> fin_cases a <;> simp [S1, S3] <;> (try simp at h) <;> omega

theorem chk2_of (a c v : BitVec 32) : k0_chk2 a c v := fun _ => (tok_dvd c v).1
theorem chk4_of (a : BitVec 32) (c : Nat) (hc : c < 8) : k0_chk4 a (wd c) := fun _ => by
  rw [show k0_mult3 (wd c) = Scalar.muli (wd c) 2048#32 from rfl, mul2048' c hc]; exact Dvd.intro _ rfl
theorem chk3_of (t : Fin k0_t1_loop.trips) (u c : Nat) (hu : u ≤ 36) (hc : c < 8) (v : BitVec 32) : k0_chk3 t (wd u) (wd c) v := by
  obtain ⟨h1, h2, h3⟩ := tok_dvd (wd c) v
  have ht : t.val < 12 := t.isLt
  unfold k0_chk3
  rw [off5_eq, off6_eq u c hu hc, sz1_eq, sz2_eq, cond1_iff ⟨u, by omega⟩]
  dsimp only
  refine ⟨fun _ => h1, fun _ => inbK9 _ _ ht h3, fun _ => sqK9 _, fun h => ?_, fun _ => sqK5 _, fun _ => wwK5 _ _ _ _ h1, fun _ => wwK9 _ _ h1⟩
  simp at h
  exact inbK5 _ _ _ _ (by omega) (by omega) hc h3

/-! The same of the second stream. -/

theorem cond3_iff : ∀ u : Fin 37, k0_cond3 (wd u.val) = if u.val < 36 then 1#1 else 0#1 := by decide

theorem off8_eq (u : Nat) (hu : u ≤ 36) : k0_off8 (wd u) = ![u / 12] := by
  rw [← fdiv12' u hu]; rfl
theorem off10_eq (u : Nat) (hu : u ≤ 36) : k0_off10 (wd u) = ![u / 12] := by
  rw [← fdiv12' u hu]; rfl
theorem off14_eq (u : Nat) (hu : u ≤ 36) : k0_off14 (wd u) = ![min u 35 / 12] := by
  rw [← fdiv12' (min u 35) (by omega), show wd (min u 35) = _ from (min35 ⟨u, by omega⟩).symm]; rfl
theorem off9_eq (t : Fin k0_t2_loop.trips) : k0_off9 t = ![t.val, 0, 0] := by revert t; decide
theorem off11_eq (t : Fin k0_t2_loop.trips) : k0_off11 t = ![t.val] := by revert t; decide
theorem off12_eq (t : Fin k0_t2_loop.trips) (c v : BitVec 32) : k0_off12 t c v = (![t.val, 0, 0], ![1, 128, (tok c v).toNat]) := by
  have e : k0_off12 t c v = (![k0_off11 t 0, 0, 0], ![1, 128, (tok c v).toNat]) := rfl
  rw [e, off11_eq]; rfl
theorem sz3_eq (c v : BitVec 32) : k0_sz3 c v = ![128, (tok c v).toNat] := rfl
theorem sz4_eq (c v : BitVec 32) : k0_sz4 c v = ![128, (tok c v).toNat] := rfl
theorem off13_eq (u c : Nat) (hu : u ≤ 36) (hc : c < 8) (v : BitVec 32) :
    k0_off13 (wd u) (wd c) v = (![u / 12, u % 12, 0, 2048 * c], ![1, 1, 128, (tok (wd c) v).toNat]) := by
  rw [← fdiv12' u hu, ← fmod12' u hu, ← mul2048' c hc]; rfl

theorem chk5_of (u : Nat) (hu : u ≤ 36) : k0_chk5 (wd u) := by
  unfold k0_chk5
  rw [cond3_iff ⟨u, by omega⟩, off8_eq u hu, off10_eq u hu, off14_eq u hu]
  refine ⟨fun h a => ?_, fun h a => ?_, fun a => ?_⟩ <;> fin_cases a <;> simp [S1, S3] <;> (try simp at h) <;> omega

theorem chk6_of (a c v : BitVec 32) : k0_chk6 a c v := fun _ => (tok_dvd c v).1
theorem chk8_of (a : BitVec 32) (c : Nat) (hc : c < 8) : k0_chk8 a (wd c) := fun _ => by
  rw [show k0_mult6 (wd c) = Scalar.muli (wd c) 2048#32 from rfl, mul2048' c hc]; exact Dvd.intro _ rfl
theorem chk7_of (t : Fin k0_t2_loop.trips) (u c : Nat) (hu : u ≤ 36) (hc : c < 8) (v : BitVec 32) : k0_chk7 t (wd u) (wd c) v := by
  obtain ⟨h1, h2, h3⟩ := tok_dvd (wd c) v
  have ht : t.val < 12 := t.isLt
  unfold k0_chk7
  rw [off12_eq, off13_eq u c hu hc, sz3_eq, sz4_eq, cond3_iff ⟨u, by omega⟩]
  dsimp only
  refine ⟨fun _ => h1, fun _ => inbV10 _ _ ht h3, fun _ => sqV10 _, fun h => ?_, fun _ => sqV6 _, fun _ => wwV6 _ _ _ _, fun _ => wwV10 _ _⟩
  simp at h
  exact inbV6 _ _ _ _ (by omega) (by omega) hc h3

end Cert.Proof.KernelIdeal
-- ==== Proof.RingKI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.FactsI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

/-! The two rings: each slot with its semaphore is free, or a chunk is on its way into it. -/

/-- The context's lengths as the kernel reads them. -/
def lw (f0 : Buf (Elt F) (arg0.view.loc (c : Thread nD τ))) (b : ℕ) : BitVec 32 :=
  if h : b < 3 then arg0.view.read (Elt F) f0 (fun a => ⟨b, by rw [show a = 0 from Subsingleton.elim _ _]; exact h⟩) else 0#32

/-- The chunks of a unit. -/
def nc (f0 : Buf (Elt F) (arg0.view.loc (c : Thread nD τ))) (u : ℕ) : ℕ := chunksN (lenN (lw c arg0 f0 (u / 12)))

theorem nc_pos (f0 : Buf (Elt F) (arg0.view.loc (c : Thread nD τ))) (u : ℕ) : 0 < nc c arg0 f0 u := chunksN_pos _
theorem nc_le (f0 : Buf (Elt F) (arg0.view.loc (c : Thread nD τ))) (u : ℕ) : nc c arg0 f0 u ≤ 8 := chunksN_le _

theorem lw_eq (f0 : Buf (Elt F) (arg0.view.loc (c : Thread nD τ))) (off : Fin 1 → ℕ) (inb : ∀ a, off a + S1.size a ≤ S3.size a)
    (x : (Rect.unit (s := S3) off S1.size inb).toLoadRect.shape.Idx) (b : ℕ) (h : off = ![b]) :
    View.readAt (Elt F) arg0.view (Rect.unit (s := S3) off S1.size inb).toLoadRect f0 x = lw c arg0 f0 b := by
  subst h
  have hb : b < 3 := by have := inb 0; simp [S1, S3] at this; omega
  rw [lw, dif_pos hb]
  refine congrArg (arg0.view.read (Elt F) f0) (funext fun a => Fin.ext ?_)
  obtain rfl : a = 0 := Subsingleton.elim _ _
  have hx : (x 0).val < 1 := (x 0).isLt
  show b + 1 * (x 0).val = b
  omega

/-- The tokens the `k`-th chunk reads. -/
def tk (f0 : Buf (Elt F) (arg0.view.loc (c : Thread nD τ))) (k : ℕ) : ℕ :=
  (tok (wd (ch (nc c arg0 f0) k).2) (lw c arg0 f0 ((ch (nc c arg0 f0) k).1 / 12))).toNat

theorem inbSlotK (s : Fin 12) : ∀ a, (![s.val, 0, 0] : Fin 3 → ℕ) a + S1x2048x128.size a ≤ S12x2048x128.size a := by
  intro a; have := s.isLt; fin_cases a <;> simp [S1x2048x128, S12x2048x128]; omega
theorem inbSem (s : Fin 12) : ∀ a, (![s.val] : Fin 1 → ℕ) a + S1.size a ≤ S12.size a := by
  intro a; have := s.isLt; fin_cases a; simp [S1, S12]; omega

/-- The elements of a slot. -/
def slotK (s : Fin 12) : Finset (Idx (arg9.view.loc (c : Thread nD τ))) :=
  arg9.view.setOn (Rect.unit (s := S12x2048x128) ![s.val, 0, 0] S1x2048x128.size (inbSlotK s)).set

/-- A slot's semaphore. -/
def semS (a : DmaSems sig S12) (s : Fin 12) : DmaSem sig :=
  ((a.slice (Rect.unit (s := S12) ![s.val] S1.size (inbSem s))).squeeze S_ squeezes_S1_S_).sem

theorem semS_eq (a : DmaSems sig S12) (s : Fin 12) (off : Fin 1 → ℕ) (inb) (h : off = ![s.val]) :
    ((a.slice (Rect.unit (s := S12) off S1.size inb)).squeeze S_ squeezes_S1_S_).sem = semS a s := by subst h; rfl

theorem squeeze_slice_sub {sp : Space} {sh : Shape} {e : EltTy} (m : Memref sig .tc sp sh e) (R : Rect sh) (hR : ∀ a, R.stride a = 1)
    (s' : Shape) (hq : R.shape.Squeezes s') (R' : Rect sh) (h : R.set ⊆ R'.set) :
    ((m.slice R hR).squeeze s' hq).view.set ⊆ m.view.setOn R'.set := by
  rw [Memref.set_view_squeeze]
  show (m.view.slice R).set ⊆ _
  rw [View.set_slice]
  exact Finset.map_subset_map.mpr h

theorem setOn_congr {sp : Space} {sh : Shape} {e : EltTy} (m : Memref sig .tc sp sh e) {off off' : Fin sh.rank → ℕ} (size : Fin sh.rank → ℕ) (inb inb')
    (h : off = off') : m.view.setOn (Rect.unit (s := sh) off size inb).set = m.view.setOn (Rect.unit (s := sh) off' size inb').set := by subst h; rfl

theorem slotK_of (s : Fin 12) (off : Fin 3 → ℕ) (inb) (h : off = ![s.val, 0, 0]) :
    arg9.view.setOn (Rect.unit (s := S12x2048x128) off S1x2048x128.size inb).set = slotK c arg9 s :=
  setOn_congr arg9 _ _ _ h

section K
variable (f0 : Buf (Elt F) (arg0.view.loc (c : Thread nD τ))) (f5 : Buf (Elt F) (arg5.view.loc (c : Thread nD τ)))
variable (q5 : Fin 12 → PosShare TreeShare)
variable (KP : ℕ → Buf (Elt F) (arg9.view.loc (c : Thread nD τ)) → Prop)

/-- What a transfer of `n` tokens credits. -/
def crK (n : ℕ) : ℕ := arg9.view.ref.dmaCredit ⟨2, ![n, 128]⟩ .bf16

/-- A free slot. -/
def idleK (s : Fin 12) : sProp 𝕄 :=
  iprop(semVal ((c : Thread nD τ), SemLoc.dma (semS arg17 s)) 0 ∗ (∃ f, arg9.view.loc (c : Thread nD τ) ↦[slotK c arg9 s]{fullShare} f)
    ∗ (arg5.view.loc (c : Thread nD τ) ↦{q5 s} f5))

/-- A slot into which chunk `k` is on its way. -/
def flyK (s : Fin 12) (k : ℕ) : sProp 𝕄 :=
  Transfers.Flight (Ix := Unit) (EC (U := UD sig nD τ)) (c : Thread nD τ) (.dma (semS arg17 s)) () (crK arg9 (tk c arg0 f0 k))
    iprop((∃ f, ⌜KP k f⌝ ∗ (arg9.view.loc (c : Thread nD τ) ↦[slotK c arg9 s]{fullShare} f)) ∗ (arg5.view.loc (c : Thread nD τ) ↦{q5 s} f5))

/-- A slot that a chunk of no unit would take stays free. -/
def stSome (s : Fin 12) (k : ℕ) : sProp 𝕄 :=
  if (ch (nc c arg0 f0) k).1 < 36 then flyK c arg0 arg5 arg9 arg17 f0 f5 q5 KP s k else idleK c arg5 arg9 arg17 f5 q5 s

/-- A slot. -/
def stK (s : Fin 12) : Option ℕ → sProp 𝕄
  | none => idleK c arg5 arg9 arg17 f5 q5 s
  | some k => stSome c arg0 arg5 arg9 arg17 f0 f5 q5 KP s k

/-- What a landed chunk is known to be. -/
def LandsK : Prop := ∀ (k : ℕ) (s : Fin 12) (fd : Buf (Elt F) (arg9.view.loc (c : Thread nD τ))) (n b g r : ℕ)
  (h9 : ∀ a, (![1, n, 128] : Fin 3 → ℕ) a = 0 ∨ (![s.val, 0, 0] : Fin 3 → ℕ) a + (![1, n, 128] : Fin 3 → ℕ) a ≤ S12x2048x128.size a)
  (hq9 : (⟨3, ![1, n, 128]⟩ : Shape).Squeezes ⟨2, ![n, 128]⟩)
  (h5 : ∀ a, (![1, 1, n, 128] : Fin 4 → ℕ) a = 0 ∨ (![b, g, r, 0] : Fin 4 → ℕ) a + (![1, 1, n, 128] : Fin 4 → ℕ) a ≤ S3x12x16384x128.size a)
  (hq5 : (⟨4, ![1, 1, n, 128]⟩ : Shape).Squeezes ⟨2, ![n, 128]⟩),
  s.val = k % 12 → (ch (nc c arg0 f0) k).1 < 36 → n = tk c arg0 f0 k → b = (ch (nc c arg0 f0) k).1 / 12 → g = (ch (nc c arg0 f0) k).1 % 12 →
  r = 2048 * (ch (nc c arg0 f0) k).2 →
  KP k (((arg9.slice (Rect.unitDyn (s := S12x2048x128) ![s.val, 0, 0] ![1, n, 128] h9) (fun _ => rfl)).squeeze ⟨2, ![n, 128]⟩ hq9).view.write (Elt F) fd
    (((arg5.slice (Rect.unitDyn (s := S3x12x16384x128) ![b, g, r, 0] ![1, 1, n, 128] h5) (fun _ => rfl)).squeeze ⟨2, ![n, 128]⟩ hq5).view.read (Elt F) f5) Finset.univ)

theorem dst_set (s : Fin 12) (n : ℕ) (hn : n ≤ 2048) (h9 : ∀ a, (![1, n, 128] : Fin 3 → ℕ) a = 0 ∨ (![s.val, 0, 0] : Fin 3 → ℕ) a + (![1, n, 128] : Fin 3 → ℕ) a ≤ S12x2048x128.size a)
    (hq9 : (⟨3, ![1, n, 128]⟩ : Shape).Squeezes ⟨2, ![n, 128]⟩) :
    ((arg9.slice (Rect.unitDyn (s := S12x2048x128) ![s.val, 0, 0] ![1, n, 128] h9) (fun _ => rfl)).squeeze ⟨2, ![n, 128]⟩ hq9).view.set ⊆ slotK c arg9 s := by
  refine squeeze_slice_sub arg9 _ _ _ _ _ ?_
  intro i hi
  rw [Rect.mem_set_unitDyn] at hi
  rw [Rect.mem_set_unit]
  intro a
  have := hi a
  fin_cases a
  · simpa [S1x2048x128] using this
  · simp [S1x2048x128] at this ⊢; omega
  · simpa [S1x2048x128] using this

theorem crK_eq (off : Fin 3 → ℕ) (size : Fin 3 → ℕ) (n : ℕ) (h9) (hq9 : (⟨3, size⟩ : Shape).Squeezes ⟨2, ![n, 128]⟩) :
    ((arg9.slice (Rect.unitDyn (s := S12x2048x128) off size h9) (fun _ => rfl)).squeeze ⟨2, ![n, 128]⟩ hq9).view.dmaCredit = crK arg9 n := rfl

theorem crK_pos (n : ℕ) (hn : 0 < n) : 0 < crK arg9 n :=
  sig.dmaCredit_pos _ _ arg9.view.buf ⟨2, ![n, 128]⟩ .bf16 (Shape.numel_pos fun a => by fin_cases a <;> simp; omega)

/-- Start chunk `k`'s transfer into slot `s`. -/
theorem issueK (hKP : LandsK c arg0 arg5 arg9 f0 f5 KP) (s : Fin 12) (k : ℕ) (hs : s.val = k % 12) (hk : (ch (nc c arg0 f0) k).1 < 36)
    {off9 size9 : Fin 3 → ℕ} {off5 size5 : Fin 4 → ℕ} {sz : Fin 2 → ℕ} {h9 h5} {hq9 : (⟨3, size9⟩ : Shape).Squeezes ⟨2, sz⟩}
    {hq5 : (⟨4, size5⟩ : Shape).Squeezes ⟨2, sz⟩} {sm : DmaSem sig}
    (e1 : off9 = ![s.val, 0, 0]) (e2 : size9 = ![1, tk c arg0 f0 k, 128]) (e3 : sz = ![tk c arg0 f0 k, 128])
    (e4 : off5 = ![(ch (nc c arg0 f0) k).1 / 12, (ch (nc c arg0 f0) k).1 % 12, 2048 * (ch (nc c arg0 f0) k).2, 0])
    (e5 : size5 = ![1, 1, tk c arg0 f0 k, 128]) (e6 : sm = semS arg17 s)
    {α : Type} {Q : α → sProp 𝕄} {kk : PUnit → Prog (TpuEff nD τ sig (Elt F) Λ₀ .tc) α} {hsrc hdst hsem} :
    idleK c arg5 arg9 arg17 f5 q5 s ⊢ iprop((flyK c arg0 arg5 arg9 arg17 f0 f5 q5 KP s k -∗
        wp frame (wpE (defs₀ (F := F)) Variants.none c none) Set.univ (kk ⟨⟩) Q)
      -∗ wp frame (wpE (defs₀ (F := F)) Variants.none c none) Set.univ
        (.op (.enqueueDma ((arg5.slice (Rect.unitDyn (s := S3x12x16384x128) off5 size5 h5) (fun _ => rfl)).squeeze ⟨2, sz⟩ hq5)
          (.here ((arg9.slice (Rect.unitDyn (s := S12x2048x128) off9 size9 h9) (fun _ => rfl)).squeeze ⟨2, sz⟩ hq9)) (.dma sm) hsrc hdst hsem) kk) Q) := by
  subst e1 e2 e3 e4 e5 e6
  have ht : 128 ≤ tk c arg0 f0 k ∧ tk c arg0 f0 k ≤ 2048 :=
    (tok_dvd (wd (ch (nc c arg0 f0) k).2) (lw c arg0 f0 ((ch (nc c arg0 f0) k).1 / 12))).2
  exact issueG c arg9 arg5 _ _ _ _ _ _ _ _ _ f5 (semS arg17 s) (KP k) (crK_eq arg9 _ _ _ _ _) (crK_pos arg9 _ (by omega)) (dst_set c arg9 s _ ht.2 h9 hq9)
    (fun fd => hKP k s fd _ _ _ _ h9 hq9 h5 hq5 hs hk rfl rfl rfl rfl)

theorem fly_stK (s : Fin 12) (k : ℕ) (hk : (ch (nc c arg0 f0) k).1 < 36) :
    flyK c arg0 arg5 arg9 arg17 f0 f5 q5 KP s k ⊢ stK c arg0 arg5 arg9 arg17 f0 f5 q5 KP s (some k) := by
  show _ ⊢ stSome c arg0 arg5 arg9 arg17 f0 f5 q5 KP s k
  unfold stSome; rw [if_pos hk]
theorem stK_fly (s : Fin 12) (k : ℕ) (hk : (ch (nc c arg0 f0) k).1 < 36) :
    stK c arg0 arg5 arg9 arg17 f0 f5 q5 KP s (some k) ⊢ flyK c arg0 arg5 arg9 arg17 f0 f5 q5 KP s k := by
  show stSome c arg0 arg5 arg9 arg17 f0 f5 q5 KP s k ⊢ _
  unfold stSome; rw [if_pos hk]
theorem idle_stK (s : Fin 12) (k : ℕ) (hk : ¬ (ch (nc c arg0 f0) k).1 < 36) :
    idleK c arg5 arg9 arg17 f5 q5 s ⊢ stK c arg0 arg5 arg9 arg17 f0 f5 q5 KP s (some k) := by
  show _ ⊢ stSome c arg0 arg5 arg9 arg17 f0 f5 q5 KP s k
  unfold stSome; rw [if_neg hk]
theorem stK_idle (s : Fin 12) (k : ℕ) (hk : ¬ (ch (nc c arg0 f0) k).1 < 36) :
    stK c arg0 arg5 arg9 arg17 f0 f5 q5 KP s (some k) ⊢ idleK c arg5 arg9 arg17 f5 q5 s := by
  show stSome c arg0 arg5 arg9 arg17 f0 f5 q5 KP s k ⊢ _
  unfold stSome; rw [if_neg hk]

/-- Wait for chunk `k` in slot `s`. -/
theorem awaitK (s : Fin 12) (k : ℕ) {sz : Fin 2 → ℕ} {sm : DmaSem sig} (e1 : sz = ![tk c arg0 f0 k, 128]) (e2 : sm = semS arg17 s)
    {α : Type} {Q : α → sProp 𝕄} {kk : PUnit → Prog (TpuEff nD τ sig (Elt F) Λ₀ .tc) α} {hh} :
    iprop(flyK c arg0 arg5 arg9 arg17 f0 f5 q5 KP s k ∗ ∃ W, owes (c : Thread nD τ) 0 W) ⊢
      iprop((iprop(semVal ((c : Thread nD τ), SemLoc.dma (semS arg17 s)) 0 ∗ (∃ f, ⌜KP k f⌝ ∗ (arg9.view.loc (c : Thread nD τ) ↦[slotK c arg9 s]{fullShare} f))
          ∗ (arg5.view.loc (c : Thread nD τ) ↦{q5 s} f5) ∗ ∃ W, owes (c : Thread nD τ) 0 W) -∗
        wp frame (wpE (defs₀ (F := F)) Variants.none c none) Set.univ (kk ⟨⟩) Q)
      -∗ wp frame (wpE (defs₀ (F := F)) Variants.none c none) Set.univ
        (.op (.waitDma sm arg9.view.ref (⟨2, sz⟩ : Shape) .bf16 hh) kk) Q) := by
  subst e1 e2
  have h := await (U := UD sig nD τ) (defs := defs₀ (F := F)) c (sm := semS arg17 s) (b := arg9.view.ref) (s := (⟨2, ![tk c arg0 f0 k, 128]⟩ : Shape)) (e := .bf16) (hk := hh) (k := kk) (Q := Q)
    (N := crK arg9 (tk c arg0 f0 k)) (D := iprop((∃ f, ⌜KP k f⌝ ∗ (arg9.view.loc (c : Thread nD τ) ↦[slotK c arg9 s]{fullShare} f)) ∗ (arg5.view.loc (c : Thread nD τ) ↦{q5 s} f5))) rfl
  unfold flyK
  iintro H Hk
  iapply h $$ H
  iintro ⟨⟨Hf, Hs⟩, Hv, Ho⟩
  iapply Hk
  isplitl [Hv]; · iexact Hv
  isplitl [Hf]; · iexact Hf
  isplitl [Hs]; · iexact Hs
  iexact Ho

/-- The slot of the prefetch's trip `t` set apart. -/
theorem preK_focus (t : Fin 12) : Ring.AtW (stK c arg0 arg5 arg9 arg17 f0 f5 q5 KP) (pre t.val) ⊢
    iprop(idleK c arg5 arg9 arg17 f5 q5 t ∗ Ring.restW (stK c arg0 arg5 arg9 arg17 f0 f5 q5 KP) (pre t.val) t) := by
  rw [Ring.AtW_focus (stK c arg0 arg5 arg9 arg17 f0 f5 q5 KP) (pre t.val) t]
  have e : pre t.val t = none := by simp [pre]
  rw [e]
  exact BIBase.Entails.rfl
/-- … and put back with its chunk on its way. -/
theorem preK_put (t : Fin 12) : iprop(stK c arg0 arg5 arg9 arg17 f0 f5 q5 KP t (some t.val) ∗ Ring.restW (stK c arg0 arg5 arg9 arg17 f0 f5 q5 KP) (pre t.val) t) ⊢
    Ring.AtW (stK c arg0 arg5 arg9 arg17 f0 f5 q5 KP) (pre (t.val + 1)) := by
  rw [← pre_update t]
  exact Ring.AtW_update (stK c arg0 arg5 arg9 arg17 f0 f5 q5 KP) (pre t.val) t (some t.val)
/-- The slot of chunk `i` set apart. -/
theorem consK_focus (i : ℕ) (s : Fin 12) (h : s.val = i % 12) : Ring.AtW (stK c arg0 arg5 arg9 arg17 f0 f5 q5 KP) (cons i) ⊢
    iprop(stK c arg0 arg5 arg9 arg17 f0 f5 q5 KP s (some i) ∗ Ring.restW (stK c arg0 arg5 arg9 arg17 f0 f5 q5 KP) (cons i) s) := by
  rw [Ring.AtW_focus (stK c arg0 arg5 arg9 arg17 f0 f5 q5 KP) (cons i) s, cons_at i s h]
/-- … and put back with the chunk twelve further on its way. -/
theorem consK_put (i : ℕ) (s : Fin 12) (h : s.val = i % 12) : iprop(stK c arg0 arg5 arg9 arg17 f0 f5 q5 KP s (some (i + 12)) ∗ Ring.restW (stK c arg0 arg5 arg9 arg17 f0 f5 q5 KP) (cons i) s) ⊢
    Ring.AtW (stK c arg0 arg5 arg9 arg17 f0 f5 q5 KP) (cons (i + 1)) := by
  rw [← cons_update i s h]
  exact Ring.AtW_update (stK c arg0 arg5 arg9 arg17 f0 f5 q5 KP) (cons i) s (some (i + 12))

end K

end Cert.Proof.KernelIdeal
-- ==== Proof.RingVI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingKI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

theorem inbSlotV (s : Fin 12) : ∀ a, (![s.val, 0, 0] : Fin 3 → ℕ) a + S1x128x2048.size a ≤ S12x128x2048.size a := by
  intro a; have := s.isLt; fin_cases a <;> simp [S1x128x2048, S12x128x2048]; omega

/-- The elements of a slot. -/
def slotV (s : Fin 12) : Finset (Idx (arg10.view.loc (c : Thread nD τ))) :=
  arg10.view.setOn (Rect.unit (s := S12x128x2048) ![s.val, 0, 0] S1x128x2048.size (inbSlotV s)).set

theorem slotV_of (s : Fin 12) (off : Fin 3 → ℕ) (inb) (h : off = ![s.val, 0, 0]) :
    arg10.view.setOn (Rect.unit (s := S12x128x2048) off S1x128x2048.size inb).set = slotV c arg10 s :=
  setOn_congr arg10 _ _ _ h

section V
variable (f0 : Buf (Elt F) (arg0.view.loc (c : Thread nD τ))) (f6 : Buf (Elt F) (arg6.view.loc (c : Thread nD τ)))
variable (q6 : Fin 12 → PosShare TreeShare)
variable (VP : ℕ → Buf (Elt F) (arg10.view.loc (c : Thread nD τ)) → Prop)

/-- What a transfer of `n` tokens credits. -/
def crV (n : ℕ) : ℕ := arg10.view.ref.dmaCredit ⟨2, ![128, n]⟩ .fp8e4m3

/-- A free slot. -/
def idleV (s : Fin 12) : sProp 𝕄 :=
  iprop(semVal ((c : Thread nD τ), SemLoc.dma (semS arg18 s)) 0 ∗ (∃ f, arg10.view.loc (c : Thread nD τ) ↦[slotV c arg10 s]{fullShare} f)
    ∗ (arg6.view.loc (c : Thread nD τ) ↦{q6 s} f6))

/-- A slot into which chunk `k` is on its way. -/
def flyV (s : Fin 12) (k : ℕ) : sProp 𝕄 :=
  Transfers.Flight (Ix := Unit) (EC (U := UD sig nD τ)) (c : Thread nD τ) (.dma (semS arg18 s)) () (crV arg10 (tk c arg0 f0 k))
    iprop((∃ f, ⌜VP k f⌝ ∗ (arg10.view.loc (c : Thread nD τ) ↦[slotV c arg10 s]{fullShare} f)) ∗ (arg6.view.loc (c : Thread nD τ) ↦{q6 s} f6))

/-- A slot that a chunk of no unit would take stays free. -/
def stSomeV (s : Fin 12) (k : ℕ) : sProp 𝕄 :=
  if (ch (nc c arg0 f0) k).1 < 36 then flyV c arg0 arg6 arg10 arg18 f0 f6 q6 VP s k else idleV c arg6 arg10 arg18 f6 q6 s

/-- A slot. -/
def stV (s : Fin 12) : Option ℕ → sProp 𝕄
  | none => idleV c arg6 arg10 arg18 f6 q6 s
  | some k => stSomeV c arg0 arg6 arg10 arg18 f0 f6 q6 VP s k

/-- What a landed chunk is known to be. -/
def LandsV : Prop := ∀ (k : ℕ) (s : Fin 12) (fd : Buf (Elt F) (arg10.view.loc (c : Thread nD τ))) (n b g r : ℕ)
  (h9 : ∀ a, (![1, 128, n] : Fin 3 → ℕ) a = 0 ∨ (![s.val, 0, 0] : Fin 3 → ℕ) a + (![1, 128, n] : Fin 3 → ℕ) a ≤ S12x128x2048.size a)
  (hq9 : (⟨3, ![1, 128, n]⟩ : Shape).Squeezes ⟨2, ![128, n]⟩)
  (h5 : ∀ a, (![1, 1, 128, n] : Fin 4 → ℕ) a = 0 ∨ (![b, g, 0, r] : Fin 4 → ℕ) a + (![1, 1, 128, n] : Fin 4 → ℕ) a ≤ S3x12x128x16384.size a)
  (hq5 : (⟨4, ![1, 1, 128, n]⟩ : Shape).Squeezes ⟨2, ![128, n]⟩),
  s.val = k % 12 → (ch (nc c arg0 f0) k).1 < 36 → n = tk c arg0 f0 k → b = (ch (nc c arg0 f0) k).1 / 12 → g = (ch (nc c arg0 f0) k).1 % 12 →
  r = 2048 * (ch (nc c arg0 f0) k).2 →
  VP k (((arg10.slice (Rect.unitDyn (s := S12x128x2048) ![s.val, 0, 0] ![1, 128, n] h9) (fun _ => rfl)).squeeze ⟨2, ![128, n]⟩ hq9).view.write (Elt F) fd
    (((arg6.slice (Rect.unitDyn (s := S3x12x128x16384) ![b, g, 0, r] ![1, 1, 128, n] h5) (fun _ => rfl)).squeeze ⟨2, ![128, n]⟩ hq5).view.read (Elt F) f6) Finset.univ)

theorem dst_setV (s : Fin 12) (n : ℕ) (hn : n ≤ 2048) (h9 : ∀ a, (![1, 128, n] : Fin 3 → ℕ) a = 0 ∨ (![s.val, 0, 0] : Fin 3 → ℕ) a + (![1, 128, n] : Fin 3 → ℕ) a ≤ S12x128x2048.size a)
    (hq9 : (⟨3, ![1, 128, n]⟩ : Shape).Squeezes ⟨2, ![128, n]⟩) :
    ((arg10.slice (Rect.unitDyn (s := S12x128x2048) ![s.val, 0, 0] ![1, 128, n] h9) (fun _ => rfl)).squeeze ⟨2, ![128, n]⟩ hq9).view.set ⊆ slotV c arg10 s := by
  refine squeeze_slice_sub arg10 _ _ _ _ _ ?_
  intro i hi
  rw [Rect.mem_set_unitDyn] at hi
  rw [Rect.mem_set_unit]
  intro a
  have := hi a
  fin_cases a
  · simpa [S1x128x2048] using this
  · simpa [S1x128x2048] using this
  · simp [S1x128x2048] at this ⊢; omega

theorem crV_eq (off : Fin 3 → ℕ) (size : Fin 3 → ℕ) (n : ℕ) (h9) (hq9 : (⟨3, size⟩ : Shape).Squeezes ⟨2, ![128, n]⟩) :
    ((arg10.slice (Rect.unitDyn (s := S12x128x2048) off size h9) (fun _ => rfl)).squeeze ⟨2, ![128, n]⟩ hq9).view.dmaCredit = crV arg10 n := rfl

theorem crV_pos (n : ℕ) (hn : 0 < n) : 0 < crV arg10 n :=
  sig.dmaCredit_pos _ _ arg10.view.buf ⟨2, ![128, n]⟩ .fp8e4m3 (Shape.numel_pos fun a => by fin_cases a <;> simp; omega)

/-- Start chunk `k`'s transfer into slot `s`. -/
theorem issueV (hVP : LandsV c arg0 arg6 arg10 f0 f6 VP) (s : Fin 12) (k : ℕ) (hs : s.val = k % 12) (hk : (ch (nc c arg0 f0) k).1 < 36)
    {off9 size10 : Fin 3 → ℕ} {off5 size5 : Fin 4 → ℕ} {sz : Fin 2 → ℕ} {h9 h5} {hq9 : (⟨3, size10⟩ : Shape).Squeezes ⟨2, sz⟩}
    {hq5 : (⟨4, size5⟩ : Shape).Squeezes ⟨2, sz⟩} {sm : DmaSem sig}
    (e1 : off9 = ![s.val, 0, 0]) (e2 : size10 = ![1, 128, tk c arg0 f0 k]) (e3 : sz = ![128, tk c arg0 f0 k])
    (e4 : off5 = ![(ch (nc c arg0 f0) k).1 / 12, (ch (nc c arg0 f0) k).1 % 12, 0, 2048 * (ch (nc c arg0 f0) k).2])
    (e5 : size5 = ![1, 1, 128, tk c arg0 f0 k]) (e6 : sm = semS arg18 s)
    {α : Type} {Q : α → sProp 𝕄} {kk : PUnit → Prog (TpuEff nD τ sig (Elt F) Λ₀ .tc) α} {hsrc hdst hsem} :
    idleV c arg6 arg10 arg18 f6 q6 s ⊢ iprop((flyV c arg0 arg6 arg10 arg18 f0 f6 q6 VP s k -∗
        wp frame (wpE (defs₀ (F := F)) Variants.none c none) Set.univ (kk ⟨⟩) Q)
      -∗ wp frame (wpE (defs₀ (F := F)) Variants.none c none) Set.univ
        (.op (.enqueueDma ((arg6.slice (Rect.unitDyn (s := S3x12x128x16384) off5 size5 h5) (fun _ => rfl)).squeeze ⟨2, sz⟩ hq5)
          (.here ((arg10.slice (Rect.unitDyn (s := S12x128x2048) off9 size10 h9) (fun _ => rfl)).squeeze ⟨2, sz⟩ hq9)) (.dma sm) hsrc hdst hsem) kk) Q) := by
  subst e1 e2 e3 e4 e5 e6
  have ht : 128 ≤ tk c arg0 f0 k ∧ tk c arg0 f0 k ≤ 2048 :=
    (tok_dvd (wd (ch (nc c arg0 f0) k).2) (lw c arg0 f0 ((ch (nc c arg0 f0) k).1 / 12))).2
  exact issueG c arg10 arg6 _ _ _ _ _ _ _ _ _ f6 (semS arg18 s) (VP k) (crV_eq arg10 _ _ _ _ _) (crV_pos arg10 _ (by omega)) (dst_setV c arg10 s _ ht.2 h9 hq9)
    (fun fd => hVP k s fd _ _ _ _ h9 hq9 h5 hq5 hs hk rfl rfl rfl rfl)

theorem fly_stV (s : Fin 12) (k : ℕ) (hk : (ch (nc c arg0 f0) k).1 < 36) :
    flyV c arg0 arg6 arg10 arg18 f0 f6 q6 VP s k ⊢ stV c arg0 arg6 arg10 arg18 f0 f6 q6 VP s (some k) := by
  show _ ⊢ stSomeV c arg0 arg6 arg10 arg18 f0 f6 q6 VP s k
  unfold stSomeV; rw [if_pos hk]
theorem stV_fly (s : Fin 12) (k : ℕ) (hk : (ch (nc c arg0 f0) k).1 < 36) :
    stV c arg0 arg6 arg10 arg18 f0 f6 q6 VP s (some k) ⊢ flyV c arg0 arg6 arg10 arg18 f0 f6 q6 VP s k := by
  show stSomeV c arg0 arg6 arg10 arg18 f0 f6 q6 VP s k ⊢ _
  unfold stSomeV; rw [if_pos hk]
theorem idle_stV (s : Fin 12) (k : ℕ) (hk : ¬ (ch (nc c arg0 f0) k).1 < 36) :
    idleV c arg6 arg10 arg18 f6 q6 s ⊢ stV c arg0 arg6 arg10 arg18 f0 f6 q6 VP s (some k) := by
  show _ ⊢ stSomeV c arg0 arg6 arg10 arg18 f0 f6 q6 VP s k
  unfold stSomeV; rw [if_neg hk]
theorem stV_idle (s : Fin 12) (k : ℕ) (hk : ¬ (ch (nc c arg0 f0) k).1 < 36) :
    stV c arg0 arg6 arg10 arg18 f0 f6 q6 VP s (some k) ⊢ idleV c arg6 arg10 arg18 f6 q6 s := by
  show stSomeV c arg0 arg6 arg10 arg18 f0 f6 q6 VP s k ⊢ _
  unfold stSomeV; rw [if_neg hk]

/-- Wait for chunk `k` in slot `s`. -/
theorem awaitV (s : Fin 12) (k : ℕ) {sz : Fin 2 → ℕ} {sm : DmaSem sig} (e1 : sz = ![128, tk c arg0 f0 k]) (e2 : sm = semS arg18 s)
    {α : Type} {Q : α → sProp 𝕄} {kk : PUnit → Prog (TpuEff nD τ sig (Elt F) Λ₀ .tc) α} {hh} :
    iprop(flyV c arg0 arg6 arg10 arg18 f0 f6 q6 VP s k ∗ ∃ W, owes (c : Thread nD τ) 0 W) ⊢
      iprop((iprop(semVal ((c : Thread nD τ), SemLoc.dma (semS arg18 s)) 0 ∗ (∃ f, ⌜VP k f⌝ ∗ (arg10.view.loc (c : Thread nD τ) ↦[slotV c arg10 s]{fullShare} f))
          ∗ (arg6.view.loc (c : Thread nD τ) ↦{q6 s} f6) ∗ ∃ W, owes (c : Thread nD τ) 0 W) -∗
        wp frame (wpE (defs₀ (F := F)) Variants.none c none) Set.univ (kk ⟨⟩) Q)
      -∗ wp frame (wpE (defs₀ (F := F)) Variants.none c none) Set.univ
        (.op (.waitDma sm arg10.view.ref (⟨2, sz⟩ : Shape) .fp8e4m3 hh) kk) Q) := by
  subst e1 e2
  have h := await (U := UD sig nD τ) (defs := defs₀ (F := F)) c (sm := semS arg18 s) (b := arg10.view.ref) (s := (⟨2, ![128, tk c arg0 f0 k]⟩ : Shape)) (e := .fp8e4m3) (hk := hh) (k := kk) (Q := Q)
    (N := crV arg10 (tk c arg0 f0 k)) (D := iprop((∃ f, ⌜VP k f⌝ ∗ (arg10.view.loc (c : Thread nD τ) ↦[slotV c arg10 s]{fullShare} f)) ∗ (arg6.view.loc (c : Thread nD τ) ↦{q6 s} f6))) rfl
  unfold flyV
  iintro H Hk
  iapply h $$ H
  iintro ⟨⟨Hf, Hs⟩, Hv, Ho⟩
  iapply Hk
  isplitl [Hv]; · iexact Hv
  isplitl [Hf]; · iexact Hf
  isplitl [Hs]; · iexact Hs
  iexact Ho

/-- The slot of the prefetch's trip `t` set apart. -/
theorem preV_focus (t : Fin 12) : Ring.AtW (stV c arg0 arg6 arg10 arg18 f0 f6 q6 VP) (pre t.val) ⊢
    iprop(idleV c arg6 arg10 arg18 f6 q6 t ∗ Ring.restW (stV c arg0 arg6 arg10 arg18 f0 f6 q6 VP) (pre t.val) t) := by
  rw [Ring.AtW_focus (stV c arg0 arg6 arg10 arg18 f0 f6 q6 VP) (pre t.val) t]
  have e : pre t.val t = none := by simp [pre]
  rw [e]
  exact BIBase.Entails.rfl
/-- … and put back with its chunk on its way. -/
theorem preV_put (t : Fin 12) : iprop(stV c arg0 arg6 arg10 arg18 f0 f6 q6 VP t (some t.val) ∗ Ring.restW (stV c arg0 arg6 arg10 arg18 f0 f6 q6 VP) (pre t.val) t) ⊢
    Ring.AtW (stV c arg0 arg6 arg10 arg18 f0 f6 q6 VP) (pre (t.val + 1)) := by
  rw [← pre_update t]
  exact Ring.AtW_update (stV c arg0 arg6 arg10 arg18 f0 f6 q6 VP) (pre t.val) t (some t.val)
/-- The slot of chunk `i` set apart. -/
theorem consV_focus (i : ℕ) (s : Fin 12) (h : s.val = i % 12) : Ring.AtW (stV c arg0 arg6 arg10 arg18 f0 f6 q6 VP) (cons i) ⊢
    iprop(stV c arg0 arg6 arg10 arg18 f0 f6 q6 VP s (some i) ∗ Ring.restW (stV c arg0 arg6 arg10 arg18 f0 f6 q6 VP) (cons i) s) := by
  rw [Ring.AtW_focus (stV c arg0 arg6 arg10 arg18 f0 f6 q6 VP) (cons i) s, cons_at i s h]
/-- … and put back with the chunk twelve further on its way. -/
theorem consV_put (i : ℕ) (s : Fin 12) (h : s.val = i % 12) : iprop(stV c arg0 arg6 arg10 arg18 f0 f6 q6 VP s (some (i + 12)) ∗ Ring.restW (stV c arg0 arg6 arg10 arg18 f0 f6 q6 VP) (cons i) s) ⊢
    Ring.AtW (stV c arg0 arg6 arg10 arg18 f0 f6 q6 VP) (cons (i + 1)) := by
  rw [← cons_update i s h]
  exact Ring.AtW_update (stV c arg0 arg6 arg10 arg18 f0 f6 q6 VP) (cons i) s (some (i + 12))

end V

end Cert.Proof.KernelIdeal
-- ==== Proof.PreKI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingVI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section T1
variable (f0 : Buf (Elt F) (arg0.view.loc (c : Thread nD τ))) (f5 : Buf (Elt F) (arg5.view.loc (c : Thread nD τ)))
variable (q5 : Fin 12 → PosShare TreeShare) (q0 : PosShare TreeShare)
variable (KP : ℕ → Buf (Elt F) (arg9.view.loc (c : Thread nD τ)) → Prop)

set_option maxHeartbeats 4000000 in
theorem t1_run (hKP : LandsK c arg0 arg5 arg9 f0 f5 KP) (t : Fin k0_t1_loop.trips) (u cc : ℕ) (hu : u < 36) (hcc : cc < 8) (h : ch (nc c arg0 f0) t = (u, cc)) :
    iprop((arg0.view.loc (c : Thread nD τ) ↦{q0} f0) ∗ idleK c arg5 arg9 arg17 f5 q5 t)
    ⊢ wp frame (wpE (defs₀ (F := F)) Variants.none c none) Set.univ
      (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t (wd u, wd cc))
      (fun r => iprop((arg0.view.loc (c : Thread nD τ) ↦{q0} f0) ∗ stK c arg0 arg5 arg9 arg17 f0 f5 q5 KP t (some t.val)
        ∗ ⌜r = (wd (ch (nc c arg0 f0) (t + 1)).1, wd (ch (nc c arg0 f0) (t + 1)).2)⌝)) := by
  have hc1 : k0_cond1 (wd u) = 1#1 := by rw [cond1_iff ⟨u, by omega⟩]; simp [hu]
  unfold idleK
  rw [← slotK_of c arg9 t (k0_off2 t) (k0_off2_inb t) (off2_eq t)]
  iintro ⟨H0, Hv, ⟨%f9, H9⟩, H5⟩
  sl_unfold [k0_t1_body]
  sl_exec (disch := first | sl_exact hc1 | sl_exact (chk4_of _ cc hcc) | sl_exact (chk1_of u (by omega)) | sl_exact (chk2_of _ _ _) | sl_exact (chk3_of t u cc (by omega) hcc _))
  have hr : t1_run.sl.r_1 c arg0 f0 u cc hu hc1 = lw c arg0 f0 (u / 12) := lw_eq c arg0 f0 _ _ _ _ (off3_eq u (by omega))
  have htk : (tok (wd cc) (t1_run.sl.r_1 c arg0 f0 u cc hu hc1)).toNat = tk c arg0 f0 t := by rw [hr, tk, h]
  iapply (issueK c arg0 arg5 arg9 arg17 f0 f5 q5 KP hKP t t.val (Nat.mod_eq_of_lt t.isLt).symm (by rw [h]; exact hu)
    (by rw [off5_eq]) (by rw [off5_eq, htk]) (by rw [sz2_eq, htk]) (by rw [off6_eq u cc (by omega) hcc, h]) (by rw [off6_eq u cc (by omega) hcc, htk])
    (semS_eq arg17 t _ _ (off4_eq t))) $$ [Hv H9 H5]
  · unfold idleK
    isplitl [Hv]; · iexact Hv
    isplitr [H5]
    · iexists _
      rw [← slotK_of c arg9 t (k0_off2 t) (k0_off2_inb t) (off2_eq t)]
      iexact H9
    · iexact H5
  iintro Hst
  sl_exec
  sl_step
  have hlt := ch_lt (nc c arg0 f0) (nc_pos c arg0 f0) t
  rw [h] at hlt
  have hw := nxt_words (nc c arg0 f0) u cc (by omega) hlt.1 hlt.2 _ (fun _ => congrArg (fun x => chunksN (lenN x))
    (lw_eq c arg0 f0 (k0_off7 (wd u)) (k0_off7_inb (wd u) (chk1_of u (by omega))) (Shape.Idx.first (by show 0 < S1.numel; decide)) (u / 12) (by rw [off7_eq u (by omega), Nat.min_eq_left (by omega)])))
  rw [← h] at hw
  isplitl [H0]; · iexact H0
  isplitl [Hst]
  · iapply (fly_stK c arg0 arg5 arg9 arg17 f0 f5 q5 KP t t.val (by rw [h]; exact hu)) $$ Hst
  · ipureintro
    exact Prod.ext hw.1 hw.2
theorem t1_loop (hKP : LandsK c arg0 arg5 arg9 f0 f5 KP) {α : Type} {Q : α → sProp 𝕄}
    {kk : BitVec 32 × BitVec 32 → Prog (TpuEff nD τ sig (Elt F) Λ₀ .tc) α} :
    iprop((arg0.view.loc (c : Thread nD τ) ↦{q0} f0) ∗ Ring.AtW (stK c arg0 arg5 arg9 arg17 f0 f5 q5 KP) (pre 0)) ⊢
      iprop((iprop((arg0.view.loc (c : Thread nD τ) ↦{q0} f0) ∗ Ring.AtW (stK c arg0 arg5 arg9 arg17 f0 f5 q5 KP) (cons 0)) -∗
        wp frame (wpE (defs₀ (F := F)) Variants.none c none) Set.univ (kk (wd (ch (nc c arg0 f0) 12).1, wd (ch (nc c arg0 f0) 12).2)) Q)
      -∗ wp frame (wpE (defs₀ (F := F)) Variants.none c none) Set.univ
        (Scf.Loop.for k0_t1_loop k0_t1_ok (0#32, 0#32) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= kk) Q) := by
  iintro ⟨H0, HR⟩ Hk
  sl_for (fun (k : ℕ) (a : BitVec 32 × BitVec 32) => iprop((arg0.view.loc (c : Thread nD τ) ↦{q0} f0) ∗ Ring.AtW (stK c arg0 arg5 arg9 arg17 f0 f5 q5 KP) (pre k) ∗
    ⌜a = (wd (ch (nc c arg0 f0) k).1, wd (ch (nc c arg0 f0) k).2)⌝)) $$ [H0 HR]
  case region =>
    intro k a
    iintro ⟨H0, HR, %ha⟩
    subst ha
    icases (preK_focus c arg0 arg5 arg9 arg17 f0 f5 q5 KP k) $$ HR with ⟨Hi, Hr⟩
    have hk : k.val < 12 := k.isLt
    have h36 : (ch (nc c arg0 f0) k).1 < 36 := by have := ch_le (nc c arg0 f0) k.val; omega
    have h8 : (ch (nc c arg0 f0) k).2 < 8 :=
      Nat.lt_of_lt_of_le ((ch_lt (nc c arg0 f0) (nc_pos c arg0 f0) k).1 h36) (nc_le c arg0 f0 _)
    have h := t1_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 q5 q0 KP hKP k _ _ h36 h8 rfl
    iapply wp_wand $$ [H0 Hi]
    · iapply h
      isplitl [H0]; · iexact H0
      iexact Hi
    iintro %r ⟨H0, Hs, %hr⟩
    isplitl [H0]; · iexact H0
    isplitl [Hs Hr]
    · iapply (preK_put c arg0 arg5 arg9 arg17 f0 f5 q5 KP k)
      isplitl [Hs]; · iexact Hs
      iexact Hr
    · ipureintro; exact hr
  · isplitl [H0]; · iexact H0
    isplitl [HR]; · iexact HR
    ipureintro; rfl
  iintro %a ⟨H0, HR, %ha⟩
  have ht : Scf.trips k0_t1_loop.lb k0_t1_loop.ub k0_t1_loop.st = 12 := by decide
  rw [ht] at ha
  subst ha
  iapply Hk
  isplitl [H0]; · iexact H0
  rw [← pre_all]
  iexact HR
end T1

end Cert.Proof.KernelIdeal
-- ==== Proof.PreVI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingVI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section T2
variable (f0 : Buf (Elt F) (arg0.view.loc (c : Thread nD τ))) (f6 : Buf (Elt F) (arg6.view.loc (c : Thread nD τ)))
variable (q6 : Fin 12 → PosShare TreeShare) (q0 : PosShare TreeShare)
variable (VP : ℕ → Buf (Elt F) (arg10.view.loc (c : Thread nD τ)) → Prop)

set_option maxHeartbeats 4000000 in
theorem t2_run (hVP : LandsV c arg0 arg6 arg10 f0 f6 VP) (t : Fin k0_t2_loop.trips) (u cc : ℕ) (hu : u < 36) (hcc : cc < 8) (h : ch (nc c arg0 f0) t = (u, cc)) :
    iprop((arg0.view.loc (c : Thread nD τ) ↦{q0} f0) ∗ idleV c arg6 arg10 arg18 f6 q6 t)
    ⊢ wp frame (wpE (defs₀ (F := F)) Variants.none c none) Set.univ
      (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 t (wd u, wd cc))
      (fun r => iprop((arg0.view.loc (c : Thread nD τ) ↦{q0} f0) ∗ stV c arg0 arg6 arg10 arg18 f0 f6 q6 VP t (some t.val)
        ∗ ⌜r = (wd (ch (nc c arg0 f0) (t + 1)).1, wd (ch (nc c arg0 f0) (t + 1)).2)⌝)) := by
  have hc1 : k0_cond3 (wd u) = 1#1 := by rw [cond3_iff ⟨u, by omega⟩]; simp [hu]
  unfold idleV
  rw [← slotV_of c arg10 t (k0_off9 t) (k0_off9_inb t) (off9_eq t)]
  iintro ⟨H0, Hv, ⟨%f10, H9⟩, H5⟩
  sl_unfold [k0_t2_body]
  sl_exec (disch := first | sl_exact hc1 | sl_exact (chk8_of _ cc hcc) | sl_exact (chk5_of u (by omega)) | sl_exact (chk6_of _ _ _) | sl_exact (chk7_of t u cc (by omega) hcc _))
  have hr : t2_run.sl.r_1 c arg0 f0 u cc hu hc1 = lw c arg0 f0 (u / 12) := lw_eq c arg0 f0 _ _ _ _ (off10_eq u (by omega))
  have htk : (tok (wd cc) (t2_run.sl.r_1 c arg0 f0 u cc hu hc1)).toNat = tk c arg0 f0 t := by rw [hr, tk, h]
  iapply (issueV c arg0 arg6 arg10 arg18 f0 f6 q6 VP hVP t t.val (Nat.mod_eq_of_lt t.isLt).symm (by rw [h]; exact hu)
    (by rw [off12_eq]) (by rw [off12_eq, htk]) (by rw [sz4_eq, htk]) (by rw [off13_eq u cc (by omega) hcc, h]) (by rw [off13_eq u cc (by omega) hcc, htk])
    (semS_eq arg18 t _ _ (off11_eq t))) $$ [Hv H9 H5]
  · unfold idleV
    isplitl [Hv]; · iexact Hv
    isplitr [H5]
    · iexists _
      rw [← slotV_of c arg10 t (k0_off9 t) (k0_off9_inb t) (off9_eq t)]
      iexact H9
    · iexact H5
  iintro Hst
  sl_exec
  sl_step
  have hlt := ch_lt (nc c arg0 f0) (nc_pos c arg0 f0) t
  rw [h] at hlt
  have hw := nxt_words (nc c arg0 f0) u cc (by omega) hlt.1 hlt.2 _ (fun _ => congrArg (fun x => chunksN (lenN x))
    (lw_eq c arg0 f0 (k0_off14 (wd u)) (k0_off14_inb (wd u) (chk5_of u (by omega))) (Shape.Idx.first (by show 0 < S1.numel; decide)) (u / 12) (by rw [off14_eq u (by omega), Nat.min_eq_left (by omega)])))
  rw [← h] at hw
  isplitl [H0]; · iexact H0
  isplitl [Hst]
  · iapply (fly_stV c arg0 arg6 arg10 arg18 f0 f6 q6 VP t t.val (by rw [h]; exact hu)) $$ Hst
  · ipureintro
    exact Prod.ext hw.1 hw.2
theorem t2_loop (hVP : LandsV c arg0 arg6 arg10 f0 f6 VP) {α : Type} {Q : α → sProp 𝕄}
    {kk : BitVec 32 × BitVec 32 → Prog (TpuEff nD τ sig (Elt F) Λ₀ .tc) α} :
    iprop((arg0.view.loc (c : Thread nD τ) ↦{q0} f0) ∗ Ring.AtW (stV c arg0 arg6 arg10 arg18 f0 f6 q6 VP) (pre 0)) ⊢
      iprop((iprop((arg0.view.loc (c : Thread nD τ) ↦{q0} f0) ∗ Ring.AtW (stV c arg0 arg6 arg10 arg18 f0 f6 q6 VP) (cons 0)) -∗
        wp frame (wpE (defs₀ (F := F)) Variants.none c none) Set.univ (kk (wd (ch (nc c arg0 f0) 12).1, wd (ch (nc c arg0 f0) 12).2)) Q)
      -∗ wp frame (wpE (defs₀ (F := F)) Variants.none c none) Set.univ
        (Scf.Loop.for k0_t2_loop k0_t2_ok (0#32, 0#32) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= kk) Q) := by
  iintro ⟨H0, HR⟩ Hk
  sl_for (fun (k : ℕ) (a : BitVec 32 × BitVec 32) => iprop((arg0.view.loc (c : Thread nD τ) ↦{q0} f0) ∗ Ring.AtW (stV c arg0 arg6 arg10 arg18 f0 f6 q6 VP) (pre k) ∗
    ⌜a = (wd (ch (nc c arg0 f0) k).1, wd (ch (nc c arg0 f0) k).2)⌝)) $$ [H0 HR]
  case region =>
    intro k a
    iintro ⟨H0, HR, %ha⟩
    subst ha
    icases (preV_focus c arg0 arg6 arg10 arg18 f0 f6 q6 VP k) $$ HR with ⟨Hi, Hr⟩
    have hk : k.val < 12 := k.isLt
    have h36 : (ch (nc c arg0 f0) k).1 < 36 := by have := ch_le (nc c arg0 f0) k.val; omega
    have h8 : (ch (nc c arg0 f0) k).2 < 8 :=
      Nat.lt_of_lt_of_le ((ch_lt (nc c arg0 f0) (nc_pos c arg0 f0) k).1 h36) (nc_le c arg0 f0 _)
    have h := t2_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f6 q6 q0 VP hVP k _ _ h36 h8 rfl
    iapply wp_wand $$ [H0 Hi]
    · iapply h
      isplitl [H0]; · iexact H0
      iexact Hi
    iintro %r ⟨H0, Hs, %hr⟩
    isplitl [H0]; · iexact H0
    isplitl [Hs Hr]
    · iapply (preV_put c arg0 arg6 arg10 arg18 f0 f6 q6 VP k)
      isplitl [Hs]; · iexact Hs
      iexact Hr
    · ipureintro; exact hr
  · isplitl [H0]; · iexact H0
    isplitl [HR]; · iexact HR
    ipureintro; rfl
  iintro %a ⟨H0, HR, %ha⟩
  have ht : Scf.trips k0_t2_loop.lb k0_t2_loop.ub k0_t2_loop.st = 12 := by decide
  rw [ht] at ha
  subst ha
  iapply Hk
  isplitl [H0]; · iexact H0
  rw [← pre_all]
  iexact HR
end T2

end Cert.Proof.KernelIdeal
-- ==== Proof.Facts2I.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.FactsI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! ### The first ring's chunk of a trip of loop t4 -/

theorem cond6_iff : ∀ u : Fin 37, k0_cond6 (wd u.val) = if u.val < 36 then 1#1 else 0#1 := by decide
theorem off24_eq : ∀ s : Fin 12, k0_off24 (wd s.val) = ![s.val] := by decide
theorem off40_eq : ∀ s : Fin 12, k0_off40 (wd s.val) = ![s.val] := by decide
theorem off31_eq : ∀ s : Fin 12, k0_off31 (wd s.val) = ![s.val, 0, 0] := by decide
theorem off32_eq : ∀ s : Fin 12, k0_off32 (wd s.val) = ![s.val, 1024, 0] := by decide
theorem off39_eq (u : Nat) (hu : u ≤ 36) : k0_off39 (wd u) = ![u / 12] := by
  rw [← fdiv12' u hu]; rfl
theorem off43_eq (u : Nat) (hu : u ≤ 36) : k0_off43 (wd u) = ![min u 35 / 12] := by
  rw [← fdiv12' (min u 35) (by omega), show wd (min u 35) = _ from (min35 ⟨u, by omega⟩).symm]; rfl
theorem off41_eq (s : Fin 12) (c v : BitVec 32) : k0_off41 (wd s.val) c v = (![s.val, 0, 0], ![1, (tok c v).toNat, 128]) := by
  have e : k0_off41 (wd s.val) c v = (![k0_off40 (wd s.val) 0, 0, 0], ![1, (tok c v).toNat, 128]) := rfl
  rw [e, off40_eq]; rfl
theorem off42_eq (u c : Nat) (hu : u ≤ 36) (hc : c < 8) (v : BitVec 32) :
    k0_off42 (wd u) (wd c) v = (![u / 12, u % 12, 2048 * c, 0], ![1, 1, (tok (wd c) v).toNat, 128]) := by
  rw [← fdiv12' u hu, ← fmod12' u hu, ← mul2048' c hc]; rfl
theorem sz9_eq (c v : BitVec 32) : k0_sz9 c v = ![(tok c v).toNat, 128] := rfl
theorem sz10_eq (c v : BitVec 32) : k0_sz10 c v = ![(tok c v).toNat, 128] := rfl
theorem sz5_eq (t3 : Fin k0_t3_loop.trips) (v39 v64 : BitVec 32) (t : Fin (k0_t4_loop t3 v39 v64).trips) (v : BitVec 32) (c : BitVec 32)
    (h : Scf.iv (k0_t4_loop t3 v39 v64).lb 1#32 t = c) : k0_sz5 t3 v39 v64 t v = ![(tok c v).toNat, 128] := by subst h; rfl
theorem chk10_of (t3 : Fin k0_t3_loop.trips) (v39 v64 : BitVec 32) (t : Fin (k0_t4_loop t3 v39 v64).trips) (a v : BitVec 32) :
    k0_chk10 t3 v39 v64 t a v :=
  ⟨(tok_dvd (Scf.iv (k0_t4_loop t3 v39 v64).lb 1#32 t) v).1, sqK9 _, sqK5 _⟩
theorem chk11_of : ∀ s : Fin 12, k0_chk11 (wd s.val) := by unfold k0_chk11; decide
theorem chk14_of (s : Fin 12) (u : Nat) (hu : u ≤ 36) : k0_chk14 (wd s.val) (wd u) := by
  have hs := s.isLt
  unfold k0_chk14
  rw [cond6_iff ⟨u, by omega⟩, off39_eq u hu, off40_eq s, off43_eq u hu]
  refine ⟨fun h a => ?_, fun h a => ?_, fun a => ?_⟩ <;> fin_cases a <;> simp [S1, S3, S12] <;> (try simp at h) <;> omega
theorem chk16_of (a : BitVec 32) (c : Nat) (hc : c < 8) : k0_chk16 a (wd c) := fun _ => by
  rw [show k0_mult12 (wd c) = Scalar.muli (wd c) 2048#32 from rfl, mul2048' c hc]; exact Dvd.intro _ rfl
theorem chk15_of (s : Fin 12) (u c : Nat) (hu : u ≤ 36) (hc : c < 8) (v : BitVec 32) : k0_chk15 (wd s.val) (wd u) (wd c) v := by
  obtain ⟨h1, h2, h3⟩ := tok_dvd (wd c) v
  have hs := s.isLt
  unfold k0_chk15
  rw [off41_eq, off42_eq u c hu hc, sz9_eq, sz10_eq, cond6_iff ⟨u, by omega⟩]
  dsimp only
  refine ⟨fun _ => h1, fun _ => inbK9 _ _ hs h3, fun _ => sqK9 _, fun h => ?_, fun _ => sqK5 _, fun _ => wwK5 _ _ _ _ h1, fun _ => wwK9 _ _ h1⟩
  simp at h
  exact inbK5 _ _ _ _ (by omega) (by omega) hc h3

/-! ### The first ring's chunk of a trip of loop t6 -/

theorem cond10_iff : ∀ u : Fin 37, k0_cond10 (wd u.val) = if u.val < 36 then 1#1 else 0#1 := by decide
theorem off76_eq : ∀ s : Fin 12, k0_off76 (wd s.val) = ![s.val] := by decide
theorem off86_eq : ∀ s : Fin 12, k0_off86 (wd s.val) = ![s.val] := by decide
theorem off79_eq : ∀ s : Fin 12, k0_off79 (wd s.val) = ![s.val, 0, 0] := by decide
theorem off80_eq : ∀ s : Fin 12, k0_off80 (wd s.val) = ![s.val, 1024, 0] := by decide
theorem off85_eq (u : Nat) (hu : u ≤ 36) : k0_off85 (wd u) = ![u / 12] := by
  rw [← fdiv12' u hu]; rfl
theorem off89_eq (u : Nat) (hu : u ≤ 36) : k0_off89 (wd u) = ![min u 35 / 12] := by
  rw [← fdiv12' (min u 35) (by omega), show wd (min u 35) = _ from (min35 ⟨u, by omega⟩).symm]; rfl
theorem off87_eq (s : Fin 12) (c v : BitVec 32) : k0_off87 (wd s.val) c v = (![s.val, 0, 0], ![1, (tok c v).toNat, 128]) := by
  have e : k0_off87 (wd s.val) c v = (![k0_off86 (wd s.val) 0, 0, 0], ![1, (tok c v).toNat, 128]) := rfl
  rw [e, off86_eq]; rfl
theorem off88_eq (u c : Nat) (hu : u ≤ 36) (hc : c < 8) (v : BitVec 32) :
    k0_off88 (wd u) (wd c) v = (![u / 12, u % 12, 2048 * c, 0], ![1, 1, (tok (wd c) v).toNat, 128]) := by
  rw [← fdiv12' u hu, ← fmod12' u hu, ← mul2048' c hc]; rfl
theorem sz23_eq (c v : BitVec 32) : k0_sz23 c v = ![(tok c v).toNat, 128] := rfl
theorem sz24_eq (c v : BitVec 32) : k0_sz24 c v = ![(tok c v).toNat, 128] := rfl
theorem sz21_eq (t3 : Fin k0_t3_loop.trips) (v39 v64 : BitVec 32) (t : Fin (k0_t6_loop t3 v39 v64).trips) (v : BitVec 32) (c : BitVec 32)
    (h : Scf.iv (k0_t6_loop t3 v39 v64).lb 1#32 t = c) : k0_sz21 t3 v39 v64 t v = ![(tok c v).toNat, 128] := by subst h; rfl
theorem chk30_of (t3 : Fin k0_t3_loop.trips) (v39 v64 : BitVec 32) (t : Fin (k0_t6_loop t3 v39 v64).trips) (a v : BitVec 32) :
    k0_chk30 t3 v39 v64 t a v :=
  ⟨(tok_dvd (Scf.iv (k0_t6_loop t3 v39 v64).lb 1#32 t) v).1, sqK9 _, sqK5 _⟩
theorem chk31_of : ∀ s : Fin 12, k0_chk31 (wd s.val) := by unfold k0_chk31; decide
theorem chk32_of (s : Fin 12) (u : Nat) (hu : u ≤ 36) : k0_chk32 (wd s.val) (wd u) := by
  have hs := s.isLt
  unfold k0_chk32
  rw [cond10_iff ⟨u, by omega⟩, off85_eq u hu, off86_eq s, off89_eq u hu]
  refine ⟨fun h a => ?_, fun h a => ?_, fun a => ?_⟩ <;> fin_cases a <;> simp [S1, S3, S12] <;> (try simp at h) <;> omega
theorem chk34_of (a : BitVec 32) (c : Nat) (hc : c < 8) : k0_chk34 a (wd c) := fun _ => by
  rw [show k0_mult26 (wd c) = Scalar.muli (wd c) 2048#32 from rfl, mul2048' c hc]; exact Dvd.intro _ rfl
theorem chk33_of (s : Fin 12) (u c : Nat) (hu : u ≤ 36) (hc : c < 8) (v : BitVec 32) : k0_chk33 (wd s.val) (wd u) (wd c) v := by
  obtain ⟨h1, h2, h3⟩ := tok_dvd (wd c) v
  have hs := s.isLt
  unfold k0_chk33
  rw [off87_eq, off88_eq u c hu hc, sz23_eq, sz24_eq, cond10_iff ⟨u, by omega⟩]
  dsimp only
  refine ⟨fun _ => h1, fun _ => inbK9 _ _ hs h3, fun _ => sqK9 _, fun h => ?_, fun _ => sqK5 _, fun _ => wwK5 _ _ _ _ h1, fun _ => wwK9 _ _ h1⟩
  simp at h
  exact inbK5 _ _ _ _ (by omega) (by omega) hc h3

/-! ### The second ring's chunk of a trip of loop t4 -/

theorem cond7_iff : ∀ u : Fin 37, k0_cond7 (wd u.val) = if u.val < 36 then 1#1 else 0#1 := by decide
theorem off28_eq : ∀ s : Fin 12, k0_off28 (wd s.val) = ![s.val] := by decide
theorem off45_eq : ∀ s : Fin 12, k0_off45 (wd s.val) = ![s.val] := by decide
theorem off38_eq : ∀ s : Fin 12, k0_off38 (wd s.val) = ![s.val, 0, 0] := by decide
theorem off44_eq (u : Nat) (hu : u ≤ 36) : k0_off44 (wd u) = ![u / 12] := by
  rw [← fdiv12' u hu]; rfl
theorem off48_eq (u : Nat) (hu : u ≤ 36) : k0_off48 (wd u) = ![min u 35 / 12] := by
  rw [← fdiv12' (min u 35) (by omega), show wd (min u 35) = _ from (min35 ⟨u, by omega⟩).symm]; rfl
theorem off46_eq (s : Fin 12) (c v : BitVec 32) : k0_off46 (wd s.val) c v = (![s.val, 0, 0], ![1, 128, (tok c v).toNat]) := by
  have e : k0_off46 (wd s.val) c v = (![k0_off45 (wd s.val) 0, 0, 0], ![1, 128, (tok c v).toNat]) := rfl
  rw [e, off45_eq]; rfl
theorem off47_eq (u c : Nat) (hu : u ≤ 36) (hc : c < 8) (v : BitVec 32) :
    k0_off47 (wd u) (wd c) v = (![u / 12, u % 12, 0, 2048 * c], ![1, 1, 128, (tok (wd c) v).toNat]) := by
  rw [← fdiv12' u hu, ← fmod12' u hu, ← mul2048' c hc]; rfl
theorem sz11_eq (c v : BitVec 32) : k0_sz11 c v = ![128, (tok c v).toNat] := rfl
theorem sz12_eq (c v : BitVec 32) : k0_sz12 c v = ![128, (tok c v).toNat] := rfl
theorem sz7_eq (t3 : Fin k0_t3_loop.trips) (v39 v64 : BitVec 32) (t : Fin (k0_t4_loop t3 v39 v64).trips) (v : BitVec 32) (c : BitVec 32)
    (h : Scf.iv (k0_t4_loop t3 v39 v64).lb 1#32 t = c) : k0_sz7 t3 v39 v64 t v = ![128, (tok c v).toNat] := by subst h; rfl
theorem chk12_of (t3 : Fin k0_t3_loop.trips) (v39 v64 : BitVec 32) (t : Fin (k0_t4_loop t3 v39 v64).trips) (a v : BitVec 32) :
    k0_chk12 t3 v39 v64 t a v :=
  ⟨(tok_dvd (Scf.iv (k0_t4_loop t3 v39 v64).lb 1#32 t) v).1, sqV10 _, sqV6 _⟩
theorem chk13_of : ∀ s : Fin 12, k0_chk13 (wd s.val) := by unfold k0_chk13; decide
theorem chk17_of (s : Fin 12) (u : Nat) (hu : u ≤ 36) : k0_chk17 (wd s.val) (wd u) := by
  have hs := s.isLt
  unfold k0_chk17
  rw [cond7_iff ⟨u, by omega⟩, off44_eq u hu, off45_eq s, off48_eq u hu]
  refine ⟨fun h a => ?_, fun h a => ?_, fun a => ?_⟩ <;> fin_cases a <;> simp [S1, S3, S12] <;> (try simp at h) <;> omega
theorem chk19_of (a : BitVec 32) (c : Nat) (hc : c < 8) : k0_chk19 a (wd c) := fun _ => by
  rw [show k0_mult14 (wd c) = Scalar.muli (wd c) 2048#32 from rfl, mul2048' c hc]; exact Dvd.intro _ rfl
theorem chk18_of (s : Fin 12) (u c : Nat) (hu : u ≤ 36) (hc : c < 8) (v : BitVec 32) : k0_chk18 (wd s.val) (wd u) (wd c) v := by
  obtain ⟨h1, h2, h3⟩ := tok_dvd (wd c) v
  have hs := s.isLt
  unfold k0_chk18
  rw [off46_eq, off47_eq u c hu hc, sz11_eq, sz12_eq, cond7_iff ⟨u, by omega⟩]
  dsimp only
  refine ⟨fun _ => h1, fun _ => inbV10 _ _ hs h3, fun _ => sqV10 _, fun h => ?_, fun _ => sqV6 _, fun _ => wwV6 _ _ _ _, fun _ => wwV10 _ _⟩
  simp at h
  exact inbV6 _ _ _ _ (by omega) (by omega) hc h3

/-! ### The second ring's chunk of a trip of loop t8 -/

theorem cond12_iff : ∀ u : Fin 37, k0_cond12 (wd u.val) = if u.val < 36 then 1#1 else 0#1 := by decide
theorem off106_eq : ∀ s : Fin 12, k0_off106 (wd s.val) = ![s.val] := by decide
theorem off112_eq : ∀ s : Fin 12, k0_off112 (wd s.val) = ![s.val] := by decide
theorem off110_eq : ∀ s : Fin 12, k0_off110 (wd s.val) = ![s.val, 0, 0] := by decide
theorem off111_eq (u : Nat) (hu : u ≤ 36) : k0_off111 (wd u) = ![u / 12] := by
  rw [← fdiv12' u hu]; rfl
theorem off115_eq (u : Nat) (hu : u ≤ 36) : k0_off115 (wd u) = ![min u 35 / 12] := by
  rw [← fdiv12' (min u 35) (by omega), show wd (min u 35) = _ from (min35 ⟨u, by omega⟩).symm]; rfl
theorem off113_eq (s : Fin 12) (c v : BitVec 32) : k0_off113 (wd s.val) c v = (![s.val, 0, 0], ![1, 128, (tok c v).toNat]) := by
  have e : k0_off113 (wd s.val) c v = (![k0_off112 (wd s.val) 0, 0, 0], ![1, 128, (tok c v).toNat]) := rfl
  rw [e, off112_eq]; rfl
theorem off114_eq (u c : Nat) (hu : u ≤ 36) (hc : c < 8) (v : BitVec 32) :
    k0_off114 (wd u) (wd c) v = (![u / 12, u % 12, 0, 2048 * c], ![1, 1, 128, (tok (wd c) v).toNat]) := by
  rw [← fdiv12' u hu, ← fmod12' u hu, ← mul2048' c hc]; rfl
theorem sz31_eq (c v : BitVec 32) : k0_sz31 c v = ![128, (tok c v).toNat] := rfl
theorem sz32_eq (c v : BitVec 32) : k0_sz32 c v = ![128, (tok c v).toNat] := rfl
theorem sz29_eq (t3 : Fin k0_t3_loop.trips) (v39 v64 : BitVec 32) (t : Fin (k0_t8_loop t3 v39 v64).trips) (v : BitVec 32) (c : BitVec 32)
    (h : Scf.iv (k0_t8_loop t3 v39 v64).lb 1#32 t = c) : k0_sz29 t3 v39 v64 t v = ![128, (tok c v).toNat] := by subst h; rfl
theorem chk40_of (t3 : Fin k0_t3_loop.trips) (v39 v64 : BitVec 32) (t : Fin (k0_t8_loop t3 v39 v64).trips) (a v : BitVec 32) :
    k0_chk40 t3 v39 v64 t a v :=
  ⟨(tok_dvd (Scf.iv (k0_t8_loop t3 v39 v64).lb 1#32 t) v).1, sqV10 _, sqV6 _⟩
theorem chk41_of : ∀ s : Fin 12, k0_chk41 (wd s.val) := by unfold k0_chk41; decide
theorem chk42_of (s : Fin 12) (u : Nat) (hu : u ≤ 36) : k0_chk42 (wd s.val) (wd u) := by
  have hs := s.isLt
  unfold k0_chk42
  rw [cond12_iff ⟨u, by omega⟩, off111_eq u hu, off112_eq s, off115_eq u hu]
  refine ⟨fun h a => ?_, fun h a => ?_, fun a => ?_⟩ <;> fin_cases a <;> simp [S1, S3, S12] <;> (try simp at h) <;> omega
theorem chk44_of (a : BitVec 32) (c : Nat) (hc : c < 8) : k0_chk44 a (wd c) := fun _ => by
  rw [show k0_mult34 (wd c) = Scalar.muli (wd c) 2048#32 from rfl, mul2048' c hc]; exact Dvd.intro _ rfl
theorem chk43_of (s : Fin 12) (u c : Nat) (hu : u ≤ 36) (hc : c < 8) (v : BitVec 32) : k0_chk43 (wd s.val) (wd u) (wd c) v := by
  obtain ⟨h1, h2, h3⟩ := tok_dvd (wd c) v
  have hs := s.isLt
  unfold k0_chk43
  rw [off113_eq, off114_eq u c hu hc, sz31_eq, sz32_eq, cond12_iff ⟨u, by omega⟩]
  dsimp only
  refine ⟨fun _ => h1, fun _ => inbV10 _ _ hs h3, fun _ => sqV10 _, fun h => ?_, fun _ => sqV6 _, fun _ => wwV6 _ _ _ _, fun _ => wwV10 _ _⟩
  simp at h
  exact inbV6 _ _ _ _ (by omega) (by omega) hc h3

end Cert.Proof.KernelIdeal
-- ==== Proof.Facts3I.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.Facts2I

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! ### The trips of a step: how many chunks its loops read -/

/-- The chunks step `s` scores (none in the last step), -/
def nK (s : ℕ) (v39 : BitVec 32) : ℕ := if s < 36 then chunksN (lenN v39) else 0
/-- and those it weighs (none in the first). -/
def nV (s : ℕ) (v64 : BitVec 32) : ℕ := if 0 < s then chunksN (lenN v64) else 0

theorem nK_le (s : ℕ) (v : BitVec 32) : nK s v ≤ 8 := by unfold nK; have := chunksN_le v; split_ifs <;> omega
theorem nV_le (s : ℕ) (v : BitVec 32) : nV s v ≤ 8 := by unfold nV; have := chunksN_le v; split_ifs <;> omega

/-- The first count as the kernel computes it, -/
def wK (s : Fin k0_t3_loop.trips) (v39 : BitVec 32) : BitVec 32 := Scalar.select (Scalar.cmpi .slt (Scf.iv 0#32 1#32 s) 36#32) (nch v39) 0#32
/-- and the second. -/
def wV (s : Fin k0_t3_loop.trips) (v64 : BitVec 32) : BitVec 32 := Scalar.select (Scalar.cmpi .sgt (Scf.iv 0#32 1#32 s) 0#32) (nch v64) 0#32

theorem iv_lt : ∀ s : Fin 37, Scalar.cmpi .slt (Scf.iv 0#32 1#32 s) 36#32 = if s.val < 36 then 1#1 else 0#1 := by decide
theorem iv_gt : ∀ s : Fin 37, Scalar.cmpi .sgt (Scf.iv 0#32 1#32 s) 0#32 = if 0 < s.val then 1#1 else 0#1 := by decide

theorem wK_eq (s : Fin k0_t3_loop.trips) (v39 : BitVec 32) : wK s v39 = wd (nK s v39) := by
  unfold wK nK
  rw [iv_lt s, nch_eq]
  split_ifs <;> rfl
theorem wV_eq (s : Fin k0_t3_loop.trips) (v64 : BitVec 32) : wV s v64 = wd (nV s v64) := by
  unfold wV nV
  rw [iv_gt s, nch_eq]
  split_ifs <;> rfl

theorem min_words : ∀ a b : Fin 9, Scalar.minsi (wd a.val) (wd b.val) = wd (min a.val b.val) := by decide
theorem add_words : ∀ a b : Fin 9, Scalar.addi (wd (min a.val b.val)) (Scalar.muli (Scalar.divsi (Scalar.subi (wd a.val) (wd (min a.val b.val))) 1#32) 1#32) = wd a.val := by decide
theorem add_words' : ∀ a b : Fin 9, Scalar.addi (wd (min a.val b.val)) (Scalar.muli (Scalar.divsi (Scalar.subi (wd b.val) (wd (min a.val b.val))) 1#32) 1#32) = wd b.val := by decide
theorem add_words0 : ∀ a b : Fin 9, Scalar.addi 0#32 (Scalar.muli (Scalar.divsi (Scalar.subi (wd (min a.val b.val)) 0#32) 1#32) 1#32) = wd (min a.val b.val) := by decide
theorem add_wordsK : ∀ a b : Fin 9, Scalar.addi (wd (min a.val b.val)) (Scalar.subi (wd a.val) (wd (min a.val b.val))) = wd a.val := by decide
theorem add_wordsV : ∀ a b : Fin 9, Scalar.addi (wd (min a.val b.val)) (Scalar.subi (wd b.val) (wd (min a.val b.val))) = wd b.val := by decide
theorem add_wordsB : ∀ a b : Fin 9, Scalar.addi 0#32 (Scalar.subi (wd (min a.val b.val)) 0#32) = wd (min a.val b.val) := by decide

theorem ok_words : ∀ a b : Fin 9, Scf.OK (wd a.val) (wd b.val) 1#32 := by decide
theorem trips_words : ∀ a b : Fin 9, Scf.trips (wd a.val) (wd b.val) 1#32 = b.val - a.val := by decide
theorem iv_words : ∀ a b : Fin 9, Scf.iv (wd a.val) 1#32 b.val = wd (a.val + b.val) := by decide
theorem dvd_words : ∀ c : Fin 17, 2048 ∣ (Scalar.muli (wd c.val) 2048#32).toNat := by decide
theorem toNat_words : ∀ c : Fin 17, (wd c.val).toNat = c.val := by decide

theorem par35 : ∀ s : Fin 37, (Scalar.indexCast (Scalar.remsi (Scalar.minsi (Scf.iv 0#32 1#32 s) 35#32) 2#32) : Index).toNat = min s.val 35 % 2 := by decide
theorem par1 : ∀ s : Fin 37, (Scalar.indexCast (Scalar.remsi (Scalar.maxsi (Scalar.subi (Scf.iv 0#32 1#32 s) 1#32) 0#32) 2#32) : Index).toNat = (s.val - 1) % 2 := by decide

variable (s : Fin k0_t3_loop.trips) (v39 v64 : BitVec 32)

theorem wm_eq : Scalar.minsi (wK s v39) (wV s v64) = wd (min (nK s v39) (nV s v64)) := by
  rw [wK_eq, wV_eq]
  exact min_words ⟨nK s v39, by have := nK_le s v39; omega⟩ ⟨nV s v64, by have := nV_le s v64; omega⟩

theorem loop4 : k0_t4_loop s v39 v64 = ⟨wd 0, wd (min (nK s v39) (nV s v64)), 1#32⟩ := by
  have h : k0_t4_loop s v39 v64 = ⟨0#32, Scalar.addi 0#32 (Scalar.muli (Scalar.divsi (Scalar.subi (Scalar.minsi (wK s v39) (wV s v64)) 0#32) 1#32) 1#32), 1#32⟩ := rfl
  rw [h, wm_eq, add_words0 ⟨nK s v39, by have := nK_le s v39; omega⟩ ⟨nV s v64, by have := nV_le s v64; omega⟩]
theorem loop5 : k0_t5_loop s v39 v64 = ⟨wd (min (nK s v39) (nV s v64)), wd (min (nK s v39) (nV s v64)), 1#32⟩ := by
  have h : k0_t5_loop s v39 v64 = ⟨Scalar.addi 0#32 (Scalar.muli (Scalar.divsi (Scalar.subi (Scalar.minsi (wK s v39) (wV s v64)) 0#32) 1#32) 1#32), Scalar.addi 0#32 (Scalar.subi (Scalar.minsi (wK s v39) (wV s v64)) 0#32), 1#32⟩ := rfl
  rw [h, wm_eq, add_words0 ⟨nK s v39, by have := nK_le s v39; omega⟩ ⟨nV s v64, by have := nV_le s v64; omega⟩, add_wordsB ⟨nK s v39, by have := nK_le s v39; omega⟩ ⟨nV s v64, by have := nV_le s v64; omega⟩]
theorem loop6 : k0_t6_loop s v39 v64 = ⟨wd (min (nK s v39) (nV s v64)), wd (nK s v39), 1#32⟩ := by
  have h : k0_t6_loop s v39 v64 = ⟨Scalar.minsi (wK s v39) (wV s v64), Scalar.addi (Scalar.minsi (wK s v39) (wV s v64)) (Scalar.muli (Scalar.divsi (Scalar.subi (wK s v39) (Scalar.minsi (wK s v39) (wV s v64))) 1#32) 1#32), 1#32⟩ := rfl
  rw [h, wm_eq, wK_eq, add_words ⟨nK s v39, by have := nK_le s v39; omega⟩ ⟨nV s v64, by have := nV_le s v64; omega⟩]
theorem loop7 : k0_t7_loop s v39 v64 = ⟨wd (nK s v39), wd (nK s v39), 1#32⟩ := by
  have h : k0_t7_loop s v39 v64 = ⟨Scalar.addi (Scalar.minsi (wK s v39) (wV s v64)) (Scalar.muli (Scalar.divsi (Scalar.subi (wK s v39) (Scalar.minsi (wK s v39) (wV s v64))) 1#32) 1#32), Scalar.addi (Scalar.minsi (wK s v39) (wV s v64)) (Scalar.subi (wK s v39) (Scalar.minsi (wK s v39) (wV s v64))), 1#32⟩ := rfl
  rw [h, wm_eq, wK_eq, add_words ⟨nK s v39, by have := nK_le s v39; omega⟩ ⟨nV s v64, by have := nV_le s v64; omega⟩, add_wordsK ⟨nK s v39, by have := nK_le s v39; omega⟩ ⟨nV s v64, by have := nV_le s v64; omega⟩]
theorem loop8 : k0_t8_loop s v39 v64 = ⟨wd (min (nK s v39) (nV s v64)), wd (nV s v64), 1#32⟩ := by
  have h : k0_t8_loop s v39 v64 = ⟨Scalar.minsi (wK s v39) (wV s v64), Scalar.addi (Scalar.minsi (wK s v39) (wV s v64)) (Scalar.muli (Scalar.divsi (Scalar.subi (wV s v64) (Scalar.minsi (wK s v39) (wV s v64))) 1#32) 1#32), 1#32⟩ := rfl
  rw [h, wm_eq, wV_eq, add_words' ⟨nK s v39, by have := nK_le s v39; omega⟩ ⟨nV s v64, by have := nV_le s v64; omega⟩]
theorem loop9 : k0_t9_loop s v39 v64 = ⟨wd (nV s v64), wd (nV s v64), 1#32⟩ := by
  have h : k0_t9_loop s v39 v64 = ⟨Scalar.addi (Scalar.minsi (wK s v39) (wV s v64)) (Scalar.muli (Scalar.divsi (Scalar.subi (wV s v64) (Scalar.minsi (wK s v39) (wV s v64))) 1#32) 1#32), Scalar.addi (Scalar.minsi (wK s v39) (wV s v64)) (Scalar.subi (wV s v64) (Scalar.minsi (wK s v39) (wV s v64))), 1#32⟩ := rfl
  rw [h, wm_eq, wV_eq, add_words' ⟨nK s v39, by have := nK_le s v39; omega⟩ ⟨nV s v64, by have := nV_le s v64; omega⟩, add_wordsV ⟨nK s v39, by have := nK_le s v39; omega⟩ ⟨nV s v64, by have := nV_le s v64; omega⟩]

/-- The bounds of a loop, from its operands. -/
theorem loop_facts {l : Scf.Loop 32} {a b : ℕ} (ha : a ≤ 8) (hb : b ≤ 8) (h : l = ⟨wd a, wd b, 1#32⟩) :
    l.OK ∧ l.trips = b - a ∧ ∀ k : Fin l.trips, Scf.iv l.lb 1#32 k = wd (a + k.val) ∧ a + k.val < b := by
  subst h
  have ht : Scf.trips (wd a) (wd b) 1#32 = b - a := trips_words ⟨a, by omega⟩ ⟨b, by omega⟩
  refine ⟨ok_words ⟨a, by omega⟩ ⟨b, by omega⟩, ht, fun k => ?_⟩
  have hk : k.val < b - a := ht ▸ k.isLt
  exact ⟨iv_words ⟨a, by omega⟩ ⟨k.val, by omega⟩, by omega⟩

theorem mk_le : min (nK s v39) (nV s v64) ≤ 8 := by have := nK_le s v39; omega

theorem facts4 : (k0_t4_loop s v39 v64).OK ∧ (k0_t4_loop s v39 v64).trips = min (nK s v39) (nV s v64) - (0) ∧ ∀ k : Fin (k0_t4_loop s v39 v64).trips, Scf.iv (k0_t4_loop s v39 v64).lb 1#32 k = wd (0 + k.val) ∧ 0 + k.val < min (nK s v39) (nV s v64) := loop_facts (Nat.zero_le 8) (mk_le s v39 v64) (loop4 s v39 v64)
theorem facts5 : (k0_t5_loop s v39 v64).OK ∧ (k0_t5_loop s v39 v64).trips = min (nK s v39) (nV s v64) - (min (nK s v39) (nV s v64)) ∧ ∀ k : Fin (k0_t5_loop s v39 v64).trips, Scf.iv (k0_t5_loop s v39 v64).lb 1#32 k = wd (min (nK s v39) (nV s v64) + k.val) ∧ min (nK s v39) (nV s v64) + k.val < min (nK s v39) (nV s v64) := loop_facts (mk_le s v39 v64) (mk_le s v39 v64) (loop5 s v39 v64)
theorem facts6 : (k0_t6_loop s v39 v64).OK ∧ (k0_t6_loop s v39 v64).trips = nK s v39 - (min (nK s v39) (nV s v64)) ∧ ∀ k : Fin (k0_t6_loop s v39 v64).trips, Scf.iv (k0_t6_loop s v39 v64).lb 1#32 k = wd (min (nK s v39) (nV s v64) + k.val) ∧ min (nK s v39) (nV s v64) + k.val < nK s v39 := loop_facts (mk_le s v39 v64) (nK_le s v39) (loop6 s v39 v64)
theorem facts7 : (k0_t7_loop s v39 v64).OK ∧ (k0_t7_loop s v39 v64).trips = nK s v39 - (nK s v39) ∧ ∀ k : Fin (k0_t7_loop s v39 v64).trips, Scf.iv (k0_t7_loop s v39 v64).lb 1#32 k = wd (nK s v39 + k.val) ∧ nK s v39 + k.val < nK s v39 := loop_facts (nK_le s v39) (nK_le s v39) (loop7 s v39 v64)
theorem facts8 : (k0_t8_loop s v39 v64).OK ∧ (k0_t8_loop s v39 v64).trips = nV s v64 - (min (nK s v39) (nV s v64)) ∧ ∀ k : Fin (k0_t8_loop s v39 v64).trips, Scf.iv (k0_t8_loop s v39 v64).lb 1#32 k = wd (min (nK s v39) (nV s v64) + k.val) ∧ min (nK s v39) (nV s v64) + k.val < nV s v64 := loop_facts (mk_le s v39 v64) (nV_le s v64) (loop8 s v39 v64)
theorem facts9 : (k0_t9_loop s v39 v64).OK ∧ (k0_t9_loop s v39 v64).trips = nV s v64 - (nV s v64) ∧ ∀ k : Fin (k0_t9_loop s v39 v64).trips, Scf.iv (k0_t9_loop s v39 v64).lb 1#32 k = wd (nV s v64 + k.val) ∧ nV s v64 + k.val < nV s v64 := loop_facts (nV_le s v64) (nV_le s v64) (loop9 s v39 v64)

theorem dvd_of {x : BitVec 32} {n : ℕ} (hn : n < 8) (h : x = wd n) : 2048 ∣ (Scalar.muli x 2048#32).toNat := by
  subst h; exact dvd_words ⟨n, by omega⟩
theorem inb11 (p n : ℕ) (hp : p < 2) (hn : n < 8) : ∀ a, (![p, n, 0, 0] : Fin 4 → ℕ) a + S1x1x16x1024.size a ≤ S2x8x16x1024.size a := by
  intro a; fin_cases a <;> simp [S1x1x16x1024, S2x8x16x1024] <;> omega

/-- The row of scores the chunk goes to, -/
theorem offA_eq {x : BitVec 32} {n : ℕ} (hn : n < 8) (h : x = wd n) :
    (![(Scalar.indexCast (Scalar.remsi (Scalar.minsi (Scf.iv 0#32 1#32 s) 35#32) 2#32) : Index).toNat, (Scalar.indexCast x : Index).toNat, 0, 0] : Fin 4 → ℕ) = ![min s.val 35 % 2, n, 0, 0] := by
  subst h
  rw [par35 s, show (Scalar.indexCast (wd n) : Index).toNat = n from toNat_words ⟨n, by omega⟩]
/-- and the one it is read from. -/
theorem offB_eq {x : BitVec 32} {n : ℕ} (hn : n < 8) (h : x = wd n) :
    (![(Scalar.indexCast (Scalar.remsi (Scalar.maxsi (Scalar.subi (Scf.iv 0#32 1#32 s) 1#32) 0#32) 2#32) : Index).toNat, (Scalar.indexCast x : Index).toNat, 0, 0] : Fin 4 → ℕ) = ![(s.val - 1) % 2, n, 0, 0] := by
  subst h
  rw [par1 s, show (Scalar.indexCast (wd n) : Index).toNat = n from toNat_words ⟨n, by omega⟩]

theorem off35_eq (k : Fin (k0_t4_loop s v39 v64).trips) : k0_off35 s v39 v64 k = ![min s.val 35 % 2, 0 + k.val, 0, 0] := by
  have h := (facts4 s v39 v64).2.2 k
  have := mk_le s v39 v64
  exact offA_eq s (by omega) h.1
theorem inb35 (k : Fin (k0_t4_loop s v39 v64).trips) : ∀ a, k0_off35 s v39 v64 k a + S1x1x16x1024.size a ≤ S2x8x16x1024.size a := by
  have h := (facts4 s v39 v64).2.2 k
  have := mk_le s v39 v64
  rw [off35_eq]; exact inb11 _ _ (by omega) (by omega)

theorem off37_eq (k : Fin (k0_t4_loop s v39 v64).trips) : k0_off37 s v39 v64 k = ![(s.val - 1) % 2, 0 + k.val, 0, 0] := by
  have h := (facts4 s v39 v64).2.2 k
  have := mk_le s v39 v64
  exact offB_eq s (by omega) h.1
theorem inb37 (k : Fin (k0_t4_loop s v39 v64).trips) : ∀ a, k0_off37 s v39 v64 k a + S1x1x16x1024.size a ≤ S2x8x16x1024.size a := by
  have h := (facts4 s v39 v64).2.2 k
  have := mk_le s v39 v64
  rw [off37_eq]; exact inb11 _ _ (by omega) (by omega)

theorem off61_eq (k : Fin (k0_t5_loop s v39 v64).trips) : k0_off61 s v39 v64 k = ![min s.val 35 % 2, min (nK s v39) (nV s v64) + k.val, 0, 0] := by
  have h := (facts5 s v39 v64).2.2 k
  have := mk_le s v39 v64
  exact offA_eq s (by omega) h.1
theorem inb61 (k : Fin (k0_t5_loop s v39 v64).trips) : ∀ a, k0_off61 s v39 v64 k a + S1x1x16x1024.size a ≤ S2x8x16x1024.size a := by
  have h := (facts5 s v39 v64).2.2 k
  have := mk_le s v39 v64
  rw [off61_eq]; exact inb11 _ _ (by omega) (by omega)

theorem off63_eq (k : Fin (k0_t5_loop s v39 v64).trips) : k0_off63 s v39 v64 k = ![(s.val - 1) % 2, min (nK s v39) (nV s v64) + k.val, 0, 0] := by
  have h := (facts5 s v39 v64).2.2 k
  have := mk_le s v39 v64
  exact offB_eq s (by omega) h.1
theorem inb63 (k : Fin (k0_t5_loop s v39 v64).trips) : ∀ a, k0_off63 s v39 v64 k a + S1x1x16x1024.size a ≤ S2x8x16x1024.size a := by
  have h := (facts5 s v39 v64).2.2 k
  have := mk_le s v39 v64
  rw [off63_eq]; exact inb11 _ _ (by omega) (by omega)

theorem off83_eq (k : Fin (k0_t6_loop s v39 v64).trips) : k0_off83 s v39 v64 k = ![min s.val 35 % 2, min (nK s v39) (nV s v64) + k.val, 0, 0] := by
  have h := (facts6 s v39 v64).2.2 k
  have := nK_le s v39
  exact offA_eq s (by omega) h.1
theorem inb83 (k : Fin (k0_t6_loop s v39 v64).trips) : ∀ a, k0_off83 s v39 v64 k a + S1x1x16x1024.size a ≤ S2x8x16x1024.size a := by
  have h := (facts6 s v39 v64).2.2 k
  have := nK_le s v39
  rw [off83_eq]; exact inb11 _ _ (by omega) (by omega)

theorem off98_eq (k : Fin (k0_t7_loop s v39 v64).trips) : k0_off98 s v39 v64 k = ![min s.val 35 % 2, nK s v39 + k.val, 0, 0] := by
  have h := (facts7 s v39 v64).2.2 k
  have := nK_le s v39
  exact offA_eq s (by omega) h.1
theorem inb98 (k : Fin (k0_t7_loop s v39 v64).trips) : ∀ a, k0_off98 s v39 v64 k a + S1x1x16x1024.size a ≤ S2x8x16x1024.size a := by
  have h := (facts7 s v39 v64).2.2 k
  have := nK_le s v39
  rw [off98_eq]; exact inb11 _ _ (by omega) (by omega)

theorem off109_eq (k : Fin (k0_t8_loop s v39 v64).trips) : k0_off109 s v39 v64 k = ![(s.val - 1) % 2, min (nK s v39) (nV s v64) + k.val, 0, 0] := by
  have h := (facts8 s v39 v64).2.2 k
  have := nV_le s v64
  exact offB_eq s (by omega) h.1
theorem inb109 (k : Fin (k0_t8_loop s v39 v64).trips) : ∀ a, k0_off109 s v39 v64 k a + S1x1x16x1024.size a ≤ S2x8x16x1024.size a := by
  have h := (facts8 s v39 v64).2.2 k
  have := nV_le s v64
  rw [off109_eq]; exact inb11 _ _ (by omega) (by omega)

theorem off120_eq (k : Fin (k0_t9_loop s v39 v64).trips) : k0_off120 s v39 v64 k = ![(s.val - 1) % 2, nV s v64 + k.val, 0, 0] := by
  have h := (facts9 s v39 v64).2.2 k
  have := nV_le s v64
  exact offB_eq s (by omega) h.1
theorem inb120 (k : Fin (k0_t9_loop s v39 v64).trips) : ∀ a, k0_off120 s v39 v64 k a + S1x1x16x1024.size a ≤ S2x8x16x1024.size a := by
  have h := (facts9 s v39 v64).2.2 k
  have := nV_le s v64
  rw [off120_eq]; exact inb11 _ _ (by omega) (by omega)

theorem mult8_dvd' (k : Fin (k0_t4_loop s v39 v64).trips) : 2048 ∣ (k0_mult8 s v39 v64 k).toNat := by
  have h := (facts4 s v39 v64).2.2 k
  have := mk_le s v39 v64
  exact dvd_of (by omega) h.1

theorem mult10_dvd' (k : Fin (k0_t4_loop s v39 v64).trips) : 2048 ∣ (k0_mult10 s v39 v64 k).toNat := by
  have h := (facts4 s v39 v64).2.2 k
  have := mk_le s v39 v64
  exact dvd_of (by omega) h.1

theorem mult16_dvd' (k : Fin (k0_t5_loop s v39 v64).trips) : 2048 ∣ (k0_mult16 s v39 v64 k).toNat := by
  have h := (facts5 s v39 v64).2.2 k
  have := mk_le s v39 v64
  exact dvd_of (by omega) h.1

theorem mult18_dvd' (k : Fin (k0_t5_loop s v39 v64).trips) : 2048 ∣ (k0_mult18 s v39 v64 k).toNat := by
  have h := (facts5 s v39 v64).2.2 k
  have := mk_le s v39 v64
  exact dvd_of (by omega) h.1

theorem mult24_dvd' (k : Fin (k0_t6_loop s v39 v64).trips) : 2048 ∣ (k0_mult24 s v39 v64 k).toNat := by
  have h := (facts6 s v39 v64).2.2 k
  have := nK_le s v39
  exact dvd_of (by omega) h.1

theorem mult28_dvd' (k : Fin (k0_t7_loop s v39 v64).trips) : 2048 ∣ (k0_mult28 s v39 v64 k).toNat := by
  have h := (facts7 s v39 v64).2.2 k
  have := nK_le s v39
  exact dvd_of (by omega) h.1

theorem mult32_dvd' (k : Fin (k0_t8_loop s v39 v64).trips) : 2048 ∣ (k0_mult32 s v39 v64 k).toNat := by
  have h := (facts8 s v39 v64).2.2 k
  have := nV_le s v64
  exact dvd_of (by omega) h.1

theorem mult36_dvd' (k : Fin (k0_t9_loop s v39 v64).trips) : 2048 ∣ (k0_mult36 s v39 v64 k).toNat := by
  have h := (facts9 s v39 v64).2.2 k
  have := nV_le s v64
  exact dvd_of (by omega) h.1

theorem chk9_of : k0_chk9 s v39 v64 :=
  ⟨(facts4 s v39 v64).1, mult8_dvd' s v39 v64, mult10_dvd' s v39 v64, inb35 s v39 v64, inb37 s v39 v64,
   (facts5 s v39 v64).1, mult16_dvd' s v39 v64, mult18_dvd' s v39 v64, inb61 s v39 v64, inb63 s v39 v64,
   (facts6 s v39 v64).1, mult24_dvd' s v39 v64, inb83 s v39 v64,
   (facts7 s v39 v64).1, mult28_dvd' s v39 v64, inb98 s v39 v64,
   (facts8 s v39 v64).1, mult32_dvd' s v39 v64, inb109 s v39 v64,
   (facts9 s v39 v64).1, mult36_dvd' s v39 v64, inb120 s v39 v64⟩

end Cert.Proof.KernelIdeal
-- ==== Proof.LoadKVI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.PreKI
public import proofs.«01_k».proof.Proof.PreVI
public import proofs.«01_k».proof.Proof.Facts3I

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
theorem ret_bind {E : Type → Type} {α β : Type} (a : α) (k : α → Prog E β) : (Prog.ret a).bind k = k a := rfl

theorem setOn_unit_sub {sp : Space} {sh : Shape} {e : EltTy} (m : Memref sig .tc sp sh e) {off size off' size' : Fin sh.rank → ℕ} {inb inb'}
    (h : ∀ a, off' a ≤ off a ∧ off a + size a ≤ off' a + size' a) :
    m.view.setOn (Rect.unit (s := sh) off size inb).toLoadRect.set ⊆ m.view.setOn (Rect.unit (s := sh) off' size' inb').set :=
  Finset.map_subset_map.mpr fun i hi => Rect.mem_set_unit.mpr fun a => by
    have h1 := Rect.mem_set_unit.mp hi a
    have h2 := h a
    omega

/-- A load of a block of a slot. -/
theorem loadK (s : Fin 12) (f : Buf (Elt F) (arg9.view.loc (c : Thread nD τ))) (q : PosShare TreeShare) {off : Fin 3 → ℕ} {inb} {hl} (x : ℕ) (hx : x + 1024 ≤ 2048) (h : off = ![s.val, x, 0])
    {α : Type} {Q : α → sProp 𝕄} {kk : _ → Prog (TpuEff nD τ sig (Elt F) Λ₀ .tc) α} :
    (arg9.view.loc (c : Thread nD τ) ↦[slotK c arg9 s]{q} f) ⊢
      iprop(((arg9.view.loc (c : Thread nD τ) ↦[slotK c arg9 s]{q} f) -∗
        wp frame (wpE (defs₀ (F := F)) Variants.none c none) Set.univ (kk (arg9.view.readAt (Elt F) (Rect.unit (s := S12x2048x128) off S1x1024x128.size inb).toLoadRect f)) Q)
      -∗ wp frame (wpE (defs₀ (F := F)) Variants.none c none) Set.univ
        (.op (.load arg9 (Rect.unit (s := S12x2048x128) off S1x1024x128.size inb).toLoadRect hl) kk) Q) :=
  wp_load Variants.none (c : Thread nD τ) none Set.univ (setOn_unit_sub arg9 (by subst h; intro a; fin_cases a <;> simp [S1x1024x128, S1x2048x128] <;> omega))

/-- A load of a whole slot of the second ring. -/
theorem loadV (s : Fin 12) (f : Buf (Elt F) (arg10.view.loc (c : Thread nD τ))) (q : PosShare TreeShare) {off : Fin 3 → ℕ} {inb} {hl} (h : off = ![s.val, 0, 0])
    {α : Type} {Q : α → sProp 𝕄} {kk : _ → Prog (TpuEff nD τ sig (Elt F) Λ₀ .tc) α} :
    (arg10.view.loc (c : Thread nD τ) ↦[slotV c arg10 s]{q} f) ⊢
      iprop(((arg10.view.loc (c : Thread nD τ) ↦[slotV c arg10 s]{q} f) -∗
        wp frame (wpE (defs₀ (F := F)) Variants.none c none) Set.univ (kk (arg10.view.readAt (Elt F) (Rect.unit (s := S12x128x2048) off S1x128x2048.size inb).toLoadRect f)) Q)
      -∗ wp frame (wpE (defs₀ (F := F)) Variants.none c none) Set.univ
        (.op (.load arg10 (Rect.unit (s := S12x128x2048) off S1x128x2048.size inb).toLoadRect hl) kk) Q) :=
  wp_load Variants.none (c : Thread nD τ) none Set.univ (setOn_unit_sub arg10 (by subst h; intro a; exact ⟨Nat.le_refl _, Nat.le_refl _⟩))

/-! The offsets that depend on the step alone. -/

theorem off75_eq : ∀ s : Fin k0_t3_loop.trips, k0_off75 s = ![min s.val 35 / 12] := by decide
theorem off82_eq : ∀ s : Fin k0_t3_loop.trips, k0_off82 s = ![min s.val 35 / 12] := by decide
theorem off81_eq : ∀ s : Fin k0_t3_loop.trips, k0_off81 s = ![min s.val 35 % 2, 0, 0] := by decide
theorem off84_eq : ∀ s : Fin k0_t3_loop.trips, k0_off84 s = ![min s.val 35 % 2, 0, 0] := by decide
theorem off105_eq : ∀ s : Fin k0_t3_loop.trips, k0_off105 s = ![(s.val - 1) / 12] := by decide

end Cert.Proof.KernelIdeal
-- ==== Proof.StepI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.LoadKVI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
/-! ### The blocks the trips read and write, and what a trip makes of them -/

/-- The half of a double buffer a unit uses, -/
def par (u : ℕ) : Fin 2 := ⟨u % 2, Nat.mod_lt _ (by decide)⟩
/-- and a chunk's number as an index. -/
def n8 (n : ℕ) : Fin 8 := ⟨n % 8, Nat.mod_lt _ (by decide)⟩
/-- The slot of the `i`-th chunk. -/
def n12 (i : ℕ) : Fin 12 := ⟨i % 12, Nat.mod_lt _ (by decide)⟩

theorem ib9 (r : Fin 12) (x : Fin 2) : ∀ a, (![r.val, 1024 * x.val, 0] : Fin 3 → ℕ) a + S1x1024x128.size a ≤ S12x2048x128.size a := by
  intro a; fin_cases a <;> simp [S1x1024x128, S12x2048x128] <;> omega
theorem ib10 (r : Fin 12) : ∀ a, (![r.val, 0, 0] : Fin 3 → ℕ) a + S1x128x2048.size a ≤ S12x128x2048.size a := by
  intro a; fin_cases a <;> simp [S1x128x2048, S12x128x2048] <;> omega
theorem ib11 (p : Fin 2) (n : Fin 8) : ∀ a, (![p.val, n.val, 0, 0] : Fin 4 → ℕ) a + S1x1x16x1024.size a ≤ S2x8x16x1024.size a := inb11 _ _ p.isLt n.isLt
theorem ib12 (p : Fin 2) : ∀ a, (![p.val, 0, 0] : Fin 3 → ℕ) a + S1x16x128.size a ≤ S2x16x128.size a := by
  intro a; fin_cases a <;> simp [S1x16x128, S2x16x128] <;> omega
theorem ib15 (p : Fin 2) : ∀ a, (![p.val, 0, 0] : Fin 3 → ℕ) a + S1x16x256.size a ≤ S2x16x256.size a := by
  intro a; fin_cases a <;> simp [S1x16x256, S2x16x256] <;> omega

def get9 (f : Buf (Elt F) (arg9.view.loc (c : Thread nD τ))) (r : Fin 12) (x : Fin 2) : Vec F S1x1024x128 .bf16 :=
  arg9.view.readAt (Elt F) (Rect.unit (s := S12x2048x128) ![r.val, 1024 * x.val, 0] S1x1024x128.size (ib9 r x)).toLoadRect f
def get10 (f : Buf (Elt F) (arg10.view.loc (c : Thread nD τ))) (r : Fin 12) : Vec F S1x128x2048 .fp8e4m3 :=
  arg10.view.readAt (Elt F) (Rect.unit (s := S12x128x2048) ![r.val, 0, 0] S1x128x2048.size (ib10 r)).toLoadRect f
def get11 (f : Buf (Elt F) (arg11.view.loc (c : Thread nD τ))) (p : Fin 2) (n : Fin 8) : Vec F S1x1x16x1024 .f32 :=
  arg11.view.readAt (Elt F) (Rect.unit (s := S2x8x16x1024) ![p.val, n.val, 0, 0] S1x1x16x1024.size (ib11 p n)).toLoadRect f
def get12 (f : Buf (Elt F) (arg12.view.loc (c : Thread nD τ))) (p : Fin 2) : Vec F S1x16x128 .f32 :=
  arg12.view.readAt (Elt F) (Rect.unit (s := S2x16x128) ![p.val, 0, 0] S1x16x128.size (ib12 p)).toLoadRect f
def get13 (f : Buf (Elt F) (arg13.view.loc (c : Thread nD τ))) : Vec F S128x8 .f32 :=
  arg13.view.readAt (Elt F) (Rect.unit (s := S128x8) ![0, 0] S128x8.size inb_S128x8_S128x8_0_0).toLoadRect f
def get14 (f : Buf (Elt F) (arg14.view.loc (c : Thread nD τ))) : Vec F S16x128 .f32 :=
  arg14.view.readAt (Elt F) (Rect.unit (s := S16x128) ![0, 0] S16x128.size inb_S16x128_S16x128_0_0).toLoadRect f
def get15 (f : Buf (Elt F) (arg15.view.loc (c : Thread nD τ))) (p : Fin 2) : Vec F S1x16x256 .bf16 :=
  arg15.view.readAt (Elt F) (Rect.unit (s := S2x16x256) ![p.val, 0, 0] S1x16x256.size (ib15 p)).toLoadRect f
def put11 (f : Buf (Elt F) (arg11.view.loc (c : Thread nD τ))) (p : Fin 2) (n : Fin 8) (w : FVec F S1x1x16x1024 .f32) : Buf (Elt F) (arg11.view.loc (c : Thread nD τ)) :=
  arg11.view.writes (Elt F) f [⟨Rect.unit (s := S2x8x16x1024) ![p.val, n.val, 0, 0] S1x1x16x1024.size (ib11 p n), w⟩]
def put12 (f : Buf (Elt F) (arg12.view.loc (c : Thread nD τ))) (p : Fin 2) (w : FVec F S1x16x128 .f32) : Buf (Elt F) (arg12.view.loc (c : Thread nD τ)) :=
  arg12.view.writes (Elt F) f [⟨Rect.unit (s := S2x16x128) ![p.val, 0, 0] S1x16x128.size (ib12 p), w⟩]
def put13 (f : Buf (Elt F) (arg13.view.loc (c : Thread nD τ))) (w : FVec F S128x8 .f32) : Buf (Elt F) (arg13.view.loc (c : Thread nD τ)) :=
  arg13.view.writes (Elt F) f [⟨Rect.unit (s := S128x8) ![0, 0] S128x8.size inb_S128x8_S128x8_0_0, w⟩]
def put14 (f : Buf (Elt F) (arg14.view.loc (c : Thread nD τ))) (w : FVec F S16x128 .f32) : Buf (Elt F) (arg14.view.loc (c : Thread nD τ)) :=
  arg14.view.writes (Elt F) f [⟨Rect.unit (s := S16x128) ![0, 0] S16x128.size inb_S16x128_S16x128_0_0, w⟩]
def put15 (f : Buf (Elt F) (arg15.view.loc (c : Thread nD τ))) (p : Fin 2) (w : FVec F S1x16x256 .bf16) : Buf (Elt F) (arg15.view.loc (c : Thread nD τ)) :=
  arg15.view.writes (Elt F) f [⟨Rect.unit (s := S2x16x256) ![p.val, 0, 0] S1x16x256.size (ib15 p), w⟩]

theorem get9_of (f : Buf (Elt F) (arg9.view.loc (c : Thread nD τ))) (r : Fin 12) (x : Fin 2) {off : Fin 3 → ℕ} {inb} (h : off = ![r.val, 1024 * x.val, 0]) :
    arg9.view.readAt (Elt F) (Rect.unit (s := S12x2048x128) off S1x1024x128.size inb).toLoadRect f = get9 c arg9 f r x := by subst h; rfl
theorem get10_of (f : Buf (Elt F) (arg10.view.loc (c : Thread nD τ))) (r : Fin 12) {off : Fin 3 → ℕ} {inb} (h : off = ![r.val, 0, 0]) :
    arg10.view.readAt (Elt F) (Rect.unit (s := S12x128x2048) off S1x128x2048.size inb).toLoadRect f = get10 c arg10 f r := by subst h; rfl
theorem get11_of (f : Buf (Elt F) (arg11.view.loc (c : Thread nD τ))) (p : Fin 2) (n : ℕ) (hn : n < 8) {off : Fin 4 → ℕ} {inb} (h : off = ![p.val, n, 0, 0]) :
    arg11.view.readAt (Elt F) (Rect.unit (s := S2x8x16x1024) off S1x1x16x1024.size inb).toLoadRect f = get11 c arg11 f p (n8 n) := by
  have e : n = (n8 n).val := (Nat.mod_eq_of_lt hn).symm
  rw [e] at h; subst h; rfl
theorem get12_of (f : Buf (Elt F) (arg12.view.loc (c : Thread nD τ))) (p : Fin 2) {off : Fin 3 → ℕ} {inb} (h : off = ![p.val, 0, 0]) :
    arg12.view.readAt (Elt F) (Rect.unit (s := S2x16x128) off S1x16x128.size inb).toLoadRect f = get12 c arg12 f p := by subst h; rfl
theorem get15_of (f : Buf (Elt F) (arg15.view.loc (c : Thread nD τ))) (p : Fin 2) {off : Fin 3 → ℕ} {inb} (h : off = ![p.val, 0, 0]) :
    arg15.view.readAt (Elt F) (Rect.unit (s := S2x16x256) off S1x16x256.size inb).toLoadRect f = get15 c arg15 f p := by subst h; rfl
theorem put11_of (f : Buf (Elt F) (arg11.view.loc (c : Thread nD τ))) (p : Fin 2) (n : ℕ) (hn : n < 8) (w : FVec F S1x1x16x1024 .f32) {off : Fin 4 → ℕ} {inb} (h : off = ![p.val, n, 0, 0]) :
    arg11.view.writes (Elt F) f [⟨Rect.unit (s := S2x8x16x1024) off S1x1x16x1024.size inb, w⟩] = put11 c arg11 f p (n8 n) w := by
  have e : n = (n8 n).val := (Nat.mod_eq_of_lt hn).symm
  rw [e] at h; subst h; rfl
theorem put12_of (f : Buf (Elt F) (arg12.view.loc (c : Thread nD τ))) (p : Fin 2) (w : FVec F S1x16x128 .f32) {off : Fin 3 → ℕ} {inb} (h : off = ![p.val, 0, 0]) :
    arg12.view.writes (Elt F) f [⟨Rect.unit (s := S2x16x128) off S1x16x128.size inb, w⟩] = put12 c arg12 f p w := by subst h; rfl
theorem put15_of (f : Buf (Elt F) (arg15.view.loc (c : Thread nD τ))) (p : Fin 2) (w : FVec F S1x16x256 .bf16) {off : Fin 3 → ℕ} {inb} (h : off = ![p.val, 0, 0]) :
    arg15.view.writes (Elt F) f [⟨Rect.unit (s := S2x16x256) off S1x16x256.size inb, w⟩] = put15 c arg15 f p w := by subst h; rfl

/-- The scores of a chunk, -/
def sK (f9 : Buf (Elt F) (arg9.view.loc (c : Thread nD τ))) (f15 : Buf (Elt F) (arg15.view.loc (c : Thread nD τ))) (r : Fin 12) (u : ℕ) : FVec F S16x1024 .f32 :=
  k0_pay29 (get9 c arg9 f9 r 0) (get9 c arg9 f9 r 1) (get15 c arg15 f15 (par u))
/-- which of them count, -/
def mK (n : ℕ) (len : BitVec 32) : IVec S16x1024 1 := k0_pay30 (F := F) k0_pay1 (wd n) len
/-- the scores kept with the chunk's added, -/
def kp11 (f9 : Buf (Elt F) (arg9.view.loc (c : Thread nD τ))) (f11 : Buf (Elt F) (arg11.view.loc (c : Thread nD τ))) (f15 : Buf (Elt F) (arg15.view.loc (c : Thread nD τ)))
    (r : Fin 12) (u n : ℕ) (len : BitVec 32) : Buf (Elt F) (arg11.view.loc (c : Thread nD τ)) :=
  put11 c arg11 f11 (par u) (n8 n) (k0_pay32 (sK c arg9 arg15 f9 f15 r u) (mK (F := F) n len))
/-- and the running maxima. -/
def kp12 (f9 : Buf (Elt F) (arg9.view.loc (c : Thread nD τ))) (f12 : Buf (Elt F) (arg12.view.loc (c : Thread nD τ))) (f15 : Buf (Elt F) (arg15.view.loc (c : Thread nD τ)))
    (r : Fin 12) (u n : ℕ) (len : BitVec 32) : Buf (Elt F) (arg12.view.loc (c : Thread nD τ)) :=
  put12 c arg12 f12 (par u) (k0_pay33 (sK c arg9 arg15 f9 f15 r u) (mK (F := F) n len) (get12 c arg12 f12 (par u)))
/-- The weighted sum with a chunk's part added, -/
def kp13 (f10 : Buf (Elt F) (arg10.view.loc (c : Thread nD τ))) (f11 : Buf (Elt F) (arg11.view.loc (c : Thread nD τ))) (f13 : Buf (Elt F) (arg13.view.loc (c : Thread nD τ)))
    (v92 : FVec F S16x1 .f32) (r : Fin 12) (u n : ℕ) : Buf (Elt F) (arg13.view.loc (c : Thread nD τ)) :=
  put13 c arg13 f13 (k0_pay42 (get13 c arg13 f13) (k0_pay41 v92 (get11 c arg11 f11 (par u) (n8 n)) (get10 c arg10 f10 r)))
/-- and the sum of the weights. -/
def kp14 (f11 : Buf (Elt F) (arg11.view.loc (c : Thread nD τ))) (f14 : Buf (Elt F) (arg14.view.loc (c : Thread nD τ)))
    (v92 : FVec F S16x1 .f32) (u n : ℕ) : Buf (Elt F) (arg14.view.loc (c : Thread nD τ)) :=
  put14 c arg14 f14 (k0_pay40 v92 (get11 c arg11 f11 (par u) (n8 n)) (get14 c arg14 f14))

theorem sK_of (f9 : Buf (Elt F) (arg9.view.loc (c : Thread nD τ))) (f15 : Buf (Elt F) (arg15.view.loc (c : Thread nD τ))) (r : Fin 12) (u : ℕ)
    {offa offb offc : Fin 3 → ℕ} {inba inbb inbc} (ha : offa = ![r.val, 0, 0]) (hb : offb = ![r.val, 1024, 0]) (hc : offc = ![u % 2, 0, 0]) :
    k0_pay29 (arg9.view.readAt (Elt F) (Rect.unit (s := S12x2048x128) offa S1x1024x128.size inba).toLoadRect f9)
      (arg9.view.readAt (Elt F) (Rect.unit (s := S12x2048x128) offb S1x1024x128.size inbb).toLoadRect f9)
      (arg15.view.readAt (Elt F) (Rect.unit (s := S2x16x256) offc S1x16x256.size inbc).toLoadRect f15) = sK c arg9 arg15 f9 f15 r u := by
  rw [get9_of c arg9 f9 r 0 ha, get9_of c arg9 f9 r 1 hb, get15_of c arg15 f15 (par u) hc]; rfl
theorem mK_of (f0 : Buf (Elt F) (arg0.view.loc (c : Thread nD τ))) (n b : ℕ) {w : BitVec 32} (hw : w = wd n) {off : Fin 1 → ℕ} {inb} {x : (Rect.unit (s := S3) off S1.size inb).toLoadRect.shape.Idx} (h : off = ![b]) :
    k0_pay30 (F := F) k0_pay1 w (View.readAt (Elt F) arg0.view (Rect.unit (s := S3) off S1.size inb).toLoadRect f0 x) = mK (F := F) n (lw c arg0 f0 b) := by
  rw [lw_eq c arg0 f0 off inb x b h, hw]; rfl

theorem kp11_of (f9 : Buf (Elt F) (arg9.view.loc (c : Thread nD τ))) (f11 : Buf (Elt F) (arg11.view.loc (c : Thread nD τ))) (f15 : Buf (Elt F) (arg15.view.loc (c : Thread nD τ)))
    (r : Fin 12) (u n : ℕ) (len : BitVec 32) (hn : n < 8) {off : Fin 4 → ℕ} {inb} (h : off = ![u % 2, n, 0, 0]) {x : FVec F S16x1024 .f32} {m : IVec S16x1024 1} :
    (arg11.view.loc (c : Thread nD τ) ↦{fullShare} arg11.view.writes (Elt F) f11 [⟨Rect.unit (s := S2x8x16x1024) off S1x1x16x1024.size inb, k0_pay32 x m⟩])
      ⊢@{sProp 𝕄} iprop(⌜x = sK c arg9 arg15 f9 f15 r u ∧ m = mK (F := F) n len⌝ -∗ (arg11.view.loc (c : Thread nD τ) ↦{fullShare} kp11 c arg9 arg11 arg15 f9 f11 f15 r u n len)) := by
  iintro H ⟨%hx, %hm⟩
  subst hx hm
  rw [put11_of c arg11 f11 (par u) n hn _ h]
  iexact H
theorem kp12_of (f9 : Buf (Elt F) (arg9.view.loc (c : Thread nD τ))) (f12 : Buf (Elt F) (arg12.view.loc (c : Thread nD τ))) (f15 : Buf (Elt F) (arg15.view.loc (c : Thread nD τ)))
    (r : Fin 12) (u n : ℕ) (len : BitVec 32) {off off' : Fin 3 → ℕ} {inb inb'} (h : off = ![u % 2, 0, 0]) (h' : off' = ![u % 2, 0, 0]) {x : FVec F S16x1024 .f32} {m : IVec S16x1024 1} :
    (arg12.view.loc (c : Thread nD τ) ↦{fullShare} arg12.view.writes (Elt F) f12 [⟨Rect.unit (s := S2x16x128) off S1x16x128.size inb,
        k0_pay33 x m (arg12.view.readAt (Elt F) (Rect.unit (s := S2x16x128) off' S1x16x128.size inb').toLoadRect f12)⟩])
      ⊢@{sProp 𝕄} iprop(⌜x = sK c arg9 arg15 f9 f15 r u ∧ m = mK (F := F) n len⌝ -∗ (arg12.view.loc (c : Thread nD τ) ↦{fullShare} kp12 c arg9 arg12 arg15 f9 f12 f15 r u n len)) := by
  iintro H ⟨%hx, %hm⟩
  subst hx hm
  rw [get12_of c arg12 f12 (par u) h', put12_of c arg12 f12 (par u) _ h]
  iexact H
theorem kp13_of (f10 : Buf (Elt F) (arg10.view.loc (c : Thread nD τ))) (f11 : Buf (Elt F) (arg11.view.loc (c : Thread nD τ))) (f13 : Buf (Elt F) (arg13.view.loc (c : Thread nD τ)))
    (v92 : FVec F S16x1 .f32) (r : Fin 12) (u n : ℕ) (hn : n < 8) {off : Fin 4 → ℕ} {inb} (h : off = ![u % 2, n, 0, 0]) {off' : Fin 3 → ℕ} {inb'} (h' : off' = ![r.val, 0, 0]) :
    (arg13.view.loc (c : Thread nD τ) ↦{fullShare} arg13.view.writes (Elt F) f13 [⟨Rect.unit (s := S128x8) ![0, 0] S128x8.size inb_S128x8_S128x8_0_0,
        k0_pay42 (arg13.view.readAt (Elt F) (Rect.unit (s := S128x8) ![0, 0] S128x8.size inb_S128x8_S128x8_0_0).toLoadRect f13)
          (k0_pay41 v92 (arg11.view.readAt (Elt F) (Rect.unit (s := S2x8x16x1024) off S1x1x16x1024.size inb).toLoadRect f11)
            (arg10.view.readAt (Elt F) (Rect.unit (s := S12x128x2048) off' S1x128x2048.size inb').toLoadRect f10))⟩])
      ⊢@{sProp 𝕄} (arg13.view.loc (c : Thread nD τ) ↦{fullShare} kp13 c arg10 arg11 arg13 f10 f11 f13 v92 r u n) := by
  rw [get11_of c arg11 f11 (par u) n hn h, get10_of c arg10 f10 r h']
  exact BIBase.Entails.rfl
theorem kp14_of (f11 : Buf (Elt F) (arg11.view.loc (c : Thread nD τ))) (f14 : Buf (Elt F) (arg14.view.loc (c : Thread nD τ)))
    (v92 : FVec F S16x1 .f32) (u n : ℕ) (hn : n < 8) {off : Fin 4 → ℕ} {inb} (h : off = ![u % 2, n, 0, 0]) :
    (arg14.view.loc (c : Thread nD τ) ↦{fullShare} arg14.view.writes (Elt F) f14 [⟨Rect.unit (s := S16x128) ![0, 0] S16x128.size inb_S16x128_S16x128_0_0,
        k0_pay40 v92 (arg11.view.readAt (Elt F) (Rect.unit (s := S2x8x16x1024) off S1x1x16x1024.size inb).toLoadRect f11)
          (arg14.view.readAt (Elt F) (Rect.unit (s := S16x128) ![0, 0] S16x128.size inb_S16x128_S16x128_0_0).toLoadRect f14)⟩])
      ⊢@{sProp 𝕄} (arg14.view.loc (c : Thread nD τ) ↦{fullShare} kp14 c arg11 arg14 f11 f14 v92 u n) := by
  rw [get11_of c arg11 f11 (par u) n hn h]
  exact BIBase.Entails.rfl
theorem iv_nat (a b : ℕ) (h : a + b < 8) : Scf.iv (wd a) 1#32 b = wd (a + b) := iv_words ⟨a, by omega⟩ ⟨b, by omega⟩
/-- Chunks kept for one unit leave those kept for another alone. -/
theorem get11_put11 (f : Buf (Elt F) (arg11.view.loc (c : Thread nD τ))) (p p' : Fin 2) (n n' : Fin 8) (w : FVec F S1x1x16x1024 .f32) (h : p ≠ p') :
    get11 c arg11 (put11 c arg11 f p n w) p' n' = get11 c arg11 f p' n' := by
  unfold get11 put11
  refine View.readAt_writes_of_forall_not_mem _ _ _ _ ?_
  intro x pc hp
  rw [List.mem_singleton] at hp
  subst hp
  intro hm
  have h0 := (Rect.mem_set_unit (s := S2x8x16x1024) (inb := ib11 p n)).mp hm 0
  have hx0 : (x 0).val < 1 := (x 0).isLt
  have e0 : ((Rect.unit (s := S2x8x16x1024) ![p'.val, n'.val, 0, 0] S1x1x16x1024.size (ib11 p' n')).idx x 0).val = p'.val + 1 * (x 0).val := rfl
  have e1 : (![p.val, n.val, 0, 0] : Fin 4 → ℕ) 0 = p.val := rfl
  have e2 : S1x1x16x1024.size 0 = 1 := rfl
  rw [e1] at h0
  have h1 := h0.1
  have h2 := h0.2
  have h3 : p.val ≤ p'.val + 1 * (x 0).val := h1
  have h4 : p'.val + 1 * (x 0).val < p.val + 1 := h2
  exact h (Fin.ext (by omega))
theorem kp11_of4 (f9 : Buf (Elt F) (arg9.view.loc (c : Thread nD τ))) (f11 : Buf (Elt F) (arg11.view.loc (c : Thread nD τ))) (f15 : Buf (Elt F) (arg15.view.loc (c : Thread nD τ)))
    (r : Fin 12) (u n : ℕ) (len : BitVec 32) (hn : n < 8) {off : Fin 4 → ℕ} {inb} (h : off = ![u % 2, n, 0, 0]) {x : FVec F S16x1024 .f32} {v322 v323 : BitVec 32}
    (hx : x = sK c arg9 arg15 f9 f15 r u) (h322 : v322 = Scalar.minsi len 16384#32) (h323 : v323 = Scalar.muli (wd n) 2048#32) :
    arg11.view.writes (Elt F) f11 [⟨Rect.unit (s := S2x8x16x1024) off S1x1x16x1024.size inb, k0_pay15 k0_pay1 x v322 v323⟩] = kp11 c arg9 arg11 arg15 f9 f11 f15 r u n len := by
  subst hx h322 h323
  rw [put11_of c arg11 f11 (par u) n hn _ h]
  rfl
theorem kp12_of4 (f9 : Buf (Elt F) (arg9.view.loc (c : Thread nD τ))) (f12 : Buf (Elt F) (arg12.view.loc (c : Thread nD τ))) (f15 : Buf (Elt F) (arg15.view.loc (c : Thread nD τ)))
    (r : Fin 12) (u n : ℕ) (len : BitVec 32) {off off' : Fin 3 → ℕ} {inb inb'} (h : off = ![u % 2, 0, 0]) (h' : off' = ![u % 2, 0, 0]) {x : FVec F S16x1024 .f32} {v322 v323 : BitVec 32}
    (hx : x = sK c arg9 arg15 f9 f15 r u) (h322 : v322 = Scalar.minsi len 16384#32) (h323 : v323 = Scalar.muli (wd n) 2048#32) :
    arg12.view.writes (Elt F) f12 [⟨Rect.unit (s := S2x16x128) off S1x16x128.size inb,
        k0_pay16 k0_pay1 x v322 v323 (arg12.view.readAt (Elt F) (Rect.unit (s := S2x16x128) off' S1x16x128.size inb').toLoadRect f12)⟩]
      = kp12 c arg9 arg12 arg15 f9 f12 f15 r u n len := by
  subst hx h322 h323
  rw [get12_of c arg12 f12 (par u) h', put12_of c arg12 f12 (par u) _ h]
  rfl
theorem par_ne (u : ℕ) (h : 0 < u) : par u ≠ par (u - 1) := by
  intro e; have := congrArg Fin.val e; simp [par] at this; omega
theorem e17 (f9 : Buf (Elt F) (arg9.view.loc (c : Thread nD τ))) (f11 : Buf (Elt F) (arg11.view.loc (c : Thread nD τ))) (f15 : Buf (Elt F) (arg15.view.loc (c : Thread nD τ)))
    (v92 : FVec F S16x1 .f32) (r : Fin 12) (u n : ℕ) (len : BitVec 32) (hn : n < 8) (hu : 0 < u) {off : Fin 4 → ℕ} {inb} (h : off = ![(u - 1) % 2, n, 0, 0]) :
    arg11.view.readAt (Elt F) (Rect.unit (s := S2x8x16x1024) off S1x1x16x1024.size inb).toLoadRect (kp11 c arg9 arg11 arg15 f9 f11 f15 r u n len)
      = get11 c arg11 f11 (par (u - 1)) (n8 n) := by
  rw [get11_of c arg11 _ (par (u - 1)) n hn h]
  unfold kp11
  exact get11_put11 c arg11 f11 _ _ _ _ _ (par_ne u hu)
theorem kp13_of4 (f10 : Buf (Elt F) (arg10.view.loc (c : Thread nD τ))) (f11 : Buf (Elt F) (arg11.view.loc (c : Thread nD τ))) (f13 : Buf (Elt F) (arg13.view.loc (c : Thread nD τ)))
    (v92 : FVec F S16x1 .f32) (r : Fin 12) (u n : ℕ) {off' : Fin 3 → ℕ} {inb'} (h' : off' = ![r.val, 0, 0]) :
    (arg13.view.loc (c : Thread nD τ) ↦{fullShare} arg13.view.writes (Elt F) f13 [⟨Rect.unit (s := S128x8) ![0, 0] S128x8.size inb_S128x8_S128x8_0_0,
        k0_pay20 (k0_pay17 v92 (get11 c arg11 f11 (par u) (n8 n))) (arg13.view.readAt (Elt F) (Rect.unit (s := S128x8) ![0, 0] S128x8.size inb_S128x8_S128x8_0_0).toLoadRect f13)
            (arg10.view.readAt (Elt F) (Rect.unit (s := S12x128x2048) off' S1x128x2048.size inb').toLoadRect f10)⟩])
      ⊢@{sProp 𝕄} (arg13.view.loc (c : Thread nD τ) ↦{fullShare} kp13 c arg10 arg11 arg13 f10 f11 f13 v92 r u n) := by
  rw [get10_of c arg10 f10 r h']
  exact BIBase.Entails.rfl
theorem kp14_of4 (f11 : Buf (Elt F) (arg11.view.loc (c : Thread nD τ))) (f14 : Buf (Elt F) (arg14.view.loc (c : Thread nD τ)))
    (v92 : FVec F S16x1 .f32) (u n : ℕ) {z : FVec F S16x128 .f32} (hz : z = k0_pay18 v92 (get11 c arg11 f11 (par u) (n8 n))) :
    arg14.view.writes (Elt F) f14 [⟨Rect.unit (s := S16x128) ![0, 0] S16x128.size inb_S16x128_S16x128_0_0,
        k0_pay19 (k0_pay17 v92 (get11 c arg11 f11 (par u) (n8 n))) z
          (arg14.view.readAt (Elt F) (Rect.unit (s := S16x128) ![0, 0] S16x128.size inb_S16x128_S16x128_0_0).toLoadRect f14)⟩]
      = kp14 c arg11 arg14 f11 f14 v92 u n := by
  subst hz; rfl

end Cert.Proof.KernelIdeal
-- ==== Proof.T4I.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.StepI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
namespace T4
theorem ch13 (f : ℕ → ℕ) (i : ℕ) (p : ℕ × ℕ) (h : ch f (i + 12) = p) : ch f (i + 13) = nxt f p := by rw [← h]; rfl
attribute [local irreducible] ch
variable (f0 : Buf (Elt F) (arg0.view.loc (c : Thread nD τ))) (f5 : Buf (Elt F) (arg5.view.loc (c : Thread nD τ))) (f6 : Buf (Elt F) (arg6.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (f11 : Buf (Elt F) (arg11.view.loc (c : Thread nD τ))) (f12 : Buf (Elt F) (arg12.view.loc (c : Thread nD τ))) (f15 : Buf (Elt F) (arg15.view.loc (c : Thread nD τ)))
  (f13 : Buf (Elt F) (arg13.view.loc (c : Thread nD τ))) (f14 : Buf (Elt F) (arg14.view.loc (c : Thread nD τ)))

set_option maxHeartbeats 2000000 in
set_option pp.maxSteps 1200 in
theorem t4_run (hKP : LandsK c arg0 arg5 arg9 f0 f5 KP) (hVP : LandsV c arg0 arg6 arg10 f0 f6 VP) (s : Fin k0_t3_loop.trips) (v17 v19 v39 v64 : BitVec 32) (v92 : FVec F S16x1 .f32) (hw9 : k0_chk9 s v39 v64)
    (t : Fin (k0_t4_loop s v39 v64).trips) (i u cc : ℕ) (r : Fin 12) (hr : r.val = i % 12) (i' u' cc' : ℕ) (r' : Fin 12) (hr' : r'.val = i' % 12)
    (hi : ch (nc c arg0 f0) i = (s.val, t.val)) (hs : s.val < 36) (hu : u ≤ 36) (hcc : cc < 8) (h : ch (nc c arg0 f0) (i + 12) = (u, cc))
    (hi' : ch (nc c arg0 f0) i' = (s.val - 1, t.val)) (hs' : 0 < s.val) (hu' : u' ≤ 36) (hcc' : cc' < 8) (h' : ch (nc c arg0 f0) (i' + 12) = (u', cc')) :
    iprop((arg0.view.loc (c : Thread nD τ) ↦{q0} f0) ∗ stK c arg0 arg5 arg9 arg17 f0 f5 q5 KP r (some i) ∗ stV c arg0 arg6 arg10 arg18 f0 f6 q6 VP r' (some i')
      ∗ (arg11.view.loc (c : Thread nD τ) ↦{fullShare} f11) ∗ (arg12.view.loc (c : Thread nD τ) ↦{fullShare} f12) ∗ (arg15.view.loc (c : Thread nD τ) ↦{fullShare} f15)
      ∗ (arg13.view.loc (c : Thread nD τ) ↦{fullShare} f13) ∗ (arg14.view.loc (c : Thread nD τ) ↦{fullShare} f14)
      ∗ (∃ W, owes (c : Thread nD τ) 0 W))
    ⊢ wp frame (wpE (defs₀ (F := F)) Variants.none c none) Set.univ
      (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92 t (wd r.val, wd r'.val, wd u, wd cc, wd u', wd cc'))
      (fun x => iprop((arg0.view.loc (c : Thread nD τ) ↦{q0} f0) ∗ stK c arg0 arg5 arg9 arg17 f0 f5 q5 KP r (some (i + 12)) ∗ stV c arg0 arg6 arg10 arg18 f0 f6 q6 VP r' (some (i' + 12))
        ∗ (∃ f9 f10, ⌜KP i f9 ∧ VP i' f10⌝ ∗ (arg11.view.loc (c : Thread nD τ) ↦{fullShare} kp11 c arg9 arg11 arg15 f9 f11 f15 r s t.val (lw c arg0 f0 (s.val / 12)))
          ∗ (arg12.view.loc (c : Thread nD τ) ↦{fullShare} kp12 c arg9 arg12 arg15 f9 f12 f15 r s t.val (lw c arg0 f0 (s.val / 12)))
          ∗ (arg13.view.loc (c : Thread nD τ) ↦{fullShare} kp13 c arg10 arg11 arg13 f10 f11 f13 v92 r' (s.val - 1) t.val)
          ∗ (arg14.view.loc (c : Thread nD τ) ↦{fullShare} kp14 c arg11 arg14 f11 f14 v92 (s.val - 1) t.val))
        ∗ (arg15.view.loc (c : Thread nD τ) ↦{fullShare} f15) ∗ (∃ W, owes (c : Thread nD τ) 0 W)
        ∗ ⌜x = (wd ((i + 1) % 12), wd ((i' + 1) % 12), wd (ch (nc c arg0 f0) (i + 13)).1, wd (ch (nc c arg0 f0) (i + 13)).2, wd (ch (nc c arg0 f0) (i' + 13)).1, wd (ch (nc c arg0 f0) (i' + 13)).2)⌝)) := by
  iintro ⟨H0, Hst, HstV, H11, H12, H15, H13, H14, How⟩
  have hs36 : s.val - 1 < 36 := by have := s.isLt; have e : k0_t3_loop.trips = 37 := (by decide); omega
  ihave Hfl := (stK_fly c arg0 arg5 arg9 arg17 f0 f5 q5 KP r i (by have := congrArg Prod.fst hi; simp only at this; omega)) $$ Hst
  ihave HflV := (stV_fly c arg0 arg6 arg10 arg18 f0 f6 q6 VP r' i' (by have := congrArg Prod.fst hi'; simp only at this; omega)) $$ HstV
  sl_unfold [k0_t4_body]
  sl_exec (disch := first | sl_exact (chk10_of s v39 v64 t _ _) | sl_exact (chk11_of r) | sl_exact (chk14_of r u hu) | sl_exact (chk16_of _ cc hcc) | sl_exact (chk15_of r u cc hu hcc _) | sl_exact (chk12_of s v39 v64 t _ _) | sl_exact (chk13_of r') | sl_exact (chk17_of r' u' hu') | sl_exact (chk19_of _ cc' hcc') | sl_exact (chk18_of r' u' cc' hu' hcc' _))
  have f4 := (facts4 s v39 v64).2.2 t
  have hrl : t4_run.sl.r c arg0 f0 s = lw c arg0 f0 (s.val / 12) := lw_eq c arg0 f0 _ _ _ _ (by rw [show k0_off23 s = k0_off75 s from rfl, off75_eq s, Nat.min_eq_left (by omega)])
  have hiv : Scf.iv (k0_t4_loop s v39 v64).lb 1#32 t = wd (ch (nc c arg0 f0) i).2 := by rw [hi]; exact f4.1.trans (by rw [Nat.zero_add])
  iapply (awaitK c arg0 arg5 arg9 arg17 f0 f5 q5 KP r i (by rw [sz5_eq s v39 v64 t _ _ hiv, tk, hi, hrl])
    (semS_eq arg17 r _ _ (off24_eq r))) $$ [Hfl How]
  · isplitl [Hfl]; · iexact Hfl
    iexact How
  iintro ⟨Hv, ⟨%f9, %hf9, H9⟩, H5, How⟩
  sl_exec (disch := first | sl_exact (chk12_of s v39 v64 t _ _))
  have f4' := f4.2
  have hrl' : t4_run.sl.r_1 c arg0 f0 s = lw c arg0 f0 ((s.val - 1) / 12) := lw_eq c arg0 f0 _ _ _ _ (by rw [show k0_off27 s = k0_off105 s from rfl, off105_eq s])
  have hiv' : Scf.iv (k0_t4_loop s v39 v64).lb 1#32 t = wd (ch (nc c arg0 f0) i').2 := by rw [hi']; exact f4.1.trans (by rw [Nat.zero_add])
  iapply (awaitV c arg0 arg6 arg10 arg18 f0 f6 q6 VP r' i' (by rw [sz7_eq s v39 v64 t _ _ hiv', tk, hi', hrl'])
    (semS_eq arg18 r' _ _ (off28_eq r'))) $$ [HflV How]
  · isplitl [HflV]; · iexact HflV
    iexact How
  iintro ⟨HvV, ⟨%f10, %hf10, H10⟩, H6, How⟩
  sl_exec
  iapply (loadK c arg9 r f9 _ 0 (by omega) (off31_eq r)) $$ H9
  iintro H9
  iapply (loadK c arg9 r f9 _ 1024 (by omega) (off32_eq r)) $$ H9
  iintro H9
  rw [ret_bind]
  sl_exec
  have hn8 : t.val < 8 := by have := nV_le s v64; omega
  have hm35 : min s.val 35 = s.val := Nat.min_eq_left (by omega)
  have hx : t4_run.sl.r_3 c arg9 arg15 f15 s r f9 = sK c arg9 arg15 f9 f15 r s :=
    sK_of c arg9 arg15 f9 f15 r s (inba := k0_off31_inb (wd r.val) (chk11_of r)) (inbb := k0_off32_inb (wd r.val) (chk11_of r)) (inbc := k0_off33_inb s) (off31_eq r) (off32_eq r) (by rw [show k0_off33 s = k0_off81 s from rfl, off81_eq s, hm35])
  have h322 : t4_run.sl.v322 c arg0 f0 s = Scalar.minsi (lw c arg0 f0 (s.val / 12)) 16384#32 :=
    congrArg (fun z => Scalar.minsi z 16384#32) (lw_eq c arg0 f0 (k0_off34 s) (k0_off34_inb s) _ _ (by rw [show k0_off34 s = k0_off82 s from rfl, off82_eq s, hm35]))
  have h323 : t4_run.sl.v323 s v39 v64 t = Scalar.muli (wd t.val) 2048#32 :=
    congrArg (fun z => Scalar.muli z 2048#32) (f4.1.trans (by rw [Nat.zero_add]))
  have e11 : arg11.view.writes (Elt F) f11 (t4_run.sl.H11_1 c arg0 arg9 arg15 f0 f15 s v39 v64 hw9 t r f9) = kp11 c arg9 arg11 arg15 f9 f11 f15 r s t.val (lw c arg0 f0 (s.val / 12)) :=
    kp11_of4 c arg9 arg11 arg15 f9 f11 f15 r s t.val _ hn8 (off := k0_off35 s v39 v64 t) (by rw [off35_eq s v39 v64 t, hm35, Nat.zero_add]) hx h322 h323
  have e12 := kp12_of4 c arg9 arg12 arg15 f9 f12 f15 r s t.val (lw c arg0 f0 (s.val / 12)) (off := k0_off36 s) (off' := k0_off36 s) (inb := k0_off36_inb s) (inb' := k0_off36_inb s) (by rw [show k0_off36 s = k0_off84 s from rfl, off84_eq s, hm35]) (by rw [show k0_off36 s = k0_off84 s from rfl, off84_eq s, hm35]) hx h322 h323
  have e37 : arg11.view.readAt (Elt F) (Rect.unit (s := S2x8x16x1024) (k0_off37 s v39 v64 t) S1x1x16x1024.size (k0_off37_inb s v39 v64 hw9 t)).toLoadRect
      (arg11.view.writes (Elt F) f11 (t4_run.sl.H11_1 c arg0 arg9 arg15 f0 f15 s v39 v64 hw9 t r f9)) = get11 c arg11 f11 (par (s.val - 1)) (n8 t.val) := by
    rw [e11]; exact e17 c arg9 arg11 arg15 f9 f11 f15 v92 r s t.val _ hn8 hs' (by rw [off37_eq s v39 v64 t, Nat.zero_add])
  have e4 : t4_run.sl.r_4 c arg0 arg9 arg11 arg15 f0 f11 f15 s v39 v64 v92 hw9 t r f9 = k0_pay17 v92 (get11 c arg11 f11 (par (s.val - 1)) (n8 t.val)) := by unfold t4_run.sl.r_4; rw [e37]
  have e5 : t4_run.sl.r_5 c arg0 arg9 arg11 arg15 f0 f11 f15 s v39 v64 v92 hw9 t r f9 = k0_pay18 v92 (get11 c arg11 f11 (par (s.val - 1)) (n8 t.val)) := by unfold t4_run.sl.r_5; rw [e37]
  have e14 := kp14_of4 c arg11 arg14 f11 f14 v92 (s.val - 1) t.val e5
  rw [e4, e11, e12, e14]
  iapply (loadV c arg10 r' f10 _ (off38_eq r')) $$ H10
  iintro H10
  have hnx := nxt_words (nc c arg0 f0) u cc hu (fun h36 => by have := (ch_lt (nc c arg0 f0) (nc_pos c arg0 f0) (i + 12)).1; rw [h] at this; exact this h36)
    (fun h36 => by have := (ch_lt (nc c arg0 f0) (nc_pos c arg0 f0) (i + 12)).2; rw [h] at this; exact this h36) (lw c arg0 f0 (min u 35 / 12)) (fun h36 => by rw [Nat.min_eq_left (by omega)]; rfl)
  have h13 : ch (nc c arg0 f0) (i + 13) = nxt (nc c arg0 f0) (u, cc) := ch13 _ _ _ h
  rw [← h13] at hnx
  have hr1 : (r.val + 1) % 12 = (i + 1) % 12 := by rw [hr]; omega
  have hk1 : (ch (nc c arg0 f0) (i + 12)).1 = u := congrArg Prod.fst h
  have hk36 : u < 36 → (ch (nc c arg0 f0) (i + 12)).1 < 36 := fun hh => by rw [hk1]; exact hh
  have hkn36 : ¬ u < 36 → ¬ (ch (nc c arg0 f0) (i + 12)).1 < 36 := fun hh => by rw [hk1]; exact hh
  have hnx' := nxt_words (nc c arg0 f0) u' cc' hu' (fun h36 => by have := (ch_lt (nc c arg0 f0) (nc_pos c arg0 f0) (i' + 12)).1; rw [h'] at this; exact this h36)
    (fun h36 => by have := (ch_lt (nc c arg0 f0) (nc_pos c arg0 f0) (i' + 12)).2; rw [h'] at this; exact this h36) (lw c arg0 f0 (min u' 35 / 12)) (fun h36 => by rw [Nat.min_eq_left (by omega)]; rfl)
  have h13' : ch (nc c arg0 f0) (i' + 13) = nxt (nc c arg0 f0) (u', cc') := ch13 _ _ _ h'
  rw [← h13'] at hnx'
  have hr1' : (r'.val + 1) % 12 = (i' + 1) % 12 := by rw [hr']; omega
  have hk1' : (ch (nc c arg0 f0) (i' + 12)).1 = u' := congrArg Prod.fst h'
  have hk36' : u' < 36 → (ch (nc c arg0 f0) (i' + 12)).1 < 36 := fun hh => by rw [hk1']; exact hh
  have hkn36' : ¬ u' < 36 → ¬ (ch (nc c arg0 f0) (i' + 12)).1 < 36 := fun hh => by rw [hk1']; exact hh
  have hlxK := lw_eq c arg0 f0 (k0_off43 (wd u)) (k0_off43_inb (wd r.val) (wd u) (chk14_of r u hu)) (Shape.Idx.first (by show 0 < S1.numel; decide)) (min u 35 / 12) (off43_eq u hu)
  rw [← hlxK] at hnx
  have hlxV := lw_eq c arg0 f0 (k0_off48 (wd u')) (k0_off48_inb (wd r'.val) (wd u') (chk17_of r' u' hu')) (Shape.Idx.first (by show 0 < S1.numel; decide)) (min u' 35 / 12) (off48_eq u' hu')
  rw [← hlxV] at hnx'
  sl_exec
  ihave H13 := (kp13_of4 c arg10 arg11 arg13 f10 f11 f13 v92 r' (s.val - 1) t.val (off' := k0_off38 (wd r'.val)) (off38_eq r')) $$ H13
  have hcK := cond6_iff ⟨u, by omega⟩
  have hcV := cond7_iff ⟨u', by omega⟩
  by_cases hu36 : u < 36
  · have hcK1 : k0_cond6 (wd u) = 1#1 := by rw [hcK]; simp [hu36]
    by_cases hu36' : u' < 36
    · have hcV1 : k0_cond7 (wd u') = 1#1 := by rw [hcV]; simp [hu36']
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx' := lw_eq c arg0 f0 (k0_off39 (wd u)) (k0_off39_inb (wd r.val) (wd u) (chk14_of r u hu) hcK1) (Shape.Idx.first (by show 0 < S1.numel; decide)) (u / 12) (off39_eq u hu)
      have htk : (tok (wd cc) (View.readAt (Elt F) arg0.view (Rect.unit (s := S3) (k0_off39 (wd u)) S1.size (k0_off39_inb (wd r.val) (wd u) (chk14_of r u hu) hcK1)).toLoadRect f0 (Shape.Idx.first (by show 0 < S1.numel; decide)))).toNat = tk c arg0 f0 (i + 12) := by rw [hlx', tk, h]
      iapply (issueK c arg0 arg5 arg9 arg17 f0 f5 q5 KP hKP r (i + 12) (by rw [hr]; omega) (hk36 hu36)
        (by rw [off41_eq]) (by rw [off41_eq]; exact congrArg (fun n => ![1, n, 128]) htk) (by rw [sz10_eq]; exact congrArg (fun n => ![n, 128]) htk)
        (by rw [off42_eq u cc hu hcc, h]) (by rw [off42_eq u cc hu hcc]; exact congrArg (fun n => ![1, 1, n, 128]) htk)
        (semS_eq arg17 r _ _ (off40_eq r))) $$ [Hv H9 H5]
      · unfold idleK
        isplitl [Hv]; · iexact Hv
        isplitl [H9]; · iexists f9; iexact H9
        iexact H5
      iintro Hst
      ihave Hst := (fly_stK c arg0 arg5 arg9 arg17 f0 f5 q5 KP r (i + 12) (hk36 hu36)) $$ Hst
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx2 := lw_eq c arg0 f0 (k0_off44 (wd u')) (k0_off44_inb (wd r'.val) (wd u') (chk17_of r' u' hu') hcV1) (Shape.Idx.first (by show 0 < S1.numel; decide)) (u' / 12) (off44_eq u' hu')
      have htk2 : (tok (wd cc') (View.readAt (Elt F) arg0.view (Rect.unit (s := S3) (k0_off44 (wd u')) S1.size (k0_off44_inb (wd r'.val) (wd u') (chk17_of r' u' hu') hcV1)).toLoadRect f0 (Shape.Idx.first (by show 0 < S1.numel; decide)))).toNat = tk c arg0 f0 (i' + 12) := by rw [hlx2, tk, h']
      iapply (issueV c arg0 arg6 arg10 arg18 f0 f6 q6 VP hVP r' (i' + 12) (by rw [hr']; omega) (hk36' hu36')
        (by rw [off46_eq]) (by rw [off46_eq]; exact congrArg (fun n => ![1, 128, n]) htk2) (by rw [sz12_eq]; exact congrArg (fun n => ![128, n]) htk2)
        (by rw [off47_eq u' cc' hu' hcc', h']) (by rw [off47_eq u' cc' hu' hcc']; exact congrArg (fun n => ![1, 1, 128, n]) htk2)
        (semS_eq arg18 r' _ _ (off45_eq r'))) $$ [HvV H10 H6]
      · unfold idleV
        isplitl [HvV]; · iexact HvV
        isplitl [H10]; · iexists f10; iexact H10
        iexact H6
      iintro HstV
      ihave HstV := (fly_stV c arg0 arg6 arg10 arg18 f0 f6 q6 VP r' (i' + 12) (hk36' hu36')) $$ HstV
      sl_exec
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
    · have hcV1 : ¬ k0_cond7 (wd u') = 1#1 := by rw [hcV]; simp [hu36']
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx' := lw_eq c arg0 f0 (k0_off39 (wd u)) (k0_off39_inb (wd r.val) (wd u) (chk14_of r u hu) hcK1) (Shape.Idx.first (by show 0 < S1.numel; decide)) (u / 12) (off39_eq u hu)
      have htk : (tok (wd cc) (View.readAt (Elt F) arg0.view (Rect.unit (s := S3) (k0_off39 (wd u)) S1.size (k0_off39_inb (wd r.val) (wd u) (chk14_of r u hu) hcK1)).toLoadRect f0 (Shape.Idx.first (by show 0 < S1.numel; decide)))).toNat = tk c arg0 f0 (i + 12) := by rw [hlx', tk, h]
      iapply (issueK c arg0 arg5 arg9 arg17 f0 f5 q5 KP hKP r (i + 12) (by rw [hr]; omega) (hk36 hu36)
        (by rw [off41_eq]) (by rw [off41_eq]; exact congrArg (fun n => ![1, n, 128]) htk) (by rw [sz10_eq]; exact congrArg (fun n => ![n, 128]) htk)
        (by rw [off42_eq u cc hu hcc, h]) (by rw [off42_eq u cc hu hcc]; exact congrArg (fun n => ![1, 1, n, 128]) htk)
        (semS_eq arg17 r _ _ (off40_eq r))) $$ [Hv H9 H5]
      · unfold idleK
        isplitl [Hv]; · iexact Hv
        isplitl [H9]; · iexists f9; iexact H9
        iexact H5
      iintro Hst
      ihave Hst := (fly_stK c arg0 arg5 arg9 arg17 f0 f5 q5 KP r (i + 12) (hk36 hu36)) $$ Hst
      ihave HstV := (idle_stV c arg0 arg6 arg10 arg18 f0 f6 q6 VP r' (i' + 12) (hkn36' hu36')) $$ [HvV H10 H6]
      · unfold idleV
        isplitl [HvV]; · iexact HvV
        isplitl [H10]; · iexists f10; iexact H10
        iexact H6
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
  · have hcK1 : ¬ k0_cond6 (wd u) = 1#1 := by rw [hcK]; simp [hu36]
    by_cases hu36' : u' < 36
    · have hcV1 : k0_cond7 (wd u') = 1#1 := by rw [hcV]; simp [hu36']
      ihave Hst := (idle_stK c arg0 arg5 arg9 arg17 f0 f5 q5 KP r (i + 12) (hkn36 hu36)) $$ [Hv H9 H5]
      · unfold idleK
        isplitl [Hv]; · iexact Hv
        isplitl [H9]; · iexists f9; iexact H9
        iexact H5
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      have hlx2 := lw_eq c arg0 f0 (k0_off44 (wd u')) (k0_off44_inb (wd r'.val) (wd u') (chk17_of r' u' hu') hcV1) (Shape.Idx.first (by show 0 < S1.numel; decide)) (u' / 12) (off44_eq u' hu')
      have htk2 : (tok (wd cc') (View.readAt (Elt F) arg0.view (Rect.unit (s := S3) (k0_off44 (wd u')) S1.size (k0_off44_inb (wd r'.val) (wd u') (chk17_of r' u' hu') hcV1)).toLoadRect f0 (Shape.Idx.first (by show 0 < S1.numel; decide)))).toNat = tk c arg0 f0 (i' + 12) := by rw [hlx2, tk, h']
      iapply (issueV c arg0 arg6 arg10 arg18 f0 f6 q6 VP hVP r' (i' + 12) (by rw [hr']; omega) (hk36' hu36')
        (by rw [off46_eq]) (by rw [off46_eq]; exact congrArg (fun n => ![1, 128, n]) htk2) (by rw [sz12_eq]; exact congrArg (fun n => ![128, n]) htk2)
        (by rw [off47_eq u' cc' hu' hcc', h']) (by rw [off47_eq u' cc' hu' hcc']; exact congrArg (fun n => ![1, 1, 128, n]) htk2)
        (semS_eq arg18 r' _ _ (off45_eq r'))) $$ [HvV H10 H6]
      · unfold idleV
        isplitl [HvV]; · iexact HvV
        isplitl [H10]; · iexists f10; iexact H10
        iexact H6
      iintro HstV
      ihave HstV := (fly_stV c arg0 arg6 arg10 arg18 f0 f6 q6 VP r' (i' + 12) (hk36' hu36')) $$ HstV
      sl_exec
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
    · have hcV1 : ¬ k0_cond7 (wd u') = 1#1 := by rw [hcV]; simp [hu36']
      ihave Hst := (idle_stK c arg0 arg5 arg9 arg17 f0 f5 q5 KP r (i + 12) (hkn36 hu36)) $$ [Hv H9 H5]
      · unfold idleK
        isplitl [Hv]; · iexact Hv
        isplitl [H9]; · iexists f9; iexact H9
        iexact H5
      ihave HstV := (idle_stV c arg0 arg6 arg10 arg18 f0 f6 q6 VP r' (i' + 12) (hkn36' hu36')) $$ [HvV H10 H6]
      · unfold idleV
        isplitl [HvV]; · iexact HvV
        isplitl [H10]; · iexists f10; iexact H10
        iexact H6
      sl_exec (disch := first | sl_exact hcK1 | sl_exact hcV1 | sl_exact (chk15_of r u cc hu hcc _) | sl_exact (chk16_of _ cc hcc) | sl_exact (chk18_of r' u' cc' hu' hcc' _) | sl_exact (chk19_of _ cc' hcc'))
      sl_step
      isplitl [H0]; · iexact H0
      isplitl [Hst]; · iexact Hst
      isplitl [HstV]; · iexact HstV
      isplitl [H11 H12 H13 H14]
      · iexists f9; iexists f10
        isplitr; · ipureintro; exact ⟨hf9, hf10⟩
        isplitl [H11]; · iexact H11
        isplitl [H12]; · iexact H12
        isplitl [H13]; · iexact H13
        iexact H14
      isplitl [H15]; · iexact H15
      isplitl [How]; · iexact How
      ipureintro
      exact Prod.ext ((wd_slot r).trans (by rw [hr1])) (Prod.ext ((wd_slot r').trans (by rw [hr1'])) (Prod.ext hnx.1 (Prod.ext hnx.2 (Prod.ext hnx'.1 hnx'.2))))
end T4

end Cert.Proof.KernelIdeal
-- ==== Proof.T6I.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.StepI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

namespace T6
theorem ch13 (f : ℕ → ℕ) (i : ℕ) (p : ℕ × ℕ) (h : ch f (i + 12) = p) : ch f (i + 13) = nxt f p := by rw [← h]; rfl
attribute [local irreducible] ch
variable (f0 : Buf (Elt F) (arg0.view.loc (c : Thread nD τ))) (f5 : Buf (Elt F) (arg5.view.loc (c : Thread nD τ))) (q5 : Fin 12 → PosShare TreeShare) (q0 : PosShare TreeShare)
  (KP : ℕ → Buf (Elt F) (arg9.view.loc (c : Thread nD τ)) → Prop)
  (f11 : Buf (Elt F) (arg11.view.loc (c : Thread nD τ))) (f12 : Buf (Elt F) (arg12.view.loc (c : Thread nD τ))) (f15 : Buf (Elt F) (arg15.view.loc (c : Thread nD τ)))

set_option maxHeartbeats 1000000 in
theorem t6_run (hKP : LandsK c arg0 arg5 arg9 f0 f5 KP) (s : Fin k0_t3_loop.trips) (v17 v39 v64 v104 : BitVec 32) (hw9 : k0_chk9 s v39 v64)
    (t : Fin (k0_t6_loop s v39 v64).trips) (i u cc : ℕ) (r : Fin 12) (hr : r.val = i % 12)
    (hv : v104 = wd (min (nK s v39) (nV s v64))) (hi : ch (nc c arg0 f0) i = (s.val, min (nK s v39) (nV s v64) + t.val)) (hs : s.val < 36) (hu : u ≤ 36) (hcc : cc < 8)
    (h : ch (nc c arg0 f0) (i + 12) = (u, cc)) :
    iprop((arg0.view.loc (c : Thread nD τ) ↦{q0} f0) ∗ stK c arg0 arg5 arg9 arg17 f0 f5 q5 KP r (some i)
      ∗ (arg11.view.loc (c : Thread nD τ) ↦{fullShare} f11) ∗ (arg12.view.loc (c : Thread nD τ) ↦{fullShare} f12) ∗ (arg15.view.loc (c : Thread nD τ) ↦{fullShare} f15)
      ∗ (∃ W, owes (c : Thread nD τ) 0 W))
    ⊢ wp frame (wpE (defs₀ (F := F)) Variants.none c none) Set.univ
      (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v104 t (wd r.val, wd u, wd cc))
      (fun x => iprop((arg0.view.loc (c : Thread nD τ) ↦{q0} f0) ∗ stK c arg0 arg5 arg9 arg17 f0 f5 q5 KP r (some (i + 12))
        ∗ (∃ f9, ⌜KP i f9⌝ ∗ (arg11.view.loc (c : Thread nD τ) ↦{fullShare} kp11 c arg9 arg11 arg15 f9 f11 f15 r s (min (nK s v39) (nV s v64) + t.val) (lw c arg0 f0 (s.val / 12)))
          ∗ (arg12.view.loc (c : Thread nD τ) ↦{fullShare} kp12 c arg9 arg12 arg15 f9 f12 f15 r s (min (nK s v39) (nV s v64) + t.val) (lw c arg0 f0 (s.val / 12))))
        ∗ (arg15.view.loc (c : Thread nD τ) ↦{fullShare} f15) ∗ (∃ W, owes (c : Thread nD τ) 0 W)
        ∗ ⌜x = (wd ((i + 1) % 12), wd (ch (nc c arg0 f0) (i + 13)).1, wd (ch (nc c arg0 f0) (i + 13)).2)⌝)) := by
  iintro ⟨H0, Hst, H11, H12, H15, How⟩
  ihave Hfl := (stK_fly c arg0 arg5 arg9 arg17 f0 f5 q5 KP r i (by have := congrArg Prod.fst hi; simp only at this; omega)) $$ Hst
  sl_unfold [k0_t6_body]
  sl_exec (disch := first | sl_exact (chk30_of s v39 v64 t _ _) | sl_exact (chk31_of r) | sl_exact (chk32_of r u hu) | sl_exact (chk34_of _ cc hcc) | sl_exact (chk33_of r u cc hu hcc _))

  have f6 := (facts6 s v39 v64).2.2 t
  have hrl : t6_run.sl.r c arg0 f0 s = lw c arg0 f0 (s.val / 12) := lw_eq c arg0 f0 _ _ _ _ (by rw [off75_eq s, Nat.min_eq_left (by omega)])
  have hiv : Scf.iv (k0_t6_loop s v39 v64).lb 1#32 t = wd (ch (nc c arg0 f0) i).2 := by rw [hi]; exact f6.1
  iapply (awaitK c arg0 arg5 arg9 arg17 f0 f5 q5 KP r i (by rw [sz21_eq s v39 v64 t _ _ hiv, tk, hi, hrl])
    (semS_eq arg17 r _ _ (off76_eq r))) $$ [Hfl How]
  · isplitl [Hfl]; · iexact Hfl
    iexact How
  iintro ⟨Hv, ⟨%f9, %hf9, H9⟩, H5, How⟩
  iapply (loadK c arg9 r f9 _ 0 (by omega) (off79_eq r)) $$ H9
  iintro H9
  rw [ret_bind]
  iapply (loadK c arg9 r f9 _ 1024 (by omega) (off80_eq r)) $$ H9
  iintro H9
  rw [ret_bind]
  have hn8 : min (nK s v39) (nV s v64) + t.val < 8 := by have := f6.2; have := nK_le s v39; omega
  have hnx := nxt_words (nc c arg0 f0) u cc hu (fun h36 => by have := (ch_lt (nc c arg0 f0) (nc_pos c arg0 f0) (i + 12)).1; rw [h] at this; exact this h36)
    (fun h36 => by have := (ch_lt (nc c arg0 f0) (nc_pos c arg0 f0) (i + 12)).2; rw [h] at this; exact this h36) (lw c arg0 f0 (min u 35 / 12)) (fun h36 => by rw [Nat.min_eq_left (by omega)]; rfl)
  have h13 : ch (nc c arg0 f0) (i + 13) = nxt (nc c arg0 f0) (u, cc) := ch13 _ _ _ h
  rw [← h13] at hnx
  have hm35 : min s.val 35 = s.val := Nat.min_eq_left (by omega)
  have hr1 : (r.val + 1) % 12 = (i + 1) % 12 := by rw [hr]; omega
  have hivv : Scf.iv v104 1#32 t = wd (min (nK s v39) (nV s v64) + t.val) := by subst hv; exact iv_nat _ _ (by have := f6.2; have := nK_le s v39; omega)
  have hk1 : (ch (nc c arg0 f0) (i + 12)).1 = u := congrArg Prod.fst h
  have hk36 : u < 36 → (ch (nc c arg0 f0) (i + 12)).1 < 36 := fun hh => by rw [hk1]; exact hh
  have hc := cond10_iff ⟨u, by omega⟩
  have hkn36 : ¬ u < 36 → ¬ (ch (nc c arg0 f0) (i + 12)).1 < 36 := fun hh => by rw [hk1]; exact hh
  by_cases hu36 : u < 36
  · have hc1 : k0_cond10 (wd u) = 1#1 := by rw [hc]; simp [hu36]
    sl_exec (disch := first | sl_exact hc1 | sl_exact (chk33_of r u cc hu hcc _) | sl_exact (chk34_of _ cc hcc))
    have hlx' := lw_eq c arg0 f0 (k0_off85 (wd u)) (k0_off85_inb (wd r.val) (wd u) (chk32_of r u hu) hc1) (Shape.Idx.first (by show 0 < S1.numel; decide)) (u / 12) (off85_eq u hu)
    have htk : (tok (wd cc) (View.readAt (Elt F) arg0.view (Rect.unit (s := S3) (k0_off85 (wd u)) S1.size (k0_off85_inb (wd r.val) (wd u) (chk32_of r u hu) hc1)).toLoadRect f0 (Shape.Idx.first (by show 0 < S1.numel; decide)))).toNat = tk c arg0 f0 (i + 12) := by rw [hlx', tk, h]
    iapply (issueK c arg0 arg5 arg9 arg17 f0 f5 q5 KP hKP r (i + 12) (by rw [hr]; omega) (hk36 hu36)
      (by rw [off87_eq]) (by rw [off87_eq]; exact congrArg (fun n => ![1, n, 128]) htk) (by rw [sz24_eq]; exact congrArg (fun n => ![n, 128]) htk)
      (by rw [off88_eq u cc hu hcc, h]) (by rw [off88_eq u cc hu hcc]; exact congrArg (fun n => ![1, 1, n, 128]) htk)
      (semS_eq arg17 r _ _ (off86_eq r))) $$ [Hv H9 H5]
    · unfold idleK
      isplitl [Hv]; · iexact Hv
      isplitl [H9]; · iexists f9; iexact H9
      iexact H5
    iintro Hst
    sl_exec
    have hlx := lw_eq c arg0 f0 (k0_off89 (wd u)) (k0_off89_inb (wd r.val) (wd u) (chk32_of r u hu)) (Shape.Idx.first (by show 0 < S1.numel; decide)) (min u 35 / 12) (off89_eq u hu)
    rw [← hlx] at hnx
    sl_step
    isplitl [H0]; · iexact H0
    isplitl [Hst]
    · have hfs := fly_stK c arg0 arg5 arg9 arg17 f0 f5 q5 KP r (i + 12) (hk36 hu36)
      ihave Hst := hfs $$ Hst
      iexact Hst
    isplitl [H11 H12]
    · iexists f9
      isplitr; · ipureintro; exact hf9
      have hx := sK_of c arg9 arg15 f9 f15 r s (inba := k0_off79_inb (wd r.val) (chk31_of r)) (inbb := k0_off80_inb (wd r.val) (chk31_of r)) (inbc := k0_off81_inb s) (off79_eq r) (off80_eq r) (by rw [off81_eq s, hm35])
      have hm := mK_of c arg0 f0 (min (nK s v39) (nV s v64) + t.val) (s.val / 12) hivv (inb := k0_off82_inb s) (x := Shape.Idx.first (by show 0 < S1.numel; decide)) (by rw [off82_eq s, hm35])
      isplitl [H11]
      · iapply (kp11_of c arg9 arg11 arg15 f9 f11 f15 r s _ _ hn8 (off := k0_off83 s v39 v64 t) (by rw [off83_eq s v39 v64 t, hm35]) ) $$ H11
        ipureintro; exact ⟨hx, hm⟩
      · iapply (kp12_of c arg9 arg12 arg15 f9 f12 f15 r s _ _ (off := k0_off84 s) (off' := k0_off84 s) (by rw [off84_eq s, hm35]) (by rw [off84_eq s, hm35]) ) $$ H12
        ipureintro; exact ⟨hx, hm⟩
    isplitl [H15]; · iexact H15
    isplitl [How]; · iexact How
    ipureintro
    exact Prod.ext ((wd_slot r).trans (by rw [hr1])) (Prod.ext hnx.1 hnx.2)
  · have hc1 : ¬ k0_cond10 (wd u) = 1#1 := by rw [hc]; simp [hu36]
    sl_exec (disch := first | sl_exact hc1)
    have hlx := lw_eq c arg0 f0 (k0_off89 (wd u)) (k0_off89_inb (wd r.val) (wd u) (chk32_of r u hu)) (Shape.Idx.first (by show 0 < S1.numel; decide)) (min u 35 / 12) (off89_eq u hu)
    rw [← hlx] at hnx
    sl_step
    isplitl [H0]; · iexact H0
    isplitl [Hv H9 H5]
    · iapply (idle_stK c arg0 arg5 arg9 arg17 f0 f5 q5 KP r (i + 12) (hkn36 hu36))
      unfold idleK
      isplitl [Hv]; · iexact Hv
      isplitl [H9]; · iexists f9; iexact H9
      iexact H5
    isplitl [H11 H12]
    · iexists f9
      isplitr; · ipureintro; exact hf9
      have hx := sK_of c arg9 arg15 f9 f15 r s (inba := k0_off79_inb (wd r.val) (chk31_of r)) (inbb := k0_off80_inb (wd r.val) (chk31_of r)) (inbc := k0_off81_inb s) (off79_eq r) (off80_eq r) (by rw [off81_eq s, hm35])
      have hm := mK_of c arg0 f0 (min (nK s v39) (nV s v64) + t.val) (s.val / 12) hivv (inb := k0_off82_inb s) (x := Shape.Idx.first (by show 0 < S1.numel; decide)) (by rw [off82_eq s, hm35])
      isplitl [H11]
      · iapply (kp11_of c arg9 arg11 arg15 f9 f11 f15 r s _ _ hn8 (off := k0_off83 s v39 v64 t) (by rw [off83_eq s v39 v64 t, hm35]) ) $$ H11
        ipureintro; exact ⟨hx, hm⟩
      · iapply (kp12_of c arg9 arg12 arg15 f9 f12 f15 r s _ _ (off := k0_off84 s) (off' := k0_off84 s) (by rw [off84_eq s, hm35]) (by rw [off84_eq s, hm35]) ) $$ H12
        ipureintro; exact ⟨hx, hm⟩
    isplitl [H15]; · iexact H15
    isplitl [How]; · iexact How
    ipureintro
    exact Prod.ext ((wd_slot r).trans (by rw [hr1])) (Prod.ext hnx.1 hnx.2)
end T6

end Cert.Proof.KernelIdeal
-- ==== Proof.T8I.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.StepI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
namespace T8
theorem ch13 (f : ℕ → ℕ) (i : ℕ) (p : ℕ × ℕ) (h : ch f (i + 12) = p) : ch f (i + 13) = nxt f p := by rw [← h]; rfl
attribute [local irreducible] ch
variable (f0 : Buf (Elt F) (arg0.view.loc (c : Thread nD τ))) (f6 : Buf (Elt F) (arg6.view.loc (c : Thread nD τ))) (q6 : Fin 12 → PosShare TreeShare) (q0 : PosShare TreeShare)
  (VP : ℕ → Buf (Elt F) (arg10.view.loc (c : Thread nD τ)) → Prop)
  (f11 : Buf (Elt F) (arg11.view.loc (c : Thread nD τ))) (f13 : Buf (Elt F) (arg13.view.loc (c : Thread nD τ))) (f14 : Buf (Elt F) (arg14.view.loc (c : Thread nD τ)))

set_option maxHeartbeats 1000000 in
theorem t8_run (hVP : LandsV c arg0 arg6 arg10 f0 f6 VP) (s : Fin k0_t3_loop.trips) (v19 v39 v64 v104 : BitVec 32) (v92 : FVec F S16x1 .f32) (hw9 : k0_chk9 s v39 v64)
    (t : Fin (k0_t8_loop s v39 v64).trips) (i u cc : ℕ) (r : Fin 12) (hr : r.val = i % 12)
    (hi : ch (nc c arg0 f0) i = (s.val - 1, min (nK s v39) (nV s v64) + t.val)) (hs : 0 < s.val) (hu : u ≤ 36) (hcc : cc < 8)
    (h : ch (nc c arg0 f0) (i + 12) = (u, cc)) :
    iprop((arg0.view.loc (c : Thread nD τ) ↦{q0} f0) ∗ stV c arg0 arg6 arg10 arg18 f0 f6 q6 VP r (some i)
      ∗ (arg11.view.loc (c : Thread nD τ) ↦{fullShare} f11) ∗ (arg13.view.loc (c : Thread nD τ) ↦{fullShare} f13) ∗ (arg14.view.loc (c : Thread nD τ) ↦{fullShare} f14)
      ∗ (∃ W, owes (c : Thread nD τ) 0 W))
    ⊢ wp frame (wpE (defs₀ (F := F)) Variants.none c none) Set.univ
      (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v19 v39 v64 hw9 v92 v104 t (wd r.val, wd u, wd cc))
      (fun x => iprop((arg0.view.loc (c : Thread nD τ) ↦{q0} f0) ∗ stV c arg0 arg6 arg10 arg18 f0 f6 q6 VP r (some (i + 12))
        ∗ (∃ f10, ⌜VP i f10⌝ ∗ (arg13.view.loc (c : Thread nD τ) ↦{fullShare} kp13 c arg10 arg11 arg13 f10 f11 f13 v92 r (s.val - 1) (min (nK s v39) (nV s v64) + t.val))
          ∗ (arg14.view.loc (c : Thread nD τ) ↦{fullShare} kp14 c arg11 arg14 f11 f14 v92 (s.val - 1) (min (nK s v39) (nV s v64) + t.val)))
        ∗ (arg11.view.loc (c : Thread nD τ) ↦{fullShare} f11) ∗ (∃ W, owes (c : Thread nD τ) 0 W)
        ∗ ⌜x = (wd ((i + 1) % 12), wd (ch (nc c arg0 f0) (i + 13)).1, wd (ch (nc c arg0 f0) (i + 13)).2)⌝)) := by
  iintro ⟨H0, Hst, H11, H13, H14, How⟩
  have hs36 : s.val - 1 < 36 := by have := s.isLt; have e : k0_t3_loop.trips = 37 := (by decide); omega
  ihave Hfl := (stV_fly c arg0 arg6 arg10 arg18 f0 f6 q6 VP r i (by have := congrArg Prod.fst hi; simp only at this; omega)) $$ Hst
  sl_unfold [k0_t8_body]
  sl_exec (disch := first | sl_exact (chk40_of s v39 v64 t _ _) | sl_exact (chk41_of r) | sl_exact (chk42_of r u hu) | sl_exact (chk44_of _ cc hcc) | sl_exact (chk43_of r u cc hu hcc _))
  have f8 := (facts8 s v39 v64).2.2 t
  have hrl : t8_run.sl.r c arg0 f0 s = lw c arg0 f0 ((s.val - 1) / 12) := lw_eq c arg0 f0 _ _ _ _ (off105_eq s)
  have hiv : Scf.iv (k0_t8_loop s v39 v64).lb 1#32 t = wd (ch (nc c arg0 f0) i).2 := by rw [hi]; exact f8.1
  iapply (awaitV c arg0 arg6 arg10 arg18 f0 f6 q6 VP r i (by rw [sz29_eq s v39 v64 t _ _ hiv, tk, hi, hrl])
    (semS_eq arg18 r _ _ (off106_eq r))) $$ [Hfl How]
  · isplitl [Hfl]; · iexact Hfl
    iexact How
  iintro ⟨Hv, ⟨%f10, %hf10, H10⟩, H6, How⟩
  sl_exec
  iapply (loadV c arg10 r f10 _ (off110_eq r)) $$ H10
  iintro H10
  rw [wp_pure]
  imodintro
  have hn8 : min (nK s v39) (nV s v64) + t.val < 8 := by have := f8.2; have := nV_le s v64; omega
  have hnx := nxt_words (nc c arg0 f0) u cc hu (fun h36 => by have := (ch_lt (nc c arg0 f0) (nc_pos c arg0 f0) (i + 12)).1; rw [h] at this; exact this h36)
    (fun h36 => by have := (ch_lt (nc c arg0 f0) (nc_pos c arg0 f0) (i + 12)).2; rw [h] at this; exact this h36) (lw c arg0 f0 (min u 35 / 12)) (fun h36 => by rw [Nat.min_eq_left (by omega)]; rfl)
  have h13 : ch (nc c arg0 f0) (i + 13) = nxt (nc c arg0 f0) (u, cc) := ch13 _ _ _ h
  rw [← h13] at hnx
  have hr1 : (r.val + 1) % 12 = (i + 1) % 12 := by rw [hr]; omega
  have hk1 : (ch (nc c arg0 f0) (i + 12)).1 = u := congrArg Prod.fst h
  have hk36 : u < 36 → (ch (nc c arg0 f0) (i + 12)).1 < 36 := fun hh => by rw [hk1]; exact hh
  have hkn36 : ¬ u < 36 → ¬ (ch (nc c arg0 f0) (i + 12)).1 < 36 := fun hh => by rw [hk1]; exact hh
  have hlx := lw_eq c arg0 f0 (k0_off115 (wd u)) (k0_off115_inb (wd r.val) (wd u) (chk42_of r u hu)) (Shape.Idx.first (by show 0 < S1.numel; decide)) (min u 35 / 12) (off115_eq u hu)
  rw [← hlx] at hnx
  have hc := cond12_iff ⟨u, by omega⟩
  by_cases hu36 : u < 36
  · have hc1 : k0_cond12 (wd u) = 1#1 := by rw [hc]; simp [hu36]
    sl_exec (disch := first | sl_exact hc1 | sl_exact (chk43_of r u cc hu hcc _) | sl_exact (chk44_of _ cc hcc))
    have hlx' := lw_eq c arg0 f0 (k0_off111 (wd u)) (k0_off111_inb (wd r.val) (wd u) (chk42_of r u hu) hc1) (Shape.Idx.first (by show 0 < S1.numel; decide)) (u / 12) (off111_eq u hu)
    have htk : (tok (wd cc) (View.readAt (Elt F) arg0.view (Rect.unit (s := S3) (k0_off111 (wd u)) S1.size (k0_off111_inb (wd r.val) (wd u) (chk42_of r u hu) hc1)).toLoadRect f0 (Shape.Idx.first (by show 0 < S1.numel; decide)))).toNat = tk c arg0 f0 (i + 12) := by rw [hlx', tk, h]
    iapply (issueV c arg0 arg6 arg10 arg18 f0 f6 q6 VP hVP r (i + 12) (by rw [hr]; omega) (hk36 hu36)
      (by rw [off113_eq]) (by rw [off113_eq]; exact congrArg (fun n => ![1, 128, n]) htk) (by rw [sz32_eq]; exact congrArg (fun n => ![128, n]) htk)
      (by rw [off114_eq u cc hu hcc, h]) (by rw [off114_eq u cc hu hcc]; exact congrArg (fun n => ![1, 1, 128, n]) htk)
      (semS_eq arg18 r _ _ (off112_eq r))) $$ [Hv H10 H6]
    · unfold idleV
      isplitl [Hv]; · iexact Hv
      isplitl [H10]; · iexists f10; iexact H10
      iexact H6
    iintro Hst
    sl_exec
    sl_step
    isplitl [H0]; · iexact H0
    isplitl [Hst]
    · iapply (fly_stV c arg0 arg6 arg10 arg18 f0 f6 q6 VP r (i + 12) (hk36 hu36)) $$ Hst
    isplitl [H13 H14]
    · iexists f10
      isplitr; · ipureintro; exact hf10
      isplitl [H13]
      · iapply (kp13_of c arg10 arg11 arg13 f10 f11 f13 v92 r (s.val - 1) _ hn8 (off := k0_off109 s v39 v64 t) (off' := k0_off110 (wd r.val)) (off109_eq s v39 v64 t) (off110_eq r)) $$ H13
      · iapply (kp14_of c arg11 arg14 f11 f14 v92 (s.val - 1) _ hn8 (off := k0_off109 s v39 v64 t) (off109_eq s v39 v64 t)) $$ H14
    isplitl [H11]; · iexact H11
    isplitl [How]; · iexact How
    ipureintro
    exact Prod.ext ((wd_slot r).trans (by rw [hr1])) (Prod.ext hnx.1 hnx.2)
  · have hc1 : ¬ k0_cond12 (wd u) = 1#1 := by rw [hc]; simp [hu36]
    sl_exec (disch := first | sl_exact hc1)
    sl_step
    isplitl [H0]; · iexact H0
    isplitl [Hv H10 H6]
    · iapply (idle_stV c arg0 arg6 arg10 arg18 f0 f6 q6 VP r (i + 12) (hkn36 hu36))
      unfold idleV
      isplitl [Hv]; · iexact Hv
      isplitl [H10]; · iexists f10; iexact H10
      iexact H6
    isplitl [H13 H14]
    · iexists f10
      isplitr; · ipureintro; exact hf10
      isplitl [H13]
      · iapply (kp13_of c arg10 arg11 arg13 f10 f11 f13 v92 r (s.val - 1) _ hn8 (off := k0_off109 s v39 v64 t) (off' := k0_off110 (wd r.val)) (off109_eq s v39 v64 t) (off110_eq r)) $$ H13
      · iapply (kp14_of c arg11 arg14 f11 f14 v92 (s.val - 1) _ hn8 (off := k0_off109 s v39 v64 t) (off109_eq s v39 v64 t)) $$ H14
    isplitl [H11]; · iexact H11
    isplitl [How]; · iexact How
    ipureintro
    exact Prod.ext ((wd_slot r).trans (by rw [hr1])) (Prod.ext hnx.1 hnx.2)
end T8

end Cert.Proof.KernelIdeal
-- ==== Proof.LoopI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.T4I
public import proofs.«01_k».proof.Proof.T6I
public import proofs.«01_k».proof.Proof.T8I

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
/-! The three loops of a step over what is kept between them. -/
/-- The buffers that a step writes. -/
structure Bufs where
  b8 : Buf (Elt F) (arg8.view.loc (c : Thread nD τ))
  b11 : Buf (Elt F) (arg11.view.loc (c : Thread nD τ))
  b12 : Buf (Elt F) (arg12.view.loc (c : Thread nD τ))
  b13 : Buf (Elt F) (arg13.view.loc (c : Thread nD τ))
  b14 : Buf (Elt F) (arg14.view.loc (c : Thread nD τ))
  b15 : Buf (Elt F) (arg15.view.loc (c : Thread nD τ))
  b16 : Buf (Elt F) (arg16.view.loc (c : Thread nD τ))

/-- They are held whole. -/
def held (b : Bufs (F := F) c arg8 arg11 arg12 arg13 arg14 arg15 arg16) : sProp 𝕄 :=
  iprop((arg8.view.loc (c : Thread nD τ) ↦{fullShare} b.b8) ∗ (arg11.view.loc (c : Thread nD τ) ↦{fullShare} b.b11) ∗ (arg12.view.loc (c : Thread nD τ) ↦{fullShare} b.b12)
    ∗ (arg13.view.loc (c : Thread nD τ) ↦{fullShare} b.b13) ∗ (arg14.view.loc (c : Thread nD τ) ↦{fullShare} b.b14) ∗ (arg15.view.loc (c : Thread nD τ) ↦{fullShare} b.b15)
    ∗ (arg16.view.loc (c : Thread nD τ) ↦{fullShare} b.b16))
/-- A chunk of keys taken in, -/
def bK (f9 : Buf (Elt F) (arg9.view.loc (c : Thread nD τ))) (r : Fin 12) (u n : ℕ) (len : BitVec 32) (b : Bufs (F := F) c arg8 arg11 arg12 arg13 arg14 arg15 arg16) : Bufs (F := F) c arg8 arg11 arg12 arg13 arg14 arg15 arg16 :=
  { b with b11 := kp11 c arg9 arg11 arg15 f9 b.b11 b.b15 r u n len, b12 := kp12 c arg9 arg12 arg15 f9 b.b12 b.b15 r u n len }
/-- and a chunk of values. -/
def bV (f10 : Buf (Elt F) (arg10.view.loc (c : Thread nD τ))) (v92 : FVec F S16x1 .f32) (r : Fin 12) (u n : ℕ) (b : Bufs (F := F) c arg8 arg11 arg12 arg13 arg14 arg15 arg16) : Bufs (F := F) c arg8 arg11 arg12 arg13 arg14 arg15 arg16 :=
  { b with b13 := kp13 c arg10 arg11 arg13 f10 b.b11 b.b13 v92 r u n, b14 := kp14 c arg11 arg14 b.b11 b.b14 v92 u n }

theorem held_K (f9 : Buf (Elt F) (arg9.view.loc (c : Thread nD τ))) (r : Fin 12) (u n : ℕ) (len : BitVec 32) (b : Bufs (F := F) c arg8 arg11 arg12 arg13 arg14 arg15 arg16) :
    iprop((arg8.view.loc (c : Thread nD τ) ↦{fullShare} b.b8) ∗ (arg11.view.loc (c : Thread nD τ) ↦{fullShare} kp11 c arg9 arg11 arg15 f9 b.b11 b.b15 r u n len) ∗ (arg12.view.loc (c : Thread nD τ) ↦{fullShare} kp12 c arg9 arg12 arg15 f9 b.b12 b.b15 r u n len) ∗ (arg13.view.loc (c : Thread nD τ) ↦{fullShare} b.b13) ∗ (arg14.view.loc (c : Thread nD τ) ↦{fullShare} b.b14) ∗ (arg15.view.loc (c : Thread nD τ) ↦{fullShare} b.b15) ∗ (arg16.view.loc (c : Thread nD τ) ↦{fullShare} b.b16))
      ⊢@{sProp 𝕄} held c arg8 arg11 arg12 arg13 arg14 arg15 arg16 (bK c arg8 arg9 arg11 arg12 arg13 arg14 arg15 arg16 f9 r u n len b) := by
  dsimp only [held, bK, bV]
  exact BIBase.Entails.rfl
theorem held_V (f10 : Buf (Elt F) (arg10.view.loc (c : Thread nD τ))) (v92 : FVec F S16x1 .f32) (r' : Fin 12) (u' n' : ℕ) (b : Bufs (F := F) c arg8 arg11 arg12 arg13 arg14 arg15 arg16) :
    iprop((arg8.view.loc (c : Thread nD τ) ↦{fullShare} b.b8) ∗ (arg11.view.loc (c : Thread nD τ) ↦{fullShare} b.b11) ∗ (arg12.view.loc (c : Thread nD τ) ↦{fullShare} b.b12) ∗ (arg13.view.loc (c : Thread nD τ) ↦{fullShare} kp13 c arg10 arg11 arg13 f10 b.b11 b.b13 v92 r' u' n') ∗ (arg14.view.loc (c : Thread nD τ) ↦{fullShare} kp14 c arg11 arg14 b.b11 b.b14 v92 u' n') ∗ (arg15.view.loc (c : Thread nD τ) ↦{fullShare} b.b15) ∗ (arg16.view.loc (c : Thread nD τ) ↦{fullShare} b.b16))
      ⊢@{sProp 𝕄} held c arg8 arg11 arg12 arg13 arg14 arg15 arg16 (bV c arg8 arg10 arg11 arg12 arg13 arg14 arg15 arg16 f10 v92 r' u' n' b) := by
  dsimp only [held, bK, bV]
  exact BIBase.Entails.rfl
theorem held_KV (f9 : Buf (Elt F) (arg9.view.loc (c : Thread nD τ))) (r : Fin 12) (u n : ℕ) (len : BitVec 32) (f10 : Buf (Elt F) (arg10.view.loc (c : Thread nD τ))) (v92 : FVec F S16x1 .f32) (r' : Fin 12) (u' n' : ℕ) (b : Bufs (F := F) c arg8 arg11 arg12 arg13 arg14 arg15 arg16) :
    iprop((arg8.view.loc (c : Thread nD τ) ↦{fullShare} b.b8) ∗ (arg11.view.loc (c : Thread nD τ) ↦{fullShare} kp11 c arg9 arg11 arg15 f9 b.b11 b.b15 r u n len) ∗ (arg12.view.loc (c : Thread nD τ) ↦{fullShare} kp12 c arg9 arg12 arg15 f9 b.b12 b.b15 r u n len) ∗ (arg13.view.loc (c : Thread nD τ) ↦{fullShare} kp13 c arg10 arg11 arg13 f10 b.b11 b.b13 v92 r' u' n') ∗ (arg14.view.loc (c : Thread nD τ) ↦{fullShare} kp14 c arg11 arg14 b.b11 b.b14 v92 u' n') ∗ (arg15.view.loc (c : Thread nD τ) ↦{fullShare} b.b15) ∗ (arg16.view.loc (c : Thread nD τ) ↦{fullShare} b.b16))
      ⊢@{sProp 𝕄} held c arg8 arg11 arg12 arg13 arg14 arg15 arg16 (bK c arg8 arg9 arg11 arg12 arg13 arg14 arg15 arg16 f9 r u n len (bV c arg8 arg10 arg11 arg12 arg13 arg14 arg15 arg16 f10 v92 r' u' n' b)) := by
  dsimp only [held, bK, bV]
  exact BIBase.Entails.rfl

theorem held_out (b : Bufs (F := F) c arg8 arg11 arg12 arg13 arg14 arg15 arg16) : held c arg8 arg11 arg12 arg13 arg14 arg15 arg16 b ⊢@{sProp 𝕄}
    iprop((arg8.view.loc (c : Thread nD τ) ↦{fullShare} b.b8) ∗ (arg11.view.loc (c : Thread nD τ) ↦{fullShare} b.b11) ∗ (arg12.view.loc (c : Thread nD τ) ↦{fullShare} b.b12) ∗ (arg13.view.loc (c : Thread nD τ) ↦{fullShare} b.b13) ∗ (arg14.view.loc (c : Thread nD τ) ↦{fullShare} b.b14) ∗ (arg15.view.loc (c : Thread nD τ) ↦{fullShare} b.b15) ∗ (arg16.view.loc (c : Thread nD τ) ↦{fullShare} b.b16)) := BIBase.Entails.rfl

section Loops
variable (f0 : Buf (Elt F) (arg0.view.loc (c : Thread nD τ))) (f5 : Buf (Elt F) (arg5.view.loc (c : Thread nD τ))) (f6 : Buf (Elt F) (arg6.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (Inv : ℕ → ℕ → ℕ → FVec F S16x1 .f32 → Bufs (F := F) c arg8 arg11 arg12 arg13 arg14 arg15 arg16 → Prop)

/-- Taking in a chunk of keys keeps what is known. -/
def StepK : Prop := ∀ (s k j : ℕ) (v : FVec F S16x1 .f32) (b : Bufs (F := F) c arg8 arg11 arg12 arg13 arg14 arg15 arg16) (f9 : Buf (Elt F) (arg9.view.loc (c : Thread nD τ))), s < 36 → k < nc c arg0 f0 s →
  KP (before (nc c arg0 f0) s + k) f9 → Inv s k j v b →
  Inv s (k + 1) j v (bK c arg8 arg9 arg11 arg12 arg13 arg14 arg15 arg16 f9 (n12 (before (nc c arg0 f0) s + k)) s k (lw c arg0 f0 (s / 12)) b)
/-- Taking in a chunk of values keeps what is known. -/
def StepV : Prop := ∀ (s k j : ℕ) (v : FVec F S16x1 .f32) (b : Bufs (F := F) c arg8 arg11 arg12 arg13 arg14 arg15 arg16) (f10 : Buf (Elt F) (arg10.view.loc (c : Thread nD τ))), 0 < s → s ≤ 36 → j < nc c arg0 f0 (s - 1) →
  VP (before (nc c arg0 f0) (s - 1) + j) f10 → Inv s k j v b →
  Inv s k (j + 1) v (bV c arg8 arg10 arg11 arg12 arg13 arg14 arg15 arg16 f10 v (n12 (before (nc c arg0 f0) (s - 1) + j)) (s - 1) j b)

/-- Slot and next chunk as words. -/
def slW (i : ℕ) : BitVec 32 := wd (i % 12)
def nuW (i : ℕ) : BitVec 32 := wd (ch (nc c arg0 f0) (i + 12)).1
def ncW (i : ℕ) : BitVec 32 := wd (ch (nc c arg0 f0) (i + 12)).2

theorem ch_bd (k : ℕ) : (ch (nc c arg0 f0) k).1 ≤ 36 ∧ (ch (nc c arg0 f0) k).2 < 8 := by
  have h1 := ch_le36 (nc c arg0 f0) k
  have h2 := ch_lt (nc c arg0 f0) (nc_pos c arg0 f0) k
  refine ⟨h1, ?_⟩
  rcases Nat.lt_or_ge (ch (nc c arg0 f0) k).1 36 with h | h
  · exact Nat.lt_of_lt_of_le (h2.1 h) (nc_le c arg0 f0 _)
  · rw [h2.2 (by omega)]; omega

/-- How many chunks of keys and of values a step takes in. -/
def mK' (s : ℕ) : ℕ := if s < 36 then nc c arg0 f0 s else 0
def mV' (s : ℕ) : ℕ := if 0 < s then nc c arg0 f0 (s - 1) else 0
theorem mK'_lt {s k : ℕ} (h : k < mK' c arg0 f0 s) : s < 36 ∧ k < nc c arg0 f0 s := by unfold mK' at h; split_ifs at h <;> omega
theorem mV'_lt {s k : ℕ} (h : k < mV' c arg0 f0 s) : 0 < s ∧ k < nc c arg0 f0 (s - 1) := by unfold mV' at h; split_ifs at h <;> omega

/-- What a loop holds. -/
def LI (s : ℕ) (v : FVec F S16x1 .f32) (k j : ℕ) : sProp 𝕄 :=
  iprop((arg0.view.loc (c : Thread nD τ) ↦{q0} f0)
    ∗ Ring.AtW (stK c arg0 arg5 arg9 arg17 f0 f5 q5 KP) (cons (before (nc c arg0 f0) s + k)) ∗ Ring.AtW (stV c arg0 arg6 arg10 arg18 f0 f6 q6 VP) (cons (before (nc c arg0 f0) (s - 1) + j))
    ∗ (∃ b : Bufs (F := F) c arg8 arg11 arg12 arg13 arg14 arg15 arg16, ⌜Inv s k j v b⌝ ∗ held c arg8 arg11 arg12 arg13 arg14 arg15 arg16 b) ∗ (∃ W, owes (c : Thread nD τ) 0 W))

attribute [local irreducible] ch before

set_option maxHeartbeats 1000000 in
theorem t4_loop (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v19 v39 v64 : BitVec 32) (v92 : FVec F S16x1 .f32) (hw9 : k0_chk9 s v39 v64)
    (hnk : nK s v39 = mK' c arg0 f0 s) (hnv : nV s v64 = mV' c arg0 f0 s) {α : Type} {Q : α → sProp 𝕄}
    {kk : BitVec 32 × BitVec 32 × BitVec 32 × BitVec 32 × BitVec 32 × BitVec 32 → Prog (TpuEff nD τ sig (Elt F) Λ₀ .tc) α} {ok} :
    LI c arg0 arg5 arg6 arg8 arg9 arg10 arg11 arg12 arg13 arg14 arg15 arg16 arg17 arg18 f0 f5 f6 q5 q6 q0 KP VP Inv s v92 0 0 ⊢
      iprop((LI c arg0 arg5 arg6 arg8 arg9 arg10 arg11 arg12 arg13 arg14 arg15 arg16 arg17 arg18 f0 f5 f6 q5 q6 q0 KP VP Inv s v92 (min (mK' c arg0 f0 s) (mV' c arg0 f0 s)) (min (mK' c arg0 f0 s) (mV' c arg0 f0 s)) -∗
        wp frame (wpE (defs₀ (F := F)) Variants.none c none) Set.univ (kk
          (slW (before (nc c arg0 f0) s + min (mK' c arg0 f0 s) (mV' c arg0 f0 s)), slW (before (nc c arg0 f0) (s.val - 1) + min (mK' c arg0 f0 s) (mV' c arg0 f0 s)),
            nuW c arg0 f0 (before (nc c arg0 f0) s + min (mK' c arg0 f0 s) (mV' c arg0 f0 s)), ncW c arg0 f0 (before (nc c arg0 f0) s + min (mK' c arg0 f0 s) (mV' c arg0 f0 s)),
            nuW c arg0 f0 (before (nc c arg0 f0) (s.val - 1) + min (mK' c arg0 f0 s) (mV' c arg0 f0 s)), ncW c arg0 f0 (before (nc c arg0 f0) (s.val - 1) + min (mK' c arg0 f0 s) (mV' c arg0 f0 s)))) Q)
      -∗ wp frame (wpE (defs₀ (F := F)) Variants.none c none) Set.univ
        (Scf.Loop.for (k0_t4_loop s v39 v64) ok (slW (before (nc c arg0 f0) s), slW (before (nc c arg0 f0) (s.val - 1)), nuW c arg0 f0 (before (nc c arg0 f0) s), ncW c arg0 f0 (before (nc c arg0 f0) s),
            nuW c arg0 f0 (before (nc c arg0 f0) (s.val - 1)), ncW c arg0 f0 (before (nc c arg0 f0) (s.val - 1)))
          (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92) >>= kk) Q) := by
  iintro HI Hk
  have hs37 : s.val < 37 := by have := s.isLt; have e : k0_t3_loop.trips = 37 := (by decide); omega
  sl_for (fun (k : ℕ) (a : BitVec 32 × BitVec 32 × BitVec 32 × BitVec 32 × BitVec 32 × BitVec 32) =>
    iprop(LI c arg0 arg5 arg6 arg8 arg9 arg10 arg11 arg12 arg13 arg14 arg15 arg16 arg17 arg18 f0 f5 f6 q5 q6 q0 KP VP Inv s v92 k k ∗
      ⌜a = (slW (before (nc c arg0 f0) s + k), slW (before (nc c arg0 f0) (s.val - 1) + k), nuW c arg0 f0 (before (nc c arg0 f0) s + k), ncW c arg0 f0 (before (nc c arg0 f0) s + k),
        nuW c arg0 f0 (before (nc c arg0 f0) (s.val - 1) + k), ncW c arg0 f0 (before (nc c arg0 f0) (s.val - 1) + k))⌝)) $$ [HI]
  case region =>
    intro k a
    unfold LI
    iintro ⟨⟨H0, HK, HV, ⟨%b, %hb, Hb⟩, How⟩, %ha⟩
    subst ha
    icases (held_out c arg8 arg11 arg12 arg13 arg14 arg15 arg16 b) $$ Hb with ⟨H8, H11, H12, H13, H14, H15, H16⟩
    have hkk := ((facts4 s v39 v64).2.2 k).2
    rw [hnk, hnv] at hkk
    have hkK := mK'_lt c arg0 f0 (s := s.val) (k := k.val) (by omega)
    have hkV := mV'_lt c arg0 f0 (s := s.val) (k := k.val) (by omega)
    icases (consK_focus c arg0 arg5 arg9 arg17 f0 f5 q5 KP (before (nc c arg0 f0) s + k) (n12 (before (nc c arg0 f0) s + k)) rfl) $$ HK with ⟨HKi, HKr⟩
    icases (consV_focus c arg0 arg6 arg10 arg18 f0 f6 q6 VP (before (nc c arg0 f0) (s.val - 1) + k) (n12 (before (nc c arg0 f0) (s.val - 1) + k)) rfl) $$ HV with ⟨HVi, HVr⟩
    have h := T4.t4_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP b.b11 b.b12 b.b15 b.b13 b.b14 hKP hVP s v17 v19 v39 v64 v92 hw9 k
      (before (nc c arg0 f0) s + k) _ _ (n12 (before (nc c arg0 f0) s + k)) rfl (before (nc c arg0 f0) (s.val - 1) + k) _ _ (n12 (before (nc c arg0 f0) (s.val - 1) + k)) rfl
      ((ch_unit (nc c arg0 f0) (nc_pos c arg0 f0) s (by omega)).2 hkK.1 k hkK.2) hkK.1 (ch_bd c arg0 f0 _).1 (ch_bd c arg0 f0 _).2 rfl
      ((ch_unit (nc c arg0 f0) (nc_pos c arg0 f0) (s.val - 1) (by omega)).2 (by omega) k hkV.2) hkV.1 (ch_bd c arg0 f0 _).1 (ch_bd c arg0 f0 _).2 rfl
    iapply wp_wand $$ [H0 HKi HVi H11 H12 H15 H13 H14 How]
    · iapply h
      isplitl [H0]; · iexact H0
      isplitl [HKi]; · iexact HKi
      isplitl [HVi]; · iexact HVi
      isplitl [H11]; · iexact H11
      isplitl [H12]; · iexact H12
      isplitl [H15]; · iexact H15
      isplitl [H13]; · iexact H13
      isplitl [H14]; · iexact H14
      iexact How
    iintro %r ⟨H0, HKi, HVi, ⟨%f9, %f10, %hf, H11, H12, H13, H14⟩, H15, How, %hr⟩
    isplitl [H0 HKi HKr HVi HVr H11 H12 H13 H14 H15 How H8 H16]
    · isplitl [H0]; · iexact H0
      isplitl [HKi HKr]
      · iapply (consK_put c arg0 arg5 arg9 arg17 f0 f5 q5 KP (before (nc c arg0 f0) s + k) (n12 (before (nc c arg0 f0) s + k)) rfl)
        isplitl [HKi]; · iexact HKi
        iexact HKr
      isplitl [HVi HVr]
      · iapply (consV_put c arg0 arg6 arg10 arg18 f0 f6 q6 VP (before (nc c arg0 f0) (s.val - 1) + k) (n12 (before (nc c arg0 f0) (s.val - 1) + k)) rfl)
        isplitl [HVi]; · iexact HVi
        iexact HVr
      isplitr [How]
      · iexists (bK c arg8 arg9 arg11 arg12 arg13 arg14 arg15 arg16 f9 (n12 (before (nc c arg0 f0) s + k)) s k (lw c arg0 f0 (s.val / 12))
          (bV c arg8 arg10 arg11 arg12 arg13 arg14 arg15 arg16 f10 v92 (n12 (before (nc c arg0 f0) (s.val - 1) + k)) (s.val - 1) k b))
        isplitr
        · ipureintro
          exact hK _ _ _ _ _ _ hkK.1 hkK.2 hf.1 (hV _ _ _ _ _ _ hkV.1 (by omega) hkV.2 hf.2 hb)
        iapply (held_KV c arg8 arg9 arg10 arg11 arg12 arg13 arg14 arg15 arg16)
        isplitl [H8]; · iexact H8
        isplitl [H11]; · iexact H11
        isplitl [H12]; · iexact H12
        isplitl [H13]; · iexact H13
        isplitl [H14]; · iexact H14
        isplitl [H15]; · iexact H15
        iexact H16
      iexact How
    · ipureintro; exact hr
  · isplitl [HI]; · iexact HI
    ipureintro; rfl
  iintro %a ⟨HI, %ha⟩
  have ht : Scf.trips (k0_t4_loop s v39 v64).lb (k0_t4_loop s v39 v64).ub (k0_t4_loop s v39 v64).st = min (mK' c arg0 f0 s) (mV' c arg0 f0 s) := by
    rw [← hnk, ← hnv]; exact (facts4 s v39 v64).2.1.trans (Nat.sub_zero _)
  rw [ht] at ha ⊢
  subst ha
  iapply Hk
  iexact HI
set_option maxHeartbeats 1000000 in
theorem t6_loop (hKP : LandsK c arg0 arg5 arg9 f0 f5 KP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v39 v64 v104 : BitVec 32) (v92 : FVec F S16x1 .f32) (hw9 : k0_chk9 s v39 v64)
    (hnk : nK s v39 = mK' c arg0 f0 s) (hnv : nV s v64 = mV' c arg0 f0 s) (hv104 : v104 = wd (min (nK s v39) (nV s v64))) {α : Type} {Q : α → sProp 𝕄}
    {kk : BitVec 32 × BitVec 32 × BitVec 32 → Prog (TpuEff nD τ sig (Elt F) Λ₀ .tc) α} {ok} :
    LI c arg0 arg5 arg6 arg8 arg9 arg10 arg11 arg12 arg13 arg14 arg15 arg16 arg17 arg18 f0 f5 f6 q5 q6 q0 KP VP Inv s v92 (min (mK' c arg0 f0 s) (mV' c arg0 f0 s)) (min (mK' c arg0 f0 s) (mV' c arg0 f0 s)) ⊢
      iprop((LI c arg0 arg5 arg6 arg8 arg9 arg10 arg11 arg12 arg13 arg14 arg15 arg16 arg17 arg18 f0 f5 f6 q5 q6 q0 KP VP Inv s v92 (mK' c arg0 f0 s) (min (mK' c arg0 f0 s) (mV' c arg0 f0 s)) -∗
        wp frame (wpE (defs₀ (F := F)) Variants.none c none) Set.univ (kk (slW (before (nc c arg0 f0) s + (mK' c arg0 f0 s)), nuW c arg0 f0 (before (nc c arg0 f0) s + (mK' c arg0 f0 s)), ncW c arg0 f0 (before (nc c arg0 f0) s + (mK' c arg0 f0 s)))) Q)
      -∗ wp frame (wpE (defs₀ (F := F)) Variants.none c none) Set.univ
        (Scf.Loop.for (k0_t6_loop s v39 v64) ok (slW (before (nc c arg0 f0) s + (min (mK' c arg0 f0 s) (mV' c arg0 f0 s))), nuW c arg0 f0 (before (nc c arg0 f0) s + (min (mK' c arg0 f0 s) (mV' c arg0 f0 s))), ncW c arg0 f0 (before (nc c arg0 f0) s + (min (mK' c arg0 f0 s) (mV' c arg0 f0 s))))
          (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v104) >>= kk) Q) := by
  iintro HI Hk
  have hs37 : s.val < 37 := by have := s.isLt; have e : k0_t3_loop.trips = 37 := (by decide); omega
  sl_for (fun (k : ℕ) (a : BitVec 32 × BitVec 32 × BitVec 32) =>
    iprop(LI c arg0 arg5 arg6 arg8 arg9 arg10 arg11 arg12 arg13 arg14 arg15 arg16 arg17 arg18 f0 f5 f6 q5 q6 q0 KP VP Inv s v92 (min (mK' c arg0 f0 s) (mV' c arg0 f0 s) + k) (min (mK' c arg0 f0 s) (mV' c arg0 f0 s)) ∗ ⌜a = (slW (before (nc c arg0 f0) s + (min (mK' c arg0 f0 s) (mV' c arg0 f0 s) + k)), nuW c arg0 f0 (before (nc c arg0 f0) s + (min (mK' c arg0 f0 s) (mV' c arg0 f0 s) + k)), ncW c arg0 f0 (before (nc c arg0 f0) s + (min (mK' c arg0 f0 s) (mV' c arg0 f0 s) + k)))⌝)) $$ [HI]
  case region =>
    intro k a
    unfold LI
    iintro ⟨⟨H0, HK, HV, ⟨%b, %hb, Hb⟩, How⟩, %ha⟩
    subst ha
    icases (held_out c arg8 arg11 arg12 arg13 arg14 arg15 arg16 b) $$ Hb with ⟨H8, H11, H12, H13, H14, H15, H16⟩
    have hkk := ((facts6 s v39 v64).2.2 k).2
    rw [hnk, hnv] at hkk
    have hkX := mK'_lt c arg0 f0 hkk
    icases (consK_focus c arg0 arg5 arg9 arg17 f0 f5 q5 KP (before (nc c arg0 f0) s + (min (mK' c arg0 f0 s) (mV' c arg0 f0 s) + k.val)) (n12 (before (nc c arg0 f0) s + (min (mK' c arg0 f0 s) (mV' c arg0 f0 s) + k.val))) rfl) $$ HK with ⟨HXi, HXr⟩
    have h := T6.t6_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 q5 q0 KP b.b11 b.b12 b.b15 hKP s v17 v39 v64 v104 hw9 k
      (before (nc c arg0 f0) s + (min (mK' c arg0 f0 s) (mV' c arg0 f0 s) + k.val)) _ _ (n12 (before (nc c arg0 f0) s + (min (mK' c arg0 f0 s) (mV' c arg0 f0 s) + k.val))) rfl hv104
      (by rw [hnk, hnv]; exact (ch_unit (nc c arg0 f0) (nc_pos c arg0 f0) s (by omega)).2 hkX.1 _ hkX.2) hkX.1 (ch_bd c arg0 f0 _).1 (ch_bd c arg0 f0 _).2 rfl
    rw [hnk, hnv] at h
    iapply wp_wand $$ [H0 HXi H11 H12 H15 How]
    · iapply h
      isplitl [H0]; · iexact H0
      isplitl [HXi]; · iexact HXi
      isplitl [H11]; · iexact H11
      isplitl [H12]; · iexact H12
      isplitl [H15]; · iexact H15
      iexact How
    iintro %r ⟨H0, HXi, ⟨%f9, %hf, H11, H12⟩, H15, How, %hr⟩
    isplitl [H0 HXi HXr HV H11 H12 H13 H14 H15 How H8 H16]
    · isplitl [H0]; · iexact H0
      isplitl [HXi HXr]
      · iapply (consK_put c arg0 arg5 arg9 arg17 f0 f5 q5 KP (before (nc c arg0 f0) s + (min (mK' c arg0 f0 s) (mV' c arg0 f0 s) + k.val)) (n12 (before (nc c arg0 f0) s + (min (mK' c arg0 f0 s) (mV' c arg0 f0 s) + k.val))) rfl)
        isplitl [HXi]; · iexact HXi
        iexact HXr
      isplitl [HV]; · iexact HV
      isplitr [How]
      · iexists (bK c arg8 arg9 arg11 arg12 arg13 arg14 arg15 arg16 f9 (n12 (before (nc c arg0 f0) s + (min (mK' c arg0 f0 s) (mV' c arg0 f0 s) + k.val))) s (min (mK' c arg0 f0 s) (mV' c arg0 f0 s) + k.val) (lw c arg0 f0 (s.val / 12)) b)
        isplitr
        · ipureintro
          exact hK _ _ _ _ _ _ hkX.1 hkX.2 hf hb
        iapply (held_K c arg8 arg9 arg11 arg12 arg13 arg14 arg15 arg16)
        isplitl [H8]; · iexact H8
        isplitl [H11]; · iexact H11
        isplitl [H12]; · iexact H12
        isplitl [H13]; · iexact H13
        isplitl [H14]; · iexact H14
        isplitl [H15]; · iexact H15
        iexact H16
      iexact How
    · ipureintro; exact hr
  · isplitl [HI]; · iexact HI
    ipureintro; rfl
  iintro %a ⟨HI, %ha⟩
  have ht : min (mK' c arg0 f0 s) (mV' c arg0 f0 s) + Scf.trips (k0_t6_loop s v39 v64).lb (k0_t6_loop s v39 v64).ub (k0_t6_loop s v39 v64).st = mK' c arg0 f0 s := by
    have h := (facts6 s v39 v64).2.1
    rw [hnk, hnv] at h
    have h' : Scf.trips (k0_t6_loop s v39 v64).lb (k0_t6_loop s v39 v64).ub (k0_t6_loop s v39 v64).st = mK' c arg0 f0 s - min (mK' c arg0 f0 s) (mV' c arg0 f0 s) := h
    rw [h']; omega
  rw [ht] at ha ⊢
  subst ha
  iapply Hk
  iexact HI
set_option maxHeartbeats 1000000 in
theorem t8_loop (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v39 v64 v104 : BitVec 32) (v92 : FVec F S16x1 .f32) (hw9 : k0_chk9 s v39 v64)
    (hnk : nK s v39 = mK' c arg0 f0 s) (hnv : nV s v64 = mV' c arg0 f0 s) (hv104 : v104 = wd (min (nK s v39) (nV s v64))) {α : Type} {Q : α → sProp 𝕄}
    {kk : BitVec 32 × BitVec 32 × BitVec 32 → Prog (TpuEff nD τ sig (Elt F) Λ₀ .tc) α} {ok} :
    LI c arg0 arg5 arg6 arg8 arg9 arg10 arg11 arg12 arg13 arg14 arg15 arg16 arg17 arg18 f0 f5 f6 q5 q6 q0 KP VP Inv s v92 (mK' c arg0 f0 s) (min (mK' c arg0 f0 s) (mV' c arg0 f0 s)) ⊢
      iprop((LI c arg0 arg5 arg6 arg8 arg9 arg10 arg11 arg12 arg13 arg14 arg15 arg16 arg17 arg18 f0 f5 f6 q5 q6 q0 KP VP Inv s v92 (mK' c arg0 f0 s) (mV' c arg0 f0 s) -∗
        wp frame (wpE (defs₀ (F := F)) Variants.none c none) Set.univ (kk (slW (before (nc c arg0 f0) (s.val - 1) + (mV' c arg0 f0 s)), nuW c arg0 f0 (before (nc c arg0 f0) (s.val - 1) + (mV' c arg0 f0 s)), ncW c arg0 f0 (before (nc c arg0 f0) (s.val - 1) + (mV' c arg0 f0 s)))) Q)
      -∗ wp frame (wpE (defs₀ (F := F)) Variants.none c none) Set.univ
        (Scf.Loop.for (k0_t8_loop s v39 v64) ok (slW (before (nc c arg0 f0) (s.val - 1) + (min (mK' c arg0 f0 s) (mV' c arg0 f0 s))), nuW c arg0 f0 (before (nc c arg0 f0) (s.val - 1) + (min (mK' c arg0 f0 s) (mV' c arg0 f0 s))), ncW c arg0 f0 (before (nc c arg0 f0) (s.val - 1) + (min (mK' c arg0 f0 s) (mV' c arg0 f0 s))))
          (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v92 v104) >>= kk) Q) := by
  iintro HI Hk
  have hs37 : s.val < 37 := by have := s.isLt; have e : k0_t3_loop.trips = 37 := (by decide); omega
  sl_for (fun (k : ℕ) (a : BitVec 32 × BitVec 32 × BitVec 32) =>
    iprop(LI c arg0 arg5 arg6 arg8 arg9 arg10 arg11 arg12 arg13 arg14 arg15 arg16 arg17 arg18 f0 f5 f6 q5 q6 q0 KP VP Inv s v92 (mK' c arg0 f0 s) (min (mK' c arg0 f0 s) (mV' c arg0 f0 s) + k) ∗ ⌜a = (slW (before (nc c arg0 f0) (s.val - 1) + (min (mK' c arg0 f0 s) (mV' c arg0 f0 s) + k)), nuW c arg0 f0 (before (nc c arg0 f0) (s.val - 1) + (min (mK' c arg0 f0 s) (mV' c arg0 f0 s) + k)), ncW c arg0 f0 (before (nc c arg0 f0) (s.val - 1) + (min (mK' c arg0 f0 s) (mV' c arg0 f0 s) + k)))⌝)) $$ [HI]
  case region =>
    intro k a
    unfold LI
    iintro ⟨⟨H0, HK, HV, ⟨%b, %hb, Hb⟩, How⟩, %ha⟩
    subst ha
    icases (held_out c arg8 arg11 arg12 arg13 arg14 arg15 arg16 b) $$ Hb with ⟨H8, H11, H12, H13, H14, H15, H16⟩
    have hkk := ((facts8 s v39 v64).2.2 k).2
    rw [hnk, hnv] at hkk
    have hkX := mV'_lt c arg0 f0 hkk
    icases (consV_focus c arg0 arg6 arg10 arg18 f0 f6 q6 VP (before (nc c arg0 f0) (s.val - 1) + (min (mK' c arg0 f0 s) (mV' c arg0 f0 s) + k.val)) (n12 (before (nc c arg0 f0) (s.val - 1) + (min (mK' c arg0 f0 s) (mV' c arg0 f0 s) + k.val))) rfl) $$ HV with ⟨HXi, HXr⟩
    have h := T8.t8_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f6 q6 q0 VP b.b11 b.b13 b.b14 hVP s v17 v39 v64 v104 v92 hw9 k
      (before (nc c arg0 f0) (s.val - 1) + (min (mK' c arg0 f0 s) (mV' c arg0 f0 s) + k.val)) _ _ (n12 (before (nc c arg0 f0) (s.val - 1) + (min (mK' c arg0 f0 s) (mV' c arg0 f0 s) + k.val))) rfl
      (by rw [hnk, hnv]; exact (ch_unit (nc c arg0 f0) (nc_pos c arg0 f0) (s.val - 1) (by omega)).2 (by omega) _ hkX.2) hkX.1 (ch_bd c arg0 f0 _).1 (ch_bd c arg0 f0 _).2 rfl
    rw [hnk, hnv] at h
    iapply wp_wand $$ [H0 HXi H11 H13 H14 How]
    · iapply h
      isplitl [H0]; · iexact H0
      isplitl [HXi]; · iexact HXi
      isplitl [H11]; · iexact H11
      isplitl [H13]; · iexact H13
      isplitl [H14]; · iexact H14
      iexact How
    iintro %r ⟨H0, HXi, ⟨%f10, %hf, H13, H14⟩, H11, How, %hr⟩
    isplitl [H0 HXi HXr HK H11 H12 H13 H14 H15 How H8 H16]
    · isplitl [H0]; · iexact H0
      isplitl [HK]; · iexact HK
      isplitl [HXi HXr]
      · iapply (consV_put c arg0 arg6 arg10 arg18 f0 f6 q6 VP (before (nc c arg0 f0) (s.val - 1) + (min (mK' c arg0 f0 s) (mV' c arg0 f0 s) + k.val)) (n12 (before (nc c arg0 f0) (s.val - 1) + (min (mK' c arg0 f0 s) (mV' c arg0 f0 s) + k.val))) rfl)
        isplitl [HXi]; · iexact HXi
        iexact HXr
      isplitr [How]
      · iexists (bV c arg8 arg10 arg11 arg12 arg13 arg14 arg15 arg16 f10 v92 (n12 (before (nc c arg0 f0) (s.val - 1) + (min (mK' c arg0 f0 s) (mV' c arg0 f0 s) + k.val))) (s.val - 1) (min (mK' c arg0 f0 s) (mV' c arg0 f0 s) + k.val) b)
        isplitr
        · ipureintro
          exact hV _ _ _ _ _ _ hkX.1 (by omega) hkX.2 hf hb
        iapply (held_V c arg8 arg10 arg11 arg12 arg13 arg14 arg15 arg16)
        isplitl [H8]; · iexact H8
        isplitl [H11]; · iexact H11
        isplitl [H12]; · iexact H12
        isplitl [H13]; · iexact H13
        isplitl [H14]; · iexact H14
        isplitl [H15]; · iexact H15
        iexact H16
      iexact How
    · ipureintro; exact hr
  · isplitl [HI]; · iexact HI
    ipureintro; rfl
  iintro %a ⟨HI, %ha⟩
  have ht : min (mK' c arg0 f0 s) (mV' c arg0 f0 s) + Scf.trips (k0_t8_loop s v39 v64).lb (k0_t8_loop s v39 v64).ub (k0_t8_loop s v39 v64).st = mV' c arg0 f0 s := by
    have h := (facts8 s v39 v64).2.1
    rw [hnk, hnv] at h
    have h' : Scf.trips (k0_t8_loop s v39 v64).lb (k0_t8_loop s v39 v64).ub (k0_t8_loop s v39 v64).st = mV' c arg0 f0 s - min (mK' c arg0 f0 s) (mV' c arg0 f0 s) := h
    rw [h']; omega
  rw [ht] at ha ⊢
  subst ha
  iapply Hk
  iexact HI
end Loops

end Cert.Proof.KernelIdeal
-- ==== Proof.T3I.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.LoopI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)
/-- The query row, the new key's row and the maxima of the unit before step `s`, as the step reads them, -/
def rdQ (s : Fin k0_t3_loop.trips) (f1 : Buf (Elt F) (arg1.view.loc (c : Thread nD τ))) : Vec F S1x8x128 .f32 :=
  View.readAt (Elt F) arg1.view (Rect.unit (s := S36x8x128) (k0_off17 s) S1x8x128.size (k0_off17_inb s)).toLoadRect f1
def rdN (s : Fin k0_t3_loop.trips) (f2 : Buf (Elt F) (arg2.view.loc (c : Thread nD τ))) : Vec F S1x1x128 .f32 :=
  View.readAt (Elt F) arg2.view (Rect.unit (s := S36x1x128) (k0_off18 s) S1x1x128.size (k0_off18_inb s)).toLoadRect f2
def rdM (s : Fin k0_t3_loop.trips) (f12 : Buf (Elt F) (arg12.view.loc (c : Thread nD τ))) : Vec F S1x16x128 .f32 :=
  View.readAt (Elt F) arg12.view (Rect.unit (s := S2x16x128) (k0_off19 s) S1x16x128.size (k0_off19_inb s)).toLoadRect f12

/-- the buffers once step `s` has made ready for its chunks, -/
def begB (f1 : Buf (Elt F) (arg1.view.loc (c : Thread nD τ))) (s : Fin k0_t3_loop.trips) (b : Bufs (F := F) c arg8 arg11 arg12 arg13 arg14 arg15 arg16) : Bufs (F := F) c arg8 arg11 arg12 arg13 arg14 arg15 arg16 :=
  { b with
    b12 := if h : k0_cond5 s = 1#1 then arg12.view.writes (Elt F) b.b12 [⟨Rect.unit (s := S2x16x128) (k0_off22 s) S1x16x128.size (k0_off22_inb s h), k0_pay3 (F := F)⟩] else b.b12
    b13 := arg13.view.writes (Elt F) arg13.view.junk [⟨Rect.unit (s := S128x8) ![0, 0] S128x8.size inb_S128x8_S128x8_0_0, k0_pay4 (F := F)⟩]
    b14 := arg14.view.writes (Elt F) arg14.view.junk [⟨Rect.unit (s := S16x128) ![0, 0] S16x128.size inb_S16x128_S16x128_0_0, k0_pay5 (F := F)⟩]
    b15 := if h : k0_cond5 s = 1#1 then arg15.view.writes (Elt F) b.b15 [⟨Rect.unit (s := S2x16x256) (k0_off21 s) S1x16x256.size (k0_off21_inb s h),
        k0_pay2 (View.readAt (Elt F) arg1.view (Rect.unit (s := S36x8x128) (k0_off20 s) S1x8x128.size (k0_off20_inb s h)).toLoadRect f1)⟩] else b.b15 }

/-- and once it has stored the results of the unit before. -/
def endB (f3 : Buf (Elt F) (arg3.view.loc (c : Thread nD τ))) (f4 : Buf (Elt F) (arg4.view.loc (c : Thread nD τ))) (s : Fin k0_t3_loop.trips) (v82 v91 : FVec F S8x1 .f32)
    (b : Bufs (F := F) c arg8 arg11 arg12 arg13 arg14 arg15 arg16) : Bufs (F := F) c arg8 arg11 arg12 arg13 arg14 arg15 arg16 :=
  { b with
    b8 := if h : k0_cond14 s = 1#1 then arg8.view.writes (Elt F) b.b8 [⟨Rect.unit (s := S288x128) (k0_off128 s) S8x128.size (k0_off128_inb s h),
        k0_pay8 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)⟩] else b.b8
    b16 := if h : k0_cond14 s = 1#1 then arg16.view.writes (Elt F) b.b16 [⟨Rect.unit (s := S288x128) (k0_off128 s) S8x128.size (k0_off128_inb s h),
        k0_pay9 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)
          (View.readAt (Elt F) arg3.view (Rect.unit (s := S36x1x128) (k0_off127 s) S1x1x128.size (k0_off127_inb s h)).toLoadRect f3)⟩] else b.b16 }

theorem held_endB (f3 : Buf (Elt F) (arg3.view.loc (c : Thread nD τ))) (f4 : Buf (Elt F) (arg4.view.loc (c : Thread nD τ))) (s : Fin k0_t3_loop.trips) (v82 v91 : FVec F S8x1 .f32)
    (b : Bufs (F := F) c arg8 arg11 arg12 arg13 arg14 arg15 arg16) (h : k0_cond14 s = 1#1) :
    iprop((arg8.view.loc (c : Thread nD τ) ↦{fullShare} arg8.view.writes (Elt F) b.b8 [⟨Rect.unit (s := S288x128) (k0_off128 s) S8x128.size (k0_off128_inb s h),
        k0_pay8 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)⟩])
      ∗ (arg11.view.loc (c : Thread nD τ) ↦{fullShare} b.b11) ∗ (arg12.view.loc (c : Thread nD τ) ↦{fullShare} b.b12) ∗ (arg13.view.loc (c : Thread nD τ) ↦{fullShare} b.b13)
      ∗ (arg14.view.loc (c : Thread nD τ) ↦{fullShare} b.b14) ∗ (arg15.view.loc (c : Thread nD τ) ↦{fullShare} b.b15)
      ∗ (arg16.view.loc (c : Thread nD τ) ↦{fullShare} arg16.view.writes (Elt F) b.b16 [⟨Rect.unit (s := S288x128) (k0_off128 s) S8x128.size (k0_off128_inb s h),
        k0_pay9 v82 v91 (View.readAt (Elt F) arg14.view (Rect.unit (s := S16x128) ![0, 0] S16x128.size inb_S16x128_S16x128_0_0).toLoadRect b.b14)
          (View.readAt (Elt F) arg13.view (Rect.unit (s := S128x8) ![0, 0] S128x8.size inb_S128x8_S128x8_0_0).toLoadRect b.b13)
          (View.readAt (Elt F) arg4.view (Rect.unit (s := S36x1x128) (k0_off127 s) S1x1x128.size (k0_off127_inb s h)).toLoadRect f4)
          (View.readAt (Elt F) arg3.view (Rect.unit (s := S36x1x128) (k0_off127 s) S1x1x128.size (k0_off127_inb s h)).toLoadRect f3)⟩]))
    ⊢ held c arg8 arg11 arg12 arg13 arg14 arg15 arg16 (endB c arg3 arg4 arg8 arg11 arg12 arg13 arg14 arg15 arg16 f3 f4 s v82 v91 b) := by
  simp only [held, endB, dif_pos h]
  exact BIBase.Entails.rfl

theorem held_endB' (f3 : Buf (Elt F) (arg3.view.loc (c : Thread nD τ))) (f4 : Buf (Elt F) (arg4.view.loc (c : Thread nD τ))) (s : Fin k0_t3_loop.trips) (v82 v91 : FVec F S8x1 .f32)
    (b : Bufs (F := F) c arg8 arg11 arg12 arg13 arg14 arg15 arg16) (h : ¬ k0_cond14 s = 1#1) :
    iprop((arg8.view.loc (c : Thread nD τ) ↦{fullShare} b.b8)
      ∗ (arg11.view.loc (c : Thread nD τ) ↦{fullShare} b.b11) ∗ (arg12.view.loc (c : Thread nD τ) ↦{fullShare} b.b12) ∗ (arg13.view.loc (c : Thread nD τ) ↦{fullShare} b.b13)
      ∗ (arg14.view.loc (c : Thread nD τ) ↦{fullShare} b.b14) ∗ (arg15.view.loc (c : Thread nD τ) ↦{fullShare} b.b15)
      ∗ (arg16.view.loc (c : Thread nD τ) ↦{fullShare} b.b16))
    ⊢ held c arg8 arg11 arg12 arg13 arg14 arg15 arg16 (endB c arg3 arg4 arg8 arg11 arg12 arg13 arg14 arg15 arg16 f3 f4 s v82 v91 b) := by
  simp only [held, endB, dif_neg h]
  exact BIBase.Entails.rfl

theorem held_begB (f1 : Buf (Elt F) (arg1.view.loc (c : Thread nD τ))) (s : Fin k0_t3_loop.trips) (b : Bufs (F := F) c arg8 arg11 arg12 arg13 arg14 arg15 arg16) (h : k0_cond5 s = 1#1) :
    iprop((arg8.view.loc (c : Thread nD τ) ↦{fullShare} b.b8)
      ∗ (arg11.view.loc (c : Thread nD τ) ↦{fullShare} b.b11)
      ∗ (arg12.view.loc (c : Thread nD τ) ↦{fullShare} arg12.view.writes (Elt F) b.b12 [⟨Rect.unit (s := S2x16x128) (k0_off22 s) S1x16x128.size (k0_off22_inb s h), k0_pay3 (F := F)⟩])
      ∗ (arg13.view.loc (c : Thread nD τ) ↦{fullShare} arg13.view.writes (Elt F) arg13.view.junk [⟨Rect.unit (s := S128x8) ![0, 0] S128x8.size inb_S128x8_S128x8_0_0, k0_pay4 (F := F)⟩])
      ∗ (arg14.view.loc (c : Thread nD τ) ↦{fullShare} arg14.view.writes (Elt F) arg14.view.junk [⟨Rect.unit (s := S16x128) ![0, 0] S16x128.size inb_S16x128_S16x128_0_0, k0_pay5 (F := F)⟩])
      ∗ (arg15.view.loc (c : Thread nD τ) ↦{fullShare} arg15.view.writes (Elt F) b.b15 [⟨Rect.unit (s := S2x16x256) (k0_off21 s) S1x16x256.size (k0_off21_inb s h),
        k0_pay2 (View.readAt (Elt F) arg1.view (Rect.unit (s := S36x8x128) (k0_off20 s) S1x8x128.size (k0_off20_inb s h)).toLoadRect f1)⟩])
      ∗ (arg16.view.loc (c : Thread nD τ) ↦{fullShare} b.b16))
    ⊢ held c arg8 arg11 arg12 arg13 arg14 arg15 arg16 (begB c arg1 arg8 arg11 arg12 arg13 arg14 arg15 arg16 f1 s b) := by
  simp only [held, begB, dif_pos h]
  exact BIBase.Entails.rfl

theorem held_begB' (f1 : Buf (Elt F) (arg1.view.loc (c : Thread nD τ))) (s : Fin k0_t3_loop.trips) (b : Bufs (F := F) c arg8 arg11 arg12 arg13 arg14 arg15 arg16) (h : ¬ k0_cond5 s = 1#1) :
    iprop((arg8.view.loc (c : Thread nD τ) ↦{fullShare} b.b8)
      ∗ (arg11.view.loc (c : Thread nD τ) ↦{fullShare} b.b11)
      ∗ (arg12.view.loc (c : Thread nD τ) ↦{fullShare} b.b12)
      ∗ (arg13.view.loc (c : Thread nD τ) ↦{fullShare} arg13.view.writes (Elt F) arg13.view.junk [⟨Rect.unit (s := S128x8) ![0, 0] S128x8.size inb_S128x8_S128x8_0_0, k0_pay4 (F := F)⟩])
      ∗ (arg14.view.loc (c : Thread nD τ) ↦{fullShare} arg14.view.writes (Elt F) arg14.view.junk [⟨Rect.unit (s := S16x128) ![0, 0] S16x128.size inb_S16x128_S16x128_0_0, k0_pay5 (F := F)⟩])
      ∗ (arg15.view.loc (c : Thread nD τ) ↦{fullShare} b.b15)
      ∗ (arg16.view.loc (c : Thread nD τ) ↦{fullShare} b.b16))
    ⊢ held c arg8 arg11 arg12 arg13 arg14 arg15 arg16 (begB c arg1 arg8 arg11 arg12 arg13 arg14 arg15 arg16 f1 s b) := by
  simp only [held, begB, dif_neg h]
  exact BIBase.Entails.rfl

theorem nk_eq (f0 : Buf (Elt F) (arg0.view.loc (c : Thread nD τ))) (s : Fin k0_t3_loop.trips) (v : BitVec 32) (h : v = View.readAt (Elt F) arg0.view (Rect.unit (s := S3) (k0_off15 s) S1.size (k0_off15_inb s)).toLoadRect f0 (Shape.Idx.first (by show 0 < S1.numel; decide))) :
    nK s v = mK' c arg0 f0 s := by
  have hl := lw_eq c arg0 f0 (k0_off15 s) (k0_off15_inb s) (Shape.Idx.first (by show 0 < S1.numel; decide)) (min s.val 35 / 12) (off75_eq s)
  rw [h, hl]
  unfold nK mK' nc
  split_ifs with h1
  · rw [Nat.min_eq_left (by omega)]
  · rfl

theorem nv_eq (f0 : Buf (Elt F) (arg0.view.loc (c : Thread nD τ))) (s : Fin k0_t3_loop.trips) (v : BitVec 32) (h : v = View.readAt (Elt F) arg0.view (Rect.unit (s := S3) (k0_off16 s) S1.size (k0_off16_inb s)).toLoadRect f0 (Shape.Idx.first (by show 0 < S1.numel; decide))) :
    nV s v = mV' c arg0 f0 s := by
  have hl := lw_eq c arg0 f0 (k0_off16 s) (k0_off16_inb s) (Shape.Idx.first (by show 0 < S1.numel; decide)) ((s.val - 1) / 12) (off105_eq s)
  rw [h, hl]
  unfold nV mV' nc
  rfl

section T3
variable (f0 : Buf (Elt F) (arg0.view.loc (c : Thread nD τ))) (f5 : Buf (Elt F) (arg5.view.loc (c : Thread nD τ))) (f6 : Buf (Elt F) (arg6.view.loc (c : Thread nD τ)))
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (Inv : ℕ → ℕ → ℕ → FVec F S16x1 .f32 → Bufs (F := F) c arg8 arg11 arg12 arg13 arg14 arg15 arg16 → Prop)
  (St : ℕ → Bufs (F := F) c arg8 arg11 arg12 arg13 arg14 arg15 arg16 → Prop)

theorem cond5_iff : ∀ s : Fin k0_t3_loop.trips, k0_cond5 s = if s.val < 36 then 1#1 else 0#1 := by decide
theorem cond14_iff : ∀ s : Fin k0_t3_loop.trips, k0_cond14 s = if 0 < s.val then 1#1 else 0#1 := by decide

attribute [local irreducible] ch before

set_option maxHeartbeats 2000000 in
theorem t3_tail (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (v17 v19 v39 v64 v44 v69 : BitVec 32) (v82 v91 : FVec F S8x1 .f32) (v92 : FVec F S16x1 .f32) (hw9 : k0_chk9 s v39 v64)
    (hnk : nK s v39 = mK' c arg0 f0 s) (hnv : nV s v64 = mV' c arg0 f0 s) (h44 : v44 = wK s v39) (h69 : v69 = wV s v64)
    (hEnd : ∀ b, Inv s (mK' c arg0 f0 s) (mV' c arg0 f0 s) v92 b → St (s.val + 1) (endB c arg3 arg4 arg8 arg11 arg12 arg13 arg14 arg15 arg16 f3 f4 s v82 v91 b)) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ LI c arg0 arg5 arg6 arg8 arg9 arg10 arg11 arg12 arg13 arg14 arg15 arg16 arg17 arg18 f0 f5 f6 q5 q6 q0 KP VP Inv s v92 0 0)
    ⊢ wp frame (wpE (defs₀ (F := F)) Variants.none c none) Set.univ (do
    let v104 : BitVec 32 := Scalar.minsi v44 v69
    let v105 : BitVec 32 := Scalar.subi v104 0#32
    let v107 : BitVec 32 := Scalar.divsi v105 1#32
    let v108 : BitVec 32 := Scalar.muli v107 1#32
    let v109 : BitVec 32 := Scalar.addi 0#32 v108
    let (v110_0, v110_1, v110_2, v110_3, v110_4, v110_5) ← Scf.Loop.for (k0_t4_loop s v39 v64) (k0_t4_ok s v39 v64 hw9) (slW (before (nc c arg0 f0) s), slW (before (nc c arg0 f0) (s.val - 1)), nuW c arg0 f0 (before (nc c arg0 f0) s), ncW c arg0 f0 (before (nc c arg0 f0) s), nuW c arg0 f0 (before (nc c arg0 f0) (s.val - 1)), ncW c arg0 f0 (before (nc c arg0 f0) (s.val - 1))) (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92)
    let (v111_0, v111_1, v111_2, v111_3, v111_4, v111_5) ← Scf.Loop.for (k0_t5_loop s v39 v64) (k0_t5_ok s v39 v64 hw9) (v110_0, v110_1, v110_2, v110_3, v110_4, v110_5) (k0_t5_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v19 v39 v64 hw9 v92 v109)
    let v112 : BitVec 32 := Scalar.subi v44 v104
    let v114 : BitVec 32 := Scalar.divsi v112 1#32
    let v115 : BitVec 32 := Scalar.muli v114 1#32
    let v116 : BitVec 32 := Scalar.addi v104 v115
    let (v117_0, v117_1, v117_2) ← Scf.Loop.for (k0_t6_loop s v39 v64) (k0_t6_ok s v39 v64 hw9) (v111_0, v111_2, v111_3) (k0_t6_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v104)
    let (v118_0, v118_1, v118_2) ← Scf.Loop.for (k0_t7_loop s v39 v64) (k0_t7_ok s v39 v64 hw9) (v117_0, v117_1, v117_2) (k0_t7_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v17 v39 v64 hw9 v116)
    let v119 : BitVec 32 := Scalar.subi v69 v104
    let v121 : BitVec 32 := Scalar.divsi v119 1#32
    let v122 : BitVec 32 := Scalar.muli v121 1#32
    let v123 : BitVec 32 := Scalar.addi v104 v122
    let (v124_0, v124_1, v124_2) ← Scf.Loop.for (k0_t8_loop s v39 v64) (k0_t8_ok s v39 v64 hw9) (v111_1, v111_4, v111_5) (k0_t8_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v19 v39 v64 hw9 v92 v104)
    let (v125_0, v125_1, v125_2) ← Scf.Loop.for (k0_t9_loop s v39 v64) (k0_t9_ok s v39 v64 hw9) (v124_0, v124_1, v124_2) (k0_t9_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s v19 v39 v64 hw9 v92 v123)
    if k0_h14 : k0_cond14 s = 1#1 then do
      let v131 : Vec F S16x128 .f32 ← Prog.lift (.load arg14 (Rect.unit (s := S16x128) ![0, 0] S16x128.size inb_S16x128_S16x128_0_0).toLoadRect (View.loadsAt_vmem h_S16x128))
      let v138 : Vec F S128x8 .f32 ← Prog.lift (.load arg13 (Rect.unit (s := S128x8) ![0, 0] S128x8.size inb_S128x8_S128x8_0_0).toLoadRect (View.loadsAt_vmem h_S128x8))
      let v143 : Vec F S1x1x128 .f32 ← Prog.lift (.load arg4 (Rect.unit (s := S36x1x128) (k0_off127 s) S1x1x128.size (k0_off127_inb s k0_h14)).toLoadRect (View.loadsAt_vmem h_S1x1x128))
      let v152 : Vec F S8x128 .f32 ← Prog.lift (.load arg8 (Rect.unit (s := S288x128) (k0_off128 s) S8x128.size (k0_off128_inb s k0_h14)).toLoadRect (View.loadsAt_vmem h_S8x128))
      Prog.lift (.store arg8 (Rect.unit (s := S288x128) (k0_off128 s) S8x128.size (k0_off128_inb s k0_h14)) (k0_pay8 v82 v91 v131 v138 v143) Finset.univ (View.stores_vmem_bits_univ h_S8x128 rfl) (.inl rfl))
      let v154 : Vec F S1x1x128 .f32 ← Prog.lift (.load arg3 (Rect.unit (s := S36x1x128) (k0_off127 s) S1x1x128.size (k0_off127_inb s k0_h14)).toLoadRect (View.loadsAt_vmem h_S1x1x128))
      let v163 : Vec F S8x128 .f32 ← Prog.lift (.load arg16 (Rect.unit (s := S288x128) (k0_off128 s) S8x128.size (k0_off128_inb s k0_h14)).toLoadRect (View.loadsAt_vmem h_S8x128))
      Prog.lift (.store arg16 (Rect.unit (s := S288x128) (k0_off128 s) S8x128.size (k0_off128_inb s k0_h14)) (k0_pay9 v82 v91 v131 v138 v143 v154) Finset.univ (View.stores_vmem_bits_univ h_S8x128 rfl) (.inl rfl))
      pure ⟨⟩
    else do
      pure ⟨⟩
    pure (v118_0, v125_0, v118_1, v118_2, v125_1, v125_2))
      (fun x => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
        ∗ Ring.AtW (stK c arg0 arg5 arg9 arg17 f0 f5 q5 KP) (cons (before (nc c arg0 f0) s + (mK' c arg0 f0 s))) ∗ Ring.AtW (stV c arg0 arg6 arg10 arg18 f0 f6 q6 VP) (cons (before (nc c arg0 f0) (s.val - 1) + (mV' c arg0 f0 s)))
        ∗ (∃ b, ⌜St (s.val + 1) b⌝ ∗ held c arg8 arg11 arg12 arg13 arg14 arg15 arg16 b) ∗ (∃ W, owes (c : Thread nD τ) 0 W) ∗ ⌜x = (slW (before (nc c arg0 f0) s + (mK' c arg0 f0 s)), slW (before (nc c arg0 f0) (s.val - 1) + (mV' c arg0 f0 s)), nuW c arg0 f0 (before (nc c arg0 f0) s + (mK' c arg0 f0 s)), ncW c arg0 f0 (before (nc c arg0 f0) s + (mK' c arg0 f0 s)), nuW c arg0 f0 (before (nc c arg0 f0) (s.val - 1) + (mV' c arg0 f0 s)), ncW c arg0 f0 (before (nc c arg0 f0) (s.val - 1) + (mV' c arg0 f0 s)))⌝)) := by
  iintro ⟨H1, H2, H3, H4, HI⟩
  have h104 : Scalar.minsi v44 v69 = wd (min (nK s v39) (nV s v64)) := by rw [h44, h69]; exact wm_eq s v39 v64
  have hc14 := cond14_iff s
  have ht5 : Scf.trips (k0_t5_loop s v39 v64).lb (k0_t5_loop s v39 v64).ub (k0_t5_loop s v39 v64).st = 0 := by have h := (facts5 s v39 v64).2.1; rw [Nat.sub_self] at h; exact h
  have ht7 : Scf.trips (k0_t7_loop s v39 v64).lb (k0_t7_loop s v39 v64).ub (k0_t7_loop s v39 v64).st = 0 := by have h := (facts7 s v39 v64).2.1; rw [Nat.sub_self] at h; exact h
  have ht9 : Scf.trips (k0_t9_loop s v39 v64).lb (k0_t9_loop s v39 v64).ub (k0_t9_loop s v39 v64).st = 0 := by have h := (facts9 s v39 v64).2.1; rw [Nat.sub_self] at h; exact h
  iapply (t4_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP Inv hKP hVP hK hV s v17 v19 v39 v64 v92 hw9 hnk hnv) $$ HI
  iintro HI
  dsimp only
  sl_for0 ht5
  iapply (t6_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP Inv hKP hK hV s v17 v39 v64 _ v92 hw9 hnk hnv h104) $$ HI
  iintro HI
  dsimp only
  sl_for0 ht7
  iapply (t8_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 q5 q6 q0 KP VP Inv hVP hK hV s v17 v39 v64 _ v92 hw9 hnk hnv h104) $$ HI
  iintro HI
  dsimp only
  sl_for0 ht9
  unfold LI
  icases HI with ⟨H0, HK, HV, ⟨%b, %hb, Hb⟩, How⟩
  icases (held_out c arg8 arg11 arg12 arg13 arg14 arg15 arg16 b) $$ Hb with ⟨H8, H11, H12, H13, H14, H15, H16⟩
  by_cases h0 : 0 < s.val
  · have hc1 : k0_cond14 s = 1#1 := by rw [hc14]; simp [h0]
    sl_exec (disch := first | sl_exact hc1)
    sl_step
    isplitl [H1]; · iexact H1
    isplitl [H2]; · iexact H2
    isplitl [H3]; · iexact H3
    isplitl [H4]; · iexact H4
    isplitl [H0]; · iexact H0
    isplitl [HK]; · iexact HK
    isplitl [HV]; · iexact HV
    isplitl [H8 H11 H12 H13 H14 H15 H16]
    · iexists (endB c arg3 arg4 arg8 arg11 arg12 arg13 arg14 arg15 arg16 f3 f4 s v82 v91 b)
      isplitr; · ipureintro; exact hEnd b hb
      iapply (held_endB c arg3 arg4 arg8 arg11 arg12 arg13 arg14 arg15 arg16 f3 f4 s v82 v91 b hc1)
      isplitl [H8]; · iexact H8
      isplitl [H11]; · iexact H11
      isplitl [H12]; · iexact H12
      isplitl [H13]; · iexact H13
      isplitl [H14]; · iexact H14
      isplitl [H15]; · iexact H15
      iexact H16
    isplitl [How]; · iexact How
    ipureintro
    rfl
  · have hc1 : ¬ k0_cond14 s = 1#1 := by rw [hc14]; simp [h0]
    sl_exec (disch := first | sl_exact hc1)
    sl_step
    isplitl [H1]; · iexact H1
    isplitl [H2]; · iexact H2
    isplitl [H3]; · iexact H3
    isplitl [H4]; · iexact H4
    isplitl [H0]; · iexact H0
    isplitl [HK]; · iexact HK
    isplitl [HV]; · iexact HV
    isplitl [H8 H11 H12 H13 H14 H15 H16]
    · iexists (endB c arg3 arg4 arg8 arg11 arg12 arg13 arg14 arg15 arg16 f3 f4 s v82 v91 b)
      isplitr; · ipureintro; exact hEnd b hb
      iapply (held_endB' c arg3 arg4 arg8 arg11 arg12 arg13 arg14 arg15 arg16 f3 f4 s v82 v91 b hc1)
      isplitl [H8]; · iexact H8
      isplitl [H11]; · iexact H11
      isplitl [H12]; · iexact H12
      isplitl [H13]; · iexact H13
      isplitl [H14]; · iexact H14
      isplitl [H15]; · iexact H15
      iexact H16
    isplitl [How]; · iexact How
    ipureintro
    rfl

set_option maxHeartbeats 2000000 in
theorem t3_run (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (s : Fin k0_t3_loop.trips) (b : Bufs (F := F) c arg8 arg11 arg12 arg13 arg14 arg15 arg16)
    (hBeg : Inv s 0 0 (k0_pay49 (rdQ c arg1 s f1) (rdN c arg2 s f2) (rdM c arg12 s b.b12)) (begB c arg1 arg8 arg11 arg12 arg13 arg14 arg15 arg16 f1 s b))
    (hEnd : ∀ b', Inv s (mK' c arg0 f0 s) (mV' c arg0 f0 s) (k0_pay49 (rdQ c arg1 s f1) (rdN c arg2 s f2) (rdM c arg12 s b.b12)) b' → St (s.val + 1) (endB c arg3 arg4 arg8 arg11 arg12 arg13 arg14 arg15 arg16 f3 f4 s
      (k0_pay47 (rdQ c arg1 s f1) (rdN c arg2 s f2)) (k0_pay48 (rdQ c arg1 s f1) (rdN c arg2 s f2) (rdM c arg12 s b.b12)) b')) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
      ∗ Ring.AtW (stK c arg0 arg5 arg9 arg17 f0 f5 q5 KP) (cons (before (nc c arg0 f0) s)) ∗ Ring.AtW (stV c arg0 arg6 arg10 arg18 f0 f6 q6 VP) (cons (before (nc c arg0 f0) (s.val - 1)))
      ∗ held c arg8 arg11 arg12 arg13 arg14 arg15 arg16 b ∗ (∃ W, owes (c : Thread nD τ) 0 W))
    ⊢ wp frame (wpE (defs₀ (F := F)) Variants.none c none) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 s (slW (before (nc c arg0 f0) s), slW (before (nc c arg0 f0) (s.val - 1)), nuW c arg0 f0 (before (nc c arg0 f0) s), ncW c arg0 f0 (before (nc c arg0 f0) s), nuW c arg0 f0 (before (nc c arg0 f0) (s.val - 1)), ncW c arg0 f0 (before (nc c arg0 f0) (s.val - 1))))
      (fun x => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
        ∗ Ring.AtW (stK c arg0 arg5 arg9 arg17 f0 f5 q5 KP) (cons (before (nc c arg0 f0) s + (mK' c arg0 f0 s))) ∗ Ring.AtW (stV c arg0 arg6 arg10 arg18 f0 f6 q6 VP) (cons (before (nc c arg0 f0) (s.val - 1) + (mV' c arg0 f0 s)))
        ∗ (∃ b, ⌜St (s.val + 1) b⌝ ∗ held c arg8 arg11 arg12 arg13 arg14 arg15 arg16 b) ∗ (∃ W, owes (c : Thread nD τ) 0 W) ∗ ⌜x = (slW (before (nc c arg0 f0) s + (mK' c arg0 f0 s)), slW (before (nc c arg0 f0) (s.val - 1) + (mV' c arg0 f0 s)), nuW c arg0 f0 (before (nc c arg0 f0) s + (mK' c arg0 f0 s)), ncW c arg0 f0 (before (nc c arg0 f0) s + (mK' c arg0 f0 s)), nuW c arg0 f0 (before (nc c arg0 f0) (s.val - 1) + (mV' c arg0 f0 s)), ncW c arg0 f0 (before (nc c arg0 f0) (s.val - 1) + (mV' c arg0 f0 s)))⌝)) := by
  iintro ⟨H1, H2, H3, H4, H0, HK, HV, Hb, How⟩
  icases (held_out c arg8 arg11 arg12 arg13 arg14 arg15 arg16 b) $$ Hb with ⟨H8, H11, H12, H13, H14, H15, H16⟩
  have hs37 : s.val < 37 := by have := s.isLt; have e : k0_t3_loop.trips = 37 := (by decide); omega
  have hc5 := cond5_iff s
  sl_unfold [k0_t3_body]
  by_cases h36 : s.val < 36
  · have hc1 : k0_cond5 s = 1#1 := by rw [hc5]; simp [h36]
    sl_exec (disch := first | sl_exact hc1 | sl_exact (chk9_of s _ _))
    iapply (t3_tail c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV s _ _ _ _ _ _
      (k0_pay47 (rdQ c arg1 s f1) (rdN c arg2 s f2)) (k0_pay48 (rdQ c arg1 s f1) (rdN c arg2 s f2) (rdM c arg12 s b.b12)) (k0_pay49 (rdQ c arg1 s f1) (rdN c arg2 s f2) (rdM c arg12 s b.b12)) _
      (nk_eq c arg0 f0 s _ rfl) (nv_eq c arg0 f0 s _ rfl) rfl rfl hEnd)
    isplitl [H1]; · iexact H1
    isplitl [H2]; · iexact H2
    isplitl [H3]; · iexact H3
    isplitl [H4]; · iexact H4
    unfold LI
    isplitl [H0]; · iexact H0
    isplitl [HK]; · iexact HK
    isplitl [HV]; · iexact HV
    isplitr [How]
    · iexists (begB c arg1 arg8 arg11 arg12 arg13 arg14 arg15 arg16 f1 s b)
      isplitr; · ipureintro; exact hBeg
      iapply (held_begB c arg1 arg8 arg11 arg12 arg13 arg14 arg15 arg16 f1 s b hc1)
      isplitl [H8]; · iexact H8
      isplitl [H11]; · iexact H11
      isplitl [H12]; · iexact H12
      isplitl [H13]; · iexact H13
      isplitl [H14]; · iexact H14
      isplitl [H15]; · iexact H15
      iexact H16
    iexact How
  · have hc1 : ¬ k0_cond5 s = 1#1 := by rw [hc5]; simp [h36]
    sl_exec (disch := first | sl_exact hc1 | sl_exact (chk9_of s _ _))
    iapply (t3_tail c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV s _ _ _ _ _ _
      (k0_pay47 (rdQ c arg1 s f1) (rdN c arg2 s f2)) (k0_pay48 (rdQ c arg1 s f1) (rdN c arg2 s f2) (rdM c arg12 s b.b12)) (k0_pay49 (rdQ c arg1 s f1) (rdN c arg2 s f2) (rdM c arg12 s b.b12)) _
      (nk_eq c arg0 f0 s _ rfl) (nv_eq c arg0 f0 s _ rfl) rfl rfl hEnd)
    isplitl [H1]; · iexact H1
    isplitl [H2]; · iexact H2
    isplitl [H3]; · iexact H3
    isplitl [H4]; · iexact H4
    unfold LI
    isplitl [H0]; · iexact H0
    isplitl [HK]; · iexact HK
    isplitl [HV]; · iexact HV
    isplitr [How]
    · iexists (begB c arg1 arg8 arg11 arg12 arg13 arg14 arg15 arg16 f1 s b)
      isplitr; · ipureintro; exact hBeg
      iapply (held_begB' c arg1 arg8 arg11 arg12 arg13 arg14 arg15 arg16 f1 s b hc1)
      isplitl [H8]; · iexact H8
      isplitl [H11]; · iexact H11
      isplitl [H12]; · iexact H12
      isplitl [H13]; · iexact H13
      isplitl [H14]; · iexact H14
      isplitl [H15]; · iexact H15
      iexact H16
    iexact How
end T3

end Cert.Proof.KernelIdeal
-- ==== Proof.BodyI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.T3I
public import proofs.«01_k».proof.Proof.PreKI
public import proofs.«01_k».proof.Proof.PreVI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

/-- The closures of the step invariants: making ready, -/
def StepB (f1 : Buf (Elt F) (arg1.view.loc (c : Thread nD τ))) (f2 : Buf (Elt F) (arg2.view.loc (c : Thread nD τ)))
    (Inv : ℕ → ℕ → ℕ → FVec F S16x1 .f32 → Bufs (F := F) c arg8 arg11 arg12 arg13 arg14 arg15 arg16 → Prop) (St : ℕ → Bufs (F := F) c arg8 arg11 arg12 arg13 arg14 arg15 arg16 → Prop) : Prop :=
  ∀ (s : Fin k0_t3_loop.trips) (b : Bufs (F := F) c arg8 arg11 arg12 arg13 arg14 arg15 arg16), St s b →
    Inv s 0 0 (k0_pay49 (rdQ c arg1 s f1) (rdN c arg2 s f2) (rdM c arg12 s b.b12)) (begB c arg1 arg8 arg11 arg12 arg13 arg14 arg15 arg16 f1 s b)

/-- and storing the results. -/
def StepE (f0 : Buf (Elt F) (arg0.view.loc (c : Thread nD τ))) (f1 : Buf (Elt F) (arg1.view.loc (c : Thread nD τ))) (f2 : Buf (Elt F) (arg2.view.loc (c : Thread nD τ)))
    (f3 : Buf (Elt F) (arg3.view.loc (c : Thread nD τ))) (f4 : Buf (Elt F) (arg4.view.loc (c : Thread nD τ)))
    (Inv : ℕ → ℕ → ℕ → FVec F S16x1 .f32 → Bufs (F := F) c arg8 arg11 arg12 arg13 arg14 arg15 arg16 → Prop) (St : ℕ → Bufs (F := F) c arg8 arg11 arg12 arg13 arg14 arg15 arg16 → Prop) : Prop :=
  ∀ (s : Fin k0_t3_loop.trips) (b b' : Bufs (F := F) c arg8 arg11 arg12 arg13 arg14 arg15 arg16), St s b →
    Inv s (mK' c arg0 f0 s) (mV' c arg0 f0 s) (k0_pay49 (rdQ c arg1 s f1) (rdN c arg2 s f2) (rdM c arg12 s b.b12)) b' → St (s.val + 1) (endB c arg3 arg4 arg8 arg11 arg12 arg13 arg14 arg15 arg16 f3 f4 s
      (k0_pay47 (rdQ c arg1 s f1) (rdN c arg2 s f2)) (k0_pay48 (rdQ c arg1 s f1) (rdN c arg2 s f2) (rdM c arg12 s b.b12)) b')

/-- The rounded results. -/
def outB (f7 : Buf (Elt F) (arg7.view.loc (c : Thread nD τ))) (f16 : Buf (Elt F) (arg16.view.loc (c : Thread nD τ))) : Buf (Elt F) (arg7.view.loc (c : Thread nD τ)) :=
  arg7.view.writes (Elt F) f7 [⟨Rect.unit (s := S288x128) ![0, 0] S288x128.size inb_S288x128_S288x128_0_0,
    k0_pay10 (View.readAt (Elt F) arg16.view (Rect.unit (s := S288x128) ![0, 0] S288x128.size inb_S288x128_S288x128_0_0).toLoadRect f16)⟩]

section Body
variable (f0 : Buf (Elt F) (arg0.view.loc (c : Thread nD τ))) (f5 : Buf (Elt F) (arg5.view.loc (c : Thread nD τ))) (f6 : Buf (Elt F) (arg6.view.loc (c : Thread nD τ)))
  (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))
  (q5 q6 : Fin 12 → PosShare TreeShare) (q0 : PosShare TreeShare)
  (KP : ℕ → Buf (Elt F) (arg9.view.loc (c : Thread nD τ)) → Prop) (VP : ℕ → Buf (Elt F) (arg10.view.loc (c : Thread nD τ)) → Prop)
  (Inv : ℕ → ℕ → ℕ → FVec F S16x1 .f32 → Bufs (F := F) c arg8 arg11 arg12 arg13 arg14 arg15 arg16 → Prop)
  (St : ℕ → Bufs (F := F) c arg8 arg11 arg12 arg13 arg14 arg15 arg16 → Prop)

theorem before_zero (n : ℕ → ℕ) : before n 0 = 0 := rfl
theorem before_z1 (n : ℕ → ℕ) : before n (min 0 36) = 0 := rfl
theorem before_z2 (n : ℕ → ℕ) : before n (0 - 1) = 0 := rfl
theorem before_succ (n : ℕ → ℕ) (u : ℕ) : before n (u + 1) = before n u + n u := rfl

theorem kEnd (s : ℕ) (hs : s < 37) : before (nc c arg0 f0) (min s 36) + mK' c arg0 f0 s = before (nc c arg0 f0) (min (s + 1) 36) := by
  unfold mK'
  by_cases h : s < 36
  · rw [if_pos h, Nat.min_eq_left (by omega), Nat.min_eq_left (by omega), before_succ]
  · rw [if_neg h, Nat.min_eq_right (by omega), Nat.min_eq_right (by omega), Nat.add_zero]
theorem vEnd (s : ℕ) : before (nc c arg0 f0) (s - 1) + mV' c arg0 f0 s = before (nc c arg0 f0) (s + 1 - 1) := by
  unfold mV'
  by_cases h : 0 < s
  · obtain ⟨t, rfl⟩ : ∃ t, s = t + 1 := ⟨s - 1, by omega⟩
    rw [if_pos h]
    rfl
  · rw [if_neg h, Nat.add_zero]
    obtain rfl : s = 0 := by omega
    rfl

attribute [local irreducible] ch before

set_option maxHeartbeats 2000000 in
theorem t3_loop (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (hB : StepB c arg1 arg2 arg8 arg11 arg12 arg13 arg14 arg15 arg16 f1 f2 Inv St)
    (hE : StepE c arg0 arg1 arg2 arg3 arg4 arg8 arg11 arg12 arg13 arg14 arg15 arg16 f0 f1 f2 f3 f4 Inv St)
    {α : Type} {Q : α → sProp 𝕄} {kk : BitVec 32 × BitVec 32 × BitVec 32 × BitVec 32 × BitVec 32 × BitVec 32 → Prog (TpuEff nD τ sig (Elt F) Λ₀ .tc) α} :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0) ∗ Ring.AtW (stK c arg0 arg5 arg9 arg17 f0 f5 q5 KP) (cons 0) ∗ Ring.AtW (stV c arg0 arg6 arg10 arg18 f0 f6 q6 VP) (cons 0) ∗ (∃ b, ⌜St 0 b⌝ ∗ held c arg8 arg11 arg12 arg13 arg14 arg15 arg16 b) ∗ (∃ W, owes (c : Thread nD τ) 0 W))
    ⊢ iprop((∀ x, iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0) ∗ Ring.AtW (stK c arg0 arg5 arg9 arg17 f0 f5 q5 KP) (cons (before (nc c arg0 f0) (min 37 36))) ∗ Ring.AtW (stV c arg0 arg6 arg10 arg18 f0 f6 q6 VP) (cons (before (nc c arg0 f0) (37 - 1))) ∗ (∃ b, ⌜St 37 b⌝ ∗ held c arg8 arg11 arg12 arg13 arg14 arg15 arg16 b) ∗ (∃ W, owes (c : Thread nD τ) 0 W)) -∗ wp frame (wpE (defs₀ (F := F)) Variants.none c none) Set.univ (kk x) Q)
      -∗ wp frame (wpE (defs₀ (F := F)) Variants.none c none) Set.univ
        (Scf.Loop.for k0_t3_loop k0_t3_ok (0#32, 0#32, wd (ch (nc c arg0 f0) 12).1, wd (ch (nc c arg0 f0) 12).2, wd (ch (nc c arg0 f0) 12).1, wd (ch (nc c arg0 f0) 12).2)
          (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18) >>= kk) Q) := by
  iintro HI Hk
  have e37 : k0_t3_loop.trips = 37 := by decide
  sl_for (fun (s : ℕ) (a : BitVec 32 × BitVec 32 × BitVec 32 × BitVec 32 × BitVec 32 × BitVec 32) => iprop(iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0) ∗ Ring.AtW (stK c arg0 arg5 arg9 arg17 f0 f5 q5 KP) (cons (before (nc c arg0 f0) (min s 36))) ∗ Ring.AtW (stV c arg0 arg6 arg10 arg18 f0 f6 q6 VP) (cons (before (nc c arg0 f0) (s - 1))) ∗ (∃ b, ⌜St s b⌝ ∗ held c arg8 arg11 arg12 arg13 arg14 arg15 arg16 b) ∗ (∃ W, owes (c : Thread nD τ) 0 W)) ∗
    ⌜a = (slW (before (nc c arg0 f0) (min s 36)), slW (before (nc c arg0 f0) (s - 1)), nuW c arg0 f0 (before (nc c arg0 f0) (min s 36)), ncW c arg0 f0 (before (nc c arg0 f0) (min s 36)), nuW c arg0 f0 (before (nc c arg0 f0) (s - 1)), ncW c arg0 f0 (before (nc c arg0 f0) (s - 1)))⌝)) $$ [HI]
  case region =>
    intro s a
    iintro ⟨⟨H1, H2, H3, H4, H0, HK, HV, ⟨%b, %hb, Hb⟩, How⟩, %ha⟩
    subst ha
    have hs37 : s.val < 37 := Nat.lt_of_lt_of_eq s.isLt e37
    have hm : min s.val 36 = s.val := Nat.min_eq_left (by omega)
    have h1 := kEnd c arg0 f0 s hs37
    have h2 := vEnd c arg0 f0 s
    rw [hm] at h1
    have h := t3_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV s b (hB s b hb) (fun b' hb' => hE s b b' hb hb')
    rw [h1, h2] at h
    rw [hm]
    iapply wp_mono $$ [H0 H1 H2 H3 H4 HK HV Hb How]
    rotate_left
    · iapply h
      isplitl [H1]; · iexact H1
      isplitl [H2]; · iexact H2
      isplitl [H3]; · iexact H3
      isplitl [H4]; · iexact H4
      isplitl [H0]; · iexact H0
      isplitl [HK]; · iexact HK
      isplitl [HV]; · iexact HV
      isplitl [Hb]; · iexact Hb
      iexact How
    · intro x
      iintro ⟨H1, H2, H3, H4, H0, HK, HV, Hb, How, %hx⟩
      isplitr []
      · isplitl [H1]; · iexact H1
        isplitl [H2]; · iexact H2
        isplitl [H3]; · iexact H3
        isplitl [H4]; · iexact H4
        isplitl [H0]; · iexact H0
        isplitl [HK]; · iexact HK
        isplitl [HV]; · iexact HV
        isplitl [Hb]; · iexact Hb
        iexact How
      · ipureintro
        exact hx
  · rw [before_z1, before_z2]
    isplitl [HI]; · iexact HI
    ipureintro
    rfl
  iintro %a ⟨HI, %ha⟩
  have ht : Scf.trips k0_t3_loop.lb k0_t3_loop.ub k0_t3_loop.st = 37 := by decide
  rw [ht]
  ispecialize Hk $$ %a
  iapply Hk
  iexact HI

set_option maxHeartbeats 2000000 in
theorem body_run (hKP : LandsK c arg0 arg5 arg9 f0 f5 KP) (hVP : LandsV c arg0 arg6 arg10 f0 f6 VP)
    (hK : StepK c arg0 arg8 arg9 arg11 arg12 arg13 arg14 arg15 arg16 f0 KP Inv) (hV : StepV c arg0 arg8 arg10 arg11 arg12 arg13 arg14 arg15 arg16 f0 VP Inv)
    (hB : StepB c arg1 arg2 arg8 arg11 arg12 arg13 arg14 arg15 arg16 f1 f2 Inv St)
    (hE : StepE c arg0 arg1 arg2 arg3 arg4 arg8 arg11 arg12 arg13 arg14 arg15 arg16 f0 f1 f2 f3 f4 Inv St)
    (f7 : Buf (Elt F) (arg7.view.loc (c : Thread nD τ))) :
    iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
      ∗ Ring.AtW (stK c arg0 arg5 arg9 arg17 f0 f5 q5 KP) (pre 0) ∗ Ring.AtW (stV c arg0 arg6 arg10 arg18 f0 f6 q6 VP) (pre 0)
      ∗ (∃ b, ⌜St 0 b⌝ ∗ held c arg8 arg11 arg12 arg13 arg14 arg15 arg16 b) ∗ (∃ W, owes (c : Thread nD τ) 0 W) ∗ (arg7.view.loc (c : Thread nD τ) ↦{fullShare} f7))
    ⊢ wp frame (wpE (defs₀ (F := F)) Variants.none c none) Set.univ (cc0_gqa_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
      (fun _ => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg0.view.loc (c : Thread nD τ) ↦{q0} f0)
        ∗ Ring.AtW (stK c arg0 arg5 arg9 arg17 f0 f5 q5 KP) (cons (before (nc c arg0 f0) 36)) ∗ Ring.AtW (stV c arg0 arg6 arg10 arg18 f0 f6 q6 VP) (cons (before (nc c arg0 f0) 36))
        ∗ (∃ b, ⌜St 37 b⌝ ∗ held c arg8 arg11 arg12 arg13 arg14 arg15 arg16 b ∗ (∃ f7, arg7.view.loc (c : Thread nD τ) ↦{fullShare} outB c arg7 arg16 f7 b.b16)) ∗ (∃ W, owes (c : Thread nD τ) 0 W))) := by
  iintro ⟨H1, H2, H3, H4, H0, HK, HV, Hb, How, H7⟩
  sl_unfold [cc0_gqa_decode]
  iapply (t1_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 q5 q0 KP hKP) $$ [H0 HK]
  · isplitl [H0]; · iexact H0
    iexact HK
  iintro ⟨H0, HK⟩
  dsimp only
  iapply (t2_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f6 q6 q0 VP hVP) $$ [H0 HV]
  · isplitl [H0]; · iexact H0
    iexact HV
  iintro ⟨H0, HV⟩
  dsimp only
  iapply (t3_loop c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 q5 q6 q0 KP VP Inv St hKP hVP hK hV hB hE) $$ [H1 H2 H3 H4 H0 HK HV Hb How]
  · isplitl [H1]; · iexact H1
    isplitl [H2]; · iexact H2
    isplitl [H3]; · iexact H3
    isplitl [H4]; · iexact H4
    isplitl [H0]; · iexact H0
    isplitl [HK]; · iexact HK
    isplitl [HV]; · iexact HV
    isplitl [Hb]; · iexact Hb
    iexact How
  iintro %x HI
  icases HI with ⟨H1, H2, H3, H4, H0, HK, HV, ⟨%b, %hb, Hb⟩, How⟩
  icases (held_out c arg8 arg11 arg12 arg13 arg14 arg15 arg16 b) $$ Hb with ⟨H8, H11, H12, H13, H14, H15, H16⟩
  sl_exec
  sl_step
  isplitl [H1]; · iexact H1
  isplitl [H2]; · iexact H2
  isplitl [H3]; · iexact H3
  isplitl [H4]; · iexact H4
  isplitl [H0]; · iexact H0
  isplitl [HK]; · iexact HK
  isplitl [HV]; · iexact HV
  isplitr [How]
  · iexists b
    isplitr; · ipureintro; exact hb
    isplitr [H7]
    · unfold held
      isplitl [H8]; · iexact H8
      isplitl [H11]; · iexact H11
      isplitl [H12]; · iexact H12
      isplitl [H13]; · iexact H13
      isplitl [H14]; · iexact H14
      isplitl [H15]; · iexact H15
      iexact H16
    · unfold outB
      iexists _
      iexact H7
  iexact How
end Body

end Cert.Proof.KernelIdeal
-- ==== Proof.EndsI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.RingKI
public import proofs.«01_k».proof.Proof.RingVI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section K
variable (f0 : Buf (Elt F) (arg0.view.loc (c : Thread nD τ))) (f5 : Buf (Elt F) (arg5.view.loc (c : Thread nD τ)))
  (KP : ℕ → Buf (Elt F) (arg9.view.loc (c : Thread nD τ)) → Prop)

/-- Two slots share no element, -/
theorem slotK_disjoint (b b' : Fin 12) (h : b ≠ b') : Disjoint (slotK c arg9 b) (slotK c arg9 b') := by
  refine (Finset.disjoint_map _).mpr ?_
  exact Ring.lead_disjoint (s := S12x2048x128) (0 : Fin 3) 1 (fun s : Fin 12 => ![s.val, 0, 0]) S1x2048x128.size inbSlotK (fun b => (Nat.one_mul _).symm) rfl b b' h

/-- and the slots are the whole ring. -/
theorem slotK_cover (harg9 : arg9.IsWhole) : Finset.univ.biUnion (slotK c arg9) = Finset.univ := by
  have hc := Ring.lead_cover (s := S12x2048x128) (0 : Fin 3) 1 (fun s : Fin 12 => ![s.val, 0, 0]) S1x2048x128.size inbSlotK (fun b => (Nat.one_mul _).symm)
    (fun b a ha => by fin_cases a; exact absurd rfl ha; rfl; rfl) rfl (fun a ha => by fin_cases a; exact absurd rfl ha; rfl; rfl) rfl
  ext x
  simp only [Finset.mem_univ, iff_true]
  have hx : x ∈ arg9.view.set := by rw [harg9.set_eq_univ]; exact Finset.mem_univ x
  obtain ⟨y, -, rfl⟩ := Finset.mem_map.mp hx
  have hy : y ∈ Finset.univ.biUnion (fun b : Fin 12 => (Rect.unit (s := S12x2048x128) ![b.val, 0, 0] S1x2048x128.size (inbSlotK b)).set) := by
    rw [hc]; exact Finset.mem_univ y
  obtain ⟨b, hb, hyb⟩ := Finset.mem_biUnion.mp hy
  exact Finset.mem_biUnion.mpr ⟨b, hb, Finset.mem_map_of_mem _ hyb⟩

/-- Every slot free. -/
theorem idleK_all (q5 : Fin 12 → PosShare TreeShare) :
    (bigSep Finset.univ fun s => idleK c arg5 arg9 arg17 f5 q5 s)
      = iprop((bigSep Finset.univ fun s => semVal ((c : Thread nD τ), SemLoc.dma (semS arg17 s)) 0)
        ∗ (bigSep Finset.univ fun s => iprop(∃ f, arg9.view.loc (c : Thread nD τ) ↦[slotK c arg9 s]{fullShare} f))
        ∗ (bigSep Finset.univ fun s => (arg5.view.loc (c : Thread nD τ) ↦{q5 s} f5))) := by
  unfold idleK
  rw [bigSep_sep', bigSep_sep']

/-- The ring before the first chunk, from the buffers held whole. -/
theorem ringK_in (harg9 : arg9.IsWhole) (f9 : Buf (Elt F) (arg9.view.loc (c : Thread nD τ))) :
    iprop((bigSep Finset.univ fun s => semVal ((c : Thread nD τ), SemLoc.dma (semS arg17 s)) 0)
      ∗ (arg9.view.loc (c : Thread nD τ) ↦{fullShare} f9) ∗ (arg5.view.loc (c : Thread nD τ) ↦{fullShare} f5))
    ⊢ iprop(Ring.AtW (stK c arg0 arg5 arg9 arg17 f0 f5 (Transfers.shareTok fullShare 12) KP) (pre 0)
      ∗ (arg5.view.loc (c : Thread nD τ) ↦{Transfers.shareDrop fullShare 12} f5)) := by
  have e : Ring.AtW (stK c arg0 arg5 arg9 arg17 f0 f5 (Transfers.shareTok fullShare 12) KP) (pre 0)
      = bigSep Finset.univ fun s => idleK c arg5 arg9 arg17 f5 (Transfers.shareTok fullShare 12) s := by
    unfold Ring.AtW
    exact BI.bigSep_congr fun s _ => rfl
  have hm : BIBase.Entails (PROP := sProp 𝕄) (bigSep Finset.univ fun s => (arg9.view.loc (c : Thread nD τ) ↦[slotK c arg9 s]{fullShare} f9))
      (bigSep Finset.univ fun s => iprop(∃ f, arg9.view.loc (c : Thread nD τ) ↦[slotK c arg9 s]{fullShare} f)) := by
    refine BI.bigSep_mono fun s _ => ?_
    show BIBase.Entails (PROP := sProp 𝕄) _ _
    iintro H; iexists f9; iexact H
  have hm' : (arg9.view.loc (c : Thread nD τ) ↦{fullShare} f9 : sProp 𝕄) ⊢
      (bigSep Finset.univ fun s => iprop(∃ f, arg9.view.loc (c : Thread nD τ) ↦[slotK c arg9 s]{fullShare} f)) := by
    rw [Ring.pointsTo_blocks (slotK c arg9) (slotK_disjoint c arg9) (slotK_cover c arg9 harg9) f9]
    exact hm
  rw [e, idleK_all]
  iintro ⟨Hs, H9, H5⟩
  icases (Transfers.pointsTo_toks_split fullShare 12) $$ H5 with ⟨H5, Ht⟩
  isplitr [H5]
  · isplitl [Hs]; · iexact Hs
    isplitl [H9]
    · iapply hm'
      iexact H9
    iexact Ht
  iexact H5

/-- The ring after the last chunk, back to the buffers held whole. -/
theorem ringK_out (harg9 : arg9.IsWhole) (f9 : Buf (Elt F) (arg9.view.loc (c : Thread nD τ))) :
    iprop(Ring.AtW (stK c arg0 arg5 arg9 arg17 f0 f5 (Transfers.shareTok fullShare 12) KP) (cons (before (nc c arg0 f0) 36))
      ∗ (arg5.view.loc (c : Thread nD τ) ↦{Transfers.shareDrop fullShare 12} f5))
    ⊢ iprop((bigSep Finset.univ fun s => semVal ((c : Thread nD τ), SemLoc.dma (semS arg17 s)) 0)
      ∗ (∃ f, arg9.view.loc (c : Thread nD τ) ↦{fullShare} f) ∗ (arg5.view.loc (c : Thread nD τ) ↦{fullShare} f5)) := by
  have e : Ring.AtW (stK c arg0 arg5 arg9 arg17 f0 f5 (Transfers.shareTok fullShare 12) KP) (cons (before (nc c arg0 f0) 36))
      ⊢ bigSep Finset.univ fun s => idleK c arg5 arg9 arg17 f5 (Transfers.shareTok fullShare 12) s := by
    unfold Ring.AtW
    refine BI.bigSep_mono fun s _ => ?_
    refine stK_idle c arg0 arg5 arg9 arg17 f0 f5 _ KP s _ ?_
    rw [ch_dead (nc c arg0 f0) (nc_pos c arg0 f0) _ (Nat.le_add_right _ _)]
    exact Nat.lt_irrefl _
  rw [idleK_all] at e
  iintro ⟨HA, H5⟩
  icases e $$ HA with ⟨Hs, H9, Ht⟩
  isplitl [Hs]; · iexact Hs
  isplitl [H9]
  · iapply (Ring.pointsTo_blocks_join_exists (slotK c arg9) (slotK_disjoint c arg9) (slotK_cover c arg9 harg9) f9)
    iexact H9
  iapply (Transfers.pointsTo_toks_join fullShare 12)
  isplitl [H5]; · iexact H5
  iexact Ht
end K

section V
variable (f0 : Buf (Elt F) (arg0.view.loc (c : Thread nD τ))) (f6 : Buf (Elt F) (arg6.view.loc (c : Thread nD τ)))
  (VP : ℕ → Buf (Elt F) (arg10.view.loc (c : Thread nD τ)) → Prop)

/-- Two slots share no element, -/
theorem slotV_disjoint (b b' : Fin 12) (h : b ≠ b') : Disjoint (slotV c arg10 b) (slotV c arg10 b') := by
  refine (Finset.disjoint_map _).mpr ?_
  exact Ring.lead_disjoint (s := S12x128x2048) (0 : Fin 3) 1 (fun s : Fin 12 => ![s.val, 0, 0]) S1x128x2048.size inbSlotV (fun b => (Nat.one_mul _).symm) rfl b b' h

/-- and the slots are the whole ring. -/
theorem slotV_cover (harg10 : arg10.IsWhole) : Finset.univ.biUnion (slotV c arg10) = Finset.univ := by
  have hc := Ring.lead_cover (s := S12x128x2048) (0 : Fin 3) 1 (fun s : Fin 12 => ![s.val, 0, 0]) S1x128x2048.size inbSlotV (fun b => (Nat.one_mul _).symm)
    (fun b a ha => by fin_cases a; exact absurd rfl ha; rfl; rfl) rfl (fun a ha => by fin_cases a; exact absurd rfl ha; rfl; rfl) rfl
  ext x
  simp only [Finset.mem_univ, iff_true]
  have hx : x ∈ arg10.view.set := by rw [harg10.set_eq_univ]; exact Finset.mem_univ x
  obtain ⟨y, -, rfl⟩ := Finset.mem_map.mp hx
  have hy : y ∈ Finset.univ.biUnion (fun b : Fin 12 => (Rect.unit (s := S12x128x2048) ![b.val, 0, 0] S1x128x2048.size (inbSlotV b)).set) := by
    rw [hc]; exact Finset.mem_univ y
  obtain ⟨b, hb, hyb⟩ := Finset.mem_biUnion.mp hy
  exact Finset.mem_biUnion.mpr ⟨b, hb, Finset.mem_map_of_mem _ hyb⟩

/-- Every slot free. -/
theorem idleV_all (q6 : Fin 12 → PosShare TreeShare) :
    (bigSep Finset.univ fun s => idleV c arg6 arg10 arg18 f6 q6 s)
      = iprop((bigSep Finset.univ fun s => semVal ((c : Thread nD τ), SemLoc.dma (semS arg18 s)) 0)
        ∗ (bigSep Finset.univ fun s => iprop(∃ f, arg10.view.loc (c : Thread nD τ) ↦[slotV c arg10 s]{fullShare} f))
        ∗ (bigSep Finset.univ fun s => (arg6.view.loc (c : Thread nD τ) ↦{q6 s} f6))) := by
  unfold idleV
  rw [bigSep_sep', bigSep_sep']

/-- The ring before the first chunk, from the buffers held whole. -/
theorem ringV_in (harg10 : arg10.IsWhole) (f10 : Buf (Elt F) (arg10.view.loc (c : Thread nD τ))) :
    iprop((bigSep Finset.univ fun s => semVal ((c : Thread nD τ), SemLoc.dma (semS arg18 s)) 0)
      ∗ (arg10.view.loc (c : Thread nD τ) ↦{fullShare} f10) ∗ (arg6.view.loc (c : Thread nD τ) ↦{fullShare} f6))
    ⊢ iprop(Ring.AtW (stV c arg0 arg6 arg10 arg18 f0 f6 (Transfers.shareTok fullShare 12) VP) (pre 0)
      ∗ (arg6.view.loc (c : Thread nD τ) ↦{Transfers.shareDrop fullShare 12} f6)) := by
  have e : Ring.AtW (stV c arg0 arg6 arg10 arg18 f0 f6 (Transfers.shareTok fullShare 12) VP) (pre 0)
      = bigSep Finset.univ fun s => idleV c arg6 arg10 arg18 f6 (Transfers.shareTok fullShare 12) s := by
    unfold Ring.AtW
    exact BI.bigSep_congr fun s _ => rfl
  have hm : BIBase.Entails (PROP := sProp 𝕄) (bigSep Finset.univ fun s => (arg10.view.loc (c : Thread nD τ) ↦[slotV c arg10 s]{fullShare} f10))
      (bigSep Finset.univ fun s => iprop(∃ f, arg10.view.loc (c : Thread nD τ) ↦[slotV c arg10 s]{fullShare} f)) := by
    refine BI.bigSep_mono fun s _ => ?_
    show BIBase.Entails (PROP := sProp 𝕄) _ _
    iintro H; iexists f10; iexact H
  have hm' : (arg10.view.loc (c : Thread nD τ) ↦{fullShare} f10 : sProp 𝕄) ⊢
      (bigSep Finset.univ fun s => iprop(∃ f, arg10.view.loc (c : Thread nD τ) ↦[slotV c arg10 s]{fullShare} f)) := by
    rw [Ring.pointsTo_blocks (slotV c arg10) (slotV_disjoint c arg10) (slotV_cover c arg10 harg10) f10]
    exact hm
  rw [e, idleV_all]
  iintro ⟨Hs, H10, H5⟩
  icases (Transfers.pointsTo_toks_split fullShare 12) $$ H5 with ⟨H5, Ht⟩
  isplitr [H5]
  · isplitl [Hs]; · iexact Hs
    isplitl [H10]
    · iapply hm'
      iexact H10
    iexact Ht
  iexact H5

/-- The ring after the last chunk, back to the buffers held whole. -/
theorem ringV_out (harg10 : arg10.IsWhole) (f10 : Buf (Elt F) (arg10.view.loc (c : Thread nD τ))) :
    iprop(Ring.AtW (stV c arg0 arg6 arg10 arg18 f0 f6 (Transfers.shareTok fullShare 12) VP) (cons (before (nc c arg0 f0) 36))
      ∗ (arg6.view.loc (c : Thread nD τ) ↦{Transfers.shareDrop fullShare 12} f6))
    ⊢ iprop((bigSep Finset.univ fun s => semVal ((c : Thread nD τ), SemLoc.dma (semS arg18 s)) 0)
      ∗ (∃ f, arg10.view.loc (c : Thread nD τ) ↦{fullShare} f) ∗ (arg6.view.loc (c : Thread nD τ) ↦{fullShare} f6)) := by
  have e : Ring.AtW (stV c arg0 arg6 arg10 arg18 f0 f6 (Transfers.shareTok fullShare 12) VP) (cons (before (nc c arg0 f0) 36))
      ⊢ bigSep Finset.univ fun s => idleV c arg6 arg10 arg18 f6 (Transfers.shareTok fullShare 12) s := by
    unfold Ring.AtW
    refine BI.bigSep_mono fun s _ => ?_
    refine stV_idle c arg0 arg6 arg10 arg18 f0 f6 _ VP s _ ?_
    rw [ch_dead (nc c arg0 f0) (nc_pos c arg0 f0) _ (Nat.le_add_right _ _)]
    exact Nat.lt_irrefl _
  rw [idleV_all] at e
  iintro ⟨HA, H5⟩
  icases e $$ HA with ⟨Hs, H10, Ht⟩
  isplitl [Hs]; · iexact Hs
  isplitl [H10]
  · iapply (Ring.pointsTo_blocks_join_exists (slotV c arg10) (slotV_disjoint c arg10) (slotV_cover c arg10 harg10) f10)
    iexact H10
  iapply (Transfers.pointsTo_toks_join fullShare 12)
  isplitl [H5]; · iexact H5
  iexact Ht
end V

end Cert.Proof.KernelIdeal
-- ==== Proof.WholeI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.BodyI
public import proofs.«01_k».proof.Proof.EndsI

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

variable {F : FTy → Type} [FloatOps F]

local notation "𝕄" => MT nD τ sig Unit (Elt F) ℕ (UD sig nD τ) ℕ

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

/-- What a run is to be known by: an invariant of the ring slots and of the steps, closed under the run, and what it says of the results. -/
structure Invs (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (R5 : Buf (Elt F) (arg7.view.loc (c : Thread nD τ)) → Prop) (R6 : Buf (Elt F) (arg8.view.loc (c : Thread nD τ)) → Prop) where
  KP : ℕ → Buf (Elt F) (arg9.view.loc (c : Thread nD τ)) → Prop
  VP : ℕ → Buf (Elt F) (arg10.view.loc (c : Thread nD τ)) → Prop
  Inv : ℕ → ℕ → ℕ → FVec F S16x1 .f32 → Bufs (F := F) c arg8 arg11 arg12 arg13 arg14 arg15 arg16 → Prop
  St : ℕ → Bufs (F := F) c arg8 arg11 arg12 arg13 arg14 arg15 arg16 → Prop
  hKP : LandsK c arg0 arg5 arg9 f0 f5 KP
  hVP : LandsV c arg0 arg6 arg10 f0 f6 VP
  hK : StepK c arg0 arg8 arg9 arg11 arg12 arg13 arg14 arg15 arg16 f0 KP Inv
  hV : StepV c arg0 arg8 arg10 arg11 arg12 arg13 arg14 arg15 arg16 f0 VP Inv
  hB : StepB c arg1 arg2 arg8 arg11 arg12 arg13 arg14 arg15 arg16 f1 f2 Inv St
  hE : StepE c arg0 arg1 arg2 arg3 arg4 arg8 arg11 arg12 arg13 arg14 arg15 arg16 f0 f1 f2 f3 f4 Inv St
  h0 : ∀ b, St 0 b
  hend : ∀ b f7, St 37 b → R5 (outB c arg7 arg16 f7 b.b16) ∧ R6 b.b8

/-- Nothing need be known. -/
def Invs.trivial (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) : Invs c arg0 arg1 arg2 arg3 arg4 arg5 arg6 arg7 arg8 arg9 arg10 arg11 arg12 arg13 arg14 arg15 arg16 f0 f1 f2 f3 f4 f5 f6 (fun _ => True) (fun _ => True) where
  KP _ _ := True
  VP _ _ := True
  Inv _ _ _ _ _ := True
  St _ _ := True
  hKP := fun _ _ _ _ _ _ _ _ _ _ _ _ _ _ _ _ _ => True.intro
  hVP := fun _ _ _ _ _ _ _ _ _ _ _ _ _ _ _ _ _ => True.intro
  hK := fun _ _ _ _ _ _ _ _ _ _ => True.intro
  hV := fun _ _ _ _ _ _ _ _ _ _ _ => True.intro
  hB := fun _ _ _ => True.intro
  hE := fun _ _ _ _ _ => True.intro
  h0 := fun _ => True.intro
  hend := fun _ _ _ => ⟨True.intro, True.intro⟩

set_option maxHeartbeats 2000000 in
/-- The kernel over its buffers held whole. -/
theorem kern_run (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) {R5 : Buf (Elt F) (arg7.view.loc (c : Thread nD τ)) → Prop} {R6 : Buf (Elt F) (arg8.view.loc (c : Thread nD τ)) → Prop}
    (I : Invs c arg0 arg1 arg2 arg3 arg4 arg5 arg6 arg7 arg8 arg9 arg10 arg11 arg12 arg13 arg14 arg15 arg16 f0 f1 f2 f3 f4 f5 f6 R5 R6)
    (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) :
    (iprop((arg0.view.loc (c : Thread nD τ) ↦{fullShare} f0)
      ∗ (arg1.view.loc (c : Thread nD τ) ↦{fullShare} f1)
      ∗ (arg2.view.loc (c : Thread nD τ) ↦{fullShare} f2)
      ∗ (arg3.view.loc (c : Thread nD τ) ↦{fullShare} f3)
      ∗ (arg4.view.loc (c : Thread nD τ) ↦{fullShare} f4)
      ∗ (arg5.view.loc (c : Thread nD τ) ↦{fullShare} f5)
      ∗ (arg6.view.loc (c : Thread nD τ) ↦{fullShare} f6)
      ∗ (arg7.view.loc (c : Thread nD τ) ↦{fullShare} f7)
      ∗ (arg8.view.loc (c : Thread nD τ) ↦{fullShare} f8)
      ∗ (arg9.view.loc (c : Thread nD τ) ↦{fullShare} f9)
      ∗ (arg10.view.loc (c : Thread nD τ) ↦{fullShare} f10)
      ∗ (arg11.view.loc (c : Thread nD τ) ↦{fullShare} f11)
      ∗ (arg12.view.loc (c : Thread nD τ) ↦{fullShare} f12)
      ∗ (arg13.view.loc (c : Thread nD τ) ↦{fullShare} f13)
      ∗ (arg14.view.loc (c : Thread nD τ) ↦{fullShare} f14)
      ∗ (arg15.view.loc (c : Thread nD τ) ↦{fullShare} f15)
      ∗ (arg16.view.loc (c : Thread nD τ) ↦{fullShare} f16)
      ∗ (bigSep Finset.univ fun s => semVal ((c : Thread nD τ), SemLoc.dma (semS arg17 s)) 0)
      ∗ (bigSep Finset.univ fun s => semVal ((c : Thread nD τ), SemLoc.dma (semS arg18 s)) 0)
      ∗ (∃ W, owes (c : Thread nD τ) 0 W)) : sProp 𝕄)
    ⊢ wp frame (wpE (defs₀ (F := F)) Variants.none c none) Set.univ (cc0_gqa_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18)
      (fun _ => iprop((arg0.view.loc (c : Thread nD τ) ↦{fullShare} f0)
        ∗ (arg1.view.loc (c : Thread nD τ) ↦{fullShare} f1)
        ∗ (arg2.view.loc (c : Thread nD τ) ↦{fullShare} f2)
        ∗ (arg3.view.loc (c : Thread nD τ) ↦{fullShare} f3)
        ∗ (arg4.view.loc (c : Thread nD τ) ↦{fullShare} f4)
        ∗ (arg5.view.loc (c : Thread nD τ) ↦{fullShare} f5)
        ∗ (arg6.view.loc (c : Thread nD τ) ↦{fullShare} f6)
        ∗ (∃ f, ⌜R5 f⌝ ∗ (arg7.view.loc (c : Thread nD τ) ↦{fullShare} f))
        ∗ (∃ f, ⌜R6 f⌝ ∗ (arg8.view.loc (c : Thread nD τ) ↦{fullShare} f))
        ∗ (∃ f, (arg9.view.loc (c : Thread nD τ) ↦{fullShare} f))
        ∗ (∃ f, (arg10.view.loc (c : Thread nD τ) ↦{fullShare} f))
        ∗ (∃ f, (arg11.view.loc (c : Thread nD τ) ↦{fullShare} f))
        ∗ (∃ f, (arg12.view.loc (c : Thread nD τ) ↦{fullShare} f))
        ∗ (∃ f, (arg13.view.loc (c : Thread nD τ) ↦{fullShare} f))
        ∗ (∃ f, (arg14.view.loc (c : Thread nD τ) ↦{fullShare} f))
        ∗ (∃ f, (arg15.view.loc (c : Thread nD τ) ↦{fullShare} f))
        ∗ (∃ f, (arg16.view.loc (c : Thread nD τ) ↦{fullShare} f))
        ∗ (bigSep Finset.univ fun s => semVal ((c : Thread nD τ), SemLoc.dma (semS arg17 s)) 0)
        ∗ (bigSep Finset.univ fun s => semVal ((c : Thread nD τ), SemLoc.dma (semS arg18 s)) 0)
        ∗ (∃ W, owes (c : Thread nD τ) 0 W))) := by
  iintro ⟨H0, H1, H2, H3, H4, H5, H6, H7, H8, H9, H10, H11, H12, H13, H14, H15, H16, HsK, HsV, How⟩
  icases (ringK_in c arg0 arg5 arg9 arg17 f0 f5 I.KP harg9 f9) $$ [HsK H9 H5] with ⟨HK, H5⟩
  · isplitl [HsK]; · iexact HsK
    isplitl [H9]; · iexact H9
    iexact H5
  icases (ringV_in c arg0 arg6 arg10 arg18 f0 f6 I.VP harg10 f10) $$ [HsV H10 H6] with ⟨HV, H6⟩
  · isplitl [HsV]; · iexact HsV
    isplitl [H10]; · iexact H10
    iexact H6
  iapply wp_wand $$ [H0 H1 H2 H3 H4 H7 H8 H11 H12 H13 H14 H15 H16 HK HV How]
  · iapply (body_run c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 f0 f5 f6 f1 f2 f3 f4 (Transfers.shareTok fullShare 12) (Transfers.shareTok fullShare 12) fullShare I.KP I.VP I.Inv I.St I.hKP I.hVP I.hK I.hV I.hB I.hE f7)
    isplitl [H1]; · iexact H1
    isplitl [H2]; · iexact H2
    isplitl [H3]; · iexact H3
    isplitl [H4]; · iexact H4
    isplitl [H0]; · iexact H0
    isplitl [HK]; · iexact HK
    isplitl [HV]; · iexact HV
    isplitl [H8 H11 H12 H13 H14 H15 H16]
    · iexists (⟨f8, f11, f12, f13, f14, f15, f16⟩ : Bufs (F := F) c arg8 arg11 arg12 arg13 arg14 arg15 arg16)
      isplitr; · ipureintro; exact I.h0 _
      unfold held
      isplitl [H8]; · iexact H8
      isplitl [H11]; · iexact H11
      isplitl [H12]; · iexact H12
      isplitl [H13]; · iexact H13
      isplitl [H14]; · iexact H14
      isplitl [H15]; · iexact H15
      iexact H16
    isplitl [How]; · iexact How
    iexact H7
  iintro %x ⟨H1, H2, H3, H4, H0, HK, HV, ⟨%b, %hb, Hb, ⟨%g7, H7⟩⟩, How⟩
  icases (held_out c arg8 arg11 arg12 arg13 arg14 arg15 arg16 b) $$ Hb with ⟨H8, H11, H12, H13, H14, H15, H16⟩
  icases (ringK_out c arg0 arg5 arg9 arg17 f0 f5 I.KP harg9 f9) $$ [HK H5] with ⟨HsK, H9, H5⟩
  · isplitl [HK]; · iexact HK
    iexact H5
  icases (ringV_out c arg0 arg6 arg10 arg18 f0 f6 I.VP harg10 f10) $$ [HV H6] with ⟨HsV, H10, H6⟩
  · isplitl [HV]; · iexact HV
    iexact H6
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; · ipureintro; exact (I.hend b g7 hb).1
    iexact H7
  isplitl [H8]
  · iexists _; isplitr; · ipureintro; exact (I.hend b g7 hb).2
    iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HsK]; · iexact HsK
  isplitl [HsV]; · iexact HsV
  iexact How

end Cert.Proof.KernelIdeal
-- ==== Proof.LaunchI.lean ====
module

public import proofs.«01_k».proof.Proof.Gen.KernelIdeal.Loops
public import proofs.«01_k».proof.Proof.Words
public import proofs.«01_k».proof.Proof.Seq
public import proofs.«01_k».proof.Proof.Xfer
public import Idealize.ShloMosaic.Lib.Ring
public import Idealize.ShloMosaic.Lib.Pipeline.FrameSuffixR
public import Idealize.ShloMosaic.Lib.LoopRemainder
public import proofs.«01_k».proof.Proof.WholeI
public import proofs.«01_k».proof.Proof.Gen.KernelIdeal.Launch
public import proofs.«01_k».proof.Proof.Gen.KernelIdeal.Frame

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

open Idealize.ShloMosaic.Pipeline (RDat Dat Cfg Window)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The kernel's own semaphores: one for each slot of the two rings. -/
abbrev osem : Fin 12 ⊕ Fin 12 → SemLoc sig :=
  Sum.elim (fun s => SemLoc.dma ⟨7 + s.val, by have := s.isLt; show _ < 31; omega⟩) (fun s => SemLoc.dma ⟨19 + s.val, by have := s.isLt; show _ < 31; omega⟩)

theorem ownSemFacts : Pipeline.OwnSemFacts spec0 osem := by decide

theorem semS8 (s : Fin 12) : semS cc0_scratch8 s = ⟨7 + s.val, by have := s.isLt; show _ < 31; omega⟩ := by fin_cases s <;> rfl
theorem semS9 (s : Fin 12) : semS cc0_scratch9 s = ⟨19 + s.val, by have := s.isLt; show _ < 31; omega⟩ := by fin_cases s <;> rfl

theorem ownSems0_eq (c : Dev nD) :
    (Pipeline.ownSems0 (Ix := Unit) (Name := ℕ) (U := UD sig nD τ) (Lvl := ℕ) (Val := Elt F) (τ := τ) osem c : sProp 𝕄)
      = iprop((bigSep Finset.univ fun s => semVal ((c : Thread nD τ), SemLoc.dma (semS cc0_scratch8 s)) 0)
        ∗ (bigSep Finset.univ fun s => semVal ((c : Thread nD τ), SemLoc.dma (semS cc0_scratch9 s)) 0)) := by
  unfold Pipeline.ownSems0
  rw [BI.bigSep_univ_sum]
  simp only [semS8, semS9]
  rfl

/-- The two caches, which stay where they are. -/
def H0 : Finset (Ref sig .tc) := {main_arg3, main_arg4}
theorem H0_sub : H0 ⊆ Pipeline.restRefs sig spec0 := by decide

theorem hbm_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg4) ↦{fullShare} V m c main_arg4)) := by
  rw [BI.bigSep_eq_bigSepL_of_eq [main_arg3, main_arg4] (by decide) (by decide)]; rfl

theorem PhiD_eq (c : Dev nD) :
    (Pipeline.ΦD osem spec0 H0 (V m) c : sProp 𝕄)
      = iprop(Pipeline.scopedRest (Ix := Unit) (Name := ℕ) (U := UD sig nD τ) (Lvl := ℕ) (Val := Elt F) spec0 c ∗ (∃ r, prngReg c r)
          ∗ iprop((bigSep Finset.univ fun s => semVal ((c : Thread nD τ), SemLoc.dma (semS cc0_scratch8 s)) 0)
            ∗ (bigSep Finset.univ fun s => semVal ((c : Thread nD τ), SemLoc.dma (semS cc0_scratch9 s)) 0))
          ∗ iprop((((c : Thread nD τ).loc main_arg3) ↦{fullShare} V m c main_arg3) ∗ (((c : Thread nD τ).loc main_arg4) ↦{fullShare} V m c main_arg4))) := by
  rw [Pipeline.ΦD_eq, ownSems0_eq, hbm_eq]

/-! What is known of the two results. -/
variable (R5 : (c : Dev nD) → ((cfg0.win 5).block.Idx → Elt F (cfg0.win 5).elt) → Prop) (R6 : (c : Dev nD) → ((cfg0.win 6).block.Idx → Elt F (cfg0.win 6).elt) → Prop)

/-- The pipeline's proof data: each array at its contents on entry, the results at what is known of them. -/
def rdat (c : Dev nD) : RDat τ (Elt F) Unit ℕ (UD sig nD τ) ℕ cfg0 c where
  A w := V m c (Pipeline.arrRef spec0 w)
  after w _ _ X := match w, X with
    | ⟨5, _⟩, X => R5 c X
    | ⟨6, _⟩, X => R6 c X
    | _, _ => True
  Φ _ := Pipeline.ΦD osem spec0 H0 (V m) c
  q _ := fullShare
  owed _ := 0

theorem A_eq (c : Dev nD) (w : Fin cfg0.W) : (rdat m R5 R6 c).A w = V m c (Pipeline.arrRef spec0 w) := by dsimp only [rdat]

/-- What the body needs: whatever the fetched windows hold, a run can be followed to the results. -/
def Follows (c : Dev nD) : Prop := ∀ Y : (w : Fin cfg0.W) → (cfg0.win w).block.Idx → Elt F (cfg0.win w).elt,
  (∀ w, (rdat m R5 R6 c).Finds w t0_0 (Y w)) →
  Nonempty (Invs c (Memref.whole cc0_stg0_0) (Memref.whole cc0_stg1_0) (Memref.whole cc0_stg2_0) (Memref.whole cc0_stg3_0) (Memref.whole cc0_stg4_0) (Memref.whole main_arg3) (Memref.whole main_arg4) (Memref.whole cc0_stg5_0) (Memref.whole cc0_stg6_0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Y 0) (Y 1) (Y 2) (Y 3) (Y 4) (V m c main_arg3) (V m c main_arg4) (R5 c) (R6 c))

set_option maxHeartbeats 2000000 in
theorem body_obligation (c : Dev nD) (h : Follows m R5 R6 c) : (rdat m R5 R6 c).BodyObligation (defs₀ (F := F)) Variants.none () Set.univ := fun t Y hY => by
  obtain rfl := fin_N0 t
  obtain ⟨I⟩ := h Y hY
  rw [bigSep_W0, bigSep_W0]
  simp only [owns_whole_eq]
  rw [show (rdat m R5 R6 c).Φ t0_0.castSucc = Pipeline.ΦD osem spec0 H0 (V m) c from rfl, show (rdat m R5 R6 c).Φ t0_0.succ = Pipeline.ΦD osem spec0 H0 (V m) c from rfl, PhiD_eq]
  unfold RDat.owesAt Pipeline.owesWithin; rw [scopedRest0_eq]
  rw [show (rdat m R5 R6 c).owed t0_0.castSucc = 0 from rfl, show (rdat m R5 R6 c).owed t0_0.succ = 0 from rfl]
  iintro ⟨⟨⟨⟨%g9, H9⟩, ⟨%g10, H10⟩, ⟨%g11, H11⟩, ⟨%g12, H12⟩, ⟨%g13, H13⟩, ⟨%g14, H14⟩, ⟨%g15, H15⟩, ⟨%g16, H16⟩⟩, Hp, ⟨HsK, HsV⟩, ⟨H5, H6⟩⟩, ⟨%W, %hW, HO⟩,
    ⟨%y0, %e0, H0⟩, ⟨%y1, %e1, H1⟩, ⟨%y2, %e2, H2⟩, ⟨%y3, %e3, H3⟩, ⟨%y4, %e4, H4⟩, ⟨%y7, %e7, H7⟩, ⟨%y8, %e8, H8⟩⟩
  subst e0; subst e1; subst e2; subst e3; subst e4
  iapply wp_wand $$ [H0 H1 H2 H3 H4 H5 H6 H7 H8 H9 H10 H11 H12 H13 H14 H15 H16 HsK HsV HO]
  · iapply (kern_run c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole main_arg3) (Memref.isWhole_whole _) (Memref.whole main_arg4) (Memref.isWhole_whole _) (Memref.whole cc0_stg5_0) (Memref.isWhole_whole _) (Memref.whole cc0_stg6_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 _ _ _ _ _ (V m c main_arg3) (V m c main_arg4) I y7 y8 g9 g10 g11 g12 g13 g14 g15 g16)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HsK]; · iexact HsK
    isplitl [HsV]; · iexact HsV
    iexists W; iexact HO
  iintro %x ⟨H0, H1, H2, H3, H4, H5, H6, ⟨%z7, %hz7, H7⟩, ⟨%z8, %hz8, H8⟩, H9, H10, H11, H12, H13, H14, H15, H16, HsK, HsV, ⟨%W', HO⟩⟩
  isplitl [Hp H5 H6 H9 H10 H11 H12 H13 H14 H15 H16 HsK HsV]
  · isplitl [H9 H10 H11 H12 H13 H14 H15 H16]
    · isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [Hp]; · iexact Hp
    isplitl [HsK HsV]
    · isplitl [HsK]; · iexact HsK
      iexact HsV
    isplitl [H5]; · iexact H5
    iexact H6
  isplitl [HO]
  · iexists W'; isplitr; · ipureintro; exact fun _ _ => Or.inl trivial
    iexact HO
  isplitl [H0]
  · iexists (Y 0); isplitr; · ipureintro; exact True.intro
    iexists (Y 0); isplitr; swap; · iexact H0
    ipureintro; rfl
  isplitl [H1]
  · iexists (Y 1); isplitr; · ipureintro; exact True.intro
    iexists (Y 1); isplitr; swap; · iexact H1
    ipureintro; rfl
  isplitl [H2]
  · iexists (Y 2); isplitr; · ipureintro; exact True.intro
    iexists (Y 2); isplitr; swap; · iexact H2
    ipureintro; rfl
  isplitl [H3]
  · iexists (Y 3); isplitr; · ipureintro; exact True.intro
    iexists (Y 3); isplitr; swap; · iexact H3
    ipureintro; rfl
  isplitl [H4]
  · iexists (Y 4); isplitr; · ipureintro; exact True.intro
    iexists (Y 4); isplitr; swap; · iexact H4
    ipureintro; rfl
  isplitl [H7]
  · iexists z7; isplitr; · ipureintro; exact hz7
    iexists z7; isplitr; swap; · iexact H7
    ipureintro; rfl
  iexists z8; isplitr; · ipureintro; exact hz8
  iexists z8; isplitr; swap; · iexact H8
  ipureintro; rfl

/-- The host operations before the kernel. -/
theorem hmainD (𝒱₀ : Variants) : Pipeline.HMain (Ix := Unit) (Name := ℕ) (U := UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run of the whole program. -/
theorem run_main (h : ∀ c, Follows m R5 R6 c) :
    θ_run defs (onTc (τ := τ) (main (F := F))) (s₀ m ρ)
      (fun r => Pipeline.RDat.FramePost (cfgs 0) (fun c => rdat m R5 R6 c) (V m) r ∧ r.2.sem = fun _ => 0) :=
  Pipeline.RDat.θ_run_frame_dma (Q' := _) cfgs (0 : Fin 1) launch0 osem defs₀ Variants.none (fun c => rdat m R5 R6 c) ownSemFacts H0 H0_sub m ρ main
    (hbody := fun c => body_obligation m R5 R6 c (h c)) (hshare := fun c w => by unfold RDat.share; split <;> rfl)
    (howed := fun _ _ => rfl) (V := V m) (hmain := hmainD m Variants.none) (hA := A_eq m R5 R6)
    (hin := fun _ => .rfl) (hout := fun _ => .rfl)

/-- The arguments are left as they were, and no semaphore is left raised. -/
theorem args_of {r : PUnit × MemSt nD τ sig (Elt F)} (h : Pipeline.RDat.FramePost (cfgs 0) (fun c => rdat m R5 R6 c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 0 rfl).trans ((A_eq m R5 R6 c 0).trans (V_main_arg6 m c))⟩

/-- Every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_of m _ _ h.1, h.2⟩) (run_main m ρ (fun _ _ => True) (fun _ _ => True) fun c Y _ => ⟨Invs.trivial c (Memref.whole cc0_stg0_0) (Memref.whole cc0_stg1_0) (Memref.whole cc0_stg2_0) (Memref.whole cc0_stg3_0) (Memref.whole cc0_stg4_0) (Memref.whole main_arg3) (Memref.whole main_arg4) (Memref.whole cc0_stg5_0) (Memref.whole cc0_stg6_0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) _ _ _ _ _ _ _⟩)

end Cert.Proof.KernelIdeal
-- ==== Proof.VPay.lean ====
/- What the payloads of the kernel are on the extended reals, element by element. -/
module

public import proofs.«01_k».proof.Proof.LaunchI
public import Idealize.ShloMosaic.Lib.ValueIdx
public import Idealize.ShloMosaic.Lib.ValueLayout
public import Idealize.ShloMosaic.Lib.ValueLayoutCasts
public import Idealize.ShloMosaic.Lib.ValueIdxCoords
public import Idealize.ShloMosaic.Lib.MatmulPlain
public import Idealize.ShloMosaic.Lib.Pipeline.Value
public import Idealize.ShloMosaic.Lib.IdealHost

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

/-- The scale of the scores, -/
def scl : EReal := Ideal.ofBits .f32 0x3DB504F3#32
/-- the largest code, -/
def c448 : EReal := Ideal.ofBits .f32 0x43E00000#32
/-- and the constant that undoes it. -/
def r448 : EReal := Ideal.ofBits .f32 0x3B124925#32

theorem ofBits_bot : Ideal.ofBits .f32 0xFF800000#32 = (⊥ : EReal) := by
  simp [Ideal.ofBits, Ideal.ieee]
theorem ofBits_zero : Ideal.ofBits .f32 0x00000000#32 = (0 : EReal) := by
  simp [Ideal.ofBits, Ideal.ieee]

/-- A number as an index below `n`. -/
def cl (n : ℕ) (h : 0 < n) (i : ℕ) : Fin n := ⟨i % n, Nat.mod_lt _ h⟩
/-- A row of the sixteen belongs to one of eight heads. -/
def r8 (r : Fin 16) : Fin 8 := ⟨r.val % 8, Nat.mod_lt _ (by decide)⟩

theorem cat_left {n m1 m2 m : ℕ} {α : Type} (x : (⟨2, ![n, m1]⟩ : Shape).Idx → α) (y : (⟨2, ![n, m2]⟩ : Shape).Idx → α)
    (h : Shape.Concatenates [⟨2, ![n, m1]⟩, ⟨2, ![n, m2]⟩] ⟨2, ![n, m]⟩ 1) (i : Fin n) (k : Fin m) (k' : Fin m1) (hk : k'.val = k.val) :
    concatenate ⟨2, ![n, m]⟩ 1 [⟨⟨2, ![n, m1]⟩, x⟩, ⟨⟨2, ![n, m2]⟩, y⟩] h (ix2 i k) = x (ix2 i k') := by
  refine concatenate_pair_apply_left _ x y h _ rfl _ (fun b => ?_)
  match b with
  | ⟨0, _⟩ => rfl
  | ⟨1, _⟩ => exact hk
theorem cat_right {n m1 m2 m : ℕ} {α : Type} (x : (⟨2, ![n, m1]⟩ : Shape).Idx → α) (y : (⟨2, ![n, m2]⟩ : Shape).Idx → α)
    (h : Shape.Concatenates [⟨2, ![n, m1]⟩, ⟨2, ![n, m2]⟩] ⟨2, ![n, m]⟩ 1) (i : Fin n) (k : Fin m) (k' : Fin m2) (hk : k'.val + m1 = k.val) :
    concatenate ⟨2, ![n, m]⟩ 1 [⟨⟨2, ![n, m1]⟩, x⟩, ⟨⟨2, ![n, m2]⟩, y⟩] h (ix2 i k) = y (ix2 i k') := by
  refine concatenate_pair_apply_right _ x y h _ rfl rfl _ (fun b hb => ?_) hk
  match b with
  | ⟨0, _⟩ => rfl
  | ⟨1, _⟩ => exact absurd rfl hb
theorem cat0_left {n1 n2 n m : ℕ} {α : Type} (x : (⟨2, ![n1, m]⟩ : Shape).Idx → α) (y : (⟨2, ![n2, m]⟩ : Shape).Idx → α)
    (h : Shape.Concatenates [⟨2, ![n1, m]⟩, ⟨2, ![n2, m]⟩] ⟨2, ![n, m]⟩ 0) (i : Fin n) (k : Fin m) (i' : Fin n1) (hk : i'.val = i.val) :
    concatenate ⟨2, ![n, m]⟩ 0 [⟨⟨2, ![n1, m]⟩, x⟩, ⟨⟨2, ![n2, m]⟩, y⟩] h (ix2 i k) = x (ix2 i' k) := by
  refine concatenate_pair_apply_left _ x y h _ rfl _ (fun b => ?_)
  match b with
  | ⟨0, _⟩ => exact hk
  | ⟨1, _⟩ => rfl
theorem cat0_right {n1 n2 n m : ℕ} {α : Type} (x : (⟨2, ![n1, m]⟩ : Shape).Idx → α) (y : (⟨2, ![n2, m]⟩ : Shape).Idx → α)
    (h : Shape.Concatenates [⟨2, ![n1, m]⟩, ⟨2, ![n2, m]⟩] ⟨2, ![n, m]⟩ 0) (i : Fin n) (k : Fin m) (i' : Fin n2) (hk : i'.val + n1 = i.val) :
    concatenate ⟨2, ![n, m]⟩ 0 [⟨⟨2, ![n1, m]⟩, x⟩, ⟨⟨2, ![n2, m]⟩, y⟩] h (ix2 i k) = y (ix2 i' k) := by
  refine concatenate_pair_apply_right _ x y h _ rfl rfl _ (fun b hb => ?_) hk
  match b with
  | ⟨0, _⟩ => exact absurd rfl hb
  | ⟨1, _⟩ => rfl

theorem cast_ab_11ab {a b : ℕ} {α : Type} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp)
theorem cast_11ab_ab {a b : ℕ} {α : Type} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)
theorem cast_self2 {a b : ℕ} {α : Type} (x : (⟨2, ![a, b]⟩ : Shape).Idx → α)
    (h : (⟨2, ![a, b]⟩ : Shape).ShapeCasts ⟨2, ![a, b]⟩) (i : (⟨2, ![a, b]⟩ : Shape).Idx) : shapeCast ⟨2, ![a, b]⟩ x h i = x i :=
  shapeCast_apply x h _ _ rfl

theorem sum_halves {M : Type} [AddCommMonoid M] {n : ℕ} (f : Fin (n + n) → M) :
    ∑ k, f k = (∑ d : Fin n, f ⟨d.val, by omega⟩) + ∑ d : Fin n, f ⟨n + d.val, by omega⟩ :=
  Fin.sum_univ_add f

theorem pay29_apply (a b : Vec Ideal S1x1024x128 .bf16) (q : Vec Ideal S1x16x256 .bf16) (w : Fin 8 → Fin 128 → EReal)
    (hq : ∀ (r : Fin 16) (k : Fin 256), q (ix3 0 r k) = if (r.val < 8 ↔ k.val < 128) then w (r8 r) ⟨k.val % 128, Nat.mod_lt _ (by decide)⟩ else 0)
    (r : Fin 16) (i : Fin 1024) :
    k0_pay29 (F := Ideal) a b q (ix2 r i) = (∑ d : Fin 128, w (r8 r) d * (if r.val < 8 then a (ix3 0 i d) else b (ix3 0 i d))) * scl := by
  unfold k0_pay29
  refine (mulf_apply _ _ _).trans (congrArg (· * scl) ?_)
  refine (Ideal.matmul_transposedRhs_apply (M := 16) (K := 256) (N := 1024) none _ _ _ r i).trans ?_
  refine (congrArg₂ (· + ·) (show _ = (0 : EReal) from ofBits_zero) (sum_halves (n := 128) _)).trans ?_
  have e1 : ∀ d : Fin 128, concatenate S1024x256 1 [⟨S1024x128, shapeCast S1024x128 a shapeCasts_S1x1024x128_S1024x128⟩, ⟨S1024x128, shapeCast S1024x128 b shapeCasts_S1x1024x128_S1024x128⟩] concatenates_S1024x128_S1024x128_S1024x256_d1 (ix2 i ⟨d.val, by omega⟩) = a (ix3 0 i d) := fun d =>
    (cat_left (n := 1024) (m1 := 128) (m2 := 128) (m := 256) _ _ _ i _ d rfl).trans (shapeCast_1ab_ab_apply _ _ i d)
  have e2 : ∀ d : Fin 128, concatenate S1024x256 1 [⟨S1024x128, shapeCast S1024x128 a shapeCasts_S1x1024x128_S1024x128⟩, ⟨S1024x128, shapeCast S1024x128 b shapeCasts_S1x1024x128_S1024x128⟩] concatenates_S1024x128_S1024x128_S1024x256_d1 (ix2 i ⟨128 + d.val, by omega⟩) = b (ix3 0 i d) := fun d =>
    (cat_right (n := 1024) (m1 := 128) (m2 := 128) (m := 256) _ _ _ i _ d (Nat.add_comm _ _)).trans (shapeCast_1ab_ab_apply _ _ i d)
  have e3 : ∀ k : Fin 256, shapeCast S16x256 q shapeCasts_S1x16x256_S16x256 (ix2 r k) = _ := fun k => (shapeCast_1ab_ab_apply _ _ r k).trans (hq r k)
  simp only [zero_add]
  by_cases hr : r.val < 8
  · have h1 : ∀ d : Fin 128, (⟨d.val % 128, Nat.mod_lt _ (by decide)⟩ : Fin 128) = d := fun d => Fin.ext (Nat.mod_eq_of_lt d.isLt)
    refine (congrArg₂ (· + ·) (Finset.sum_congr rfl fun d _ => congrArg₂ (· * ·) (e3 _) (e1 d)) (Finset.sum_congr rfl fun d _ => congrArg₂ (· * ·) (e3 _) (e2 d))).trans ?_
    simp [hr, h1]
  · have h1 : ∀ d : Fin 128, (⟨d.val % 128, Nat.mod_lt _ (by decide)⟩ : Fin 128) = d := fun d => Fin.ext (Nat.mod_eq_of_lt d.isLt)
    refine (congrArg₂ (· + ·) (Finset.sum_congr rfl fun d _ => congrArg₂ (· * ·) (e3 _) (e1 d)) (Finset.sum_congr rfl fun d _ => congrArg₂ (· * ·) (e3 _) (e2 d))).trans ?_
    simp [hr, h1]

theorem slt_iff (a b : BitVec 32) : (IntOp.cmpi .slt a b = 1#1) ↔ a.toInt < b.toInt := by
  by_cases h : a.toInt < b.toInt <;> simp [IntOp.cmpi, BitVec.slt_eq_decide, h]

theorem pay1_apply (r : Fin 16) (i : Fin 1024) : (k0_pay1 (ix2 r i)) = BitVec.ofNat 32 (i.val + 1024 * (r.val / 8)) := by
  have h : k0_pay1 (ix2 r i) = IntOp.addi (BitVec.ofNat 32 (0 * 1024 + i.val)) (Scalar.select (IntOp.cmpi .sge (BitVec.ofNat 32 (0 * 16 + r.val)) 8#32) 1024#32 0#32) := by
    unfold k0_pay1
    rfl
  simp only [h, Nat.zero_mul, Nat.zero_add]
  fin_cases r <;> simp [IntOp.cmpi, IntOp.addi, Scalar.select, BitVec.ofNat_add]

theorem pay30_apply (n : ℕ) (len : BitVec 32) (hn : n < chunksN (lenN len)) (r : Fin 16) (i : Fin 1024) :
    (k0_pay30 (F := Ideal) k0_pay1 (BitVec.ofNat 32 n) len (ix2 r i) = 1#1) ↔ ((2048 * n + 1024 * (r.val / 8) + i.val : ℕ) : ℤ) < len.toInt := by
  have h : k0_pay30 (F := Ideal) k0_pay1 (BitVec.ofNat 32 n) len (ix2 r i)
      = IntOp.cmpi .slt (k0_pay1 (ix2 r i)) (Scalar.subi (Scalar.minsi len 16384#32) (Scalar.muli (BitVec.ofNat 32 n) 2048#32)) := rfl
  have hc := chunksN_le len
  have h0 : ((16384#32 : BitVec 32).toInt) = 16384 := by decide
  have h1 : ((2048#32 : BitVec 32).toInt) = 2048 := by decide
  have hL := BitVec.le_toInt len
  have hL' := BitVec.toInt_lt (x := len)
  have hd : n = 0 ∨ (2048 * n : ℤ) < min len.toInt 16384 := by
    unfold chunksN lenN at hn; omega
  have hm : (Scalar.muli (BitVec.ofNat 32 n) 2048#32).toInt = n * 2048 := by
    rw [toInt_muli _ _ (by rw [toInt_ofNat32 _ (by omega), h1]; omega) (by rw [toInt_ofNat32 _ (by omega), h1]; omega), toInt_ofNat32 _ (by omega), h1]
  have hmin : (Scalar.minsi len 16384#32).toInt = min len.toInt 16384 := by rw [toInt_minsi, h0]
  rw [h, slt_iff, pay1_apply, toInt_ofNat32 _ (by omega), toInt_subi _ _ (by rw [hmin, hm]; simp at hL; omega) (by rw [hmin, hm]; omega), hmin, hm]
  push_cast
  omega

theorem pay31_apply (s : FVec Ideal S16x1024 .f32) (m : IVec S16x1024 1) (j : S16x1024.Idx) :
    k0_pay31 (F := Ideal) s m j = if m j = 1#1 then s j else ⊥ := by
  show Scalar.select (m j) (s j) (Ideal.ofBits .f32 0xFF800000#32) = _
  rw [ofBits_bot]; rfl

theorem pay32_apply (s : FVec Ideal S16x1024 .f32) (m : IVec S16x1024 1) (r : Fin 16) (i : Fin 1024) :
    k0_pay32 (F := Ideal) s m (ix4 0 0 r i) = k0_pay31 (F := Ideal) s m (ix2 r i) := by
  unfold k0_pay32
  exact cast_ab_11ab (a := 16) (b := 1024) _ _ r i

theorem pay33_le (s : FVec Ideal S16x1024 .f32) (m : IVec S16x1024 1) (f : Vec Ideal S1x16x128 .f32) (r : Fin 16) (l : Fin 128) (x : EReal) :
    k0_pay33 (F := Ideal) s m f (ix3 0 r l) ≤ x ↔ f (ix3 0 r l) ≤ x ∧ ∀ j : Fin 8, k0_pay31 (F := Ideal) s m (ix2 r ⟨128 * j.val + l.val, by omega⟩) ≤ x := by
  have hs : ∀ (o : ℕ) (ho : o + l.val < 1024) (h : S16x1024.Slices ![0, o] S16x128), extractStridedSlice S16x128 ![0, o] (k0_pay31 (F := Ideal) s m) h (ix2 r l) = k0_pay31 (F := Ideal) s m (ix2 r ⟨o + l.val, ho⟩) :=
    fun o ho h => slice2_axis1_apply (n0 := 16) (n1 := 1024) (m := 128) o _ h r l _ rfl
  unfold k0_pay33
  refine Iff.trans (iff_of_eq (congrArg (· ≤ x) (shapeCast_ab_1ab_apply (a := 16) (b := 128) _ _ 0 r l))) ?_
  simp only [maximumf_apply]
  rw [hs 0 (by omega), hs 128 (by omega), hs 256 (by omega), hs 384 (by omega), hs 512 (by omega), hs 640 (by omega), hs 768 (by omega), hs 896 (by omega), show shapeCast S16x128 f shapeCasts_S1x16x128_S16x128 (ix2 r l) = f (ix3 0 r l) from shapeCast_1ab_ab_apply (a := 16) (b := 128) _ _ r l]
  simp only [max_le_iff, Fin.forall_fin_succ, Fin.forall_fin_zero]
  simp [and_assoc]

theorem pay39_apply (v : FVec Ideal S16x1 .f32) (f : Vec Ideal S1x1x16x1024 .f32) (r : Fin 16) (i : Fin 1024) :
    k0_pay39 (F := Ideal) v f (ix2 r i) = Ideal.exp (f (ix4 0 0 r i) - v (ix2 r 0)) := by
  have e1 : shapeCast S16x1024 f shapeCasts_S1x1x16x1024_S16x1024 (ix2 r i) = f (ix4 0 0 r i) := cast_11ab_ab (a := 16) (b := 1024) _ _ r i
  have e2 : broadcastTo S16x1024 v broadcasts_S16x1_S16x1024 (ix2 r i) = v (ix2 r 0) := by
    refine broadcastTo_apply _ _ _ _ (fun a => ?_)
    match a with
    | ⟨0, _⟩ => rfl
    | ⟨1, _⟩ => rfl
  show Ideal.exp (shapeCast S16x1024 f shapeCasts_S1x1x16x1024_S16x1024 (ix2 r i) - broadcastTo S16x1024 v broadcasts_S16x1_S16x1024 (ix2 r i)) = _
  rw [e1, e2]

theorem pay40_apply (v : FVec Ideal S16x1 .f32) (f : Vec Ideal S1x1x16x1024 .f32) (g : Vec Ideal S16x128 .f32) (r : Fin 16) (l : Fin 128) :
    k0_pay40 (F := Ideal) v f g (ix2 r l) = g (ix2 r l) + ∑ j : Fin 8, k0_pay39 (F := Ideal) v f (ix2 r ⟨128 * j.val + l.val, by omega⟩) := by
  have hs : ∀ (o : ℕ) (ho : o + l.val < 1024) (h : S16x1024.Slices ![0, o] S16x128), extractStridedSlice S16x128 ![0, o] (k0_pay39 (F := Ideal) v f) h (ix2 r l) = k0_pay39 (F := Ideal) v f (ix2 r ⟨o + l.val, ho⟩) :=
    fun o ho h => slice2_axis1_apply (n0 := 16) (n1 := 1024) (m := 128) o _ h r l _ rfl
  unfold k0_pay40
  refine (cast_self2 (a := 16) (b := 128) _ _ (ix2 r l)).trans ?_
  simp only [addf_apply]
  rw [hs 0 (by omega), hs 128 (by omega), hs 256 (by omega), hs 384 (by omega), hs 512 (by omega), hs 640 (by omega), hs 768 (by omega), hs 896 (by omega)]
  simp [Fin.sum_univ_succ, add_assoc]

theorem pay41_apply (v : FVec Ideal S16x1 .f32) (f : Vec Ideal S1x1x16x1024 .f32) (w : Vec Ideal S1x128x2048 .fp8e4m3) (d : Fin 128) (r : Fin 8) :
    k0_pay41 (F := Ideal) v f w (ix2 d r) = ∑ e : Fin 2048, w (ix3 0 d e) * min (k0_pay39 (F := Ideal) v f (ix2 (⟨8 * (e.val / 1024) + r.val, by omega⟩ : Fin 16) (⟨e.val % 1024, Nat.mod_lt _ (by decide)⟩ : Fin 1024)) * c448) c448 := by
  unfold k0_pay41
  refine (Ideal.matmul_transposedRhs_apply (M := 128) (K := 2048) (N := 8) none _ _ _ d r).trans ?_
  refine (congrArg₂ (· + ·) (show _ = (0 : EReal) from ofBits_zero) (Finset.sum_congr rfl fun e _ => congrArg₂ (· * ·) (shapeCast_1ab_ab_apply (a := 128) (b := 2048) _ _ d e) ?_)).trans (zero_add _)
  refine congrArg (fun y => min (y * c448) c448) ?_
  by_cases he : e.val < 1024
  · refine (cat_left (n := 8) (m1 := 1024) (m2 := 1024) (m := 2048) _ _ _ r e ⟨e.val, he⟩ rfl).trans ?_
    refine (slice2_axis0_apply (n0 := 16) (n1 := 1024) (m := 8) 0 _ _ r _ ⟨r.val, by omega⟩ (by simp)).trans ?_
    congr 2
    · apply Fin.ext; simp; omega
    · apply Fin.ext; simp; omega
  · refine (cat_right (n := 8) (m1 := 1024) (m2 := 1024) (m := 2048) _ _ _ r e ⟨e.val - 1024, by omega⟩ (by simp; omega)).trans ?_
    refine (slice2_axis0_apply (n0 := 16) (n1 := 1024) (m := 8) 8 _ _ r _ ⟨8 + r.val, by omega⟩ rfl).trans ?_
    congr 2
    · apply Fin.ext; simp; omega
    · apply Fin.ext; simp; omega

theorem pay42_apply (f g : FVec Ideal S128x8 .f32) (j : S128x8.Idx) : k0_pay42 (F := Ideal) f g j = f j + g j := by
  unfold k0_pay42
  exact cast_self2 (a := 128) (b := 8) _ _ j

theorem bc_1b_ab {a b : ℕ} {α : Type} (v : (⟨2, ![1, b]⟩ : Shape).Idx → α) (h : (⟨2, ![1, b]⟩ : Shape).Broadcasts ⟨2, ![a, b]⟩) (i : Fin a) (j : Fin b) :
    broadcastTo ⟨2, ![a, b]⟩ v h (ix2 i j) = v (ix2 0 j) := broadcastTo_1b_ab_apply v h i j
theorem bc_8x1 (v : FVec Ideal S8x1 .f32) (r : Fin 8) (d : Fin 128) : broadcastTo S8x128 v broadcasts_S8x1_S8x128 (ix2 r d) = v (ix2 r 0) := by
  refine broadcastTo_apply _ _ _ _ (fun a => ?_)
  match a with
  | ⟨0, _⟩ => rfl
  | ⟨1, _⟩ => rfl

theorem lift8 (r : Fin 8) (d : Fin 128) : reduces_S8x128_S8.lift (ix1 r) d = (ix2 r d : S8x128.Idx) := by
  funext a; apply Fin.ext
  match a with
  | ⟨0, _⟩ => rfl
  | ⟨1, _⟩ => rfl
theorem lift16 (r : Fin 16) (d : Fin 128) : reduces_S16x128_S16.lift (ix1 r) d = (ix2 r d : S16x128.Idx) := by
  funext a; apply Fin.ext
  match a with
  | ⟨0, _⟩ => rfl
  | ⟨1, _⟩ => rfl

theorem pay47_apply (q : Vec Ideal S1x8x128 .f32) (k : Vec Ideal S1x1x128 .f32) (r : Fin 8) :
    k0_pay47 (F := Ideal) q k (ix2 r 0) = (∑ d : Fin 128, q (ix3 0 r d) * k (ix3 0 0 d)) * scl := by
  unfold k0_pay47
  refine (mulf_apply _ _ _).trans (congrArg (· * scl) ?_)
  refine (shapeCast_a_a1_apply (a := 8) _ _ r 0).trans ?_
  refine (Ideal.multiReduction_add_single _ _ reduces_S8x128_S8 _ _ (ix1 r)).trans (Finset.sum_congr rfl fun d _ => ?_)
  refine (congrArg _ (lift8 r d)).trans ?_
  refine (mulf_apply _ _ _).trans ?_
  exact congrArg₂ (· * ·) (shapeCast_1ab_ab_apply (a := 8) (b := 128) _ _ r d) ((bc_1b_ab (a := 8) (b := 128) _ _ r d).trans (shapeCast_1ab_ab_apply (a := 1) (b := 128) _ _ 0 d))

theorem pay48_le (q : Vec Ideal S1x8x128 .f32) (k : Vec Ideal S1x1x128 .f32) (f : Vec Ideal S1x16x128 .f32) (r : Fin 8) (x : EReal) :
    k0_pay48 (F := Ideal) q k f (ix2 r 0) ≤ x ↔ (∀ h : Fin 2, ∀ l : Fin 128, f (ix3 0 ⟨8 * h.val + r.val, by omega⟩ l) ≤ x) ∧ k0_pay47 (F := Ideal) q k (ix2 r 0) ≤ x := by
  have hm : ∀ R : Fin 16, ∀ x, shapeCast S16x1 (multiReduction .maximumf [1] S16 (shapeCast S16x128 f shapeCasts_S1x16x128_S16x128) 0xFF800000#32 reduces_S16x128_S16 (.inl rfl) rfl : FVec Ideal S16 .f32) shapeCasts_S16_S16x1 (ix2 R 0) ≤ x ↔ ∀ l : Fin 128, f (ix3 0 R l) ≤ x := by
    intro R x
    rw [show shapeCast S16x1 (multiReduction .maximumf [1] S16 (shapeCast S16x128 f shapeCasts_S1x16x128_S16x128) 0xFF800000#32 reduces_S16x128_S16 (.inl rfl) rfl : FVec Ideal S16 .f32) shapeCasts_S16_S16x1 (ix2 R 0) = _ from shapeCast_a_a1_apply (a := 16) _ _ R 0]
    rw [show (multiReduction .maximumf [1] S16 (shapeCast S16x128 f shapeCasts_S1x16x128_S16x128) 0xFF800000#32 reduces_S16x128_S16 (.inl rfl) rfl : FVec Ideal S16 .f32) (ix1 R) = _ from Ideal.multiReduction_maximumf_single _ _ reduces_S16x128_S16 _ _ (ix1 R)]
    rw [Finset.fold_max_le]
    refine ⟨fun h l => ?_, fun h => ⟨by show Ideal.ofBits .f32 0xFF800000#32 ≤ x; rw [ofBits_bot]; exact bot_le, fun l _ => ?_⟩⟩
    · have := h.2 l (Finset.mem_univ _)
      exact ((congrArg _ (lift16 R l)).trans (shapeCast_1ab_ab_apply (a := 16) (b := 128) _ _ R l)).symm.trans_le this
    · exact ((congrArg _ (lift16 R l)).trans (shapeCast_1ab_ab_apply (a := 16) (b := 128) _ _ R l)).trans_le (h l)
  unfold k0_pay48
  simp only [maximumf_apply, max_le_iff]
  refine and_congr_left fun _ => ?_
  rw [show ∀ X : FVec Ideal S16x1 .f32, extractStridedSlice S8x1 ![0, 0] X slices_S16x1_o0_0_S8x1 (ix2 r 0) = X (ix2 ⟨r.val, by omega⟩ 0) from fun X => slice2_axis0_apply (n0 := 16) (n1 := 1) (m := 8) 0 X _ r 0 _ (by simp)]
  rw [show ∀ X : FVec Ideal S16x1 .f32, extractStridedSlice S8x1 ![8, 0] X slices_S16x1_o8_0_S8x1 (ix2 r 0) = X (ix2 ⟨8 + r.val, by omega⟩ 0) from fun X => slice2_axis0_apply (n0 := 16) (n1 := 1) (m := 8) 8 X _ r 0 _ rfl]
  rw [hm, hm, Fin.forall_fin_two]
  simp

theorem pay49_apply (q : Vec Ideal S1x8x128 .f32) (k : Vec Ideal S1x1x128 .f32) (f : Vec Ideal S1x16x128 .f32) (r : Fin 16) :
    k0_pay49 (F := Ideal) q k f (ix2 r 0) = k0_pay48 (F := Ideal) q k f (ix2 (r8 r) 0) := by
  unfold k0_pay49
  by_cases hr : r.val < 8
  · exact cat0_left (n1 := 8) (n2 := 8) (n := 16) (m := 1) _ _ _ r 0 (r8 r) (by simp [r8]; omega)
  · exact cat0_right (n1 := 8) (n2 := 8) (n := 16) (m := 1) _ _ _ r 0 (r8 r) (by simp [r8]; omega)

theorem pay7_apply (sn m : FVec Ideal S8x1 .f32) (g : Vec Ideal S16x128 .f32) (r : Fin 8) :
    k0_pay7 (F := Ideal) sn m g (ix2 r 0) = ((∑ l : Fin 128, g (ix2 ⟨r.val, by omega⟩ l)) + ∑ l : Fin 128, g (ix2 ⟨8 + r.val, by omega⟩ l)) + Ideal.exp (sn (ix2 r 0) - m (ix2 r 0)) := by
  have hm : ∀ R : Fin 16, shapeCast S16x1 (multiReduction .add [1] S16 g 0x00000000#32 reduces_S16x128_S16 (.inl rfl) rfl : FVec Ideal S16 .f32) shapeCasts_S16_S16x1 (ix2 R 0) = ∑ l : Fin 128, g (ix2 R l) := fun R =>
    (shapeCast_a_a1_apply (a := 16) _ _ R 0).trans ((Ideal.multiReduction_add_single _ _ reduces_S16x128_S16 _ _ (ix1 R)).trans (Finset.sum_congr rfl fun d _ => congrArg g (lift16 R d)))
  unfold k0_pay7
  refine (addf_apply _ _ _).trans (congrArg₂ (· + ·) ((addf_apply _ _ _).trans (congrArg₂ (· + ·) ?_ ?_)) rfl)
  · exact (slice2_axis0_apply (n0 := 16) (n1 := 1) (m := 8) 0 _ _ r 0 ⟨r.val, by omega⟩ (by simp)).trans (hm _)
  · exact (slice2_axis0_apply (n0 := 16) (n1 := 1) (m := 8) 8 _ _ r 0 ⟨8 + r.val, by omega⟩ rfl).trans (hm _)

theorem pay8_apply (sn m : FVec Ideal S8x1 .f32) (g : Vec Ideal S16x128 .f32) (a : Vec Ideal S128x8 .f32) (s : Vec Ideal S1x1x128 .f32) (r : Fin 8) (d : Fin 128) :
    k0_pay8 (F := Ideal) sn m g a s (ix2 r d) = Ideal.div (a (ix2 d r) * r448 * s (ix3 0 0 d)) (k0_pay7 (F := Ideal) sn m g (ix2 r 0)) := by
  unfold k0_pay8
  refine (divf_apply _ _ _).trans (congrArg₂ Ideal.div ((mulf_apply _ _ _).trans (congrArg₂ (· * ·) ((mulf_apply _ _ _).trans (congrArg (· * r448) ?_)) ?_)) (bc_8x1 _ r d))
  · exact transpose_ix2_apply (a := 128) (b := 8) _ _ r d
  · exact (bc_1b_ab (a := 8) (b := 128) _ _ r d).trans (shapeCast_1ab_ab_apply (a := 1) (b := 128) _ _ 0 d)

theorem pay9_apply (sn m : FVec Ideal S8x1 .f32) (g : Vec Ideal S16x128 .f32) (a : Vec Ideal S128x8 .f32) (s t : Vec Ideal S1x1x128 .f32) (r : Fin 8) (d : Fin 128) :
    k0_pay9 (F := Ideal) sn m g a s t (ix2 r d) = k0_pay8 (F := Ideal) sn m g a s (ix2 r d) + Ideal.div (Ideal.exp (sn (ix2 r 0) - m (ix2 r 0)) * t (ix3 0 0 d)) (k0_pay7 (F := Ideal) sn m g (ix2 r 0)) := by
  unfold k0_pay9
  refine (cast_self2 (a := 8) (b := 128) _ _ _).trans ((addf_apply _ _ _).trans (congrArg (k0_pay8 (F := Ideal) sn m g a s (ix2 r d) + ·) ?_))
  refine (divf_apply _ _ _).trans (congrArg₂ Ideal.div ((mulf_apply _ _ _).trans (congrArg₂ (· * ·) ?_ ?_)) (bc_8x1 _ r d))
  · exact (bc_8x1 _ r d).trans rfl
  · exact (bc_1b_ab (a := 8) (b := 128) _ _ r d).trans (shapeCast_1ab_ab_apply (a := 1) (b := 128) _ _ 0 d)

theorem pay2_apply (q : Vec Ideal S1x8x128 .f32) (r : Fin 16) (k : Fin 256) :
    k0_pay2 (F := Ideal) q (ix3 0 r k) = if (r.val < 8 ↔ k.val < 128) then q (ix3 0 (r8 r) ⟨k.val % 128, Nat.mod_lt _ (by decide)⟩) else 0 := by
  unfold k0_pay2
  refine (shapeCast_ab_1ab_apply (a := 16) (b := 256) _ _ 0 r k).trans ((truncf_apply _ bitsLt_bf16_f32 _).trans ?_)
  have ek : ∀ h : k.val < 128, (⟨k.val % 128, Nat.mod_lt _ (by decide)⟩ : Fin 128) = ⟨k.val, h⟩ := fun h => Fin.ext (Nat.mod_eq_of_lt h)
  have ek' : ∀ h : ¬ k.val < 128, (⟨k.val % 128, Nat.mod_lt _ (by decide)⟩ : Fin 128) = ⟨k.val - 128, by omega⟩ := fun h => Fin.ext (by simp; omega)
  by_cases hr : r.val < 8
  · refine (cat0_left (n1 := 8) (n2 := 8) (n := 16) (m := 256) _ _ _ r k (r8 r) (by simp [r8]; omega)).trans ?_
    by_cases hk : k.val < 128
    · refine (cat_left (n := 8) (m1 := 128) (m2 := 128) (m := 256) _ _ _ (r8 r) k ⟨k.val, hk⟩ rfl).trans ?_
      rw [if_pos (by tauto), ek hk]
      exact shapeCast_1ab_ab_apply (a := 8) (b := 128) _ _ (r8 r) ⟨k.val, hk⟩
    · refine (cat_right (n := 8) (m1 := 128) (m2 := 128) (m := 256) _ _ _ (r8 r) k ⟨k.val - 128, by omega⟩ (by simp; omega)).trans ?_
      rw [if_neg (by tauto)]
      exact ofBits_zero
  · refine (cat0_right (n1 := 8) (n2 := 8) (n := 16) (m := 256) _ _ _ r k (r8 r) (by simp [r8]; omega)).trans ?_
    by_cases hk : k.val < 128
    · refine (cat_left (n := 8) (m1 := 128) (m2 := 128) (m := 256) _ _ _ (r8 r) k ⟨k.val, hk⟩ rfl).trans ?_
      rw [if_neg (by tauto)]
      exact ofBits_zero
    · refine (cat_right (n := 8) (m1 := 128) (m2 := 128) (m := 256) _ _ _ (r8 r) k ⟨k.val - 128, by omega⟩ (by simp; omega)).trans ?_
      rw [if_pos (by tauto), ek' hk]
      exact shapeCast_1ab_ab_apply (a := 8) (b := 128) _ _ (r8 r) ⟨k.val - 128, by omega⟩

theorem pay3_apply (r : Fin 16) (l : Fin 128) : k0_pay3 (F := Ideal) (ix3 0 r l) = ⊥ := by
  unfold k0_pay3
  exact (shapeCast_ab_1ab_apply (a := 16) (b := 128) _ _ 0 r l).trans ofBits_bot
theorem pay4_apply (j : S128x8.Idx) : k0_pay4 (F := Ideal) j = 0 := by
  unfold k0_pay4
  exact (cast_self2 (a := 128) (b := 8) _ _ j).trans ofBits_zero
theorem pay5_apply (j : S16x128.Idx) : k0_pay5 (F := Ideal) j = 0 := by
  unfold k0_pay5
  exact (cast_self2 (a := 16) (b := 128) _ _ j).trans ofBits_zero
theorem pay10_apply (f : Vec Ideal S288x128 .f32) (j : S288x128.Idx) : k0_pay10 (F := Ideal) f j = f j := rfl

end Cert.Proof.KernelIdeal
-- ==== Proof.VSpec.lean ====
/- The attention the kernel computes, as plain sums, maxima and exponentials over a unit (a sequence and a head), and the steps by
   which the kernel reaches them: scores by chunk, the maximum by lanes, the sum by blocks. -/
module

public import proofs.«01_k».proof.Proof.VPay

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

theorem sum_blocks {M : Type} [AddCommMonoid M] (f : ℕ → M) (a b : ℕ) :
    ∑ t ∈ Finset.range (a * b), f t = ∑ i ∈ Finset.range a, ∑ j ∈ Finset.range b, f (b * i + j) := by
  induction a with
  | zero => simp
  | succ a ih => rw [Nat.succ_mul, Finset.sum_range_add, ih, Finset.sum_range_succ, Nat.mul_comm a b]

section Spec
variable (len : ℕ → ℤ) (Q : S36x8x128.Idx → EReal) (KN VN VS : S36x1x128.Idx → EReal) (K : S3x12x16384x128.Idx → EReal) (V : S3x12x128x16384.Idx → EReal)

/-- The key of a token, -/
def kI (u t : ℕ) (d : Fin 128) : S3x12x16384x128.Idx := ix4 (cl 3 (by decide) (u / 12)) (cl 12 (by decide) u) (cl 16384 (by decide) t) d
/-- its value, -/
def vI (u t : ℕ) (d : Fin 128) : S3x12x128x16384.Idx := ix4 (cl 3 (by decide) (u / 12)) (cl 12 (by decide) u) d (cl 16384 (by decide) t)
/-- a unit's query -/
def qI (u : ℕ) (r : Fin 8) (d : Fin 128) : S36x8x128.Idx := ix3 (cl 36 (by decide) u) r d
/-- and its new token. -/
def nI (u : ℕ) (d : Fin 128) : S36x1x128.Idx := ix3 (cl 36 (by decide) u) (0 : Fin 1) d

/-- The score of a token of the cache, -/
def sc (u : ℕ) (r : Fin 8) (t : ℕ) : EReal := if (t : ℤ) < len (u / 12) then (∑ d : Fin 128, Q (qI u r d) * K (kI u t d)) * scl else ⊥
/-- of the new one, -/
def sn (u : ℕ) (r : Fin 8) : EReal := (∑ d : Fin 128, Q (qI u r d) * KN (nI u d)) * scl
/-- the largest, -/
def mxm (u : ℕ) (r : Fin 8) : EReal := max ((Finset.range 16384).sup (sc len Q K u r)) (sn Q KN u r)
/-- the weights, -/
def pr (u : ℕ) (r : Fin 8) (t : ℕ) : EReal := Ideal.exp (sc len Q K u r t - mxm len Q KN K u r)
def pn (u : ℕ) (r : Fin 8) : EReal := Ideal.exp (sn Q KN u r - mxm len Q KN K u r)
/-- their sum, -/
def den (u : ℕ) (r : Fin 8) : EReal := (∑ t ∈ Finset.range 16384, pr len Q KN K u r t) + pn len Q KN K u r
/-- a token's part of the weighted sum, -/
def ap (u : ℕ) (r : Fin 8) (d : Fin 128) (t : ℕ) : EReal := V (vI u t d) * min (pr len Q KN K u r t * c448) c448
def acc (u : ℕ) (r : Fin 8) (d : Fin 128) : EReal := ∑ t ∈ Finset.range 16384, ap len Q KN K V u r d t
/-- and the results. -/
def oc (u : ℕ) (r : Fin 8) (d : Fin 128) : EReal := Ideal.div (acc len Q KN K V u r d * r448 * VS (nI u d)) (den len Q KN K u r)
def ot (u : ℕ) (r : Fin 8) (d : Fin 128) : EReal :=
  oc len Q KN VS K V u r d + Ideal.div (pn len Q KN K u r * VN (nI u d)) (den len Q KN K u r)

theorem mxm_le (u : ℕ) (r : Fin 8) (x : EReal) : mxm len Q KN K u r ≤ x ↔ (∀ t, t < 16384 → sc len Q K u r t ≤ x) ∧ sn Q KN u r ≤ x := by
  simp [mxm, Finset.sup_le_iff]

theorem sc_dead (u : ℕ) (r : Fin 8) (t : ℕ) (h : len (u / 12) ≤ t) : sc len Q K u r t = ⊥ := if_neg (by omega)
theorem pr_dead (u : ℕ) (r : Fin 8) (t : ℕ) (h : len (u / 12) ≤ t) : pr len Q KN K u r t = 0 := by
  unfold pr; rw [sc_dead _ _ _ _ _ _ h, EReal.bot_sub, Ideal.exp_bot]
theorem ap_zero (u : ℕ) (r : Fin 8) (d : Fin 128) (t : ℕ) (h : pr len Q KN K u r t = 0) (v : EReal) : v * min (pr len Q KN K u r t * c448) c448 = 0 := by
  have h0 : (0 : EReal) ≤ c448 := by unfold c448; simp [Ideal.ofBits, Ideal.ieee]; try positivity
  rw [h, zero_mul, min_eq_left h0, mul_zero]

/-- The maximum in the order the kernel takes it, -/
theorem mxm_of (u : ℕ) (r : Fin 8) (n : ℕ) (hn : n ≤ 8) (hl : min (len (u / 12)) 16384 ≤ 2048 * n) (m : EReal)
    (h : ∀ x, m ≤ x ↔ (∀ hh : Fin 2, ∀ l : Fin 128, ∀ k, k < n → ∀ j : Fin 8, sc len Q K u r (2048 * k + 1024 * hh.val + 128 * j.val + l.val) ≤ x) ∧ sn Q KN u r ≤ x) :
    m = mxm len Q KN K u r := by
  refine eq_of_forall_ge_iff fun x => ?_
  rw [h, mxm_le]
  refine and_congr_left fun _ => ⟨fun H t ht => ?_, fun H hh l k hk j => H _ (by omega)⟩
  by_cases hd : (t : ℤ) < len (u / 12)
  · have := H ⟨t / 1024 % 2, by omega⟩ ⟨t % 128, by omega⟩ (t / 2048) (by omega) ⟨t / 128 % 8, by omega⟩
    have e : 2048 * (t / 2048) + 1024 * (t / 1024 % 2) + 128 * (t / 128 % 8) + t % 128 = t := by omega
    simpa only [e] using this
  · rw [sc_dead _ _ _ _ _ _ (by omega)]; exact bot_le

theorem sum_live (f : ℕ → EReal) (n : ℕ) (hn : n ≤ 8) (L : ℤ) (hl : min L 16384 ≤ 2048 * n) (h : ∀ t : ℕ, L ≤ t → f t = 0) :
    ∑ t ∈ Finset.range 16384, f t = ∑ k ∈ Finset.range n, ∑ e ∈ Finset.range 2048, f (2048 * k + e) := by
  rw [← sum_blocks]
  refine (Finset.sum_subset (fun x hx => ?_) fun x hx hx' => h x ?_).symm
  · simp only [Finset.mem_range] at *; omega
  · simp only [Finset.mem_range] at *; omega

/-- the sum in the order the kernel takes it. -/
theorem sum_lanes (f : ℕ → EReal) (n : ℕ) (hn : n ≤ 8) (L : ℤ) (hl : min L 16384 ≤ 2048 * n) (h : ∀ t : ℕ, L ≤ t → f t = 0) :
    (∑ l : Fin 128, ∑ k ∈ Finset.range n, ∑ j : Fin 8, f (2048 * k + 128 * j.val + l.val)) + (∑ l : Fin 128, ∑ k ∈ Finset.range n, ∑ j : Fin 8, f (2048 * k + 1024 + 128 * j.val + l.val))
      = ∑ t ∈ Finset.range 16384, f t := by
  rw [sum_live f n hn L hl h, Finset.sum_comm, Finset.sum_comm (s := (Finset.univ : Finset (Fin 128))), ← Finset.sum_add_distrib]
  refine Finset.sum_congr rfl fun k _ => ?_
  rw [show (2048 : ℕ) = 2 * 1024 from rfl, sum_blocks, Finset.sum_range_succ, Finset.sum_range_one]
  have e : ∀ g : ℕ → EReal, ∑ l : Fin 128, ∑ j : Fin 8, g (128 * j.val + l.val) = ∑ x ∈ Finset.range 1024, g x := fun g => by
    rw [show (1024 : ℕ) = 8 * 128 from rfl, sum_blocks, Finset.sum_comm, Finset.sum_range]
    exact Finset.sum_congr rfl fun j _ => (Finset.sum_range fun x => g (128 * j.val + x)).symm
  refine congrArg₂ (· + ·) ?_ ?_
  · refine Eq.trans ?_ (e fun x => f (2 * 1024 * k + (1024 * 0 + x)))
    exact Finset.sum_congr rfl fun l _ => Finset.sum_congr rfl fun j _ => congrArg f (by omega)
  · refine Eq.trans ?_ (e fun x => f (2 * 1024 * k + (1024 * 1 + x)))
    exact Finset.sum_congr rfl fun l _ => Finset.sum_congr rfl fun j _ => congrArg f (by omega)

end Spec

end Cert.Proof.KernelIdeal
-- ==== Proof.VRef.lean ====
/- The reference's lines as pure terms. -/
module

public import proofs.«01_k».proof.Proof.Gen.ReferenceIdeal.Frame
public import proofs.«01_k».proof.Proof.VSpec
public import Idealize.ShloMosaic.Lib.Claim

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.ValueIdx
open scoped BigOperators

/-- The query, the new key and value by batch and head. -/
def t1 (x : FVec Ideal S3x1x12288 .bf16) : FVec Ideal S3x12x8x128 .bf16 := shapeCast S3x12x8x128 (shapeCast S3x1x12x8x128 x shapeCasts_S3x1x12288_S3x1x12x8x128) shapeCasts_S3x1x12x8x128_S3x12x8x128
def t13 (x : FVec Ideal S3x1x12x128 .bf16) : FVec Ideal S3x12x128 .bf16 := shapeCast S3x12x128 x shapeCasts_S3x1x12x128_S3x12x128
/-- The masked scores; -/
def t12 (q : FVec Ideal S3x12x8x128 .bf16) (k : FVec Ideal S3x12x16384x128 .bf16) (l : IVec S3 32) : FVec Ideal S3x12x8x16384 .f32 :=
  select (broadcastInDim S3x12x8x16384 ![0, 1, 2, 3] bcast_S3x1x1x16384_S3x12x8x16384_0_1_2_3 (broadcastInDim S3x1x1x16384 ![0, 3] bcast_S3x16384_S3x1x1x16384_0_3
    (cmpi .slt (broadcastInDim S3x16384 ![0, 1] bcast_S1x16384_S3x16384_0_1 (broadcastInDim S1x16384 ![1] bcast_S16384_S1x16384_1 (iotaInDim S16384 32 0)))
      (broadcastInDim S3x16384 ![0, 1] bcast_S3x1_S3x16384_0_1 (broadcastInDim S3x1 ![0] bcast_S3_S3x1_0 l)))))
    (mulf (Host.dotGeneral dot_S3x12x8x128_S3x12x16384x128_S3x12x8x16384_3_3_2_2_01_01 none q k) (broadcastInDim S3x12x8x16384 ![] bcast_S_S3x12x8x16384 (constant S_ .f32 0x3DB504F3#32)))
    (broadcastInDim S3x12x8x16384 ![] bcast_S_S3x12x8x16384 (constant S_ .f32 0xFF800000#32))
/-- the new token's score; -/
def t16 (q : FVec Ideal S3x12x8x128 .bf16) (k : FVec Ideal S3x12x128 .bf16) : FVec Ideal S3x12x8 .f32 :=
  mulf (Host.dotGeneral dot_S3x12x8x128_S3x12x128_S3x12x8_3_2_2_n_01_01 none q k) (broadcastInDim S3x12x8 ![] bcast_S_S3x12x8 (constant S_ .f32 0x3DB504F3#32))
/-- the maximum; -/
def t18 (s : FVec Ideal S3x12x8x16384 .f32) (n : FVec Ideal S3x12x8 .f32) : FVec Ideal S3x12x8 .f32 :=
  maximumf (Host.reduce FloatOps.maximumf s (constant S_ .f32 0xFF800000#32) reducesTo_S3x12x8x16384_S3x12x8_d3 h_S_) n
/-- the weights; -/
def t22 (s : FVec Ideal S3x12x8x16384 .f32) (x : FVec Ideal S3x12x8 .f32) : FVec Ideal S3x12x8x16384 .f32 :=
  Host.exp (subf s (broadcastInDim S3x12x8x16384 ![0, 1, 2, 3] bcast_S3x12x8x1_S3x12x8x16384_0_1_2_3 (broadcastInDim S3x12x8x1 ![0, 1, 2] bcast_S3x12x8_S3x12x8x1_0_1_2 x)))
/-- and their sum. -/
def t26 (p : FVec Ideal S3x12x8x16384 .f32) (n : FVec Ideal S3x12x8 .f32) : FVec Ideal S3x12x8 .f32 :=
  addf (Host.reduceAdd p (constant S_ .f32 0x00000000#32) reducesTo_S3x12x8x16384_S3x12x8_d3 h_S_) n
/-- The part of the cache; -/
def t36 (p : FVec Ideal S3x12x8x16384 .f32) (v : FVec Ideal S3x12x128x16384 .f32) (s : FVec Ideal S3x12x128 .f32) (d : FVec Ideal S3x12x8 .f32) : FVec Ideal S3x12x8x128 .f32 :=
  Host.divf (mulf (mulf (Host.dotGeneral dot_S3x12x8x16384_S3x12x128x16384_S3x12x8x128_3_3_2_2_01_01 none p v) (broadcastInDim S3x12x8x128 ![] bcast_S_S3x12x8x128 (constant S_ .f32 0x3B124925#32)))
      (broadcastInDim S3x12x8x128 ![0, 1, 2, 3] bcast_S3x12x1x128_S3x12x8x128_0_1_2_3 (broadcastInDim S3x12x1x128 ![0, 1, 3] bcast_S3x12x128_S3x12x1x128_0_1_3 s)))
    (broadcastInDim S3x12x8x128 ![0, 1, 2, 3] bcast_S3x12x8x1_S3x12x8x128_0_1_2_3 (broadcastInDim S3x12x8x1 ![0, 1, 2] bcast_S3x12x8_S3x12x8x1_0_1_2 d))
/-- the part of the new token. -/
def t46 (n : FVec Ideal S3x12x8 .f32) (v : FVec Ideal S3x12x128 .bf16) (d : FVec Ideal S3x12x8 .f32) : FVec Ideal S3x12x8x128 .f32 :=
  Host.divf (mulf (broadcastInDim S3x12x8x128 ![0, 1, 2, 3] bcast_S3x12x8x1_S3x12x8x128_0_1_2_3 (broadcastInDim S3x12x8x1 ![0, 1, 2] bcast_S3x12x8_S3x12x8x1_0_1_2 n))
      (broadcastInDim S3x12x8x128 ![0, 1, 2, 3] bcast_S3x12x1x128_S3x12x8x128_0_1_2_3 (broadcastInDim S3x12x1x128 ![0, 1, 3] bcast_S3x12x128_S3x12x1x128_0_1_3 (extf .f32 v bitsLt_bf16_f32))))
    (broadcastInDim S3x12x8x128 ![0, 1, 2, 3] bcast_S3x12x8x1_S3x12x8x128_0_1_2_3 (broadcastInDim S3x12x8x1 ![0, 1, 2] bcast_S3x12x8_S3x12x8x1_0_1_2 d))

end Cert.Proof.ReferenceIdeal
-- ==== Proof.VRead.lean ====
/- The values of the reference's lines before its inner call are those terms. -/
module

public import proofs.«01_k».proof.Proof.VRef
public import Idealize.ShloMosaic.Lib.StableHlo.RunRead

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.ValueIdx
open scoped BigOperators

variable (m : (ℓ : Loc nD τ sig) → Buf (Elt Ideal) ℓ) (c : Dev nD)

abbrev a12 : FVec Ideal S3x12x8x16384 .f32 := t12 (t1 (m ((c : Thread nD τ).loc main_arg0))) (m ((c : Thread nD τ).loc main_arg3)) (m ((c : Thread nD τ).loc main_arg6))
abbrev a16 : FVec Ideal S3x12x8 .f32 := t16 (t1 (m ((c : Thread nD τ).loc main_arg0))) (t13 (m ((c : Thread nD τ).loc main_arg1)))
abbrev a18 : FVec Ideal S3x12x8 .f32 := t18 (a12 m c) (a16 m c)
abbrev a22 : FVec Ideal S3x12x8x16384 .f32 := t22 (a12 m c) (a18 m c)
abbrev a24 : FVec Ideal S3x12x8 .f32 := Host.exp (subf (a16 m c) (a18 m c))
abbrev a26 : FVec Ideal S3x12x8 .f32 := t26 (a22 m c) (a24 m c)

set_option maxHeartbeats 4000000 in
theorem v22_eq : V m c main_v22 = a22 m c := by
  after_reads_simp
  rfl
set_option maxHeartbeats 4000000 in
theorem v24_eq : V m c main_v24 = a24 m c := by
  after_reads_simp
  rfl
set_option maxHeartbeats 4000000 in
theorem v26_eq : V m c main_v26 = a26 m c := by
  after_reads_simp
  rfl

end Cert.Proof.ReferenceIdeal
-- ==== Proof.VOut.lean ====
/- The values of the reference's lines after its inner call. -/
module

public import proofs.«01_k».proof.Proof.VRead
public import Idealize.ShloMosaic.Lib.StableHlo.RunRead

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.ValueIdx
open scoped BigOperators

variable (m : (ℓ : Loc nD τ sig) → Buf (Elt Ideal) ℓ) (c : Dev nD)

/-- The buffers when the region is left. -/
def W (b : Ref sig .tc) : Buf (Elt Ideal) ((c : Thread nD τ).loc b) :=
  Pipeline.withArrays (cfgs 0).spec c (V0 m c) (fun w => (dats m 0 c).arrAt w (cfgs 0).N) (Proc.devRef .tc b)

set_option maxHeartbeats 4000000 in
theorem v50_eq : Pipeline.afterTail₀ cfgs (dats m) 0 (V0 m) [hostOps1] c main_v50
    = (shapeCast S288x128 (t36 (W m c main_v27_0) (W m c main_v27_1) (W m c main_arg5) (W m c main_v26)) shapeCasts_S3x12x8x128_S288x128 : FVec Ideal S288x128 .f32) := by
  unfold Pipeline.afterTail₀
  after_reads_simp
  rfl
set_option maxHeartbeats 4000000 in
theorem v49_eq : Pipeline.afterTail₀ cfgs (dats m) 0 (V0 m) [hostOps1] c main_v49
    = (shapeCast S288x128 (addf (t36 (W m c main_v27_0) (W m c main_v27_1) (W m c main_arg5) (W m c main_v26)) (t46 (W m c main_v24) (t13 (W m c main_arg2)) (W m c main_v26))) shapeCasts_S3x12x8x128_S288x128 : FVec Ideal S288x128 .f32) := by
  unfold Pipeline.afterTail₀
  after_reads_simp
  rfl

theorem W_arg2 : W m c main_arg2 = m ((c : Thread nD τ).loc main_arg2) :=
  (Pipeline.withArrays_of_ne _ c (V0 m c) _ main_arg2 (by exact (by decide : ∀ w, Pipeline.arrRef spec0 w ≠ main_arg2))).trans (V_main_arg2 m c)
theorem W_arg5 : W m c main_arg5 = m ((c : Thread nD τ).loc main_arg5) :=
  (Pipeline.withArrays_of_ne _ c (V0 m c) _ main_arg5 (by exact (by decide : ∀ w, Pipeline.arrRef spec0 w ≠ main_arg5))).trans (V_main_arg5 m c)
theorem W_v24 : W m c main_v24 = a24 m c :=
  (Pipeline.withArrays_of_ne _ c (V0 m c) _ main_v24 (by exact (by decide : ∀ w, Pipeline.arrRef spec0 w ≠ main_v24))).trans (v24_eq m c)
theorem W_v26 : W m c main_v26 = a26 m c :=
  (Pipeline.withArrays_of_ne _ c (V0 m c) _ main_v26 (by exact (by decide : ∀ w, Pipeline.arrRef spec0 w ≠ main_v26))).trans (v26_eq m c)
theorem W_codes : W m c main_v27_0 = (dats m 0 c).arrAt 2 (cfgs 0).N :=
  Pipeline.withArrays_arr _ launch0.win.arr_inj c (V0 m c) (fun w => (dats m 0 c).arrAt w (cfgs 0).N) 2
theorem W_vals : W m c main_v27_1 = (dats m 0 c).arrAt 3 (cfgs 0).N :=
  Pipeline.withArrays_arr _ launch0.win.arr_inj c (V0 m c) (fun w => (dats m 0 c).arrAt w (cfgs 0).N) 3

end Cert.Proof.ReferenceIdeal
-- ==== Proof.VCode.lean ====
/- What the reference's inner call leaves in its two arrays. -/
module

public import proofs.«01_k».proof.Proof.VOut
public import Idealize.ShloMosaic.Lib.Pipeline.ValueKit.Geometry

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.ValueIdx
open scoped BigOperators

variable (m : (ℓ : Loc nD τ sig) → Buf (Elt Ideal) ℓ) (c : Dev nD)

theorem pay1_at (x : Vec Ideal S3x12x8x16384 .f32) (i : S3x12x8x16384.Idx) :
    k0_pay1 x i = min (x i * Ideal.ofBits .f32 0x43E00000#32) (Ideal.ofBits .f32 0x43E00000#32) := by
  have h : k0_pay1 x i = min (shapeCast S3x12x8x16384 x shapeCasts_S3x12x8x16384_S3x12x8x16384 i * Ideal.ofBits .f32 0x43E00000#32) (Ideal.ofBits .f32 0x43E00000#32) := rfl
  rw [h, shapeCast_self]

theorem emb0 (i : S3x12x8x16384.Idx) : r0_0.emb i = i := by
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega
theorem emb1 (i : S3x12x128x16384.Idx) : r0_1.emb i = i := by
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega
  | ⟨3, _⟩ => show 0 + 1 * (i 3).val = (i 3).val; omega

theorem out2_at (x0 : Vec Ideal S3x12x8x16384 .f32) (x1 : Vec Ideal S3x12x128x16384 .fp8e4m3) (i : S3x12x8x16384.Idx) :
    out0_2 x0 x1 i = min (x0 i * Ideal.ofBits .f32 0x43E00000#32) (Ideal.ofBits .f32 0x43E00000#32) := by
  have h := View.canon_cons_emb (Val := Elt Ideal) (e := .f32) r0_0 (k0_pay1 (View.ld x0 r0_0)) [] i
  rw [emb0] at h
  refine h.trans ((pay1_at _ i).trans ?_)
  show min (x0 (r0_0.emb i) * _) _ = _
  rw [emb0]
theorem out3_at (x0 : Vec Ideal S3x12x8x16384 .f32) (x1 : Vec Ideal S3x12x128x16384 .fp8e4m3) (i : S3x12x128x16384.Idx) :
    out0_3 x0 x1 i = x1 i := by
  have h := View.canon_cons_emb (Val := Elt Ideal) (e := .f32) r0_1 (k0_pay2 (View.ld x1 r0_1)) [] i
  rw [emb1] at h
  refine h.trans ?_
  show x1 (r0_1.emb i) = x1 i
  rw [emb1]

theorem iblk0 (i : S3x12x8x16384.Idx) : iblk m c 0 t0_0 i = V m c main_v22 i := by
  unfold iblk
  refine congrArg (V m c main_v22) ?_
  funext a; apply Fin.ext
  match a with
  | ⟨0, _⟩ => show 0 * 3 + 1 * (i 0).val = (i 0).val; omega
  | ⟨1, _⟩ => show 0 * 12 + 1 * (i 1).val = (i 1).val; omega
  | ⟨2, _⟩ => show 0 * 8 + 1 * (i 2).val = (i 2).val; omega
  | ⟨3, _⟩ => show 0 * 16384 + 1 * (i 3).val = (i 3).val; omega
theorem iblk1 (i : S3x12x128x16384.Idx) : iblk m c 1 t0_0 i = V m c main_arg4 i := by
  unfold iblk
  refine congrArg (V m c main_arg4) ?_
  funext a; apply Fin.ext
  match a with
  | ⟨0, _⟩ => show 0 * 3 + 1 * (i 0).val = (i 0).val; omega
  | ⟨1, _⟩ => show 0 * 12 + 1 * (i 1).val = (i 1).val; omega
  | ⟨2, _⟩ => show 0 * 128 + 1 * (i 2).val = (i 2).val; omega
  | ⟨3, _⟩ => show 0 * 16384 + 1 * (i 3).val = (i 3).val; omega

theorem codes_at (i : S3x12x8x16384.Idx) : (W m c main_v27_0 : FVec Ideal S3x12x8x16384 .f32) i = min (a22 m c i * Ideal.ofBits .f32 0x43E00000#32) (Ideal.ofBits .f32 0x43E00000#32) := by
  have h := out2_at (iblk m c 0 t0_0) (iblk m c 1 t0_0) i
  rw [iblk0, v22_eq] at h
  rw [W_codes]
  refine ((dats m 0 c).arrAt_emb_eq_after_last 2 t0_0 (by decide) i).trans ?_
  rw [after0_2]
  generalize out0_2 (iblk m c 0 t0_0) (iblk m c 1 t0_0) = O at h ⊢
  rw [← h]
  exact cast_eq _ _
theorem vals_at (i : S3x12x128x16384.Idx) : (W m c main_v27_1 : FVec Ideal S3x12x128x16384 .f32) i = m ((c : Thread nD τ).loc main_arg4) i := by
  have h := out3_at (iblk m c 0 t0_0) (iblk m c 1 t0_0) i
  rw [iblk1, V_main_arg4] at h
  rw [W_vals]
  refine ((dats m 0 c).arrAt_emb_eq_after_last 3 t0_0 (by decide) i).trans ?_
  rw [after0_3]
  generalize out0_3 (iblk m c 0 t0_0) (iblk m c 1 t0_0) = O at h ⊢
  rw [← h]
  exact cast_eq _ _

end Cert.Proof.ReferenceIdeal
-- ==== Proof.VIdx.lean ====
/- The reference's terms read at an index. -/
module

public import proofs.«01_k».proof.Proof.VRef
public import Idealize.ShloMosaic.Lib.Pointwise

@[expose] public section

set_option maxRecDepth 16384

noncomputable section

namespace Cert.Proof.ReferenceIdeal

open Cert.ReferenceIdeal Cert.ReferenceIdeal.Gen
open Idealize.ShloMosaic Idealize.ShloMosaic.TcCoe
open scoped BigOperators

theorem v1 {a : ℕ} (i : Fin a) : ValueIdx.ix1 i = ix1 i := by
  funext x
  match x with
  | ⟨0, _⟩ => rfl
theorem v3 {a b c : ℕ} (i : Fin a) (j : Fin b) (k : Fin c) : ValueIdx.ix3 i j k = ix3 i j k := by
  funext x
  match x with
  | ⟨0, _⟩ => rfl
  | ⟨1, _⟩ => rfl
  | ⟨2, _⟩ => rfl
theorem v4 {a b c d : ℕ} (i : Fin a) (j : Fin b) (k : Fin c) (l : Fin d) : ValueIdx.ix4 i j k l = ix4 i j k l := by
  funext x
  match x with
  | ⟨0, _⟩ => rfl
  | ⟨1, _⟩ => rfl
  | ⟨2, _⟩ => rfl
  | ⟨3, _⟩ => rfl

theorem t1_at (x : FVec Ideal S3x1x12288 .bf16) (b : Fin 3) (g : Fin 12) (r : Fin 8) (d : Fin 128) :
    t1 x (ValueIdx.ix4 b g r d) = x (ValueIdx.ix3 b 0 ⟨1024 * g.val + 128 * r.val + d.val, by omega⟩) := by
  simp only [v1, v3, v4]
  unfold t1
  pointwise
  exact congrArg x (congrArg (ix3 b 0) (Fin.ext (show g.val * 1024 + r.val * 128 + d.val = 1024 * g.val + 128 * r.val + d.val by omega)))
theorem t13_at (x : FVec Ideal S3x1x12x128 .bf16) (b : Fin 3) (g : Fin 12) (d : Fin 128) :
    t13 x (ValueIdx.ix3 b g d) = x (ValueIdx.ix4 b 0 g d) := by
  simp only [v1, v3, v4]
  unfold t13
  pointwise
theorem t12_at (q : FVec Ideal S3x12x8x128 .bf16) (k : FVec Ideal S3x12x16384x128 .bf16) (l : IVec S3 32) (b : Fin 3) (g : Fin 12) (r : Fin 8) (t : Fin 16384) :
    t12 q k l (ValueIdx.ix4 b g r t) = if (t.val : ℤ) < (l (ValueIdx.ix1 b)).toInt then (∑ d : Fin 128, q (ValueIdx.ix4 b g r d) * k (ValueIdx.ix4 b g t d)) * Ideal.ofBits .f32 0x3DB504F3#32 else ⊥ := by
  simp only [v1, v3, v4]
  unfold t12
  pointwise
  have e : (BitVec.ofNat 32 t.val).toInt = (t.val : ℤ) := by
    have h : t.val < 16384 := t.isLt
    rw [BitVec.toInt_eq_toNat_cond, BitVec.toNat_ofNat, Nat.mod_eq_of_lt (by omega), if_pos (by omega)]
  have h := Cert.Proof.KernelIdeal.slt_iff (BitVec.ofNat 32 t.val) (l (ix1 b))
  rw [e] at h
  rw [show Ideal.ofBits .f32 4286578688#32 = (⊥ : EReal) from Cert.Proof.KernelIdeal.ofBits_bot]
  exact if_congr h rfl rfl
theorem t16_at (q : FVec Ideal S3x12x8x128 .bf16) (k : FVec Ideal S3x12x128 .bf16) (b : Fin 3) (g : Fin 12) (r : Fin 8) :
    t16 q k (ValueIdx.ix3 b g r) = (∑ d : Fin 128, q (ValueIdx.ix4 b g r d) * k (ValueIdx.ix3 b g d)) * Ideal.ofBits .f32 0x3DB504F3#32 := by
  simp only [v1, v3, v4]
  unfold t16
  pointwise
theorem t22_at (s : FVec Ideal S3x12x8x16384 .f32) (x : FVec Ideal S3x12x8 .f32) (b : Fin 3) (g : Fin 12) (r : Fin 8) (t : Fin 16384) :
    t22 s x (ValueIdx.ix4 b g r t) = Ideal.exp (s (ValueIdx.ix4 b g r t) - x (ValueIdx.ix3 b g r)) := by
  simp only [v1, v3, v4]
  unfold t22
  pointwise
theorem t26_at (p : FVec Ideal S3x12x8x16384 .f32) (n : FVec Ideal S3x12x8 .f32) (b : Fin 3) (g : Fin 12) (r : Fin 8) :
    t26 p n (ValueIdx.ix3 b g r) = (∑ t : Fin 16384, p (ValueIdx.ix4 b g r t)) + n (ValueIdx.ix3 b g r) := by
  simp only [v1, v3, v4]
  unfold t26
  pointwise
theorem t36_at (p : FVec Ideal S3x12x8x16384 .f32) (v : FVec Ideal S3x12x128x16384 .f32) (s : FVec Ideal S3x12x128 .f32) (n : FVec Ideal S3x12x8 .f32) (b : Fin 3) (g : Fin 12) (r : Fin 8) (d : Fin 128) :
    t36 p v s n (ValueIdx.ix4 b g r d) = Ideal.div ((∑ t : Fin 16384, p (ValueIdx.ix4 b g r t) * v (ValueIdx.ix4 b g d t)) * Ideal.ofBits .f32 0x3B124925#32 * s (ValueIdx.ix3 b g d)) (n (ValueIdx.ix3 b g r)) := by
  simp only [v1, v3, v4]
  unfold t36
  pointwise
theorem t46_at (n : FVec Ideal S3x12x8 .f32) (v : FVec Ideal S3x12x128 .bf16) (s : FVec Ideal S3x12x8 .f32) (b : Fin 3) (g : Fin 12) (r : Fin 8) (d : Fin 128) :
    t46 n v s (ValueIdx.ix4 b g r d) = Ideal.div (n (ValueIdx.ix3 b g r) * v (ValueIdx.ix3 b g d)) (s (ValueIdx.ix3 b g r)) := by
  simp only [v1, v3, v4]
  unfold t46
  pointwise

end Cert.Proof.ReferenceIdeal
-- ==== Proof.VMax.lean ====
/- The reference's maximum over the tokens, by its upper bounds. -/
module

public import proofs.«01_k».proof.Proof.VRef

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.ValueIdx
open scoped BigOperators

theorem maxf_at {s : Shape} (a b : FVec Ideal s .f32) (i : s.Idx) (x : EReal) : maximumf a b i ≤ x ↔ a i ≤ x ∧ b i ≤ x := max_le_iff (α := EReal)

theorem red_le {s : Shape} {ax : List (Fin s.rank)} (f : FVec Ideal s .f32) (h : s.ReducesTo ax S3x12x8) (i0 : FVec Ideal S_ .f32) (hi : ∀ i, i0 i = (⊥ : EReal)) (j : S3x12x8.Idx) (x : EReal) :
    Host.reduce FloatOps.maximumf f i0 h h_S_ j ≤ x ↔ ∀ i, h.drop i = j → f i ≤ x := by
  rw [Host.reduce_eq_fold]
  refine Iff.trans (Finset.fold_max_le (β := EReal) x) ?_
  rw [hi]
  constructor
  · rintro ⟨-, H⟩ i hd
    exact H i (Finset.mem_filter.mpr ⟨Finset.mem_univ _, hd⟩)
  · intro H
    exact ⟨bot_le, fun i hi => H i (Finset.mem_filter.mp hi).2⟩

theorem bot_at (i : S_.Idx) : (constant (F := Ideal) S_ .f32 0xFF800000#32) i = (⊥ : EReal) := Cert.Proof.KernelIdeal.ofBits_bot
theorem t18_all (s : FVec Ideal S3x12x8x16384 .f32) (n : FVec Ideal S3x12x8 .f32) (j : S3x12x8.Idx) (x : EReal) :
    t18 s n j ≤ x ↔ (∀ i, reducesTo_S3x12x8x16384_S3x12x8_d3.drop i = j → s i ≤ x) ∧ n j ≤ x := by
  unfold t18
  rw [maxf_at, red_le s reducesTo_S3x12x8x16384_S3x12x8_d3 _ bot_at j x]

theorem drop_0 (i : S3x12x8x16384.Idx) : (reducesTo_S3x12x8x16384_S3x12x8_d3.drop i 0).val = (i 0).val := Shape.ReducesTo.drop_apply_val reducesTo_S3x12x8x16384_S3x12x8_d3 i 0
theorem drop_1 (i : S3x12x8x16384.Idx) : (reducesTo_S3x12x8x16384_S3x12x8_d3.drop i 1).val = (i 1).val := Shape.ReducesTo.drop_apply_val reducesTo_S3x12x8x16384_S3x12x8_d3 i 1
theorem drop_2 (i : S3x12x8x16384.Idx) : (reducesTo_S3x12x8x16384_S3x12x8_d3.drop i 2).val = (i 2).val := Shape.ReducesTo.drop_apply_val reducesTo_S3x12x8x16384_S3x12x8_d3 i 2

theorem drop_iff (i : S3x12x8x16384.Idx) (b : Fin 3) (g : Fin 12) (r : Fin 8) :
    reducesTo_S3x12x8x16384_S3x12x8_d3.drop i = (ix3 b g r : S3x12x8.Idx) ↔ ∃ t : Fin 16384, i = ix4 b g r t := by
  constructor
  · intro hd
    refine ⟨i 3, ?_⟩
    funext a; apply Fin.ext
    match a with
    | ⟨0, _⟩ => exact (drop_0 i).symm.trans (congrArg (fun j : S3x12x8.Idx => (j 0).val) hd)
    | ⟨1, _⟩ => exact (drop_1 i).symm.trans (congrArg (fun j : S3x12x8.Idx => (j 1).val) hd)
    | ⟨2, _⟩ => exact (drop_2 i).symm.trans (congrArg (fun j : S3x12x8.Idx => (j 2).val) hd)
    | ⟨3, _⟩ => rfl
  · rintro ⟨t, rfl⟩
    funext a; apply Fin.ext
    match a with
    | ⟨0, _⟩ => exact drop_0 _
    | ⟨1, _⟩ => exact drop_1 _
    | ⟨2, _⟩ => exact drop_2 _

theorem t18_le (s : FVec Ideal S3x12x8x16384 .f32) (n : FVec Ideal S3x12x8 .f32) (b : Fin 3) (g : Fin 12) (r : Fin 8) (x : EReal) :
    t18 s n (ix3 b g r) ≤ x ↔ (∀ t : Fin 16384, s (ix4 b g r t) ≤ x) ∧ n (ix3 b g r) ≤ x := by
  rw [t18_all]
  refine and_congr_left fun _ => ⟨fun H t => H _ ((drop_iff _ b g r).mpr ⟨t, rfl⟩), fun H i hd => ?_⟩
  obtain ⟨t, rfl⟩ := (drop_iff i b g r).mp hd
  exact H t

end Cert.Proof.ReferenceIdeal
-- ==== Proof.VArg.lean ====
/- The arrays of the attention as the arguments give them, and the two results stated row by row. -/
module

public import proofs.«01_k».proof.Proof.VSpec

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

/-- The lengths, -/
def lnf (l : IVec S3 32) (b : ℕ) : ℤ := (if h : b < 3 then l (ix1 ⟨b, h⟩) else 0#32).toInt
/-- the queries by unit, -/
def Qf (x : FVec Ideal S3x1x12288 .bf16) : FVec Ideal S36x8x128 .bf16 := shapeCast S36x8x128 x shapeCasts_S3x1x12288_S36x8x128
/-- a new token's rows by unit, -/
def Nf (x : FVec Ideal S3x1x12x128 .bf16) : FVec Ideal S36x1x128 .bf16 := shapeCast S36x1x128 x shapeCasts_S3x1x12x128_S36x1x128
/-- and the scales. -/
def Sf (x : FVec Ideal S3x12x128 .f32) : FVec Ideal S36x1x128 .f32 := shapeCast S36x1x128 x shapeCasts_S3x12x128_S36x1x128

theorem Qf_at (x : FVec Ideal S3x1x12288 .bf16) (u : ℕ) (hu : u < 36) (r : Fin 8) (d : Fin 128) (k : Fin 12288) (hk : k.val = 1024 * (u % 12) + 128 * r.val + d.val) :
    Qf x (qI u r d) = x (ix3 (cl 3 (by decide) (u / 12)) 0 k) :=
  shapeCast_apply x _ _ _ (by
    rw [Shape.rowMajor_val_three, Shape.rowMajor_val_three]
    show (u / 12 % 3 * 1 + 0) * 12288 + k.val = (u % 36 * 8 + r.val) * 128 + d.val
    omega)
theorem Nf_at (x : FVec Ideal S3x1x12x128 .bf16) (u : ℕ) (hu : u < 36) (d : Fin 128) :
    Nf x (nI u d) = x (ix4 (cl 3 (by decide) (u / 12)) 0 (cl 12 (by decide) u) d) :=
  shapeCast_apply x _ _ _ (by
    rw [Shape.rowMajor_val_four, Shape.rowMajor_val_three]
    show ((u / 12 % 3 * 1 + 0) * 12 + u % 12) * 128 + d.val = (u % 36 * 1 + 0) * 128 + d.val
    omega)
theorem Sf_at (x : FVec Ideal S3x12x128 .f32) (u : ℕ) (hu : u < 36) (d : Fin 128) :
    Sf x (nI u d) = x (ix3 (cl 3 (by decide) (u / 12)) (cl 12 (by decide) u) d) :=
  shapeCast_apply x _ _ _ (by
    rw [Shape.rowMajor_val_three, Shape.rowMajor_val_three]
    show (u / 12 % 3 * 12 + u % 12) * 128 + d.val = (u % 36 * 1 + 0) * 128 + d.val
    omega)

/-- The first result's rows, -/
def R5v (x0 : FVec Ideal S3x1x12288 .bf16) (x1 x2 : FVec Ideal S3x1x12x128 .bf16) (x3 : S3x12x16384x128.Idx → EReal) (x4 : S3x12x128x16384.Idx → EReal) (x5 : FVec Ideal S3x12x128 .f32) (l : IVec S3 32) (X : S288x128.Idx → EReal) : Prop :=
  ∀ u, u < 36 → ∀ (r : Fin 8) (d : Fin 128) (h : 8 * u + r.val < 288), X (ix2 ⟨8 * u + r.val, h⟩ d) = ot (lnf l) (Qf x0) (Nf x1) (Nf x2) (Sf x5) x3 x4 u r d
/-- and the second's. -/
def R6v (x0 : FVec Ideal S3x1x12288 .bf16) (x1 : FVec Ideal S3x1x12x128 .bf16) (x3 : S3x12x16384x128.Idx → EReal) (x4 : S3x12x128x16384.Idx → EReal) (x5 : FVec Ideal S3x12x128 .f32) (l : IVec S3 32) (X : S288x128.Idx → EReal) : Prop :=
  ∀ u, u < 36 → ∀ (r : Fin 8) (d : Fin 128) (h : 8 * u + r.val < 288), X (ix2 ⟨8 * u + r.val, h⟩ d) = oc (lnf l) (Qf x0) (Nf x1) (Sf x5) x3 x4 u r d

/-- Two arrays that agree at every row agree. -/
theorem rows_eq {X Y : S288x128.Idx → EReal} {f : ℕ → Fin 8 → Fin 128 → EReal}
    (hX : ∀ u, u < 36 → ∀ (r : Fin 8) (d : Fin 128) (h : 8 * u + r.val < 288), X (ix2 ⟨8 * u + r.val, h⟩ d) = f u r d)
    (hY : ∀ u, u < 36 → ∀ (r : Fin 8) (d : Fin 128) (h : 8 * u + r.val < 288), Y (ix2 ⟨8 * u + r.val, h⟩ d) = f u r d) : X = Y := by
  funext i
  have hi : (i 0).val < 288 := (i 0).isLt
  have h : 8 * ((i 0).val / 8) + (i 0).val % 8 < 288 := by omega
  have e : i = ix2 (⟨8 * ((i 0).val / 8) + (i 0).val % 8, h⟩ : Fin 288) (i 1) := by
    funext a; apply Fin.ext
    match a with
    | ⟨0, _⟩ => show (i 0).val = 8 * ((i 0).val / 8) + (i 0).val % 8; omega
    | ⟨1, _⟩ => rfl
  rw [e]
  exact (hX _ (by omega) ⟨(i 0).val % 8, by omega⟩ (i 1) h).trans (hY _ (by omega) ⟨(i 0).val % 8, by omega⟩ (i 1) h).symm

end Cert.Proof.KernelIdeal
-- ==== Proof.VVal.lean ====
/- The reference's terms at a unit are the attention of VSpec.lean. -/
module

public import proofs.«01_k».proof.Proof.VIdx
public import proofs.«01_k».proof.Proof.VMax
public import proofs.«01_k».proof.Proof.VArg

@[expose] public section

set_option maxRecDepth 16384

noncomputable section

namespace Cert.Proof.ReferenceIdeal

open Cert.ReferenceIdeal Cert.ReferenceIdeal.Gen
open Idealize.ShloMosaic Idealize.ShloMosaic.TcCoe
open scoped BigOperators

open Cert.Proof.KernelIdeal (lnf Qf Nf Sf sc sn mxm pr pn den ap acc oc ot cl qI nI kI vI scl c448 r448 Qf_at Nf_at Sf_at mxm_le R5v R6v)

variable (x0 : FVec Ideal S3x1x12288 .bf16) (x1 x2 : FVec Ideal S3x1x12x128 .bf16) (x3 : S3x12x16384x128.Idx → EReal) (x4 : S3x12x128x16384.Idx → EReal) (x5 : FVec Ideal S3x12x128 .f32) (l : IVec S3 32)
variable (u : ℕ) (hu : u < 36) (r : Fin 8) (d : Fin 128)

/-- A unit's sequence -/
abbrev bF : Fin 3 := cl 3 (by decide) (u / 12)
/-- and head. -/
abbrev gF : Fin 12 := cl 12 (by decide) u

theorem cl_self (t : Fin 16384) : cl 16384 (by decide) t.val = t := Fin.ext (Nat.mod_eq_of_lt t.isLt)

include hu in
theorem lnf_at : lnf l (u / 12) = (l (ValueIdx.ix1 (bF u))).toInt := by
  have h : u / 12 < 3 := by omega
  unfold lnf
  rw [dif_pos h]
  have e : (⟨u / 12, h⟩ : Fin 3) = bF u := Fin.ext (Nat.mod_eq_of_lt h).symm
  rw [e]

include hu in
theorem q_at : t1 x0 (ValueIdx.ix4 (bF u) (gF u) r d) = Qf x0 (qI u r d) :=
  (t1_at x0 (bF u) (gF u) r d).trans (Qf_at x0 u hu r d _ rfl).symm
include hu in
theorem n_at (x : FVec Ideal S3x1x12x128 .bf16) : t13 x (ValueIdx.ix3 (bF u) (gF u) d) = Nf x (nI u d) :=
  (t13_at x (bF u) (gF u) d).trans (Nf_at x u hu d).symm

include hu in
theorem sc_at (t : Fin 16384) : t12 (t1 x0) x3 l (ValueIdx.ix4 (bF u) (gF u) r t) = sc (lnf l) (Qf x0) x3 u r t.val := by
  refine (t12_at (t1 x0) x3 l (bF u) (gF u) r t).trans ?_
  unfold sc
  rw [lnf_at l u hu]
  refine if_congr Iff.rfl (congrArg (· * scl) (Finset.sum_congr rfl fun d _ => congrArg₂ (· * ·) (q_at x0 u hu r d) ?_)) rfl
  unfold kI
  rw [cl_self]
include hu in
theorem sn_at : t16 (t1 x0) (t13 x1) (ValueIdx.ix3 (bF u) (gF u) r) = sn (Qf x0) (Nf x1) u r := by
  refine (t16_at (t1 x0) (t13 x1) (bF u) (gF u) r).trans ?_
  unfold sn
  exact congrArg (· * scl) (Finset.sum_congr rfl fun d _ => congrArg₂ (· * ·) (q_at x0 u hu r d) (n_at u hu d x1))

/-- The largest score. -/
abbrev mT : FVec Ideal S3x12x8 .f32 := t18 (t12 (t1 x0) x3 l) (t16 (t1 x0) (t13 x1))
/-- The weights -/
abbrev pT : FVec Ideal S3x12x8x16384 .f32 := t22 (t12 (t1 x0) x3 l) (mT x0 x1 x3 l)
abbrev nT : FVec Ideal S3x12x8 .f32 := Host.exp (subf (t16 (t1 x0) (t13 x1)) (mT x0 x1 x3 l))
/-- and their sum. -/
abbrev dT : FVec Ideal S3x12x8 .f32 := t26 (pT x0 x1 x3 l) (nT x0 x1 x3 l)

include hu in
theorem mx_at : mT x0 x1 x3 l (ValueIdx.ix3 (bF u) (gF u) r) = mxm (lnf l) (Qf x0) (Nf x1) x3 u r := by
  refine eq_of_forall_ge_iff fun x => ?_
  rw [t18_le, mxm_le, sn_at x0 x1 u hu r]
  refine and_congr_left fun _ => ⟨fun H t ht => ?_, fun H t => ?_⟩
  · rw [← sc_at x0 x3 l u hu r ⟨t, ht⟩]; exact H ⟨t, ht⟩
  · rw [sc_at x0 x3 l u hu r t]; exact H t.val t.isLt
include hu in
theorem pr_at (t : Fin 16384) : pT x0 x1 x3 l (ValueIdx.ix4 (bF u) (gF u) r t) = pr (lnf l) (Qf x0) (Nf x1) x3 u r t.val := by
  refine (t22_at (t12 (t1 x0) x3 l) (mT x0 x1 x3 l) (bF u) (gF u) r t).trans ?_
  unfold pr
  exact congrArg₂ (fun a b : EReal => Ideal.exp (a - b)) (sc_at x0 x3 l u hu r t) (mx_at x0 x1 x3 l u hu r)
include hu in
theorem pn_at : nT x0 x1 x3 l (ValueIdx.ix3 (bF u) (gF u) r) = pn (lnf l) (Qf x0) (Nf x1) x3 u r := by
  unfold pn
  exact congrArg₂ (fun a b : EReal => Ideal.exp (a - b)) (sn_at x0 x1 u hu r) (mx_at x0 x1 x3 l u hu r)
include hu in
theorem den_at : dT x0 x1 x3 l (ValueIdx.ix3 (bF u) (gF u) r) = den (lnf l) (Qf x0) (Nf x1) x3 u r := by
  refine (t26_at (pT x0 x1 x3 l) (nT x0 x1 x3 l) (bF u) (gF u) r).trans ?_
  unfold den
  rw [← Fin.sum_univ_eq_sum_range (fun t => pr (lnf l) (Qf x0) (Nf x1) x3 u r t) 16384]
  exact congrArg₂ (· + ·) (Finset.sum_congr rfl fun t _ => pr_at x0 x1 x3 l u hu r t) (pn_at x0 x1 x3 l u hu r)

include hu in
theorem oc_at (C : FVec Ideal S3x12x8x16384 .f32) (hC : ∀ i, C i = min (pT x0 x1 x3 l i * c448) c448) (D : FVec Ideal S3x12x128x16384 .f32) (hD : ∀ i, D i = x4 i) :
    t36 C D x5 (dT x0 x1 x3 l) (ValueIdx.ix4 (bF u) (gF u) r d) = oc (lnf l) (Qf x0) (Nf x1) (Sf x5) x3 x4 u r d := by
  refine (t36_at C D x5 (dT x0 x1 x3 l) (bF u) (gF u) r d).trans ?_
  unfold oc acc
  rw [← Fin.sum_univ_eq_sum_range (fun t => ap (lnf l) (Qf x0) (Nf x1) x3 x4 u r d t) 16384]
  refine congrArg₂ Ideal.div (congrArg₂ (· * ·) (congrArg (· * r448) (Finset.sum_congr rfl fun t _ => ?_)) (Sf_at x5 u hu d).symm) (den_at x0 x1 x3 l u hu r)
  rw [hC, hD, mul_comm]
  unfold ap vI
  rw [cl_self]
  exact congrArg₂ (· * ·) rfl (congrArg (fun p : EReal => min (p * c448) c448) (pr_at x0 x1 x3 l u hu r t))
include hu in
theorem ot_at (C : FVec Ideal S3x12x8x16384 .f32) (hC : ∀ i, C i = min (pT x0 x1 x3 l i * c448) c448) (D : FVec Ideal S3x12x128x16384 .f32) (hD : ∀ i, D i = x4 i) :
    t36 C D x5 (dT x0 x1 x3 l) (ValueIdx.ix4 (bF u) (gF u) r d) + t46 (nT x0 x1 x3 l) (t13 x2) (dT x0 x1 x3 l) (ValueIdx.ix4 (bF u) (gF u) r d)
      = ot (lnf l) (Qf x0) (Nf x1) (Nf x2) (Sf x5) x3 x4 u r d := by
  unfold ot
  refine congrArg₂ (· + ·) (oc_at x0 x1 x3 x4 x5 l u hu r d C hC D hD) ((t46_at (nT x0 x1 x3 l) (t13 x2) (dT x0 x1 x3 l) (bF u) (gF u) r d).trans ?_)
  exact congrArg₂ Ideal.div (congrArg₂ (· * ·) (pn_at x0 x1 x3 l u hu r) (n_at u hu d x2)) (den_at x0 x1 x3 l u hu r)

theorem row_at (x : FVec Ideal S3x12x8x128 .f32) (h : 8 * u + r.val < 288) :
    shapeCast S288x128 x shapeCasts_S3x12x8x128_S288x128 (ValueIdx.ix2 ⟨8 * u + r.val, h⟩ d) = x (ValueIdx.ix4 (bF u) (gF u) r d) :=
  shapeCast_apply x _ _ _ (by
    rw [Shape.rowMajor_val_four, Shape.rowMajor_val_two]
    show ((u / 12 % 3 * 12 + u % 12) * 8 + r.val) * 128 + d.val = (8 * u + r.val) * 128 + d.val
    omega)

end Cert.Proof.ReferenceIdeal
-- ==== Proof.VRows.lean ====
/- Each row of the reference's two results. -/
module

public import proofs.«01_k».proof.Proof.VCode
public import proofs.«01_k».proof.Proof.VVal

@[expose] public section

set_option maxRecDepth 16384

noncomputable section

namespace Cert.Proof.ReferenceIdeal

open Cert.ReferenceIdeal Cert.ReferenceIdeal.Gen
open Idealize.ShloMosaic Idealize.ShloMosaic.TcCoe
open scoped BigOperators

open Cert.Proof.KernelIdeal (R5v R6v)

variable (m : (ℓ : Loc nD τ sig) → Buf (Elt Ideal) ℓ) (c : Dev nD)

/-- The second result's rows -/
theorem rows6 : R6v (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
    (Pipeline.afterTail₀ cfgs (dats m) 0 (V0 m) [hostOps1] c main_v50) := by
  intro u hu r d h
  rw [v50_eq, W_arg5, W_v26]
  exact (row_at u r d _ h).trans (oc_at (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) u hu r d (W m c main_v27_0) (codes_at m c) (W m c main_v27_1) (vals_at m c))
/-- and the first's. -/
theorem rows5 : R5v (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (Pipeline.afterTail₀ cfgs (dats m) 0 (V0 m) [hostOps1] c main_v49) := by
  intro u hu r d h
  rw [v49_eq, W_arg5, W_v26, W_v24, W_arg2]
  exact (row_at u r d _ h).trans (ot_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) u hu r d (W m c main_v27_0) (codes_at m c) (W m c main_v27_1) (vals_at m c))

end Cert.Proof.ReferenceIdeal
-- ==== Proof.VView.lean ====
/- What the kernel's stores and loads through the windows of its scratch arrays read back. -/
module

public import proofs.«01_k».proof.Proof.VSpec

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

theorem get11_put (f : Buf (Elt Ideal) (arg11.view.loc (c : Thread nD τ))) (p : Fin 2) (n : Fin 8) (w : FVec Ideal S1x1x16x1024 .f32) :
    get11 (F := Ideal) c arg11 (put11 (F := Ideal) c arg11 f p n w) p n = w := by
  funext j; exact View.read_writes_cons_emb (Val := Elt Ideal) arg11.view f (Rect.unit (s := S2x8x16x1024) ![p.val, n.val, 0, 0] S1x1x16x1024.size (ib11 p n)) w [] j
theorem get11_put_ne (f : Buf (Elt Ideal) (arg11.view.loc (c : Thread nD τ))) (p p' : Fin 2) (n n' : Fin 8) (w : FVec Ideal S1x1x16x1024 .f32) (h : p ≠ p' ∨ n ≠ n') :
    get11 (F := Ideal) c arg11 (put11 (F := Ideal) c arg11 f p n w) p' n' = get11 (F := Ideal) c arg11 f p' n' := by
  funext j
  refine View.read_writes_apply_of_forall_not_mem (Val := Elt Ideal) arg11.view f _ _ fun q hq hy => ?_
  obtain rfl := List.mem_singleton.mp hq
  rw [Rect.mem_set_unit] at hy
  have h0 := hy 0
  have h1 := hy 1
  have e0 : (j 0).val = 0 := Nat.lt_one_iff.mp (j 0).isLt
  have e1 : (j 1).val = 0 := Nat.lt_one_iff.mp (j 1).isLt
  have a0 : (((Rect.unit (s := S2x8x16x1024) ![p'.val, n'.val, 0, 0] S1x1x16x1024.size (ib11 p' n')).toLoadRect.idx j) 0).val = p'.val + 1 * (j 0).val := rfl
  have a1 : (((Rect.unit (s := S2x8x16x1024) ![p'.val, n'.val, 0, 0] S1x1x16x1024.size (ib11 p' n')).toLoadRect.idx j) 1).val = n'.val + 1 * (j 1).val := rfl
  rw [a0] at h0
  rw [a1] at h1
  simp only [Matrix.cons_val_zero, Matrix.cons_val_one, S1x1x16x1024] at h0 h1
  rcases h with h | h <;> exact h (Fin.ext (by omega))
theorem get12_put (f : Buf (Elt Ideal) (arg12.view.loc (c : Thread nD τ))) (p : Fin 2) (w : FVec Ideal S1x16x128 .f32) :
    get12 (F := Ideal) c arg12 (put12 (F := Ideal) c arg12 f p w) p = w := by
  funext j; exact View.read_writes_cons_emb (Val := Elt Ideal) arg12.view f (Rect.unit (s := S2x16x128) ![p.val, 0, 0] S1x16x128.size (ib12 p)) w [] j
theorem get13_put (f : Buf (Elt Ideal) (arg13.view.loc (c : Thread nD τ))) (w : FVec Ideal S128x8 .f32) :
    get13 (F := Ideal) c arg13 (put13 (F := Ideal) c arg13 f w) = w := by
  funext j; exact View.read_writes_cons_emb (Val := Elt Ideal) arg13.view f (Rect.unit (s := S128x8) ![0, 0] S128x8.size inb_S128x8_S128x8_0_0) w [] j
theorem get14_put (f : Buf (Elt Ideal) (arg14.view.loc (c : Thread nD τ))) (w : FVec Ideal S16x128 .f32) :
    get14 (F := Ideal) c arg14 (put14 (F := Ideal) c arg14 f w) = w := by
  funext j; exact View.read_writes_cons_emb (Val := Elt Ideal) arg14.view f (Rect.unit (s := S16x128) ![0, 0] S16x128.size inb_S16x128_S16x128_0_0) w [] j
theorem get15_put (f : Buf (Elt Ideal) (arg15.view.loc (c : Thread nD τ))) (p : Fin 2) (w : FVec Ideal S1x16x256 .bf16) :
    get15 (F := Ideal) c arg15 (put15 (F := Ideal) c arg15 f p w) p = w := by
  funext j; exact View.read_writes_cons_emb (Val := Elt Ideal) arg15.view f (Rect.unit (s := S2x16x256) ![p.val, 0, 0] S1x16x256.size (ib15 p)) w [] j

/-- Rows of an array of 288 rows written eight at a time. -/
theorem rows_put {e : EltTy} (m : Memref sig .tc .vmem S288x128 e) (f : Buf (Elt Ideal) (m.view.loc (c : Thread nD τ))) (u : ℕ) {off : Fin 2 → ℕ} {inb} (ho : off = ![8 * u, 0]) (w : Vec Ideal S8x128 e)
    (r : Fin 8) (d : Fin 128) (h : 8 * u + r.val < 288) :
    m.view.read (Elt Ideal) (m.view.writes (Elt Ideal) f [⟨Rect.unit (s := S288x128) off S8x128.size inb, w⟩]) (ix2 ⟨8 * u + r.val, h⟩ d : S288x128.Idx) = w (ix2 r d) := by
  subst ho
  refine Eq.trans (congrArg _ ?_) (View.read_writes_cons_emb (Val := Elt Ideal) m.view f (Rect.unit (s := S288x128) ![8 * u, 0] S8x128.size inb) w [] (ix2 r d))
  funext a; apply Fin.ext
  match a with
  | ⟨0, _⟩ => show 8 * u + r.val = 8 * u + 1 * r.val; omega
  | ⟨1, _⟩ => show d.val = 0 + 1 * d.val; omega
theorem rows_put_ne {e : EltTy} (m : Memref sig .tc .vmem S288x128 e) (f : Buf (Elt Ideal) (m.view.loc (c : Thread nD τ))) (u : ℕ) {off : Fin 2 → ℕ} {inb} (ho : off = ![8 * u, 0]) (w : Vec Ideal S8x128 e)
    (R : Fin 288) (d : Fin 128) (h : R.val < 8 * u) :
    m.view.read (Elt Ideal) (m.view.writes (Elt Ideal) f [⟨Rect.unit (s := S288x128) off S8x128.size inb, w⟩]) (ix2 R d : S288x128.Idx) = m.view.read (Elt Ideal) f (ix2 R d : S288x128.Idx) := by
  subst ho
  refine View.read_writes_apply_of_forall_not_mem (Val := Elt Ideal) m.view f _ _ fun q hq hy => ?_
  obtain rfl := List.mem_singleton.mp hq
  rw [Rect.mem_set_unit] at hy
  have h0 := hy 0
  simp at h0
  omega

theorem off17_eq : ∀ s : Fin k0_t3_loop.trips, k0_off17 s = ![s.val - 1, 0, 0] := by decide
theorem off18_eq : ∀ s : Fin k0_t3_loop.trips, k0_off18 s = ![s.val - 1, 0, 0] := by decide
theorem off19_eq : ∀ s : Fin k0_t3_loop.trips, k0_off19 s = ![(s.val - 1) % 2, 0, 0] := by decide
theorem off20_eq : ∀ s : Fin k0_t3_loop.trips, k0_cond5 s = 1#1 → k0_off20 s = ![s.val, 0, 0] := by decide
theorem off21_eq : ∀ s : Fin k0_t3_loop.trips, k0_cond5 s = 1#1 → k0_off21 s = ![s.val % 2, 0, 0] := by decide
theorem off22_eq : ∀ s : Fin k0_t3_loop.trips, k0_cond5 s = 1#1 → k0_off22 s = ![s.val % 2, 0, 0] := by decide
theorem off127_eq : ∀ s : Fin k0_t3_loop.trips, k0_off127 s = ![s.val - 1, 0, 0] := by decide
theorem off128_eq : ∀ s : Fin k0_t3_loop.trips, k0_off128 s = ![8 * (s.val - 1), 0] := by decide

/-- A unit's row of a small operand. -/
theorem unit_row {n : ℕ} {e : EltTy} (m : Memref sig .tc .vmem ⟨3, ![36, n, 128]⟩ e) (f : Buf (Elt Ideal) (m.view.loc (c : Thread nD τ))) (u : ℕ) (hu : u < 36) {off : Fin 3 → ℕ} {inb} (ho : off = ![u, 0, 0]) (r : Fin n) (d : Fin 128) :
    m.view.readAt (Elt Ideal) (Rect.unit (s := ⟨3, ![36, n, 128]⟩) off ![1, n, 128] inb).toLoadRect f (ix3 (0 : Fin 1) r d) = m.view.read (Elt Ideal) f (ix3 (cl 36 (by decide) u) r d : (⟨3, ![36, n, 128]⟩ : Shape).Idx) := by
  subst ho
  refine congrArg (m.view.read (Elt Ideal) f) ?_
  funext a; apply Fin.ext
  match a with
  | ⟨0, _⟩ => show u + 1 * 0 = u % 36; omega
  | ⟨1, _⟩ => show 0 + 1 * r.val = r.val; omega
  | ⟨2, _⟩ => show 0 + 1 * d.val = d.val; omega

/-- What a slot of the key ring holds once a chunk's transfer is done, -/
def KPV (f0 : Buf (Elt Ideal) (arg0.view.loc (c : Thread nD τ))) (f5 : Buf (Elt Ideal) (arg5.view.loc (c : Thread nD τ))) (k : ℕ) (f9 : Buf (Elt Ideal) (arg9.view.loc (c : Thread nD τ))) : Prop :=
  ∀ (x : Fin 2) (i : Fin 1024) (d : Fin 128), 1024 * x.val + i.val < tk (F := Ideal) c arg0 f0 k →
    get9 (F := Ideal) c arg9 f9 (n12 k) x (ix3 0 i d) = arg5.view.read (Elt Ideal) f5 (kI (ch (nc (F := Ideal) c arg0 f0) k).1 (2048 * (ch (nc (F := Ideal) c arg0 f0) k).2 + 1024 * x.val + i.val) d)
/-- and of the value ring. -/
def VPV (f0 : Buf (Elt Ideal) (arg0.view.loc (c : Thread nD τ))) (f6 : Buf (Elt Ideal) (arg6.view.loc (c : Thread nD τ))) (k : ℕ) (f10 : Buf (Elt Ideal) (arg10.view.loc (c : Thread nD τ))) : Prop :=
  ∀ (e : Fin 2048) (d : Fin 128), e.val < tk (F := Ideal) c arg0 f0 k →
    get10 (F := Ideal) c arg10 f10 (n12 k) (ix3 0 d e) = arg6.view.read (Elt Ideal) f6 (vI (ch (nc (F := Ideal) c arg0 f0) k).1 (2048 * (ch (nc (F := Ideal) c arg0 f0) k).2 + e.val) d)

theorem landsK (f0 : Buf (Elt Ideal) (arg0.view.loc (c : Thread nD τ))) (f5 : Buf (Elt Ideal) (arg5.view.loc (c : Thread nD τ))) :
    LandsK (F := Ideal) c arg0 arg5 arg9 f0 f5 (KPV c arg0 arg5 arg9 f0 f5) := by
  intro k s fd n b g r h9 hq9 h5 hq5 hs hk hn hb hg hr x i d hi
  subst hn hb hg hr
  generalize ht : tk (F := Ideal) c arg0 f0 k = n at *
  have hi4 := h5 2
  have hi3 := h9 1
  simp at hi4 hi3
  let z : (⟨3, ![1, n, 128]⟩ : Shape).Idx := ix3 (0 : Fin 1) (⟨1024 * x.val + i.val, hi⟩ : Fin n) d
  refine Eq.trans (congrArg (arg9.view.read (Elt Ideal) _) (show _ = (Rect.unitDyn (s := S12x2048x128) ![s.val, 0, 0] ![1, n, 128] h9).emb z from ?_)) ?_
  · funext a; apply Fin.ext
    match a with
    | ⟨0, _⟩ => show k % 12 + 1 * 0 = s.val + 1 * 0; omega
    | ⟨1, _⟩ => show 1024 * x.val + 1 * i.val = 0 + 1 * (1024 * x.val + i.val); omega
    | ⟨2, _⟩ => rfl
  have hz : z = Shape.reshapeEquiv hq9.numel_eq (ix2 (⟨1024 * x.val + i.val, hi⟩ : Fin n) d) := (reshapeEquiv_ix2_1ab _ _ _).symm
  refine (congrArg (fun F => arg9.view.read (Elt Ideal) F _) (View.write_reshape_univ (Val := Elt Ideal) (arg9.view.slice (Rect.unitDyn (s := S12x2048x128) ![s.val, 0, 0] ![1, n, 128] h9)) hq9.numel_eq fd _)).trans ?_
  refine (View.read_slice_write_emb (Val := Elt Ideal) (v := arg9.view) _ fd _ (Finset.mem_univ z)).trans ?_
  rw [hz, Equiv.symm_apply_apply]
  refine congrArg (arg5.view.read (Elt Ideal) f5) (show (Rect.unitDyn (s := S3x12x16384x128) _ ![1, 1, n, 128] h5).emb (Shape.reshapeEquiv hq5.numel_eq (ix2 (⟨1024 * x.val + i.val, hi⟩ : Fin n) d)) = _ from ?_)
  rw [reshapeEquiv_ix2_11ab]
  funext a; apply Fin.ext
  match a with
  | ⟨0, _⟩ => show (ch (nc (F := Ideal) c arg0 f0) k).1 / 12 + 1 * 0 = ((ch (nc (F := Ideal) c arg0 f0) k).1 / 12) % 3; omega
  | ⟨1, _⟩ => show (ch (nc (F := Ideal) c arg0 f0) k).1 % 12 + 1 * 0 = (ch (nc (F := Ideal) c arg0 f0) k).1 % 12; omega
  | ⟨2, _⟩ => show 2048 * (ch (nc (F := Ideal) c arg0 f0) k).2 + 1 * (1024 * x.val + i.val) = (2048 * (ch (nc (F := Ideal) c arg0 f0) k).2 + 1024 * x.val + i.val) % 16384; omega
  | ⟨3, _⟩ => show 0 + 1 * d.val = d.val; omega

theorem landsV (f0 : Buf (Elt Ideal) (arg0.view.loc (c : Thread nD τ))) (f6 : Buf (Elt Ideal) (arg6.view.loc (c : Thread nD τ))) :
    LandsV (F := Ideal) c arg0 arg6 arg10 f0 f6 (VPV c arg0 arg6 arg10 f0 f6) := by
  intro k s fd n b g r h9 hq9 h5 hq5 hs hk hn hb hg hr e d hi
  subst hn hb hg hr
  generalize ht : tk (F := Ideal) c arg0 f0 k = n at *
  have hi4 := h5 3
  have hi3 := h9 2
  simp at hi4 hi3
  let z : (⟨3, ![1, 128, n]⟩ : Shape).Idx := ix3 (0 : Fin 1) d (⟨e.val, hi⟩ : Fin n)
  refine Eq.trans (congrArg (arg10.view.read (Elt Ideal) _) (show _ = (Rect.unitDyn (s := S12x128x2048) ![s.val, 0, 0] ![1, 128, n] h9).emb z from ?_)) ?_
  · funext a; apply Fin.ext
    match a with
    | ⟨0, _⟩ => show k % 12 + 1 * 0 = s.val + 1 * 0; omega
    | ⟨1, _⟩ => rfl
    | ⟨2, _⟩ => rfl
  have hz : z = Shape.reshapeEquiv hq9.numel_eq (ix2 d (⟨e.val, hi⟩ : Fin n)) := (reshapeEquiv_ix2_1ab _ _ _).symm
  refine (congrArg (fun F => arg10.view.read (Elt Ideal) F _) (View.write_reshape_univ (Val := Elt Ideal) (arg10.view.slice (Rect.unitDyn (s := S12x128x2048) ![s.val, 0, 0] ![1, 128, n] h9)) hq9.numel_eq fd _)).trans ?_
  refine (View.read_slice_write_emb (Val := Elt Ideal) (v := arg10.view) _ fd _ (Finset.mem_univ z)).trans ?_
  rw [hz, Equiv.symm_apply_apply]
  refine congrArg (arg6.view.read (Elt Ideal) f6) (show (Rect.unitDyn (s := S3x12x128x16384) _ ![1, 1, 128, n] h5).emb (Shape.reshapeEquiv hq5.numel_eq (ix2 d (⟨e.val, hi⟩ : Fin n))) = _ from ?_)
  rw [reshapeEquiv_ix2_11ab]
  funext a; apply Fin.ext
  match a with
  | ⟨0, _⟩ => show (ch (nc (F := Ideal) c arg0 f0) k).1 / 12 + 1 * 0 = ((ch (nc (F := Ideal) c arg0 f0) k).1 / 12) % 3; omega
  | ⟨1, _⟩ => show (ch (nc (F := Ideal) c arg0 f0) k).1 % 12 + 1 * 0 = (ch (nc (F := Ideal) c arg0 f0) k).1 % 12; omega
  | ⟨2, _⟩ => show 0 + 1 * d.val = d.val; omega
  | ⟨3, _⟩ => show 2048 * (ch (nc (F := Ideal) c arg0 f0) k).2 + 1 * e.val = (2048 * (ch (nc (F := Ideal) c arg0 f0) k).2 + e.val) % 16384; omega

end Cert.Proof.KernelIdeal
-- ==== Proof.VInv.lean ====
/- The value invariant of the kernel's body: which scores, maxima, weights and partial sums each scratch array holds at each step,
   and what the two results hold at the end. -/
module

public import proofs.«01_k».proof.Proof.VView

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

variable (c : Dev nD)
variable (arg0 : Memref sig .tc .smem S3 .i32) (harg0 : arg0.IsWhole) (arg1 : Memref sig .tc .vmem S36x8x128 .f32) (harg1 : arg1.IsWhole) (arg2 : Memref sig .tc .vmem S36x1x128 .f32) (harg2 : arg2.IsWhole) (arg3 : Memref sig .tc .vmem S36x1x128 .f32) (harg3 : arg3.IsWhole) (arg4 : Memref sig .tc .vmem S36x1x128 .f32) (harg4 : arg4.IsWhole) (arg5 : Memref sig .tc .hbm S3x12x16384x128 .bf16) (harg5 : arg5.IsWhole) (arg6 : Memref sig .tc .hbm S3x12x128x16384 .fp8e4m3) (harg6 : arg6.IsWhole) (arg7 : Memref sig .tc .vmem S288x128 .bf16) (harg7 : arg7.IsWhole) (arg8 : Memref sig .tc .vmem S288x128 .f32) (harg8 : arg8.IsWhole) (arg9 : Memref sig .tc .vmem S12x2048x128 .bf16) (harg9 : arg9.IsWhole) (arg10 : Memref sig .tc .vmem S12x128x2048 .fp8e4m3) (harg10 : arg10.IsWhole) (arg11 : Memref sig .tc .vmem S2x8x16x1024 .f32) (harg11 : arg11.IsWhole) (arg12 : Memref sig .tc .vmem S2x16x128 .f32) (harg12 : arg12.IsWhole) (arg13 : Memref sig .tc .vmem S128x8 .f32) (harg13 : arg13.IsWhole) (arg14 : Memref sig .tc .vmem S16x128 .f32) (harg14 : arg14.IsWhole) (arg15 : Memref sig .tc .vmem S2x16x256 .bf16) (harg15 : arg15.IsWhole) (arg16 : Memref sig .tc .vmem S288x128 .f32) (harg16 : arg16.IsWhole) (arg17 : DmaSems sig S12) (arg18 : DmaSems sig S12)

section Inv
variable (f0 : Buf (Elt Ideal) (arg0.view.loc (c : Thread nD τ)))
  (Q : S36x8x128.Idx → EReal) (KN VN VS : S36x1x128.Idx → EReal) (K : S3x12x16384x128.Idx → EReal) (V : S3x12x128x16384.Idx → EReal)

/-- A batch's length. -/
def lnI (b : ℕ) : ℤ := (lw (F := Ideal) c arg0 f0 b).toInt

/-- The first `k` chunks' scores of a unit are kept, -/
def ScU (f11 : Buf (Elt Ideal) (arg11.view.loc (c : Thread nD τ))) (u k : ℕ) : Prop :=
  ∀ n, n < k → ∀ (r : Fin 16) (i : Fin 1024), get11 (F := Ideal) c arg11 f11 (par u) (n8 n) (ix4 0 0 r i) = sc (lnI c arg0 f0) Q K u (r8 r) (2048 * n + 1024 * (r.val / 8) + i.val)
/-- and their maxima, lane by lane; -/
def MxU (f12 : Buf (Elt Ideal) (arg12.view.loc (c : Thread nD τ))) (u k : ℕ) : Prop :=
  ∀ (r : Fin 16) (l : Fin 128) (x : EReal), get12 (F := Ideal) c arg12 f12 (par u) (ix3 0 r l) ≤ x ↔
    ∀ n, n < k → ∀ j : Fin 8, sc (lnI c arg0 f0) Q K u (r8 r) (2048 * n + 1024 * (r.val / 8) + 128 * j.val + l.val) ≤ x
/-- the query stands twice on the diagonal; -/
def QbU (f15 : Buf (Elt Ideal) (arg15.view.loc (c : Thread nD τ))) (u : ℕ) : Prop :=
  ∀ (r : Fin 16) (k : Fin 256), get15 (F := Ideal) c arg15 f15 (par u) (ix3 0 r k) = if (r.val < 8 ↔ k.val < 128) then Q (qI u (r8 r) ⟨k.val % 128, Nat.mod_lt _ (by decide)⟩) else 0
/-- the weighted sum of the first `j` chunks is kept, -/
def AcU (f13 : Buf (Elt Ideal) (arg13.view.loc (c : Thread nD τ))) (u j : ℕ) : Prop :=
  ∀ (d : Fin 128) (r : Fin 8), get13 (F := Ideal) c arg13 f13 (ix2 d r) = ∑ n ∈ Finset.range j, ∑ e ∈ Finset.range 2048, ap (lnI c arg0 f0) Q KN K V u r d (2048 * n + e)
/-- and the sum of their weights, lane by lane; -/
def LsU (f14 : Buf (Elt Ideal) (arg14.view.loc (c : Thread nD τ))) (u j : ℕ) : Prop :=
  ∀ (r : Fin 16) (l : Fin 128), get14 (F := Ideal) c arg14 f14 (ix2 r l) = ∑ n ∈ Finset.range j, ∑ i : Fin 8, pr (lnI c arg0 f0) Q KN K u (r8 r) (2048 * n + 1024 * (r.val / 8) + 128 * i.val + l.val)
/-- the results of the first `m` units are written. -/
def OutU (f8 : Buf (Elt Ideal) (arg8.view.loc (c : Thread nD τ))) (f16 : Buf (Elt Ideal) (arg16.view.loc (c : Thread nD τ))) (m : ℕ) : Prop :=
  ∀ u, u < m → ∀ (r : Fin 8) (d : Fin 128) (h : 8 * u + r.val < 288),
    arg8.view.read (Elt Ideal) f8 (ix2 ⟨8 * u + r.val, h⟩ d : S288x128.Idx) = oc (lnI c arg0 f0) Q KN VS K V u r d ∧
    arg16.view.read (Elt Ideal) f16 (ix2 ⟨8 * u + r.val, h⟩ d : S288x128.Idx) = ot (lnI c arg0 f0) Q KN VN VS K V u r d

/-- What is known within a step, -/
def InvV (s k j : ℕ) (v : FVec Ideal S16x1 .f32) (b : Bufs (F := Ideal) c arg8 arg11 arg12 arg13 arg14 arg15 arg16) : Prop :=
  (s < 36 → ScU c arg0 arg11 f0 Q K b.b11 s k ∧ MxU c arg0 arg12 f0 Q K b.b12 s k ∧ QbU c arg15 Q b.b15 s) ∧
  (0 < s → ScU c arg0 arg11 f0 Q K b.b11 (s - 1) (nc (F := Ideal) c arg0 f0 (s - 1)) ∧ (∀ r : Fin 16, v (ix2 r 0) = mxm (lnI c arg0 f0) Q KN K (s - 1) (r8 r)) ∧
    AcU c arg0 arg13 f0 Q KN K V b.b13 (s - 1) j ∧ LsU c arg0 arg14 f0 Q KN K b.b14 (s - 1) j) ∧
  OutU c arg0 arg8 arg16 f0 Q KN VN VS K V b.b8 b.b16 (s - 1)
/-- and between steps. -/
def StV (s : ℕ) (b : Bufs (F := Ideal) c arg8 arg11 arg12 arg13 arg14 arg15 arg16) : Prop :=
  (0 < s → s ≤ 36 → ScU c arg0 arg11 f0 Q K b.b11 (s - 1) (nc (F := Ideal) c arg0 f0 (s - 1)) ∧ MxU c arg0 arg12 f0 Q K b.b12 (s - 1) (nc (F := Ideal) c arg0 f0 (s - 1))) ∧
  OutU c arg0 arg8 arg16 f0 Q KN VN VS K V b.b8 b.b16 (s - 1)

theorem ch_at (s k : ℕ) (hs : s < 36) (hk : k < nc (F := Ideal) c arg0 f0 s) : ch (nc (F := Ideal) c arg0 f0) (before (nc (F := Ideal) c arg0 f0) s + k) = (s, k) :=
  (ch_unit (nc (F := Ideal) c arg0 f0) (nc_pos (F := Ideal) c arg0 f0) s (by omega)).2 hs k hk

theorem tk_at (s k : ℕ) (hs : s < 36) (hk : k < nc (F := Ideal) c arg0 f0 s) (t : ℕ) (ht : t < 2048) (hl : ((2048 * k + t : ℕ) : ℤ) < lnI c arg0 f0 (s / 12)) :
    t < tk (F := Ideal) c arg0 f0 (before (nc (F := Ideal) c arg0 f0) s + k) := by
  unfold tk
  rw [ch_at c arg0 f0 s k hs hk]
  refine lt_of_lt_of_eq ?_ (toNat_tok k (lw (F := Ideal) c arg0 f0 (s / 12)) hk).symm
  refine tokN_covers _ _ _ ht ?_
  have h8 := nc_le (F := Ideal) c arg0 f0 s
  unfold lenN
  unfold lnI at hl
  omega

theorem score_at (s k : ℕ) (hs : s < 36) (hk : k < nc (F := Ideal) c arg0 f0 s) (f5 : Buf (Elt Ideal) (arg5.view.loc (c : Thread nD τ)))
    (f9 : Buf (Elt Ideal) (arg9.view.loc (c : Thread nD τ))) (f15 : Buf (Elt Ideal) (arg15.view.loc (c : Thread nD τ)))
    (hK : KPV c arg0 arg5 arg9 f0 f5 (before (nc (F := Ideal) c arg0 f0) s + k) f9) (hq : QbU c arg15 Q f15 s) (r : Fin 16) (i : Fin 1024) :
    k0_pay31 (F := Ideal) (sK (F := Ideal) c arg9 arg15 f9 f15 (n12 (before (nc (F := Ideal) c arg0 f0) s + k)) s) (mK (F := Ideal) k (lw (F := Ideal) c arg0 f0 (s / 12))) (ix2 r i)
      = sc (lnI c arg0 f0) Q (arg5.view.read (Elt Ideal) f5) s (r8 r) (2048 * k + 1024 * (r.val / 8) + i.val) := by
  have hm : mK (F := Ideal) k (lw (F := Ideal) c arg0 f0 (s / 12)) (ix2 r i) = 1#1 ↔ _ := pay30_apply k (lw (F := Ideal) c arg0 f0 (s / 12)) hk r i
  rw [pay31_apply]
  unfold sc
  by_cases hl : ((2048 * k + 1024 * (r.val / 8) + i.val : ℕ) : ℤ) < lnI c arg0 f0 (s / 12)
  · rw [if_pos hl, if_pos (hm.mpr hl)]
    refine (pay29_apply _ _ _ (fun r d => Q (qI s r d)) hq r i).trans (congrArg (· * scl) (Finset.sum_congr rfl fun d _ => congrArg (Q (qI s (r8 r) d) * ·) ?_))
    by_cases hr : r.val < 8
    · rw [if_pos hr]
      have h := hK 0 i d (tk_at c arg0 f0 s k hs hk _ (by simp; omega) (by simp; omega))
      rw [h, ch_at c arg0 f0 s k hs hk]
      exact congrArg (fun t => arg5.view.read (Elt Ideal) f5 (kI s t d)) (by simp; omega)
    · rw [if_neg hr]
      have h := hK 1 i d (tk_at c arg0 f0 s k hs hk _ (by simp; omega) (by simp; omega))
      rw [h, ch_at c arg0 f0 s k hs hk]
      exact congrArg (fun t => arg5.view.read (Elt Ideal) f5 (kI s t d)) (by simp; omega)
  · rw [if_neg hl, if_neg (fun h => hl (hm.mp h))]

theorem par_sub_ne (s : ℕ) (h : 0 < s) : par s ≠ par (s - 1) := by
  intro e; have := congrArg Fin.val e; simp [par] at this; omega
theorem n8_ne (a b : ℕ) (h : a < b) (hb : b < 8) : n8 b ≠ n8 a := by
  intro e; have := congrArg Fin.val e; simp [n8] at this; omega

theorem scU_put (f11 : Buf (Elt Ideal) (arg11.view.loc (c : Thread nD τ))) (u k : ℕ) (x : FVec Ideal S1x1x16x1024 .f32) (hk : k < 8) (h : ScU c arg0 arg11 f0 Q K f11 u k)
    (hx : ∀ (r : Fin 16) (i : Fin 1024), x (ix4 0 0 r i) = sc (lnI c arg0 f0) Q K u (r8 r) (2048 * k + 1024 * (r.val / 8) + i.val)) :
    ScU c arg0 arg11 f0 Q K (put11 (F := Ideal) c arg11 f11 (par u) (n8 k) x) u (k + 1) := by
  intro n hn r i
  by_cases e : n = k
  · rw [e, get11_put]; exact hx r i
  · rw [get11_put_ne c arg11 f11 (par u) (par u) (n8 k) (n8 n) x (Or.inr (n8_ne n k (by omega) hk))]
    exact h n (by omega) r i

theorem scU_put_ne (f11 : Buf (Elt Ideal) (arg11.view.loc (c : Thread nD τ))) (u u' k k' : ℕ) (x : FVec Ideal S1x1x16x1024 .f32) (hu : par u ≠ par u') (h : ScU c arg0 arg11 f0 Q K f11 u' k') :
    ScU c arg0 arg11 f0 Q K (put11 (F := Ideal) c arg11 f11 (par u) (n8 k) x) u' k' := by
  intro n hn r i
  rw [get11_put_ne c arg11 f11 (par u) (par u') (n8 k) (n8 n) x (Or.inl hu)]
  exact h n hn r i

theorem mxU_put (f12 : Buf (Elt Ideal) (arg12.view.loc (c : Thread nD τ))) (u k : ℕ) (y : FVec Ideal S1x16x128 .f32) (h : MxU c arg0 arg12 f0 Q K f12 u k)
    (hy : ∀ (r : Fin 16) (l : Fin 128) (x : EReal), y (ix3 0 r l) ≤ x ↔ get12 (F := Ideal) c arg12 f12 (par u) (ix3 0 r l) ≤ x ∧ ∀ j : Fin 8, sc (lnI c arg0 f0) Q K u (r8 r) (2048 * k + 1024 * (r.val / 8) + 128 * j.val + l.val) ≤ x) :
    MxU c arg0 arg12 f0 Q K (put12 (F := Ideal) c arg12 f12 (par u) y) u (k + 1) := by
  intro r l x
  rw [get12_put, hy, h r l x]
  constructor
  · rintro ⟨ha, hb⟩ n hn j
    by_cases e : n = k
    · rw [e]; exact hb j
    · exact ha n (by omega) j
  · exact fun H => ⟨fun n hn j => H n (by omega) j, fun j => H k (by omega) j⟩

theorem stepK (f5 : Buf (Elt Ideal) (arg5.view.loc (c : Thread nD τ))) (hKf : K = arg5.view.read (Elt Ideal) f5) :
    StepK (F := Ideal) c arg0 arg8 arg9 arg11 arg12 arg13 arg14 arg15 arg16 f0 (KPV c arg0 arg5 arg9 f0 f5) (InvV c arg0 arg8 arg11 arg12 arg13 arg14 arg15 arg16 f0 Q KN VN VS K V) := by
  subst hKf
  intro s k j v b f9 hs hk hK hI
  have h8 : k < 8 := lt_of_lt_of_le hk (nc_le (F := Ideal) c arg0 f0 s)
  have hq := (hI.1 hs).2.2
  have hsc := score_at c arg0 arg5 arg9 arg15 f0 Q s k hs hk f5 f9 b.b15 hK hq
  have hx : ∀ (r : Fin 16) (i : Fin 1024), k0_pay32 (F := Ideal) (sK (F := Ideal) c arg9 arg15 f9 b.b15 (n12 (before (nc (F := Ideal) c arg0 f0) s + k)) s) (mK (F := Ideal) k (lw (F := Ideal) c arg0 f0 (s / 12))) (ix4 0 0 r i)
      = sc (lnI c arg0 f0) Q (arg5.view.read (Elt Ideal) f5) s (r8 r) (2048 * k + 1024 * (r.val / 8) + i.val) := fun r i => (pay32_apply _ _ r i).trans (hsc r i)
  have hS := scU_put c arg0 arg11 f0 Q (arg5.view.read (Elt Ideal) f5) b.b11 s k _ h8 (hI.1 hs).1 hx
  have hM := mxU_put c arg0 arg12 f0 Q (arg5.view.read (Elt Ideal) f5) b.b12 s k (k0_pay33 (F := Ideal) (sK (F := Ideal) c arg9 arg15 f9 b.b15 (n12 (before (nc (F := Ideal) c arg0 f0) s + k)) s) (mK (F := Ideal) k (lw (F := Ideal) c arg0 f0 (s / 12))) (get12 (F := Ideal) c arg12 b.b12 (par s))) (hI.1 hs).2.1 fun r l x => by
    rw [pay33_le]
    refine and_congr_right fun _ => forall_congr' fun jj => ?_
    rw [hsc]
    simp only [Nat.add_assoc]
  have e : bK (F := Ideal) c arg8 arg9 arg11 arg12 arg13 arg14 arg15 arg16 f9 (n12 (before (nc (F := Ideal) c arg0 f0) s + k)) s k (lw (F := Ideal) c arg0 f0 (s / 12)) b = { b with b11 := put11 (F := Ideal) c arg11 b.b11 (par s) (n8 k) (k0_pay32 (F := Ideal) (sK (F := Ideal) c arg9 arg15 f9 b.b15 (n12 (before (nc (F := Ideal) c arg0 f0) s + k)) s) (mK (F := Ideal) k (lw (F := Ideal) c arg0 f0 (s / 12)))), b12 := put12 (F := Ideal) c arg12 b.b12 (par s) (k0_pay33 (F := Ideal) (sK (F := Ideal) c arg9 arg15 f9 b.b15 (n12 (before (nc (F := Ideal) c arg0 f0) s + k)) s) (mK (F := Ideal) k (lw (F := Ideal) c arg0 f0 (s / 12))) (get12 (F := Ideal) c arg12 b.b12 (par s))) } := by unfold bK kp11 kp12; rfl
  rw [e]
  unfold InvV at hI ⊢
  dsimp only
  exact ⟨fun _ => ⟨hS, hM, hq⟩, fun h0 => ⟨scU_put_ne c arg0 arg11 f0 Q (arg5.view.read (Elt Ideal) f5) b.b11 s (s - 1) k _ _ (par_sub_ne s h0) (hI.2.1 h0).1, (hI.2.1 h0).2⟩, hI.2.2⟩

theorem stepV (f6 : Buf (Elt Ideal) (arg6.view.loc (c : Thread nD τ))) (hVf : V = arg6.view.read (Elt Ideal) f6) :
    StepV (F := Ideal) c arg0 arg8 arg10 arg11 arg12 arg13 arg14 arg15 arg16 f0 (VPV c arg0 arg6 arg10 f0 f6) (InvV c arg0 arg8 arg11 arg12 arg13 arg14 arg15 arg16 f0 Q KN VN VS K V) := by
  subst hVf
  intro s k j v b f10 h0 h36 hj hV ⟨h1, h2, h3⟩
  obtain ⟨g1, g2, g3, g4⟩ := h2 h0
  have hp : ∀ (r : Fin 16) (i : Fin 1024), k0_pay39 (F := Ideal) v (get11 (F := Ideal) c arg11 b.b11 (par (s - 1)) (n8 j)) (ix2 r i)
      = pr (lnI c arg0 f0) Q KN K (s - 1) (r8 r) (2048 * j + 1024 * (r.val / 8) + i.val) := fun r i => by
    rw [pay39_apply, g1 j hj r i, g2 r]; rfl
  refine ⟨h1, fun _ => ⟨g1, g2, ?_, ?_⟩, h3⟩
  · intro d r
    refine (congrFun (get13_put c arg13 b.b13 _) _).trans ?_
    rw [pay42_apply, g3 d r, pay41_apply, Finset.sum_range_succ, Finset.sum_range (n := 2048) (f := fun e => ap (lnI c arg0 f0) Q KN K (arg6.view.read (Elt Ideal) f6) (s - 1) r d (2048 * j + e))]
    refine congrArg _ (Finset.sum_congr rfl fun e _ => ?_)
    rw [hp]
    have e1 : r8 (⟨8 * (e.val / 1024) + r.val, by omega⟩ : Fin 16) = r := Fin.ext (by simp [r8])
    have e2 : 2048 * j + 1024 * ((8 * (e.val / 1024) + r.val) / 8) + e.val % 1024 = 2048 * j + e.val := by omega
    rw [e1]
    simp only [e2]
    by_cases hl : ((2048 * j + e.val : ℕ) : ℤ) < lnI c arg0 f0 ((s - 1) / 12)
    · have h := hV e d (tk_at c arg0 f0 (s - 1) j (by omega) hj e.val e.isLt hl)
      rw [h, ch_at c arg0 f0 (s - 1) j (by omega) hj]
      rfl
    · have hz := pr_dead (lnI c arg0 f0) Q KN K (s - 1) r (2048 * j + e.val) (by omega)
      rw [ap_zero _ _ _ _ _ r d _ hz]
      exact (ap_zero _ _ _ _ _ r d _ hz _).symm
  · intro r l
    refine (congrFun (get14_put c arg14 b.b14 _) _).trans ?_
    rw [pay40_apply, g4 r l, Finset.sum_range_succ]
    refine congrArg _ (Finset.sum_congr rfl fun i _ => ?_)
    rw [hp]
    simp only [Nat.add_assoc]

theorem row_q (f1 : Buf (Elt Ideal) (arg1.view.loc (c : Thread nD τ))) (s : Fin k0_t3_loop.trips) (hs : s.val ≤ 36) (r : Fin 8) (d : Fin 128) :
    rdQ (F := Ideal) c arg1 s f1 (ix3 0 r d) = arg1.view.read (Elt Ideal) f1 (qI (s.val - 1) r d) :=
  unit_row c (n := 8) arg1 f1 (s.val - 1) (by omega) (off17_eq s) r d
theorem row_n (f2 : Buf (Elt Ideal) (arg2.view.loc (c : Thread nD τ))) (s : Fin k0_t3_loop.trips) (hs : s.val ≤ 36) (d : Fin 128) :
    rdN (F := Ideal) c arg2 s f2 (ix3 0 0 d) = arg2.view.read (Elt Ideal) f2 (nI (s.val - 1) d) :=
  unit_row c (n := 1) arg2 f2 (s.val - 1) (by omega) (off18_eq s) 0 d

theorem sn_at (f1 : Buf (Elt Ideal) (arg1.view.loc (c : Thread nD τ))) (f2 : Buf (Elt Ideal) (arg2.view.loc (c : Thread nD τ))) (s : Fin k0_t3_loop.trips) (hs : s.val ≤ 36) (r : Fin 8) :
    k0_pay47 (F := Ideal) (rdQ (F := Ideal) c arg1 s f1) (rdN (F := Ideal) c arg2 s f2) (ix2 r 0) = sn (arg1.view.read (Elt Ideal) f1) (arg2.view.read (Elt Ideal) f2) (s.val - 1) r := by
  rw [pay47_apply]
  exact congrArg (· * scl) (Finset.sum_congr rfl fun d _ => congrArg₂ (· * ·) (row_q c arg1 f1 s hs r d) (row_n c arg2 f2 s hs d))

theorem max_at (f1 : Buf (Elt Ideal) (arg1.view.loc (c : Thread nD τ))) (f2 : Buf (Elt Ideal) (arg2.view.loc (c : Thread nD τ))) (s : Fin k0_t3_loop.trips) (hs : s.val ≤ 36)
    (f12 : Buf (Elt Ideal) (arg12.view.loc (c : Thread nD τ)))
    (hM : MxU c arg0 arg12 f0 (arg1.view.read (Elt Ideal) f1) K f12 (s.val - 1) (nc (F := Ideal) c arg0 f0 (s.val - 1))) (r : Fin 8) :
    k0_pay48 (F := Ideal) (rdQ (F := Ideal) c arg1 s f1) (rdN (F := Ideal) c arg2 s f2) (rdM (F := Ideal) c arg12 s f12) (ix2 r 0)
      = mxm (lnI c arg0 f0) (arg1.view.read (Elt Ideal) f1) (arg2.view.read (Elt Ideal) f2) K (s.val - 1) r := by
  have eM : rdM (F := Ideal) c arg12 s f12 = get12 (F := Ideal) c arg12 f12 (par (s.val - 1)) := get12_of (F := Ideal) c arg12 f12 (par (s.val - 1)) (off19_eq s)
  refine mxm_of _ _ _ _ _ r (nc (F := Ideal) c arg0 f0 (s.val - 1)) (nc_le (F := Ideal) c arg0 f0 _) ?_ _ fun x => ?_
  · unfold lnI nc chunksN lenN; omega
  rw [pay48_le, sn_at c arg1 arg2 f1 f2 s hs, eM]
  refine and_congr_left fun _ => forall_congr' fun hh => forall_congr' fun l => ?_
  rw [hM]
  have e1 : r8 (⟨8 * hh.val + r.val, by omega⟩ : Fin 16) = r := Fin.ext (by simp [r8])
  have e2 : (8 * hh.val + r.val) / 8 = hh.val := by omega
  rw [e1]
  simp only [e2]

theorem stepB (f1 : Buf (Elt Ideal) (arg1.view.loc (c : Thread nD τ))) (f2 : Buf (Elt Ideal) (arg2.view.loc (c : Thread nD τ))) (hQ : Q = arg1.view.read (Elt Ideal) f1) (hN : KN = arg2.view.read (Elt Ideal) f2) :
    StepB (F := Ideal) c arg1 arg2 arg8 arg11 arg12 arg13 arg14 arg15 arg16 f1 f2 (InvV c arg0 arg8 arg11 arg12 arg13 arg14 arg15 arg16 f0 Q KN VN VS K V) (StV c arg0 arg8 arg11 arg12 arg13 arg14 arg15 arg16 f0 Q KN VN VS K V) := by
  subst hQ hN
  intro s b ⟨hS, hO⟩
  have hs36 : s.val ≤ 36 := by have := s.isLt; have e : k0_t3_loop.trips = 37 := (by decide); omega
  refine ⟨fun hs => ⟨fun n hn => absurd hn (Nat.not_lt_zero n), ?_, ?_⟩, fun h0 => ⟨(hS h0 hs36).1, ?_, ?_, ?_⟩, hO⟩
  · have hc : k0_cond5 s = 1#1 := by rw [cond5_iff, if_pos hs]
    intro r l x
    have e : (begB (F := Ideal) c arg1 arg8 arg11 arg12 arg13 arg14 arg15 arg16 f1 s b).b12 = put12 (F := Ideal) c arg12 b.b12 (par s) (k0_pay3 (F := Ideal)) := by
      dsimp only [begB]
      rw [dif_pos hc]
      exact put12_of (F := Ideal) c arg12 b.b12 (par s) _ (off22_eq s hc)
    rw [e, get12_put, pay3_apply]
    simp
  · have hc : k0_cond5 s = 1#1 := by rw [cond5_iff, if_pos hs]
    intro r k
    have e : (begB (F := Ideal) c arg1 arg8 arg11 arg12 arg13 arg14 arg15 arg16 f1 s b).b15 = put15 (F := Ideal) c arg15 b.b15 (par s) (k0_pay2 (F := Ideal) (View.readAt (Elt Ideal) arg1.view (Rect.unit (s := S36x8x128) (k0_off20 s) S1x8x128.size (k0_off20_inb s hc)).toLoadRect f1)) := by
      dsimp only [begB]
      rw [dif_pos hc]
      exact put15_of (F := Ideal) c arg15 b.b15 (par s) _ (off21_eq s hc)
    rw [e, get15_put, pay2_apply]
    refine if_congr Iff.rfl ?_ rfl
    exact unit_row c (n := 8) arg1 f1 s.val hs (off20_eq s hc) _ _
  · intro r
    rw [pay49_apply]
    exact max_at c arg0 arg1 arg2 arg12 f0 K f1 f2 s hs36 b.b12 (hS h0 hs36).2 (r8 r)
  · intro d r
    refine (congrFun (get13_put c arg13 _ (k0_pay4 (F := Ideal))) (ix2 d r)).trans ?_
    rw [pay4_apply]; rfl
  · intro r l
    refine (congrFun (get14_put c arg14 _ (k0_pay5 (F := Ideal))) (ix2 r l)).trans ?_
    rw [pay5_apply]; rfl

theorem stepE (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ)))
    (hQ : Q = arg1.view.read (Elt Ideal) f1) (hN : KN = arg2.view.read (Elt Ideal) f2) (hVN : VN = arg3.view.read (Elt Ideal) f3) (hVS : VS = arg4.view.read (Elt Ideal) f4) :
    StepE (F := Ideal) c arg0 arg1 arg2 arg3 arg4 arg8 arg11 arg12 arg13 arg14 arg15 arg16 f0 f1 f2 f3 f4 (InvV c arg0 arg8 arg11 arg12 arg13 arg14 arg15 arg16 f0 Q KN VN VS K V) (StV c arg0 arg8 arg11 arg12 arg13 arg14 arg15 arg16 f0 Q KN VN VS K V) := by
  subst hQ hN hVN hVS
  intro s b b' ⟨hS, hO⟩ ⟨h1, h2, h3⟩
  have hs36 : s.val ≤ 36 := by have := s.isLt; have e : k0_t3_loop.trips = 37 := (by decide); omega
  refine ⟨fun _ hs => ?_, ?_⟩
  · have hs' : s.val < 36 := by omega
    have h := h1 hs'
    rw [show mK' (F := Ideal) c arg0 f0 s = nc (F := Ideal) c arg0 f0 s from if_pos hs'] at h
    exact ⟨h.1, h.2.1⟩
  · intro u hu r d h
    have h0 : 0 < s.val := by omega
    have hc : k0_cond14 s = 1#1 := by rw [cond14_iff, if_pos h0]
    obtain ⟨g1, g2, g3, g4⟩ := h2 h0
    rw [show mV' (F := Ideal) c arg0 f0 s = nc (F := Ideal) c arg0 f0 (s.val - 1) from if_pos h0] at g3 g4
    dsimp only [endB]
    rw [dif_pos hc, dif_pos hc]
    by_cases hu' : u < s.val - 1
    · rw [rows_put_ne c arg8 b'.b8 (s.val - 1) (off128_eq s) _ _ d (by simp; omega), rows_put_ne c arg16 b'.b16 (s.val - 1) (off128_eq s) _ _ d (by simp; omega)]
      exact h3 u hu' r d h
    · obtain rfl : u = s.val - 1 := by omega
      have hd : k0_pay7 (F := Ideal) (k0_pay47 (F := Ideal) (rdQ (F := Ideal) c arg1 s f1) (rdN (F := Ideal) c arg2 s f2)) (k0_pay48 (F := Ideal) (rdQ (F := Ideal) c arg1 s f1) (rdN (F := Ideal) c arg2 s f2) (rdM (F := Ideal) c arg12 s b.b12)) (get14 (F := Ideal) c arg14 b'.b14) (ix2 r 0)
          = den (lnI c arg0 f0) (arg1.view.read (Elt Ideal) f1) (arg2.view.read (Elt Ideal) f2) K (s.val - 1) r := by
        rw [pay7_apply, sn_at c arg1 arg2 f1 f2 s hs36, max_at c arg0 arg1 arg2 arg12 f0 K f1 f2 s hs36 b.b12 (hS h0 hs36).2]
        refine congrArg (· + _) ?_
        refine Eq.trans ?_ (sum_lanes (pr (lnI c arg0 f0) (arg1.view.read (Elt Ideal) f1) (arg2.view.read (Elt Ideal) f2) K (s.val - 1) r) (nc (F := Ideal) c arg0 f0 (s.val - 1)) (nc_le (F := Ideal) c arg0 f0 _) (lnI c arg0 f0 ((s.val - 1) / 12)) (by unfold lnI nc chunksN lenN; omega) fun t ht => pr_dead _ _ _ _ _ _ _ ht)
        have e1 : r8 (⟨r.val, by omega⟩ : Fin 16) = r := Fin.ext (by simp [r8])
        have e2 : r8 (⟨8 + r.val, by omega⟩ : Fin 16) = r := Fin.ext (by simp [r8])
        have e3 : r.val / 8 = 0 := by omega
        have e4 : (8 + r.val) / 8 = 1 := by omega
        refine congrArg₂ (· + ·) (Finset.sum_congr rfl fun l _ => ?_) (Finset.sum_congr rfl fun l _ => ?_)
        · rw [g4, e1]; simp only [e3, Nat.mul_zero, Nat.add_zero]
        · rw [g4, e2]; simp only [e4, Nat.mul_one]
      have ha : get13 (F := Ideal) c arg13 b'.b13 (ix2 d r) = acc (lnI c arg0 f0) (arg1.view.read (Elt Ideal) f1) (arg2.view.read (Elt Ideal) f2) K V (s.val - 1) r d := by
        rw [g3]
        exact (sum_live (ap (lnI c arg0 f0) (arg1.view.read (Elt Ideal) f1) (arg2.view.read (Elt Ideal) f2) K V (s.val - 1) r d) (nc (F := Ideal) c arg0 f0 (s.val - 1)) (nc_le (F := Ideal) c arg0 f0 _) (lnI c arg0 f0 ((s.val - 1) / 12)) (by unfold lnI nc chunksN lenN; omega) fun t ht => ap_zero _ _ _ _ _ r d t (pr_dead _ _ _ _ _ _ _ ht) _).symm
      have hv : ∀ (e : EltTy) (m : Memref sig .tc .vmem S36x1x128 e) (f : Buf (Elt Ideal) (m.view.loc (c : Thread nD τ))), View.readAt (Elt Ideal) m.view (Rect.unit (s := S36x1x128) (k0_off127 s) S1x1x128.size (k0_off127_inb s hc)).toLoadRect f (ix3 0 0 d) = m.view.read (Elt Ideal) f (nI (s.val - 1) d) := fun _ m f =>
        unit_row c (n := 1) m f (s.val - 1) (by omega) (off127_eq s) 0 d
      have h8 : k0_pay8 (F := Ideal) (k0_pay47 (F := Ideal) (rdQ (F := Ideal) c arg1 s f1) (rdN (F := Ideal) c arg2 s f2)) (k0_pay48 (F := Ideal) (rdQ (F := Ideal) c arg1 s f1) (rdN (F := Ideal) c arg2 s f2) (rdM (F := Ideal) c arg12 s b.b12)) (get14 (F := Ideal) c arg14 b'.b14) (get13 (F := Ideal) c arg13 b'.b13)
          (View.readAt (Elt Ideal) arg4.view (Rect.unit (s := S36x1x128) (k0_off127 s) S1x1x128.size (k0_off127_inb s hc)).toLoadRect f4) (ix2 r d)
          = oc (lnI c arg0 f0) (arg1.view.read (Elt Ideal) f1) (arg2.view.read (Elt Ideal) f2) (arg4.view.read (Elt Ideal) f4) K V (s.val - 1) r d := by
        rw [pay8_apply, hd, ha, hv]; rfl
      refine ⟨(rows_put c arg8 b'.b8 (s.val - 1) (off128_eq s) _ r d h).trans h8, (rows_put c arg16 b'.b16 (s.val - 1) (off128_eq s) _ r d h).trans ?_⟩
      refine (pay9_apply _ _ _ _ _ _ r d).trans ?_
      refine congrArg₂ (· + ·) h8 (congrArg₂ Ideal.div (congrArg₂ (· * ·) ?_ (hv _ arg3 f3)) hd)
      rw [sn_at c arg1 arg2 f1 f2 s hs36, max_at c arg0 arg1 arg2 arg12 f0 K f1 f2 s hs36 b.b12 (hS h0 hs36).2]
      rfl

end Inv

/-- What a run's results are. -/
def invs (f0 : Buf (Elt Ideal) (arg0.view.loc (c : Thread nD τ))) (f1 : Buf (Elt Ideal) (arg1.view.loc (c : Thread nD τ))) (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ)))
    (R5 : Buf (Elt Ideal) (arg7.view.loc (c : Thread nD τ)) → Prop) (R6 : Buf (Elt Ideal) (arg8.view.loc (c : Thread nD τ)) → Prop)
    (h5 : ∀ g, (∀ u, u < 36 → ∀ (r : Fin 8) (d : Fin 128) (h : 8 * u + r.val < 288), arg7.view.read (Elt Ideal) g (ix2 ⟨8 * u + r.val, h⟩ d : S288x128.Idx) = ot (lnI c arg0 f0) (arg1.view.read (Elt Ideal) f1) (arg2.view.read (Elt Ideal) f2) (arg3.view.read (Elt Ideal) f3) (arg4.view.read (Elt Ideal) f4) (arg5.view.read (Elt Ideal) f5) (arg6.view.read (Elt Ideal) f6) u r d) → R5 g)
    (h6 : ∀ g, (∀ u, u < 36 → ∀ (r : Fin 8) (d : Fin 128) (h : 8 * u + r.val < 288), arg8.view.read (Elt Ideal) g (ix2 ⟨8 * u + r.val, h⟩ d : S288x128.Idx) = oc (lnI c arg0 f0) (arg1.view.read (Elt Ideal) f1) (arg2.view.read (Elt Ideal) f2) (arg4.view.read (Elt Ideal) f4) (arg5.view.read (Elt Ideal) f5) (arg6.view.read (Elt Ideal) f6) u r d) → R6 g) :
    Invs (F := Ideal) c arg0 arg1 arg2 arg3 arg4 arg5 arg6 arg7 arg8 arg9 arg10 arg11 arg12 arg13 arg14 arg15 arg16 f0 f1 f2 f3 f4 f5 f6 R5 R6 where
  KP := KPV c arg0 arg5 arg9 f0 f5
  VP := VPV c arg0 arg6 arg10 f0 f6
  Inv := InvV c arg0 arg8 arg11 arg12 arg13 arg14 arg15 arg16 f0 (arg1.view.read (Elt Ideal) f1) (arg2.view.read (Elt Ideal) f2) (arg3.view.read (Elt Ideal) f3) (arg4.view.read (Elt Ideal) f4) (arg5.view.read (Elt Ideal) f5) (arg6.view.read (Elt Ideal) f6)
  St := StV c arg0 arg8 arg11 arg12 arg13 arg14 arg15 arg16 f0 (arg1.view.read (Elt Ideal) f1) (arg2.view.read (Elt Ideal) f2) (arg3.view.read (Elt Ideal) f3) (arg4.view.read (Elt Ideal) f4) (arg5.view.read (Elt Ideal) f5) (arg6.view.read (Elt Ideal) f6)
  hKP := landsK c arg0 arg5 arg9 f0 f5
  hVP := landsV c arg0 arg6 arg10 f0 f6
  hK := stepK c arg0 arg5 arg8 arg9 arg11 arg12 arg13 arg14 arg15 arg16 f0 _ _ _ _ _ _ f5 rfl
  hV := stepV c arg0 arg6 arg8 arg10 arg11 arg12 arg13 arg14 arg15 arg16 f0 _ _ _ _ _ _ f6 rfl
  hB := stepB c arg0 arg1 arg2 arg8 arg11 arg12 arg13 arg14 arg15 arg16 f0 _ _ _ _ _ _ f1 f2 rfl rfl
  hE := stepE c arg0 arg1 arg2 arg3 arg4 arg8 arg11 arg12 arg13 arg14 arg15 arg16 f0 _ _ _ _ _ _ f1 f2 f3 f4 rfl rfl rfl rfl
  h0 := fun b => ⟨fun h => absurd h (Nat.lt_irrefl 0), fun u hu => absurd hu (Nat.not_lt_zero u)⟩
  hend := fun b f7 hb => ⟨h5 _ fun u hu r d h => by
      refine Eq.trans (Eq.trans (congrArg (arg7.view.read (Elt Ideal) _) ?_) (View.read_writes_cons_emb (Val := Elt Ideal) arg7.view f7 (Rect.unit (s := S288x128) ![0, 0] S288x128.size inb_S288x128_S288x128_0_0) _ [] (ix2 ⟨8 * u + r.val, h⟩ d : S288x128.Idx))) ?_
      · funext a; apply Fin.ext
        match a with
        | ⟨0, _⟩ => show 8 * u + r.val = 0 + 1 * (8 * u + r.val); omega
        | ⟨1, _⟩ => show d.val = 0 + 1 * d.val; omega
      · refine Eq.trans (congrArg (arg16.view.read (Elt Ideal) b.b16) ?_) (hb.2 u hu r d h).2
        funext a; apply Fin.ext
        match a with
        | ⟨0, _⟩ => show 0 + 1 * (8 * u + r.val) = 8 * u + r.val; omega
        | ⟨1, _⟩ => show 0 + 1 * d.val = d.val; omega,
    h6 _ fun u hu r d h => (hb.2 u hu r d h).1⟩

end Cert.Proof.KernelIdeal
-- ==== Proof.VKer.lean ====
/- What the kernel's host lines and fetched windows hold at the entry of the body. -/
module

public import proofs.«01_k».proof.Proof.VInv
public import Idealize.ShloMosaic.Lib.StableHlo.RunRead

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)
variable (R5 : (c : Dev nD) → ((cfg0.win 5).block.Idx → Elt Ideal (cfg0.win 5).elt) → Prop) (R6 : (c : Dev nD) → ((cfg0.win 6).block.Idx → Elt Ideal (cfg0.win 6).elt) → Prop)

theorem v1_eq : V m c main_v1 = (shapeCast S36x8x128 (m ((c : Thread nD τ).loc main_arg0)) shapeCasts_S3x1x12288_S36x8x128 : FVec Ideal S36x8x128 .f32) := by
  after_reads_simp
  rfl
theorem v3_eq : V m c main_v3 = (shapeCast S36x1x128 (m ((c : Thread nD τ).loc main_arg1)) shapeCasts_S3x1x12x128_S36x1x128 : FVec Ideal S36x1x128 .f32) := by
  after_reads_simp
  rfl
theorem v5_eq : V m c main_v5 = (shapeCast S36x1x128 (m ((c : Thread nD τ).loc main_arg2)) shapeCasts_S3x1x12x128_S36x1x128 : FVec Ideal S36x1x128 .f32) := by
  after_reads_simp
  rfl
theorem v6_eq : V m c main_v6 = (shapeCast S36x1x128 (m ((c : Thread nD τ).loc main_arg5)) shapeCasts_S3x12x128_S36x1x128 : FVec Ideal S36x1x128 .f32) := by
  after_reads_simp
  rfl

theorem found0 (Y : (cfg0.win 0).block.Idx → Elt Ideal (cfg0.win 0).elt) (h : (rdat m R5 R6 c).Finds 0 t0_0 Y) : Y = iblk m c 0 t0_0 := by
  obtain ⟨d, rfl⟩ := ((rdat m R5 R6 c).finds_of_fetch (by decide) _).mp h
  unfold Pipeline.RDat.fetched Pipeline.RDat.blockOf iblk
  rw [A_eq]
  rfl
theorem found1 (Y : (cfg0.win 1).block.Idx → Elt Ideal (cfg0.win 1).elt) (h : (rdat m R5 R6 c).Finds 1 t0_0 Y) : Y = iblk m c 1 t0_0 := by
  obtain ⟨d, rfl⟩ := ((rdat m R5 R6 c).finds_of_fetch (by decide) _).mp h
  unfold Pipeline.RDat.fetched Pipeline.RDat.blockOf iblk
  rw [A_eq]
  rfl
theorem found2 (Y : (cfg0.win 2).block.Idx → Elt Ideal (cfg0.win 2).elt) (h : (rdat m R5 R6 c).Finds 2 t0_0 Y) : Y = iblk m c 2 t0_0 := by
  obtain ⟨d, rfl⟩ := ((rdat m R5 R6 c).finds_of_fetch (by decide) _).mp h
  unfold Pipeline.RDat.fetched Pipeline.RDat.blockOf iblk
  rw [A_eq]
  rfl
theorem found3 (Y : (cfg0.win 3).block.Idx → Elt Ideal (cfg0.win 3).elt) (h : (rdat m R5 R6 c).Finds 3 t0_0 Y) : Y = iblk m c 3 t0_0 := by
  obtain ⟨d, rfl⟩ := ((rdat m R5 R6 c).finds_of_fetch (by decide) _).mp h
  unfold Pipeline.RDat.fetched Pipeline.RDat.blockOf iblk
  rw [A_eq]
  rfl
theorem found4 (Y : (cfg0.win 4).block.Idx → Elt Ideal (cfg0.win 4).elt) (h : (rdat m R5 R6 c).Finds 4 t0_0 Y) : Y = iblk m c 4 t0_0 := by
  obtain ⟨d, rfl⟩ := ((rdat m R5 R6 c).finds_of_fetch (by decide) _).mp h
  unfold Pipeline.RDat.fetched Pipeline.RDat.blockOf iblk
  rw [A_eq]
  rfl
theorem iblk0 (i : S3.Idx) : iblk m c 0 t0_0 i = V m c main_arg6 i := by
  unfold iblk
  refine congrArg (V m c main_arg6) ?_
  funext a; apply Fin.ext
  match a with
  | ⟨0, _⟩ => show 0 * 3 + 1 * (i 0).val = (i 0).val; omega
theorem iblk1 (i : S36x8x128.Idx) : iblk m c 1 t0_0 i = V m c main_v1 i := by
  unfold iblk
  refine congrArg (V m c main_v1) ?_
  funext a; apply Fin.ext
  match a with
  | ⟨0, _⟩ => show 0 * 36 + 1 * (i 0).val = (i 0).val; omega
  | ⟨1, _⟩ => show 0 * 8 + 1 * (i 1).val = (i 1).val; omega
  | ⟨2, _⟩ => show 0 * 128 + 1 * (i 2).val = (i 2).val; omega
theorem iblk2 (i : S36x1x128.Idx) : iblk m c 2 t0_0 i = V m c main_v3 i := by
  unfold iblk
  refine congrArg (V m c main_v3) ?_
  funext a; apply Fin.ext
  match a with
  | ⟨0, _⟩ => show 0 * 36 + 1 * (i 0).val = (i 0).val; omega
  | ⟨1, _⟩ => show 0 * 1 + 1 * (i 1).val = (i 1).val; omega
  | ⟨2, _⟩ => show 0 * 128 + 1 * (i 2).val = (i 2).val; omega
theorem iblk3 (i : S36x1x128.Idx) : iblk m c 3 t0_0 i = V m c main_v5 i := by
  unfold iblk
  refine congrArg (V m c main_v5) ?_
  funext a; apply Fin.ext
  match a with
  | ⟨0, _⟩ => show 0 * 36 + 1 * (i 0).val = (i 0).val; omega
  | ⟨1, _⟩ => show 0 * 1 + 1 * (i 1).val = (i 1).val; omega
  | ⟨2, _⟩ => show 0 * 128 + 1 * (i 2).val = (i 2).val; omega
theorem iblk4 (i : S36x1x128.Idx) : iblk m c 4 t0_0 i = V m c main_v6 i := by
  unfold iblk
  refine congrArg (V m c main_v6) ?_
  funext a; apply Fin.ext
  match a with
  | ⟨0, _⟩ => show 0 * 36 + 1 * (i 0).val = (i 0).val; omega
  | ⟨1, _⟩ => show 0 * 1 + 1 * (i 1).val = (i 1).val; omega
  | ⟨2, _⟩ => show 0 * 128 + 1 * (i 2).val = (i 2).val; omega

end Cert.Proof.KernelIdeal
-- ==== Proof.VRun.lean ====
/- The idealized kernel's run: each row of the two results, from the arguments. -/
module

public import proofs.«01_k».proof.Proof.VKer
public import proofs.«01_k».proof.Proof.VArg
public import Idealize.ShloMosaic.Lib.Pipeline.ArrRel

@[expose] public section

set_option maxRecDepth 16384

noncomputable section

namespace Cert.Proof.KernelIdeal

open Cert.KernelIdeal Cert.KernelIdeal.Gen Cert.Proof Cert.Proof.Words Cert.Proof.Seq
open Idealize.ShloMosaic Idealize.ShloMosaic.TcCoe Idealize.ShloMosaic.ValueIdx
open scoped BigOperators

variable (m : (ℓ : Loc nD τ sig) → Buf (Elt Ideal) ℓ) (ρ : Dev nD → PrngReg) (c : Dev nD)

/-- The first result's rows, from the arguments, -/
def P5 (c : Dev nD) (X : (cfg0.win 5).block.Idx → Elt Ideal (cfg0.win 5).elt) : Prop :=
  R5v (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) X
/-- and the second's. -/
def P6 (c : Dev nD) (X : (cfg0.win 6).block.Idx → Elt Ideal (cfg0.win 6).elt) : Prop :=
  R6v (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) X

theorem len_eq : lnI c (Memref.whole cc0_stg0_0) (iblk m c 0 t0_0) = lnf (m ((c : Thread nD τ).loc main_arg6)) := by
  funext b
  unfold lnI lnf lw
  split
  · exact congrArg BitVec.toInt ((iblk0 m c _).trans (by
      rw [V_main_arg6]
      refine congrArg (fun j : S3.Idx => m ((c : Thread nD τ).loc main_arg6) j) ?_
      funext a
      match a with
      | ⟨0, _⟩ => rfl))
  · rfl
theorem rd1 : (Memref.whole (κ := .tc) cc0_stg1_0).view.read (Elt Ideal) (iblk m c 1 t0_0) = Qf (m ((c : Thread nD τ).loc main_arg0)) := by
  funext i
  exact (iblk1 m c i).trans (congrFun (v1_eq m c) i)
theorem rd2 : (Memref.whole (κ := .tc) cc0_stg2_0).view.read (Elt Ideal) (iblk m c 2 t0_0) = Nf (m ((c : Thread nD τ).loc main_arg1)) := by
  funext i
  exact (iblk2 m c i).trans (congrFun (v3_eq m c) i)
theorem rd3 : (Memref.whole (κ := .tc) cc0_stg3_0).view.read (Elt Ideal) (iblk m c 3 t0_0) = Nf (m ((c : Thread nD τ).loc main_arg2)) := by
  funext i
  exact (iblk3 m c i).trans (congrFun (v5_eq m c) i)
theorem rd4 : (Memref.whole (κ := .tc) cc0_stg4_0).view.read (Elt Ideal) (iblk m c 4 t0_0) = Sf (m ((c : Thread nD τ).loc main_arg5)) := by
  funext i
  exact (iblk4 m c i).trans (congrFun (v6_eq m c) i)

theorem follows : Follows m (P5 m) (P6 m) c := by
  intro Y hY
  rw [found0 m c _ _ (Y 0) (hY 0), found1 m c _ _ (Y 1) (hY 1), found2 m c _ _ (Y 2) (hY 2), found3 m c _ _ (Y 3) (hY 3), found4 m c _ _ (Y 4) (hY 4)]
  refine ⟨invs c (Memref.whole cc0_stg0_0) (Memref.whole cc0_stg1_0) (Memref.whole cc0_stg2_0) (Memref.whole cc0_stg3_0) (Memref.whole cc0_stg4_0) (Memref.whole main_arg3) (Memref.whole main_arg4) (Memref.whole cc0_stg5_0) (Memref.whole cc0_stg6_0) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (iblk m c 0 t0_0) (iblk m c 1 t0_0) (iblk m c 2 t0_0) (iblk m c 3 t0_0) (iblk m c 4 t0_0) (V m c main_arg3) (V m c main_arg4) (P5 m c) (P6 m c) ?_ ?_⟩
  · intro g hg u hu r d h
    have e := hg u hu r d h
    rw [len_eq, rd1, rd2, rd3, rd4, V_main_arg3, V_main_arg4] at e
    exact e
  · intro g hg u hu r d h
    have e := hg u hu r d h
    rw [len_eq, rd1, rd2, rd4, V_main_arg3, V_main_arg4] at e
    exact e

/-- What a run leaves in the two results. -/
theorem results_of {r : PUnit × MemSt nD τ sig (Elt Ideal)} (h : Pipeline.RDat.FramePost (cfgs 0) (fun c => rdat m (P5 m) (P6 m) c) (V m) r) (c : Dev nD) :
    P5 m c (r.2.mem ((c : Thread nD τ).loc main_v7_0)) ∧ P6 m c (r.2.mem ((c : Thread nD τ).loc main_v7_1)) := by
  constructor
  · obtain ⟨X, ⟨Y, -, hX⟩, e⟩ := ((h c).1 5).emb_eq_of_wholeAt (t₀ := t0_0) (by decide)
    have e' : r.2.mem ((c : Thread nD τ).loc main_v7_0) = X := funext fun j => e j
    rw [e']
    exact hX
  · obtain ⟨X, ⟨Y, -, hX⟩, e⟩ := ((h c).1 6).emb_eq_of_wholeAt (t₀ := t0_0) (by decide)
    have e' : r.2.mem ((c : Thread nD τ).loc main_v7_1) = X := funext fun j => e j
    rw [e']
    exact hX

end Cert.Proof.KernelIdeal
-- ==== Proof.VAlg.lean ====
/- The algebraic claim: both programs leave the same two results. -/
module

public import proofs.«01_k».proof.Proof.VRows
public import proofs.«01_k».proof.Proof.VRun
public import proofs.«01_k».proof.Defs

@[expose] public section

set_option maxRecDepth 16384

noncomputable section

namespace Cert.Proof.ReferenceIdeal

open Cert.ReferenceIdeal Cert.ReferenceIdeal.Gen
open Idealize.SL Idealize.SL.Sem
open Idealize.ShloMosaic Idealize.ShloMosaic.TcCoe
open scoped BigOperators

variable (m : (ℓ : Loc nD τ sig) → Buf (Elt Ideal) ℓ) (ρ : Dev nD → PrngReg)

/-- The reference's run: what the lines after the region leave in the two results, and the arguments as they were. -/
theorem run_results : θ_run defs (onTc (τ := τ) (main (F := Ideal))) ⟨m, fun _ => 0, ρ⟩ (fun r => ∀ c : Dev nD,
      r.2.mem ((c.tc : Thread nD τ).loc main_v49) = Pipeline.afterTail₀ cfgs (dats m) 0 (V0 m) [hostOps1] c main_v49
      ∧ r.2.mem ((c.tc : Thread nD τ).loc main_v50) = Pipeline.afterTail₀ cfgs (dats m) 0 (V0 m) [hostOps1] c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v49 (Pipeline.mem_restRefs_of main_v49 (by decide) (by decide)),
      (h c).2 main_v50 (Pipeline.mem_restRefs_of main_v50 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

/-- On the extended reals the kernel and the reference leave the same results. -/
theorem algebraic : Cert.algebraic_KernelIdeal_ReferenceIdeal (hKernelIdeal := Cert.KernelIdeal.Gen.facts) (hReferenceIdeal := Cert.ReferenceIdeal.Gen.facts) := by
  intro m g m' g' _ hA
  refine ⟨fun c => Pipeline.afterTail₀ cfgs (dats m') 0 (V0 m') [hostOps1] c main_v49, fun c => Pipeline.afterTail₀ cfgs (dats m') 0 (V0 m') [hostOps1] c main_v50, ?_, run_results m' g'⟩
  refine (θ_run _ _ _).mono (fun r h c => ?_) (Cert.Proof.KernelIdeal.run_main m g (Cert.Proof.KernelIdeal.P5 m) (Cert.Proof.KernelIdeal.P6 m) (Cert.Proof.KernelIdeal.follows m))
  obtain ⟨h5, h6⟩ := Cert.Proof.KernelIdeal.results_of m h.1 c
  have r5 := rows5 m' c
  have r6 := rows6 m' c
  obtain ⟨e0, e1, e2, e3, e4, e5, e6⟩ := hA c
  rw [e0, e1, e2, e3, e4, e5, e6] at r5
  rw [e0, e1, e3, e4, e5, e6] at r6
  exact ⟨Cert.Proof.KernelIdeal.rows_eq h5 r5, Cert.Proof.KernelIdeal.rows_eq h6 r6, Cert.Proof.KernelIdeal.args_of m _ _ h.1 c⟩

end Cert.Proof.ReferenceIdeal
-- ==== Proof.lean ====
module

public import proofs.«01_k».proof.Defs
public import proofs.«01_k».proof.Proof.Launch
public import proofs.«01_k».proof.Proof.LaunchI
public import proofs.«01_k».proof.Proof.VAlg
public import proofs.«01_k».proof.Proof.Gen.ReferenceIdeal.Frame

@[expose] public section

theorem Cert.Proof.claim : Cert.Claim :=
  ⟨Cert.Kernel.Gen.facts, Cert.KernelIdeal.Gen.facts, Cert.ReferenceIdeal.Gen.facts,
    fun m ρ _ => Cert.Proof.Kernel.frame m ρ, fun m ρ _ => Cert.Proof.KernelIdeal.frame m ρ, fun m ρ _ => Cert.ReferenceIdeal.Gen.frame m ρ,
    trivial, Cert.Proof.ReferenceIdeal.algebraic⟩
